-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdIdeal_act_finite [hPre_act_finite : Cert.Pre_act_finite.Facts] (m : (ℓ : Loc Cert.ActBwdIdeal.nD Cert.ActBwdIdeal.τ Cert.ActBwdIdeal.sig) → Buf (Elt Ideal) ℓ) : Prop :=
  ∀ c : Dev Cert.ActBwdIdeal.nD,
    (Cert.Pre_act_finite.fn (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1))) = (fun _ => 1#1)

def Pre_ActBwdReferenceIdeal (m : (ℓ : Loc Cert.ActBwdReferenceIdeal.nD Cert.ActBwdReferenceIdeal.τ Cert.ActBwdReferenceIdeal.sig) → Buf (Elt Ideal) ℓ) : Prop :=
  True

def Pre_ActBwdReferenceIdeal_act_finite [hPre_act_finite : Cert.Pre_act_finite.Facts] (m : (ℓ : Loc Cert.ActBwdReferenceIdeal.nD Cert.ActBwdReferenceIdeal.τ Cert.ActBwdReferenceIdeal.sig) → Buf (Elt Ideal) ℓ) : Prop :=
  ∀ c : Dev Cert.ActBwdReferenceIdeal.nD,
    (Cert.Pre_act_finite.fn (F := Ideal) (m ((c.tc : Thread Cert.ActBwdReferenceIdeal.nD Cert.ActBwdReferenceIdeal.τ).loc Cert.ActBwdReferenceIdeal.main_arg0)) (m ((c.tc : Thread Cert.ActBwdReferenceIdeal.nD Cert.ActBwdReferenceIdeal.τ).loc Cert.ActBwdReferenceIdeal.main_arg1))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_OutWg (m : (ℓ : Loc Cert.OutWg.nD Cert.OutWg.τ Cert.OutWg.sig) → Buf (Elt Bits) ℓ) : Prop :=
  True

def Pre_OutWgIdeal (m : (ℓ : Loc Cert.OutWgIdeal.nD Cert.OutWgIdeal.τ Cert.OutWgIdeal.sig) → Buf (Elt Ideal) ℓ) : Prop :=
  True

def Pre_OutWgReferenceIdeal (m : (ℓ : Loc Cert.OutWgReferenceIdeal.nD Cert.OutWgReferenceIdeal.τ Cert.OutWgReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_InWg (m : (ℓ : Loc Cert.InWg.nD Cert.InWg.τ Cert.InWg.sig) → Buf (Elt Bits) ℓ) : Prop :=
  True

def Pre_InWgIdeal (m : (ℓ : Loc Cert.InWgIdeal.nD Cert.InWgIdeal.τ Cert.InWgIdeal.sig) → Buf (Elt Ideal) ℓ) : Prop :=
  True

def Pre_InWgReferenceIdeal (m : (ℓ : Loc Cert.InWgReferenceIdeal.nD Cert.InWgReferenceIdeal.τ Cert.InWgReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_SbIn (m : (ℓ : Loc Cert.SbIn.nD Cert.SbIn.τ Cert.SbIn.sig) → Buf (Elt Bits) ℓ) : Prop :=
  True

def Pre_SbInIdeal (m : (ℓ : Loc Cert.SbInIdeal.nD Cert.SbInIdeal.τ Cert.SbInIdeal.sig) → Buf (Elt Ideal) ℓ) : Prop :=
  True

def Pre_SbInReferenceIdeal (m : (ℓ : Loc Cert.SbInReferenceIdeal.nD Cert.SbInReferenceIdeal.τ Cert.SbInReferenceIdeal.sig) → Buf (Elt Ideal) ℓ) : Prop :=
  True

def Pre_SbInBwd (m : (ℓ : Loc Cert.SbInBwd.nD Cert.SbInBwd.τ Cert.SbInBwd.sig) → Buf (Elt Bits) ℓ) : Prop :=
  True

def Pre_SbInBwdIdeal (m : (ℓ : Loc Cert.SbInBwdIdeal.nD Cert.SbInBwdIdeal.τ Cert.SbInBwdIdeal.sig) → Buf (Elt Ideal) ℓ) : Prop :=
  True

def Pre_SbInBwdReferenceIdeal (m : (ℓ : Loc Cert.SbInBwdReferenceIdeal.nD Cert.SbInBwdReferenceIdeal.τ Cert.SbInBwdReferenceIdeal.sig) → Buf (Elt Ideal) ℓ) : Prop :=
  True

def Pre_SbInWg (m : (ℓ : Loc Cert.SbInWg.nD Cert.SbInWg.τ Cert.SbInWg.sig) → Buf (Elt Bits) ℓ) : Prop :=
  True

def Pre_SbInWgIdeal (m : (ℓ : Loc Cert.SbInWgIdeal.nD Cert.SbInWgIdeal.τ Cert.SbInWgIdeal.sig) → Buf (Elt Ideal) ℓ) : Prop :=
  True

def Pre_SbInWgReferenceIdeal (m : (ℓ : Loc Cert.SbInWgReferenceIdeal.nD Cert.SbInWgReferenceIdeal.τ Cert.SbInWgReferenceIdeal.sig) → Buf (Elt Ideal) ℓ) : Prop :=
  True

def Pre_DnIn (m : (ℓ : Loc Cert.DnIn.nD Cert.DnIn.τ Cert.DnIn.sig) → Buf (Elt Bits) ℓ) : Prop :=
  True

def Pre_DnInIdeal (m : (ℓ : Loc Cert.DnInIdeal.nD Cert.DnInIdeal.τ Cert.DnInIdeal.sig) → Buf (Elt Ideal) ℓ) : Prop :=
  True

def Pre_DnInReferenceIdeal (m : (ℓ : Loc Cert.DnInReferenceIdeal.nD Cert.DnInReferenceIdeal.τ Cert.DnInReferenceIdeal.sig) → Buf (Elt Ideal) ℓ) : Prop :=
  True

def Pre_DnInBwd (m : (ℓ : Loc Cert.DnInBwd.nD Cert.DnInBwd.τ Cert.DnInBwd.sig) → Buf (Elt Bits) ℓ) : Prop :=
  True

def Pre_DnInBwdIdeal (m : (ℓ : Loc Cert.DnInBwdIdeal.nD Cert.DnInBwdIdeal.τ Cert.DnInBwdIdeal.sig) → Buf (Elt Ideal) ℓ) : Prop :=
  True

def Pre_DnInBwdReferenceIdeal (m : (ℓ : Loc Cert.DnInBwdReferenceIdeal.nD Cert.DnInBwdReferenceIdeal.τ Cert.DnInBwdReferenceIdeal.sig) → Buf (Elt Ideal) ℓ) : Prop :=
  True

def Pre_DnInWg (m : (ℓ : Loc Cert.DnInWg.nD Cert.DnInWg.τ Cert.DnInWg.sig) → Buf (Elt Bits) ℓ) : Prop :=
  True

def Pre_DnInWgIdeal (m : (ℓ : Loc Cert.DnInWgIdeal.nD Cert.DnInWgIdeal.τ Cert.DnInWgIdeal.sig) → Buf (Elt Ideal) ℓ) : Prop :=
  True

def Pre_DnInWgReferenceIdeal (m : (ℓ : Loc Cert.DnInWgReferenceIdeal.nD Cert.DnInWgReferenceIdeal.τ Cert.DnInWgReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_SbOutBwd (m : (ℓ : Loc Cert.SbOutBwd.nD Cert.SbOutBwd.τ Cert.SbOutBwd.sig) → Buf (Elt Bits) ℓ) : Prop :=
  True

def Pre_SbOutBwdIdeal (m : (ℓ : Loc Cert.SbOutBwdIdeal.nD Cert.SbOutBwdIdeal.τ Cert.SbOutBwdIdeal.sig) → Buf (Elt Ideal) ℓ) : Prop :=
  True

def Pre_SbOutBwdReferenceIdeal (m : (ℓ : Loc Cert.SbOutBwdReferenceIdeal.nD Cert.SbOutBwdReferenceIdeal.τ Cert.SbOutBwdReferenceIdeal.sig) → Buf (Elt Ideal) ℓ) : Prop :=
  True

def Pre_DnOutBwd (m : (ℓ : Loc Cert.DnOutBwd.nD Cert.DnOutBwd.τ Cert.DnOutBwd.sig) → Buf (Elt Bits) ℓ) : Prop :=
  True

def Pre_DnOutBwdIdeal (m : (ℓ : Loc Cert.DnOutBwdIdeal.nD Cert.DnOutBwdIdeal.τ Cert.DnOutBwdIdeal.sig) → Buf (Elt Ideal) ℓ) : Prop :=
  True

def Pre_DnOutBwdReferenceIdeal (m : (ℓ : Loc Cert.DnOutBwdReferenceIdeal.nD Cert.DnOutBwdReferenceIdeal.τ Cert.DnOutBwdReferenceIdeal.sig) → Buf (Elt Ideal) ℓ) : Prop :=
  True

def Pre_MixOutWg (m : (ℓ : Loc Cert.MixOutWg.nD Cert.MixOutWg.τ Cert.MixOutWg.sig) → Buf (Elt Bits) ℓ) : Prop :=
  True

def Pre_MixOutWgIdeal (m : (ℓ : Loc Cert.MixOutWgIdeal.nD Cert.MixOutWgIdeal.τ Cert.MixOutWgIdeal.sig) → Buf (Elt Ideal) ℓ) : Prop :=
  True

def Pre_MixOutWgReferenceIdeal (m : (ℓ : Loc Cert.MixOutWgReferenceIdeal.nD Cert.MixOutWgReferenceIdeal.τ Cert.MixOutWgReferenceIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdReferenceIdeal (m : (ℓ : Loc Cert.AdaBwdReferenceIdeal.nD Cert.AdaBwdReferenceIdeal.τ Cert.AdaBwdReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormReferenceIdeal (m : (ℓ : Loc Cert.GateNormReferenceIdeal.nD Cert.GateNormReferenceIdeal.τ Cert.GateNormReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBReferenceIdeal (m : (ℓ : Loc Cert.AdamAdaBReferenceIdeal.nD Cert.AdamAdaBReferenceIdeal.τ Cert.AdamAdaBReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamDnIn (m : (ℓ : Loc Cert.AdamDnIn.nD Cert.AdamDnIn.τ Cert.AdamDnIn.sig) → Buf (Elt Bits) ℓ) : Prop :=
  True

def Pre_AdamDnInIdeal (m : (ℓ : Loc Cert.AdamDnInIdeal.nD Cert.AdamDnInIdeal.τ Cert.AdamDnInIdeal.sig) → Buf (Elt Ideal) ℓ) : Prop :=
  True

def Pre_AdamDnInReferenceIdeal (m : (ℓ : Loc Cert.AdamDnInReferenceIdeal.nD Cert.AdamDnInReferenceIdeal.τ Cert.AdamDnInReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamDecay (m : (ℓ : Loc Cert.AdamDecay.nD Cert.AdamDecay.τ Cert.AdamDecay.sig) → Buf (Elt Bits) ℓ) : Prop :=
  True

def Pre_AdamDecayIdeal (m : (ℓ : Loc Cert.AdamDecayIdeal.nD Cert.AdamDecayIdeal.τ Cert.AdamDecayIdeal.sig) → Buf (Elt Ideal) ℓ) : Prop :=
  True

def Pre_AdamDecayReferenceIdeal (m : (ℓ : Loc Cert.AdamDecayReferenceIdeal.nD Cert.AdamDecayReferenceIdeal.τ Cert.AdamDecayReferenceIdeal.sig) → Buf (Elt Ideal) ℓ) : Prop :=
  True

def Pre_AdamDnNorm (m : (ℓ : Loc Cert.AdamDnNorm.nD Cert.AdamDnNorm.τ Cert.AdamDnNorm.sig) → Buf (Elt Bits) ℓ) : Prop :=
  True

def Pre_AdamDnNormIdeal (m : (ℓ : Loc Cert.AdamDnNormIdeal.nD Cert.AdamDnNormIdeal.τ Cert.AdamDnNormIdeal.sig) → Buf (Elt Ideal) ℓ) : Prop :=
  True

def Pre_AdamDnNormReferenceIdeal (m : (ℓ : Loc Cert.AdamDnNormReferenceIdeal.nD Cert.AdamDnNormReferenceIdeal.τ Cert.AdamDnNormReferenceIdeal.sig) → Buf (Elt Ideal) ℓ) : Prop :=
  True

def Pre_AdamSbIn (m : (ℓ : Loc Cert.AdamSbIn.nD Cert.AdamSbIn.τ Cert.AdamSbIn.sig) → Buf (Elt Bits) ℓ) : Prop :=
  True

def Pre_AdamSbInIdeal (m : (ℓ : Loc Cert.AdamSbInIdeal.nD Cert.AdamSbInIdeal.τ Cert.AdamSbInIdeal.sig) → Buf (Elt Ideal) ℓ) : Prop :=
  True

def Pre_AdamSbInReferenceIdeal (m : (ℓ : Loc Cert.AdamSbInReferenceIdeal.nD Cert.AdamSbInReferenceIdeal.τ Cert.AdamSbInReferenceIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInReferenceIdeal (m : (ℓ : Loc Cert.AdamFfnInReferenceIdeal.nD Cert.AdamFfnInReferenceIdeal.τ Cert.AdamFfnInReferenceIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutReferenceIdeal (m : (ℓ : Loc Cert.AdamFfnOutReferenceIdeal.nD Cert.AdamFfnOutReferenceIdeal.τ Cert.AdamFfnOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1))
      ∧ r.2.sem = fun _ => 0)

def quiescent_ActBwdIdeal_pre_act_finite [hActBwdIdeal : Cert.ActBwdIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal_act_finite m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1))
      ∧ r.2.sem = fun _ => 0)

def quiescent_ActBwdReferenceIdeal [hActBwdReferenceIdeal : Cert.ActBwdReferenceIdeal.Facts] : Prop :=
  ∀ (m : (ℓ : Loc Cert.ActBwdReferenceIdeal.nD Cert.ActBwdReferenceIdeal.τ Cert.ActBwdReferenceIdeal.sig) → Buf (Elt Ideal) ℓ) (g : Dev Cert.ActBwdReferenceIdeal.nD → PrngReg), Pre_ActBwdReferenceIdeal m →
    θ_run (Cert.ActBwdReferenceIdeal.defs (F := Ideal)) (onTc (τ := Cert.ActBwdReferenceIdeal.τ) (Cert.ActBwdReferenceIdeal.main (F := Ideal))) ⟨m, fun _ => 0, g⟩ (fun r => (∀ c : Dev Cert.ActBwdReferenceIdeal.nD,
      r.2.mem ((c.tc : Thread Cert.ActBwdReferenceIdeal.nD Cert.ActBwdReferenceIdeal.τ).loc Cert.ActBwdReferenceIdeal.main_arg0) = m ((c.tc : Thread Cert.ActBwdReferenceIdeal.nD Cert.ActBwdReferenceIdeal.τ).loc Cert.ActBwdReferenceIdeal.main_arg0)
      ∧ r.2.mem ((c.tc : Thread Cert.ActBwdReferenceIdeal.nD Cert.ActBwdReferenceIdeal.τ).loc Cert.ActBwdReferenceIdeal.main_arg1) = m ((c.tc : Thread Cert.ActBwdReferenceIdeal.nD Cert.ActBwdReferenceIdeal.τ).loc Cert.ActBwdReferenceIdeal.main_arg1))
      ∧ r.2.sem = fun _ => 0)

def quiescent_ActBwdReferenceIdeal_pre_act_finite [hActBwdReferenceIdeal : Cert.ActBwdReferenceIdeal.Facts] [hPre_act_finite : Cert.Pre_act_finite.Facts] : Prop :=
  ∀ (m : (ℓ : Loc Cert.ActBwdReferenceIdeal.nD Cert.ActBwdReferenceIdeal.τ Cert.ActBwdReferenceIdeal.sig) → Buf (Elt Ideal) ℓ) (g : Dev Cert.ActBwdReferenceIdeal.nD → PrngReg), Pre_ActBwdReferenceIdeal_act_finite m →
    θ_run (Cert.ActBwdReferenceIdeal.defs (F := Ideal)) (onTc (τ := Cert.ActBwdReferenceIdeal.τ) (Cert.ActBwdReferenceIdeal.main (F := Ideal))) ⟨m, fun _ => 0, g⟩ (fun r => (∀ c : Dev Cert.ActBwdReferenceIdeal.nD,
      r.2.mem ((c.tc : Thread Cert.ActBwdReferenceIdeal.nD Cert.ActBwdReferenceIdeal.τ).loc Cert.ActBwdReferenceIdeal.main_arg0) = m ((c.tc : Thread Cert.ActBwdReferenceIdeal.nD Cert.ActBwdReferenceIdeal.τ).loc Cert.ActBwdReferenceIdeal.main_arg0)
      ∧ r.2.mem ((c.tc : Thread Cert.ActBwdReferenceIdeal.nD Cert.ActBwdReferenceIdeal.τ).loc Cert.ActBwdReferenceIdeal.main_arg1) = m ((c.tc : Thread Cert.ActBwdReferenceIdeal.nD Cert.ActBwdReferenceIdeal.τ).loc Cert.ActBwdReferenceIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1))
      ∧ r.2.sem = fun _ => 0)

def quiescent_OutWg [hOutWg : Cert.OutWg.Facts] : Prop :=
  ∀ (m : (ℓ : Loc Cert.OutWg.nD Cert.OutWg.τ Cert.OutWg.sig) → Buf (Elt Bits) ℓ) (g : Dev Cert.OutWg.nD → PrngReg), Pre_OutWg m →
    θ_run (Cert.OutWg.defs (F := Bits)) (onTc (τ := Cert.OutWg.τ) (Cert.OutWg.main (F := Bits))) ⟨m, fun _ => 0, g⟩ (fun r => (∀ c : Dev Cert.OutWg.nD,
      r.2.mem ((c.tc : Thread Cert.OutWg.nD Cert.OutWg.τ).loc Cert.OutWg.main_arg0) = m ((c.tc : Thread Cert.OutWg.nD Cert.OutWg.τ).loc Cert.OutWg.main_arg0)
      ∧ r.2.mem ((c.tc : Thread Cert.OutWg.nD Cert.OutWg.τ).loc Cert.OutWg.main_arg1) = m ((c.tc : Thread Cert.OutWg.nD Cert.OutWg.τ).loc Cert.OutWg.main_arg1))
      ∧ r.2.sem = fun _ => 0)

def quiescent_OutWgIdeal [hOutWgIdeal : Cert.OutWgIdeal.Facts] : Prop :=
  ∀ (m : (ℓ : Loc Cert.OutWgIdeal.nD Cert.OutWgIdeal.τ Cert.OutWgIdeal.sig) → Buf (Elt Ideal) ℓ) (g : Dev Cert.OutWgIdeal.nD → PrngReg), Pre_OutWgIdeal m →
    θ_run (Cert.OutWgIdeal.defs (F := Ideal)) (onTc (τ := Cert.OutWgIdeal.τ) (Cert.OutWgIdeal.main (F := Ideal))) ⟨m, fun _ => 0, g⟩ (fun r => (∀ c : Dev Cert.OutWgIdeal.nD,
      r.2.mem ((c.tc : Thread Cert.OutWgIdeal.nD Cert.OutWgIdeal.τ).loc Cert.OutWgIdeal.main_arg0) = m ((c.tc : Thread Cert.OutWgIdeal.nD Cert.OutWgIdeal.τ).loc Cert.OutWgIdeal.main_arg0)
      ∧ r.2.mem ((c.tc : Thread Cert.OutWgIdeal.nD Cert.OutWgIdeal.τ).loc Cert.OutWgIdeal.main_arg1) = m ((c.tc : Thread Cert.OutWgIdeal.nD Cert.OutWgIdeal.τ).loc Cert.OutWgIdeal.main_arg1))
      ∧ r.2.sem = fun _ => 0)

def quiescent_OutWgReferenceIdeal [hOutWgReferenceIdeal : Cert.OutWgReferenceIdeal.Facts] : Prop :=
  ∀ (m : (ℓ : Loc Cert.OutWgReferenceIdeal.nD Cert.OutWgReferenceIdeal.τ Cert.OutWgReferenceIdeal.sig) → Buf (Elt Ideal) ℓ) (g : Dev Cert.OutWgReferenceIdeal.nD → PrngReg), Pre_OutWgReferenceIdeal m →
    θ_run (Cert.OutWgReferenceIdeal.defs (F := Ideal)) (onTc (τ := Cert.OutWgReferenceIdeal.τ) (Cert.OutWgReferenceIdeal.main (F := Ideal))) ⟨m, fun _ => 0, g⟩ (fun r => (∀ c : Dev Cert.OutWgReferenceIdeal.nD,
      r.2.mem ((c.tc : Thread Cert.OutWgReferenceIdeal.nD Cert.OutWgReferenceIdeal.τ).loc Cert.OutWgReferenceIdeal.main_arg0) = m ((c.tc : Thread Cert.OutWgReferenceIdeal.nD Cert.OutWgReferenceIdeal.τ).loc Cert.OutWgReferenceIdeal.main_arg0)
      ∧ r.2.mem ((c.tc : Thread Cert.OutWgReferenceIdeal.nD Cert.OutWgReferenceIdeal.τ).loc Cert.OutWgReferenceIdeal.main_arg1) = m ((c.tc : Thread Cert.OutWgReferenceIdeal.nD Cert.OutWgReferenceIdeal.τ).loc Cert.OutWgReferenceIdeal.main_arg1))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1))
      ∧ r.2.sem = fun _ => 0)

def quiescent_InWg [hInWg : Cert.InWg.Facts] : Prop :=
  ∀ (m : (ℓ : Loc Cert.InWg.nD Cert.InWg.τ Cert.InWg.sig) → Buf (Elt Bits) ℓ) (g : Dev Cert.InWg.nD → PrngReg), Pre_InWg m →
    θ_run (Cert.InWg.defs (F := Bits)) (onTc (τ := Cert.InWg.τ) (Cert.InWg.main (F := Bits))) ⟨m, fun _ => 0, g⟩ (fun r => (∀ c : Dev Cert.InWg.nD,
      r.2.mem ((c.tc : Thread Cert.InWg.nD Cert.InWg.τ).loc Cert.InWg.main_arg0) = m ((c.tc : Thread Cert.InWg.nD Cert.InWg.τ).loc Cert.InWg.main_arg0)
      ∧ r.2.mem ((c.tc : Thread Cert.InWg.nD Cert.InWg.τ).loc Cert.InWg.main_arg1) = m ((c.tc : Thread Cert.InWg.nD Cert.InWg.τ).loc Cert.InWg.main_arg1))
      ∧ r.2.sem = fun _ => 0)

def quiescent_InWgIdeal [hInWgIdeal : Cert.InWgIdeal.Facts] : Prop :=
  ∀ (m : (ℓ : Loc Cert.InWgIdeal.nD Cert.InWgIdeal.τ Cert.InWgIdeal.sig) → Buf (Elt Ideal) ℓ) (g : Dev Cert.InWgIdeal.nD → PrngReg), Pre_InWgIdeal m →
    θ_run (Cert.InWgIdeal.defs (F := Ideal)) (onTc (τ := Cert.InWgIdeal.τ) (Cert.InWgIdeal.main (F := Ideal))) ⟨m, fun _ => 0, g⟩ (fun r => (∀ c : Dev Cert.InWgIdeal.nD,
      r.2.mem ((c.tc : Thread Cert.InWgIdeal.nD Cert.InWgIdeal.τ).loc Cert.InWgIdeal.main_arg0) = m ((c.tc : Thread Cert.InWgIdeal.nD Cert.InWgIdeal.τ).loc Cert.InWgIdeal.main_arg0)
      ∧ r.2.mem ((c.tc : Thread Cert.InWgIdeal.nD Cert.InWgIdeal.τ).loc Cert.InWgIdeal.main_arg1) = m ((c.tc : Thread Cert.InWgIdeal.nD Cert.InWgIdeal.τ).loc Cert.InWgIdeal.main_arg1))
      ∧ r.2.sem = fun _ => 0)

def quiescent_InWgReferenceIdeal [hInWgReferenceIdeal : Cert.InWgReferenceIdeal.Facts] : Prop :=
  ∀ (m : (ℓ : Loc Cert.InWgReferenceIdeal.nD Cert.InWgReferenceIdeal.τ Cert.InWgReferenceIdeal.sig) → Buf (Elt Ideal) ℓ) (g : Dev Cert.InWgReferenceIdeal.nD → PrngReg), Pre_InWgReferenceIdeal m →
    θ_run (Cert.InWgReferenceIdeal.defs (F := Ideal)) (onTc (τ := Cert.InWgReferenceIdeal.τ) (Cert.InWgReferenceIdeal.main (F := Ideal))) ⟨m, fun _ => 0, g⟩ (fun r => (∀ c : Dev Cert.InWgReferenceIdeal.nD,
      r.2.mem ((c.tc : Thread Cert.InWgReferenceIdeal.nD Cert.InWgReferenceIdeal.τ).loc Cert.InWgReferenceIdeal.main_arg0) = m ((c.tc : Thread Cert.InWgReferenceIdeal.nD Cert.InWgReferenceIdeal.τ).loc Cert.InWgReferenceIdeal.main_arg0)
      ∧ r.2.mem ((c.tc : Thread Cert.InWgReferenceIdeal.nD Cert.InWgReferenceIdeal.τ).loc Cert.InWgReferenceIdeal.main_arg1) = m ((c.tc : Thread Cert.InWgReferenceIdeal.nD Cert.InWgReferenceIdeal.τ).loc Cert.InWgReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3)
      ∧ r.2.mem ((c.tc : Thread Cert.NormBwdReferenceIdeal.nD Cert.NormBwdReferenceIdeal.τ).loc Cert.NormBwdReferenceIdeal.main_arg4) = m ((c.tc : Thread Cert.NormBwdReferenceIdeal.nD Cert.NormBwdReferenceIdeal.τ).loc Cert.NormBwdReferenceIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0))
      ∧ r.2.sem = fun _ => 0)

def quiescent_SbIn [hSbIn : Cert.SbIn.Facts] : Prop :=
  ∀ (m : (ℓ : Loc Cert.SbIn.nD Cert.SbIn.τ Cert.SbIn.sig) → Buf (Elt Bits) ℓ) (g : Dev Cert.SbIn.nD → PrngReg), Pre_SbIn m →
    θ_run (Cert.SbIn.defs (F := Bits)) (onTc (τ := Cert.SbIn.τ) (Cert.SbIn.main (F := Bits))) ⟨m, fun _ => 0, g⟩ (fun r => (∀ c : Dev Cert.SbIn.nD,
      r.2.mem ((c.tc : Thread Cert.SbIn.nD Cert.SbIn.τ).loc Cert.SbIn.main_arg0) = m ((c.tc : Thread Cert.SbIn.nD Cert.SbIn.τ).loc Cert.SbIn.main_arg0)
      ∧ r.2.mem ((c.tc : Thread Cert.SbIn.nD Cert.SbIn.τ).loc Cert.SbIn.main_arg1) = m ((c.tc : Thread Cert.SbIn.nD Cert.SbIn.τ).loc Cert.SbIn.main_arg1))
      ∧ r.2.sem = fun _ => 0)

def quiescent_SbInIdeal [hSbInIdeal : Cert.SbInIdeal.Facts] : Prop :=
  ∀ (m : (ℓ : Loc Cert.SbInIdeal.nD Cert.SbInIdeal.τ Cert.SbInIdeal.sig) → Buf (Elt Ideal) ℓ) (g : Dev Cert.SbInIdeal.nD → PrngReg), Pre_SbInIdeal m →
    θ_run (Cert.SbInIdeal.defs (F := Ideal)) (onTc (τ := Cert.SbInIdeal.τ) (Cert.SbInIdeal.main (F := Ideal))) ⟨m, fun _ => 0, g⟩ (fun r => (∀ c : Dev Cert.SbInIdeal.nD,
      r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
      ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1))
      ∧ r.2.sem = fun _ => 0)

def quiescent_SbInReferenceIdeal [hSbInReferenceIdeal : Cert.SbInReferenceIdeal.Facts] : Prop :=
  ∀ (m : (ℓ : Loc Cert.SbInReferenceIdeal.nD Cert.SbInReferenceIdeal.τ Cert.SbInReferenceIdeal.sig) → Buf (Elt Ideal) ℓ) (g : Dev Cert.SbInReferenceIdeal.nD → PrngReg), Pre_SbInReferenceIdeal m →
    θ_run (Cert.SbInReferenceIdeal.defs (F := Ideal)) (onTc (τ := Cert.SbInReferenceIdeal.τ) (Cert.SbInReferenceIdeal.main (F := Ideal))) ⟨m, fun _ => 0, g⟩ (fun r => (∀ c : Dev Cert.SbInReferenceIdeal.nD,
      r.2.mem ((c.tc : Thread Cert.SbInReferenceIdeal.nD Cert.SbInReferenceIdeal.τ).loc Cert.SbInReferenceIdeal.main_arg0) = m ((c.tc : Thread Cert.SbInReferenceIdeal.nD Cert.SbInReferenceIdeal.τ).loc Cert.SbInReferenceIdeal.main_arg0)
      ∧ r.2.mem ((c.tc : Thread Cert.SbInReferenceIdeal.nD Cert.SbInReferenceIdeal.τ).loc Cert.SbInReferenceIdeal.main_arg1) = m ((c.tc : Thread Cert.SbInReferenceIdeal.nD Cert.SbInReferenceIdeal.τ).loc Cert.SbInReferenceIdeal.main_arg1))
      ∧ r.2.sem = fun _ => 0)

def quiescent_SbInBwd [hSbInBwd : Cert.SbInBwd.Facts] : Prop :=
  ∀ (m : (ℓ : Loc Cert.SbInBwd.nD Cert.SbInBwd.τ Cert.SbInBwd.sig) → Buf (Elt Bits) ℓ) (g : Dev Cert.SbInBwd.nD → PrngReg), Pre_SbInBwd m →
    θ_run (Cert.SbInBwd.defs (F := Bits)) (onTc (τ := Cert.SbInBwd.τ) (Cert.SbInBwd.main (F := Bits))) ⟨m, fun _ => 0, g⟩ (fun r => (∀ c : Dev Cert.SbInBwd.nD,
      r.2.mem ((c.tc : Thread Cert.SbInBwd.nD Cert.SbInBwd.τ).loc Cert.SbInBwd.main_arg0) = m ((c.tc : Thread Cert.SbInBwd.nD Cert.SbInBwd.τ).loc Cert.SbInBwd.main_arg0)
      ∧ r.2.mem ((c.tc : Thread Cert.SbInBwd.nD Cert.SbInBwd.τ).loc Cert.SbInBwd.main_arg1) = m ((c.tc : Thread Cert.SbInBwd.nD Cert.SbInBwd.τ).loc Cert.SbInBwd.main_arg1))
      ∧ r.2.sem = fun _ => 0)

def quiescent_SbInBwdIdeal [hSbInBwdIdeal : Cert.SbInBwdIdeal.Facts] : Prop :=
  ∀ (m : (ℓ : Loc Cert.SbInBwdIdeal.nD Cert.SbInBwdIdeal.τ Cert.SbInBwdIdeal.sig) → Buf (Elt Ideal) ℓ) (g : Dev Cert.SbInBwdIdeal.nD → PrngReg), Pre_SbInBwdIdeal m →
    θ_run (Cert.SbInBwdIdeal.defs (F := Ideal)) (onTc (τ := Cert.SbInBwdIdeal.τ) (Cert.SbInBwdIdeal.main (F := Ideal))) ⟨m, fun _ => 0, g⟩ (fun r => (∀ c : Dev Cert.SbInBwdIdeal.nD,
      r.2.mem ((c.tc : Thread Cert.SbInBwdIdeal.nD Cert.SbInBwdIdeal.τ).loc Cert.SbInBwdIdeal.main_arg0) = m ((c.tc : Thread Cert.SbInBwdIdeal.nD Cert.SbInBwdIdeal.τ).loc Cert.SbInBwdIdeal.main_arg0)
      ∧ r.2.mem ((c.tc : Thread Cert.SbInBwdIdeal.nD Cert.SbInBwdIdeal.τ).loc Cert.SbInBwdIdeal.main_arg1) = m ((c.tc : Thread Cert.SbInBwdIdeal.nD Cert.SbInBwdIdeal.τ).loc Cert.SbInBwdIdeal.main_arg1))
      ∧ r.2.sem = fun _ => 0)

def quiescent_SbInBwdReferenceIdeal [hSbInBwdReferenceIdeal : Cert.SbInBwdReferenceIdeal.Facts] : Prop :=
  ∀ (m : (ℓ : Loc Cert.SbInBwdReferenceIdeal.nD Cert.SbInBwdReferenceIdeal.τ Cert.SbInBwdReferenceIdeal.sig) → Buf (Elt Ideal) ℓ) (g : Dev Cert.SbInBwdReferenceIdeal.nD → PrngReg), Pre_SbInBwdReferenceIdeal m →
    θ_run (Cert.SbInBwdReferenceIdeal.defs (F := Ideal)) (onTc (τ := Cert.SbInBwdReferenceIdeal.τ) (Cert.SbInBwdReferenceIdeal.main (F := Ideal))) ⟨m, fun _ => 0, g⟩ (fun r => (∀ c : Dev Cert.SbInBwdReferenceIdeal.nD,
      r.2.mem ((c.tc : Thread Cert.SbInBwdReferenceIdeal.nD Cert.SbInBwdReferenceIdeal.τ).loc Cert.SbInBwdReferenceIdeal.main_arg0) = m ((c.tc : Thread Cert.SbInBwdReferenceIdeal.nD Cert.SbInBwdReferenceIdeal.τ).loc Cert.SbInBwdReferenceIdeal.main_arg0)
      ∧ r.2.mem ((c.tc : Thread Cert.SbInBwdReferenceIdeal.nD Cert.SbInBwdReferenceIdeal.τ).loc Cert.SbInBwdReferenceIdeal.main_arg1) = m ((c.tc : Thread Cert.SbInBwdReferenceIdeal.nD Cert.SbInBwdReferenceIdeal.τ).loc Cert.SbInBwdReferenceIdeal.main_arg1))
      ∧ r.2.sem = fun _ => 0)

def quiescent_SbInWg [hSbInWg : Cert.SbInWg.Facts] : Prop :=
  ∀ (m : (ℓ : Loc Cert.SbInWg.nD Cert.SbInWg.τ Cert.SbInWg.sig) → Buf (Elt Bits) ℓ) (g : Dev Cert.SbInWg.nD → PrngReg), Pre_SbInWg m →
    θ_run (Cert.SbInWg.defs (F := Bits)) (onTc (τ := Cert.SbInWg.τ) (Cert.SbInWg.main (F := Bits))) ⟨m, fun _ => 0, g⟩ (fun r => (∀ c : Dev Cert.SbInWg.nD,
      r.2.mem ((c.tc : Thread Cert.SbInWg.nD Cert.SbInWg.τ).loc Cert.SbInWg.main_arg0) = m ((c.tc : Thread Cert.SbInWg.nD Cert.SbInWg.τ).loc Cert.SbInWg.main_arg0)
      ∧ r.2.mem ((c.tc : Thread Cert.SbInWg.nD Cert.SbInWg.τ).loc Cert.SbInWg.main_arg1) = m ((c.tc : Thread Cert.SbInWg.nD Cert.SbInWg.τ).loc Cert.SbInWg.main_arg1))
      ∧ r.2.sem = fun _ => 0)

def quiescent_SbInWgIdeal [hSbInWgIdeal : Cert.SbInWgIdeal.Facts] : Prop :=
  ∀ (m : (ℓ : Loc Cert.SbInWgIdeal.nD Cert.SbInWgIdeal.τ Cert.SbInWgIdeal.sig) → Buf (Elt Ideal) ℓ) (g : Dev Cert.SbInWgIdeal.nD → PrngReg), Pre_SbInWgIdeal m →
    θ_run (Cert.SbInWgIdeal.defs (F := Ideal)) (onTc (τ := Cert.SbInWgIdeal.τ) (Cert.SbInWgIdeal.main (F := Ideal))) ⟨m, fun _ => 0, g⟩ (fun r => (∀ c : Dev Cert.SbInWgIdeal.nD,
      r.2.mem ((c.tc : Thread Cert.SbInWgIdeal.nD Cert.SbInWgIdeal.τ).loc Cert.SbInWgIdeal.main_arg0) = m ((c.tc : Thread Cert.SbInWgIdeal.nD Cert.SbInWgIdeal.τ).loc Cert.SbInWgIdeal.main_arg0)
      ∧ r.2.mem ((c.tc : Thread Cert.SbInWgIdeal.nD Cert.SbInWgIdeal.τ).loc Cert.SbInWgIdeal.main_arg1) = m ((c.tc : Thread Cert.SbInWgIdeal.nD Cert.SbInWgIdeal.τ).loc Cert.SbInWgIdeal.main_arg1))
      ∧ r.2.sem = fun _ => 0)

def quiescent_SbInWgReferenceIdeal [hSbInWgReferenceIdeal : Cert.SbInWgReferenceIdeal.Facts] : Prop :=
  ∀ (m : (ℓ : Loc Cert.SbInWgReferenceIdeal.nD Cert.SbInWgReferenceIdeal.τ Cert.SbInWgReferenceIdeal.sig) → Buf (Elt Ideal) ℓ) (g : Dev Cert.SbInWgReferenceIdeal.nD → PrngReg), Pre_SbInWgReferenceIdeal m →
    θ_run (Cert.SbInWgReferenceIdeal.defs (F := Ideal)) (onTc (τ := Cert.SbInWgReferenceIdeal.τ) (Cert.SbInWgReferenceIdeal.main (F := Ideal))) ⟨m, fun _ => 0, g⟩ (fun r => (∀ c : Dev Cert.SbInWgReferenceIdeal.nD,
      r.2.mem ((c.tc : Thread Cert.SbInWgReferenceIdeal.nD Cert.SbInWgReferenceIdeal.τ).loc Cert.SbInWgReferenceIdeal.main_arg0) = m ((c.tc : Thread Cert.SbInWgReferenceIdeal.nD Cert.SbInWgReferenceIdeal.τ).loc Cert.SbInWgReferenceIdeal.main_arg0)
      ∧ r.2.mem ((c.tc : Thread Cert.SbInWgReferenceIdeal.nD Cert.SbInWgReferenceIdeal.τ).loc Cert.SbInWgReferenceIdeal.main_arg1) = m ((c.tc : Thread Cert.SbInWgReferenceIdeal.nD Cert.SbInWgReferenceIdeal.τ).loc Cert.SbInWgReferenceIdeal.main_arg1))
      ∧ r.2.sem = fun _ => 0)

def quiescent_DnIn [hDnIn : Cert.DnIn.Facts] : Prop :=
  ∀ (m : (ℓ : Loc Cert.DnIn.nD Cert.DnIn.τ Cert.DnIn.sig) → Buf (Elt Bits) ℓ) (g : Dev Cert.DnIn.nD → PrngReg), Pre_DnIn m →
    θ_run (Cert.DnIn.defs (F := Bits)) (onTc (τ := Cert.DnIn.τ) (Cert.DnIn.main (F := Bits))) ⟨m, fun _ => 0, g⟩ (fun r => (∀ c : Dev Cert.DnIn.nD,
      r.2.mem ((c.tc : Thread Cert.DnIn.nD Cert.DnIn.τ).loc Cert.DnIn.main_arg0) = m ((c.tc : Thread Cert.DnIn.nD Cert.DnIn.τ).loc Cert.DnIn.main_arg0)
      ∧ r.2.mem ((c.tc : Thread Cert.DnIn.nD Cert.DnIn.τ).loc Cert.DnIn.main_arg1) = m ((c.tc : Thread Cert.DnIn.nD Cert.DnIn.τ).loc Cert.DnIn.main_arg1))
      ∧ r.2.sem = fun _ => 0)

def quiescent_DnInIdeal [hDnInIdeal : Cert.DnInIdeal.Facts] : Prop :=
  ∀ (m : (ℓ : Loc Cert.DnInIdeal.nD Cert.DnInIdeal.τ Cert.DnInIdeal.sig) → Buf (Elt Ideal) ℓ) (g : Dev Cert.DnInIdeal.nD → PrngReg), Pre_DnInIdeal m →
    θ_run (Cert.DnInIdeal.defs (F := Ideal)) (onTc (τ := Cert.DnInIdeal.τ) (Cert.DnInIdeal.main (F := Ideal))) ⟨m, fun _ => 0, g⟩ (fun r => (∀ c : Dev Cert.DnInIdeal.nD,
      r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
      ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1))
      ∧ r.2.sem = fun _ => 0)

def quiescent_DnInReferenceIdeal [hDnInReferenceIdeal : Cert.DnInReferenceIdeal.Facts] : Prop :=
  ∀ (m : (ℓ : Loc Cert.DnInReferenceIdeal.nD Cert.DnInReferenceIdeal.τ Cert.DnInReferenceIdeal.sig) → Buf (Elt Ideal) ℓ) (g : Dev Cert.DnInReferenceIdeal.nD → PrngReg), Pre_DnInReferenceIdeal m →
    θ_run (Cert.DnInReferenceIdeal.defs (F := Ideal)) (onTc (τ := Cert.DnInReferenceIdeal.τ) (Cert.DnInReferenceIdeal.main (F := Ideal))) ⟨m, fun _ => 0, g⟩ (fun r => (∀ c : Dev Cert.DnInReferenceIdeal.nD,
      r.2.mem ((c.tc : Thread Cert.DnInReferenceIdeal.nD Cert.DnInReferenceIdeal.τ).loc Cert.DnInReferenceIdeal.main_arg0) = m ((c.tc : Thread Cert.DnInReferenceIdeal.nD Cert.DnInReferenceIdeal.τ).loc Cert.DnInReferenceIdeal.main_arg0)
      ∧ r.2.mem ((c.tc : Thread Cert.DnInReferenceIdeal.nD Cert.DnInReferenceIdeal.τ).loc Cert.DnInReferenceIdeal.main_arg1) = m ((c.tc : Thread Cert.DnInReferenceIdeal.nD Cert.DnInReferenceIdeal.τ).loc Cert.DnInReferenceIdeal.main_arg1))
      ∧ r.2.sem = fun _ => 0)

def quiescent_DnInBwd [hDnInBwd : Cert.DnInBwd.Facts] : Prop :=
  ∀ (m : (ℓ : Loc Cert.DnInBwd.nD Cert.DnInBwd.τ Cert.DnInBwd.sig) → Buf (Elt Bits) ℓ) (g : Dev Cert.DnInBwd.nD → PrngReg), Pre_DnInBwd m →
    θ_run (Cert.DnInBwd.defs (F := Bits)) (onTc (τ := Cert.DnInBwd.τ) (Cert.DnInBwd.main (F := Bits))) ⟨m, fun _ => 0, g⟩ (fun r => (∀ c : Dev Cert.DnInBwd.nD,
      r.2.mem ((c.tc : Thread Cert.DnInBwd.nD Cert.DnInBwd.τ).loc Cert.DnInBwd.main_arg0) = m ((c.tc : Thread Cert.DnInBwd.nD Cert.DnInBwd.τ).loc Cert.DnInBwd.main_arg0)
      ∧ r.2.mem ((c.tc : Thread Cert.DnInBwd.nD Cert.DnInBwd.τ).loc Cert.DnInBwd.main_arg1) = m ((c.tc : Thread Cert.DnInBwd.nD Cert.DnInBwd.τ).loc Cert.DnInBwd.main_arg1))
      ∧ r.2.sem = fun _ => 0)

def quiescent_DnInBwdIdeal [hDnInBwdIdeal : Cert.DnInBwdIdeal.Facts] : Prop :=
  ∀ (m : (ℓ : Loc Cert.DnInBwdIdeal.nD Cert.DnInBwdIdeal.τ Cert.DnInBwdIdeal.sig) → Buf (Elt Ideal) ℓ) (g : Dev Cert.DnInBwdIdeal.nD → PrngReg), Pre_DnInBwdIdeal m →
    θ_run (Cert.DnInBwdIdeal.defs (F := Ideal)) (onTc (τ := Cert.DnInBwdIdeal.τ) (Cert.DnInBwdIdeal.main (F := Ideal))) ⟨m, fun _ => 0, g⟩ (fun r => (∀ c : Dev Cert.DnInBwdIdeal.nD,
      r.2.mem ((c.tc : Thread Cert.DnInBwdIdeal.nD Cert.DnInBwdIdeal.τ).loc Cert.DnInBwdIdeal.main_arg0) = m ((c.tc : Thread Cert.DnInBwdIdeal.nD Cert.DnInBwdIdeal.τ).loc Cert.DnInBwdIdeal.main_arg0)
      ∧ r.2.mem ((c.tc : Thread Cert.DnInBwdIdeal.nD Cert.DnInBwdIdeal.τ).loc Cert.DnInBwdIdeal.main_arg1) = m ((c.tc : Thread Cert.DnInBwdIdeal.nD Cert.DnInBwdIdeal.τ).loc Cert.DnInBwdIdeal.main_arg1))
      ∧ r.2.sem = fun _ => 0)

def quiescent_DnInBwdReferenceIdeal [hDnInBwdReferenceIdeal : Cert.DnInBwdReferenceIdeal.Facts] : Prop :=
  ∀ (m : (ℓ : Loc Cert.DnInBwdReferenceIdeal.nD Cert.DnInBwdReferenceIdeal.τ Cert.DnInBwdReferenceIdeal.sig) → Buf (Elt Ideal) ℓ) (g : Dev Cert.DnInBwdReferenceIdeal.nD → PrngReg), Pre_DnInBwdReferenceIdeal m →
    θ_run (Cert.DnInBwdReferenceIdeal.defs (F := Ideal)) (onTc (τ := Cert.DnInBwdReferenceIdeal.τ) (Cert.DnInBwdReferenceIdeal.main (F := Ideal))) ⟨m, fun _ => 0, g⟩ (fun r => (∀ c : Dev Cert.DnInBwdReferenceIdeal.nD,
      r.2.mem ((c.tc : Thread Cert.DnInBwdReferenceIdeal.nD Cert.DnInBwdReferenceIdeal.τ).loc Cert.DnInBwdReferenceIdeal.main_arg0) = m ((c.tc : Thread Cert.DnInBwdReferenceIdeal.nD Cert.DnInBwdReferenceIdeal.τ).loc Cert.DnInBwdReferenceIdeal.main_arg0)
      ∧ r.2.mem ((c.tc : Thread Cert.DnInBwdReferenceIdeal.nD Cert.DnInBwdReferenceIdeal.τ).loc Cert.DnInBwdReferenceIdeal.main_arg1) = m ((c.tc : Thread Cert.DnInBwdReferenceIdeal.nD Cert.DnInBwdReferenceIdeal.τ).loc Cert.DnInBwdReferenceIdeal.main_arg1))
      ∧ r.2.sem = fun _ => 0)

def quiescent_DnInWg [hDnInWg : Cert.DnInWg.Facts] : Prop :=
  ∀ (m : (ℓ : Loc Cert.DnInWg.nD Cert.DnInWg.τ Cert.DnInWg.sig) → Buf (Elt Bits) ℓ) (g : Dev Cert.DnInWg.nD → PrngReg), Pre_DnInWg m →
    θ_run (Cert.DnInWg.defs (F := Bits)) (onTc (τ := Cert.DnInWg.τ) (Cert.DnInWg.main (F := Bits))) ⟨m, fun _ => 0, g⟩ (fun r => (∀ c : Dev Cert.DnInWg.nD,
      r.2.mem ((c.tc : Thread Cert.DnInWg.nD Cert.DnInWg.τ).loc Cert.DnInWg.main_arg0) = m ((c.tc : Thread Cert.DnInWg.nD Cert.DnInWg.τ).loc Cert.DnInWg.main_arg0)
      ∧ r.2.mem ((c.tc : Thread Cert.DnInWg.nD Cert.DnInWg.τ).loc Cert.DnInWg.main_arg1) = m ((c.tc : Thread Cert.DnInWg.nD Cert.DnInWg.τ).loc Cert.DnInWg.main_arg1))
      ∧ r.2.sem = fun _ => 0)

def quiescent_DnInWgIdeal [hDnInWgIdeal : Cert.DnInWgIdeal.Facts] : Prop :=
  ∀ (m : (ℓ : Loc Cert.DnInWgIdeal.nD Cert.DnInWgIdeal.τ Cert.DnInWgIdeal.sig) → Buf (Elt Ideal) ℓ) (g : Dev Cert.DnInWgIdeal.nD → PrngReg), Pre_DnInWgIdeal m →
    θ_run (Cert.DnInWgIdeal.defs (F := Ideal)) (onTc (τ := Cert.DnInWgIdeal.τ) (Cert.DnInWgIdeal.main (F := Ideal))) ⟨m, fun _ => 0, g⟩ (fun r => (∀ c : Dev Cert.DnInWgIdeal.nD,
      r.2.mem ((c.tc : Thread Cert.DnInWgIdeal.nD Cert.DnInWgIdeal.τ).loc Cert.DnInWgIdeal.main_arg0) = m ((c.tc : Thread Cert.DnInWgIdeal.nD Cert.DnInWgIdeal.τ).loc Cert.DnInWgIdeal.main_arg0)
      ∧ r.2.mem ((c.tc : Thread Cert.DnInWgIdeal.nD Cert.DnInWgIdeal.τ).loc Cert.DnInWgIdeal.main_arg1) = m ((c.tc : Thread Cert.DnInWgIdeal.nD Cert.DnInWgIdeal.τ).loc Cert.DnInWgIdeal.main_arg1))
      ∧ r.2.sem = fun _ => 0)

def quiescent_DnInWgReferenceIdeal [hDnInWgReferenceIdeal : Cert.DnInWgReferenceIdeal.Facts] : Prop :=
  ∀ (m : (ℓ : Loc Cert.DnInWgReferenceIdeal.nD Cert.DnInWgReferenceIdeal.τ Cert.DnInWgReferenceIdeal.sig) → Buf (Elt Ideal) ℓ) (g : Dev Cert.DnInWgReferenceIdeal.nD → PrngReg), Pre_DnInWgReferenceIdeal m →
    θ_run (Cert.DnInWgReferenceIdeal.defs (F := Ideal)) (onTc (τ := Cert.DnInWgReferenceIdeal.τ) (Cert.DnInWgReferenceIdeal.main (F := Ideal))) ⟨m, fun _ => 0, g⟩ (fun r => (∀ c : Dev Cert.DnInWgReferenceIdeal.nD,
      r.2.mem ((c.tc : Thread Cert.DnInWgReferenceIdeal.nD Cert.DnInWgReferenceIdeal.τ).loc Cert.DnInWgReferenceIdeal.main_arg0) = m ((c.tc : Thread Cert.DnInWgReferenceIdeal.nD Cert.DnInWgReferenceIdeal.τ).loc Cert.DnInWgReferenceIdeal.main_arg0)
      ∧ r.2.mem ((c.tc : Thread Cert.DnInWgReferenceIdeal.nD Cert.DnInWgReferenceIdeal.τ).loc Cert.DnInWgReferenceIdeal.main_arg1) = m ((c.tc : Thread Cert.DnInWgReferenceIdeal.nD Cert.DnInWgReferenceIdeal.τ).loc Cert.DnInWgReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_SbOutBwd [hSbOutBwd : Cert.SbOutBwd.Facts] : Prop :=
  ∀ (m : (ℓ : Loc Cert.SbOutBwd.nD Cert.SbOutBwd.τ Cert.SbOutBwd.sig) → Buf (Elt Bits) ℓ) (g : Dev Cert.SbOutBwd.nD → PrngReg), Pre_SbOutBwd m →
    θ_run (Cert.SbOutBwd.defs (F := Bits)) (onTc (τ := Cert.SbOutBwd.τ) (Cert.SbOutBwd.main (F := Bits))) ⟨m, fun _ => 0, g⟩ (fun r => (∀ c : Dev Cert.SbOutBwd.nD,
      r.2.mem ((c.tc : Thread Cert.SbOutBwd.nD Cert.SbOutBwd.τ).loc Cert.SbOutBwd.main_arg0) = m ((c.tc : Thread Cert.SbOutBwd.nD Cert.SbOutBwd.τ).loc Cert.SbOutBwd.main_arg0)
      ∧ r.2.mem ((c.tc : Thread Cert.SbOutBwd.nD Cert.SbOutBwd.τ).loc Cert.SbOutBwd.main_arg1) = m ((c.tc : Thread Cert.SbOutBwd.nD Cert.SbOutBwd.τ).loc Cert.SbOutBwd.main_arg1))
      ∧ r.2.sem = fun _ => 0)

def quiescent_SbOutBwdIdeal [hSbOutBwdIdeal : Cert.SbOutBwdIdeal.Facts] : Prop :=
  ∀ (m : (ℓ : Loc Cert.SbOutBwdIdeal.nD Cert.SbOutBwdIdeal.τ Cert.SbOutBwdIdeal.sig) → Buf (Elt Ideal) ℓ) (g : Dev Cert.SbOutBwdIdeal.nD → PrngReg), Pre_SbOutBwdIdeal m →
    θ_run (Cert.SbOutBwdIdeal.defs (F := Ideal)) (onTc (τ := Cert.SbOutBwdIdeal.τ) (Cert.SbOutBwdIdeal.main (F := Ideal))) ⟨m, fun _ => 0, g⟩ (fun r => (∀ c : Dev Cert.SbOutBwdIdeal.nD,
      r.2.mem ((c.tc : Thread Cert.SbOutBwdIdeal.nD Cert.SbOutBwdIdeal.τ).loc Cert.SbOutBwdIdeal.main_arg0) = m ((c.tc : Thread Cert.SbOutBwdIdeal.nD Cert.SbOutBwdIdeal.τ).loc Cert.SbOutBwdIdeal.main_arg0)
      ∧ r.2.mem ((c.tc : Thread Cert.SbOutBwdIdeal.nD Cert.SbOutBwdIdeal.τ).loc Cert.SbOutBwdIdeal.main_arg1) = m ((c.tc : Thread Cert.SbOutBwdIdeal.nD Cert.SbOutBwdIdeal.τ).loc Cert.SbOutBwdIdeal.main_arg1))
      ∧ r.2.sem = fun _ => 0)

def quiescent_SbOutBwdReferenceIdeal [hSbOutBwdReferenceIdeal : Cert.SbOutBwdReferenceIdeal.Facts] : Prop :=
  ∀ (m : (ℓ : Loc Cert.SbOutBwdReferenceIdeal.nD Cert.SbOutBwdReferenceIdeal.τ Cert.SbOutBwdReferenceIdeal.sig) → Buf (Elt Ideal) ℓ) (g : Dev Cert.SbOutBwdReferenceIdeal.nD → PrngReg), Pre_SbOutBwdReferenceIdeal m →
    θ_run (Cert.SbOutBwdReferenceIdeal.defs (F := Ideal)) (onTc (τ := Cert.SbOutBwdReferenceIdeal.τ) (Cert.SbOutBwdReferenceIdeal.main (F := Ideal))) ⟨m, fun _ => 0, g⟩ (fun r => (∀ c : Dev Cert.SbOutBwdReferenceIdeal.nD,
      r.2.mem ((c.tc : Thread Cert.SbOutBwdReferenceIdeal.nD Cert.SbOutBwdReferenceIdeal.τ).loc Cert.SbOutBwdReferenceIdeal.main_arg0) = m ((c.tc : Thread Cert.SbOutBwdReferenceIdeal.nD Cert.SbOutBwdReferenceIdeal.τ).loc Cert.SbOutBwdReferenceIdeal.main_arg0)
      ∧ r.2.mem ((c.tc : Thread Cert.SbOutBwdReferenceIdeal.nD Cert.SbOutBwdReferenceIdeal.τ).loc Cert.SbOutBwdReferenceIdeal.main_arg1) = m ((c.tc : Thread Cert.SbOutBwdReferenceIdeal.nD Cert.SbOutBwdReferenceIdeal.τ).loc Cert.SbOutBwdReferenceIdeal.main_arg1))
      ∧ r.2.sem = fun _ => 0)

def quiescent_DnOutBwd [hDnOutBwd : Cert.DnOutBwd.Facts] : Prop :=
  ∀ (m : (ℓ : Loc Cert.DnOutBwd.nD Cert.DnOutBwd.τ Cert.DnOutBwd.sig) → Buf (Elt Bits) ℓ) (g : Dev Cert.DnOutBwd.nD → PrngReg), Pre_DnOutBwd m →
    θ_run (Cert.DnOutBwd.defs (F := Bits)) (onTc (τ := Cert.DnOutBwd.τ) (Cert.DnOutBwd.main (F := Bits))) ⟨m, fun _ => 0, g⟩ (fun r => (∀ c : Dev Cert.DnOutBwd.nD,
      r.2.mem ((c.tc : Thread Cert.DnOutBwd.nD Cert.DnOutBwd.τ).loc Cert.DnOutBwd.main_arg0) = m ((c.tc : Thread Cert.DnOutBwd.nD Cert.DnOutBwd.τ).loc Cert.DnOutBwd.main_arg0)
      ∧ r.2.mem ((c.tc : Thread Cert.DnOutBwd.nD Cert.DnOutBwd.τ).loc Cert.DnOutBwd.main_arg1) = m ((c.tc : Thread Cert.DnOutBwd.nD Cert.DnOutBwd.τ).loc Cert.DnOutBwd.main_arg1))
      ∧ r.2.sem = fun _ => 0)

def quiescent_DnOutBwdIdeal [hDnOutBwdIdeal : Cert.DnOutBwdIdeal.Facts] : Prop :=
  ∀ (m : (ℓ : Loc Cert.DnOutBwdIdeal.nD Cert.DnOutBwdIdeal.τ Cert.DnOutBwdIdeal.sig) → Buf (Elt Ideal) ℓ) (g : Dev Cert.DnOutBwdIdeal.nD → PrngReg), Pre_DnOutBwdIdeal m →
    θ_run (Cert.DnOutBwdIdeal.defs (F := Ideal)) (onTc (τ := Cert.DnOutBwdIdeal.τ) (Cert.DnOutBwdIdeal.main (F := Ideal))) ⟨m, fun _ => 0, g⟩ (fun r => (∀ c : Dev Cert.DnOutBwdIdeal.nD,
      r.2.mem ((c.tc : Thread Cert.DnOutBwdIdeal.nD Cert.DnOutBwdIdeal.τ).loc Cert.DnOutBwdIdeal.main_arg0) = m ((c.tc : Thread Cert.DnOutBwdIdeal.nD Cert.DnOutBwdIdeal.τ).loc Cert.DnOutBwdIdeal.main_arg0)
      ∧ r.2.mem ((c.tc : Thread Cert.DnOutBwdIdeal.nD Cert.DnOutBwdIdeal.τ).loc Cert.DnOutBwdIdeal.main_arg1) = m ((c.tc : Thread Cert.DnOutBwdIdeal.nD Cert.DnOutBwdIdeal.τ).loc Cert.DnOutBwdIdeal.main_arg1))
      ∧ r.2.sem = fun _ => 0)

def quiescent_DnOutBwdReferenceIdeal [hDnOutBwdReferenceIdeal : Cert.DnOutBwdReferenceIdeal.Facts] : Prop :=
  ∀ (m : (ℓ : Loc Cert.DnOutBwdReferenceIdeal.nD Cert.DnOutBwdReferenceIdeal.τ Cert.DnOutBwdReferenceIdeal.sig) → Buf (Elt Ideal) ℓ) (g : Dev Cert.DnOutBwdReferenceIdeal.nD → PrngReg), Pre_DnOutBwdReferenceIdeal m →
    θ_run (Cert.DnOutBwdReferenceIdeal.defs (F := Ideal)) (onTc (τ := Cert.DnOutBwdReferenceIdeal.τ) (Cert.DnOutBwdReferenceIdeal.main (F := Ideal))) ⟨m, fun _ => 0, g⟩ (fun r => (∀ c : Dev Cert.DnOutBwdReferenceIdeal.nD,
      r.2.mem ((c.tc : Thread Cert.DnOutBwdReferenceIdeal.nD Cert.DnOutBwdReferenceIdeal.τ).loc Cert.DnOutBwdReferenceIdeal.main_arg0) = m ((c.tc : Thread Cert.DnOutBwdReferenceIdeal.nD Cert.DnOutBwdReferenceIdeal.τ).loc Cert.DnOutBwdReferenceIdeal.main_arg0)
      ∧ r.2.mem ((c.tc : Thread Cert.DnOutBwdReferenceIdeal.nD Cert.DnOutBwdReferenceIdeal.τ).loc Cert.DnOutBwdReferenceIdeal.main_arg1) = m ((c.tc : Thread Cert.DnOutBwdReferenceIdeal.nD Cert.DnOutBwdReferenceIdeal.τ).loc Cert.DnOutBwdReferenceIdeal.main_arg1))
      ∧ r.2.sem = fun _ => 0)

def quiescent_MixOutWg [hMixOutWg : Cert.MixOutWg.Facts] : Prop :=
  ∀ (m : (ℓ : Loc Cert.MixOutWg.nD Cert.MixOutWg.τ Cert.MixOutWg.sig) → Buf (Elt Bits) ℓ) (g : Dev Cert.MixOutWg.nD → PrngReg), Pre_MixOutWg m →
    θ_run (Cert.MixOutWg.defs (F := Bits)) (onTc (τ := Cert.MixOutWg.τ) (Cert.MixOutWg.main (F := Bits))) ⟨m, fun _ => 0, g⟩ (fun r => (∀ c : Dev Cert.MixOutWg.nD,
      r.2.mem ((c.tc : Thread Cert.MixOutWg.nD Cert.MixOutWg.τ).loc Cert.MixOutWg.main_arg0) = m ((c.tc : Thread Cert.MixOutWg.nD Cert.MixOutWg.τ).loc Cert.MixOutWg.main_arg0)
      ∧ r.2.mem ((c.tc : Thread Cert.MixOutWg.nD Cert.MixOutWg.τ).loc Cert.MixOutWg.main_arg1) = m ((c.tc : Thread Cert.MixOutWg.nD Cert.MixOutWg.τ).loc Cert.MixOutWg.main_arg1))
      ∧ r.2.sem = fun _ => 0)

def quiescent_MixOutWgIdeal [hMixOutWgIdeal : Cert.MixOutWgIdeal.Facts] : Prop :=
  ∀ (m : (ℓ : Loc Cert.MixOutWgIdeal.nD Cert.MixOutWgIdeal.τ Cert.MixOutWgIdeal.sig) → Buf (Elt Ideal) ℓ) (g : Dev Cert.MixOutWgIdeal.nD → PrngReg), Pre_MixOutWgIdeal m →
    θ_run (Cert.MixOutWgIdeal.defs (F := Ideal)) (onTc (τ := Cert.MixOutWgIdeal.τ) (Cert.MixOutWgIdeal.main (F := Ideal))) ⟨m, fun _ => 0, g⟩ (fun r => (∀ c : Dev Cert.MixOutWgIdeal.nD,
      r.2.mem ((c.tc : Thread Cert.MixOutWgIdeal.nD Cert.MixOutWgIdeal.τ).loc Cert.MixOutWgIdeal.main_arg0) = m ((c.tc : Thread Cert.MixOutWgIdeal.nD Cert.MixOutWgIdeal.τ).loc Cert.MixOutWgIdeal.main_arg0)
      ∧ r.2.mem ((c.tc : Thread Cert.MixOutWgIdeal.nD Cert.MixOutWgIdeal.τ).loc Cert.MixOutWgIdeal.main_arg1) = m ((c.tc : Thread Cert.MixOutWgIdeal.nD Cert.MixOutWgIdeal.τ).loc Cert.MixOutWgIdeal.main_arg1))
      ∧ r.2.sem = fun _ => 0)

def quiescent_MixOutWgReferenceIdeal [hMixOutWgReferenceIdeal : Cert.MixOutWgReferenceIdeal.Facts] : Prop :=
  ∀ (m : (ℓ : Loc Cert.MixOutWgReferenceIdeal.nD Cert.MixOutWgReferenceIdeal.τ Cert.MixOutWgReferenceIdeal.sig) → Buf (Elt Ideal) ℓ) (g : Dev Cert.MixOutWgReferenceIdeal.nD → PrngReg), Pre_MixOutWgReferenceIdeal m →
    θ_run (Cert.MixOutWgReferenceIdeal.defs (F := Ideal)) (onTc (τ := Cert.MixOutWgReferenceIdeal.τ) (Cert.MixOutWgReferenceIdeal.main (F := Ideal))) ⟨m, fun _ => 0, g⟩ (fun r => (∀ c : Dev Cert.MixOutWgReferenceIdeal.nD,
      r.2.mem ((c.tc : Thread Cert.MixOutWgReferenceIdeal.nD Cert.MixOutWgReferenceIdeal.τ).loc Cert.MixOutWgReferenceIdeal.main_arg0) = m ((c.tc : Thread Cert.MixOutWgReferenceIdeal.nD Cert.MixOutWgReferenceIdeal.τ).loc Cert.MixOutWgReferenceIdeal.main_arg0)
      ∧ r.2.mem ((c.tc : Thread Cert.MixOutWgReferenceIdeal.nD Cert.MixOutWgReferenceIdeal.τ).loc Cert.MixOutWgReferenceIdeal.main_arg1) = m ((c.tc : Thread Cert.MixOutWgReferenceIdeal.nD Cert.MixOutWgReferenceIdeal.τ).loc Cert.MixOutWgReferenceIdeal.main_arg1))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdReferenceIdeal [hAdaBwdReferenceIdeal : Cert.AdaBwdReferenceIdeal.Facts] : Prop :=
  ∀ (m : (ℓ : Loc Cert.AdaBwdReferenceIdeal.nD Cert.AdaBwdReferenceIdeal.τ Cert.AdaBwdReferenceIdeal.sig) → Buf (Elt Ideal) ℓ) (g : Dev Cert.AdaBwdReferenceIdeal.nD → PrngReg), Pre_AdaBwdReferenceIdeal m →
    θ_run (Cert.AdaBwdReferenceIdeal.defs (F := Ideal)) (onTc (τ := Cert.AdaBwdReferenceIdeal.τ) (Cert.AdaBwdReferenceIdeal.main (F := Ideal))) ⟨m, fun _ => 0, g⟩ (fun r => (∀ c : Dev Cert.AdaBwdReferenceIdeal.nD,
      r.2.mem ((c.tc : Thread Cert.AdaBwdReferenceIdeal.nD Cert.AdaBwdReferenceIdeal.τ).loc Cert.AdaBwdReferenceIdeal.main_arg0) = m ((c.tc : Thread Cert.AdaBwdReferenceIdeal.nD Cert.AdaBwdReferenceIdeal.τ).loc Cert.AdaBwdReferenceIdeal.main_arg0)
      ∧ r.2.mem ((c.tc : Thread Cert.AdaBwdReferenceIdeal.nD Cert.AdaBwdReferenceIdeal.τ).loc Cert.AdaBwdReferenceIdeal.main_arg1) = m ((c.tc : Thread Cert.AdaBwdReferenceIdeal.nD Cert.AdaBwdReferenceIdeal.τ).loc Cert.AdaBwdReferenceIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2)
      ∧ r.2.mem ((c.tc : Thread Cert.GateNorm.nD Cert.GateNorm.τ).loc Cert.GateNorm.main_arg3) = m ((c.tc : Thread Cert.GateNorm.nD Cert.GateNorm.τ).loc Cert.GateNorm.main_arg3)
      ∧ r.2.mem ((c.tc : Thread Cert.GateNorm.nD Cert.GateNorm.τ).loc Cert.GateNorm.main_arg4) = m ((c.tc : Thread Cert.GateNorm.nD Cert.GateNorm.τ).loc Cert.GateNorm.main_arg4)
      ∧ r.2.mem ((c.tc : Thread Cert.GateNorm.nD Cert.GateNorm.τ).loc Cert.GateNorm.main_arg5) = m ((c.tc : Thread Cert.GateNorm.nD Cert.GateNorm.τ).loc Cert.GateNorm.main_arg5))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
      ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
      ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4)
      ∧ r.2.mem ((c.tc : Thread Cert.GateNormIdeal.nD Cert.GateNormIdeal.τ).loc Cert.GateNormIdeal.main_arg5) = m ((c.tc : Thread Cert.GateNormIdeal.nD Cert.GateNormIdeal.τ).loc Cert.GateNormIdeal.main_arg5))
      ∧ r.2.sem = fun _ => 0)

def quiescent_GateNormReferenceIdeal [hGateNormReferenceIdeal : Cert.GateNormReferenceIdeal.Facts] : Prop :=
  ∀ (m : (ℓ : Loc Cert.GateNormReferenceIdeal.nD Cert.GateNormReferenceIdeal.τ Cert.GateNormReferenceIdeal.sig) → Buf (Elt Ideal) ℓ) (g : Dev Cert.GateNormReferenceIdeal.nD → PrngReg), Pre_GateNormReferenceIdeal m →
    θ_run (Cert.GateNormReferenceIdeal.defs (F := Ideal)) (onTc (τ := Cert.GateNormReferenceIdeal.τ) (Cert.GateNormReferenceIdeal.main (F := Ideal))) ⟨m, fun _ => 0, g⟩ (fun r => (∀ c : Dev Cert.GateNormReferenceIdeal.nD,
      r.2.mem ((c.tc : Thread Cert.GateNormReferenceIdeal.nD Cert.GateNormReferenceIdeal.τ).loc Cert.GateNormReferenceIdeal.main_arg0) = m ((c.tc : Thread Cert.GateNormReferenceIdeal.nD Cert.GateNormReferenceIdeal.τ).loc Cert.GateNormReferenceIdeal.main_arg0)
      ∧ r.2.mem ((c.tc : Thread Cert.GateNormReferenceIdeal.nD Cert.GateNormReferenceIdeal.τ).loc Cert.GateNormReferenceIdeal.main_arg1) = m ((c.tc : Thread Cert.GateNormReferenceIdeal.nD Cert.GateNormReferenceIdeal.τ).loc Cert.GateNormReferenceIdeal.main_arg1)
      ∧ r.2.mem ((c.tc : Thread Cert.GateNormReferenceIdeal.nD Cert.GateNormReferenceIdeal.τ).loc Cert.GateNormReferenceIdeal.main_arg2) = m ((c.tc : Thread Cert.GateNormReferenceIdeal.nD Cert.GateNormReferenceIdeal.τ).loc Cert.GateNormReferenceIdeal.main_arg2)
      ∧ r.2.mem ((c.tc : Thread Cert.GateNormReferenceIdeal.nD Cert.GateNormReferenceIdeal.τ).loc Cert.GateNormReferenceIdeal.main_arg3) = m ((c.tc : Thread Cert.GateNormReferenceIdeal.nD Cert.GateNormReferenceIdeal.τ).loc Cert.GateNormReferenceIdeal.main_arg3)
      ∧ r.2.mem ((c.tc : Thread Cert.GateNormReferenceIdeal.nD Cert.GateNormReferenceIdeal.τ).loc Cert.GateNormReferenceIdeal.main_arg4) = m ((c.tc : Thread Cert.GateNormReferenceIdeal.nD Cert.GateNormReferenceIdeal.τ).loc Cert.GateNormReferenceIdeal.main_arg4)
      ∧ r.2.mem ((c.tc : Thread Cert.GateNormReferenceIdeal.nD Cert.GateNormReferenceIdeal.τ).loc Cert.GateNormReferenceIdeal.main_arg5) = m ((c.tc : Thread Cert.GateNormReferenceIdeal.nD Cert.GateNormReferenceIdeal.τ).loc Cert.GateNormReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBReferenceIdeal [hAdamAdaBReferenceIdeal : Cert.AdamAdaBReferenceIdeal.Facts] : Prop :=
  ∀ (m : (ℓ : Loc Cert.AdamAdaBReferenceIdeal.nD Cert.AdamAdaBReferenceIdeal.τ Cert.AdamAdaBReferenceIdeal.sig) → Buf (Elt Ideal) ℓ) (g : Dev Cert.AdamAdaBReferenceIdeal.nD → PrngReg), Pre_AdamAdaBReferenceIdeal m →
    θ_run (Cert.AdamAdaBReferenceIdeal.defs (F := Ideal)) (onTc (τ := Cert.AdamAdaBReferenceIdeal.τ) (Cert.AdamAdaBReferenceIdeal.main (F := Ideal))) ⟨m, fun _ => 0, g⟩ (fun r => (∀ c : Dev Cert.AdamAdaBReferenceIdeal.nD,
      r.2.mem ((c.tc : Thread Cert.AdamAdaBReferenceIdeal.nD Cert.AdamAdaBReferenceIdeal.τ).loc Cert.AdamAdaBReferenceIdeal.main_arg0) = m ((c.tc : Thread Cert.AdamAdaBReferenceIdeal.nD Cert.AdamAdaBReferenceIdeal.τ).loc Cert.AdamAdaBReferenceIdeal.main_arg0)
      ∧ r.2.mem ((c.tc : Thread Cert.AdamAdaBReferenceIdeal.nD Cert.AdamAdaBReferenceIdeal.τ).loc Cert.AdamAdaBReferenceIdeal.main_arg1) = m ((c.tc : Thread Cert.AdamAdaBReferenceIdeal.nD Cert.AdamAdaBReferenceIdeal.τ).loc Cert.AdamAdaBReferenceIdeal.main_arg1)
      ∧ r.2.mem ((c.tc : Thread Cert.AdamAdaBReferenceIdeal.nD Cert.AdamAdaBReferenceIdeal.τ).loc Cert.AdamAdaBReferenceIdeal.main_arg2) = m ((c.tc : Thread Cert.AdamAdaBReferenceIdeal.nD Cert.AdamAdaBReferenceIdeal.τ).loc Cert.AdamAdaBReferenceIdeal.main_arg2)
      ∧ r.2.mem ((c.tc : Thread Cert.AdamAdaBReferenceIdeal.nD Cert.AdamAdaBReferenceIdeal.τ).loc Cert.AdamAdaBReferenceIdeal.main_arg3) = m ((c.tc : Thread Cert.AdamAdaBReferenceIdeal.nD Cert.AdamAdaBReferenceIdeal.τ).loc Cert.AdamAdaBReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamDnIn [hAdamDnIn : Cert.AdamDnIn.Facts] : Prop :=
  ∀ (m : (ℓ : Loc Cert.AdamDnIn.nD Cert.AdamDnIn.τ Cert.AdamDnIn.sig) → Buf (Elt Bits) ℓ) (g : Dev Cert.AdamDnIn.nD → PrngReg), Pre_AdamDnIn m →
    θ_run (Cert.AdamDnIn.defs (F := Bits)) (onTc (τ := Cert.AdamDnIn.τ) (Cert.AdamDnIn.main (F := Bits))) ⟨m, fun _ => 0, g⟩ (fun r => (∀ c : Dev Cert.AdamDnIn.nD,
      r.2.mem ((c.tc : Thread Cert.AdamDnIn.nD Cert.AdamDnIn.τ).loc Cert.AdamDnIn.main_arg0) = m ((c.tc : Thread Cert.AdamDnIn.nD Cert.AdamDnIn.τ).loc Cert.AdamDnIn.main_arg0)
      ∧ r.2.mem ((c.tc : Thread Cert.AdamDnIn.nD Cert.AdamDnIn.τ).loc Cert.AdamDnIn.main_arg1) = m ((c.tc : Thread Cert.AdamDnIn.nD Cert.AdamDnIn.τ).loc Cert.AdamDnIn.main_arg1)
      ∧ r.2.mem ((c.tc : Thread Cert.AdamDnIn.nD Cert.AdamDnIn.τ).loc Cert.AdamDnIn.main_arg2) = m ((c.tc : Thread Cert.AdamDnIn.nD Cert.AdamDnIn.τ).loc Cert.AdamDnIn.main_arg2)
      ∧ r.2.mem ((c.tc : Thread Cert.AdamDnIn.nD Cert.AdamDnIn.τ).loc Cert.AdamDnIn.main_arg3) = m ((c.tc : Thread Cert.AdamDnIn.nD Cert.AdamDnIn.τ).loc Cert.AdamDnIn.main_arg3))
      ∧ r.2.sem = fun _ => 0)

def quiescent_AdamDnInIdeal [hAdamDnInIdeal : Cert.AdamDnInIdeal.Facts] : Prop :=
  ∀ (m : (ℓ : Loc Cert.AdamDnInIdeal.nD Cert.AdamDnInIdeal.τ Cert.AdamDnInIdeal.sig) → Buf (Elt Ideal) ℓ) (g : Dev Cert.AdamDnInIdeal.nD → PrngReg), Pre_AdamDnInIdeal m →
    θ_run (Cert.AdamDnInIdeal.defs (F := Ideal)) (onTc (τ := Cert.AdamDnInIdeal.τ) (Cert.AdamDnInIdeal.main (F := Ideal))) ⟨m, fun _ => 0, g⟩ (fun r => (∀ c : Dev Cert.AdamDnInIdeal.nD,
      r.2.mem ((c.tc : Thread Cert.AdamDnInIdeal.nD Cert.AdamDnInIdeal.τ).loc Cert.AdamDnInIdeal.main_arg0) = m ((c.tc : Thread Cert.AdamDnInIdeal.nD Cert.AdamDnInIdeal.τ).loc Cert.AdamDnInIdeal.main_arg0)
      ∧ r.2.mem ((c.tc : Thread Cert.AdamDnInIdeal.nD Cert.AdamDnInIdeal.τ).loc Cert.AdamDnInIdeal.main_arg1) = m ((c.tc : Thread Cert.AdamDnInIdeal.nD Cert.AdamDnInIdeal.τ).loc Cert.AdamDnInIdeal.main_arg1)
      ∧ r.2.mem ((c.tc : Thread Cert.AdamDnInIdeal.nD Cert.AdamDnInIdeal.τ).loc Cert.AdamDnInIdeal.main_arg2) = m ((c.tc : Thread Cert.AdamDnInIdeal.nD Cert.AdamDnInIdeal.τ).loc Cert.AdamDnInIdeal.main_arg2)
      ∧ r.2.mem ((c.tc : Thread Cert.AdamDnInIdeal.nD Cert.AdamDnInIdeal.τ).loc Cert.AdamDnInIdeal.main_arg3) = m ((c.tc : Thread Cert.AdamDnInIdeal.nD Cert.AdamDnInIdeal.τ).loc Cert.AdamDnInIdeal.main_arg3))
      ∧ r.2.sem = fun _ => 0)

def quiescent_AdamDnInReferenceIdeal [hAdamDnInReferenceIdeal : Cert.AdamDnInReferenceIdeal.Facts] : Prop :=
  ∀ (m : (ℓ : Loc Cert.AdamDnInReferenceIdeal.nD Cert.AdamDnInReferenceIdeal.τ Cert.AdamDnInReferenceIdeal.sig) → Buf (Elt Ideal) ℓ) (g : Dev Cert.AdamDnInReferenceIdeal.nD → PrngReg), Pre_AdamDnInReferenceIdeal m →
    θ_run (Cert.AdamDnInReferenceIdeal.defs (F := Ideal)) (onTc (τ := Cert.AdamDnInReferenceIdeal.τ) (Cert.AdamDnInReferenceIdeal.main (F := Ideal))) ⟨m, fun _ => 0, g⟩ (fun r => (∀ c : Dev Cert.AdamDnInReferenceIdeal.nD,
      r.2.mem ((c.tc : Thread Cert.AdamDnInReferenceIdeal.nD Cert.AdamDnInReferenceIdeal.τ).loc Cert.AdamDnInReferenceIdeal.main_arg0) = m ((c.tc : Thread Cert.AdamDnInReferenceIdeal.nD Cert.AdamDnInReferenceIdeal.τ).loc Cert.AdamDnInReferenceIdeal.main_arg0)
      ∧ r.2.mem ((c.tc : Thread Cert.AdamDnInReferenceIdeal.nD Cert.AdamDnInReferenceIdeal.τ).loc Cert.AdamDnInReferenceIdeal.main_arg1) = m ((c.tc : Thread Cert.AdamDnInReferenceIdeal.nD Cert.AdamDnInReferenceIdeal.τ).loc Cert.AdamDnInReferenceIdeal.main_arg1)
      ∧ r.2.mem ((c.tc : Thread Cert.AdamDnInReferenceIdeal.nD Cert.AdamDnInReferenceIdeal.τ).loc Cert.AdamDnInReferenceIdeal.main_arg2) = m ((c.tc : Thread Cert.AdamDnInReferenceIdeal.nD Cert.AdamDnInReferenceIdeal.τ).loc Cert.AdamDnInReferenceIdeal.main_arg2)
      ∧ r.2.mem ((c.tc : Thread Cert.AdamDnInReferenceIdeal.nD Cert.AdamDnInReferenceIdeal.τ).loc Cert.AdamDnInReferenceIdeal.main_arg3) = m ((c.tc : Thread Cert.AdamDnInReferenceIdeal.nD Cert.AdamDnInReferenceIdeal.τ).loc Cert.AdamDnInReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamDecay [hAdamDecay : Cert.AdamDecay.Facts] : Prop :=
  ∀ (m : (ℓ : Loc Cert.AdamDecay.nD Cert.AdamDecay.τ Cert.AdamDecay.sig) → Buf (Elt Bits) ℓ) (g : Dev Cert.AdamDecay.nD → PrngReg), Pre_AdamDecay m →
    θ_run (Cert.AdamDecay.defs (F := Bits)) (onTc (τ := Cert.AdamDecay.τ) (Cert.AdamDecay.main (F := Bits))) ⟨m, fun _ => 0, g⟩ (fun r => (∀ c : Dev Cert.AdamDecay.nD,
      r.2.mem ((c.tc : Thread Cert.AdamDecay.nD Cert.AdamDecay.τ).loc Cert.AdamDecay.main_arg0) = m ((c.tc : Thread Cert.AdamDecay.nD Cert.AdamDecay.τ).loc Cert.AdamDecay.main_arg0)
      ∧ r.2.mem ((c.tc : Thread Cert.AdamDecay.nD Cert.AdamDecay.τ).loc Cert.AdamDecay.main_arg1) = m ((c.tc : Thread Cert.AdamDecay.nD Cert.AdamDecay.τ).loc Cert.AdamDecay.main_arg1)
      ∧ r.2.mem ((c.tc : Thread Cert.AdamDecay.nD Cert.AdamDecay.τ).loc Cert.AdamDecay.main_arg2) = m ((c.tc : Thread Cert.AdamDecay.nD Cert.AdamDecay.τ).loc Cert.AdamDecay.main_arg2)
      ∧ r.2.mem ((c.tc : Thread Cert.AdamDecay.nD Cert.AdamDecay.τ).loc Cert.AdamDecay.main_arg3) = m ((c.tc : Thread Cert.AdamDecay.nD Cert.AdamDecay.τ).loc Cert.AdamDecay.main_arg3))
      ∧ r.2.sem = fun _ => 0)

def quiescent_AdamDecayIdeal [hAdamDecayIdeal : Cert.AdamDecayIdeal.Facts] : Prop :=
  ∀ (m : (ℓ : Loc Cert.AdamDecayIdeal.nD Cert.AdamDecayIdeal.τ Cert.AdamDecayIdeal.sig) → Buf (Elt Ideal) ℓ) (g : Dev Cert.AdamDecayIdeal.nD → PrngReg), Pre_AdamDecayIdeal m →
    θ_run (Cert.AdamDecayIdeal.defs (F := Ideal)) (onTc (τ := Cert.AdamDecayIdeal.τ) (Cert.AdamDecayIdeal.main (F := Ideal))) ⟨m, fun _ => 0, g⟩ (fun r => (∀ c : Dev Cert.AdamDecayIdeal.nD,
      r.2.mem ((c.tc : Thread Cert.AdamDecayIdeal.nD Cert.AdamDecayIdeal.τ).loc Cert.AdamDecayIdeal.main_arg0) = m ((c.tc : Thread Cert.AdamDecayIdeal.nD Cert.AdamDecayIdeal.τ).loc Cert.AdamDecayIdeal.main_arg0)
      ∧ r.2.mem ((c.tc : Thread Cert.AdamDecayIdeal.nD Cert.AdamDecayIdeal.τ).loc Cert.AdamDecayIdeal.main_arg1) = m ((c.tc : Thread Cert.AdamDecayIdeal.nD Cert.AdamDecayIdeal.τ).loc Cert.AdamDecayIdeal.main_arg1)
      ∧ r.2.mem ((c.tc : Thread Cert.AdamDecayIdeal.nD Cert.AdamDecayIdeal.τ).loc Cert.AdamDecayIdeal.main_arg2) = m ((c.tc : Thread Cert.AdamDecayIdeal.nD Cert.AdamDecayIdeal.τ).loc Cert.AdamDecayIdeal.main_arg2)
      ∧ r.2.mem ((c.tc : Thread Cert.AdamDecayIdeal.nD Cert.AdamDecayIdeal.τ).loc Cert.AdamDecayIdeal.main_arg3) = m ((c.tc : Thread Cert.AdamDecayIdeal.nD Cert.AdamDecayIdeal.τ).loc Cert.AdamDecayIdeal.main_arg3))
      ∧ r.2.sem = fun _ => 0)

def quiescent_AdamDecayReferenceIdeal [hAdamDecayReferenceIdeal : Cert.AdamDecayReferenceIdeal.Facts] : Prop :=
  ∀ (m : (ℓ : Loc Cert.AdamDecayReferenceIdeal.nD Cert.AdamDecayReferenceIdeal.τ Cert.AdamDecayReferenceIdeal.sig) → Buf (Elt Ideal) ℓ) (g : Dev Cert.AdamDecayReferenceIdeal.nD → PrngReg), Pre_AdamDecayReferenceIdeal m →
    θ_run (Cert.AdamDecayReferenceIdeal.defs (F := Ideal)) (onTc (τ := Cert.AdamDecayReferenceIdeal.τ) (Cert.AdamDecayReferenceIdeal.main (F := Ideal))) ⟨m, fun _ => 0, g⟩ (fun r => (∀ c : Dev Cert.AdamDecayReferenceIdeal.nD,
      r.2.mem ((c.tc : Thread Cert.AdamDecayReferenceIdeal.nD Cert.AdamDecayReferenceIdeal.τ).loc Cert.AdamDecayReferenceIdeal.main_arg0) = m ((c.tc : Thread Cert.AdamDecayReferenceIdeal.nD Cert.AdamDecayReferenceIdeal.τ).loc Cert.AdamDecayReferenceIdeal.main_arg0)
      ∧ r.2.mem ((c.tc : Thread Cert.AdamDecayReferenceIdeal.nD Cert.AdamDecayReferenceIdeal.τ).loc Cert.AdamDecayReferenceIdeal.main_arg1) = m ((c.tc : Thread Cert.AdamDecayReferenceIdeal.nD Cert.AdamDecayReferenceIdeal.τ).loc Cert.AdamDecayReferenceIdeal.main_arg1)
      ∧ r.2.mem ((c.tc : Thread Cert.AdamDecayReferenceIdeal.nD Cert.AdamDecayReferenceIdeal.τ).loc Cert.AdamDecayReferenceIdeal.main_arg2) = m ((c.tc : Thread Cert.AdamDecayReferenceIdeal.nD Cert.AdamDecayReferenceIdeal.τ).loc Cert.AdamDecayReferenceIdeal.main_arg2)
      ∧ r.2.mem ((c.tc : Thread Cert.AdamDecayReferenceIdeal.nD Cert.AdamDecayReferenceIdeal.τ).loc Cert.AdamDecayReferenceIdeal.main_arg3) = m ((c.tc : Thread Cert.AdamDecayReferenceIdeal.nD Cert.AdamDecayReferenceIdeal.τ).loc Cert.AdamDecayReferenceIdeal.main_arg3))
      ∧ r.2.sem = fun _ => 0)

def quiescent_AdamDnNorm [hAdamDnNorm : Cert.AdamDnNorm.Facts] : Prop :=
  ∀ (m : (ℓ : Loc Cert.AdamDnNorm.nD Cert.AdamDnNorm.τ Cert.AdamDnNorm.sig) → Buf (Elt Bits) ℓ) (g : Dev Cert.AdamDnNorm.nD → PrngReg), Pre_AdamDnNorm m →
    θ_run (Cert.AdamDnNorm.defs (F := Bits)) (onTc (τ := Cert.AdamDnNorm.τ) (Cert.AdamDnNorm.main (F := Bits))) ⟨m, fun _ => 0, g⟩ (fun r => (∀ c : Dev Cert.AdamDnNorm.nD,
      r.2.mem ((c.tc : Thread Cert.AdamDnNorm.nD Cert.AdamDnNorm.τ).loc Cert.AdamDnNorm.main_arg0) = m ((c.tc : Thread Cert.AdamDnNorm.nD Cert.AdamDnNorm.τ).loc Cert.AdamDnNorm.main_arg0)
      ∧ r.2.mem ((c.tc : Thread Cert.AdamDnNorm.nD Cert.AdamDnNorm.τ).loc Cert.AdamDnNorm.main_arg1) = m ((c.tc : Thread Cert.AdamDnNorm.nD Cert.AdamDnNorm.τ).loc Cert.AdamDnNorm.main_arg1)
      ∧ r.2.mem ((c.tc : Thread Cert.AdamDnNorm.nD Cert.AdamDnNorm.τ).loc Cert.AdamDnNorm.main_arg2) = m ((c.tc : Thread Cert.AdamDnNorm.nD Cert.AdamDnNorm.τ).loc Cert.AdamDnNorm.main_arg2)
      ∧ r.2.mem ((c.tc : Thread Cert.AdamDnNorm.nD Cert.AdamDnNorm.τ).loc Cert.AdamDnNorm.main_arg3) = m ((c.tc : Thread Cert.AdamDnNorm.nD Cert.AdamDnNorm.τ).loc Cert.AdamDnNorm.main_arg3))
      ∧ r.2.sem = fun _ => 0)

def quiescent_AdamDnNormIdeal [hAdamDnNormIdeal : Cert.AdamDnNormIdeal.Facts] : Prop :=
  ∀ (m : (ℓ : Loc Cert.AdamDnNormIdeal.nD Cert.AdamDnNormIdeal.τ Cert.AdamDnNormIdeal.sig) → Buf (Elt Ideal) ℓ) (g : Dev Cert.AdamDnNormIdeal.nD → PrngReg), Pre_AdamDnNormIdeal m →
    θ_run (Cert.AdamDnNormIdeal.defs (F := Ideal)) (onTc (τ := Cert.AdamDnNormIdeal.τ) (Cert.AdamDnNormIdeal.main (F := Ideal))) ⟨m, fun _ => 0, g⟩ (fun r => (∀ c : Dev Cert.AdamDnNormIdeal.nD,
      r.2.mem ((c.tc : Thread Cert.AdamDnNormIdeal.nD Cert.AdamDnNormIdeal.τ).loc Cert.AdamDnNormIdeal.main_arg0) = m ((c.tc : Thread Cert.AdamDnNormIdeal.nD Cert.AdamDnNormIdeal.τ).loc Cert.AdamDnNormIdeal.main_arg0)
      ∧ r.2.mem ((c.tc : Thread Cert.AdamDnNormIdeal.nD Cert.AdamDnNormIdeal.τ).loc Cert.AdamDnNormIdeal.main_arg1) = m ((c.tc : Thread Cert.AdamDnNormIdeal.nD Cert.AdamDnNormIdeal.τ).loc Cert.AdamDnNormIdeal.main_arg1)
      ∧ r.2.mem ((c.tc : Thread Cert.AdamDnNormIdeal.nD Cert.AdamDnNormIdeal.τ).loc Cert.AdamDnNormIdeal.main_arg2) = m ((c.tc : Thread Cert.AdamDnNormIdeal.nD Cert.AdamDnNormIdeal.τ).loc Cert.AdamDnNormIdeal.main_arg2)
      ∧ r.2.mem ((c.tc : Thread Cert.AdamDnNormIdeal.nD Cert.AdamDnNormIdeal.τ).loc Cert.AdamDnNormIdeal.main_arg3) = m ((c.tc : Thread Cert.AdamDnNormIdeal.nD Cert.AdamDnNormIdeal.τ).loc Cert.AdamDnNormIdeal.main_arg3))
      ∧ r.2.sem = fun _ => 0)

def quiescent_AdamDnNormReferenceIdeal [hAdamDnNormReferenceIdeal : Cert.AdamDnNormReferenceIdeal.Facts] : Prop :=
  ∀ (m : (ℓ : Loc Cert.AdamDnNormReferenceIdeal.nD Cert.AdamDnNormReferenceIdeal.τ Cert.AdamDnNormReferenceIdeal.sig) → Buf (Elt Ideal) ℓ) (g : Dev Cert.AdamDnNormReferenceIdeal.nD → PrngReg), Pre_AdamDnNormReferenceIdeal m →
    θ_run (Cert.AdamDnNormReferenceIdeal.defs (F := Ideal)) (onTc (τ := Cert.AdamDnNormReferenceIdeal.τ) (Cert.AdamDnNormReferenceIdeal.main (F := Ideal))) ⟨m, fun _ => 0, g⟩ (fun r => (∀ c : Dev Cert.AdamDnNormReferenceIdeal.nD,
      r.2.mem ((c.tc : Thread Cert.AdamDnNormReferenceIdeal.nD Cert.AdamDnNormReferenceIdeal.τ).loc Cert.AdamDnNormReferenceIdeal.main_arg0) = m ((c.tc : Thread Cert.AdamDnNormReferenceIdeal.nD Cert.AdamDnNormReferenceIdeal.τ).loc Cert.AdamDnNormReferenceIdeal.main_arg0)
      ∧ r.2.mem ((c.tc : Thread Cert.AdamDnNormReferenceIdeal.nD Cert.AdamDnNormReferenceIdeal.τ).loc Cert.AdamDnNormReferenceIdeal.main_arg1) = m ((c.tc : Thread Cert.AdamDnNormReferenceIdeal.nD Cert.AdamDnNormReferenceIdeal.τ).loc Cert.AdamDnNormReferenceIdeal.main_arg1)
      ∧ r.2.mem ((c.tc : Thread Cert.AdamDnNormReferenceIdeal.nD Cert.AdamDnNormReferenceIdeal.τ).loc Cert.AdamDnNormReferenceIdeal.main_arg2) = m ((c.tc : Thread Cert.AdamDnNormReferenceIdeal.nD Cert.AdamDnNormReferenceIdeal.τ).loc Cert.AdamDnNormReferenceIdeal.main_arg2)
      ∧ r.2.mem ((c.tc : Thread Cert.AdamDnNormReferenceIdeal.nD Cert.AdamDnNormReferenceIdeal.τ).loc Cert.AdamDnNormReferenceIdeal.main_arg3) = m ((c.tc : Thread Cert.AdamDnNormReferenceIdeal.nD Cert.AdamDnNormReferenceIdeal.τ).loc Cert.AdamDnNormReferenceIdeal.main_arg3))
      ∧ r.2.sem = fun _ => 0)

def quiescent_AdamSbIn [hAdamSbIn : Cert.AdamSbIn.Facts] : Prop :=
  ∀ (m : (ℓ : Loc Cert.AdamSbIn.nD Cert.AdamSbIn.τ Cert.AdamSbIn.sig) → Buf (Elt Bits) ℓ) (g : Dev Cert.AdamSbIn.nD → PrngReg), Pre_AdamSbIn m →
    θ_run (Cert.AdamSbIn.defs (F := Bits)) (onTc (τ := Cert.AdamSbIn.τ) (Cert.AdamSbIn.main (F := Bits))) ⟨m, fun _ => 0, g⟩ (fun r => (∀ c : Dev Cert.AdamSbIn.nD,
      r.2.mem ((c.tc : Thread Cert.AdamSbIn.nD Cert.AdamSbIn.τ).loc Cert.AdamSbIn.main_arg0) = m ((c.tc : Thread Cert.AdamSbIn.nD Cert.AdamSbIn.τ).loc Cert.AdamSbIn.main_arg0)
      ∧ r.2.mem ((c.tc : Thread Cert.AdamSbIn.nD Cert.AdamSbIn.τ).loc Cert.AdamSbIn.main_arg1) = m ((c.tc : Thread Cert.AdamSbIn.nD Cert.AdamSbIn.τ).loc Cert.AdamSbIn.main_arg1)
      ∧ r.2.mem ((c.tc : Thread Cert.AdamSbIn.nD Cert.AdamSbIn.τ).loc Cert.AdamSbIn.main_arg2) = m ((c.tc : Thread Cert.AdamSbIn.nD Cert.AdamSbIn.τ).loc Cert.AdamSbIn.main_arg2)
      ∧ r.2.mem ((c.tc : Thread Cert.AdamSbIn.nD Cert.AdamSbIn.τ).loc Cert.AdamSbIn.main_arg3) = m ((c.tc : Thread Cert.AdamSbIn.nD Cert.AdamSbIn.τ).loc Cert.AdamSbIn.main_arg3))
      ∧ r.2.sem = fun _ => 0)

def quiescent_AdamSbInIdeal [hAdamSbInIdeal : Cert.AdamSbInIdeal.Facts] : Prop :=
  ∀ (m : (ℓ : Loc Cert.AdamSbInIdeal.nD Cert.AdamSbInIdeal.τ Cert.AdamSbInIdeal.sig) → Buf (Elt Ideal) ℓ) (g : Dev Cert.AdamSbInIdeal.nD → PrngReg), Pre_AdamSbInIdeal m →
    θ_run (Cert.AdamSbInIdeal.defs (F := Ideal)) (onTc (τ := Cert.AdamSbInIdeal.τ) (Cert.AdamSbInIdeal.main (F := Ideal))) ⟨m, fun _ => 0, g⟩ (fun r => (∀ c : Dev Cert.AdamSbInIdeal.nD,
      r.2.mem ((c.tc : Thread Cert.AdamSbInIdeal.nD Cert.AdamSbInIdeal.τ).loc Cert.AdamSbInIdeal.main_arg0) = m ((c.tc : Thread Cert.AdamSbInIdeal.nD Cert.AdamSbInIdeal.τ).loc Cert.AdamSbInIdeal.main_arg0)
      ∧ r.2.mem ((c.tc : Thread Cert.AdamSbInIdeal.nD Cert.AdamSbInIdeal.τ).loc Cert.AdamSbInIdeal.main_arg1) = m ((c.tc : Thread Cert.AdamSbInIdeal.nD Cert.AdamSbInIdeal.τ).loc Cert.AdamSbInIdeal.main_arg1)
      ∧ r.2.mem ((c.tc : Thread Cert.AdamSbInIdeal.nD Cert.AdamSbInIdeal.τ).loc Cert.AdamSbInIdeal.main_arg2) = m ((c.tc : Thread Cert.AdamSbInIdeal.nD Cert.AdamSbInIdeal.τ).loc Cert.AdamSbInIdeal.main_arg2)
      ∧ r.2.mem ((c.tc : Thread Cert.AdamSbInIdeal.nD Cert.AdamSbInIdeal.τ).loc Cert.AdamSbInIdeal.main_arg3) = m ((c.tc : Thread Cert.AdamSbInIdeal.nD Cert.AdamSbInIdeal.τ).loc Cert.AdamSbInIdeal.main_arg3))
      ∧ r.2.sem = fun _ => 0)

def quiescent_AdamSbInReferenceIdeal [hAdamSbInReferenceIdeal : Cert.AdamSbInReferenceIdeal.Facts] : Prop :=
  ∀ (m : (ℓ : Loc Cert.AdamSbInReferenceIdeal.nD Cert.AdamSbInReferenceIdeal.τ Cert.AdamSbInReferenceIdeal.sig) → Buf (Elt Ideal) ℓ) (g : Dev Cert.AdamSbInReferenceIdeal.nD → PrngReg), Pre_AdamSbInReferenceIdeal m →
    θ_run (Cert.AdamSbInReferenceIdeal.defs (F := Ideal)) (onTc (τ := Cert.AdamSbInReferenceIdeal.τ) (Cert.AdamSbInReferenceIdeal.main (F := Ideal))) ⟨m, fun _ => 0, g⟩ (fun r => (∀ c : Dev Cert.AdamSbInReferenceIdeal.nD,
      r.2.mem ((c.tc : Thread Cert.AdamSbInReferenceIdeal.nD Cert.AdamSbInReferenceIdeal.τ).loc Cert.AdamSbInReferenceIdeal.main_arg0) = m ((c.tc : Thread Cert.AdamSbInReferenceIdeal.nD Cert.AdamSbInReferenceIdeal.τ).loc Cert.AdamSbInReferenceIdeal.main_arg0)
      ∧ r.2.mem ((c.tc : Thread Cert.AdamSbInReferenceIdeal.nD Cert.AdamSbInReferenceIdeal.τ).loc Cert.AdamSbInReferenceIdeal.main_arg1) = m ((c.tc : Thread Cert.AdamSbInReferenceIdeal.nD Cert.AdamSbInReferenceIdeal.τ).loc Cert.AdamSbInReferenceIdeal.main_arg1)
      ∧ r.2.mem ((c.tc : Thread Cert.AdamSbInReferenceIdeal.nD Cert.AdamSbInReferenceIdeal.τ).loc Cert.AdamSbInReferenceIdeal.main_arg2) = m ((c.tc : Thread Cert.AdamSbInReferenceIdeal.nD Cert.AdamSbInReferenceIdeal.τ).loc Cert.AdamSbInReferenceIdeal.main_arg2)
      ∧ r.2.mem ((c.tc : Thread Cert.AdamSbInReferenceIdeal.nD Cert.AdamSbInReferenceIdeal.τ).loc Cert.AdamSbInReferenceIdeal.main_arg3) = m ((c.tc : Thread Cert.AdamSbInReferenceIdeal.nD Cert.AdamSbInReferenceIdeal.τ).loc Cert.AdamSbInReferenceIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInReferenceIdeal [hAdamFfnInReferenceIdeal : Cert.AdamFfnInReferenceIdeal.Facts] : Prop :=
  ∀ (m : (ℓ : Loc Cert.AdamFfnInReferenceIdeal.nD Cert.AdamFfnInReferenceIdeal.τ Cert.AdamFfnInReferenceIdeal.sig) → Buf (Elt Ideal) ℓ) (g : Dev Cert.AdamFfnInReferenceIdeal.nD → PrngReg), Pre_AdamFfnInReferenceIdeal m →
    θ_run (Cert.AdamFfnInReferenceIdeal.defs (F := Ideal)) (onTc (τ := Cert.AdamFfnInReferenceIdeal.τ) (Cert.AdamFfnInReferenceIdeal.main (F := Ideal))) ⟨m, fun _ => 0, g⟩ (fun r => (∀ c : Dev Cert.AdamFfnInReferenceIdeal.nD,
      r.2.mem ((c.tc : Thread Cert.AdamFfnInReferenceIdeal.nD Cert.AdamFfnInReferenceIdeal.τ).loc Cert.AdamFfnInReferenceIdeal.main_arg0) = m ((c.tc : Thread Cert.AdamFfnInReferenceIdeal.nD Cert.AdamFfnInReferenceIdeal.τ).loc Cert.AdamFfnInReferenceIdeal.main_arg0)
      ∧ r.2.mem ((c.tc : Thread Cert.AdamFfnInReferenceIdeal.nD Cert.AdamFfnInReferenceIdeal.τ).loc Cert.AdamFfnInReferenceIdeal.main_arg1) = m ((c.tc : Thread Cert.AdamFfnInReferenceIdeal.nD Cert.AdamFfnInReferenceIdeal.τ).loc Cert.AdamFfnInReferenceIdeal.main_arg1)
      ∧ r.2.mem ((c.tc : Thread Cert.AdamFfnInReferenceIdeal.nD Cert.AdamFfnInReferenceIdeal.τ).loc Cert.AdamFfnInReferenceIdeal.main_arg2) = m ((c.tc : Thread Cert.AdamFfnInReferenceIdeal.nD Cert.AdamFfnInReferenceIdeal.τ).loc Cert.AdamFfnInReferenceIdeal.main_arg2)
      ∧ r.2.mem ((c.tc : Thread Cert.AdamFfnInReferenceIdeal.nD Cert.AdamFfnInReferenceIdeal.τ).loc Cert.AdamFfnInReferenceIdeal.main_arg3) = m ((c.tc : Thread Cert.AdamFfnInReferenceIdeal.nD Cert.AdamFfnInReferenceIdeal.τ).loc Cert.AdamFfnInReferenceIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutReferenceIdeal [hAdamFfnOutReferenceIdeal : Cert.AdamFfnOutReferenceIdeal.Facts] : Prop :=
  ∀ (m : (ℓ : Loc Cert.AdamFfnOutReferenceIdeal.nD Cert.AdamFfnOutReferenceIdeal.τ Cert.AdamFfnOutReferenceIdeal.sig) → Buf (Elt Ideal) ℓ) (g : Dev Cert.AdamFfnOutReferenceIdeal.nD → PrngReg), Pre_AdamFfnOutReferenceIdeal m →
    θ_run (Cert.AdamFfnOutReferenceIdeal.defs (F := Ideal)) (onTc (τ := Cert.AdamFfnOutReferenceIdeal.τ) (Cert.AdamFfnOutReferenceIdeal.main (F := Ideal))) ⟨m, fun _ => 0, g⟩ (fun r => (∀ c : Dev Cert.AdamFfnOutReferenceIdeal.nD,
      r.2.mem ((c.tc : Thread Cert.AdamFfnOutReferenceIdeal.nD Cert.AdamFfnOutReferenceIdeal.τ).loc Cert.AdamFfnOutReferenceIdeal.main_arg0) = m ((c.tc : Thread Cert.AdamFfnOutReferenceIdeal.nD Cert.AdamFfnOutReferenceIdeal.τ).loc Cert.AdamFfnOutReferenceIdeal.main_arg0)
      ∧ r.2.mem ((c.tc : Thread Cert.AdamFfnOutReferenceIdeal.nD Cert.AdamFfnOutReferenceIdeal.τ).loc Cert.AdamFfnOutReferenceIdeal.main_arg1) = m ((c.tc : Thread Cert.AdamFfnOutReferenceIdeal.nD Cert.AdamFfnOutReferenceIdeal.τ).loc Cert.AdamFfnOutReferenceIdeal.main_arg1)
      ∧ r.2.mem ((c.tc : Thread Cert.AdamFfnOutReferenceIdeal.nD Cert.AdamFfnOutReferenceIdeal.τ).loc Cert.AdamFfnOutReferenceIdeal.main_arg2) = m ((c.tc : Thread Cert.AdamFfnOutReferenceIdeal.nD Cert.AdamFfnOutReferenceIdeal.τ).loc Cert.AdamFfnOutReferenceIdeal.main_arg2)
      ∧ r.2.mem ((c.tc : Thread Cert.AdamFfnOutReferenceIdeal.nD Cert.AdamFfnOutReferenceIdeal.τ).loc Cert.AdamFfnOutReferenceIdeal.main_arg3) = m ((c.tc : Thread Cert.AdamFfnOutReferenceIdeal.nD Cert.AdamFfnOutReferenceIdeal.τ).loc Cert.AdamFfnOutReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)) (v4 : (c : Dev Cert.KernelIdeal.nD) → Buf (Elt Ideal) ((c.tc : Thread Cert.KernelIdeal.nD Cert.KernelIdeal.τ).loc Cert.KernelIdeal.main_v58_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_v58_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ActBwd_ActBwdIdeal : Prop :=
  True

def algebraic_ActBwdIdeal_ActBwdReferenceIdeal_pre_act_finite [hActBwdIdeal : Cert.ActBwdIdeal.Facts] [hActBwdReferenceIdeal : Cert.ActBwdReferenceIdeal.Facts] [hPre_act_finite : Cert.Pre_act_finite.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdReferenceIdeal.nD Cert.ActBwdReferenceIdeal.τ Cert.ActBwdReferenceIdeal.sig) → Buf (Elt Ideal) ℓ) (g' : Dev Cert.ActBwdReferenceIdeal.nD → PrngReg), Pre_ActBwdIdeal_act_finite m →
    (∀ c : Dev Cert.ActBwdIdeal.nD,
      m' ((c.tc : Thread Cert.ActBwdReferenceIdeal.nD Cert.ActBwdReferenceIdeal.τ).loc Cert.ActBwdReferenceIdeal.main_arg0) = m ((c.tc : Thread Cert.ActBwdIdeal.nD Cert.ActBwdIdeal.τ).loc Cert.ActBwdIdeal.main_arg0)
      ∧ m' ((c.tc : Thread Cert.ActBwdReferenceIdeal.nD Cert.ActBwdReferenceIdeal.τ).loc Cert.ActBwdReferenceIdeal.main_arg1) = m ((c.tc : Thread Cert.ActBwdIdeal.nD Cert.ActBwdIdeal.τ).loc Cert.ActBwdIdeal.main_arg1)) →
    ∃ (v0 : (c : Dev Cert.ActBwdIdeal.nD) → Buf (Elt Ideal) ((c.tc : Thread Cert.ActBwdIdeal.nD Cert.ActBwdIdeal.τ).loc Cert.ActBwdIdeal.main_v0)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v0) = v0 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1))
      ∧ θ_run (Cert.ActBwdReferenceIdeal.defs (F := Ideal)) (onTc (τ := Cert.ActBwdReferenceIdeal.τ) (Cert.ActBwdReferenceIdeal.main (F := Ideal))) ⟨m', fun _ => 0, g'⟩ (fun r => ∀ c : Dev Cert.ActBwdReferenceIdeal.nD,
          r.2.mem ((c.tc : Thread Cert.ActBwdReferenceIdeal.nD Cert.ActBwdReferenceIdeal.τ).loc Cert.ActBwdReferenceIdeal.main_v10) = v0 c
          ∧ r.2.mem ((c.tc : Thread Cert.ActBwdReferenceIdeal.nD Cert.ActBwdReferenceIdeal.τ).loc Cert.ActBwdReferenceIdeal.main_arg0) = m' ((c.tc : Thread Cert.ActBwdReferenceIdeal.nD Cert.ActBwdReferenceIdeal.τ).loc Cert.ActBwdReferenceIdeal.main_arg0)
          ∧ r.2.mem ((c.tc : Thread Cert.ActBwdReferenceIdeal.nD Cert.ActBwdReferenceIdeal.τ).loc Cert.ActBwdReferenceIdeal.main_arg1) = m' ((c.tc : Thread Cert.ActBwdReferenceIdeal.nD Cert.ActBwdReferenceIdeal.τ).loc Cert.ActBwdReferenceIdeal.main_arg1))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v5) = v0 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1))

def preserves_OutWg_OutWgIdeal : Prop :=
  True

def algebraic_OutWgIdeal_OutWgReferenceIdeal [hOutWgIdeal : Cert.OutWgIdeal.Facts] [hOutWgReferenceIdeal : Cert.OutWgReferenceIdeal.Facts] : Prop :=
  ∀ (m : (ℓ : Loc Cert.OutWgIdeal.nD Cert.OutWgIdeal.τ Cert.OutWgIdeal.sig) → Buf (Elt Ideal) ℓ) (g : Dev Cert.OutWgIdeal.nD → PrngReg)
    (m' : (ℓ : Loc Cert.OutWgReferenceIdeal.nD Cert.OutWgReferenceIdeal.τ Cert.OutWgReferenceIdeal.sig) → Buf (Elt Ideal) ℓ) (g' : Dev Cert.OutWgReferenceIdeal.nD → PrngReg), Pre_OutWgIdeal m →
    (∀ c : Dev Cert.OutWgIdeal.nD,
      m' ((c.tc : Thread Cert.OutWgReferenceIdeal.nD Cert.OutWgReferenceIdeal.τ).loc Cert.OutWgReferenceIdeal.main_arg0) = m ((c.tc : Thread Cert.OutWgIdeal.nD Cert.OutWgIdeal.τ).loc Cert.OutWgIdeal.main_arg0)
      ∧ m' ((c.tc : Thread Cert.OutWgReferenceIdeal.nD Cert.OutWgReferenceIdeal.τ).loc Cert.OutWgReferenceIdeal.main_arg1) = m ((c.tc : Thread Cert.OutWgIdeal.nD Cert.OutWgIdeal.τ).loc Cert.OutWgIdeal.main_arg1)) →
    ∃ (v0 : (c : Dev Cert.OutWgIdeal.nD) → Buf (Elt Ideal) ((c.tc : Thread Cert.OutWgIdeal.nD Cert.OutWgIdeal.τ).loc Cert.OutWgIdeal.main_v0)),
      θ_run (Cert.OutWgIdeal.defs (F := Ideal)) (onTc (τ := Cert.OutWgIdeal.τ) (Cert.OutWgIdeal.main (F := Ideal))) ⟨m, fun _ => 0, g⟩ (fun r => ∀ c : Dev Cert.OutWgIdeal.nD,
          r.2.mem ((c.tc : Thread Cert.OutWgIdeal.nD Cert.OutWgIdeal.τ).loc Cert.OutWgIdeal.main_v0) = v0 c
          ∧ r.2.mem ((c.tc : Thread Cert.OutWgIdeal.nD Cert.OutWgIdeal.τ).loc Cert.OutWgIdeal.main_arg0) = m ((c.tc : Thread Cert.OutWgIdeal.nD Cert.OutWgIdeal.τ).loc Cert.OutWgIdeal.main_arg0)
          ∧ r.2.mem ((c.tc : Thread Cert.OutWgIdeal.nD Cert.OutWgIdeal.τ).loc Cert.OutWgIdeal.main_arg1) = m ((c.tc : Thread Cert.OutWgIdeal.nD Cert.OutWgIdeal.τ).loc Cert.OutWgIdeal.main_arg1))
      ∧ θ_run (Cert.OutWgReferenceIdeal.defs (F := Ideal)) (onTc (τ := Cert.OutWgReferenceIdeal.τ) (Cert.OutWgReferenceIdeal.main (F := Ideal))) ⟨m', fun _ => 0, g'⟩ (fun r => ∀ c : Dev Cert.OutWgReferenceIdeal.nD,
          r.2.mem ((c.tc : Thread Cert.OutWgReferenceIdeal.nD Cert.OutWgReferenceIdeal.τ).loc Cert.OutWgReferenceIdeal.main_v6) = v0 c
          ∧ r.2.mem ((c.tc : Thread Cert.OutWgReferenceIdeal.nD Cert.OutWgReferenceIdeal.τ).loc Cert.OutWgReferenceIdeal.main_arg0) = m' ((c.tc : Thread Cert.OutWgReferenceIdeal.nD Cert.OutWgReferenceIdeal.τ).loc Cert.OutWgReferenceIdeal.main_arg0)
          ∧ r.2.mem ((c.tc : Thread Cert.OutWgReferenceIdeal.nD Cert.OutWgReferenceIdeal.τ).loc Cert.OutWgReferenceIdeal.main_arg1) = m' ((c.tc : Thread Cert.OutWgReferenceIdeal.nD Cert.OutWgReferenceIdeal.τ).loc Cert.OutWgReferenceIdeal.main_arg1))

def preserves_InBwd_InBwdIdeal : Prop :=
  True

def algebraic_InBwdIdeal_InBwdReferenceIdeal [hInBwdIdeal : Cert.InBwdIdeal.Facts] [hInBwdReferenceIdeal : Cert.InBwdReferenceIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v0)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v5) = v0 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1))

def preserves_InWg_InWgIdeal : Prop :=
  True

def algebraic_InWgIdeal_InWgReferenceIdeal [hInWgIdeal : Cert.InWgIdeal.Facts] [hInWgReferenceIdeal : Cert.InWgReferenceIdeal.Facts] : Prop :=
  ∀ (m : (ℓ : Loc Cert.InWgIdeal.nD Cert.InWgIdeal.τ Cert.InWgIdeal.sig) → Buf (Elt Ideal) ℓ) (g : Dev Cert.InWgIdeal.nD → PrngReg)
    (m' : (ℓ : Loc Cert.InWgReferenceIdeal.nD Cert.InWgReferenceIdeal.τ Cert.InWgReferenceIdeal.sig) → Buf (Elt Ideal) ℓ) (g' : Dev Cert.InWgReferenceIdeal.nD → PrngReg), Pre_InWgIdeal m →
    (∀ c : Dev Cert.InWgIdeal.nD,
      m' ((c.tc : Thread Cert.InWgReferenceIdeal.nD Cert.InWgReferenceIdeal.τ).loc Cert.InWgReferenceIdeal.main_arg0) = m ((c.tc : Thread Cert.InWgIdeal.nD Cert.InWgIdeal.τ).loc Cert.InWgIdeal.main_arg0)
      ∧ m' ((c.tc : Thread Cert.InWgReferenceIdeal.nD Cert.InWgReferenceIdeal.τ).loc Cert.InWgReferenceIdeal.main_arg1) = m ((c.tc : Thread Cert.InWgIdeal.nD Cert.InWgIdeal.τ).loc Cert.InWgIdeal.main_arg1)) →
    ∃ (v0 : (c : Dev Cert.InWgIdeal.nD) → Buf (Elt Ideal) ((c.tc : Thread Cert.InWgIdeal.nD Cert.InWgIdeal.τ).loc Cert.InWgIdeal.main_v0)),
      θ_run (Cert.InWgIdeal.defs (F := Ideal)) (onTc (τ := Cert.InWgIdeal.τ) (Cert.InWgIdeal.main (F := Ideal))) ⟨m, fun _ => 0, g⟩ (fun r => ∀ c : Dev Cert.InWgIdeal.nD,
          r.2.mem ((c.tc : Thread Cert.InWgIdeal.nD Cert.InWgIdeal.τ).loc Cert.InWgIdeal.main_v0) = v0 c
          ∧ r.2.mem ((c.tc : Thread Cert.InWgIdeal.nD Cert.InWgIdeal.τ).loc Cert.InWgIdeal.main_arg0) = m ((c.tc : Thread Cert.InWgIdeal.nD Cert.InWgIdeal.τ).loc Cert.InWgIdeal.main_arg0)
          ∧ r.2.mem ((c.tc : Thread Cert.InWgIdeal.nD Cert.InWgIdeal.τ).loc Cert.InWgIdeal.main_arg1) = m ((c.tc : Thread Cert.InWgIdeal.nD Cert.InWgIdeal.τ).loc Cert.InWgIdeal.main_arg1))
      ∧ θ_run (Cert.InWgReferenceIdeal.defs (F := Ideal)) (onTc (τ := Cert.InWgReferenceIdeal.τ) (Cert.InWgReferenceIdeal.main (F := Ideal))) ⟨m', fun _ => 0, g'⟩ (fun r => ∀ c : Dev Cert.InWgReferenceIdeal.nD,
          r.2.mem ((c.tc : Thread Cert.InWgReferenceIdeal.nD Cert.InWgReferenceIdeal.τ).loc Cert.InWgReferenceIdeal.main_v8) = v0 c
          ∧ r.2.mem ((c.tc : Thread Cert.InWgReferenceIdeal.nD Cert.InWgReferenceIdeal.τ).loc Cert.InWgReferenceIdeal.main_arg0) = m' ((c.tc : Thread Cert.InWgReferenceIdeal.nD Cert.InWgReferenceIdeal.τ).loc Cert.InWgReferenceIdeal.main_arg0)
          ∧ r.2.mem ((c.tc : Thread Cert.InWgReferenceIdeal.nD Cert.InWgReferenceIdeal.τ).loc Cert.InWgReferenceIdeal.main_arg1) = m' ((c.tc : Thread Cert.InWgReferenceIdeal.nD Cert.InWgReferenceIdeal.τ).loc Cert.InWgReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v4) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)
      ∧ m' ((c.tc : Thread Cert.NormBwdReferenceIdeal.nD Cert.NormBwdReferenceIdeal.τ).loc Cert.NormBwdReferenceIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v43) = v0 c
          ∧ r.2.mem ((c.tc : Thread Cert.NormBwdReferenceIdeal.nD Cert.NormBwdReferenceIdeal.τ).loc Cert.NormBwdReferenceIdeal.main_v26) = v1 c
          ∧ r.2.mem ((c.tc : Thread Cert.NormBwdReferenceIdeal.nD Cert.NormBwdReferenceIdeal.τ).loc Cert.NormBwdReferenceIdeal.main_v23) = v2 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3)
          ∧ r.2.mem ((c.tc : Thread Cert.NormBwdReferenceIdeal.nD Cert.NormBwdReferenceIdeal.τ).loc Cert.NormBwdReferenceIdeal.main_arg4) = m' ((c.tc : Thread Cert.NormBwdReferenceIdeal.nD Cert.NormBwdReferenceIdeal.τ).loc Cert.NormBwdReferenceIdeal.main_arg4))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v7) = v0 c
          ∧ r.2.mem ((c.tc : Thread Cert.GateBwdReferenceIdeal.nD Cert.GateBwdReferenceIdeal.τ).loc Cert.GateBwdReferenceIdeal.main_v6) = v1 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2))

def preserves_Act_ActIdeal : Prop :=
  True

def algebraic_ActIdeal_ActReferenceIdeal [hActIdeal : Cert.ActIdeal.Facts] [hActReferenceIdeal : Cert.ActReferenceIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v5) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0))

def preserves_SbIn_SbInIdeal : Prop :=
  True

def algebraic_SbInIdeal_SbInReferenceIdeal [hSbInIdeal : Cert.SbInIdeal.Facts] [hSbInReferenceIdeal : Cert.SbInReferenceIdeal.Facts] : Prop :=
  ∀ (m : (ℓ : Loc Cert.SbInIdeal.nD Cert.SbInIdeal.τ Cert.SbInIdeal.sig) → Buf (Elt Ideal) ℓ) (g : Dev Cert.SbInIdeal.nD → PrngReg)
    (m' : (ℓ : Loc Cert.SbInReferenceIdeal.nD Cert.SbInReferenceIdeal.τ Cert.SbInReferenceIdeal.sig) → Buf (Elt Ideal) ℓ) (g' : Dev Cert.SbInReferenceIdeal.nD → PrngReg), Pre_SbInIdeal m →
    (∀ c : Dev Cert.SbInIdeal.nD,
      m' ((c.tc : Thread Cert.SbInReferenceIdeal.nD Cert.SbInReferenceIdeal.τ).loc Cert.SbInReferenceIdeal.main_arg0) = m ((c.tc : Thread Cert.SbInIdeal.nD Cert.SbInIdeal.τ).loc Cert.SbInIdeal.main_arg0)
      ∧ m' ((c.tc : Thread Cert.SbInReferenceIdeal.nD Cert.SbInReferenceIdeal.τ).loc Cert.SbInReferenceIdeal.main_arg1) = m ((c.tc : Thread Cert.SbInIdeal.nD Cert.SbInIdeal.τ).loc Cert.SbInIdeal.main_arg1)) →
    ∃ (v0 : (c : Dev Cert.SbInIdeal.nD) → Buf (Elt Ideal) ((c.tc : Thread Cert.SbInIdeal.nD Cert.SbInIdeal.τ).loc Cert.SbInIdeal.main_v0)),
      θ_run (Cert.SbInIdeal.defs (F := Ideal)) (onTc (τ := Cert.SbInIdeal.τ) (Cert.SbInIdeal.main (F := Ideal))) ⟨m, fun _ => 0, g⟩ (fun r => ∀ c : Dev Cert.SbInIdeal.nD,
          r.2.mem ((c.tc : Thread Cert.SbInIdeal.nD Cert.SbInIdeal.τ).loc Cert.SbInIdeal.main_v0) = v0 c
          ∧ r.2.mem ((c.tc : Thread Cert.SbInIdeal.nD Cert.SbInIdeal.τ).loc Cert.SbInIdeal.main_arg0) = m ((c.tc : Thread Cert.SbInIdeal.nD Cert.SbInIdeal.τ).loc Cert.SbInIdeal.main_arg0)
          ∧ r.2.mem ((c.tc : Thread Cert.SbInIdeal.nD Cert.SbInIdeal.τ).loc Cert.SbInIdeal.main_arg1) = m ((c.tc : Thread Cert.SbInIdeal.nD Cert.SbInIdeal.τ).loc Cert.SbInIdeal.main_arg1))
      ∧ θ_run (Cert.SbInReferenceIdeal.defs (F := Ideal)) (onTc (τ := Cert.SbInReferenceIdeal.τ) (Cert.SbInReferenceIdeal.main (F := Ideal))) ⟨m', fun _ => 0, g'⟩ (fun r => ∀ c : Dev Cert.SbInReferenceIdeal.nD,
          r.2.mem ((c.tc : Thread Cert.SbInReferenceIdeal.nD Cert.SbInReferenceIdeal.τ).loc Cert.SbInReferenceIdeal.main_v3) = v0 c
          ∧ r.2.mem ((c.tc : Thread Cert.SbInReferenceIdeal.nD Cert.SbInReferenceIdeal.τ).loc Cert.SbInReferenceIdeal.main_arg0) = m' ((c.tc : Thread Cert.SbInReferenceIdeal.nD Cert.SbInReferenceIdeal.τ).loc Cert.SbInReferenceIdeal.main_arg0)
          ∧ r.2.mem ((c.tc : Thread Cert.SbInReferenceIdeal.nD Cert.SbInReferenceIdeal.τ).loc Cert.SbInReferenceIdeal.main_arg1) = m' ((c.tc : Thread Cert.SbInReferenceIdeal.nD Cert.SbInReferenceIdeal.τ).loc Cert.SbInReferenceIdeal.main_arg1))

def preserves_SbInBwd_SbInBwdIdeal : Prop :=
  True

def algebraic_SbInBwdIdeal_SbInBwdReferenceIdeal [hSbInBwdIdeal : Cert.SbInBwdIdeal.Facts] [hSbInBwdReferenceIdeal : Cert.SbInBwdReferenceIdeal.Facts] : Prop :=
  ∀ (m : (ℓ : Loc Cert.SbInBwdIdeal.nD Cert.SbInBwdIdeal.τ Cert.SbInBwdIdeal.sig) → Buf (Elt Ideal) ℓ) (g : Dev Cert.SbInBwdIdeal.nD → PrngReg)
    (m' : (ℓ : Loc Cert.SbInBwdReferenceIdeal.nD Cert.SbInBwdReferenceIdeal.τ Cert.SbInBwdReferenceIdeal.sig) → Buf (Elt Ideal) ℓ) (g' : Dev Cert.SbInBwdReferenceIdeal.nD → PrngReg), Pre_SbInBwdIdeal m →
    (∀ c : Dev Cert.SbInBwdIdeal.nD,
      m' ((c.tc : Thread Cert.SbInBwdReferenceIdeal.nD Cert.SbInBwdReferenceIdeal.τ).loc Cert.SbInBwdReferenceIdeal.main_arg0) = m ((c.tc : Thread Cert.SbInBwdIdeal.nD Cert.SbInBwdIdeal.τ).loc Cert.SbInBwdIdeal.main_arg0)
      ∧ m' ((c.tc : Thread Cert.SbInBwdReferenceIdeal.nD Cert.SbInBwdReferenceIdeal.τ).loc Cert.SbInBwdReferenceIdeal.main_arg1) = m ((c.tc : Thread Cert.SbInBwdIdeal.nD Cert.SbInBwdIdeal.τ).loc Cert.SbInBwdIdeal.main_arg1)) →
    ∃ (v0 : (c : Dev Cert.SbInBwdIdeal.nD) → Buf (Elt Ideal) ((c.tc : Thread Cert.SbInBwdIdeal.nD Cert.SbInBwdIdeal.τ).loc Cert.SbInBwdIdeal.main_v0)),
      θ_run (Cert.SbInBwdIdeal.defs (F := Ideal)) (onTc (τ := Cert.SbInBwdIdeal.τ) (Cert.SbInBwdIdeal.main (F := Ideal))) ⟨m, fun _ => 0, g⟩ (fun r => ∀ c : Dev Cert.SbInBwdIdeal.nD,
          r.2.mem ((c.tc : Thread Cert.SbInBwdIdeal.nD Cert.SbInBwdIdeal.τ).loc Cert.SbInBwdIdeal.main_v0) = v0 c
          ∧ r.2.mem ((c.tc : Thread Cert.SbInBwdIdeal.nD Cert.SbInBwdIdeal.τ).loc Cert.SbInBwdIdeal.main_arg0) = m ((c.tc : Thread Cert.SbInBwdIdeal.nD Cert.SbInBwdIdeal.τ).loc Cert.SbInBwdIdeal.main_arg0)
          ∧ r.2.mem ((c.tc : Thread Cert.SbInBwdIdeal.nD Cert.SbInBwdIdeal.τ).loc Cert.SbInBwdIdeal.main_arg1) = m ((c.tc : Thread Cert.SbInBwdIdeal.nD Cert.SbInBwdIdeal.τ).loc Cert.SbInBwdIdeal.main_arg1))
      ∧ θ_run (Cert.SbInBwdReferenceIdeal.defs (F := Ideal)) (onTc (τ := Cert.SbInBwdReferenceIdeal.τ) (Cert.SbInBwdReferenceIdeal.main (F := Ideal))) ⟨m', fun _ => 0, g'⟩ (fun r => ∀ c : Dev Cert.SbInBwdReferenceIdeal.nD,
          r.2.mem ((c.tc : Thread Cert.SbInBwdReferenceIdeal.nD Cert.SbInBwdReferenceIdeal.τ).loc Cert.SbInBwdReferenceIdeal.main_v5) = v0 c
          ∧ r.2.mem ((c.tc : Thread Cert.SbInBwdReferenceIdeal.nD Cert.SbInBwdReferenceIdeal.τ).loc Cert.SbInBwdReferenceIdeal.main_arg0) = m' ((c.tc : Thread Cert.SbInBwdReferenceIdeal.nD Cert.SbInBwdReferenceIdeal.τ).loc Cert.SbInBwdReferenceIdeal.main_arg0)
          ∧ r.2.mem ((c.tc : Thread Cert.SbInBwdReferenceIdeal.nD Cert.SbInBwdReferenceIdeal.τ).loc Cert.SbInBwdReferenceIdeal.main_arg1) = m' ((c.tc : Thread Cert.SbInBwdReferenceIdeal.nD Cert.SbInBwdReferenceIdeal.τ).loc Cert.SbInBwdReferenceIdeal.main_arg1))

def preserves_SbInWg_SbInWgIdeal : Prop :=
  True

def algebraic_SbInWgIdeal_SbInWgReferenceIdeal [hSbInWgIdeal : Cert.SbInWgIdeal.Facts] [hSbInWgReferenceIdeal : Cert.SbInWgReferenceIdeal.Facts] : Prop :=
  ∀ (m : (ℓ : Loc Cert.SbInWgIdeal.nD Cert.SbInWgIdeal.τ Cert.SbInWgIdeal.sig) → Buf (Elt Ideal) ℓ) (g : Dev Cert.SbInWgIdeal.nD → PrngReg)
    (m' : (ℓ : Loc Cert.SbInWgReferenceIdeal.nD Cert.SbInWgReferenceIdeal.τ Cert.SbInWgReferenceIdeal.sig) → Buf (Elt Ideal) ℓ) (g' : Dev Cert.SbInWgReferenceIdeal.nD → PrngReg), Pre_SbInWgIdeal m →
    (∀ c : Dev Cert.SbInWgIdeal.nD,
      m' ((c.tc : Thread Cert.SbInWgReferenceIdeal.nD Cert.SbInWgReferenceIdeal.τ).loc Cert.SbInWgReferenceIdeal.main_arg0) = m ((c.tc : Thread Cert.SbInWgIdeal.nD Cert.SbInWgIdeal.τ).loc Cert.SbInWgIdeal.main_arg0)
      ∧ m' ((c.tc : Thread Cert.SbInWgReferenceIdeal.nD Cert.SbInWgReferenceIdeal.τ).loc Cert.SbInWgReferenceIdeal.main_arg1) = m ((c.tc : Thread Cert.SbInWgIdeal.nD Cert.SbInWgIdeal.τ).loc Cert.SbInWgIdeal.main_arg1)) →
    ∃ (v0 : (c : Dev Cert.SbInWgIdeal.nD) → Buf (Elt Ideal) ((c.tc : Thread Cert.SbInWgIdeal.nD Cert.SbInWgIdeal.τ).loc Cert.SbInWgIdeal.main_v0)),
      θ_run (Cert.SbInWgIdeal.defs (F := Ideal)) (onTc (τ := Cert.SbInWgIdeal.τ) (Cert.SbInWgIdeal.main (F := Ideal))) ⟨m, fun _ => 0, g⟩ (fun r => ∀ c : Dev Cert.SbInWgIdeal.nD,
          r.2.mem ((c.tc : Thread Cert.SbInWgIdeal.nD Cert.SbInWgIdeal.τ).loc Cert.SbInWgIdeal.main_v0) = v0 c
          ∧ r.2.mem ((c.tc : Thread Cert.SbInWgIdeal.nD Cert.SbInWgIdeal.τ).loc Cert.SbInWgIdeal.main_arg0) = m ((c.tc : Thread Cert.SbInWgIdeal.nD Cert.SbInWgIdeal.τ).loc Cert.SbInWgIdeal.main_arg0)
          ∧ r.2.mem ((c.tc : Thread Cert.SbInWgIdeal.nD Cert.SbInWgIdeal.τ).loc Cert.SbInWgIdeal.main_arg1) = m ((c.tc : Thread Cert.SbInWgIdeal.nD Cert.SbInWgIdeal.τ).loc Cert.SbInWgIdeal.main_arg1))
      ∧ θ_run (Cert.SbInWgReferenceIdeal.defs (F := Ideal)) (onTc (τ := Cert.SbInWgReferenceIdeal.τ) (Cert.SbInWgReferenceIdeal.main (F := Ideal))) ⟨m', fun _ => 0, g'⟩ (fun r => ∀ c : Dev Cert.SbInWgReferenceIdeal.nD,
          r.2.mem ((c.tc : Thread Cert.SbInWgReferenceIdeal.nD Cert.SbInWgReferenceIdeal.τ).loc Cert.SbInWgReferenceIdeal.main_v8) = v0 c
          ∧ r.2.mem ((c.tc : Thread Cert.SbInWgReferenceIdeal.nD Cert.SbInWgReferenceIdeal.τ).loc Cert.SbInWgReferenceIdeal.main_arg0) = m' ((c.tc : Thread Cert.SbInWgReferenceIdeal.nD Cert.SbInWgReferenceIdeal.τ).loc Cert.SbInWgReferenceIdeal.main_arg0)
          ∧ r.2.mem ((c.tc : Thread Cert.SbInWgReferenceIdeal.nD Cert.SbInWgReferenceIdeal.τ).loc Cert.SbInWgReferenceIdeal.main_arg1) = m' ((c.tc : Thread Cert.SbInWgReferenceIdeal.nD Cert.SbInWgReferenceIdeal.τ).loc Cert.SbInWgReferenceIdeal.main_arg1))

def preserves_DnIn_DnInIdeal : Prop :=
  True

def algebraic_DnInIdeal_DnInReferenceIdeal [hDnInIdeal : Cert.DnInIdeal.Facts] [hDnInReferenceIdeal : Cert.DnInReferenceIdeal.Facts] : Prop :=
  ∀ (m : (ℓ : Loc Cert.DnInIdeal.nD Cert.DnInIdeal.τ Cert.DnInIdeal.sig) → Buf (Elt Ideal) ℓ) (g : Dev Cert.DnInIdeal.nD → PrngReg)
    (m' : (ℓ : Loc Cert.DnInReferenceIdeal.nD Cert.DnInReferenceIdeal.τ Cert.DnInReferenceIdeal.sig) → Buf (Elt Ideal) ℓ) (g' : Dev Cert.DnInReferenceIdeal.nD → PrngReg), Pre_DnInIdeal m →
    (∀ c : Dev Cert.DnInIdeal.nD,
      m' ((c.tc : Thread Cert.DnInReferenceIdeal.nD Cert.DnInReferenceIdeal.τ).loc Cert.DnInReferenceIdeal.main_arg0) = m ((c.tc : Thread Cert.DnInIdeal.nD Cert.DnInIdeal.τ).loc Cert.DnInIdeal.main_arg0)
      ∧ m' ((c.tc : Thread Cert.DnInReferenceIdeal.nD Cert.DnInReferenceIdeal.τ).loc Cert.DnInReferenceIdeal.main_arg1) = m ((c.tc : Thread Cert.DnInIdeal.nD Cert.DnInIdeal.τ).loc Cert.DnInIdeal.main_arg1)) →
    ∃ (v0 : (c : Dev Cert.DnInIdeal.nD) → Buf (Elt Ideal) ((c.tc : Thread Cert.DnInIdeal.nD Cert.DnInIdeal.τ).loc Cert.DnInIdeal.main_v0)),
      θ_run (Cert.DnInIdeal.defs (F := Ideal)) (onTc (τ := Cert.DnInIdeal.τ) (Cert.DnInIdeal.main (F := Ideal))) ⟨m, fun _ => 0, g⟩ (fun r => ∀ c : Dev Cert.DnInIdeal.nD,
          r.2.mem ((c.tc : Thread Cert.DnInIdeal.nD Cert.DnInIdeal.τ).loc Cert.DnInIdeal.main_v0) = v0 c
          ∧ r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
          ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1))
      ∧ θ_run (Cert.DnInReferenceIdeal.defs (F := Ideal)) (onTc (τ := Cert.DnInReferenceIdeal.τ) (Cert.DnInReferenceIdeal.main (F := Ideal))) ⟨m', fun _ => 0, g'⟩ (fun r => ∀ c : Dev Cert.DnInReferenceIdeal.nD,
          r.2.mem ((c.tc : Thread Cert.DnInReferenceIdeal.nD Cert.DnInReferenceIdeal.τ).loc Cert.DnInReferenceIdeal.main_v3) = v0 c
          ∧ r.2.mem ((c.tc : Thread Cert.DnInReferenceIdeal.nD Cert.DnInReferenceIdeal.τ).loc Cert.DnInReferenceIdeal.main_arg0) = m' ((c.tc : Thread Cert.DnInReferenceIdeal.nD Cert.DnInReferenceIdeal.τ).loc Cert.DnInReferenceIdeal.main_arg0)
          ∧ r.2.mem ((c.tc : Thread Cert.DnInReferenceIdeal.nD Cert.DnInReferenceIdeal.τ).loc Cert.DnInReferenceIdeal.main_arg1) = m' ((c.tc : Thread Cert.DnInReferenceIdeal.nD Cert.DnInReferenceIdeal.τ).loc Cert.DnInReferenceIdeal.main_arg1))

def preserves_DnInBwd_DnInBwdIdeal : Prop :=
  True

def algebraic_DnInBwdIdeal_DnInBwdReferenceIdeal [hDnInBwdIdeal : Cert.DnInBwdIdeal.Facts] [hDnInBwdReferenceIdeal : Cert.DnInBwdReferenceIdeal.Facts] : Prop :=
  ∀ (m : (ℓ : Loc Cert.DnInBwdIdeal.nD Cert.DnInBwdIdeal.τ Cert.DnInBwdIdeal.sig) → Buf (Elt Ideal) ℓ) (g : Dev Cert.DnInBwdIdeal.nD → PrngReg)
    (m' : (ℓ : Loc Cert.DnInBwdReferenceIdeal.nD Cert.DnInBwdReferenceIdeal.τ Cert.DnInBwdReferenceIdeal.sig) → Buf (Elt Ideal) ℓ) (g' : Dev Cert.DnInBwdReferenceIdeal.nD → PrngReg), Pre_DnInBwdIdeal m →
    (∀ c : Dev Cert.DnInBwdIdeal.nD,
      m' ((c.tc : Thread Cert.DnInBwdReferenceIdeal.nD Cert.DnInBwdReferenceIdeal.τ).loc Cert.DnInBwdReferenceIdeal.main_arg0) = m ((c.tc : Thread Cert.DnInBwdIdeal.nD Cert.DnInBwdIdeal.τ).loc Cert.DnInBwdIdeal.main_arg0)
      ∧ m' ((c.tc : Thread Cert.DnInBwdReferenceIdeal.nD Cert.DnInBwdReferenceIdeal.τ).loc Cert.DnInBwdReferenceIdeal.main_arg1) = m ((c.tc : Thread Cert.DnInBwdIdeal.nD Cert.DnInBwdIdeal.τ).loc Cert.DnInBwdIdeal.main_arg1)) →
    ∃ (v0 : (c : Dev Cert.DnInBwdIdeal.nD) → Buf (Elt Ideal) ((c.tc : Thread Cert.DnInBwdIdeal.nD Cert.DnInBwdIdeal.τ).loc Cert.DnInBwdIdeal.main_v0)),
      θ_run (Cert.DnInBwdIdeal.defs (F := Ideal)) (onTc (τ := Cert.DnInBwdIdeal.τ) (Cert.DnInBwdIdeal.main (F := Ideal))) ⟨m, fun _ => 0, g⟩ (fun r => ∀ c : Dev Cert.DnInBwdIdeal.nD,
          r.2.mem ((c.tc : Thread Cert.DnInBwdIdeal.nD Cert.DnInBwdIdeal.τ).loc Cert.DnInBwdIdeal.main_v0) = v0 c
          ∧ r.2.mem ((c.tc : Thread Cert.DnInBwdIdeal.nD Cert.DnInBwdIdeal.τ).loc Cert.DnInBwdIdeal.main_arg0) = m ((c.tc : Thread Cert.DnInBwdIdeal.nD Cert.DnInBwdIdeal.τ).loc Cert.DnInBwdIdeal.main_arg0)
          ∧ r.2.mem ((c.tc : Thread Cert.DnInBwdIdeal.nD Cert.DnInBwdIdeal.τ).loc Cert.DnInBwdIdeal.main_arg1) = m ((c.tc : Thread Cert.DnInBwdIdeal.nD Cert.DnInBwdIdeal.τ).loc Cert.DnInBwdIdeal.main_arg1))
      ∧ θ_run (Cert.DnInBwdReferenceIdeal.defs (F := Ideal)) (onTc (τ := Cert.DnInBwdReferenceIdeal.τ) (Cert.DnInBwdReferenceIdeal.main (F := Ideal))) ⟨m', fun _ => 0, g'⟩ (fun r => ∀ c : Dev Cert.DnInBwdReferenceIdeal.nD,
          r.2.mem ((c.tc : Thread Cert.DnInBwdReferenceIdeal.nD Cert.DnInBwdReferenceIdeal.τ).loc Cert.DnInBwdReferenceIdeal.main_v5) = v0 c
          ∧ r.2.mem ((c.tc : Thread Cert.DnInBwdReferenceIdeal.nD Cert.DnInBwdReferenceIdeal.τ).loc Cert.DnInBwdReferenceIdeal.main_arg0) = m' ((c.tc : Thread Cert.DnInBwdReferenceIdeal.nD Cert.DnInBwdReferenceIdeal.τ).loc Cert.DnInBwdReferenceIdeal.main_arg0)
          ∧ r.2.mem ((c.tc : Thread Cert.DnInBwdReferenceIdeal.nD Cert.DnInBwdReferenceIdeal.τ).loc Cert.DnInBwdReferenceIdeal.main_arg1) = m' ((c.tc : Thread Cert.DnInBwdReferenceIdeal.nD Cert.DnInBwdReferenceIdeal.τ).loc Cert.DnInBwdReferenceIdeal.main_arg1))

def preserves_DnInWg_DnInWgIdeal : Prop :=
  True

def algebraic_DnInWgIdeal_DnInWgReferenceIdeal [hDnInWgIdeal : Cert.DnInWgIdeal.Facts] [hDnInWgReferenceIdeal : Cert.DnInWgReferenceIdeal.Facts] : Prop :=
  ∀ (m : (ℓ : Loc Cert.DnInWgIdeal.nD Cert.DnInWgIdeal.τ Cert.DnInWgIdeal.sig) → Buf (Elt Ideal) ℓ) (g : Dev Cert.DnInWgIdeal.nD → PrngReg)
    (m' : (ℓ : Loc Cert.DnInWgReferenceIdeal.nD Cert.DnInWgReferenceIdeal.τ Cert.DnInWgReferenceIdeal.sig) → Buf (Elt Ideal) ℓ) (g' : Dev Cert.DnInWgReferenceIdeal.nD → PrngReg), Pre_DnInWgIdeal m →
    (∀ c : Dev Cert.DnInWgIdeal.nD,
      m' ((c.tc : Thread Cert.DnInWgReferenceIdeal.nD Cert.DnInWgReferenceIdeal.τ).loc Cert.DnInWgReferenceIdeal.main_arg0) = m ((c.tc : Thread Cert.DnInWgIdeal.nD Cert.DnInWgIdeal.τ).loc Cert.DnInWgIdeal.main_arg0)
      ∧ m' ((c.tc : Thread Cert.DnInWgReferenceIdeal.nD Cert.DnInWgReferenceIdeal.τ).loc Cert.DnInWgReferenceIdeal.main_arg1) = m ((c.tc : Thread Cert.DnInWgIdeal.nD Cert.DnInWgIdeal.τ).loc Cert.DnInWgIdeal.main_arg1)) →
    ∃ (v0 : (c : Dev Cert.DnInWgIdeal.nD) → Buf (Elt Ideal) ((c.tc : Thread Cert.DnInWgIdeal.nD Cert.DnInWgIdeal.τ).loc Cert.DnInWgIdeal.main_v0)),
      θ_run (Cert.DnInWgIdeal.defs (F := Ideal)) (onTc (τ := Cert.DnInWgIdeal.τ) (Cert.DnInWgIdeal.main (F := Ideal))) ⟨m, fun _ => 0, g⟩ (fun r => ∀ c : Dev Cert.DnInWgIdeal.nD,
          r.2.mem ((c.tc : Thread Cert.DnInWgIdeal.nD Cert.DnInWgIdeal.τ).loc Cert.DnInWgIdeal.main_v0) = v0 c
          ∧ r.2.mem ((c.tc : Thread Cert.DnInWgIdeal.nD Cert.DnInWgIdeal.τ).loc Cert.DnInWgIdeal.main_arg0) = m ((c.tc : Thread Cert.DnInWgIdeal.nD Cert.DnInWgIdeal.τ).loc Cert.DnInWgIdeal.main_arg0)
          ∧ r.2.mem ((c.tc : Thread Cert.DnInWgIdeal.nD Cert.DnInWgIdeal.τ).loc Cert.DnInWgIdeal.main_arg1) = m ((c.tc : Thread Cert.DnInWgIdeal.nD Cert.DnInWgIdeal.τ).loc Cert.DnInWgIdeal.main_arg1))
      ∧ θ_run (Cert.DnInWgReferenceIdeal.defs (F := Ideal)) (onTc (τ := Cert.DnInWgReferenceIdeal.τ) (Cert.DnInWgReferenceIdeal.main (F := Ideal))) ⟨m', fun _ => 0, g'⟩ (fun r => ∀ c : Dev Cert.DnInWgReferenceIdeal.nD,
          r.2.mem ((c.tc : Thread Cert.DnInWgReferenceIdeal.nD Cert.DnInWgReferenceIdeal.τ).loc Cert.DnInWgReferenceIdeal.main_v8) = v0 c
          ∧ r.2.mem ((c.tc : Thread Cert.DnInWgReferenceIdeal.nD Cert.DnInWgReferenceIdeal.τ).loc Cert.DnInWgReferenceIdeal.main_arg0) = m' ((c.tc : Thread Cert.DnInWgReferenceIdeal.nD Cert.DnInWgReferenceIdeal.τ).loc Cert.DnInWgReferenceIdeal.main_arg0)
          ∧ r.2.mem ((c.tc : Thread Cert.DnInWgReferenceIdeal.nD Cert.DnInWgReferenceIdeal.τ).loc Cert.DnInWgReferenceIdeal.main_arg1) = m' ((c.tc : Thread Cert.DnInWgReferenceIdeal.nD Cert.DnInWgReferenceIdeal.τ).loc Cert.DnInWgReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_SbOutBwd_SbOutBwdIdeal : Prop :=
  True

def algebraic_SbOutBwdIdeal_SbOutBwdReferenceIdeal [hSbOutBwdIdeal : Cert.SbOutBwdIdeal.Facts] [hSbOutBwdReferenceIdeal : Cert.SbOutBwdReferenceIdeal.Facts] : Prop :=
  ∀ (m : (ℓ : Loc Cert.SbOutBwdIdeal.nD Cert.SbOutBwdIdeal.τ Cert.SbOutBwdIdeal.sig) → Buf (Elt Ideal) ℓ) (g : Dev Cert.SbOutBwdIdeal.nD → PrngReg)
    (m' : (ℓ : Loc Cert.SbOutBwdReferenceIdeal.nD Cert.SbOutBwdReferenceIdeal.τ Cert.SbOutBwdReferenceIdeal.sig) → Buf (Elt Ideal) ℓ) (g' : Dev Cert.SbOutBwdReferenceIdeal.nD → PrngReg), Pre_SbOutBwdIdeal m →
    (∀ c : Dev Cert.SbOutBwdIdeal.nD,
      m' ((c.tc : Thread Cert.SbOutBwdReferenceIdeal.nD Cert.SbOutBwdReferenceIdeal.τ).loc Cert.SbOutBwdReferenceIdeal.main_arg0) = m ((c.tc : Thread Cert.SbOutBwdIdeal.nD Cert.SbOutBwdIdeal.τ).loc Cert.SbOutBwdIdeal.main_arg0)
      ∧ m' ((c.tc : Thread Cert.SbOutBwdReferenceIdeal.nD Cert.SbOutBwdReferenceIdeal.τ).loc Cert.SbOutBwdReferenceIdeal.main_arg1) = m ((c.tc : Thread Cert.SbOutBwdIdeal.nD Cert.SbOutBwdIdeal.τ).loc Cert.SbOutBwdIdeal.main_arg1)) →
    ∃ (v0 : (c : Dev Cert.SbOutBwdIdeal.nD) → Buf (Elt Ideal) ((c.tc : Thread Cert.SbOutBwdIdeal.nD Cert.SbOutBwdIdeal.τ).loc Cert.SbOutBwdIdeal.main_v0)),
      θ_run (Cert.SbOutBwdIdeal.defs (F := Ideal)) (onTc (τ := Cert.SbOutBwdIdeal.τ) (Cert.SbOutBwdIdeal.main (F := Ideal))) ⟨m, fun _ => 0, g⟩ (fun r => ∀ c : Dev Cert.SbOutBwdIdeal.nD,
          r.2.mem ((c.tc : Thread Cert.SbOutBwdIdeal.nD Cert.SbOutBwdIdeal.τ).loc Cert.SbOutBwdIdeal.main_v0) = v0 c
          ∧ r.2.mem ((c.tc : Thread Cert.SbOutBwdIdeal.nD Cert.SbOutBwdIdeal.τ).loc Cert.SbOutBwdIdeal.main_arg0) = m ((c.tc : Thread Cert.SbOutBwdIdeal.nD Cert.SbOutBwdIdeal.τ).loc Cert.SbOutBwdIdeal.main_arg0)
          ∧ r.2.mem ((c.tc : Thread Cert.SbOutBwdIdeal.nD Cert.SbOutBwdIdeal.τ).loc Cert.SbOutBwdIdeal.main_arg1) = m ((c.tc : Thread Cert.SbOutBwdIdeal.nD Cert.SbOutBwdIdeal.τ).loc Cert.SbOutBwdIdeal.main_arg1))
      ∧ θ_run (Cert.SbOutBwdReferenceIdeal.defs (F := Ideal)) (onTc (τ := Cert.SbOutBwdReferenceIdeal.τ) (Cert.SbOutBwdReferenceIdeal.main (F := Ideal))) ⟨m', fun _ => 0, g'⟩ (fun r => ∀ c : Dev Cert.SbOutBwdReferenceIdeal.nD,
          r.2.mem ((c.tc : Thread Cert.SbOutBwdReferenceIdeal.nD Cert.SbOutBwdReferenceIdeal.τ).loc Cert.SbOutBwdReferenceIdeal.main_v5) = v0 c
          ∧ r.2.mem ((c.tc : Thread Cert.SbOutBwdReferenceIdeal.nD Cert.SbOutBwdReferenceIdeal.τ).loc Cert.SbOutBwdReferenceIdeal.main_arg0) = m' ((c.tc : Thread Cert.SbOutBwdReferenceIdeal.nD Cert.SbOutBwdReferenceIdeal.τ).loc Cert.SbOutBwdReferenceIdeal.main_arg0)
          ∧ r.2.mem ((c.tc : Thread Cert.SbOutBwdReferenceIdeal.nD Cert.SbOutBwdReferenceIdeal.τ).loc Cert.SbOutBwdReferenceIdeal.main_arg1) = m' ((c.tc : Thread Cert.SbOutBwdReferenceIdeal.nD Cert.SbOutBwdReferenceIdeal.τ).loc Cert.SbOutBwdReferenceIdeal.main_arg1))

def preserves_DnOutBwd_DnOutBwdIdeal : Prop :=
  True

def algebraic_DnOutBwdIdeal_DnOutBwdReferenceIdeal [hDnOutBwdIdeal : Cert.DnOutBwdIdeal.Facts] [hDnOutBwdReferenceIdeal : Cert.DnOutBwdReferenceIdeal.Facts] : Prop :=
  ∀ (m : (ℓ : Loc Cert.DnOutBwdIdeal.nD Cert.DnOutBwdIdeal.τ Cert.DnOutBwdIdeal.sig) → Buf (Elt Ideal) ℓ) (g : Dev Cert.DnOutBwdIdeal.nD → PrngReg)
    (m' : (ℓ : Loc Cert.DnOutBwdReferenceIdeal.nD Cert.DnOutBwdReferenceIdeal.τ Cert.DnOutBwdReferenceIdeal.sig) → Buf (Elt Ideal) ℓ) (g' : Dev Cert.DnOutBwdReferenceIdeal.nD → PrngReg), Pre_DnOutBwdIdeal m →
    (∀ c : Dev Cert.DnOutBwdIdeal.nD,
      m' ((c.tc : Thread Cert.DnOutBwdReferenceIdeal.nD Cert.DnOutBwdReferenceIdeal.τ).loc Cert.DnOutBwdReferenceIdeal.main_arg0) = m ((c.tc : Thread Cert.DnOutBwdIdeal.nD Cert.DnOutBwdIdeal.τ).loc Cert.DnOutBwdIdeal.main_arg0)
      ∧ m' ((c.tc : Thread Cert.DnOutBwdReferenceIdeal.nD Cert.DnOutBwdReferenceIdeal.τ).loc Cert.DnOutBwdReferenceIdeal.main_arg1) = m ((c.tc : Thread Cert.DnOutBwdIdeal.nD Cert.DnOutBwdIdeal.τ).loc Cert.DnOutBwdIdeal.main_arg1)) →
    ∃ (v0 : (c : Dev Cert.DnOutBwdIdeal.nD) → Buf (Elt Ideal) ((c.tc : Thread Cert.DnOutBwdIdeal.nD Cert.DnOutBwdIdeal.τ).loc Cert.DnOutBwdIdeal.main_v0)),
      θ_run (Cert.DnOutBwdIdeal.defs (F := Ideal)) (onTc (τ := Cert.DnOutBwdIdeal.τ) (Cert.DnOutBwdIdeal.main (F := Ideal))) ⟨m, fun _ => 0, g⟩ (fun r => ∀ c : Dev Cert.DnOutBwdIdeal.nD,
          r.2.mem ((c.tc : Thread Cert.DnOutBwdIdeal.nD Cert.DnOutBwdIdeal.τ).loc Cert.DnOutBwdIdeal.main_v0) = v0 c
          ∧ r.2.mem ((c.tc : Thread Cert.DnOutBwdIdeal.nD Cert.DnOutBwdIdeal.τ).loc Cert.DnOutBwdIdeal.main_arg0) = m ((c.tc : Thread Cert.DnOutBwdIdeal.nD Cert.DnOutBwdIdeal.τ).loc Cert.DnOutBwdIdeal.main_arg0)
          ∧ r.2.mem ((c.tc : Thread Cert.DnOutBwdIdeal.nD Cert.DnOutBwdIdeal.τ).loc Cert.DnOutBwdIdeal.main_arg1) = m ((c.tc : Thread Cert.DnOutBwdIdeal.nD Cert.DnOutBwdIdeal.τ).loc Cert.DnOutBwdIdeal.main_arg1))
      ∧ θ_run (Cert.DnOutBwdReferenceIdeal.defs (F := Ideal)) (onTc (τ := Cert.DnOutBwdReferenceIdeal.τ) (Cert.DnOutBwdReferenceIdeal.main (F := Ideal))) ⟨m', fun _ => 0, g'⟩ (fun r => ∀ c : Dev Cert.DnOutBwdReferenceIdeal.nD,
          r.2.mem ((c.tc : Thread Cert.DnOutBwdReferenceIdeal.nD Cert.DnOutBwdReferenceIdeal.τ).loc Cert.DnOutBwdReferenceIdeal.main_v4) = v0 c
          ∧ r.2.mem ((c.tc : Thread Cert.DnOutBwdReferenceIdeal.nD Cert.DnOutBwdReferenceIdeal.τ).loc Cert.DnOutBwdReferenceIdeal.main_arg0) = m' ((c.tc : Thread Cert.DnOutBwdReferenceIdeal.nD Cert.DnOutBwdReferenceIdeal.τ).loc Cert.DnOutBwdReferenceIdeal.main_arg0)
          ∧ r.2.mem ((c.tc : Thread Cert.DnOutBwdReferenceIdeal.nD Cert.DnOutBwdReferenceIdeal.τ).loc Cert.DnOutBwdReferenceIdeal.main_arg1) = m' ((c.tc : Thread Cert.DnOutBwdReferenceIdeal.nD Cert.DnOutBwdReferenceIdeal.τ).loc Cert.DnOutBwdReferenceIdeal.main_arg1))

def preserves_MixOutWg_MixOutWgIdeal : Prop :=
  True

def algebraic_MixOutWgIdeal_MixOutWgReferenceIdeal [hMixOutWgIdeal : Cert.MixOutWgIdeal.Facts] [hMixOutWgReferenceIdeal : Cert.MixOutWgReferenceIdeal.Facts] : Prop :=
  ∀ (m : (ℓ : Loc Cert.MixOutWgIdeal.nD Cert.MixOutWgIdeal.τ Cert.MixOutWgIdeal.sig) → Buf (Elt Ideal) ℓ) (g : Dev Cert.MixOutWgIdeal.nD → PrngReg)
    (m' : (ℓ : Loc Cert.MixOutWgReferenceIdeal.nD Cert.MixOutWgReferenceIdeal.τ Cert.MixOutWgReferenceIdeal.sig) → Buf (Elt Ideal) ℓ) (g' : Dev Cert.MixOutWgReferenceIdeal.nD → PrngReg), Pre_MixOutWgIdeal m →
    (∀ c : Dev Cert.MixOutWgIdeal.nD,
      m' ((c.tc : Thread Cert.MixOutWgReferenceIdeal.nD Cert.MixOutWgReferenceIdeal.τ).loc Cert.MixOutWgReferenceIdeal.main_arg0) = m ((c.tc : Thread Cert.MixOutWgIdeal.nD Cert.MixOutWgIdeal.τ).loc Cert.MixOutWgIdeal.main_arg0)
      ∧ m' ((c.tc : Thread Cert.MixOutWgReferenceIdeal.nD Cert.MixOutWgReferenceIdeal.τ).loc Cert.MixOutWgReferenceIdeal.main_arg1) = m ((c.tc : Thread Cert.MixOutWgIdeal.nD Cert.MixOutWgIdeal.τ).loc Cert.MixOutWgIdeal.main_arg1)) →
    ∃ (v0 : (c : Dev Cert.MixOutWgIdeal.nD) → Buf (Elt Ideal) ((c.tc : Thread Cert.MixOutWgIdeal.nD Cert.MixOutWgIdeal.τ).loc Cert.MixOutWgIdeal.main_v0)),
      θ_run (Cert.MixOutWgIdeal.defs (F := Ideal)) (onTc (τ := Cert.MixOutWgIdeal.τ) (Cert.MixOutWgIdeal.main (F := Ideal))) ⟨m, fun _ => 0, g⟩ (fun r => ∀ c : Dev Cert.MixOutWgIdeal.nD,
          r.2.mem ((c.tc : Thread Cert.MixOutWgIdeal.nD Cert.MixOutWgIdeal.τ).loc Cert.MixOutWgIdeal.main_v0) = v0 c
          ∧ r.2.mem ((c.tc : Thread Cert.MixOutWgIdeal.nD Cert.MixOutWgIdeal.τ).loc Cert.MixOutWgIdeal.main_arg0) = m ((c.tc : Thread Cert.MixOutWgIdeal.nD Cert.MixOutWgIdeal.τ).loc Cert.MixOutWgIdeal.main_arg0)
          ∧ r.2.mem ((c.tc : Thread Cert.MixOutWgIdeal.nD Cert.MixOutWgIdeal.τ).loc Cert.MixOutWgIdeal.main_arg1) = m ((c.tc : Thread Cert.MixOutWgIdeal.nD Cert.MixOutWgIdeal.τ).loc Cert.MixOutWgIdeal.main_arg1))
      ∧ θ_run (Cert.MixOutWgReferenceIdeal.defs (F := Ideal)) (onTc (τ := Cert.MixOutWgReferenceIdeal.τ) (Cert.MixOutWgReferenceIdeal.main (F := Ideal))) ⟨m', fun _ => 0, g'⟩ (fun r => ∀ c : Dev Cert.MixOutWgReferenceIdeal.nD,
          r.2.mem ((c.tc : Thread Cert.MixOutWgReferenceIdeal.nD Cert.MixOutWgReferenceIdeal.τ).loc Cert.MixOutWgReferenceIdeal.main_v6) = v0 c
          ∧ r.2.mem ((c.tc : Thread Cert.MixOutWgReferenceIdeal.nD Cert.MixOutWgReferenceIdeal.τ).loc Cert.MixOutWgReferenceIdeal.main_arg0) = m' ((c.tc : Thread Cert.MixOutWgReferenceIdeal.nD Cert.MixOutWgReferenceIdeal.τ).loc Cert.MixOutWgReferenceIdeal.main_arg0)
          ∧ r.2.mem ((c.tc : Thread Cert.MixOutWgReferenceIdeal.nD Cert.MixOutWgReferenceIdeal.τ).loc Cert.MixOutWgReferenceIdeal.main_arg1) = m' ((c.tc : Thread Cert.MixOutWgReferenceIdeal.nD Cert.MixOutWgReferenceIdeal.τ).loc Cert.MixOutWgReferenceIdeal.main_arg1))

def preserves_AdaBwd_AdaBwdIdeal : Prop :=
  True

def algebraic_AdaBwdIdeal_AdaBwdReferenceIdeal [hAdaBwdIdeal : Cert.AdaBwdIdeal.Facts] [hAdaBwdReferenceIdeal : Cert.AdaBwdReferenceIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdReferenceIdeal.nD Cert.AdaBwdReferenceIdeal.τ Cert.AdaBwdReferenceIdeal.sig) → Buf (Elt Ideal) ℓ) (g' : Dev Cert.AdaBwdReferenceIdeal.nD → PrngReg), Pre_AdaBwdIdeal m →
    (∀ c : Dev Cert.AdaBwdIdeal.nD,
      m' ((c.tc : Thread Cert.AdaBwdReferenceIdeal.nD Cert.AdaBwdReferenceIdeal.τ).loc Cert.AdaBwdReferenceIdeal.main_arg0) = m ((c.tc : Thread Cert.AdaBwdIdeal.nD Cert.AdaBwdIdeal.τ).loc Cert.AdaBwdIdeal.main_arg0)
      ∧ m' ((c.tc : Thread Cert.AdaBwdReferenceIdeal.nD Cert.AdaBwdReferenceIdeal.τ).loc Cert.AdaBwdReferenceIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdReferenceIdeal.defs (F := Ideal)) (onTc (τ := Cert.AdaBwdReferenceIdeal.τ) (Cert.AdaBwdReferenceIdeal.main (F := Ideal))) ⟨m', fun _ => 0, g'⟩ (fun r => ∀ c : Dev Cert.AdaBwdReferenceIdeal.nD,
          r.2.mem ((c.tc : Thread Cert.AdaBwdReferenceIdeal.nD Cert.AdaBwdReferenceIdeal.τ).loc Cert.AdaBwdReferenceIdeal.main_v6) = v0 c
          ∧ r.2.mem ((c.tc : Thread Cert.AdaBwdReferenceIdeal.nD Cert.AdaBwdReferenceIdeal.τ).loc Cert.AdaBwdReferenceIdeal.main_arg0) = m' ((c.tc : Thread Cert.AdaBwdReferenceIdeal.nD Cert.AdaBwdReferenceIdeal.τ).loc Cert.AdaBwdReferenceIdeal.main_arg0)
          ∧ r.2.mem ((c.tc : Thread Cert.AdaBwdReferenceIdeal.nD Cert.AdaBwdReferenceIdeal.τ).loc Cert.AdaBwdReferenceIdeal.main_arg1) = m' ((c.tc : Thread Cert.AdaBwdReferenceIdeal.nD Cert.AdaBwdReferenceIdeal.τ).loc Cert.AdaBwdReferenceIdeal.main_arg1))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v18) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v2) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_GateNorm_GateNormIdeal : Prop :=
  True

def algebraic_GateNormIdeal_GateNormReferenceIdeal [hGateNormIdeal : Cert.GateNormIdeal.Facts] [hGateNormReferenceIdeal : Cert.GateNormReferenceIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormReferenceIdeal.nD Cert.GateNormReferenceIdeal.τ Cert.GateNormReferenceIdeal.sig) → Buf (Elt Ideal) ℓ) (g' : Dev Cert.GateNormReferenceIdeal.nD → PrngReg), Pre_GateNormIdeal m →
    (∀ c : Dev Cert.GateNormIdeal.nD,
      m' ((c.tc : Thread Cert.GateNormReferenceIdeal.nD Cert.GateNormReferenceIdeal.τ).loc Cert.GateNormReferenceIdeal.main_arg0) = m ((c.tc : Thread Cert.GateNormIdeal.nD Cert.GateNormIdeal.τ).loc Cert.GateNormIdeal.main_arg0)
      ∧ m' ((c.tc : Thread Cert.GateNormReferenceIdeal.nD Cert.GateNormReferenceIdeal.τ).loc Cert.GateNormReferenceIdeal.main_arg1) = m ((c.tc : Thread Cert.GateNormIdeal.nD Cert.GateNormIdeal.τ).loc Cert.GateNormIdeal.main_arg1)
      ∧ m' ((c.tc : Thread Cert.GateNormReferenceIdeal.nD Cert.GateNormReferenceIdeal.τ).loc Cert.GateNormReferenceIdeal.main_arg2) = m ((c.tc : Thread Cert.GateNormIdeal.nD Cert.GateNormIdeal.τ).loc Cert.GateNormIdeal.main_arg2)
      ∧ m' ((c.tc : Thread Cert.GateNormReferenceIdeal.nD Cert.GateNormReferenceIdeal.τ).loc Cert.GateNormReferenceIdeal.main_arg3) = m ((c.tc : Thread Cert.GateNormIdeal.nD Cert.GateNormIdeal.τ).loc Cert.GateNormIdeal.main_arg3)
      ∧ m' ((c.tc : Thread Cert.GateNormReferenceIdeal.nD Cert.GateNormReferenceIdeal.τ).loc Cert.GateNormReferenceIdeal.main_arg4) = m ((c.tc : Thread Cert.GateNormIdeal.nD Cert.GateNormIdeal.τ).loc Cert.GateNormIdeal.main_arg4)
      ∧ m' ((c.tc : Thread Cert.GateNormReferenceIdeal.nD Cert.GateNormReferenceIdeal.τ).loc Cert.GateNormReferenceIdeal.main_arg5) = m ((c.tc : Thread Cert.GateNormIdeal.nD Cert.GateNormIdeal.τ).loc Cert.GateNormIdeal.main_arg5)) →
    ∃ (v0 : (c : Dev Cert.GateNormIdeal.nD) → Buf (Elt Ideal) ((c.tc : Thread Cert.GateNormIdeal.nD Cert.GateNormIdeal.τ).loc Cert.GateNormIdeal.main_v0_0)) (v1 : (c : Dev Cert.GateNormIdeal.nD) → Buf (Elt Ideal) ((c.tc : Thread Cert.GateNormIdeal.nD Cert.GateNormIdeal.τ).loc Cert.GateNormIdeal.main_v0_1)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v0_0) = v0 c
          ∧ r.2.mem ((c.tc : Thread Cert.GateNormIdeal.nD Cert.GateNormIdeal.τ).loc Cert.GateNormIdeal.main_v0_1) = v1 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2)
          ∧ r.2.mem ((c.tc : Thread Cert.GateNormIdeal.nD Cert.GateNormIdeal.τ).loc Cert.GateNormIdeal.main_arg3) = m ((c.tc : Thread Cert.GateNormIdeal.nD Cert.GateNormIdeal.τ).loc Cert.GateNormIdeal.main_arg3)
          ∧ r.2.mem ((c.tc : Thread Cert.GateNormIdeal.nD Cert.GateNormIdeal.τ).loc Cert.GateNormIdeal.main_arg4) = m ((c.tc : Thread Cert.GateNormIdeal.nD Cert.GateNormIdeal.τ).loc Cert.GateNormIdeal.main_arg4)
          ∧ r.2.mem ((c.tc : Thread Cert.GateNormIdeal.nD Cert.GateNormIdeal.τ).loc Cert.GateNormIdeal.main_arg5) = m ((c.tc : Thread Cert.GateNormIdeal.nD Cert.GateNormIdeal.τ).loc Cert.GateNormIdeal.main_arg5))
      ∧ θ_run (Cert.GateNormReferenceIdeal.defs (F := Ideal)) (onTc (τ := Cert.GateNormReferenceIdeal.τ) (Cert.GateNormReferenceIdeal.main (F := Ideal))) ⟨m', fun _ => 0, g'⟩ (fun r => ∀ c : Dev Cert.GateNormReferenceIdeal.nD,
          r.2.mem ((c.tc : Thread Cert.GateNormReferenceIdeal.nD Cert.GateNormReferenceIdeal.τ).loc Cert.GateNormReferenceIdeal.main_v2) = v0 c
          ∧ r.2.mem ((c.tc : Thread Cert.GateNormReferenceIdeal.nD Cert.GateNormReferenceIdeal.τ).loc Cert.GateNormReferenceIdeal.main_v21) = v1 c
          ∧ r.2.mem ((c.tc : Thread Cert.GateNormReferenceIdeal.nD Cert.GateNormReferenceIdeal.τ).loc Cert.GateNormReferenceIdeal.main_arg0) = m' ((c.tc : Thread Cert.GateNormReferenceIdeal.nD Cert.GateNormReferenceIdeal.τ).loc Cert.GateNormReferenceIdeal.main_arg0)
          ∧ r.2.mem ((c.tc : Thread Cert.GateNormReferenceIdeal.nD Cert.GateNormReferenceIdeal.τ).loc Cert.GateNormReferenceIdeal.main_arg1) = m' ((c.tc : Thread Cert.GateNormReferenceIdeal.nD Cert.GateNormReferenceIdeal.τ).loc Cert.GateNormReferenceIdeal.main_arg1)
          ∧ r.2.mem ((c.tc : Thread Cert.GateNormReferenceIdeal.nD Cert.GateNormReferenceIdeal.τ).loc Cert.GateNormReferenceIdeal.main_arg2) = m' ((c.tc : Thread Cert.GateNormReferenceIdeal.nD Cert.GateNormReferenceIdeal.τ).loc Cert.GateNormReferenceIdeal.main_arg2)
          ∧ r.2.mem ((c.tc : Thread Cert.GateNormReferenceIdeal.nD Cert.GateNormReferenceIdeal.τ).loc Cert.GateNormReferenceIdeal.main_arg3) = m' ((c.tc : Thread Cert.GateNormReferenceIdeal.nD Cert.GateNormReferenceIdeal.τ).loc Cert.GateNormReferenceIdeal.main_arg3)
          ∧ r.2.mem ((c.tc : Thread Cert.GateNormReferenceIdeal.nD Cert.GateNormReferenceIdeal.τ).loc Cert.GateNormReferenceIdeal.main_arg4) = m' ((c.tc : Thread Cert.GateNormReferenceIdeal.nD Cert.GateNormReferenceIdeal.τ).loc Cert.GateNormReferenceIdeal.main_arg4)
          ∧ r.2.mem ((c.tc : Thread Cert.GateNormReferenceIdeal.nD Cert.GateNormReferenceIdeal.τ).loc Cert.GateNormReferenceIdeal.main_arg5) = m' ((c.tc : Thread Cert.GateNormReferenceIdeal.nD Cert.GateNormReferenceIdeal.τ).loc Cert.GateNormReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v18) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AdamOut_AdamOutIdeal : Prop :=
  IdealRules.named_const.Statement Cert.AdamOutIdeal.κ "inv_c1" .f32 0x3FC48605#32 ((8388608 / 5463681 : ℝ) : EReal)
  ∧ IdealRules.named_const.Statement Cert.AdamOutIdeal.κ "inv_c2" .f32 0x42C8E6D3#32 ((268435456 / 2672307 : ℝ) : EReal)

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamAda_AdamAdaIdeal : Prop :=
  IdealRules.named_const.Statement Cert.AdamAdaIdeal.κ "inv_c1" .f32 0x3FC48605#32 ((8388608 / 5463681 : ℝ) : EReal)
  ∧ IdealRules.named_const.Statement Cert.AdamAdaIdeal.κ "inv_c2" .f32 0x42C8E6D3#32 ((268435456 / 2672307 : ℝ) : EReal)

def algebraic_AdamAdaIdeal_AdamAdaReferenceIdeal [hAdamAdaIdeal : Cert.AdamAdaIdeal.Facts] [hAdamAdaReferenceIdeal : Cert.AdamAdaReferenceIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaIdeal m →
    (∀ c : Dev Cert.AdamAdaIdeal.nD,
      m' ((c.tc : Thread Cert.AdamAdaReferenceIdeal.nD Cert.AdamAdaReferenceIdeal.τ).loc Cert.AdamAdaReferenceIdeal.main_arg0) = m ((c.tc : Thread Cert.AdamAdaIdeal.nD Cert.AdamAdaIdeal.τ).loc Cert.AdamAdaIdeal.main_arg0)
      ∧ m' ((c.tc : Thread Cert.AdamAdaReferenceIdeal.nD Cert.AdamAdaReferenceIdeal.τ).loc Cert.AdamAdaReferenceIdeal.main_arg1) = m ((c.tc : Thread Cert.AdamAdaIdeal.nD Cert.AdamAdaIdeal.τ).loc Cert.AdamAdaIdeal.main_arg1)
      ∧ m' ((c.tc : Thread Cert.AdamAdaReferenceIdeal.nD Cert.AdamAdaReferenceIdeal.τ).loc Cert.AdamAdaReferenceIdeal.main_arg2) = m ((c.tc : Thread Cert.AdamAdaIdeal.nD Cert.AdamAdaIdeal.τ).loc Cert.AdamAdaIdeal.main_arg2)
      ∧ m' ((c.tc : Thread Cert.AdamAdaReferenceIdeal.nD Cert.AdamAdaReferenceIdeal.τ).loc Cert.AdamAdaReferenceIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v23) = v0 c
          ∧ r.2.mem ((c.tc : Thread Cert.AdamAdaReferenceIdeal.nD Cert.AdamAdaReferenceIdeal.τ).loc Cert.AdamAdaReferenceIdeal.main_v4) = v1 c
          ∧ r.2.mem ((c.tc : Thread Cert.AdamAdaReferenceIdeal.nD Cert.AdamAdaReferenceIdeal.τ).loc Cert.AdamAdaReferenceIdeal.main_v10) = v2 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamAdaB_AdamAdaBIdeal : Prop :=
  IdealRules.named_const.Statement Cert.AdamAdaBIdeal.κ "inv_c1" .f32 0x3FC48605#32 ((8388608 / 5463681 : ℝ) : EReal)
  ∧ IdealRules.named_const.Statement Cert.AdamAdaBIdeal.κ "inv_c2" .f32 0x42C8E6D3#32 ((268435456 / 2672307 : ℝ) : EReal)

def algebraic_AdamAdaBIdeal_AdamAdaBReferenceIdeal [hAdamAdaBIdeal : Cert.AdamAdaBIdeal.Facts] [hAdamAdaBReferenceIdeal : Cert.AdamAdaBReferenceIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBReferenceIdeal.nD Cert.AdamAdaBReferenceIdeal.τ Cert.AdamAdaBReferenceIdeal.sig) → Buf (Elt Ideal) ℓ) (g' : Dev Cert.AdamAdaBReferenceIdeal.nD → PrngReg), Pre_AdamAdaBIdeal m →
    (∀ c : Dev Cert.AdamAdaBIdeal.nD,
      m' ((c.tc : Thread Cert.AdamAdaBReferenceIdeal.nD Cert.AdamAdaBReferenceIdeal.τ).loc Cert.AdamAdaBReferenceIdeal.main_arg0) = m ((c.tc : Thread Cert.AdamAdaBIdeal.nD Cert.AdamAdaBIdeal.τ).loc Cert.AdamAdaBIdeal.main_arg0)
      ∧ m' ((c.tc : Thread Cert.AdamAdaBReferenceIdeal.nD Cert.AdamAdaBReferenceIdeal.τ).loc Cert.AdamAdaBReferenceIdeal.main_arg1) = m ((c.tc : Thread Cert.AdamAdaBIdeal.nD Cert.AdamAdaBIdeal.τ).loc Cert.AdamAdaBIdeal.main_arg1)
      ∧ m' ((c.tc : Thread Cert.AdamAdaBReferenceIdeal.nD Cert.AdamAdaBReferenceIdeal.τ).loc Cert.AdamAdaBReferenceIdeal.main_arg2) = m ((c.tc : Thread Cert.AdamAdaBIdeal.nD Cert.AdamAdaBIdeal.τ).loc Cert.AdamAdaBIdeal.main_arg2)
      ∧ m' ((c.tc : Thread Cert.AdamAdaBReferenceIdeal.nD Cert.AdamAdaBReferenceIdeal.τ).loc Cert.AdamAdaBReferenceIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBReferenceIdeal.defs (F := Ideal)) (onTc (τ := Cert.AdamAdaBReferenceIdeal.τ) (Cert.AdamAdaBReferenceIdeal.main (F := Ideal))) ⟨m', fun _ => 0, g'⟩ (fun r => ∀ c : Dev Cert.AdamAdaBReferenceIdeal.nD,
          r.2.mem ((c.tc : Thread Cert.AdamAdaBReferenceIdeal.nD Cert.AdamAdaBReferenceIdeal.τ).loc Cert.AdamAdaBReferenceIdeal.main_v23) = v0 c
          ∧ r.2.mem ((c.tc : Thread Cert.AdamAdaBReferenceIdeal.nD Cert.AdamAdaBReferenceIdeal.τ).loc Cert.AdamAdaBReferenceIdeal.main_v4) = v1 c
          ∧ r.2.mem ((c.tc : Thread Cert.AdamAdaBReferenceIdeal.nD Cert.AdamAdaBReferenceIdeal.τ).loc Cert.AdamAdaBReferenceIdeal.main_v10) = v2 c
          ∧ r.2.mem ((c.tc : Thread Cert.AdamAdaBReferenceIdeal.nD Cert.AdamAdaBReferenceIdeal.τ).loc Cert.AdamAdaBReferenceIdeal.main_arg0) = m' ((c.tc : Thread Cert.AdamAdaBReferenceIdeal.nD Cert.AdamAdaBReferenceIdeal.τ).loc Cert.AdamAdaBReferenceIdeal.main_arg0)
          ∧ r.2.mem ((c.tc : Thread Cert.AdamAdaBReferenceIdeal.nD Cert.AdamAdaBReferenceIdeal.τ).loc Cert.AdamAdaBReferenceIdeal.main_arg1) = m' ((c.tc : Thread Cert.AdamAdaBReferenceIdeal.nD Cert.AdamAdaBReferenceIdeal.τ).loc Cert.AdamAdaBReferenceIdeal.main_arg1)
          ∧ r.2.mem ((c.tc : Thread Cert.AdamAdaBReferenceIdeal.nD Cert.AdamAdaBReferenceIdeal.τ).loc Cert.AdamAdaBReferenceIdeal.main_arg2) = m' ((c.tc : Thread Cert.AdamAdaBReferenceIdeal.nD Cert.AdamAdaBReferenceIdeal.τ).loc Cert.AdamAdaBReferenceIdeal.main_arg2)
          ∧ r.2.mem ((c.tc : Thread Cert.AdamAdaBReferenceIdeal.nD Cert.AdamAdaBReferenceIdeal.τ).loc Cert.AdamAdaBReferenceIdeal.main_arg3) = m' ((c.tc : Thread Cert.AdamAdaBReferenceIdeal.nD Cert.AdamAdaBReferenceIdeal.τ).loc Cert.AdamAdaBReferenceIdeal.main_arg3))

def preserves_AdamNorm_AdamNormIdeal : Prop :=
  IdealRules.named_const.Statement Cert.AdamNormIdeal.κ "inv_c1" .f32 0x3FC48605#32 ((8388608 / 5463681 : ℝ) : EReal)
  ∧ IdealRules.named_const.Statement Cert.AdamNormIdeal.κ "inv_c2" .f32 0x42C8E6D3#32 ((268435456 / 2672307 : ℝ) : EReal)

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamDnIn_AdamDnInIdeal : Prop :=
  IdealRules.named_const.Statement Cert.AdamDnInIdeal.κ "inv_c1" .f32 0x3FC48605#32 ((8388608 / 5463681 : ℝ) : EReal)
  ∧ IdealRules.named_const.Statement Cert.AdamDnInIdeal.κ "inv_c2" .f32 0x42C8E6D3#32 ((268435456 / 2672307 : ℝ) : EReal)

def algebraic_AdamDnInIdeal_AdamDnInReferenceIdeal [hAdamDnInIdeal : Cert.AdamDnInIdeal.Facts] [hAdamDnInReferenceIdeal : Cert.AdamDnInReferenceIdeal.Facts] : Prop :=
  ∀ (m : (ℓ : Loc Cert.AdamDnInIdeal.nD Cert.AdamDnInIdeal.τ Cert.AdamDnInIdeal.sig) → Buf (Elt Ideal) ℓ) (g : Dev Cert.AdamDnInIdeal.nD → PrngReg)
    (m' : (ℓ : Loc Cert.AdamDnInReferenceIdeal.nD Cert.AdamDnInReferenceIdeal.τ Cert.AdamDnInReferenceIdeal.sig) → Buf (Elt Ideal) ℓ) (g' : Dev Cert.AdamDnInReferenceIdeal.nD → PrngReg), Pre_AdamDnInIdeal m →
    (∀ c : Dev Cert.AdamDnInIdeal.nD,
      m' ((c.tc : Thread Cert.AdamDnInReferenceIdeal.nD Cert.AdamDnInReferenceIdeal.τ).loc Cert.AdamDnInReferenceIdeal.main_arg0) = m ((c.tc : Thread Cert.AdamDnInIdeal.nD Cert.AdamDnInIdeal.τ).loc Cert.AdamDnInIdeal.main_arg0)
      ∧ m' ((c.tc : Thread Cert.AdamDnInReferenceIdeal.nD Cert.AdamDnInReferenceIdeal.τ).loc Cert.AdamDnInReferenceIdeal.main_arg1) = m ((c.tc : Thread Cert.AdamDnInIdeal.nD Cert.AdamDnInIdeal.τ).loc Cert.AdamDnInIdeal.main_arg1)
      ∧ m' ((c.tc : Thread Cert.AdamDnInReferenceIdeal.nD Cert.AdamDnInReferenceIdeal.τ).loc Cert.AdamDnInReferenceIdeal.main_arg2) = m ((c.tc : Thread Cert.AdamDnInIdeal.nD Cert.AdamDnInIdeal.τ).loc Cert.AdamDnInIdeal.main_arg2)
      ∧ m' ((c.tc : Thread Cert.AdamDnInReferenceIdeal.nD Cert.AdamDnInReferenceIdeal.τ).loc Cert.AdamDnInReferenceIdeal.main_arg3) = m ((c.tc : Thread Cert.AdamDnInIdeal.nD Cert.AdamDnInIdeal.τ).loc Cert.AdamDnInIdeal.main_arg3)) →
    ∃ (v0 : (c : Dev Cert.AdamDnInIdeal.nD) → Buf (Elt Ideal) ((c.tc : Thread Cert.AdamDnInIdeal.nD Cert.AdamDnInIdeal.τ).loc Cert.AdamDnInIdeal.main_v0_0)) (v1 : (c : Dev Cert.AdamDnInIdeal.nD) → Buf (Elt Ideal) ((c.tc : Thread Cert.AdamDnInIdeal.nD Cert.AdamDnInIdeal.τ).loc Cert.AdamDnInIdeal.main_v0_1)) (v2 : (c : Dev Cert.AdamDnInIdeal.nD) → Buf (Elt Ideal) ((c.tc : Thread Cert.AdamDnInIdeal.nD Cert.AdamDnInIdeal.τ).loc Cert.AdamDnInIdeal.main_v0_2)),
      θ_run (Cert.AdamDnInIdeal.defs (F := Ideal)) (onTc (τ := Cert.AdamDnInIdeal.τ) (Cert.AdamDnInIdeal.main (F := Ideal))) ⟨m, fun _ => 0, g⟩ (fun r => ∀ c : Dev Cert.AdamDnInIdeal.nD,
          r.2.mem ((c.tc : Thread Cert.AdamDnInIdeal.nD Cert.AdamDnInIdeal.τ).loc Cert.AdamDnInIdeal.main_v0_0) = v0 c
          ∧ r.2.mem ((c.tc : Thread Cert.AdamDnInIdeal.nD Cert.AdamDnInIdeal.τ).loc Cert.AdamDnInIdeal.main_v0_1) = v1 c
          ∧ r.2.mem ((c.tc : Thread Cert.AdamDnInIdeal.nD Cert.AdamDnInIdeal.τ).loc Cert.AdamDnInIdeal.main_v0_2) = v2 c
          ∧ r.2.mem ((c.tc : Thread Cert.AdamDnInIdeal.nD Cert.AdamDnInIdeal.τ).loc Cert.AdamDnInIdeal.main_arg0) = m ((c.tc : Thread Cert.AdamDnInIdeal.nD Cert.AdamDnInIdeal.τ).loc Cert.AdamDnInIdeal.main_arg0)
          ∧ r.2.mem ((c.tc : Thread Cert.AdamDnInIdeal.nD Cert.AdamDnInIdeal.τ).loc Cert.AdamDnInIdeal.main_arg1) = m ((c.tc : Thread Cert.AdamDnInIdeal.nD Cert.AdamDnInIdeal.τ).loc Cert.AdamDnInIdeal.main_arg1)
          ∧ r.2.mem ((c.tc : Thread Cert.AdamDnInIdeal.nD Cert.AdamDnInIdeal.τ).loc Cert.AdamDnInIdeal.main_arg2) = m ((c.tc : Thread Cert.AdamDnInIdeal.nD Cert.AdamDnInIdeal.τ).loc Cert.AdamDnInIdeal.main_arg2)
          ∧ r.2.mem ((c.tc : Thread Cert.AdamDnInIdeal.nD Cert.AdamDnInIdeal.τ).loc Cert.AdamDnInIdeal.main_arg3) = m ((c.tc : Thread Cert.AdamDnInIdeal.nD Cert.AdamDnInIdeal.τ).loc Cert.AdamDnInIdeal.main_arg3))
      ∧ θ_run (Cert.AdamDnInReferenceIdeal.defs (F := Ideal)) (onTc (τ := Cert.AdamDnInReferenceIdeal.τ) (Cert.AdamDnInReferenceIdeal.main (F := Ideal))) ⟨m', fun _ => 0, g'⟩ (fun r => ∀ c : Dev Cert.AdamDnInReferenceIdeal.nD,
          r.2.mem ((c.tc : Thread Cert.AdamDnInReferenceIdeal.nD Cert.AdamDnInReferenceIdeal.τ).loc Cert.AdamDnInReferenceIdeal.main_v23) = v0 c
          ∧ r.2.mem ((c.tc : Thread Cert.AdamDnInReferenceIdeal.nD Cert.AdamDnInReferenceIdeal.τ).loc Cert.AdamDnInReferenceIdeal.main_v4) = v1 c
          ∧ r.2.mem ((c.tc : Thread Cert.AdamDnInReferenceIdeal.nD Cert.AdamDnInReferenceIdeal.τ).loc Cert.AdamDnInReferenceIdeal.main_v10) = v2 c
          ∧ r.2.mem ((c.tc : Thread Cert.AdamDnInReferenceIdeal.nD Cert.AdamDnInReferenceIdeal.τ).loc Cert.AdamDnInReferenceIdeal.main_arg0) = m' ((c.tc : Thread Cert.AdamDnInReferenceIdeal.nD Cert.AdamDnInReferenceIdeal.τ).loc Cert.AdamDnInReferenceIdeal.main_arg0)
          ∧ r.2.mem ((c.tc : Thread Cert.AdamDnInReferenceIdeal.nD Cert.AdamDnInReferenceIdeal.τ).loc Cert.AdamDnInReferenceIdeal.main_arg1) = m' ((c.tc : Thread Cert.AdamDnInReferenceIdeal.nD Cert.AdamDnInReferenceIdeal.τ).loc Cert.AdamDnInReferenceIdeal.main_arg1)
          ∧ r.2.mem ((c.tc : Thread Cert.AdamDnInReferenceIdeal.nD Cert.AdamDnInReferenceIdeal.τ).loc Cert.AdamDnInReferenceIdeal.main_arg2) = m' ((c.tc : Thread Cert.AdamDnInReferenceIdeal.nD Cert.AdamDnInReferenceIdeal.τ).loc Cert.AdamDnInReferenceIdeal.main_arg2)
          ∧ r.2.mem ((c.tc : Thread Cert.AdamDnInReferenceIdeal.nD Cert.AdamDnInReferenceIdeal.τ).loc Cert.AdamDnInReferenceIdeal.main_arg3) = m' ((c.tc : Thread Cert.AdamDnInReferenceIdeal.nD Cert.AdamDnInReferenceIdeal.τ).loc Cert.AdamDnInReferenceIdeal.main_arg3))

def preserves_AdamConv_AdamConvIdeal : Prop :=
  IdealRules.named_const.Statement Cert.AdamConvIdeal.κ "inv_c1" .f32 0x3FC48605#32 ((8388608 / 5463681 : ℝ) : EReal)
  ∧ IdealRules.named_const.Statement Cert.AdamConvIdeal.κ "inv_c2" .f32 0x42C8E6D3#32 ((268435456 / 2672307 : ℝ) : EReal)

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamDecay_AdamDecayIdeal : Prop :=
  IdealRules.named_const.Statement Cert.AdamDecayIdeal.κ "inv_c1" .f32 0x3FC48605#32 ((8388608 / 5463681 : ℝ) : EReal)
  ∧ IdealRules.named_const.Statement Cert.AdamDecayIdeal.κ "inv_c2" .f32 0x42C8E6D3#32 ((268435456 / 2672307 : ℝ) : EReal)

def algebraic_AdamDecayIdeal_AdamDecayReferenceIdeal [hAdamDecayIdeal : Cert.AdamDecayIdeal.Facts] [hAdamDecayReferenceIdeal : Cert.AdamDecayReferenceIdeal.Facts] : Prop :=
  ∀ (m : (ℓ : Loc Cert.AdamDecayIdeal.nD Cert.AdamDecayIdeal.τ Cert.AdamDecayIdeal.sig) → Buf (Elt Ideal) ℓ) (g : Dev Cert.AdamDecayIdeal.nD → PrngReg)
    (m' : (ℓ : Loc Cert.AdamDecayReferenceIdeal.nD Cert.AdamDecayReferenceIdeal.τ Cert.AdamDecayReferenceIdeal.sig) → Buf (Elt Ideal) ℓ) (g' : Dev Cert.AdamDecayReferenceIdeal.nD → PrngReg), Pre_AdamDecayIdeal m →
    (∀ c : Dev Cert.AdamDecayIdeal.nD,
      m' ((c.tc : Thread Cert.AdamDecayReferenceIdeal.nD Cert.AdamDecayReferenceIdeal.τ).loc Cert.AdamDecayReferenceIdeal.main_arg0) = m ((c.tc : Thread Cert.AdamDecayIdeal.nD Cert.AdamDecayIdeal.τ).loc Cert.AdamDecayIdeal.main_arg0)
      ∧ m' ((c.tc : Thread Cert.AdamDecayReferenceIdeal.nD Cert.AdamDecayReferenceIdeal.τ).loc Cert.AdamDecayReferenceIdeal.main_arg1) = m ((c.tc : Thread Cert.AdamDecayIdeal.nD Cert.AdamDecayIdeal.τ).loc Cert.AdamDecayIdeal.main_arg1)
      ∧ m' ((c.tc : Thread Cert.AdamDecayReferenceIdeal.nD Cert.AdamDecayReferenceIdeal.τ).loc Cert.AdamDecayReferenceIdeal.main_arg2) = m ((c.tc : Thread Cert.AdamDecayIdeal.nD Cert.AdamDecayIdeal.τ).loc Cert.AdamDecayIdeal.main_arg2)
      ∧ m' ((c.tc : Thread Cert.AdamDecayReferenceIdeal.nD Cert.AdamDecayReferenceIdeal.τ).loc Cert.AdamDecayReferenceIdeal.main_arg3) = m ((c.tc : Thread Cert.AdamDecayIdeal.nD Cert.AdamDecayIdeal.τ).loc Cert.AdamDecayIdeal.main_arg3)) →
    ∃ (v0 : (c : Dev Cert.AdamDecayIdeal.nD) → Buf (Elt Ideal) ((c.tc : Thread Cert.AdamDecayIdeal.nD Cert.AdamDecayIdeal.τ).loc Cert.AdamDecayIdeal.main_v0_0)) (v1 : (c : Dev Cert.AdamDecayIdeal.nD) → Buf (Elt Ideal) ((c.tc : Thread Cert.AdamDecayIdeal.nD Cert.AdamDecayIdeal.τ).loc Cert.AdamDecayIdeal.main_v0_1)) (v2 : (c : Dev Cert.AdamDecayIdeal.nD) → Buf (Elt Ideal) ((c.tc : Thread Cert.AdamDecayIdeal.nD Cert.AdamDecayIdeal.τ).loc Cert.AdamDecayIdeal.main_v0_2)),
      θ_run (Cert.AdamDecayIdeal.defs (F := Ideal)) (onTc (τ := Cert.AdamDecayIdeal.τ) (Cert.AdamDecayIdeal.main (F := Ideal))) ⟨m, fun _ => 0, g⟩ (fun r => ∀ c : Dev Cert.AdamDecayIdeal.nD,
          r.2.mem ((c.tc : Thread Cert.AdamDecayIdeal.nD Cert.AdamDecayIdeal.τ).loc Cert.AdamDecayIdeal.main_v0_0) = v0 c
          ∧ r.2.mem ((c.tc : Thread Cert.AdamDecayIdeal.nD Cert.AdamDecayIdeal.τ).loc Cert.AdamDecayIdeal.main_v0_1) = v1 c
          ∧ r.2.mem ((c.tc : Thread Cert.AdamDecayIdeal.nD Cert.AdamDecayIdeal.τ).loc Cert.AdamDecayIdeal.main_v0_2) = v2 c
          ∧ r.2.mem ((c.tc : Thread Cert.AdamDecayIdeal.nD Cert.AdamDecayIdeal.τ).loc Cert.AdamDecayIdeal.main_arg0) = m ((c.tc : Thread Cert.AdamDecayIdeal.nD Cert.AdamDecayIdeal.τ).loc Cert.AdamDecayIdeal.main_arg0)
          ∧ r.2.mem ((c.tc : Thread Cert.AdamDecayIdeal.nD Cert.AdamDecayIdeal.τ).loc Cert.AdamDecayIdeal.main_arg1) = m ((c.tc : Thread Cert.AdamDecayIdeal.nD Cert.AdamDecayIdeal.τ).loc Cert.AdamDecayIdeal.main_arg1)
          ∧ r.2.mem ((c.tc : Thread Cert.AdamDecayIdeal.nD Cert.AdamDecayIdeal.τ).loc Cert.AdamDecayIdeal.main_arg2) = m ((c.tc : Thread Cert.AdamDecayIdeal.nD Cert.AdamDecayIdeal.τ).loc Cert.AdamDecayIdeal.main_arg2)
          ∧ r.2.mem ((c.tc : Thread Cert.AdamDecayIdeal.nD Cert.AdamDecayIdeal.τ).loc Cert.AdamDecayIdeal.main_arg3) = m ((c.tc : Thread Cert.AdamDecayIdeal.nD Cert.AdamDecayIdeal.τ).loc Cert.AdamDecayIdeal.main_arg3))
      ∧ θ_run (Cert.AdamDecayReferenceIdeal.defs (F := Ideal)) (onTc (τ := Cert.AdamDecayReferenceIdeal.τ) (Cert.AdamDecayReferenceIdeal.main (F := Ideal))) ⟨m', fun _ => 0, g'⟩ (fun r => ∀ c : Dev Cert.AdamDecayReferenceIdeal.nD,
          r.2.mem ((c.tc : Thread Cert.AdamDecayReferenceIdeal.nD Cert.AdamDecayReferenceIdeal.τ).loc Cert.AdamDecayReferenceIdeal.main_v23) = v0 c
          ∧ r.2.mem ((c.tc : Thread Cert.AdamDecayReferenceIdeal.nD Cert.AdamDecayReferenceIdeal.τ).loc Cert.AdamDecayReferenceIdeal.main_v4) = v1 c
          ∧ r.2.mem ((c.tc : Thread Cert.AdamDecayReferenceIdeal.nD Cert.AdamDecayReferenceIdeal.τ).loc Cert.AdamDecayReferenceIdeal.main_v10) = v2 c
          ∧ r.2.mem ((c.tc : Thread Cert.AdamDecayReferenceIdeal.nD Cert.AdamDecayReferenceIdeal.τ).loc Cert.AdamDecayReferenceIdeal.main_arg0) = m' ((c.tc : Thread Cert.AdamDecayReferenceIdeal.nD Cert.AdamDecayReferenceIdeal.τ).loc Cert.AdamDecayReferenceIdeal.main_arg0)
          ∧ r.2.mem ((c.tc : Thread Cert.AdamDecayReferenceIdeal.nD Cert.AdamDecayReferenceIdeal.τ).loc Cert.AdamDecayReferenceIdeal.main_arg1) = m' ((c.tc : Thread Cert.AdamDecayReferenceIdeal.nD Cert.AdamDecayReferenceIdeal.τ).loc Cert.AdamDecayReferenceIdeal.main_arg1)
          ∧ r.2.mem ((c.tc : Thread Cert.AdamDecayReferenceIdeal.nD Cert.AdamDecayReferenceIdeal.τ).loc Cert.AdamDecayReferenceIdeal.main_arg2) = m' ((c.tc : Thread Cert.AdamDecayReferenceIdeal.nD Cert.AdamDecayReferenceIdeal.τ).loc Cert.AdamDecayReferenceIdeal.main_arg2)
          ∧ r.2.mem ((c.tc : Thread Cert.AdamDecayReferenceIdeal.nD Cert.AdamDecayReferenceIdeal.τ).loc Cert.AdamDecayReferenceIdeal.main_arg3) = m' ((c.tc : Thread Cert.AdamDecayReferenceIdeal.nD Cert.AdamDecayReferenceIdeal.τ).loc Cert.AdamDecayReferenceIdeal.main_arg3))

def preserves_AdamDnNorm_AdamDnNormIdeal : Prop :=
  IdealRules.named_const.Statement Cert.AdamDnNormIdeal.κ "inv_c1" .f32 0x3FC48605#32 ((8388608 / 5463681 : ℝ) : EReal)
  ∧ IdealRules.named_const.Statement Cert.AdamDnNormIdeal.κ "inv_c2" .f32 0x42C8E6D3#32 ((268435456 / 2672307 : ℝ) : EReal)

def algebraic_AdamDnNormIdeal_AdamDnNormReferenceIdeal [hAdamDnNormIdeal : Cert.AdamDnNormIdeal.Facts] [hAdamDnNormReferenceIdeal : Cert.AdamDnNormReferenceIdeal.Facts] : Prop :=
  ∀ (m : (ℓ : Loc Cert.AdamDnNormIdeal.nD Cert.AdamDnNormIdeal.τ Cert.AdamDnNormIdeal.sig) → Buf (Elt Ideal) ℓ) (g : Dev Cert.AdamDnNormIdeal.nD → PrngReg)
    (m' : (ℓ : Loc Cert.AdamDnNormReferenceIdeal.nD Cert.AdamDnNormReferenceIdeal.τ Cert.AdamDnNormReferenceIdeal.sig) → Buf (Elt Ideal) ℓ) (g' : Dev Cert.AdamDnNormReferenceIdeal.nD → PrngReg), Pre_AdamDnNormIdeal m →
    (∀ c : Dev Cert.AdamDnNormIdeal.nD,
      m' ((c.tc : Thread Cert.AdamDnNormReferenceIdeal.nD Cert.AdamDnNormReferenceIdeal.τ).loc Cert.AdamDnNormReferenceIdeal.main_arg0) = m ((c.tc : Thread Cert.AdamDnNormIdeal.nD Cert.AdamDnNormIdeal.τ).loc Cert.AdamDnNormIdeal.main_arg0)
      ∧ m' ((c.tc : Thread Cert.AdamDnNormReferenceIdeal.nD Cert.AdamDnNormReferenceIdeal.τ).loc Cert.AdamDnNormReferenceIdeal.main_arg1) = m ((c.tc : Thread Cert.AdamDnNormIdeal.nD Cert.AdamDnNormIdeal.τ).loc Cert.AdamDnNormIdeal.main_arg1)
      ∧ m' ((c.tc : Thread Cert.AdamDnNormReferenceIdeal.nD Cert.AdamDnNormReferenceIdeal.τ).loc Cert.AdamDnNormReferenceIdeal.main_arg2) = m ((c.tc : Thread Cert.AdamDnNormIdeal.nD Cert.AdamDnNormIdeal.τ).loc Cert.AdamDnNormIdeal.main_arg2)
      ∧ m' ((c.tc : Thread Cert.AdamDnNormReferenceIdeal.nD Cert.AdamDnNormReferenceIdeal.τ).loc Cert.AdamDnNormReferenceIdeal.main_arg3) = m ((c.tc : Thread Cert.AdamDnNormIdeal.nD Cert.AdamDnNormIdeal.τ).loc Cert.AdamDnNormIdeal.main_arg3)) →
    ∃ (v0 : (c : Dev Cert.AdamDnNormIdeal.nD) → Buf (Elt Ideal) ((c.tc : Thread Cert.AdamDnNormIdeal.nD Cert.AdamDnNormIdeal.τ).loc Cert.AdamDnNormIdeal.main_v0_0)) (v1 : (c : Dev Cert.AdamDnNormIdeal.nD) → Buf (Elt Ideal) ((c.tc : Thread Cert.AdamDnNormIdeal.nD Cert.AdamDnNormIdeal.τ).loc Cert.AdamDnNormIdeal.main_v0_1)) (v2 : (c : Dev Cert.AdamDnNormIdeal.nD) → Buf (Elt Ideal) ((c.tc : Thread Cert.AdamDnNormIdeal.nD Cert.AdamDnNormIdeal.τ).loc Cert.AdamDnNormIdeal.main_v0_2)),
      θ_run (Cert.AdamDnNormIdeal.defs (F := Ideal)) (onTc (τ := Cert.AdamDnNormIdeal.τ) (Cert.AdamDnNormIdeal.main (F := Ideal))) ⟨m, fun _ => 0, g⟩ (fun r => ∀ c : Dev Cert.AdamDnNormIdeal.nD,
          r.2.mem ((c.tc : Thread Cert.AdamDnNormIdeal.nD Cert.AdamDnNormIdeal.τ).loc Cert.AdamDnNormIdeal.main_v0_0) = v0 c
          ∧ r.2.mem ((c.tc : Thread Cert.AdamDnNormIdeal.nD Cert.AdamDnNormIdeal.τ).loc Cert.AdamDnNormIdeal.main_v0_1) = v1 c
          ∧ r.2.mem ((c.tc : Thread Cert.AdamDnNormIdeal.nD Cert.AdamDnNormIdeal.τ).loc Cert.AdamDnNormIdeal.main_v0_2) = v2 c
          ∧ r.2.mem ((c.tc : Thread Cert.AdamDnNormIdeal.nD Cert.AdamDnNormIdeal.τ).loc Cert.AdamDnNormIdeal.main_arg0) = m ((c.tc : Thread Cert.AdamDnNormIdeal.nD Cert.AdamDnNormIdeal.τ).loc Cert.AdamDnNormIdeal.main_arg0)
          ∧ r.2.mem ((c.tc : Thread Cert.AdamDnNormIdeal.nD Cert.AdamDnNormIdeal.τ).loc Cert.AdamDnNormIdeal.main_arg1) = m ((c.tc : Thread Cert.AdamDnNormIdeal.nD Cert.AdamDnNormIdeal.τ).loc Cert.AdamDnNormIdeal.main_arg1)
          ∧ r.2.mem ((c.tc : Thread Cert.AdamDnNormIdeal.nD Cert.AdamDnNormIdeal.τ).loc Cert.AdamDnNormIdeal.main_arg2) = m ((c.tc : Thread Cert.AdamDnNormIdeal.nD Cert.AdamDnNormIdeal.τ).loc Cert.AdamDnNormIdeal.main_arg2)
          ∧ r.2.mem ((c.tc : Thread Cert.AdamDnNormIdeal.nD Cert.AdamDnNormIdeal.τ).loc Cert.AdamDnNormIdeal.main_arg3) = m ((c.tc : Thread Cert.AdamDnNormIdeal.nD Cert.AdamDnNormIdeal.τ).loc Cert.AdamDnNormIdeal.main_arg3))
      ∧ θ_run (Cert.AdamDnNormReferenceIdeal.defs (F := Ideal)) (onTc (τ := Cert.AdamDnNormReferenceIdeal.τ) (Cert.AdamDnNormReferenceIdeal.main (F := Ideal))) ⟨m', fun _ => 0, g'⟩ (fun r => ∀ c : Dev Cert.AdamDnNormReferenceIdeal.nD,
          r.2.mem ((c.tc : Thread Cert.AdamDnNormReferenceIdeal.nD Cert.AdamDnNormReferenceIdeal.τ).loc Cert.AdamDnNormReferenceIdeal.main_v23) = v0 c
          ∧ r.2.mem ((c.tc : Thread Cert.AdamDnNormReferenceIdeal.nD Cert.AdamDnNormReferenceIdeal.τ).loc Cert.AdamDnNormReferenceIdeal.main_v4) = v1 c
          ∧ r.2.mem ((c.tc : Thread Cert.AdamDnNormReferenceIdeal.nD Cert.AdamDnNormReferenceIdeal.τ).loc Cert.AdamDnNormReferenceIdeal.main_v10) = v2 c
          ∧ r.2.mem ((c.tc : Thread Cert.AdamDnNormReferenceIdeal.nD Cert.AdamDnNormReferenceIdeal.τ).loc Cert.AdamDnNormReferenceIdeal.main_arg0) = m' ((c.tc : Thread Cert.AdamDnNormReferenceIdeal.nD Cert.AdamDnNormReferenceIdeal.τ).loc Cert.AdamDnNormReferenceIdeal.main_arg0)
          ∧ r.2.mem ((c.tc : Thread Cert.AdamDnNormReferenceIdeal.nD Cert.AdamDnNormReferenceIdeal.τ).loc Cert.AdamDnNormReferenceIdeal.main_arg1) = m' ((c.tc : Thread Cert.AdamDnNormReferenceIdeal.nD Cert.AdamDnNormReferenceIdeal.τ).loc Cert.AdamDnNormReferenceIdeal.main_arg1)
          ∧ r.2.mem ((c.tc : Thread Cert.AdamDnNormReferenceIdeal.nD Cert.AdamDnNormReferenceIdeal.τ).loc Cert.AdamDnNormReferenceIdeal.main_arg2) = m' ((c.tc : Thread Cert.AdamDnNormReferenceIdeal.nD Cert.AdamDnNormReferenceIdeal.τ).loc Cert.AdamDnNormReferenceIdeal.main_arg2)
          ∧ r.2.mem ((c.tc : Thread Cert.AdamDnNormReferenceIdeal.nD Cert.AdamDnNormReferenceIdeal.τ).loc Cert.AdamDnNormReferenceIdeal.main_arg3) = m' ((c.tc : Thread Cert.AdamDnNormReferenceIdeal.nD Cert.AdamDnNormReferenceIdeal.τ).loc Cert.AdamDnNormReferenceIdeal.main_arg3))

def preserves_AdamSbIn_AdamSbInIdeal : Prop :=
  IdealRules.named_const.Statement Cert.AdamSbInIdeal.κ "inv_c1" .f32 0x3FC48605#32 ((8388608 / 5463681 : ℝ) : EReal)
  ∧ IdealRules.named_const.Statement Cert.AdamSbInIdeal.κ "inv_c2" .f32 0x42C8E6D3#32 ((268435456 / 2672307 : ℝ) : EReal)

def algebraic_AdamSbInIdeal_AdamSbInReferenceIdeal [hAdamSbInIdeal : Cert.AdamSbInIdeal.Facts] [hAdamSbInReferenceIdeal : Cert.AdamSbInReferenceIdeal.Facts] : Prop :=
  ∀ (m : (ℓ : Loc Cert.AdamSbInIdeal.nD Cert.AdamSbInIdeal.τ Cert.AdamSbInIdeal.sig) → Buf (Elt Ideal) ℓ) (g : Dev Cert.AdamSbInIdeal.nD → PrngReg)
    (m' : (ℓ : Loc Cert.AdamSbInReferenceIdeal.nD Cert.AdamSbInReferenceIdeal.τ Cert.AdamSbInReferenceIdeal.sig) → Buf (Elt Ideal) ℓ) (g' : Dev Cert.AdamSbInReferenceIdeal.nD → PrngReg), Pre_AdamSbInIdeal m →
    (∀ c : Dev Cert.AdamSbInIdeal.nD,
      m' ((c.tc : Thread Cert.AdamSbInReferenceIdeal.nD Cert.AdamSbInReferenceIdeal.τ).loc Cert.AdamSbInReferenceIdeal.main_arg0) = m ((c.tc : Thread Cert.AdamSbInIdeal.nD Cert.AdamSbInIdeal.τ).loc Cert.AdamSbInIdeal.main_arg0)
      ∧ m' ((c.tc : Thread Cert.AdamSbInReferenceIdeal.nD Cert.AdamSbInReferenceIdeal.τ).loc Cert.AdamSbInReferenceIdeal.main_arg1) = m ((c.tc : Thread Cert.AdamSbInIdeal.nD Cert.AdamSbInIdeal.τ).loc Cert.AdamSbInIdeal.main_arg1)
      ∧ m' ((c.tc : Thread Cert.AdamSbInReferenceIdeal.nD Cert.AdamSbInReferenceIdeal.τ).loc Cert.AdamSbInReferenceIdeal.main_arg2) = m ((c.tc : Thread Cert.AdamSbInIdeal.nD Cert.AdamSbInIdeal.τ).loc Cert.AdamSbInIdeal.main_arg2)
      ∧ m' ((c.tc : Thread Cert.AdamSbInReferenceIdeal.nD Cert.AdamSbInReferenceIdeal.τ).loc Cert.AdamSbInReferenceIdeal.main_arg3) = m ((c.tc : Thread Cert.AdamSbInIdeal.nD Cert.AdamSbInIdeal.τ).loc Cert.AdamSbInIdeal.main_arg3)) →
    ∃ (v0 : (c : Dev Cert.AdamSbInIdeal.nD) → Buf (Elt Ideal) ((c.tc : Thread Cert.AdamSbInIdeal.nD Cert.AdamSbInIdeal.τ).loc Cert.AdamSbInIdeal.main_v0_0)) (v1 : (c : Dev Cert.AdamSbInIdeal.nD) → Buf (Elt Ideal) ((c.tc : Thread Cert.AdamSbInIdeal.nD Cert.AdamSbInIdeal.τ).loc Cert.AdamSbInIdeal.main_v0_1)) (v2 : (c : Dev Cert.AdamSbInIdeal.nD) → Buf (Elt Ideal) ((c.tc : Thread Cert.AdamSbInIdeal.nD Cert.AdamSbInIdeal.τ).loc Cert.AdamSbInIdeal.main_v0_2)),
      θ_run (Cert.AdamSbInIdeal.defs (F := Ideal)) (onTc (τ := Cert.AdamSbInIdeal.τ) (Cert.AdamSbInIdeal.main (F := Ideal))) ⟨m, fun _ => 0, g⟩ (fun r => ∀ c : Dev Cert.AdamSbInIdeal.nD,
          r.2.mem ((c.tc : Thread Cert.AdamSbInIdeal.nD Cert.AdamSbInIdeal.τ).loc Cert.AdamSbInIdeal.main_v0_0) = v0 c
          ∧ r.2.mem ((c.tc : Thread Cert.AdamSbInIdeal.nD Cert.AdamSbInIdeal.τ).loc Cert.AdamSbInIdeal.main_v0_1) = v1 c
          ∧ r.2.mem ((c.tc : Thread Cert.AdamSbInIdeal.nD Cert.AdamSbInIdeal.τ).loc Cert.AdamSbInIdeal.main_v0_2) = v2 c
          ∧ r.2.mem ((c.tc : Thread Cert.AdamSbInIdeal.nD Cert.AdamSbInIdeal.τ).loc Cert.AdamSbInIdeal.main_arg0) = m ((c.tc : Thread Cert.AdamSbInIdeal.nD Cert.AdamSbInIdeal.τ).loc Cert.AdamSbInIdeal.main_arg0)
          ∧ r.2.mem ((c.tc : Thread Cert.AdamSbInIdeal.nD Cert.AdamSbInIdeal.τ).loc Cert.AdamSbInIdeal.main_arg1) = m ((c.tc : Thread Cert.AdamSbInIdeal.nD Cert.AdamSbInIdeal.τ).loc Cert.AdamSbInIdeal.main_arg1)
          ∧ r.2.mem ((c.tc : Thread Cert.AdamSbInIdeal.nD Cert.AdamSbInIdeal.τ).loc Cert.AdamSbInIdeal.main_arg2) = m ((c.tc : Thread Cert.AdamSbInIdeal.nD Cert.AdamSbInIdeal.τ).loc Cert.AdamSbInIdeal.main_arg2)
          ∧ r.2.mem ((c.tc : Thread Cert.AdamSbInIdeal.nD Cert.AdamSbInIdeal.τ).loc Cert.AdamSbInIdeal.main_arg3) = m ((c.tc : Thread Cert.AdamSbInIdeal.nD Cert.AdamSbInIdeal.τ).loc Cert.AdamSbInIdeal.main_arg3))
      ∧ θ_run (Cert.AdamSbInReferenceIdeal.defs (F := Ideal)) (onTc (τ := Cert.AdamSbInReferenceIdeal.τ) (Cert.AdamSbInReferenceIdeal.main (F := Ideal))) ⟨m', fun _ => 0, g'⟩ (fun r => ∀ c : Dev Cert.AdamSbInReferenceIdeal.nD,
          r.2.mem ((c.tc : Thread Cert.AdamSbInReferenceIdeal.nD Cert.AdamSbInReferenceIdeal.τ).loc Cert.AdamSbInReferenceIdeal.main_v23) = v0 c
          ∧ r.2.mem ((c.tc : Thread Cert.AdamSbInReferenceIdeal.nD Cert.AdamSbInReferenceIdeal.τ).loc Cert.AdamSbInReferenceIdeal.main_v4) = v1 c
          ∧ r.2.mem ((c.tc : Thread Cert.AdamSbInReferenceIdeal.nD Cert.AdamSbInReferenceIdeal.τ).loc Cert.AdamSbInReferenceIdeal.main_v10) = v2 c
          ∧ r.2.mem ((c.tc : Thread Cert.AdamSbInReferenceIdeal.nD Cert.AdamSbInReferenceIdeal.τ).loc Cert.AdamSbInReferenceIdeal.main_arg0) = m' ((c.tc : Thread Cert.AdamSbInReferenceIdeal.nD Cert.AdamSbInReferenceIdeal.τ).loc Cert.AdamSbInReferenceIdeal.main_arg0)
          ∧ r.2.mem ((c.tc : Thread Cert.AdamSbInReferenceIdeal.nD Cert.AdamSbInReferenceIdeal.τ).loc Cert.AdamSbInReferenceIdeal.main_arg1) = m' ((c.tc : Thread Cert.AdamSbInReferenceIdeal.nD Cert.AdamSbInReferenceIdeal.τ).loc Cert.AdamSbInReferenceIdeal.main_arg1)
          ∧ r.2.mem ((c.tc : Thread Cert.AdamSbInReferenceIdeal.nD Cert.AdamSbInReferenceIdeal.τ).loc Cert.AdamSbInReferenceIdeal.main_arg2) = m' ((c.tc : Thread Cert.AdamSbInReferenceIdeal.nD Cert.AdamSbInReferenceIdeal.τ).loc Cert.AdamSbInReferenceIdeal.main_arg2)
          ∧ r.2.mem ((c.tc : Thread Cert.AdamSbInReferenceIdeal.nD Cert.AdamSbInReferenceIdeal.τ).loc Cert.AdamSbInReferenceIdeal.main_arg3) = m' ((c.tc : Thread Cert.AdamSbInReferenceIdeal.nD Cert.AdamSbInReferenceIdeal.τ).loc Cert.AdamSbInReferenceIdeal.main_arg3))

def preserves_AdamHead_AdamHeadIdeal : Prop :=
  IdealRules.named_const.Statement Cert.AdamHeadIdeal.κ "inv_c1" .f32 0x3FC48605#32 ((8388608 / 5463681 : ℝ) : EReal)
  ∧ IdealRules.named_const.Statement Cert.AdamHeadIdeal.κ "inv_c2" .f32 0x42C8E6D3#32 ((268435456 / 2672307 : ℝ) : EReal)

def algebraic_AdamHeadIdeal_AdamHeadReferenceIdeal [hAdamHeadIdeal : Cert.AdamHeadIdeal.Facts] [hAdamHeadReferenceIdeal : Cert.AdamHeadReferenceIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadIdeal m →
    (∀ c : Dev Cert.AdamHeadIdeal.nD,
      m' ((c.tc : Thread Cert.AdamHeadReferenceIdeal.nD Cert.AdamHeadReferenceIdeal.τ).loc Cert.AdamHeadReferenceIdeal.main_arg0) = m ((c.tc : Thread Cert.AdamHeadIdeal.nD Cert.AdamHeadIdeal.τ).loc Cert.AdamHeadIdeal.main_arg0)
      ∧ m' ((c.tc : Thread Cert.AdamHeadReferenceIdeal.nD Cert.AdamHeadReferenceIdeal.τ).loc Cert.AdamHeadReferenceIdeal.main_arg1) = m ((c.tc : Thread Cert.AdamHeadIdeal.nD Cert.AdamHeadIdeal.τ).loc Cert.AdamHeadIdeal.main_arg1)
      ∧ m' ((c.tc : Thread Cert.AdamHeadReferenceIdeal.nD Cert.AdamHeadReferenceIdeal.τ).loc Cert.AdamHeadReferenceIdeal.main_arg2) = m ((c.tc : Thread Cert.AdamHeadIdeal.nD Cert.AdamHeadIdeal.τ).loc Cert.AdamHeadIdeal.main_arg2)
      ∧ m' ((c.tc : Thread Cert.AdamHeadReferenceIdeal.nD Cert.AdamHeadReferenceIdeal.τ).loc Cert.AdamHeadReferenceIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_v23) = v0 c
          ∧ r.2.mem ((c.tc : Thread Cert.AdamHeadReferenceIdeal.nD Cert.AdamHeadReferenceIdeal.τ).loc Cert.AdamHeadReferenceIdeal.main_v4) = v1 c
          ∧ r.2.mem ((c.tc : Thread Cert.AdamHeadReferenceIdeal.nD Cert.AdamHeadReferenceIdeal.τ).loc Cert.AdamHeadReferenceIdeal.main_v10) = v2 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def preserves_AdamFfnIn_AdamFfnInIdeal : Prop :=
  IdealRules.named_const.Statement Cert.AdamFfnInIdeal.κ "inv_c1" .f32 0x3FC48605#32 ((8388608 / 5463681 : ℝ) : EReal)
  ∧ IdealRules.named_const.Statement Cert.AdamFfnInIdeal.κ "inv_c2" .f32 0x42C8E6D3#32 ((268435456 / 2672307 : ℝ) : EReal)

def algebraic_AdamFfnInIdeal_AdamFfnInReferenceIdeal [hAdamFfnInIdeal : Cert.AdamFfnInIdeal.Facts] [hAdamFfnInReferenceIdeal : Cert.AdamFfnInReferenceIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInReferenceIdeal.nD Cert.AdamFfnInReferenceIdeal.τ Cert.AdamFfnInReferenceIdeal.sig) → Buf (Elt Ideal) ℓ) (g' : Dev Cert.AdamFfnInReferenceIdeal.nD → PrngReg), Pre_AdamFfnInIdeal m →
    (∀ c : Dev Cert.AdamFfnInIdeal.nD,
      m' ((c.tc : Thread Cert.AdamFfnInReferenceIdeal.nD Cert.AdamFfnInReferenceIdeal.τ).loc Cert.AdamFfnInReferenceIdeal.main_arg0) = m ((c.tc : Thread Cert.AdamFfnInIdeal.nD Cert.AdamFfnInIdeal.τ).loc Cert.AdamFfnInIdeal.main_arg0)
      ∧ m' ((c.tc : Thread Cert.AdamFfnInReferenceIdeal.nD Cert.AdamFfnInReferenceIdeal.τ).loc Cert.AdamFfnInReferenceIdeal.main_arg1) = m ((c.tc : Thread Cert.AdamFfnInIdeal.nD Cert.AdamFfnInIdeal.τ).loc Cert.AdamFfnInIdeal.main_arg1)
      ∧ m' ((c.tc : Thread Cert.AdamFfnInReferenceIdeal.nD Cert.AdamFfnInReferenceIdeal.τ).loc Cert.AdamFfnInReferenceIdeal.main_arg2) = m ((c.tc : Thread Cert.AdamFfnInIdeal.nD Cert.AdamFfnInIdeal.τ).loc Cert.AdamFfnInIdeal.main_arg2)
      ∧ m' ((c.tc : Thread Cert.AdamFfnInReferenceIdeal.nD Cert.AdamFfnInReferenceIdeal.τ).loc Cert.AdamFfnInReferenceIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInReferenceIdeal.defs (F := Ideal)) (onTc (τ := Cert.AdamFfnInReferenceIdeal.τ) (Cert.AdamFfnInReferenceIdeal.main (F := Ideal))) ⟨m', fun _ => 0, g'⟩ (fun r => ∀ c : Dev Cert.AdamFfnInReferenceIdeal.nD,
          r.2.mem ((c.tc : Thread Cert.AdamFfnInReferenceIdeal.nD Cert.AdamFfnInReferenceIdeal.τ).loc Cert.AdamFfnInReferenceIdeal.main_v23) = v0 c
          ∧ r.2.mem ((c.tc : Thread Cert.AdamFfnInReferenceIdeal.nD Cert.AdamFfnInReferenceIdeal.τ).loc Cert.AdamFfnInReferenceIdeal.main_v4) = v1 c
          ∧ r.2.mem ((c.tc : Thread Cert.AdamFfnInReferenceIdeal.nD Cert.AdamFfnInReferenceIdeal.τ).loc Cert.AdamFfnInReferenceIdeal.main_v10) = v2 c
          ∧ r.2.mem ((c.tc : Thread Cert.AdamFfnInReferenceIdeal.nD Cert.AdamFfnInReferenceIdeal.τ).loc Cert.AdamFfnInReferenceIdeal.main_arg0) = m' ((c.tc : Thread Cert.AdamFfnInReferenceIdeal.nD Cert.AdamFfnInReferenceIdeal.τ).loc Cert.AdamFfnInReferenceIdeal.main_arg0)
          ∧ r.2.mem ((c.tc : Thread Cert.AdamFfnInReferenceIdeal.nD Cert.AdamFfnInReferenceIdeal.τ).loc Cert.AdamFfnInReferenceIdeal.main_arg1) = m' ((c.tc : Thread Cert.AdamFfnInReferenceIdeal.nD Cert.AdamFfnInReferenceIdeal.τ).loc Cert.AdamFfnInReferenceIdeal.main_arg1)
          ∧ r.2.mem ((c.tc : Thread Cert.AdamFfnInReferenceIdeal.nD Cert.AdamFfnInReferenceIdeal.τ).loc Cert.AdamFfnInReferenceIdeal.main_arg2) = m' ((c.tc : Thread Cert.AdamFfnInReferenceIdeal.nD Cert.AdamFfnInReferenceIdeal.τ).loc Cert.AdamFfnInReferenceIdeal.main_arg2)
          ∧ r.2.mem ((c.tc : Thread Cert.AdamFfnInReferenceIdeal.nD Cert.AdamFfnInReferenceIdeal.τ).loc Cert.AdamFfnInReferenceIdeal.main_arg3) = m' ((c.tc : Thread Cert.AdamFfnInReferenceIdeal.nD Cert.AdamFfnInReferenceIdeal.τ).loc Cert.AdamFfnInReferenceIdeal.main_arg3))

def preserves_AdamFfnOut_AdamFfnOutIdeal : Prop :=
  IdealRules.named_const.Statement Cert.AdamFfnOutIdeal.κ "inv_c1" .f32 0x3FC48605#32 ((8388608 / 5463681 : ℝ) : EReal)
  ∧ IdealRules.named_const.Statement Cert.AdamFfnOutIdeal.κ "inv_c2" .f32 0x42C8E6D3#32 ((268435456 / 2672307 : ℝ) : EReal)

def algebraic_AdamFfnOutIdeal_AdamFfnOutReferenceIdeal [hAdamFfnOutIdeal : Cert.AdamFfnOutIdeal.Facts] [hAdamFfnOutReferenceIdeal : Cert.AdamFfnOutReferenceIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutReferenceIdeal.nD Cert.AdamFfnOutReferenceIdeal.τ Cert.AdamFfnOutReferenceIdeal.sig) → Buf (Elt Ideal) ℓ) (g' : Dev Cert.AdamFfnOutReferenceIdeal.nD → PrngReg), Pre_AdamFfnOutIdeal m →
    (∀ c : Dev Cert.AdamFfnOutIdeal.nD,
      m' ((c.tc : Thread Cert.AdamFfnOutReferenceIdeal.nD Cert.AdamFfnOutReferenceIdeal.τ).loc Cert.AdamFfnOutReferenceIdeal.main_arg0) = m ((c.tc : Thread Cert.AdamFfnOutIdeal.nD Cert.AdamFfnOutIdeal.τ).loc Cert.AdamFfnOutIdeal.main_arg0)
      ∧ m' ((c.tc : Thread Cert.AdamFfnOutReferenceIdeal.nD Cert.AdamFfnOutReferenceIdeal.τ).loc Cert.AdamFfnOutReferenceIdeal.main_arg1) = m ((c.tc : Thread Cert.AdamFfnOutIdeal.nD Cert.AdamFfnOutIdeal.τ).loc Cert.AdamFfnOutIdeal.main_arg1)
      ∧ m' ((c.tc : Thread Cert.AdamFfnOutReferenceIdeal.nD Cert.AdamFfnOutReferenceIdeal.τ).loc Cert.AdamFfnOutReferenceIdeal.main_arg2) = m ((c.tc : Thread Cert.AdamFfnOutIdeal.nD Cert.AdamFfnOutIdeal.τ).loc Cert.AdamFfnOutIdeal.main_arg2)
      ∧ m' ((c.tc : Thread Cert.AdamFfnOutReferenceIdeal.nD Cert.AdamFfnOutReferenceIdeal.τ).loc Cert.AdamFfnOutReferenceIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutReferenceIdeal.defs (F := Ideal)) (onTc (τ := Cert.AdamFfnOutReferenceIdeal.τ) (Cert.AdamFfnOutReferenceIdeal.main (F := Ideal))) ⟨m', fun _ => 0, g'⟩ (fun r => ∀ c : Dev Cert.AdamFfnOutReferenceIdeal.nD,
          r.2.mem ((c.tc : Thread Cert.AdamFfnOutReferenceIdeal.nD Cert.AdamFfnOutReferenceIdeal.τ).loc Cert.AdamFfnOutReferenceIdeal.main_v23) = v0 c
          ∧ r.2.mem ((c.tc : Thread Cert.AdamFfnOutReferenceIdeal.nD Cert.AdamFfnOutReferenceIdeal.τ).loc Cert.AdamFfnOutReferenceIdeal.main_v4) = v1 c
          ∧ r.2.mem ((c.tc : Thread Cert.AdamFfnOutReferenceIdeal.nD Cert.AdamFfnOutReferenceIdeal.τ).loc Cert.AdamFfnOutReferenceIdeal.main_v10) = v2 c
          ∧ r.2.mem ((c.tc : Thread Cert.AdamFfnOutReferenceIdeal.nD Cert.AdamFfnOutReferenceIdeal.τ).loc Cert.AdamFfnOutReferenceIdeal.main_arg0) = m' ((c.tc : Thread Cert.AdamFfnOutReferenceIdeal.nD Cert.AdamFfnOutReferenceIdeal.τ).loc Cert.AdamFfnOutReferenceIdeal.main_arg0)
          ∧ r.2.mem ((c.tc : Thread Cert.AdamFfnOutReferenceIdeal.nD Cert.AdamFfnOutReferenceIdeal.τ).loc Cert.AdamFfnOutReferenceIdeal.main_arg1) = m' ((c.tc : Thread Cert.AdamFfnOutReferenceIdeal.nD Cert.AdamFfnOutReferenceIdeal.τ).loc Cert.AdamFfnOutReferenceIdeal.main_arg1)
          ∧ r.2.mem ((c.tc : Thread Cert.AdamFfnOutReferenceIdeal.nD Cert.AdamFfnOutReferenceIdeal.τ).loc Cert.AdamFfnOutReferenceIdeal.main_arg2) = m' ((c.tc : Thread Cert.AdamFfnOutReferenceIdeal.nD Cert.AdamFfnOutReferenceIdeal.τ).loc Cert.AdamFfnOutReferenceIdeal.main_arg2)
          ∧ r.2.mem ((c.tc : Thread Cert.AdamFfnOutReferenceIdeal.nD Cert.AdamFfnOutReferenceIdeal.τ).loc Cert.AdamFfnOutReferenceIdeal.main_arg3) = m' ((c.tc : Thread Cert.AdamFfnOutReferenceIdeal.nD Cert.AdamFfnOutReferenceIdeal.τ).loc Cert.AdamFfnOutReferenceIdeal.main_arg3))

def Claim : Prop :=
  ∃ (hKernel : Cert.Kernel.Facts) (hKernelIdeal : Cert.KernelIdeal.Facts) (hReferenceIdeal : Cert.ReferenceIdeal.Facts) (hActBwd : Cert.ActBwd.Facts) (hActBwdIdeal : Cert.ActBwdIdeal.Facts) (hActBwdReferenceIdeal : Cert.ActBwdReferenceIdeal.Facts) (hOutBwd : Cert.OutBwd.Facts) (hOutBwdIdeal : Cert.OutBwdIdeal.Facts) (hOutBwdReferenceIdeal : Cert.OutBwdReferenceIdeal.Facts) (hOutWg : Cert.OutWg.Facts) (hOutWgIdeal : Cert.OutWgIdeal.Facts) (hOutWgReferenceIdeal : Cert.OutWgReferenceIdeal.Facts) (hInBwd : Cert.InBwd.Facts) (hInBwdIdeal : Cert.InBwdIdeal.Facts) (hInBwdReferenceIdeal : Cert.InBwdReferenceIdeal.Facts) (hInWg : Cert.InWg.Facts) (hInWgIdeal : Cert.InWgIdeal.Facts) (hInWgReferenceIdeal : Cert.InWgReferenceIdeal.Facts) (hIn : Cert.In.Facts) (hInIdeal : Cert.InIdeal.Facts) (hInReferenceIdeal : Cert.InReferenceIdeal.Facts) (hOut : Cert.Out.Facts) (hOutIdeal : Cert.OutIdeal.Facts) (hOutReferenceIdeal : Cert.OutReferenceIdeal.Facts) (hNormBwd : Cert.NormBwd.Facts) (hNormBwdIdeal : Cert.NormBwdIdeal.Facts) (hNormBwdReferenceIdeal : Cert.NormBwdReferenceIdeal.Facts) (hGateBwd : Cert.GateBwd.Facts) (hGateBwdIdeal : Cert.GateBwdIdeal.Facts) (hGateBwdReferenceIdeal : Cert.GateBwdReferenceIdeal.Facts) (hAct : Cert.Act.Facts) (hActIdeal : Cert.ActIdeal.Facts) (hActReferenceIdeal : Cert.ActReferenceIdeal.Facts) (hSbIn : Cert.SbIn.Facts) (hSbInIdeal : Cert.SbInIdeal.Facts) (hSbInReferenceIdeal : Cert.SbInReferenceIdeal.Facts) (hSbInBwd : Cert.SbInBwd.Facts) (hSbInBwdIdeal : Cert.SbInBwdIdeal.Facts) (hSbInBwdReferenceIdeal : Cert.SbInBwdReferenceIdeal.Facts) (hSbInWg : Cert.SbInWg.Facts) (hSbInWgIdeal : Cert.SbInWgIdeal.Facts) (hSbInWgReferenceIdeal : Cert.SbInWgReferenceIdeal.Facts) (hDnIn : Cert.DnIn.Facts) (hDnInIdeal : Cert.DnInIdeal.Facts) (hDnInReferenceIdeal : Cert.DnInReferenceIdeal.Facts) (hDnInBwd : Cert.DnInBwd.Facts) (hDnInBwdIdeal : Cert.DnInBwdIdeal.Facts) (hDnInBwdReferenceIdeal : Cert.DnInBwdReferenceIdeal.Facts) (hDnInWg : Cert.DnInWg.Facts) (hDnInWgIdeal : Cert.DnInWgIdeal.Facts) (hDnInWgReferenceIdeal : Cert.DnInWgReferenceIdeal.Facts) (hMixOut : Cert.MixOut.Facts) (hMixOutIdeal : Cert.MixOutIdeal.Facts) (hMixOutReferenceIdeal : Cert.MixOutReferenceIdeal.Facts) (hSbOutBwd : Cert.SbOutBwd.Facts) (hSbOutBwdIdeal : Cert.SbOutBwdIdeal.Facts) (hSbOutBwdReferenceIdeal : Cert.SbOutBwdReferenceIdeal.Facts) (hDnOutBwd : Cert.DnOutBwd.Facts) (hDnOutBwdIdeal : Cert.DnOutBwdIdeal.Facts) (hDnOutBwdReferenceIdeal : Cert.DnOutBwdReferenceIdeal.Facts) (hMixOutWg : Cert.MixOutWg.Facts) (hMixOutWgIdeal : Cert.MixOutWgIdeal.Facts) (hMixOutWgReferenceIdeal : Cert.MixOutWgReferenceIdeal.Facts) (hAdaBwd : Cert.AdaBwd.Facts) (hAdaBwdIdeal : Cert.AdaBwdIdeal.Facts) (hAdaBwdReferenceIdeal : Cert.AdaBwdReferenceIdeal.Facts) (hAda : Cert.Ada.Facts) (hAdaIdeal : Cert.AdaIdeal.Facts) (hAdaReferenceIdeal : Cert.AdaReferenceIdeal.Facts) (hNorm : Cert.Norm.Facts) (hNormIdeal : Cert.NormIdeal.Facts) (hNormReferenceIdeal : Cert.NormReferenceIdeal.Facts) (hGate : Cert.Gate.Facts) (hGateIdeal : Cert.GateIdeal.Facts) (hGateReferenceIdeal : Cert.GateReferenceIdeal.Facts) (hGateNorm : Cert.GateNorm.Facts) (hGateNormIdeal : Cert.GateNormIdeal.Facts) (hGateNormReferenceIdeal : Cert.GateNormReferenceIdeal.Facts) (hLoss : Cert.Loss.Facts) (hLossIdeal : Cert.LossIdeal.Facts) (hLossReferenceIdeal : Cert.LossReferenceIdeal.Facts) (hAdamOut : Cert.AdamOut.Facts) (hAdamOutIdeal : Cert.AdamOutIdeal.Facts) (hAdamOutReferenceIdeal : Cert.AdamOutReferenceIdeal.Facts) (hAdamAda : Cert.AdamAda.Facts) (hAdamAdaIdeal : Cert.AdamAdaIdeal.Facts) (hAdamAdaReferenceIdeal : Cert.AdamAdaReferenceIdeal.Facts) (hAdamAdaB : Cert.AdamAdaB.Facts) (hAdamAdaBIdeal : Cert.AdamAdaBIdeal.Facts) (hAdamAdaBReferenceIdeal : Cert.AdamAdaBReferenceIdeal.Facts) (hAdamNorm : Cert.AdamNorm.Facts) (hAdamNormIdeal : Cert.AdamNormIdeal.Facts) (hAdamNormReferenceIdeal : Cert.AdamNormReferenceIdeal.Facts) (hAdamDnIn : Cert.AdamDnIn.Facts) (hAdamDnInIdeal : Cert.AdamDnInIdeal.Facts) (hAdamDnInReferenceIdeal : Cert.AdamDnInReferenceIdeal.Facts) (hAdamConv : Cert.AdamConv.Facts) (hAdamConvIdeal : Cert.AdamConvIdeal.Facts) (hAdamConvReferenceIdeal : Cert.AdamConvReferenceIdeal.Facts) (hAdamDecay : Cert.AdamDecay.Facts) (hAdamDecayIdeal : Cert.AdamDecayIdeal.Facts) (hAdamDecayReferenceIdeal : Cert.AdamDecayReferenceIdeal.Facts) (hAdamDnNorm : Cert.AdamDnNorm.Facts) (hAdamDnNormIdeal : Cert.AdamDnNormIdeal.Facts) (hAdamDnNormReferenceIdeal : Cert.AdamDnNormReferenceIdeal.Facts) (hAdamSbIn : Cert.AdamSbIn.Facts) (hAdamSbInIdeal : Cert.AdamSbInIdeal.Facts) (hAdamSbInReferenceIdeal : Cert.AdamSbInReferenceIdeal.Facts) (hAdamHead : Cert.AdamHead.Facts) (hAdamHeadIdeal : Cert.AdamHeadIdeal.Facts) (hAdamHeadReferenceIdeal : Cert.AdamHeadReferenceIdeal.Facts) (hAdamFfnIn : Cert.AdamFfnIn.Facts) (hAdamFfnInIdeal : Cert.AdamFfnInIdeal.Facts) (hAdamFfnInReferenceIdeal : Cert.AdamFfnInReferenceIdeal.Facts) (hAdamFfnOut : Cert.AdamFfnOut.Facts) (hAdamFfnOutIdeal : Cert.AdamFfnOutIdeal.Facts) (hAdamFfnOutReferenceIdeal : Cert.AdamFfnOutReferenceIdeal.Facts) (hPre_finite : Cert.Pre_finite.Facts) (hPre_act_finite : Cert.Pre_act_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ActBwd (hActBwd := hActBwd)
    ∧ quiescent_ActBwdIdeal (hActBwdIdeal := hActBwdIdeal)
    ∧ quiescent_ActBwdIdeal_pre_act_finite (hActBwdIdeal := hActBwdIdeal) (hPre_act_finite := hPre_act_finite)
    ∧ quiescent_ActBwdReferenceIdeal (hActBwdReferenceIdeal := hActBwdReferenceIdeal)
    ∧ quiescent_ActBwdReferenceIdeal_pre_act_finite (hActBwdReferenceIdeal := hActBwdReferenceIdeal) (hPre_act_finite := hPre_act_finite)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ quiescent_OutWg (hOutWg := hOutWg)
    ∧ quiescent_OutWgIdeal (hOutWgIdeal := hOutWgIdeal)
    ∧ quiescent_OutWgReferenceIdeal (hOutWgReferenceIdeal := hOutWgReferenceIdeal)
    ∧ quiescent_InBwd (hInBwd := hInBwd)
    ∧ quiescent_InBwdIdeal (hInBwdIdeal := hInBwdIdeal)
    ∧ quiescent_InBwdReferenceIdeal (hInBwdReferenceIdeal := hInBwdReferenceIdeal)
    ∧ quiescent_InWg (hInWg := hInWg)
    ∧ quiescent_InWgIdeal (hInWgIdeal := hInWgIdeal)
    ∧ quiescent_InWgReferenceIdeal (hInWgReferenceIdeal := hInWgReferenceIdeal)
    ∧ quiescent_In (hIn := hIn)
    ∧ quiescent_InIdeal (hInIdeal := hInIdeal)
    ∧ quiescent_InReferenceIdeal (hInReferenceIdeal := hInReferenceIdeal)
    ∧ quiescent_Out (hOut := hOut)
    ∧ quiescent_OutIdeal (hOutIdeal := hOutIdeal)
    ∧ quiescent_OutReferenceIdeal (hOutReferenceIdeal := hOutReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ quiescent_Act (hAct := hAct)
    ∧ quiescent_ActIdeal (hActIdeal := hActIdeal)
    ∧ quiescent_ActReferenceIdeal (hActReferenceIdeal := hActReferenceIdeal)
    ∧ quiescent_SbIn (hSbIn := hSbIn)
    ∧ quiescent_SbInIdeal (hSbInIdeal := hSbInIdeal)
    ∧ quiescent_SbInReferenceIdeal (hSbInReferenceIdeal := hSbInReferenceIdeal)
    ∧ quiescent_SbInBwd (hSbInBwd := hSbInBwd)
    ∧ quiescent_SbInBwdIdeal (hSbInBwdIdeal := hSbInBwdIdeal)
    ∧ quiescent_SbInBwdReferenceIdeal (hSbInBwdReferenceIdeal := hSbInBwdReferenceIdeal)
    ∧ quiescent_SbInWg (hSbInWg := hSbInWg)
    ∧ quiescent_SbInWgIdeal (hSbInWgIdeal := hSbInWgIdeal)
    ∧ quiescent_SbInWgReferenceIdeal (hSbInWgReferenceIdeal := hSbInWgReferenceIdeal)
    ∧ quiescent_DnIn (hDnIn := hDnIn)
    ∧ quiescent_DnInIdeal (hDnInIdeal := hDnInIdeal)
    ∧ quiescent_DnInReferenceIdeal (hDnInReferenceIdeal := hDnInReferenceIdeal)
    ∧ quiescent_DnInBwd (hDnInBwd := hDnInBwd)
    ∧ quiescent_DnInBwdIdeal (hDnInBwdIdeal := hDnInBwdIdeal)
    ∧ quiescent_DnInBwdReferenceIdeal (hDnInBwdReferenceIdeal := hDnInBwdReferenceIdeal)
    ∧ quiescent_DnInWg (hDnInWg := hDnInWg)
    ∧ quiescent_DnInWgIdeal (hDnInWgIdeal := hDnInWgIdeal)
    ∧ quiescent_DnInWgReferenceIdeal (hDnInWgReferenceIdeal := hDnInWgReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_SbOutBwd (hSbOutBwd := hSbOutBwd)
    ∧ quiescent_SbOutBwdIdeal (hSbOutBwdIdeal := hSbOutBwdIdeal)
    ∧ quiescent_SbOutBwdReferenceIdeal (hSbOutBwdReferenceIdeal := hSbOutBwdReferenceIdeal)
    ∧ quiescent_DnOutBwd (hDnOutBwd := hDnOutBwd)
    ∧ quiescent_DnOutBwdIdeal (hDnOutBwdIdeal := hDnOutBwdIdeal)
    ∧ quiescent_DnOutBwdReferenceIdeal (hDnOutBwdReferenceIdeal := hDnOutBwdReferenceIdeal)
    ∧ quiescent_MixOutWg (hMixOutWg := hMixOutWg)
    ∧ quiescent_MixOutWgIdeal (hMixOutWgIdeal := hMixOutWgIdeal)
    ∧ quiescent_MixOutWgReferenceIdeal (hMixOutWgReferenceIdeal := hMixOutWgReferenceIdeal)
    ∧ quiescent_AdaBwd (hAdaBwd := hAdaBwd)
    ∧ quiescent_AdaBwdIdeal (hAdaBwdIdeal := hAdaBwdIdeal)
    ∧ quiescent_AdaBwdReferenceIdeal (hAdaBwdReferenceIdeal := hAdaBwdReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Gate (hGate := hGate)
    ∧ quiescent_GateIdeal (hGateIdeal := hGateIdeal)
    ∧ quiescent_GateReferenceIdeal (hGateReferenceIdeal := hGateReferenceIdeal)
    ∧ quiescent_GateNorm (hGateNorm := hGateNorm)
    ∧ quiescent_GateNormIdeal (hGateNormIdeal := hGateNormIdeal)
    ∧ quiescent_GateNormReferenceIdeal (hGateNormReferenceIdeal := hGateNormReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamAda (hAdamAda := hAdamAda)
    ∧ quiescent_AdamAdaIdeal (hAdamAdaIdeal := hAdamAdaIdeal)
    ∧ quiescent_AdamAdaReferenceIdeal (hAdamAdaReferenceIdeal := hAdamAdaReferenceIdeal)
    ∧ quiescent_AdamAdaB (hAdamAdaB := hAdamAdaB)
    ∧ quiescent_AdamAdaBIdeal (hAdamAdaBIdeal := hAdamAdaBIdeal)
    ∧ quiescent_AdamAdaBReferenceIdeal (hAdamAdaBReferenceIdeal := hAdamAdaBReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamDnIn (hAdamDnIn := hAdamDnIn)
    ∧ quiescent_AdamDnInIdeal (hAdamDnInIdeal := hAdamDnInIdeal)
    ∧ quiescent_AdamDnInReferenceIdeal (hAdamDnInReferenceIdeal := hAdamDnInReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamDecay (hAdamDecay := hAdamDecay)
    ∧ quiescent_AdamDecayIdeal (hAdamDecayIdeal := hAdamDecayIdeal)
    ∧ quiescent_AdamDecayReferenceIdeal (hAdamDecayReferenceIdeal := hAdamDecayReferenceIdeal)
    ∧ quiescent_AdamDnNorm (hAdamDnNorm := hAdamDnNorm)
    ∧ quiescent_AdamDnNormIdeal (hAdamDnNormIdeal := hAdamDnNormIdeal)
    ∧ quiescent_AdamDnNormReferenceIdeal (hAdamDnNormReferenceIdeal := hAdamDnNormReferenceIdeal)
    ∧ quiescent_AdamSbIn (hAdamSbIn := hAdamSbIn)
    ∧ quiescent_AdamSbInIdeal (hAdamSbInIdeal := hAdamSbInIdeal)
    ∧ quiescent_AdamSbInReferenceIdeal (hAdamSbInReferenceIdeal := hAdamSbInReferenceIdeal)
    ∧ quiescent_AdamHead (hAdamHead := hAdamHead)
    ∧ quiescent_AdamHeadIdeal (hAdamHeadIdeal := hAdamHeadIdeal)
    ∧ quiescent_AdamHeadReferenceIdeal (hAdamHeadReferenceIdeal := hAdamHeadReferenceIdeal)
    ∧ quiescent_AdamFfnIn (hAdamFfnIn := hAdamFfnIn)
    ∧ quiescent_AdamFfnInIdeal (hAdamFfnInIdeal := hAdamFfnInIdeal)
    ∧ quiescent_AdamFfnInReferenceIdeal (hAdamFfnInReferenceIdeal := hAdamFfnInReferenceIdeal)
    ∧ quiescent_AdamFfnOut (hAdamFfnOut := hAdamFfnOut)
    ∧ quiescent_AdamFfnOutIdeal (hAdamFfnOutIdeal := hAdamFfnOutIdeal)
    ∧ quiescent_AdamFfnOutReferenceIdeal (hAdamFfnOutReferenceIdeal := hAdamFfnOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ActBwd_ActBwdIdeal
    ∧ algebraic_ActBwdIdeal_ActBwdReferenceIdeal_pre_act_finite (hActBwdIdeal := hActBwdIdeal) (hActBwdReferenceIdeal := hActBwdReferenceIdeal) (hPre_act_finite := hPre_act_finite)
    ∧ preserves_OutBwd_OutBwdIdeal
    ∧ algebraic_OutBwdIdeal_OutBwdReferenceIdeal (hOutBwdIdeal := hOutBwdIdeal) (hOutBwdReferenceIdeal := hOutBwdReferenceIdeal)
    ∧ preserves_OutWg_OutWgIdeal
    ∧ algebraic_OutWgIdeal_OutWgReferenceIdeal (hOutWgIdeal := hOutWgIdeal) (hOutWgReferenceIdeal := hOutWgReferenceIdeal)
    ∧ preserves_InBwd_InBwdIdeal
    ∧ algebraic_InBwdIdeal_InBwdReferenceIdeal (hInBwdIdeal := hInBwdIdeal) (hInBwdReferenceIdeal := hInBwdReferenceIdeal)
    ∧ preserves_InWg_InWgIdeal
    ∧ algebraic_InWgIdeal_InWgReferenceIdeal (hInWgIdeal := hInWgIdeal) (hInWgReferenceIdeal := hInWgReferenceIdeal)
    ∧ preserves_In_InIdeal
    ∧ algebraic_InIdeal_InReferenceIdeal (hInIdeal := hInIdeal) (hInReferenceIdeal := hInReferenceIdeal)
    ∧ preserves_Out_OutIdeal
    ∧ algebraic_OutIdeal_OutReferenceIdeal (hOutIdeal := hOutIdeal) (hOutReferenceIdeal := hOutReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_GateBwd_GateBwdIdeal
    ∧ algebraic_GateBwdIdeal_GateBwdReferenceIdeal (hGateBwdIdeal := hGateBwdIdeal) (hGateBwdReferenceIdeal := hGateBwdReferenceIdeal)
    ∧ preserves_Act_ActIdeal
    ∧ algebraic_ActIdeal_ActReferenceIdeal (hActIdeal := hActIdeal) (hActReferenceIdeal := hActReferenceIdeal)
    ∧ preserves_SbIn_SbInIdeal
    ∧ algebraic_SbInIdeal_SbInReferenceIdeal (hSbInIdeal := hSbInIdeal) (hSbInReferenceIdeal := hSbInReferenceIdeal)
    ∧ preserves_SbInBwd_SbInBwdIdeal
    ∧ algebraic_SbInBwdIdeal_SbInBwdReferenceIdeal (hSbInBwdIdeal := hSbInBwdIdeal) (hSbInBwdReferenceIdeal := hSbInBwdReferenceIdeal)
    ∧ preserves_SbInWg_SbInWgIdeal
    ∧ algebraic_SbInWgIdeal_SbInWgReferenceIdeal (hSbInWgIdeal := hSbInWgIdeal) (hSbInWgReferenceIdeal := hSbInWgReferenceIdeal)
    ∧ preserves_DnIn_DnInIdeal
    ∧ algebraic_DnInIdeal_DnInReferenceIdeal (hDnInIdeal := hDnInIdeal) (hDnInReferenceIdeal := hDnInReferenceIdeal)
    ∧ preserves_DnInBwd_DnInBwdIdeal
    ∧ algebraic_DnInBwdIdeal_DnInBwdReferenceIdeal (hDnInBwdIdeal := hDnInBwdIdeal) (hDnInBwdReferenceIdeal := hDnInBwdReferenceIdeal)
    ∧ preserves_DnInWg_DnInWgIdeal
    ∧ algebraic_DnInWgIdeal_DnInWgReferenceIdeal (hDnInWgIdeal := hDnInWgIdeal) (hDnInWgReferenceIdeal := hDnInWgReferenceIdeal)
    ∧ preserves_MixOut_MixOutIdeal
    ∧ algebraic_MixOutIdeal_MixOutReferenceIdeal (hMixOutIdeal := hMixOutIdeal) (hMixOutReferenceIdeal := hMixOutReferenceIdeal)
    ∧ preserves_SbOutBwd_SbOutBwdIdeal
    ∧ algebraic_SbOutBwdIdeal_SbOutBwdReferenceIdeal (hSbOutBwdIdeal := hSbOutBwdIdeal) (hSbOutBwdReferenceIdeal := hSbOutBwdReferenceIdeal)
    ∧ preserves_DnOutBwd_DnOutBwdIdeal
    ∧ algebraic_DnOutBwdIdeal_DnOutBwdReferenceIdeal (hDnOutBwdIdeal := hDnOutBwdIdeal) (hDnOutBwdReferenceIdeal := hDnOutBwdReferenceIdeal)
    ∧ preserves_MixOutWg_MixOutWgIdeal
    ∧ algebraic_MixOutWgIdeal_MixOutWgReferenceIdeal (hMixOutWgIdeal := hMixOutWgIdeal) (hMixOutWgReferenceIdeal := hMixOutWgReferenceIdeal)
    ∧ preserves_AdaBwd_AdaBwdIdeal
    ∧ algebraic_AdaBwdIdeal_AdaBwdReferenceIdeal (hAdaBwdIdeal := hAdaBwdIdeal) (hAdaBwdReferenceIdeal := hAdaBwdReferenceIdeal)
    ∧ preserves_Ada_AdaIdeal
    ∧ algebraic_AdaIdeal_AdaReferenceIdeal (hAdaIdeal := hAdaIdeal) (hAdaReferenceIdeal := hAdaReferenceIdeal)
    ∧ preserves_Norm_NormIdeal
    ∧ algebraic_NormIdeal_NormReferenceIdeal (hNormIdeal := hNormIdeal) (hNormReferenceIdeal := hNormReferenceIdeal)
    ∧ preserves_Gate_GateIdeal
    ∧ algebraic_GateIdeal_GateReferenceIdeal (hGateIdeal := hGateIdeal) (hGateReferenceIdeal := hGateReferenceIdeal)
    ∧ preserves_GateNorm_GateNormIdeal
    ∧ algebraic_GateNormIdeal_GateNormReferenceIdeal (hGateNormIdeal := hGateNormIdeal) (hGateNormReferenceIdeal := hGateNormReferenceIdeal)
    ∧ preserves_Loss_LossIdeal
    ∧ algebraic_LossIdeal_LossReferenceIdeal (hLossIdeal := hLossIdeal) (hLossReferenceIdeal := hLossReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamAda_AdamAdaIdeal
    ∧ algebraic_AdamAdaIdeal_AdamAdaReferenceIdeal (hAdamAdaIdeal := hAdamAdaIdeal) (hAdamAdaReferenceIdeal := hAdamAdaReferenceIdeal)
    ∧ preserves_AdamAdaB_AdamAdaBIdeal
    ∧ algebraic_AdamAdaBIdeal_AdamAdaBReferenceIdeal (hAdamAdaBIdeal := hAdamAdaBIdeal) (hAdamAdaBReferenceIdeal := hAdamAdaBReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamDnIn_AdamDnInIdeal
    ∧ algebraic_AdamDnInIdeal_AdamDnInReferenceIdeal (hAdamDnInIdeal := hAdamDnInIdeal) (hAdamDnInReferenceIdeal := hAdamDnInReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamDecay_AdamDecayIdeal
    ∧ algebraic_AdamDecayIdeal_AdamDecayReferenceIdeal (hAdamDecayIdeal := hAdamDecayIdeal) (hAdamDecayReferenceIdeal := hAdamDecayReferenceIdeal)
    ∧ preserves_AdamDnNorm_AdamDnNormIdeal
    ∧ algebraic_AdamDnNormIdeal_AdamDnNormReferenceIdeal (hAdamDnNormIdeal := hAdamDnNormIdeal) (hAdamDnNormReferenceIdeal := hAdamDnNormReferenceIdeal)
    ∧ preserves_AdamSbIn_AdamSbInIdeal
    ∧ algebraic_AdamSbInIdeal_AdamSbInReferenceIdeal (hAdamSbInIdeal := hAdamSbInIdeal) (hAdamSbInReferenceIdeal := hAdamSbInReferenceIdeal)
    ∧ preserves_AdamHead_AdamHeadIdeal
    ∧ algebraic_AdamHeadIdeal_AdamHeadReferenceIdeal (hAdamHeadIdeal := hAdamHeadIdeal) (hAdamHeadReferenceIdeal := hAdamHeadReferenceIdeal)
    ∧ preserves_AdamFfnIn_AdamFfnInIdeal
    ∧ algebraic_AdamFfnInIdeal_AdamFfnInReferenceIdeal (hAdamFfnInIdeal := hAdamFfnInIdeal) (hAdamFfnInReferenceIdeal := hAdamFfnInReferenceIdeal)
    ∧ preserves_AdamFfnOut_AdamFfnOutIdeal
    ∧ algebraic_AdamFfnOutIdeal_AdamFfnOutReferenceIdeal (hAdamFfnOutIdeal := hAdamFfnOutIdeal) (hAdamFfnOutReferenceIdeal := hAdamFfnOutReferenceIdeal)
-- ==== Pre_act_finite.lean ====
abbrev S2048x2816 : Shape := ⟨2, ![2048, 2816]⟩
abbrev S2048x5632 : Shape := ⟨2, ![2048, 5632]⟩
abbrev S_ : Shape := ⟨0, ![]⟩

class Facts : Prop where
  bitsLt_bf16_f32 : FTy.bits .bf16 < FTy.bits .f32
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x2816 .bf16) (main_arg1 : FVec F S2048x5632 .bf16) : IVec S_ 1 :=
  let main_v0 : FVec F S2048x2816 .f32 := (extf .f32 · bitsLt_bf16_f32) main_arg0
  let main_v1 : FVec F S2048x2816 .f32 := Host.absf main_v0
  let main_cst : FVec F S_ .f32 := constant S_ .f32 0x7F800000#32
  let main_v2 : FVec F S2048x2816 .f32 := broadcastInDim S2048x2816 ![] bcast_S_S2048x2816 main_cst
  let main_v3 : IVec S2048x2816 1 := cmpf .olt main_v1 main_v2
  let main_c : IVec S_ 1 := constantI S_ 1 1#1
  let main_v4 : IVec S_ 1 := (fun x v => Host.reduce IntOp.andi x v reducesTo_S2048x2816_S_d0_1 h_S_) main_v3 main_c
  let main_v5 : FVec F S2048x5632 .f32 := (extf .f32 · bitsLt_bf16_f32) main_arg1
  let main_v6 : FVec F S2048x5632 .f32 := Host.absf main_v5
  let main_cst_0 : FVec F S_ .f32 := constant S_ .f32 0x7F800000#32
  let main_v7 : FVec F S2048x5632 .f32 := broadcastInDim S2048x5632 ![] bcast_S_S2048x5632 main_cst_0
  let main_v8 : IVec S2048x5632 1 := cmpf .olt main_v6 main_v7
  let main_c_1 : IVec S_ 1 := constantI S_ 1 1#1
  let main_v9 : IVec S_ 1 := (fun x v => Host.reduce IntOp.andi x v reducesTo_S2048x5632_S_d0_1 h_S_) main_v8 main_c_1
  let main_v10 : IVec S_ 1 := andi main_v4 main_v9
  main_v10
-- ==== Pre_finite.lean ====
abbrev S2048x3072 : Shape := ⟨2, ![2048, 3072]⟩
abbrev S64 : Shape := ⟨1, ![64]⟩
abbrev S2048x1024 : Shape := ⟨2, ![2048, 1024]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S64 : S_.BroadcastsInDim S64 (![] : Fin 0 → Fin S64.rank)
  reducesTo_S64_S_d0 : S64.ReducesTo [0] S_
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v13 main_v18
  main_v19

def fn {F : FTy → Type} [FloatOps F] (main_arg0 : FVec F S2048x3072 .f32) (main_arg1 : FVec F S64 .f32) (main_arg2 : FVec F S64 .f32) (main_arg3 : FVec F S2048x1024 .bf16) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2048x1024 .f32 := (extf .f32 · bitsLt_bf16_f32) main_arg3
  let main_v15 : FVec F S2048x1024 .f32 := Host.absf main_v14
  let main_cst_4 : FVec F S_ .f32 := constant S_ .f32 0x7F800000#32
  let main_v16 : FVec F S2048x1024 .f32 := broadcastInDim S2048x1024 ![] bcast_S_S2048x1024 main_cst_4
  fn_part1 (F := F) main_v13 main_v15 main_v16
-- ==== Kernel.lean ====
abbrev S2048x3072 : Shape := ⟨2, ![2048, 3072]⟩
abbrev S64 : Shape := ⟨1, ![64]⟩
abbrev S2048x1024 : Shape := ⟨2, ![2048, 1024]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S2048x16x64 : Shape := ⟨3, ![2048, 16, 64]⟩
abbrev S_ : Shape := ⟨0, ![]⟩
abbrev S2048x16 : Shape := ⟨2, ![2048, 16]⟩
abbrev S2048x16x1 : Shape := ⟨3, ![2048, 16, 1]⟩
abbrev S1x1x64 : Shape := ⟨3, ![1, 1, 64]⟩
abbrev S16x2048x64 : Shape := ⟨3, ![16, 2048, 64]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x2048 : Shape := ⟨2, ![16, 2048]⟩
abbrev S2048x256 : Shape := ⟨2, ![2048, 256]⟩
abbrev S256x256 : Shape := ⟨2, ![256, 256]⟩
abbrev S1x1x256 : Shape := ⟨3, ![1, 1, 256]⟩
abbrev S4x1x256 : Shape := ⟨3, ![4, 1, 256]⟩
abbrev S256 : Shape := ⟨1, ![256]⟩
abbrev S256x1 : Shape := ⟨2, ![256, 1]⟩
abbrev S1x256x1 : Shape := ⟨3, ![1, 256, 1]⟩
abbrev S4x256x1 : Shape := ⟨3, ![4, 256, 1]⟩
abbrev S1x256x256 : Shape := ⟨3, ![1, 256, 256]⟩
abbrev S4x256x256 : Shape := ⟨3, ![4, 256, 256]⟩
abbrev S4x256 : Shape := ⟨2, ![4, 256]⟩

abbrev nBuf : Space → Nat
  | .hbm => 94
  | .vmem => 26
  | .smem => 0
  | _ => 0

abbrev bufTy : (tb : Table) → Fin (tcTables nBuf tb) → BufTy
  | .hbm, ⟨0, _⟩ => ⟨S2048x3072, .f32⟩
  | .hbm, ⟨1, _⟩ => ⟨S64, .f32⟩
  | .hbm, ⟨2, _⟩ => ⟨S64, .f32⟩
  | .hbm, ⟨3, _⟩ => ⟨S2048x1024, .bf16⟩
  | .hbm, ⟨4, _⟩ => ⟨S1x64, .f32⟩
  | .hbm, ⟨5, _⟩ => ⟨S1x1x1x64, .f32⟩
  | .hbm, ⟨6, _⟩ => ⟨S1x1x4x64, .f32⟩
  | .hbm, ⟨7, _⟩ => ⟨S1x256, .f32⟩
  | .hbm, ⟨8, _⟩ => ⟨S1x64, .f32⟩
  | .hbm, ⟨9, _⟩ => ⟨S1x1x1x64, .f32⟩
  | .hbm, ⟨10, _⟩ => ⟨S1x1x4x64, .f32⟩
  | .hbm, ⟨11, _⟩ => ⟨S1x256, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x16x64, .f32⟩
  | .hbm, ⟨16, _⟩ => ⟨S2048x16x64, .f32⟩
  | .hbm, ⟨17, _⟩ => ⟨S_, .f32⟩
  | .hbm, ⟨18, _⟩ => ⟨S2048x16, .f32⟩
  | .hbm, ⟨19, _⟩ => ⟨S2048x16x1, .f32⟩
  | .hbm, ⟨20, _⟩ => ⟨S_, .f32⟩
  | .hbm, ⟨21, _⟩ => ⟨S2048x16x1, .f32⟩
  | .hbm, ⟨22, _⟩ => ⟨S2048x16x1, .f32⟩
  | .hbm, ⟨23, _⟩ => ⟨S_, .f32⟩
  | .hbm, ⟨24, _⟩ => ⟨S2048x16x1, .f32⟩
  | .hbm, ⟨25, _⟩ => ⟨S2048x16x1, .f32⟩
  | .hbm, ⟨26, _⟩ => ⟨S2048x16x1, .f32⟩
  | .hbm, ⟨27, _⟩ => ⟨S2048x16x64, .f32⟩
  | .hbm, ⟨28, _⟩ => ⟨S2048x16x64, .f32⟩
  | .hbm, ⟨29, _⟩ => ⟨S1x1x64, .f32⟩
  | .hbm, ⟨30, _⟩ => ⟨S2048x16x64, .f32⟩
  | .hbm, ⟨31, _⟩ => ⟨S2048x16x64, .f32⟩
  | .hbm, ⟨32, _⟩ => ⟨S16x2048x64, .f32⟩
  | .hbm, ⟨33, _⟩ => ⟨S2048x16x64, .f32⟩
  | .hbm, ⟨34, _⟩ => ⟨S2048x16x64, .f32⟩
  | .hbm, ⟨35, _⟩ => ⟨S_, .f32⟩
  | .hbm, ⟨36, _⟩ => ⟨S2048x16, .f32⟩
  | .hbm, ⟨37, _⟩ => ⟨S2048x16x1, .f32⟩
  | .hbm, ⟨38, _⟩ => ⟨S_, .f32⟩
  | .hbm, ⟨39, _⟩ => ⟨S2048x16x1, .f32⟩
  | .hbm, ⟨40, _⟩ => ⟨S2048x16x1, .f32⟩
  | .hbm, ⟨41, _⟩ => ⟨S_, .f32⟩
  | .hbm, ⟨42, _⟩ => ⟨S2048x16x1, .f32⟩
  | .hbm, ⟨43, _⟩ => ⟨S2048x16x1, .f32⟩
  | .hbm, ⟨44, _⟩ => ⟨S2048x16x1, .f32⟩
  | .hbm, ⟨45, _⟩ => ⟨S2048x16x64, .f32⟩
  | .hbm, ⟨46, _⟩ => ⟨S2048x16x64, .f32⟩
  | .hbm, ⟨47, _⟩ => ⟨S1x1x64, .f32⟩
  | .hbm, ⟨48, _⟩ => ⟨S2048x16x64, .f32⟩
  | .hbm, ⟨49, _⟩ => ⟨S2048x16x64, .f32⟩
  | .hbm, ⟨50, _⟩ => ⟨S16x2048x64, .f32⟩
  | .hbm, ⟨51, _⟩ => ⟨S16x2048x2048, .f32⟩
  | .hbm, ⟨52, _⟩ => ⟨S_, .f32⟩
  | .hbm, ⟨53, _⟩ => ⟨S16x2048x2048, .f32⟩
  | .hbm, ⟨54, _⟩ => ⟨S16x2048x2048, .f32⟩
  | .hbm, ⟨55, _⟩ => ⟨S2048, .i32⟩
  | .hbm, ⟨56, _⟩ => ⟨S1x2048, .i32⟩
  | .hbm, ⟨57, _⟩ => ⟨S2048x1, .i32⟩
  | .hbm, ⟨58, _⟩ => ⟨S2048x2048, .i32⟩
  | .hbm, ⟨59, _⟩ => ⟨S2048x2048, .i32⟩
  | .hbm, ⟨60, _⟩ => ⟨S2048x2048, .i1⟩
  | .hbm, ⟨61, _⟩ => ⟨S16x2048x2048, .f32⟩
  | .hbm, ⟨62, _⟩ => ⟨S16x2048x2048, .f32⟩
  | .hbm, ⟨63, _⟩ => ⟨S_, .f32⟩
  | .hbm, ⟨64, _⟩ => ⟨S16x2048x2048, .f32⟩
  | .hbm, ⟨65, _⟩ => ⟨S16x2048x2048, .f32⟩
  | .hbm, ⟨66, _⟩ => ⟨S16x2048x2048, .f32⟩
  | .hbm, ⟨67, _⟩ => ⟨S16x2048x2048, .f32⟩
  | .hbm, ⟨68, _⟩ => ⟨S16x2048x2048, .i1⟩
  | .hbm, ⟨69, _⟩ => ⟨S16x2048x2048, .f32⟩
  | .hbm, ⟨70, _⟩ => ⟨S16x2048x2048, .f32⟩
  | .hbm, ⟨71, _⟩ => ⟨S16x2048x2048, .f32⟩
  | .hbm, ⟨72, _⟩ => ⟨S16x2048x2048, .f32⟩
  | .hbm, ⟨73, _⟩ => ⟨S16x2048x2048, .f32⟩
  | .hbm, ⟨74, _⟩ => ⟨S16x2048x2048, .f32⟩
  | .hbm, ⟨75, _⟩ => ⟨S16x2048x2048, .f32⟩
  | .hbm, ⟨76, _⟩ => ⟨S16x2048x2048, .f32⟩
  | .hbm, ⟨77, _⟩ => ⟨S16x2048x2048, .f32⟩
  | .hbm, ⟨78, _⟩ => ⟨S_, .f32⟩
  | .hbm, ⟨79, _⟩ => ⟨S_, .f32⟩
  | .hbm, ⟨80, _⟩ => ⟨S16x2048x2048, .i1⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048, .f32⟩
  | .hbm, ⟨85, _⟩ => ⟨S2048x16, .f32⟩
  | .hbm, ⟨86, _⟩ => ⟨S2048x16x1, .f32⟩
  | .hbm, ⟨87, _⟩ => ⟨S2048x16x64, .f32⟩
  | .hbm, ⟨88, _⟩ => ⟨S2048x1024, .f32⟩
  | .hbm, ⟨89, _⟩ => ⟨S2048x1024, .bf16⟩
  | .hbm, ⟨90, _⟩ => ⟨S2048x1024, .bf16⟩
  | .hbm, ⟨91, _⟩ => ⟨S2048x1024, .bf16⟩
  | .hbm, ⟨92, _⟩ => ⟨S1x256, .f32⟩
  | .hbm, ⟨93, _⟩ => ⟨S1x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S1x256, .f32⟩
  | .local _ .vmem, ⟨19, _⟩ => ⟨S1x256, .f32⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_call0_v0 : Ref sig .tc := ⟨.hbm, 62, rfl⟩
abbrev main_call0_call0_cst : Ref sig .tc := ⟨.hbm, 63, rfl⟩
abbrev main_call0_call0_v0 : Ref sig .tc := ⟨.hbm, 64, rfl⟩
abbrev main_call0_call0_v1 : Ref sig .tc := ⟨.hbm, 65, rfl⟩
abbrev main_call0_call0_v2 : Ref sig .tc := ⟨.hbm, 66, rfl⟩
abbrev main_call0_call0_v3 : Ref sig .tc := ⟨.hbm, 67, rfl⟩
abbrev main_call0_call0_v4 : Ref sig .tc := ⟨.hbm, 68, rfl⟩
abbrev main_call0_call0_v5 : Ref sig .tc := ⟨.hbm, 69, rfl⟩
abbrev main_call0_call0_v6 : Ref sig .tc := ⟨.hbm, 70, rfl⟩
abbrev main_call0_call0_v7 : Ref sig .tc := ⟨.hbm, 71, rfl⟩
abbrev main_call0_call0_v8 : Ref sig .tc := ⟨.hbm, 72, rfl⟩
abbrev main_call0_call0_v9 : Ref sig .tc := ⟨.hbm, 73, rfl⟩
abbrev main_call0_call0_v10 : Ref sig .tc := ⟨.hbm, 74, rfl⟩
abbrev main_call0_call0_v11 : Ref sig .tc := ⟨.hbm, 75, rfl⟩
abbrev main_call0_v1 : Ref sig .tc := ⟨.hbm, 76, rfl⟩
abbrev main_v51 : Ref sig .tc := ⟨.hbm, 77, rfl⟩
abbrev main_cst_6 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58_0 : Ref sig .tc := ⟨.hbm, 89, rfl⟩
abbrev main_v58_1 : Ref sig .tc := ⟨.hbm, 90, rfl⟩
abbrev main_v58_2 : Ref sig .tc := ⟨.hbm, 91, rfl⟩
abbrev main_v58_3 : Ref sig .tc := ⟨.hbm, 92, rfl⟩
abbrev main_v58_4 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_71 : BitVec 32 := 0#32
  let c8_i32 : BitVec 32 := 8#32
  let v222 : BitVec 32 := Scalar.addi c0_i32_71 c8_i32
  let c1_i32_72 : BitVec 32 := 1#32
  ⟨c0_i32_71, v222, c1_i32_72⟩
def k0_mult1 (k0_t1 : Fin k0_t1_loop.trips) : BitVec 32 :=
  let c0_i32_71 : BitVec 32 := 0#32
  let c1_i32_72 : BitVec 32 := 1#32
  let arg19 : BitVec 32 := Scf.iv c0_i32_71 c1_i32_72 k0_t1
  let c256_i32 : BitVec 32 := 256#32
  let v463 : BitVec 32 := Scalar.muli arg19 c256_i32
  v463
def k0_off1 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c256_i32 : BitVec 32 := 256#32
  let v463 : BitVec 32 := Scalar.muli arg19 c256_i32
  let v464 : BitVec 32 := v463
  let v465 : Index := Scalar.indexCast v464
  let c0_175 : Index := 0#32
  ![v465.toNat, 0]
@[reducible] def k0_t2_loop (k0_t1 : Fin k0_t1_loop.trips) : Scf.Loop 32 :=
  let c0_i32_197 : BitVec 32 := 0#32
  let c0_i32_71 : BitVec 32 := 0#32
  let c1_i32_72 : BitVec 32 := 1#32
  let arg19 : BitVec 32 := Scf.iv c0_i32_71 c1_i32_72 k0_t1
  let c0_i32_191 : BitVec 32 := 0#32
  let v513 : BitVec 1 := Scalar.cmpi .sgt arg19 c0_i32_191
  let v514 : BitVec 32 := Scalar.extui v513
  let c0_i32_192 : BitVec 32 := 0#32
  let v515 : BitVec 1 := Scalar.cmpi .slt arg19 c0_i32_192
  let v516 : BitVec 32 := Scalar.extui v515
  let v517 : BitVec 32 := Scalar.subi v514 v516
  let c2_i32_190 : BitVec 32 := 2#32
  let c0_i32_193 : BitVec 32 := 0#32
  let v518 : BitVec 1 := Scalar.cmpi .sgt c2_i32_190 c0_i32_193
  let v519 : BitVec 32 := Scalar.extui v518
  let c0_i32_194 : BitVec 32 := 0#32
  let v520 : BitVec 1 := Scalar.cmpi .slt c2_i32_190 c0_i32_194
  let v521 : BitVec 32 := Scalar.extui v520
  let v522 : BitVec 32 := Scalar.subi v519 v521
  let v523 : BitVec 1 := Scalar.cmpi .ne v517 v522
  let v524 : BitVec 32 := Scalar.remsi arg19 c2_i32_190
  let c0_i32_195 : BitVec 32 := 0#32
  let v525 : BitVec 1 := Scalar.cmpi .ne v524 c0_i32_195
  let v526 : BitVec 1 := Scalar.andi v523 v525
  let v512 : BitVec 32 := Scalar.divsi arg19 c2_i32_190
  let c1_i32_196 : BitVec 32 := 1#32
  let v527 : BitVec 32 := Scalar.subi v512 c1_i32_196
  let v528 : BitVec 32 := Scalar.select v526 v527 v512
  let v529 : BitVec 32 := Scalar.subi v528 c0_i32_197
  let c1_i32_198 : BitVec 32 := 1#32
  let v531 : BitVec 32 := Scalar.divsi v529 c1_i32_198
  let v532 : BitVec 32 := Scalar.muli v531 c1_i32_198
  let v533 : BitVec 32 := Scalar.addi c0_i32_197 v532
  let c1_i32_199 : BitVec 32 := 1#32
  ⟨c0_i32_197, v533, c1_i32_199⟩
def k0_mult2 (k0_t1 : Fin k0_t1_loop.trips) (k0_t2 : Fin (k0_t2_loop k0_t1).trips) : BitVec 32 :=
  let c2_i32_236 : BitVec 32 := 2#32
  let c0_i32_197 : BitVec 32 := 0#32
  let c1_i32_199 : BitVec 32 := 1#32
  let arg20 : BitVec 32 := Scf.iv c0_i32_197 c1_i32_199 k0_t2
  let v650 : BitVec 32 := Scalar.muli c2_i32_236 arg20
  let c1_i32_237 : BitVec 32 := 1#32
  let v651 : BitVec 32 := Scalar.addi v650 c1_i32_237
  let c256_i32_238 : BitVec 32 := 256#32
  let v652 : BitVec 32 := Scalar.muli v651 c256_i32_238
  v652
def k0_mult3 (k0_t1 : Fin k0_t1_loop.trips) (k0_t2 : Fin (k0_t2_loop k0_t1).trips) : BitVec 32 :=
  let c2_i32_239 : BitVec 32 := 2#32
  let c0_i32_197 : BitVec 32 := 0#32
  let c1_i32_199 : BitVec 32 := 1#32
  let arg20 : BitVec 32 := Scf.iv c0_i32_197 c1_i32_199 k0_t2
  let v654 : BitVec 32 := Scalar.muli c2_i32_239 arg20
  let c256_i32_240 : BitVec 32 := 256#32
  let v655 : BitVec 32 := Scalar.muli v654 c256_i32_240
  v655
def k0_off2 (k0_t1 : Fin k0_t1_loop.trips) (k0_t2 : Fin (k0_t2_loop k0_t1).trips) : Fin 2 → Nat :=
  let c2_i32_239 : BitVec 32 := 2#32
  let c0_i32_197 : BitVec 32 := 0#32
  let c1_i32_199 : BitVec 32 := 1#32
  let arg20 : BitVec 32 := Scf.iv c0_i32_197 c1_i32_199 k0_t2
  let v654 : BitVec 32 := Scalar.muli c2_i32_239 arg20
  let c256_i32_240 : BitVec 32 := 256#32
  let v655 : BitVec 32 := Scalar.muli v654 c256_i32_240
  let v656 : BitVec 32 := v655
  let v657 : Index := Scalar.indexCast v656
  let c0_241 : Index := 0#32
  ![v657.toNat, 0]
def k0_off3 (k0_t1 : Fin k0_t1_loop.trips) (k0_t2 : Fin (k0_t2_loop k0_t1).trips) : Fin 2 → Nat :=
  let c2_i32_236 : BitVec 32 := 2#32
  let c0_i32_197 : BitVec 32 := 0#32
  let c1_i32_199 : BitVec 32 := 1#32
  let arg20 : BitVec 32 := Scf.iv c0_i32_197 c1_i32_199 k0_t2
  let v650 : BitVec 32 := Scalar.muli c2_i32_236 arg20
  let c1_i32_237 : BitVec 32 := 1#32
  let v651 : BitVec 32 := Scalar.addi v650 c1_i32_237
  let c256_i32_238 : BitVec 32 := 256#32
  let v652 : BitVec 32 := Scalar.muli v651 c256_i32_238
  let v653 : BitVec 32 := v652
  let v745 : Index := Scalar.indexCast v653
  let c0_265 : Index := 0#32
  ![v745.toNat, 0]
@[reducible] def k0_t3_loop (k0_t1 : Fin k0_t1_loop.trips) : Scf.Loop 32 :=
  let c0_i32_197 : BitVec 32 := 0#32
  let c0_i32_71 : BitVec 32 := 0#32
  let c1_i32_72 : BitVec 32 := 1#32
  let arg19 : BitVec 32 := Scf.iv c0_i32_71 c1_i32_72 k0_t1
  let c0_i32_191 : BitVec 32 := 0#32
  let v513 : BitVec 1 := Scalar.cmpi .sgt arg19 c0_i32_191
  let v514 : BitVec 32 := Scalar.extui v513
  let c0_i32_192 : BitVec 32 := 0#32
  let v515 : BitVec 1 := Scalar.cmpi .slt arg19 c0_i32_192
  let v516 : BitVec 32 := Scalar.extui v515
  let v517 : BitVec 32 := Scalar.subi v514 v516
  let c2_i32_190 : BitVec 32 := 2#32
  let c0_i32_193 : BitVec 32 := 0#32
  let v518 : BitVec 1 := Scalar.cmpi .sgt c2_i32_190 c0_i32_193
  let v519 : BitVec 32 := Scalar.extui v518
  let c0_i32_194 : BitVec 32 := 0#32
  let v520 : BitVec 1 := Scalar.cmpi .slt c2_i32_190 c0_i32_194
  let v521 : BitVec 32 := Scalar.extui v520
  let v522 : BitVec 32 := Scalar.subi v519 v521
  let v523 : BitVec 1 := Scalar.cmpi .ne v517 v522
  let v524 : BitVec 32 := Scalar.remsi arg19 c2_i32_190
  let c0_i32_195 : BitVec 32 := 0#32
  let v525 : BitVec 1 := Scalar.cmpi .ne v524 c0_i32_195
  let v526 : BitVec 1 := Scalar.andi v523 v525
  let v512 : BitVec 32 := Scalar.divsi arg19 c2_i32_190
  let c1_i32_196 : BitVec 32 := 1#32
  let v527 : BitVec 32 := Scalar.subi v512 c1_i32_196
  let v528 : BitVec 32 := Scalar.select v526 v527 v512
  let v529 : BitVec 32 := Scalar.subi v528 c0_i32_197
  let c1_i32_198 : BitVec 32 := 1#32
  let v531 : BitVec 32 := Scalar.divsi v529 c1_i32_198
  let v532 : BitVec 32 := Scalar.muli v531 c1_i32_198
  let v533 : BitVec 32 := Scalar.addi c0_i32_197 v532
  let v530 : BitVec 32 := Scalar.addi c0_i32_197 v529
  let c1_i32_200 : BitVec 32 := 1#32
  ⟨v533, v530, c1_i32_200⟩
def k0_mult4 (k0_t1 : Fin k0_t1_loop.trips) (k0_t3 : Fin (k0_t3_loop k0_t1).trips) : BitVec 32 :=
  let c2_i32_236 : BitVec 32 := 2#32
  let c0_i32_197 : BitVec 32 := 0#32
  let c0_i32_71 : BitVec 32 := 0#32
  let c1_i32_72 : BitVec 32 := 1#32
  let arg19 : BitVec 32 := Scf.iv c0_i32_71 c1_i32_72 k0_t1
  let c0_i32_191 : BitVec 32 := 0#32
  let v513 : BitVec 1 := Scalar.cmpi .sgt arg19 c0_i32_191
  let v514 : BitVec 32 := Scalar.extui v513
  let c0_i32_192 : BitVec 32 := 0#32
  let v515 : BitVec 1 := Scalar.cmpi .slt arg19 c0_i32_192
  let v516 : BitVec 32 := Scalar.extui v515
  let v517 : BitVec 32 := Scalar.subi v514 v516
  let c2_i32_190 : BitVec 32 := 2#32
  let c0_i32_193 : BitVec 32 := 0#32
  let v518 : BitVec 1 := Scalar.cmpi .sgt c2_i32_190 c0_i32_193
  let v519 : BitVec 32 := Scalar.extui v518
  let c0_i32_194 : BitVec 32 := 0#32
  let v520 : BitVec 1 := Scalar.cmpi .slt c2_i32_190 c0_i32_194
  let v521 : BitVec 32 := Scalar.extui v520
  let v522 : BitVec 32 := Scalar.subi v519 v521
  let v523 : BitVec 1 := Scalar.cmpi .ne v517 v522
  let v524 : BitVec 32 := Scalar.remsi arg19 c2_i32_190
  let c0_i32_195 : BitVec 32 := 0#32
  let v525 : BitVec 1 := Scalar.cmpi .ne v524 c0_i32_195
  let v526 : BitVec 1 := Scalar.andi v523 v525
  let v512 : BitVec 32 := Scalar.divsi arg19 c2_i32_190
  let c1_i32_196 : BitVec 32 := 1#32
  let v527 : BitVec 32 := Scalar.subi v512 c1_i32_196
  let v528 : BitVec 32 := Scalar.select v526 v527 v512
  let v529 : BitVec 32 := Scalar.subi v528 c0_i32_197
  let c1_i32_198 : BitVec 32 := 1#32
  let v531 : BitVec 32 := Scalar.divsi v529 c1_i32_198
  let v532 : BitVec 32 := Scalar.muli v531 c1_i32_198
  let v533 : BitVec 32 := Scalar.addi c0_i32_197 v532
  let c1_i32_200 : BitVec 32 := 1#32
  let arg20 : BitVec 32 := Scf.iv v533 c1_i32_200 k0_t3
  let v650 : BitVec 32 := Scalar.muli c2_i32_236 arg20
  let c1_i32_237 : BitVec 32 := 1#32
  let v651 : BitVec 32 := Scalar.addi v650 c1_i32_237
  let c256_i32_238 : BitVec 32 := 256#32
  let v652 : BitVec 32 := Scalar.muli v651 c256_i32_238
  v652
def k0_mult5 (k0_t1 : Fin k0_t1_loop.trips) (k0_t3 : Fin (k0_t3_loop k0_t1).trips) : BitVec 32 :=
  let c2_i32_239 : BitVec 32 := 2#32
  let c0_i32_197 : BitVec 32 := 0#32
  let c0_i32_71 : BitVec 32 := 0#32
  let c1_i32_72 : BitVec 32 := 1#32
  let arg19 : BitVec 32 := Scf.iv c0_i32_71 c1_i32_72 k0_t1
  let c0_i32_191 : BitVec 32 := 0#32
  let v513 : BitVec 1 := Scalar.cmpi .sgt arg19 c0_i32_191
  let v514 : BitVec 32 := Scalar.extui v513
  let c0_i32_192 : BitVec 32 := 0#32
  let v515 : BitVec 1 := Scalar.cmpi .slt arg19 c0_i32_192
  let v516 : BitVec 32 := Scalar.extui v515
  let v517 : BitVec 32 := Scalar.subi v514 v516
  let c2_i32_190 : BitVec 32 := 2#32
  let c0_i32_193 : BitVec 32 := 0#32
  let v518 : BitVec 1 := Scalar.cmpi .sgt c2_i32_190 c0_i32_193
  let v519 : BitVec 32 := Scalar.extui v518
  let c0_i32_194 : BitVec 32 := 0#32
  let v520 : BitVec 1 := Scalar.cmpi .slt c2_i32_190 c0_i32_194
  let v521 : BitVec 32 := Scalar.extui v520
  let v522 : BitVec 32 := Scalar.subi v519 v521
  let v523 : BitVec 1 := Scalar.cmpi .ne v517 v522
  let v524 : BitVec 32 := Scalar.remsi arg19 c2_i32_190
  let c0_i32_195 : BitVec 32 := 0#32
  let v525 : BitVec 1 := Scalar.cmpi .ne v524 c0_i32_195
  let v526 : BitVec 1 := Scalar.andi v523 v525
  let v512 : BitVec 32 := Scalar.divsi arg19 c2_i32_190
  let c1_i32_196 : BitVec 32 := 1#32
  let v527 : BitVec 32 := Scalar.subi v512 c1_i32_196
  let v528 : BitVec 32 := Scalar.select v526 v527 v512
  let v529 : BitVec 32 := Scalar.subi v528 c0_i32_197
  let c1_i32_198 : BitVec 32 := 1#32
  let v531 : BitVec 32 := Scalar.divsi v529 c1_i32_198
  let v532 : BitVec 32 := Scalar.muli v531 c1_i32_198
  let v533 : BitVec 32 := Scalar.addi c0_i32_197 v532
  let c1_i32_200 : BitVec 32 := 1#32
  let arg20 : BitVec 32 := Scf.iv v533 c1_i32_200 k0_t3
  let v654 : BitVec 32 := Scalar.muli c2_i32_239 arg20
  let c256_i32_240 : BitVec 32 := 256#32
  let v655 : BitVec 32 := Scalar.muli v654 c256_i32_240
  v655
def k0_off4 (k0_t1 : Fin k0_t1_loop.trips) (k0_t3 : Fin (k0_t3_loop k0_t1).trips) : Fin 2 → Nat :=
  let c2_i32_239 : BitVec 32 := 2#32
  let c0_i32_197 : BitVec 32 := 0#32
  let c0_i32_71 : BitVec 32 := 0#32
  let c1_i32_72 : BitVec 32 := 1#32
  let arg19 : BitVec 32 := Scf.iv c0_i32_71 c1_i32_72 k0_t1
  let c0_i32_191 : BitVec 32 := 0#32
  let v513 : BitVec 1 := Scalar.cmpi .sgt arg19 c0_i32_191
  let v514 : BitVec 32 := Scalar.extui v513
  let c0_i32_192 : BitVec 32 := 0#32
  let v515 : BitVec 1 := Scalar.cmpi .slt arg19 c0_i32_192
  let v516 : BitVec 32 := Scalar.extui v515
  let v517 : BitVec 32 := Scalar.subi v514 v516
  let c2_i32_190 : BitVec 32 := 2#32
  let c0_i32_193 : BitVec 32 := 0#32
  let v518 : BitVec 1 := Scalar.cmpi .sgt c2_i32_190 c0_i32_193
  let v519 : BitVec 32 := Scalar.extui v518
  let c0_i32_194 : BitVec 32 := 0#32
  let v520 : BitVec 1 := Scalar.cmpi .slt c2_i32_190 c0_i32_194
  let v521 : BitVec 32 := Scalar.extui v520
  let v522 : BitVec 32 := Scalar.subi v519 v521
  let v523 : BitVec 1 := Scalar.cmpi .ne v517 v522
  let v524 : BitVec 32 := Scalar.remsi arg19 c2_i32_190
  let c0_i32_195 : BitVec 32 := 0#32
  let v525 : BitVec 1 := Scalar.cmpi .ne v524 c0_i32_195
  let v526 : BitVec 1 := Scalar.andi v523 v525
  let v512 : BitVec 32 := Scalar.divsi arg19 c2_i32_190
  let c1_i32_196 : BitVec 32 := 1#32
  let v527 : BitVec 32 := Scalar.subi v512 c1_i32_196
  let v528 : BitVec 32 := Scalar.select v526 v527 v512
  let v529 : BitVec 32 := Scalar.subi v528 c0_i32_197
  let c1_i32_198 : BitVec 32 := 1#32
  let v531 : BitVec 32 := Scalar.divsi v529 c1_i32_198
  let v532 : BitVec 32 := Scalar.muli v531 c1_i32_198
  let v533 : BitVec 32 := Scalar.addi c0_i32_197 v532
  let c1_i32_200 : BitVec 32 := 1#32
  let arg20 : BitVec 32 := Scf.iv v533 c1_i32_200 k0_t3
  let v654 : BitVec 32 := Scalar.muli c2_i32_239 arg20
  let c256_i32_240 : BitVec 32 := 256#32
  let v655 : BitVec 32 := Scalar.muli v654 c256_i32_240
  let v656 : BitVec 32 := v655
  let v657 : Index := Scalar.indexCast v656
  let c0_241 : Index := 0#32
  ![v657.toNat, 0]
def k0_off5 (k0_t1 : Fin k0_t1_loop.trips) (k0_t3 : Fin (k0_t3_loop k0_t1).trips) : Fin 2 → Nat :=
  let c2_i32_236 : BitVec 32 := 2#32
  let c0_i32_197 : BitVec 32 := 0#32
  let c0_i32_71 : BitVec 32 := 0#32
  let c1_i32_72 : BitVec 32 := 1#32
  let arg19 : BitVec 32 := Scf.iv c0_i32_71 c1_i32_72 k0_t1
  let c0_i32_191 : BitVec 32 := 0#32
  let v513 : BitVec 1 := Scalar.cmpi .sgt arg19 c0_i32_191
  let v514 : BitVec 32 := Scalar.extui v513
  let c0_i32_192 : BitVec 32 := 0#32
  let v515 : BitVec 1 := Scalar.cmpi .slt arg19 c0_i32_192
  let v516 : BitVec 32 := Scalar.extui v515
  let v517 : BitVec 32 := Scalar.subi v514 v516
  let c2_i32_190 : BitVec 32 := 2#32
  let c0_i32_193 : BitVec 32 := 0#32
  let v518 : BitVec 1 := Scalar.cmpi .sgt c2_i32_190 c0_i32_193
  let v519 : BitVec 32 := Scalar.extui v518
  let c0_i32_194 : BitVec 32 := 0#32
  let v520 : BitVec 1 := Scalar.cmpi .slt c2_i32_190 c0_i32_194
  let v521 : BitVec 32 := Scalar.extui v520
  let v522 : BitVec 32 := Scalar.subi v519 v521
  let v523 : BitVec 1 := Scalar.cmpi .ne v517 v522
  let v524 : BitVec 32 := Scalar.remsi arg19 c2_i32_190
  let c0_i32_195 : BitVec 32 := 0#32
  let v525 : BitVec 1 := Scalar.cmpi .ne v524 c0_i32_195
  let v526 : BitVec 1 := Scalar.andi v523 v525
  let v512 : BitVec 32 := Scalar.divsi arg19 c2_i32_190
  let c1_i32_196 : BitVec 32 := 1#32
  let v527 : BitVec 32 := Scalar.subi v512 c1_i32_196
  let v528 : BitVec 32 := Scalar.select v526 v527 v512
  let v529 : BitVec 32 := Scalar.subi v528 c0_i32_197
  let c1_i32_198 : BitVec 32 := 1#32
  let v531 : BitVec 32 := Scalar.divsi v529 c1_i32_198
  let v532 : BitVec 32 := Scalar.muli v531 c1_i32_198
  let v533 : BitVec 32 := Scalar.addi c0_i32_197 v532
  let c1_i32_200 : BitVec 32 := 1#32
  let arg20 : BitVec 32 := Scf.iv v533 c1_i32_200 k0_t3
  let v650 : BitVec 32 := Scalar.muli c2_i32_236 arg20
  let c1_i32_237 : BitVec 32 := 1#32
  let v651 : BitVec 32 := Scalar.addi v650 c1_i32_237
  let c256_i32_238 : BitVec 32 := 256#32
  let v652 : BitVec 32 := Scalar.muli v651 c256_i32_238
  let v653 : BitVec 32 := v652
  let v745 : Index := Scalar.indexCast v653
  let c0_265 : Index := 0#32
  ![v745.toNat, 0]
def k0_cond1 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c2_i32_201 : BitVec 32 := 2#32
  let c0_i32_202 : BitVec 32 := 0#32
  let v536 : BitVec 1 := Scalar.cmpi .eq c2_i32_201 c0_i32_202
  let c1_i32_203 : BitVec 32 := 1#32
  let v537 : BitVec 32 := Scalar.select v536 c1_i32_203 c2_i32_201
  let v538 : BitVec 32 := Scalar.remsi arg19 v537
  let c0_i32_205 : BitVec 32 := 0#32
  let v540 : BitVec 1 := Scalar.cmpi .slt v538 c0_i32_205
  let c0_i32_206 : BitVec 32 := 0#32
  let v541 : BitVec 1 := Scalar.cmpi .slt v537 c0_i32_206
  let v542 : BitVec 1 := Scalar.xori v540 v541
  let c0_i32_204 : BitVec 32 := 0#32
  let v539 : BitVec 1 := Scalar.cmpi .ne v538 c0_i32_204
  let v543 : BitVec 1 := Scalar.andi v542 v539
  let v544 : BitVec 32 := Scalar.addi v538 v537
  let v545 : BitVec 32 := Scalar.select v543 v544 v538
  let c1_i32_207 : BitVec 32 := 1#32
  let v546 : BitVec 1 := Scalar.cmpi .eq v545 c1_i32_207
  let v547 : BitVec 32 := Scalar.extui v546
  let c0_i32_208 : BitVec 32 := 0#32
  let v548 : BitVec 1 := Scalar.cmpi .ne v547 c0_i32_208
  v548

def k0_mult6 (k0_t1 : Fin k0_t1_loop.trips) : BitVec 32 :=
  let c0_i32_71 : BitVec 32 := 0#32
  let c1_i32_72 : BitVec 32 := 1#32
  let arg19 : BitVec 32 := Scf.iv c0_i32_71 c1_i32_72 k0_t1
  let c1_i32_236 : BitVec 32 := 1#32
  let v650 : BitVec 32 := Scalar.subi arg19 c1_i32_236
  let c256_i32_237 : BitVec 32 := 256#32
  let v651 : BitVec 32 := Scalar.muli v650 c256_i32_237
  v651
def k0_off6 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c1_i32_236 : BitVec 32 := 1#32
  let v650 : BitVec 32 := Scalar.subi arg19 c1_i32_236
  let c256_i32_237 : BitVec 32 := 256#32
  let v651 : BitVec 32 := Scalar.muli v650 c256_i32_237
  let v652 : BitVec 32 := v651
  let v653 : Index := Scalar.indexCast v652
  let c0_238 : Index := 0#32
  ![v653.toNat, 0]
def k0_cond2 (i : grid0.Coords) : BitVec 1 :=
  let arg0 : BitVec 32 := BitVec.ofNat 32 (i 0).val
  let c0_i32_171 : BitVec 32 := 0#32
  let v457 : BitVec 1 := Scalar.cmpi .eq arg0 c0_i32_171
  let v458 : BitVec 32 := Scalar.extui v457
  let c0_i32_172 : BitVec 32 := 0#32
  let v459 : BitVec 1 := Scalar.cmpi .ne v458 c0_i32_172
  v459

def k0_cond3 (i : grid0.Coords) : BitVec 1 :=
  let arg0 : BitVec 32 := BitVec.ofNat 32 (i 0).val
  let c0_i32_173 : BitVec 32 := 0#32
  let v460 : BitVec 1 := Scalar.cmpi .sgt arg0 c0_i32_173
  let v461 : BitVec 32 := Scalar.extui v460
  let c0_i32_174 : BitVec 32 := 0#32
  let v462 : BitVec 1 := Scalar.cmpi .ne v461 c0_i32_174
  v462

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x3072 : Shape := ⟨2, ![2048, 3072]⟩
abbrev S64 : Shape := ⟨1, ![64]⟩
abbrev S2048x1024 : Shape := ⟨2, ![2048, 1024]⟩
abbrev S1x64 : Shape := ⟨2, ![1, 64]⟩
abbrev S1x1x1x64 : Shape := ⟨4, ![1, 1, 1, 64]⟩
abbrev S4x1x1x64 : Shape := ⟨4, ![4, 1, 1, 64]⟩
abbrev S4x64 : Shape := ⟨2, ![4, 64]⟩
abbrev S2048x16x64 : Shape := ⟨3, ![2048, 16, 64]⟩
abbrev S1x4x1x64 : Shape := ⟨4, ![1, 4, 1, 64]⟩
abbrev S4x4x1x64 : Shape := ⟨4, ![4, 4, 1, 64]⟩
abbrev S16x64 : Shape := ⟨2, ![16, 64]⟩
abbrev S_ : Shape := ⟨0, ![]⟩
abbrev S2048x16 : Shape := ⟨2, ![2048, 16]⟩
abbrev S2048x16x1 : Shape := ⟨3, ![2048, 16, 1]⟩
abbrev S1x16x64 : Shape := ⟨3, ![1, 16, 64]⟩
abbrev S16x2048x64 : Shape := ⟨3, ![16, 2048, 64]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S1x256 : Shape := ⟨2, ![1, 256]⟩

abbrev nBuf : Space → Nat
  | .hbm => 295
  | .vmem => 0
  | .smem => 0
  | _ => 0

abbrev hbmTy0_0 (i : Nat) : BufTy := match i % 128 with
  | 0 => ⟨S2048x3072, .f32⟩
  | 1 => ⟨S64, .f32⟩
  | 2 => ⟨S64, .f32⟩
  | 3 => ⟨S2048x1024, .bf16⟩
  | 4 => ⟨S2048x1024, .f32⟩
  | 5 => ⟨S2048x1024, .f32⟩
  | 6 => ⟨S2048x1024, .f32⟩
  | 7 => ⟨S1x64, .f32⟩
  | 8 => ⟨S1x1x1x64, .f32⟩
  | 9 => ⟨S4x1x1x64, .f32⟩
  | 10 => ⟨S4x64, .f32⟩
  | 11 => ⟨S1x64, .f32⟩
  | 12 => ⟨S1x1x1x64, .f32⟩
  | 13 => ⟨S4x1x1x64, .f32⟩
  | 14 => ⟨S4x64, .f32⟩
  | 15 => ⟨S2048x16x64, .f32⟩
  | 16 => ⟨S1x4x1x64, .f32⟩
  | 17 => ⟨S4x4x1x64, .f32⟩
  | 18 => ⟨S16x64, .f32⟩
  | 19 => ⟨S2048x16x64, .f32⟩
  | 20 => ⟨S_, .f32⟩
  | 21 => ⟨S2048x16, .f32⟩
  | 22 => ⟨S2048x16x1, .f32⟩
  | 23 => ⟨S_, .f32⟩
  | 24 => ⟨S2048x16x1, .f32⟩
  | 25 => ⟨S2048x16x1, .f32⟩
  | 26 => ⟨S_, .f32⟩
  | 27 => ⟨S2048x16x1, .f32⟩
  | 28 => ⟨S2048x16x1, .f32⟩
  | 29 => ⟨S2048x16x1, .f32⟩
  | 30 => ⟨S2048x16x1, .f32⟩
  | 31 => ⟨S_, .f32⟩
  | 32 => ⟨S2048x16x1, .f32⟩
  | 33 => ⟨S2048x16x1, .f32⟩
  | 34 => ⟨S2048x16x64, .f32⟩
  | 35 => ⟨S2048x16x64, .f32⟩
  | 36 => ⟨S1x16x64, .f32⟩
  | 37 => ⟨S2048x16x64, .f32⟩
  | 38 => ⟨S2048x16x64, .f32⟩
  | 39 => ⟨S16x2048x64, .f32⟩
  | 40 => ⟨S2048x16x64, .f32⟩
  | 41 => ⟨S1x4x1x64, .f32⟩
  | 42 => ⟨S4x4x1x64, .f32⟩
  | 43 => ⟨S16x64, .f32⟩
  | 44 => ⟨S2048x16x64, .f32⟩
  | 45 => ⟨S_, .f32⟩
  | 46 => ⟨S2048x16, .f32⟩
  | 47 => ⟨S2048x16x1, .f32⟩
  | 48 => ⟨S_, .f32⟩
  | 49 => ⟨S2048x16x1, .f32⟩
  | 50 => ⟨S2048x16x1, .f32⟩
  | 51 => ⟨S_, .f32⟩
  | 52 => ⟨S2048x16x1, .f32⟩
  | 53 => ⟨S2048x16x1, .f32⟩
  | 54 => ⟨S2048x16x1, .f32⟩
  | 55 => ⟨S2048x16x1, .f32⟩
  | 56 => ⟨S_, .f32⟩
  | 57 => ⟨S2048x16x1, .f32⟩
  | 58 => ⟨S2048x16x1, .f32⟩
  | 59 => ⟨S2048x16x64, .f32⟩
  | 60 => ⟨S2048x16x64, .f32⟩
  | 61 => ⟨S1x16x64, .f32⟩
  | 62 => ⟨S2048x16x64, .f32⟩
  | 63 => ⟨S2048x16x64, .f32⟩
  | 64 => ⟨S16x2048x64, .f32⟩
  | 65 => ⟨S2048x16x64, .f32⟩
  | 66 => ⟨S16x2048x64, .f32⟩
  | 67 => ⟨S16x2048x2048, .f32⟩
  | 68 => ⟨S_, .f32⟩
  | 69 => ⟨S16x2048x2048, .f32⟩
  | 70 => ⟨S16x2048x2048, .f32⟩
  | 71 => ⟨S2048, .i32⟩
  | 72 => ⟨S1x2048, .i32⟩
  | 73 => ⟨S2048x1, .i32⟩
  | 74 => ⟨S2048x2048, .i32⟩
  | 75 => ⟨S2048x2048, .i32⟩
  | 76 => ⟨S2048x2048, .i1⟩
  | 77 => ⟨S16x2048x2048, .f32⟩
  | 78 => ⟨S16x2048x2048, .f32⟩
  | 79 => ⟨S_, .f32⟩
  | 80 => ⟨S16x2048x2048, .f32⟩
  | 81 => ⟨S16x2048x2048, .f32⟩
  | 82 => ⟨S16x2048x2048, .f32⟩
  | 83 => ⟨S16x2048x2048, .f32⟩
  | 84 => ⟨S16x2048x2048, .i1⟩
  | 85 => ⟨S16x2048x2048, .f32⟩
  | 86 => ⟨S16x2048x2048, .f32⟩
  | 87 => ⟨S16x2048x2048, .f32⟩
  | 88 => ⟨S16x2048x2048, .f32⟩
  | 89 => ⟨S16x2048x2048, .f32⟩
  | 90 => ⟨S16x2048x2048, .f32⟩
  | 91 => ⟨S16x2048x2048, .f32⟩
  | 92 => ⟨S16x2048x2048, .f32⟩
  | 93 => ⟨S_, .f32⟩
  | 94 => ⟨S16x2048x2048, .f32⟩
  | 95 => ⟨S16x2048x2048, .i1⟩
  | 96 => ⟨S_, .f32⟩
  | 97 => ⟨S16x2048x2048, .f32⟩
  | 98 => ⟨S16x2048x2048, .f32⟩
  | 99 => ⟨S_, .f32⟩
  | 100 => ⟨S16x2048x2048, .f32⟩
  | 101 => ⟨S16x2048x2048, .i1⟩
  | 102 => ⟨S_, .f32⟩
  | 103 => ⟨S16x2048x2048, .f32⟩
  | 104 => ⟨S16x2048x2048, .f32⟩
  | 105 => ⟨S16x2048x2048, .f32⟩
  | 106 => ⟨S16x2048x2048, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S16x2048x2048, .f32⟩
  | 115 => ⟨S16x2048x2048, .i1⟩
  | 116 => ⟨S_, .f32⟩
  | 117 => ⟨S16x2048x2048, .f32⟩
  | 118 => ⟨S16x2048x2048, .f32⟩
  | 119 => ⟨S16x2048x2048, .f32⟩
  | 120 => ⟨S16x2048x2048, .f32⟩
  | 121 => ⟨S16x2048x2048, .f32⟩
  | 122 => ⟨S_, .f32⟩
  | 123 => ⟨S16x2048x2048, .f32⟩
  | 124 => ⟨S16x2048x2048, .f32⟩
  | 125 => ⟨S16x2048x2048, .f32⟩
  | 126 => ⟨S_, .f32⟩
  | 127 => ⟨S_, .f32⟩
  | _ => ⟨S2048x3072, .f32⟩

abbrev hbmTy0_1 (i : Nat) : BufTy := match i % 128 with
  | 0 => ⟨S16x2048x2048, .i1⟩
  | 1 => ⟨S16x2048x2048, .f32⟩
  | 2 => ⟨S16x2048x2048, .f32⟩
  | 3 => ⟨S_, .f32⟩
  | 4 => ⟨S16x2048x2048, .f32⟩
  | 5 => ⟨S_, .f32⟩
  | 6 => ⟨S_, .f32⟩
  | 7 => ⟨S16x2048x2048, .f32⟩
  | 8 => ⟨S16x2048x2048, .f32⟩
  | 9 => ⟨S16x2048x2048, .f32⟩
  | 10 => ⟨S_, .f32⟩
  | 11 => ⟨S16x2048x2048, .f32⟩
  | 12 => ⟨S16x2048x2048, .f32⟩
  | 13 => ⟨S16x2048x2048, .f32⟩
  | 14 => ⟨S16x2048x2048, .f32⟩
  | 15 => ⟨S16x2048x2048, .i1⟩
  | 16 => ⟨S16x2048x2048, .f32⟩
  | 17 => ⟨S16x2048x2048, .f32⟩
  | 18 => ⟨S16x2048x2048, .f32⟩
  | 19 => ⟨S16x2048x2048, .f32⟩
  | 20 => ⟨S16x2048x2048, .f32⟩
  | 21 => ⟨S16x2048x2048, .f32⟩
  | 22 => ⟨S16x2048x2048, .f32⟩
  | 23 => ⟨S16x2048x2048, .f32⟩
  | 24 => ⟨S_, .f32⟩
  | 25 => ⟨S16x2048x2048, .f32⟩
  | 26 => ⟨S16x2048x2048, .i1⟩
  | 27 => ⟨S_, .f32⟩
  | 28 => ⟨S16x2048x2048, .f32⟩
  | 29 => ⟨S16x2048x2048, .f32⟩
  | 30 => ⟨S_, .f32⟩
  | 31 => ⟨S16x2048x2048, .f32⟩
  | 32 => ⟨S16x2048x2048, .i1⟩
  | 33 => ⟨S_, .f32⟩
  | 34 => ⟨S16x2048x2048, .f32⟩
  | 35 => ⟨S16x2048x2048, .f32⟩
  | 36 => ⟨S16x2048x2048, .f32⟩
  | 37 => ⟨S16x2048x2048, .f32⟩
  | 38 => ⟨S_, .f32⟩
  | 39 => ⟨S_, .f32⟩
  | 40 => ⟨S_, .i1⟩
  | 41 => ⟨S_, .f32⟩
  | 42 => ⟨S_, .f32⟩
  | 43 => ⟨S_, .f32⟩
  | 44 => ⟨S_, .f32⟩
  | 45 => ⟨S16x2048x2048, .f32⟩
  | 46 => ⟨S16x2048x2048, .i1⟩
  | 47 => ⟨S_, .f32⟩
  | 48 => ⟨S16x2048x2048, .f32⟩
  | 49 => ⟨S16x2048x2048, .f32⟩
  | 50 => ⟨S16x2048x2048, .f32⟩
  | 51 => ⟨S16x2048x2048, .f32⟩
  | 52 => ⟨S16x2048x2048, .f32⟩
  | 53 => ⟨S_, .f32⟩
  | 54 => ⟨S16x2048x2048, .f32⟩
  | 55 => ⟨S16x2048x2048, .f32⟩
  | 56 => ⟨S16x2048x2048, .f32⟩
  | 57 => ⟨S16x2048x2048, .f32⟩
  | 58 => ⟨S16x2048x2048, .f32⟩
  | 59 => ⟨S_, .f32⟩
  | 60 => ⟨S_, .f32⟩
  | 61 => ⟨S16x2048x2048, .i1⟩
  | 62 => ⟨S16x2048x2048, .f32⟩
  | 63 => ⟨S16x2048x2048, .f32⟩
  | 64 => ⟨S_, .f32⟩
  | 65 => ⟨S16x2048x2048, .f32⟩
  | 66 => ⟨S16x2048x64, .f32⟩
  | 67 => ⟨S2048x16x64, .f32⟩
  | 68 => ⟨S2048x1024, .f32⟩
  | 69 => ⟨S2048x1024, .f32⟩
  | 70 => ⟨S2048x16x64, .f32⟩
  | 71 => ⟨S16x2048x64, .f32⟩
  | 72 => ⟨S16x64x2048, .f32⟩
  | 73 => ⟨S16x2048x64, .f32⟩
  | 74 => ⟨S16x2048x2048, .f32⟩
  | 75 => ⟨S_, .f32⟩
  | 76 => ⟨S16x2048x2048, .f32⟩
  | 77 => ⟨S16x2048x2048, .f32⟩
  | 78 => ⟨S16x2048x2048, .f32⟩
  | 79 => ⟨S16x2048x2048, .f32⟩
  | 80 => ⟨S16x2048x2048, .f32⟩
  | 81 => ⟨S16x2048x2048, .f32⟩
  | 82 => ⟨S16x2048x2048, .f32⟩
  | 83 => ⟨S_, .f32⟩
  | 84 => ⟨S_, .f32⟩
  | 85 => ⟨S16x2048x2048, .f32⟩
  | 86 => ⟨S16x2048x2048, .f32⟩
  | 87 => ⟨S_, .f32⟩
  | 88 => ⟨S16x2048x2048, .f32⟩
  | 89 => ⟨S16x2048x2048, .f32⟩
  | 90 => ⟨S16x2048x2048, .f32⟩
  | 91 => ⟨S16x2048x2048, .f32⟩
  | 92 => ⟨S16x2048x2048, .f32⟩
  | 93 => ⟨S16x2048x2048, .f32⟩
  | 94 => ⟨S16x2048x2048, .f32⟩
  | 95 => ⟨S_, .f32⟩
  | 96 => ⟨S16x2048x2048, .f32⟩
  | 97 => ⟨S16x2048x2048, .f32⟩
  | 98 => ⟨S16x2048x64, .f32⟩
  | 99 => ⟨S16x2048x64, .f32⟩
  | 100 => ⟨S2048x16x64, .f32⟩
  | 101 => ⟨S2048x1024, .f32⟩
  | 102 => ⟨S2048x16x64, .f32⟩
  | 103 => ⟨S2048x16x64, .f32⟩
  | 104 => ⟨S_, .f32⟩
  | 105 => ⟨S16x64, .f32⟩
  | 106 => ⟨S1x16x64, .f32⟩
  | 107 => ⟨S2048x16x64, .f32⟩
  | 108 => ⟨S2048x16x64, .f32⟩
  | 109 => ⟨S_, .f32⟩
  | 110 => ⟨S16x64, .f32⟩
  | 111 => ⟨S2048x16x64, .f32⟩
  | 112 => ⟨S_, .f32⟩
  | 113 => ⟨S2048x16, .f32⟩
  | 114 => ⟨S2048x16x1, .f32⟩
  | 115 => ⟨S2048x16x64, .f32⟩
  | 116 => ⟨S2048x16x64, .f32⟩
  | 117 => ⟨S2048x16x1, .f32⟩
  | 118 => ⟨S_, .f32⟩
  | 119 => ⟨S2048x16x1, .f32⟩
  | 120 => ⟨S2048x16x1, .f32⟩
  | 121 => ⟨S_, .f32⟩
  | 122 => ⟨S2048x16, .f32⟩
  | 123 => ⟨S2048x16x64, .f32⟩
  | 124 => ⟨S2048x16x64, .f32⟩
  | 125 => ⟨S2048x16x64, .f32⟩
  | 126 => ⟨S2048x16x64, .f32⟩
  | 127 => ⟨S2048x16x64, .f32⟩
  | _ => ⟨S2048x3072, .f32⟩

abbrev hbmTy0_2 (i : Nat) : BufTy := match i % 128 with
  | 0 => ⟨S4x4x1x64, .f32⟩
  | 1 => ⟨S_, .f32⟩
  | 2 => ⟨S4x64, .f32⟩
  | 3 => ⟨S2048x1024, .f32⟩
  | 4 => ⟨S2048x16x64, .f32⟩
  | 5 => ⟨S2048x16x64, .f32⟩
  | 6 => ⟨S_, .f32⟩
  | 7 => ⟨S16x64, .f32⟩
  | 8 => ⟨S1x16x64, .f32⟩
  | 9 => ⟨S2048x16x64, .f32⟩
  | 10 => ⟨S2048x16x64, .f32⟩
  | 11 => ⟨S_, .f32⟩
  | 12 => ⟨S16x64, .f32⟩
  | 13 => ⟨S2048x16x64, .f32⟩
  | 14 => ⟨S_, .f32⟩
  | 15 => ⟨S2048x16, .f32⟩
  | 16 => ⟨S2048x16x1, .f32⟩
  | 17 => ⟨S2048x16x64, .f32⟩
  | 18 => ⟨S2048x16x64, .f32⟩
  | 19 => ⟨S2048x16x1, .f32⟩
  | 20 => ⟨S_, .f32⟩
  | 21 => ⟨S2048x16x1, .f32⟩
  | 22 => ⟨S2048x16x1, .f32⟩
  | 23 => ⟨S_, .f32⟩
  | 24 => ⟨S2048x16, .f32⟩
  | 25 => ⟨S2048x16x64, .f32⟩
  | 26 => ⟨S2048x16x64, .f32⟩
  | 27 => ⟨S2048x16x64, .f32⟩
  | 28 => ⟨S2048x16x64, .f32⟩
  | 29 => ⟨S2048x16x64, .f32⟩
  | 30 => ⟨S4x4x1x64, .f32⟩
  | 31 => ⟨S_, .f32⟩
  | 32 => ⟨S4x64, .f32⟩
  | 33 => ⟨S2048x1024, .f32⟩
  | 34 => ⟨S2048x1024, .bf16⟩
  | 35 => ⟨S2048x1024, .bf16⟩
  | 36 => ⟨S2048x1024, .bf16⟩
  | 37 => ⟨S1x256, .f32⟩
  | 38 => ⟨S1x256, .f32⟩
  | _ => ⟨S2048x3072, .f32⟩

abbrev hbmTy (i : Nat) : BufTy := match i / 128 with
  | 0 => hbmTy0_0 i
  | 1 => hbmTy0_1 i
  | 2 => hbmTy0_2 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_call0_v0 : Ref sig .tc := ⟨.hbm, 78, rfl⟩
abbrev main_call0_call0_cst : Ref sig .tc := ⟨.hbm, 79, rfl⟩
abbrev main_call0_call0_v0 : Ref sig .tc := ⟨.hbm, 80, rfl⟩
abbrev main_call0_call0_v1 : Ref sig .tc := ⟨.hbm, 81, rfl⟩
abbrev main_call0_call0_v2 : Ref sig .tc := ⟨.hbm, 82, rfl⟩
abbrev main_call0_call0_v3 : Ref sig .tc := ⟨.hbm, 83, rfl⟩
abbrev main_call0_call0_v4 : Ref sig .tc := ⟨.hbm, 84, rfl⟩
abbrev main_call0_call0_v5 : Ref sig .tc := ⟨.hbm, 85, rfl⟩
abbrev main_call0_call0_v6 : Ref sig .tc := ⟨.hbm, 86, rfl⟩
abbrev main_call0_call0_v7 : Ref sig .tc := ⟨.hbm, 87, rfl⟩
abbrev main_call0_call0_v8 : Ref sig .tc := ⟨.hbm, 88, rfl⟩
abbrev main_call0_call0_v9 : Ref sig .tc := ⟨.hbm, 89, rfl⟩
abbrev main_call0_call0_v10 : Ref sig .tc := ⟨.hbm, 90, rfl⟩
abbrev main_call0_call0_v11 : Ref sig .tc := ⟨.hbm, 91, rfl⟩
abbrev main_call0_v1_0 : Ref sig .tc := ⟨.hbm, 92, rfl⟩
abbrev main_call0_call0_cst_0 : Ref sig .tc := ⟨.hbm, 93, rfl⟩
abbrev main_call0_call0_v13 : Ref sig .tc := ⟨.hbm, 94, rfl⟩
abbrev main_call0_call0_v14 : Ref sig .tc := ⟨.hbm, 95, rfl⟩
abbrev main_call0_call0_cst_1 : Ref sig .tc := ⟨.hbm, 96, rfl⟩
abbrev main_call0_call0_v15 : Ref sig .tc := ⟨.hbm, 97, rfl⟩
abbrev main_call0_call0_v16 : Ref sig .tc := ⟨.hbm, 98, rfl⟩
abbrev main_call0_call0_cst_2 : Ref sig .tc := ⟨.hbm, 99, rfl⟩
abbrev main_call0_call0_v17 : Ref sig .tc := ⟨.hbm, 100, rfl⟩
abbrev main_call0_call0_v18 : Ref sig .tc := ⟨.hbm, 101, rfl⟩
abbrev main_call0_call0_cst_3 : Ref sig .tc := ⟨.hbm, 102, rfl⟩
abbrev main_call0_call0_v19 : Ref sig .tc := ⟨.hbm, 103, rfl⟩
abbrev main_call0_call0_v20 : Ref sig .tc := ⟨.hbm, 104, rfl⟩
abbrev main_call0_call0_v21 : Ref sig .tc := ⟨.hbm, 105, rfl⟩
abbrev main_v65_1 : Ref sig .tc := ⟨.hbm, 106, rfl⟩
abbrev main_call0_call0_cst_4 : Ref sig .tc := ⟨.hbm, 107, rfl⟩
abbrev main_call0_call0_cst_5 : Ref sig .tc := ⟨.hbm, 108, rfl⟩
abbrev main_call0_call0_v23 : Ref sig .tc := ⟨.hbm, 109, rfl⟩
abbrev main_call0_call0_cst_6 : Ref sig .tc := ⟨.hbm, 110, rfl⟩
abbrev main_call0_call0_cst_7 : Ref sig .tc := ⟨.hbm, 111, rfl⟩
abbrev main_call0_call0_v24 : Ref sig .tc := ⟨.hbm, 112, rfl⟩
abbrev main_call0_call0_cst_8 : Ref sig .tc := ⟨.hbm, 113, rfl⟩
abbrev main_call0_call0_v25 : Ref sig .tc := ⟨.hbm, 114, rfl⟩
abbrev main_call0_call0_v26 : Ref sig .tc := ⟨.hbm, 115, rfl⟩
abbrev main_call0_call0_cst_9 : Ref sig .tc := ⟨.hbm, 116, rfl⟩
abbrev main_call0_call0_v27 : Ref sig .tc := ⟨.hbm, 117, rfl⟩
abbrev main_call0_call0_v28 : Ref sig .tc := ⟨.hbm, 118, rfl⟩
abbrev main_call0_call0_v29 : Ref sig .tc := ⟨.hbm, 119, rfl⟩
abbrev main_call0_call0_v30 : Ref sig .tc := ⟨.hbm, 120, rfl⟩
abbrev main_call0_call0_v31 : Ref sig .tc := ⟨.hbm, 121, rfl⟩
abbrev main_call0_call0_cst_10 : Ref sig .tc := ⟨.hbm, 122, rfl⟩
abbrev main_call0_call0_v32 : Ref sig .tc := ⟨.hbm, 123, rfl⟩
abbrev main_v65_2 : Ref sig .tc := ⟨.hbm, 124, rfl⟩
abbrev main_v65_0 : Ref sig .tc := ⟨.hbm, 125, rfl⟩
abbrev main_cst_8 : Ref sig .tc := ⟨.hbm, 126, rfl⟩
abbrev main_call1_v0 : Ref sig .tc := ⟨.hbm, 127, rfl⟩
abbrev main_v66_1 : Ref sig .tc := ⟨.hbm, 128, rfl⟩
abbrev main_call1_v2 : Ref sig .tc := ⟨.hbm, 129, rfl⟩
abbrev main_v66_0 : Ref sig .tc := ⟨.hbm, 130, rfl⟩
abbrev main_call1_cst : Ref sig .tc := ⟨.hbm, 131, rfl⟩
abbrev main_v66_2 : Ref sig .tc := ⟨.hbm, 132, rfl⟩
abbrev main_call2_cst : Ref sig .tc := ⟨.hbm, 133, rfl⟩
abbrev main_call2_v0 : Ref sig .tc := ⟨.hbm, 134, rfl⟩
abbrev main_v67 : Ref sig .tc := ⟨.hbm, 135, rfl⟩
abbrev main_v68 : Ref sig .tc := ⟨.hbm, 136, rfl⟩
abbrev main_call3_v0 : Ref sig .tc := ⟨.hbm, 137, rfl⟩
abbrev main_call3_call0_cst : Ref sig .tc := ⟨.hbm, 138, rfl⟩
abbrev main_call3_call0_v0 : Ref sig .tc := ⟨.hbm, 139, rfl⟩
abbrev main_call3_call0_v1 : Ref sig .tc := ⟨.hbm, 140, rfl⟩
abbrev main_call3_call0_v2 : Ref sig .tc := ⟨.hbm, 141, rfl⟩
abbrev main_call3_call0_v3 : Ref sig .tc := ⟨.hbm, 142, rfl⟩
abbrev main_call3_call0_v4 : Ref sig .tc := ⟨.hbm, 143, rfl⟩
abbrev main_call3_call0_v5 : Ref sig .tc := ⟨.hbm, 144, rfl⟩
abbrev main_call3_call0_v6 : Ref sig .tc := ⟨.hbm, 145, rfl⟩
abbrev main_call3_call0_v7 : Ref sig .tc := ⟨.hbm, 146, rfl⟩
abbrev main_call3_call0_v8 : Ref sig .tc := ⟨.hbm, 147, rfl⟩
abbrev main_call3_call0_v9 : Ref sig .tc := ⟨.hbm, 148, rfl⟩
abbrev main_call3_call0_v10 : Ref sig .tc := ⟨.hbm, 149, rfl⟩
abbrev main_call3_call0_v11 : Ref sig .tc := ⟨.hbm, 150, rfl⟩
abbrev main_call3_v1_0 : Ref sig .tc := ⟨.hbm, 151, rfl⟩
abbrev main_call3_call0_cst_0 : Ref sig .tc := ⟨.hbm, 152, rfl⟩
abbrev main_call3_call0_v13 : Ref sig .tc := ⟨.hbm, 153, rfl⟩
abbrev main_call3_call0_v14 : Ref sig .tc := ⟨.hbm, 154, rfl⟩
abbrev main_call3_call0_cst_1 : Ref sig .tc := ⟨.hbm, 155, rfl⟩
abbrev main_call3_call0_v15 : Ref sig .tc := ⟨.hbm, 156, rfl⟩
abbrev main_call3_call0_v16 : Ref sig .tc := ⟨.hbm, 157, rfl⟩
abbrev main_call3_call0_cst_2 : Ref sig .tc := ⟨.hbm, 158, rfl⟩
abbrev main_call3_call0_v17 : Ref sig .tc := ⟨.hbm, 159, rfl⟩
abbrev main_call3_call0_v18 : Ref sig .tc := ⟨.hbm, 160, rfl⟩
abbrev main_call3_call0_cst_3 : Ref sig .tc := ⟨.hbm, 161, rfl⟩
abbrev main_call3_call0_v19 : Ref sig .tc := ⟨.hbm, 162, rfl⟩
abbrev main_call3_call0_v20 : Ref sig .tc := ⟨.hbm, 163, rfl⟩
abbrev main_call3_call0_v21 : Ref sig .tc := ⟨.hbm, 164, rfl⟩
abbrev main_v69_1 : Ref sig .tc := ⟨.hbm, 165, rfl⟩
abbrev main_call3_call0_cst_4 : Ref sig .tc := ⟨.hbm, 166, rfl⟩
abbrev main_call3_call0_cst_5 : Ref sig .tc := ⟨.hbm, 167, rfl⟩
abbrev main_call3_call0_v23 : Ref sig .tc := ⟨.hbm, 168, rfl⟩
abbrev main_call3_call0_cst_6 : Ref sig .tc := ⟨.hbm, 169, rfl⟩
abbrev main_call3_call0_cst_7 : Ref sig .tc := ⟨.hbm, 170, rfl⟩
abbrev main_call3_call0_v24 : Ref sig .tc := ⟨.hbm, 171, rfl⟩
abbrev main_call3_call0_cst_8 : Ref sig .tc := ⟨.hbm, 172, rfl⟩
abbrev main_call3_call0_v25 : Ref sig .tc := ⟨.hbm, 173, rfl⟩
abbrev main_call3_call0_v26 : Ref sig .tc := ⟨.hbm, 174, rfl⟩
abbrev main_call3_call0_cst_9 : Ref sig .tc := ⟨.hbm, 175, rfl⟩
abbrev main_call3_call0_v27 : Ref sig .tc := ⟨.hbm, 176, rfl⟩
abbrev main_call3_call0_v28 : Ref sig .tc := ⟨.hbm, 177, rfl⟩
abbrev main_call3_call0_v29 : Ref sig .tc := ⟨.hbm, 178, rfl⟩
abbrev main_call3_call0_v30 : Ref sig .tc := ⟨.hbm, 179, rfl⟩
abbrev main_call3_call0_v31 : Ref sig .tc := ⟨.hbm, 180, rfl⟩
abbrev main_call3_call0_cst_10 : Ref sig .tc := ⟨.hbm, 181, rfl⟩
abbrev main_call3_call0_v32 : Ref sig .tc := ⟨.hbm, 182, rfl⟩
abbrev main_v69_2 : Ref sig .tc := ⟨.hbm, 183, rfl⟩
abbrev main_v69_0 : Ref sig .tc := ⟨.hbm, 184, rfl⟩
abbrev main_v70 : Ref sig .tc := ⟨.hbm, 185, rfl⟩
abbrev main_v71 : Ref sig .tc := ⟨.hbm, 186, rfl⟩
abbrev main_cst_9 : Ref sig .tc := ⟨.hbm, 187, rfl⟩
abbrev main_call4_v0 : Ref sig .tc := ⟨.hbm, 188, rfl⟩
abbrev main_v72_1 : Ref sig .tc := ⟨.hbm, 189, rfl⟩
abbrev main_call4_v2 : Ref sig .tc := ⟨.hbm, 190, rfl⟩
abbrev main_v72_0 : Ref sig .tc := ⟨.hbm, 191, rfl⟩
abbrev main_call4_cst : Ref sig .tc := ⟨.hbm, 192, rfl⟩
abbrev main_v72_2 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_v80 : Ref sig .tc := ⟨.hbm, 201, rfl⟩
abbrev main_v81 : Ref sig .tc := ⟨.hbm, 202, rfl⟩
abbrev main_call5_cst : Ref sig .tc := ⟨.hbm, 203, rfl⟩
abbrev main_call5_v0 : Ref sig .tc := ⟨.hbm, 204, rfl⟩
abbrev main_v82 : Ref sig .tc := ⟨.hbm, 205, rfl⟩
abbrev main_v83 : Ref sig .tc := ⟨.hbm, 206, rfl⟩
abbrev main_call6_v0 : Ref sig .tc := ⟨.hbm, 207, rfl⟩
abbrev main_call6_v1 : Ref sig .tc := ⟨.hbm, 208, rfl⟩
abbrev main_v84 : Ref sig .tc := ⟨.hbm, 209, rfl⟩
abbrev main_v85 : Ref sig .tc := ⟨.hbm, 210, rfl⟩
abbrev main_call7_cst : Ref sig .tc := ⟨.hbm, 211, rfl⟩
abbrev main_call7_v0 : Ref sig .tc := ⟨.hbm, 212, rfl⟩
abbrev main_v86 : Ref sig .tc := ⟨.hbm, 213, rfl⟩
abbrev main_v87 : Ref sig .tc := ⟨.hbm, 214, rfl⟩
abbrev main_call8_cst : Ref sig .tc := ⟨.hbm, 215, rfl⟩
abbrev main_call8_v0 : Ref sig .tc := ⟨.hbm, 216, rfl⟩
abbrev main_v88 : Ref sig .tc := ⟨.hbm, 217, rfl⟩
abbrev main_call9_v0 : Ref sig .tc := ⟨.hbm, 218, rfl⟩
abbrev main_call9_v1 : Ref sig .tc := ⟨.hbm, 219, rfl⟩
abbrev main_v89 : Ref sig .tc := ⟨.hbm, 220, rfl⟩
abbrev main_v90 : Ref sig .tc := ⟨.hbm, 221, rfl⟩
abbrev main_v91 : Ref sig .tc := ⟨.hbm, 222, rfl⟩
abbrev main_cst_10 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_v99 : Ref sig .tc := ⟨.hbm, 231, rfl⟩
abbrev main_cst_11 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_cst_12 : Ref sig .tc := ⟨.hbm, 237, rfl⟩
abbrev main_v104 : Ref sig .tc := ⟨.hbm, 238, rfl⟩
abbrev main_v105 : Ref sig .tc := ⟨.hbm, 239, rfl⟩
abbrev main_cst_13 : Ref sig .tc := ⟨.hbm, 240, rfl⟩
abbrev main_v106 : Ref sig .tc := ⟨.hbm, 241, rfl⟩
abbrev main_v107 : Ref sig .tc := ⟨.hbm, 242, rfl⟩
abbrev main_v108 : Ref sig .tc := ⟨.hbm, 243, rfl⟩
abbrev main_v109 : Ref sig .tc := ⟨.hbm, 244, rfl⟩
abbrev main_v110 : Ref sig .tc := ⟨.hbm, 245, rfl⟩
abbrev main_cst_14 : Ref sig .tc := ⟨.hbm, 246, rfl⟩
abbrev main_v111 : Ref sig .tc := ⟨.hbm, 247, rfl⟩
abbrev main_v112 : Ref sig .tc := ⟨.hbm, 248, rfl⟩
abbrev main_cst_15 : Ref sig .tc := ⟨.hbm, 249, rfl⟩
abbrev main_v113 : Ref sig .tc := ⟨.hbm, 250, rfl⟩
abbrev main_v114 : Ref sig .tc := ⟨.hbm, 251, rfl⟩
abbrev main_v115 : Ref sig .tc := ⟨.hbm, 252, rfl⟩
abbrev main_v116 : Ref sig .tc := ⟨.hbm, 253, rfl⟩
abbrev main_v117 : Ref sig .tc := ⟨.hbm, 254, rfl⟩
abbrev main_v118 : Ref sig .tc := ⟨.hbm, 255, rfl⟩
abbrev main_v119 : Ref sig .tc := ⟨.hbm, 256, rfl⟩
abbrev main_cst_16 : Ref sig .tc := ⟨.hbm, 257, rfl⟩
abbrev main_v120 : Ref sig .tc := ⟨.hbm, 258, rfl⟩
abbrev main_v121 : Ref sig .tc := ⟨.hbm, 259, rfl⟩
abbrev main_v122 : Ref sig .tc := ⟨.hbm, 260, rfl⟩
abbrev main_v123 : Ref sig .tc := ⟨.hbm, 261, rfl⟩
abbrev main_cst_17 : Ref sig .tc := ⟨.hbm, 262, rfl⟩
abbrev main_v124 : Ref sig .tc := ⟨.hbm, 263, rfl⟩
abbrev main_v125 : Ref sig .tc := ⟨.hbm, 264, rfl⟩
abbrev main_v126 : Ref sig .tc := ⟨.hbm, 265, rfl⟩
abbrev main_v127 : Ref sig .tc := ⟨.hbm, 266, rfl⟩
abbrev main_cst_18 : Ref sig .tc := ⟨.hbm, 267, rfl⟩
abbrev main_v128 : Ref sig .tc := ⟨.hbm, 268, rfl⟩
abbrev main_v129 : Ref sig .tc := ⟨.hbm, 269, rfl⟩
abbrev main_cst_19 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_cst_20 : Ref sig .tc := ⟨.hbm, 276, rfl⟩
abbrev main_v135 : Ref sig .tc := ⟨.hbm, 277, rfl⟩
abbrev main_v136 : Ref sig .tc := ⟨.hbm, 278, rfl⟩
abbrev main_cst_21 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_cst_22 : Ref sig .tc := ⟨.hbm, 287, rfl⟩
abbrev main_v144 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_v150 : Ref sig .tc := ⟨.hbm, 294, rfl⟩

abbrev nD : Nat := 1
abbrev τ : Topo := Topo.v7x

variable {F : FTy → Type} [FloatOps F]
-- ==== ActBwd.lean ====
abbrev S2048x2816 : Shape := ⟨2, ![2048, 2816]⟩
abbrev S2048x5632 : Shape := ⟨2, ![2048, 5632]⟩
abbrev S256x2816 : Shape := ⟨2, ![256, 2816]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x5632, .bf16⟩
  | .hbm, ⟨2, _⟩ => ⟨S2048x5632, .bf16⟩
  | .local _ .vmem, ⟨0, _⟩ => ⟨S256x2816, .bf16⟩
  | .local _ .vmem, ⟨1, _⟩ => ⟨S256x2816, .bf16⟩
  | .local _ .vmem, ⟨2, _⟩ => ⟨S256x5632, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActBwdReferenceIdeal.lean ====
abbrev S2048x2816 : Shape := ⟨2, ![2048, 2816]⟩
abbrev S2048x5632 : Shape := ⟨2, ![2048, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x5632, .bf16⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x5632, .f32⟩
  | .hbm, ⟨27, _⟩ => ⟨S2048x5632, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== OutBwd.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdReferenceIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x1024, .f32⟩
  | .hbm, ⟨3, _⟩ => ⟨S2816x1024, .f32⟩
  | .hbm, ⟨4, _⟩ => ⟨S_, .f32⟩
  | .hbm, ⟨5, _⟩ => ⟨S2048x2816, .f32⟩
  | .hbm, ⟨6, _⟩ => ⟨S2048x1024, .f32⟩
  | .hbm, ⟨7, _⟩ => ⟨S2048x2816, .f32⟩
  | .hbm, ⟨8, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWg.lean ====
abbrev S2048x2816 : Shape := ⟨2, ![2048, 2816]⟩
abbrev S2048x1024 : Shape := ⟨2, ![2048, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWgReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S_, .f32⟩
  | .hbm, ⟨5, _⟩ => ⟨S2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InBwd.lean ====
abbrev S2048x5632 : Shape := ⟨2, ![2048, 5632]⟩
abbrev S5632x1024 : Shape := ⟨2, ![5632, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwdReferenceIdeal.lean ====
abbrev S2048x5632 : Shape := ⟨2, ![2048, 5632]⟩
abbrev S5632x1024 : Shape := ⟨2, ![5632, 1024]⟩
abbrev S_ : Shape := ⟨0, ![]⟩
abbrev S2048x1024 : Shape := ⟨2, ![2048, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S2048x5632, .f32⟩
  | .hbm, ⟨3, _⟩ => ⟨S5632x1024, .f32⟩
  | .hbm, ⟨4, _⟩ => ⟨S_, .f32⟩
  | .hbm, ⟨5, _⟩ => ⟨S2048x1024, .f32⟩
  | .hbm, ⟨6, _⟩ => ⟨S1024x5632, .f32⟩
  | .hbm, ⟨7, _⟩ => ⟨S2048x5632, .f32⟩
  | .hbm, ⟨8, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWg.lean ====
abbrev S2048x5632 : Shape := ⟨2, ![2048, 5632]⟩
abbrev S2048x1024 : Shape := ⟨2, ![2048, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWgReferenceIdeal.lean ====
abbrev S2048x5632 : Shape := ⟨2, ![2048, 5632]⟩
abbrev S2048x1024 : Shape := ⟨2, ![2048, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S2048x5632, .f32⟩
  | .hbm, ⟨3, _⟩ => ⟨S2048x1024, .f32⟩
  | .hbm, ⟨4, _⟩ => ⟨S_, .f32⟩
  | .hbm, ⟨5, _⟩ => ⟨S5632x1024, .f32⟩
  | .hbm, ⟨6, _⟩ => ⟨S1024x5632, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== In.lean ====
abbrev S2048x1024 : Shape := ⟨2, ![2048, 1024]⟩
abbrev S5632x1024 : Shape := ⟨2, ![5632, 1024]⟩
abbrev S2048x5632 : Shape := ⟨2, ![2048, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S5632x1024, .f32⟩
  | .hbm, ⟨4, _⟩ => ⟨S1024x5632, .f32⟩
  | .hbm, ⟨5, _⟩ => ⟨S2048x5632, .f32⟩
  | .hbm, ⟨6, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormBwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== GateBwd.lean ====
abbrev S2048x1024 : Shape := ⟨2, ![2048, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateBwdReferenceIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Act.lean ====
abbrev S2048x5632 : Shape := ⟨2, ![2048, 5632]⟩
abbrev S2048x2816 : Shape := ⟨2, ![2048, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S2048x5632, .bf16⟩
  | .hbm, ⟨1, _⟩ => ⟨S2048x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ActReferenceIdeal.lean ====
abbrev S2048x5632 : Shape := ⟨2, ![2048, 5632]⟩
abbrev S2048x2816 : Shape := ⟨2, ![2048, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== SbIn.lean ====
abbrev S2048x1024 : Shape := ⟨2, ![2048, 1024]⟩
abbrev S3072x1024 : Shape := ⟨2, ![3072, 1024]⟩
abbrev S2048x3072 : Shape := ⟨2, ![2048, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbInReferenceIdeal.lean ====
abbrev S2048x1024 : Shape := ⟨2, ![2048, 1024]⟩
abbrev S3072x1024 : Shape := ⟨2, ![3072, 1024]⟩
abbrev S1024x3072 : Shape := ⟨2, ![1024, 3072]⟩
abbrev S2048x3072 : Shape := ⟨2, ![2048, 3072]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3072x1024, .bf16⟩
  | .hbm, ⟨2, _⟩ => ⟨S2048x1024, .f32⟩
  | .hbm, ⟨3, _⟩ => ⟨S3072x1024, .f32⟩
  | .hbm, ⟨4, _⟩ => ⟨S1024x3072, .f32⟩
  | .hbm, ⟨5, _⟩ => ⟨S2048x3072, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SbInBwd.lean ====
abbrev S2048x3072 : Shape := ⟨2, ![2048, 3072]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbInBwdReferenceIdeal.lean ====
abbrev S2048x3072 : Shape := ⟨2, ![2048, 3072]⟩
abbrev S3072x1024 : Shape := ⟨2, ![3072, 1024]⟩
abbrev S_ : Shape := ⟨0, ![]⟩
abbrev S2048x1024 : Shape := ⟨2, ![2048, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x3072, .f32⟩
  | .hbm, ⟨3, _⟩ => ⟨S3072x1024, .f32⟩
  | .hbm, ⟨4, _⟩ => ⟨S_, .f32⟩
  | .hbm, ⟨5, _⟩ => ⟨S2048x1024, .f32⟩
  | .hbm, ⟨6, _⟩ => ⟨S1024x3072, .f32⟩
  | .hbm, ⟨7, _⟩ => ⟨S2048x3072, .f32⟩
  | .hbm, ⟨8, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SbInWg.lean ====
abbrev S2048x3072 : Shape := ⟨2, ![2048, 3072]⟩
abbrev S2048x1024 : Shape := ⟨2, ![2048, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbInWgReferenceIdeal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x3072, .f32⟩
  | .hbm, ⟨3, _⟩ => ⟨S2048x1024, .f32⟩
  | .hbm, ⟨4, _⟩ => ⟨S_, .f32⟩
  | .hbm, ⟨5, _⟩ => ⟨S3072x1024, .f32⟩
  | .hbm, ⟨6, _⟩ => ⟨S1024x3072, .f32⟩
  | .hbm, ⟨7, _⟩ => ⟨S2048x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DnIn.lean ====
abbrev S2048x1024 : Shape := ⟨2, ![2048, 1024]⟩
abbrev S4224x1024 : Shape := ⟨2, ![4224, 1024]⟩
abbrev S2048x4224 : Shape := ⟨2, ![2048, 4224]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4224x1024, .bf16⟩
  | .hbm, ⟨2, _⟩ => ⟨S2048x4224, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnInReferenceIdeal.lean ====
abbrev S2048x1024 : Shape := ⟨2, ![2048, 1024]⟩
abbrev S4224x1024 : Shape := ⟨2, ![4224, 1024]⟩
abbrev S1024x4224 : Shape := ⟨2, ![1024, 4224]⟩
abbrev S2048x4224 : Shape := ⟨2, ![2048, 4224]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4224x1024, .bf16⟩
  | .hbm, ⟨2, _⟩ => ⟨S2048x1024, .f32⟩
  | .hbm, ⟨3, _⟩ => ⟨S4224x1024, .f32⟩
  | .hbm, ⟨4, _⟩ => ⟨S1024x4224, .f32⟩
  | .hbm, ⟨5, _⟩ => ⟨S2048x4224, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DnInBwd.lean ====
abbrev S2048x4224 : Shape := ⟨2, ![2048, 4224]⟩
abbrev S4224x1024 : Shape := ⟨2, ![4224, 1024]⟩
abbrev S2048x1024 : Shape := ⟨2, ![2048, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4224, .bf16⟩
  | .hbm, ⟨1, _⟩ => ⟨S4224x1024, .bf16⟩
  | .hbm, ⟨2, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnInBwdReferenceIdeal.lean ====
abbrev S2048x4224 : Shape := ⟨2, ![2048, 4224]⟩
abbrev S4224x1024 : Shape := ⟨2, ![4224, 1024]⟩
abbrev S_ : Shape := ⟨0, ![]⟩
abbrev S2048x1024 : Shape := ⟨2, ![2048, 1024]⟩
abbrev S1024x4224 : Shape := ⟨2, ![1024, 4224]⟩

abbrev nBuf : Space → Nat
  | .hbm => 9
  | .vmem => 0
  | .smem => 0
  | _ => 0

abbrev bufTy : (tb : Table) → Fin (tcTables nBuf tb) → BufTy
  | .hbm, ⟨0, _⟩ => ⟨S2048x4224, .bf16⟩
  | .hbm, ⟨1, _⟩ => ⟨S4224x1024, .bf16⟩
  | .hbm, ⟨2, _⟩ => ⟨S2048x4224, .f32⟩
  | .hbm, ⟨3, _⟩ => ⟨S4224x1024, .f32⟩
  | .hbm, ⟨4, _⟩ => ⟨S_, .f32⟩
  | .hbm, ⟨5, _⟩ => ⟨S2048x1024, .f32⟩
  | .hbm, ⟨6, _⟩ => ⟨S1024x4224, .f32⟩
  | .hbm, ⟨7, _⟩ => ⟨S2048x4224, .f32⟩
  | .hbm, ⟨8, _⟩ => ⟨S2048x1024, .f32⟩
  | _, _ => ⟨S2048x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DnInWg.lean ====
abbrev S2048x4224 : Shape := ⟨2, ![2048, 4224]⟩
abbrev S2048x1024 : Shape := ⟨2, ![2048, 1024]⟩
abbrev S4224x1024 : Shape := ⟨2, ![4224, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4224, .bf16⟩
  | .hbm, ⟨1, _⟩ => ⟨S2048x1024, .bf16⟩
  | .hbm, ⟨2, _⟩ => ⟨S4224x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnInWgReferenceIdeal.lean ====
abbrev S2048x4224 : Shape := ⟨2, ![2048, 4224]⟩
abbrev S2048x1024 : Shape := ⟨2, ![2048, 1024]⟩
abbrev S_ : Shape := ⟨0, ![]⟩
abbrev S4224x1024 : Shape := ⟨2, ![4224, 1024]⟩
abbrev S1024x4224 : Shape := ⟨2, ![1024, 4224]⟩

abbrev nBuf : Space → Nat
  | .hbm => 12
  | .vmem => 0
  | .smem => 0
  | _ => 0

abbrev bufTy : (tb : Table) → Fin (tcTables nBuf tb) → BufTy
  | .hbm, ⟨0, _⟩ => ⟨S2048x4224, .bf16⟩
  | .hbm, ⟨1, _⟩ => ⟨S2048x1024, .bf16⟩
  | .hbm, ⟨2, _⟩ => ⟨S2048x4224, .f32⟩
  | .hbm, ⟨3, _⟩ => ⟨S2048x1024, .f32⟩
  | .hbm, ⟨4, _⟩ => ⟨S_, .f32⟩
  | .hbm, ⟨5, _⟩ => ⟨S4224x1024, .f32⟩
  | .hbm, ⟨6, _⟩ => ⟨S1024x4224, .f32⟩
  | .hbm, ⟨7, _⟩ => ⟨S2048x4224, .f32⟩
  | .hbm, ⟨8, _⟩ => ⟨S4224x1024, .f32⟩
  | .hbm, ⟨9, _⟩ => ⟨S1024x4224, .f32⟩
  | .hbm, ⟨10, _⟩ => ⟨S4224x1024, .f32⟩
  | .hbm, ⟨11, _⟩ => ⟨S4224x1024, .bf16⟩
  | _, _ => ⟨S2048x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixOut.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutReferenceIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SbOutBwd.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbOutBwdReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DnOutBwd.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnOutBwdReferenceIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOutWg.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixOutWgReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdaBwd.lean ====
abbrev S16x1024 : Shape := ⟨2, ![16, 1024]⟩
abbrev S4x16x768 : Shape := ⟨3, ![4, 16, 768]⟩
abbrev S4x1024x768 : Shape := ⟨3, ![4, 1024, 768]⟩
abbrev S1x16x768 : Shape := ⟨3, ![1, 16, 768]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S4x1024x768, .f32⟩
  | .local _ .vmem, ⟨0, _⟩ => ⟨S16x1024, .f32⟩
  | .local _ .vmem, ⟨1, _⟩ => ⟨S1x16x768, .f32⟩
  | .local _ .vmem, ⟨2, _⟩ => ⟨S1x16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBwdReferenceIdeal.lean ====
abbrev S16x1024 : Shape := ⟨2, ![16, 1024]⟩
abbrev S4x16x768 : Shape := ⟨3, ![4, 16, 768]⟩
abbrev S_ : Shape := ⟨0, ![]⟩
abbrev S4x1024x768 : Shape := ⟨3, ![4, 1024, 768]⟩
abbrev S16x4x768 : Shape := ⟨3, ![16, 4, 768]⟩
abbrev S4x768x1024 : Shape := ⟨3, ![4, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x768, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S4x1024x768, .f32⟩
  | .hbm, ⟨13, _⟩ => ⟨S16x4x768, .f32⟩
  | .hbm, ⟨14, _⟩ => ⟨S4x16x768, .f32⟩
  | .hbm, ⟨15, _⟩ => ⟨S16x4x768, .f32⟩
  | .hbm, ⟨16, _⟩ => ⟨S4x768x1024, .f32⟩
  | .hbm, ⟨17, _⟩ => ⟨S4x1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Ada.lean ====
abbrev S16x1024 : Shape := ⟨2, ![16, 1024]⟩
abbrev S4x1024x768 : Shape := ⟨3, ![4, 1024, 768]⟩
abbrev S4x1x768 : Shape := ⟨3, ![4, 1, 768]⟩
abbrev S4x16x768 : Shape := ⟨3, ![4, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x1x768, .f32⟩
  | .hbm, ⟨3, _⟩ => ⟨S4x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S16x1024 : Shape := ⟨2, ![16, 1024]⟩
abbrev S4x1024x768 : Shape := ⟨3, ![4, 1024, 768]⟩
abbrev S4x1x768 : Shape := ⟨3, ![4, 1, 768]⟩
abbrev S_ : Shape := ⟨0, ![]⟩
abbrev S16x4x768 : Shape := ⟨3, ![16, 4, 768]⟩
abbrev S4x16x768 : Shape := ⟨3, ![4, 16, 768]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x768, .f32⟩
  | .hbm, ⟨2, _⟩ => ⟨S4x1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x4x768, .f32⟩
  | .hbm, ⟨13, _⟩ => ⟨S4x16x768, .f32⟩
  | .hbm, ⟨14, _⟩ => ⟨S4x16x768, .f32⟩
  | .hbm, ⟨15, _⟩ => ⟨S4x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Gate.lean ====
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateReferenceIdeal.lean ====
abbrev S2048x1024 : Shape := ⟨2, ![2048, 1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateNorm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateNormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Loss.lean ====
abbrev S2048x1024 : Shape := ⟨2, ![2048, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S_, .f32⟩
  | .hbm, ⟨29, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaReferenceIdeal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAdaB.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBReferenceIdeal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDnIn.lean ====
abbrev S2048x514 : Shape := ⟨2, ![2048, 514]⟩
abbrev S512x514 : Shape := ⟨2, ![512, 514]⟩

abbrev nBuf : Space → Nat
  | .hbm => 7
  | .vmem => 14
  | .smem => 0
  | _ => 0

abbrev bufTy : (tb : Table) → Fin (tcTables nBuf tb) → BufTy
  | .hbm, ⟨0, _⟩ => ⟨S2048x514, .f32⟩
  | .hbm, ⟨1, _⟩ => ⟨S2048x514, .f32⟩
  | .hbm, ⟨2, _⟩ => ⟨S2048x514, .f32⟩
  | .hbm, ⟨3, _⟩ => ⟨S2048x514, .f32⟩
  | .hbm, ⟨4, _⟩ => ⟨S2048x514, .f32⟩
  | .hbm, ⟨5, _⟩ => ⟨S2048x514, .f32⟩
  | .hbm, ⟨6, _⟩ => ⟨S2048x514, .f32⟩
  | .local _ .vmem, ⟨0, _⟩ => ⟨S512x514, .f32⟩
  | .local _ .vmem, ⟨1, _⟩ => ⟨S512x514, .f32⟩
  | .local _ .vmem, ⟨2, _⟩ => ⟨S512x514, .f32⟩
  | .local _ .vmem, ⟨3, _⟩ => ⟨S512x514, .f32⟩
  | .local _ .vmem, ⟨4, _⟩ => ⟨S512x514, .f32⟩
  | .local _ .vmem, ⟨5, _⟩ => ⟨S512x514, .f32⟩
  | .local _ .vmem, ⟨6, _⟩ => ⟨S512x514, .f32⟩
  | .local _ .vmem, ⟨7, _⟩ => ⟨S512x514, .f32⟩
  | .local _ .vmem, ⟨8, _⟩ => ⟨S512x514, .f32⟩
  | .local _ .vmem, ⟨9, _⟩ => ⟨S512x514, .f32⟩
  | .local _ .vmem, ⟨10, _⟩ => ⟨S512x514, .f32⟩
  | .local _ .vmem, ⟨11, _⟩ => ⟨S512x514, .f32⟩
  | .local _ .vmem, ⟨12, _⟩ => ⟨S512x514, .f32⟩
  | .local _ .vmem, ⟨13, _⟩ => ⟨S512x514, .f32⟩
  | _, _ => ⟨S2048x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDnInIdeal.lean ====
abbrev S2048x514 : Shape := ⟨2, ![2048, 514]⟩
abbrev S512x514 : Shape := ⟨2, ![512, 514]⟩

abbrev nBuf : Space → Nat
  | .hbm => 7
  | .vmem => 14
  | .smem => 0
  | _ => 0

abbrev bufTy : (tb : Table) → Fin (tcTables nBuf tb) → BufTy
  | .hbm, ⟨0, _⟩ => ⟨S2048x514, .f32⟩
  | .hbm, ⟨1, _⟩ => ⟨S2048x514, .f32⟩
  | .hbm, ⟨2, _⟩ => ⟨S2048x514, .f32⟩
  | .hbm, ⟨3, _⟩ => ⟨S2048x514, .f32⟩
  | .hbm, ⟨4, _⟩ => ⟨S2048x514, .f32⟩
  | .hbm, ⟨5, _⟩ => ⟨S2048x514, .f32⟩
  | .hbm, ⟨6, _⟩ => ⟨S2048x514, .f32⟩
  | .local _ .vmem, ⟨0, _⟩ => ⟨S512x514, .f32⟩
  | .local _ .vmem, ⟨1, _⟩ => ⟨S512x514, .f32⟩
  | .local _ .vmem, ⟨2, _⟩ => ⟨S512x514, .f32⟩
  | .local _ .vmem, ⟨3, _⟩ => ⟨S512x514, .f32⟩
  | .local _ .vmem, ⟨4, _⟩ => ⟨S512x514, .f32⟩
  | .local _ .vmem, ⟨5, _⟩ => ⟨S512x514, .f32⟩
  | .local _ .vmem, ⟨6, _⟩ => ⟨S512x514, .f32⟩
  | .local _ .vmem, ⟨7, _⟩ => ⟨S512x514, .f32⟩
  | .local _ .vmem, ⟨8, _⟩ => ⟨S512x514, .f32⟩
  | .local _ .vmem, ⟨9, _⟩ => ⟨S512x514, .f32⟩
  | .local _ .vmem, ⟨10, _⟩ => ⟨S512x514, .f32⟩
  | .local _ .vmem, ⟨11, _⟩ => ⟨S512x514, .f32⟩
  | .local _ .vmem, ⟨12, _⟩ => ⟨S512x514, .f32⟩
  | .local _ .vmem, ⟨13, _⟩ => ⟨S512x514, .f32⟩
  | _, _ => ⟨S2048x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDnInReferenceIdeal.lean ====
abbrev S2048x514 : Shape := ⟨2, ![2048, 514]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x514, .f32⟩
  | .hbm, ⟨1, _⟩ => ⟨S2048x514, .f32⟩
  | .hbm, ⟨2, _⟩ => ⟨S2048x514, .f32⟩
  | .hbm, ⟨3, _⟩ => ⟨S2048x514, .f32⟩
  | .hbm, ⟨4, _⟩ => ⟨S_, .f32⟩
  | .hbm, ⟨5, _⟩ => ⟨S2048x514, .f32⟩
  | .hbm, ⟨6, _⟩ => ⟨S2048x514, .f32⟩
  | .hbm, ⟨7, _⟩ => ⟨S_, .f32⟩
  | .hbm, ⟨8, _⟩ => ⟨S2048x514, .f32⟩
  | .hbm, ⟨9, _⟩ => ⟨S2048x514, .f32⟩
  | .hbm, ⟨10, _⟩ => ⟨S2048x514, .f32⟩
  | .hbm, ⟨11, _⟩ => ⟨S_, .f32⟩
  | .hbm, ⟨12, _⟩ => ⟨S2048x514, .f32⟩
  | .hbm, ⟨13, _⟩ => ⟨S2048x514, .f32⟩
  | .hbm, ⟨14, _⟩ => ⟨S2048x514, .f32⟩
  | .hbm, ⟨15, _⟩ => ⟨S_, .f32⟩
  | .hbm, ⟨16, _⟩ => ⟨S2048x514, .f32⟩
  | .hbm, ⟨17, _⟩ => ⟨S2048x514, .f32⟩
  | .hbm, ⟨18, _⟩ => ⟨S2048x514, .f32⟩
  | .hbm, ⟨19, _⟩ => ⟨S_, .f32⟩
  | .hbm, ⟨20, _⟩ => ⟨S2048x514, .f32⟩
  | .hbm, ⟨21, _⟩ => ⟨S2048x514, .f32⟩
  | .hbm, ⟨22, _⟩ => ⟨S_, .f32⟩
  | .hbm, ⟨23, _⟩ => ⟨S2048x514, .f32⟩
  | .hbm, ⟨24, _⟩ => ⟨S2048x514, .f32⟩
  | .hbm, ⟨25, _⟩ => ⟨S2048x514, .f32⟩
  | .hbm, ⟨26, _⟩ => ⟨S_, .f32⟩
  | .hbm, ⟨27, _⟩ => ⟨S2048x514, .f32⟩
  | .hbm, ⟨28, _⟩ => ⟨S2048x514, .f32⟩
  | .hbm, ⟨29, _⟩ => ⟨S2048x514, .f32⟩
  | .hbm, ⟨30, _⟩ => ⟨S_, .f32⟩
  | .hbm, ⟨31, _⟩ => ⟨S2048x514, .f32⟩
  | .hbm, ⟨32, _⟩ => ⟨S2048x514, .f32⟩
  | .hbm, ⟨33, _⟩ => ⟨S2048x514, .f32⟩
  | .hbm, ⟨34, _⟩ => ⟨S_, .f32⟩
  | .hbm, ⟨35, _⟩ => ⟨S2048x514, .f32⟩
  | .hbm, ⟨36, _⟩ => ⟨S2048x514, .f32⟩
  | _, _ => ⟨S2048x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S8x384 : Shape := ⟨2, ![8, 384]⟩

abbrev nBuf : Space → Nat
  | .hbm => 7
  | .vmem => 7
  | .smem => 0
  | _ => 0

abbrev bufTy : (tb : Table) → Fin (tcTables nBuf tb) → BufTy
  | .hbm, ⟨0, _⟩ => ⟨S8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S8x384, .f32⟩
  | .hbm, ⟨5, _⟩ => ⟨S8x384, .f32⟩
  | .hbm, ⟨6, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S8x384 : Shape := ⟨2, ![8, 384]⟩

abbrev nBuf : Space → Nat
  | .hbm => 7
  | .vmem => 7
  | .smem => 0
  | _ => 0

abbrev bufTy : (tb : Table) → Fin (tcTables nBuf tb) → BufTy
  | .hbm, ⟨0, _⟩ => ⟨S8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S8x384, .f32⟩
  | .hbm, ⟨5, _⟩ => ⟨S8x384, .f32⟩
  | .hbm, ⟨6, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S8x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S8x384 : Shape := ⟨2, ![8, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x384, .f32⟩
  | .hbm, ⟨1, _⟩ => ⟨S8x384, .f32⟩
  | .hbm, ⟨2, _⟩ => ⟨S8x384, .f32⟩
  | .hbm, ⟨3, _⟩ => ⟨S8x384, .f32⟩
  | .hbm, ⟨4, _⟩ => ⟨S_, .f32⟩
  | .hbm, ⟨5, _⟩ => ⟨S8x384, .f32⟩
  | .hbm, ⟨6, _⟩ => ⟨S8x384, .f32⟩
  | .hbm, ⟨7, _⟩ => ⟨S_, .f32⟩
  | .hbm, ⟨8, _⟩ => ⟨S8x384, .f32⟩
  | .hbm, ⟨9, _⟩ => ⟨S8x384, .f32⟩
  | .hbm, ⟨10, _⟩ => ⟨S8x384, .f32⟩
  | .hbm, ⟨11, _⟩ => ⟨S_, .f32⟩
  | .hbm, ⟨12, _⟩ => ⟨S8x384, .f32⟩
  | .hbm, ⟨13, _⟩ => ⟨S8x384, .f32⟩
  | .hbm, ⟨14, _⟩ => ⟨S8x384, .f32⟩
  | .hbm, ⟨15, _⟩ => ⟨S_, .f32⟩
  | .hbm, ⟨16, _⟩ => ⟨S8x384, .f32⟩
  | .hbm, ⟨17, _⟩ => ⟨S8x384, .f32⟩
  | .hbm, ⟨18, _⟩ => ⟨S8x384, .f32⟩
  | .hbm, ⟨19, _⟩ => ⟨S_, .f32⟩
  | .hbm, ⟨20, _⟩ => ⟨S8x384, .f32⟩
  | .hbm, ⟨21, _⟩ => ⟨S8x384, .f32⟩
  | .hbm, ⟨22, _⟩ => ⟨S_, .f32⟩
  | .hbm, ⟨23, _⟩ => ⟨S8x384, .f32⟩
  | .hbm, ⟨24, _⟩ => ⟨S8x384, .f32⟩
  | .hbm, ⟨25, _⟩ => ⟨S8x384, .f32⟩
  | .hbm, ⟨26, _⟩ => ⟨S_, .f32⟩
  | .hbm, ⟨27, _⟩ => ⟨S8x384, .f32⟩
  | .hbm, ⟨28, _⟩ => ⟨S8x384, .f32⟩
  | .hbm, ⟨29, _⟩ => ⟨S8x384, .f32⟩
  | .hbm, ⟨30, _⟩ => ⟨S_, .f32⟩
  | .hbm, ⟨31, _⟩ => ⟨S8x384, .f32⟩
  | .hbm, ⟨32, _⟩ => ⟨S8x384, .f32⟩
  | .hbm, ⟨33, _⟩ => ⟨S8x384, .f32⟩
  | .hbm, ⟨34, _⟩ => ⟨S_, .f32⟩
  | .hbm, ⟨35, _⟩ => ⟨S8x384, .f32⟩
  | .hbm, ⟨36, _⟩ => ⟨S8x384, .f32⟩
  | _, _ => ⟨S8x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDecay.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDecayIdeal.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDecayReferenceIdeal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDnNorm.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDnNormIdeal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDnNormReferenceIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSbIn.lean ====
abbrev S2048x384 : Shape := ⟨2, ![2048, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSbInIdeal.lean ====
abbrev S2048x384 : Shape := ⟨2, ![2048, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSbInReferenceIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadReferenceIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnIn.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInIdeal.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_c1" => some ((8388608 / 5463681 : ℝ) : EReal)
  | "inv_c2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInReferenceIdeal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnOut.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdamFfnOutReferenceIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Tile.lean ====
/- The pure content of the kernel body: what one tile (a block of 256 queries against a block of 256 keys) leaves in the
   carried values and in the rows of the two key-side accumulators, and the fold of the tiles of one query block and of the
   whole sequence. Stated for every reading of the element types; no memory appears here. -/
module

public import proofs.«01_k».proof.Proof.Gen.KernelIdeal.Skeleton
public import Idealize.ShloMosaic.Lib.VecWindow

@[expose] public section

set_option maxRecDepth 16384

noncomputable section

namespace Cert.KernelIdeal.Stick

open Idealize.ShloMosaic Idealize.ShloMosaic.TcCoe Idealize.ShloMosaic.Tactic
open Cert.KernelIdeal.Gen

variable {F : FTy → Type} [FloatOps F]

/-! ## Blocks of rows -/

/-- The rows `256 j … 256 j + 255` of `X` (read round the end, so that no bound is asked). -/
def blk {α : Type} (X : S2048x256.Idx → α) (j : ℕ) : S256x256.Idx → α :=
  fun y => X (fun a => match a with
    | 0 => (⟨(256 * j + (y 0).val) % 2048, Nat.mod_lt _ (by decide)⟩ : Fin 2048)
    | 1 => (⟨(y 1).val, (y 1).isLt⟩ : Fin 256))

/-- `X` with the rows `256 j …` replaced by `B`. -/
def setBlk {α : Type} (X : S2048x256.Idx → α) (j : ℕ) (B : S256x256.Idx → α) : S2048x256.Idx → α :=
  VecWindow.put X ![256 * j, 0] S256x256.size B

theorem window_blk {α : Type} (X : S2048x256.Idx → α) (j : ℕ) (inb : ∀ a, (![256 * j, 0] : Fin 2 → ℕ) a + S256x256.size a ≤ S2048x256.size a) :
    VecWindow.window X ![256 * j, 0] S256x256.size inb = blk X j := by
  funext y
  have h0 := inb 0
  have hy : (y 0).val < 256 := (y 0).isLt
  have h0' : 256 * j + 256 ≤ 2048 := h0
  show X _ = X _
  refine congrArg X (funext fun a => ?_)
  match a with
  | 0 => exact Fin.ext (by show 256 * j + 1 * (y 0).val = (256 * j + (y 0).val) % 2048; rw [Nat.mod_eq_of_lt (by omega)]; omega)
  | 1 => exact Fin.ext (by show 0 + 1 * (y 1).val = (y 1).val; omega)

theorem blk_setBlk_same {α : Type} (X : S2048x256.Idx → α) (j : ℕ) (hj : j < 8) (B : S256x256.Idx → α) : blk (setBlk X j B) j = B := by
  have inb : ∀ a, (![256 * j, 0] : Fin 2 → ℕ) a + S256x256.size a ≤ S2048x256.size a := fun a => by
    match a with
    | 0 => show 256 * j + 256 ≤ 2048; omega
    | 1 => show 0 + 256 ≤ 256; omega
  rw [← window_blk _ _ inb]
  exact VecWindow.window_put_same X _ _ inb B

theorem blk_setBlk_ne {α : Type} (X : S2048x256.Idx → α) (j j' : ℕ) (hj : j' < 8) (h : j ≠ j') (B : S256x256.Idx → α) :
    blk (setBlk X j B) j' = blk X j' := by
  have inb : ∀ a, (![256 * j', 0] : Fin 2 → ℕ) a + S256x256.size a ≤ S2048x256.size a := fun a => by
    match a with
    | 0 => show 256 * j' + 256 ≤ 2048; omega
    | 1 => show 0 + 256 ≤ 256; omega
  rw [← window_blk _ _ inb, ← window_blk _ _ inb]
  exact VecWindow.window_put_of_disjoint X _ _ _ _ inb B 0 (by show 256 * j' + 256 ≤ 256 * j ∨ 256 * j + 256 ≤ 256 * j'; omega)

/-! ## One tile -/

/-- The constants of a tile: the two triangular masks of the sums along keys, and the lanes of each head (as bf16 and as
    f32). -/
structure Masks (F : FTy → Type) [FloatOps F] where
  upto : FVec F S256x256 .bf16
  before : FVec F S256x256 .bf16
  hm : FVec F S4x1x256 .bf16
  hf : FVec F S4x1x256 .f32

/-- What a query block brings: its row totals, its queries and its output gradients, the latter two per head. -/
structure Query (F : FTy → Type) [FloatOps F] where
  tot : FVec F S4x256x1 .f32
  qb : FVec F S4x256x256 .bf16
  dob : FVec F S4x256x256 .bf16

/-- The state along the key blocks of one query block: the two prefix sums, the queries' gradient so far, and the two
    key-side accumulators whole. -/
structure St (F : FTy → Type) [FloatOps F] where
  PL : FVec F S4x256x1 .f32
  P : FVec F S4x256x1 .f32
  dq : FVec F S256x256 .f32
  dk : S2048x256.Idx → F .f32
  dv : S2048x256.Idx → F .f32

/-- The weights of a tile. -/
def wgt (M : Masks F) (Q : Query F) (PL : FVec F S4x256x1 .f32) (kb : Vec F S256x256 .bf16) : FVec F S4x256x256 .f32 :=
  k0_pay8 M.upto Q.tot Q.qb PL kb

/-- One tile off the diagonal: key block `j`. -/
def tile (M : Masks F) (Q : Query F) (kn vn : S2048x256.Idx → F .bf16) (s : St F) (j : ℕ) : St F :=
  { PL := k0_pay13 s.PL (k0_pay7 Q.qb (blk kn j))
    P := k0_pay14 Q.dob s.P (k0_pay3 M.hm (blk vn j)) (k0_pay6 Q.qb (blk kn j)) (wgt M Q s.PL (blk kn j))
    dq := k0_pay12 M.before M.hf Q.dob s.P s.dq (blk kn j) (k0_pay3 M.hm (blk vn j)) (k0_pay6 Q.qb (blk kn j)) (wgt M Q s.PL (blk kn j))
    dk := setBlk s.dk j (k0_pay16 M.before Q.qb Q.dob s.P (k0_pay3 M.hm (blk vn j)) (k0_pay6 Q.qb (blk kn j)) (wgt M Q s.PL (blk kn j)) (blk s.dk j))
    dv := setBlk s.dv j (k0_pay17 (k0_pay15 Q.dob (k0_pay6 Q.qb (blk kn j)) (wgt M Q s.PL (blk kn j))) (blk s.dv j)) }

/-- The first `n` tiles from a state. -/
def tiles (M : Masks F) (Q : Query F) (kn vn : S2048x256.Idx → F .bf16) (s : St F) : ℕ → St F
  | 0 => s
  | n + 1 => tile M Q kn vn (tiles M Q kn vn s n) n

/-! The other copies of a tile's text are the same functions. -/

section Copies
variable (mU mB : FVec F S256x256 .bf16) (hm : FVec F S4x1x256 .bf16) (hf : FVec F S4x1x256 .f32) (tot : FVec F S4x256x1 .f32)
  (qb dob : FVec F S4x256x256 .bf16) (PL P : FVec F S4x256x1 .f32) (dq old : FVec F S256x256 .f32) (kb vb : Vec F S256x256 .bf16)

theorem pl2 : k0_pay27 PL (k0_pay21 qb kb) = k0_pay13 PL (k0_pay7 qb kb) := rfl
theorem p2 : k0_pay28 P (k0_pay23 mU hm tot qb dob PL kb vb)
    = k0_pay14 dob P (k0_pay3 hm vb) (k0_pay6 qb kb) (k0_pay8 mU tot qb PL kb) := rfl
theorem dq2 : k0_pay26 mB hf dq P kb (k0_pay20 qb kb) (k0_pay23 mU hm tot qb dob PL kb vb) (k0_pay24 mU hm tot qb dob PL kb vb)
    = k0_pay12 mB hf dob P dq kb (k0_pay3 hm vb) (k0_pay6 qb kb) (k0_pay8 mU tot qb PL kb) := rfl
theorem dk2 : k0_pay29 mB qb P (k0_pay20 qb kb) (k0_pay23 mU hm tot qb dob PL kb vb) (k0_pay24 mU hm tot qb dob PL kb vb) old
    = k0_pay16 mB qb dob P (k0_pay3 hm vb) (k0_pay6 qb kb) (k0_pay8 mU tot qb PL kb) old := rfl
theorem dv2 : k0_pay30 dob (k0_pay22 mU tot qb PL kb) old
    = k0_pay17 (k0_pay15 dob (k0_pay6 qb kb) (k0_pay8 mU tot qb PL kb)) old := rfl
theorem pl3 : k0_pay69 PL (k0_pay62 qb kb) = k0_pay13 PL (k0_pay7 qb kb) := rfl
theorem p3 : k0_pay70 P (k0_pay64 mU hm tot qb dob PL kb vb)
    = k0_pay14 dob P (k0_pay3 hm vb) (k0_pay6 qb kb) (k0_pay8 mU tot qb PL kb) := rfl
theorem dq3 : k0_pay68 hf P dq kb (k0_pay61 qb kb) (k0_pay64 mU hm tot qb dob PL kb vb) (k0_pay65 mU hm tot qb dob PL kb vb) (k0_pay66 mB)
    = k0_pay12 mB hf dob P dq kb (k0_pay3 hm vb) (k0_pay6 qb kb) (k0_pay8 mU tot qb PL kb) := rfl
theorem dk3 : k0_pay71 qb P (k0_pay61 qb kb) (k0_pay64 mU hm tot qb dob PL kb vb) (k0_pay65 mU hm tot qb dob PL kb vb) (k0_pay66 mB) old
    = k0_pay16 mB qb dob P (k0_pay3 hm vb) (k0_pay6 qb kb) (k0_pay8 mU tot qb PL kb) old := rfl
theorem dv3 : k0_pay72 dob (k0_pay63 mU tot qb PL kb) old
    = k0_pay17 (k0_pay15 dob (k0_pay6 qb kb) (k0_pay8 mU tot qb PL kb)) old := rfl

end Copies

/-! ## One query block, and all of them -/

/-- The state of the three accumulators between query blocks. -/
structure Acc (F : FTy → Type) [FloatOps F] where
  dq : S2048x256.Idx → F .f32
  dk : S2048x256.Idx → F .f32
  dv : S2048x256.Idx → F .f32

/-- What query block `i` brings, from the whole arrays of its operands. -/
def query (M : Masks F) (lane : IVec S256x256 32) (tot : S2048x256.Idx → F .f32) (qs dout : S2048x256.Idx → F .bf16) (i : ℕ) : Query F :=
  { tot := k0_pay73 lane (blk tot i)
    qb := k0_pay74 M.hm (blk qs i)
    dob := k0_pay76 M.hm (k0_pay75 (blk dout i)) }

/-- The state a query block starts its keys from. -/
def start (a : Acc F) : St F := { PL := k0_pay77, P := k0_pay78, dq := k0_pay79, dk := a.dk, dv := a.dv }

/-- The diagonal tile (`dg` its causal mask) of query block `i`, after the tiles before it. -/
def diag (dg : IVec S256x256 1) (M : Masks F) (Q : Query F) (kn vn : S2048x256.Idx → F .bf16) (a : Acc F) (s : St F) (i : ℕ) : Acc F :=
  { dq := setBlk a.dq i (k0_pay115 (k0_pay87 dg M.before M.hf Q.dob s.P s.dq (blk kn i) (k0_pay80 M.hm (blk vn i)) (k0_pay83 Q.qb (blk kn i)) (k0_pay84 dg M.upto Q.tot Q.qb s.PL (blk kn i))))
    dk := setBlk s.dk i (k0_pay89 dg M.before Q.qb Q.dob s.P (k0_pay80 M.hm (blk vn i)) (k0_pay83 Q.qb (blk kn i)) (k0_pay84 dg M.upto Q.tot Q.qb s.PL (blk kn i)) (blk s.dk i))
    dv := setBlk s.dv i (k0_pay114 (k0_pay88 dg Q.dob (k0_pay84 dg M.upto Q.tot Q.qb s.PL (blk kn i))) (blk s.dv i)) }

/-- Query block `i` whole. -/
def block (dg : IVec S256x256 1) (M : Masks F) (lane : IVec S256x256 32) (tot : S2048x256.Idx → F .f32) (qs kn vn dout : S2048x256.Idx → F .bf16) (a : Acc F) (i : ℕ) : Acc F :=
  diag dg M (query M lane tot qs dout i) kn vn a (tiles M (query M lane tot qs dout i) kn vn (start a) i) i

/-- The first `n` query blocks. -/
def blocks (dg : IVec S256x256 1) (M : Masks F) (lane : IVec S256x256 32) (tot : S2048x256.Idx → F .f32) (qs kn vn dout : S2048x256.Idx → F .bf16) (a : Acc F) : ℕ → Acc F
  | 0 => a
  | n + 1 => block dg M lane tot qs kn vn dout (blocks dg M lane tot qs kn vn dout a n) n

end Cert.KernelIdeal.Stick

end
-- ==== Proof.Loops.lean ====
/- The two counted loops of the kernel body by their invariants: the pairs of key blocks of a query block (inner), and the
   query blocks (outer). A buffer is held at the values it reads (`View.rep`); the carried values are the fold of the tiles
   (Tile.lean) up to the trip. -/
module

public import proofs.«01_k».proof.Proof.Tile
public import proofs.«01_k».proof.Proof.Gen.KernelIdeal.Loops
public import proofs.«01_k».proof.Proof.Gen.KernelIdeal.Frame
public import Idealize.ShloMosaic.Lib.Tactic
public import Idealize.ShloMosaic.Lib.LoopRemainder

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the frame kit. -/
local notation "𝕄" => MT nD τ sig Unit (Elt F) ℕ (UR sig nD τ) ℕ

abbrev 𝒱₀ : Variants := Variants.none

/-- A buffer held whole at the values `X`. -/
abbrev holds (c : Dev nD) {s : Shape} {e : EltTy} (m : Memref sig .tc .vmem s e) (X : s.Idx → Elt F e) : sProp 𝕄 :=
  m.view.loc (c : Thread nD τ) ↦[m.view.set]{fullShare} m.view.rep X

/-! ## Offsets and trip counts in closed form -/

theorem k0_off2_eq : ∀ (k0_t1 : Fin k0_t1_loop.trips) (k0_t2 : Fin (k0_t2_loop k0_t1).trips), k0_off2 k0_t1 k0_t2 = ![256 * (2 * k0_t2.val), 0] := by
  decide +kernel
instance (k0_t1 : Fin k0_t1_loop.trips) (k0_t2 : Fin (k0_t2_loop k0_t1).trips) : ClosedOff (k0_off2 k0_t1 k0_t2) := ⟨_, k0_off2_eq k0_t1 k0_t2⟩

theorem k0_off3_eq : ∀ (k0_t1 : Fin k0_t1_loop.trips) (k0_t2 : Fin (k0_t2_loop k0_t1).trips), k0_off3 k0_t1 k0_t2 = ![256 * (2 * k0_t2.val + 1), 0] := by
  decide +kernel
instance (k0_t1 : Fin k0_t1_loop.trips) (k0_t2 : Fin (k0_t2_loop k0_t1).trips) : ClosedOff (k0_off3 k0_t1 k0_t2) := ⟨_, k0_off3_eq k0_t1 k0_t2⟩

theorem k0_off6_eq : ∀ (k0_t1 : Fin k0_t1_loop.trips), k0_cond1 k0_t1 = 1#1 → k0_off6 k0_t1 = ![256 * (2 * (k0_t1.val / 2)), 0] := by
  decide +kernel

instance (k0_t1 : Fin k0_t1_loop.trips) [h : Fact (k0_cond1 k0_t1 = 1#1)] : ClosedOff (k0_off6 k0_t1) := ⟨_, k0_off6_eq k0_t1 h.out⟩

theorem trips2 : ∀ (k0_t1 : Fin k0_t1_loop.trips), (k0_t2_loop k0_t1).trips = k0_t1.val / 2 := by decide +kernel
theorem odd_of_cond1 : ∀ (k0_t1 : Fin k0_t1_loop.trips), k0_cond1 k0_t1 = 1#1 → k0_t1.val = 2 * (k0_t1.val / 2) + 1 := by decide +kernel
theorem even_of_cond1 : ∀ (k0_t1 : Fin k0_t1_loop.trips), ¬ k0_cond1 k0_t1 = 1#1 → k0_t1.val = 2 * (k0_t1.val / 2) := by decide +kernel
theorem trips1 : k0_t1_loop.trips = 8 := by decide +kernel

theorem inb_blk (j : ℕ) (hj : j < 8) : ∀ a, (![256 * j, 0] : Fin 2 → ℕ) a + S256x256.size a ≤ S2048x256.size a := fun a => by
  match a with
  | 0 => show 256 * j + 256 ≤ 2048; omega
  | 1 => show 0 + 256 ≤ 256; omega

/-- A load of a block of rows of a buffer held at `X`. -/
theorem load_blk {e : EltTy} (m : Memref sig .tc .vmem S2048x256 e) (X : S2048x256.Idx → Elt F e) {off : Fin 2 → ℕ}
    (inb : ∀ a, off a + S256x256.size a ≤ S2048x256.size a) (j : ℕ) (hj : j < 8) (h : off = ![256 * j, 0]) :
    m.view.readAt (Elt F) (Rect.unit (s := S2048x256) off S256x256.size inb).toLoadRect (m.view.rep X) = blk X j := by
  rw [View.readAt_rep_unit m.view X inb h (inb_blk j hj), window_blk]

/-- A load of a block of rows of a buffer held at `X` with a block stored. -/
theorem load_blk_store {e : EltTy} (m : Memref sig .tc .vmem S2048x256 e) (X : S2048x256.Idx → Elt F e) {off off' : Fin 2 → ℕ}
    (inb : ∀ a, off a + S256x256.size a ≤ S2048x256.size a) (inb' : ∀ a, off' a + S256x256.size a ≤ S2048x256.size a) (w : S256x256.Idx → Elt F e)
    (j j' : ℕ) (hj : j' < 8) (h : off = ![256 * j, 0]) (h' : off' = ![256 * j', 0]) :
    m.view.readAt (Elt F) (Rect.unit (s := S2048x256) off' S256x256.size inb').toLoadRect
      (m.view.writes (Elt F) (m.view.rep X) [⟨Rect.unit (s := S2048x256) off S256x256.size inb, w⟩]) = blk (setBlk X j w) j' := by
  rw [View.readAt_unit m.view _ inb' h' (inb_blk j' hj), View.read_writes_rep_unit m.view X inb w h, window_blk]; rfl

/-- A buffer held at `X` with one block of rows stored. -/
theorem holds_store (c : Dev nD) {e : EltTy} (m : Memref sig .tc .vmem S2048x256 e) (f : m.view.ty.Contents (Elt F)) {off : Fin 2 → ℕ}
    (inb : ∀ a, off a + S256x256.size a ≤ S2048x256.size a) (w : S256x256.Idx → Elt F e) (L : List (View.Piece (Elt F) S2048x256 e))
    (X Y : S2048x256.Idx → Elt F e) (j : ℕ) (h : off = ![256 * j, 0])
    (hX : m.view.read (Elt F) (m.view.writes (Elt F) f L) = X) (hY : setBlk X j w = Y) :
    (m.view.loc (c : Thread nD τ) ↦[m.view.set]{fullShare} m.view.writes (Elt F) f (⟨Rect.unit (s := S2048x256) off S256x256.size inb, w⟩ :: L) : sProp 𝕄)
      ⊢ holds c m Y := by
  refine pointsTo_rep_of_read (c : Thread nD τ) m _ _ Y ?_
  rw [View.read_writes_cons_put m.view f inb w L h, hX]
  exact hY

/-- A buffer held at `X` with one block of rows stored, nothing before it. -/
theorem holds_store1 (c : Dev nD) {e : EltTy} (m : Memref sig .tc .vmem S2048x256 e) (X : S2048x256.Idx → Elt F e) {off : Fin 2 → ℕ}
    (inb : ∀ a, off a + S256x256.size a ≤ S2048x256.size a) (w : S256x256.Idx → Elt F e)
    (Y : S2048x256.Idx → Elt F e) (j : ℕ) (h : off = ![256 * j, 0]) (hY : setBlk X j w = Y) :
    (m.view.loc (c : Thread nD τ) ↦[m.view.set]{fullShare} m.view.writes (Elt F) (m.view.rep X)
        [⟨Rect.unit (s := S2048x256) off S256x256.size inb, w⟩] : sProp 𝕄)
      ⊢ holds c m Y :=
  holds_store c m (m.view.rep X) inb w [] X Y j h (by rw [View.writes_nil, View.read_rep]) hY

/-- A buffer held at `X` with two blocks of rows stored, one after the other. -/
theorem holds_store2 (c : Dev nD) {e : EltTy} (m : Memref sig .tc .vmem S2048x256 e) (X : S2048x256.Idx → Elt F e) {off off' : Fin 2 → ℕ}
    (inb : ∀ a, off a + S256x256.size a ≤ S2048x256.size a) (inb' : ∀ a, off' a + S256x256.size a ≤ S2048x256.size a) (w w' : S256x256.Idx → Elt F e)
    (Y : S2048x256.Idx → Elt F e) (j j' : ℕ) (h : off = ![256 * j, 0]) (h' : off' = ![256 * j', 0]) (hY : setBlk (setBlk X j w) j' w' = Y) :
    (m.view.loc (c : Thread nD τ) ↦[m.view.set]{fullShare} m.view.writes (Elt F) (m.view.rep X)
        [⟨Rect.unit (s := S2048x256) off' S256x256.size inb', w'⟩, ⟨Rect.unit (s := S2048x256) off S256x256.size inb, w⟩] : sProp 𝕄)
      ⊢ holds c m Y :=
  holds_store c m _ inb' w' _ (setBlk X j w) Y j' h' (by rw [View.read_writes_rep_unit m.view X inb w h]; rfl) hY

section Inner

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole)
variable (v146 : FVec F S256x256 .bf16) (v150 : FVec F S256x256 .bf16) (v188 : FVec F S4x1x256 .bf16) (v221 : FVec F S4x1x256 .f32)
  (k0_t1 : Fin k0_t1_loop.trips) (arg19 : BitVec 32) (v496 : FVec F S4x256x1 .f32) (v502 : FVec F S4x256x256 .bf16) (v505 : FVec F S1x256x256 .bf16)
  (init : FVec F S4x256x1 .f32 × FVec F S4x256x1 .f32 × FVec F S256x256 .f32)
  (kn vn : S2048x256.Idx → F .bf16) (dk dv : S2048x256.Idx → F .f32)

/-- The fold of the first `n` tiles of the query block from the loop's own start. -/
abbrev inner (n : ℕ) : St F :=
  tiles ⟨v146, v150, v188, v221⟩ ⟨v496, v502, k0_pay76 v188 v505⟩ kn vn ⟨init.1, init.2.1, init.2.2, dk, dv⟩ n

set_option warn.classDefReducibility false in
/-- Before pair `k` of key blocks: the fold of `2 k` tiles. -/
@[sl_loop] def loopInv_k0_t2 :
    Gen.LoopInvTy_k0_t2 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v146 v150 v188 v221 k0_t1 arg19 v496 v502 v505 init where
  inv k acc := iprop(holds c arg14 kn ∗ holds c arg15 vn
    ∗ holds c arg17 (inner v146 v150 v188 v221 v496 v502 v505 init kn vn dk dv (2 * k)).dk
    ∗ holds c arg18 (inner v146 v150 v188 v221 v496 v502 v505 init kn vn dk dv (2 * k)).dv
    ∗ ⌜acc = ((inner v146 v150 v188 v221 v496 v502 v505 init kn vn dk dv (2 * k)).PL,
        (inner v146 v150 v188 v221 v496 v502 v505 init kn vn dk dv (2 * k)).P,
        (inner v146 v150 v188 v221 v496 v502 v505 init kn vn dk dv (2 * k)).dq)⌝)
  step k acc := by
    have hk : k.val < 3 := Nat.lt_of_lt_of_le k.isLt (k0_t2_abs k0_t1).2.1
    iintro ⟨H14, H15, H17, H18, %e⟩
    subst e
    unfold Gen.k0_t2_body
    sl_exec
    sl_step
    have b0 : 2 * k.val < 8 := by omega
    have b1 : 2 * k.val + 1 < 8 := by omega
    have a14 := load_blk (F := F) arg14 kn (k0_off2_inb k0_t1 k) (2 * k.val) b0 (k0_off2_eq k0_t1 k)
    have a15 := load_blk (F := F) arg15 vn (k0_off2_inb k0_t1 k) (2 * k.val) b0 (k0_off2_eq k0_t1 k)
    have c14 := load_blk (F := F) arg14 kn (k0_off3_inb k0_t1 k) (2 * k.val + 1) b1 (k0_off3_eq k0_t1 k)
    have c15 := load_blk (F := F) arg15 vn (k0_off3_inb k0_t1 k) (2 * k.val + 1) b1 (k0_off3_eq k0_t1 k)
    have a17 := fun X => load_blk (F := F) arg17 X (k0_off2_inb k0_t1 k) (2 * k.val) b0 (k0_off2_eq k0_t1 k)
    have a18 := fun X => load_blk (F := F) arg18 X (k0_off2_inb k0_t1 k) (2 * k.val) b0 (k0_off2_eq k0_t1 k)
    have c17 := fun X => load_blk (F := F) arg17 X (k0_off3_inb k0_t1 k) (2 * k.val + 1) b1 (k0_off3_eq k0_t1 k)
    have c18 := fun X => load_blk (F := F) arg18 X (k0_off3_inb k0_t1 k) (2 * k.val + 1) b1 (k0_off3_eq k0_t1 k)
    let M : Masks F := ⟨v146, v150, v188, v221⟩
    let Q : Query F := ⟨v496, v502, k0_pay76 v188 v505⟩
    let s := inner v146 v150 v188 v221 v496 v502 v505 init kn vn dk dv (2 * k.val)
    let s1 := tile M Q kn vn s (2 * k.val)
    isplitl [H14]; · iexact H14
    isplitl [H15]; · iexact H15
    isplitl [H17]
    · iapply (holds_store2 (F := F) c arg17 _ _ _ _ _ _ (2 * k.val) (2 * k.val + 1) (k0_off2_eq k0_t1 k) (k0_off3_eq k0_t1 k) ?_)
      pick_goal 2; · iexact H17
      delta loopInv_k0_t2.sl.r loopInv_k0_t2.sl.r_1 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.r_10 loopInv_k0_t2.sl.r_11 loopInv_k0_t2.sl.r_12 loopInv_k0_t2.sl.r_13 loopInv_k0_t2.sl.r_14 loopInv_k0_t2.sl.r_15 loopInv_k0_t2.sl.r_16 loopInv_k0_t2.sl.r_17 loopInv_k0_t2.sl.r_18 loopInv_k0_t2.sl.r_19 loopInv_k0_t2.sl.v820 loopInv_k0_t2.sl.v827
      beta_reduce
      rw [a14, a15, a17, c14, c15, c17]
      refine congrArg (setBlk _ (2 * k.val + 1)) (Eq.trans ?_ (dk2 v146 v150 v188 v496 v502 (k0_pay76 v188 v505) s1.PL s1.P (blk s1.dk (2 * k.val + 1)) (blk kn (2 * k.val + 1)) (blk vn (2 * k.val + 1))))
      exact congrArg _ (blk_setBlk_ne _ _ _ b1 (by omega) _).symm
    isplitl [H18]
    · iapply (holds_store2 (F := F) c arg18 _ _ _ _ _ _ (2 * k.val) (2 * k.val + 1) (k0_off2_eq k0_t1 k) (k0_off3_eq k0_t1 k) ?_)
      pick_goal 2; · iexact H18
      delta loopInv_k0_t2.sl.r loopInv_k0_t2.sl.r_1 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.r_10 loopInv_k0_t2.sl.r_11 loopInv_k0_t2.sl.r_12 loopInv_k0_t2.sl.r_13 loopInv_k0_t2.sl.r_14 loopInv_k0_t2.sl.r_15 loopInv_k0_t2.sl.r_16 loopInv_k0_t2.sl.r_17 loopInv_k0_t2.sl.r_18 loopInv_k0_t2.sl.r_19 loopInv_k0_t2.sl.v820 loopInv_k0_t2.sl.v827
      beta_reduce
      rw [a14, a18, c14, c18]
      refine congrArg (setBlk _ (2 * k.val + 1)) (Eq.trans ?_ (dv2 v146 v496 v502 (k0_pay76 v188 v505) s1.PL (blk s1.dv (2 * k.val + 1)) (blk kn (2 * k.val + 1))))
      exact congrArg _ (blk_setBlk_ne _ _ _ b1 (by omega) _).symm
    ipureintro
    delta loopInv_k0_t2.sl.r loopInv_k0_t2.sl.r_1 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.r_10 loopInv_k0_t2.sl.r_11 loopInv_k0_t2.sl.r_12 loopInv_k0_t2.sl.r_13 loopInv_k0_t2.sl.r_14 loopInv_k0_t2.sl.r_15 loopInv_k0_t2.sl.r_16 loopInv_k0_t2.sl.r_17 loopInv_k0_t2.sl.r_18 loopInv_k0_t2.sl.r_19 loopInv_k0_t2.sl.v820 loopInv_k0_t2.sl.v827
    beta_reduce
    rw [a14, a15, c14, c15]
    show _ = ((tile M Q kn vn s1 (2 * k.val + 1)).PL, (tile M Q kn vn s1 (2 * k.val + 1)).P,
      (tile M Q kn vn s1 (2 * k.val + 1)).dq)
    exact congrArg₂ Prod.mk (pl2 v502 s1.PL (blk kn (2 * k.val + 1)))
      (congrArg₂ Prod.mk (p2 v146 v188 v496 v502 (k0_pay76 v188 v505) s1.PL s1.P (blk kn (2 * k.val + 1)) (blk vn (2 * k.val + 1)))
        (dq2 v146 v150 v188 v221 v496 v502 (k0_pay76 v188 v505) s1.PL s1.P s1.dq (blk kn (2 * k.val + 1)) (blk vn (2 * k.val + 1))))

end Inner

section Outer

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole)
variable (v142 : IVec S256x256 1) (v146 : FVec F S256x256 .bf16) (v150 : FVec F S256x256 .bf16) (v151 : IVec S256x256 32) (v188 : FVec F S4x1x256 .bf16)
  (v195 : FVec F S1x256 .f32) (v202 : FVec F S1x256 .f32) (v209 : FVec F S1x256 .f32) (v215 : IVec S1x256 32)
  (tot : S2048x256.Idx → F .f32) (qs kn vn dout : S2048x256.Idx → F .bf16) (dq dk dv : S2048x256.Idx → F .f32)

/-- The fold of the first `n` query blocks from the loop's own start. -/
abbrev outer (n : ℕ) : Acc F :=
  blocks v142 ⟨v146, v150, v188, k0_pay113 v195 v202 v209 v215⟩ v151 tot qs kn vn dout ⟨dq, dk, dv⟩ n

set_option maxHeartbeats 1000000 in
set_option warn.classDefReducibility false in
/-- Before query block `k`: the fold of `k` query blocks. -/
@[sl_loop] def loopInv_k0_t1 :
    Gen.LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v142 v146 v150 v151 v188 v195 v202 v209 v215 where
  inv k acc := iprop(holds c arg6 tot ∗ holds c arg13 qs ∗ holds c arg7 dout ∗ holds c arg14 kn ∗ holds c arg15 vn
    ∗ holds c arg16 (outer v142 v146 v150 v151 v188 v195 v202 v209 v215 tot qs kn vn dout dq dk dv k).dq
    ∗ holds c arg17 (outer v142 v146 v150 v151 v188 v195 v202 v209 v215 tot qs kn vn dout dq dk dv k).dk
    ∗ holds c arg18 (outer v142 v146 v150 v151 v188 v195 v202 v209 v215 tot qs kn vn dout dq dk dv k).dv)
  step k acc := by
    have hk : k.val < 8 := Nat.lt_of_lt_of_eq k.isLt trips1
    have a6 := load_blk (F := F) arg6 tot (k0_off1_inb k) k.val hk (k0_off1_eq k)
    have a13 := load_blk (F := F) arg13 qs (k0_off1_inb k) k.val hk (k0_off1_eq k)
    have a7 := load_blk (F := F) arg7 dout (k0_off1_inb k) k.val hk (k0_off1_eq k)
    have a14 := load_blk (F := F) arg14 kn (k0_off1_inb k) k.val hk (k0_off1_eq k)
    have a15 := load_blk (F := F) arg15 vn (k0_off1_inb k) k.val hk (k0_off1_eq k)
    have a17 := fun X => load_blk (F := F) arg17 X (k0_off1_inb k) k.val hk (k0_off1_eq k)
    have a18 := fun X => load_blk (F := F) arg18 X (k0_off1_inb k) k.val hk (k0_off1_eq k)
    let M : Masks F := ⟨v146, v150, v188, k0_pay113 v195 v202 v209 v215⟩
    let Q : Query F := query M v151 tot qs dout k.val
    let a := outer v142 v146 v150 v151 v188 v195 v202 v209 v215 tot qs kn vn dout dq dk dv k.val
    by_cases h1 : k0_cond1 k = 1#1
    · haveI : Fact (k0_cond1 k = 1#1) := ⟨h1⟩
      have bj : 2 * (k.val / 2) < 8 := by omega
      have c14 := load_blk (F := F) arg14 kn (k0_off6_inb k h1) (2 * (k.val / 2)) bj (k0_off6_eq k h1)
      have c15 := load_blk (F := F) arg15 vn (k0_off6_inb k h1) (2 * (k.val / 2)) bj (k0_off6_eq k h1)
      have c17 := fun X => load_blk (F := F) arg17 X (k0_off6_inb k h1) (2 * (k.val / 2)) bj (k0_off6_eq k h1)
      have c18 := fun X => load_blk (F := F) arg18 X (k0_off6_inb k h1) (2 * (k.val / 2)) bj (k0_off6_eq k h1)
      iintro ⟨H6, H13, H7, H14, H15, H16, H17, H18⟩
      unfold Gen.k0_t1_body
      sl_exec
      sl_step
      have ht : 2 * Scf.trips (k0_t2_loop k).lb (k0_t2_loop k).ub (k0_t2_loop k).st = 2 * (k.val / 2) := congrArg (2 * ·) (trips2 k)
      let s1 := tile M Q kn vn (tiles M Q kn vn (start a) (2 * (k.val / 2))) (2 * (k.val / 2))
      have hs : outer v142 v146 v150 v151 v188 v195 v202 v209 v215 tot qs kn vn dout dq dk dv (k.val + 1) = diag v142 M Q kn vn a s1 k.val :=
        congrArg (fun n => diag v142 M Q kn vn a (tiles M Q kn vn (start a) n) k.val) (odd_of_cond1 k h1)
      rw [ht, hs]
      isplitl [H6]; · iexact H6
      isplitl [H13]; · iexact H13
      isplitl [H7]; · iexact H7
      isplitl [H14]; · iexact H14
      isplitl [H15]; · iexact H15
      isplitl [H16]
      · iapply (holds_store1 (F := F) c arg16 _ _ _ _ k.val (k0_off1_eq k) ?_)
        pick_goal 2; · iexact H16
        delta loopInv_k0_t1.sl.r loopInv_k0_t1.sl.r_1 loopInv_k0_t1.sl.r_2 loopInv_k0_t1.sl.r_3 loopInv_k0_t1.sl.r_4 loopInv_k0_t1.sl.r_5 loopInv_k0_t1.sl.r_6 loopInv_k0_t1.sl.r_7 loopInv_k0_t1.sl.r_8 loopInv_k0_t1.sl.r_9 loopInv_k0_t1.sl.r_10 loopInv_k0_t1.sl.r_11 loopInv_k0_t1.sl.r_12 loopInv_k0_t1.sl.r_13 loopInv_k0_t1.sl.r_14 loopInv_k0_t1.sl.r_15 loopInv_k0_t1.sl.r_16 loopInv_k0_t1.sl.r_17 loopInv_k0_t1.sl.r_18 loopInv_k0_t1.sl.r_19 loopInv_k0_t1.sl.r_20 loopInv_k0_t1.sl.r_21 loopInv_k0_t1.sl.v631 loopInv_k0_t1.sl.v638 loopInv_k0_t1.sl.H17_1 loopInv_k0_t1.sl.H18_1
        beta_reduce
        rw [ht, pl3, p3, dq3]
        rfl
      isplitl [H17]
      · iapply (holds_store2 (F := F) c arg17 _ _ _ _ _ _ (2 * (k.val / 2)) k.val (k0_off6_eq k h1) (k0_off1_eq k) ?_)
        pick_goal 2; · iexact H17
        have hd : (diag v142 M Q kn vn a s1 k.val).dk = setBlk s1.dk k.val (k0_pay89 v142 M.before Q.qb Q.dob s1.P (k0_pay80 M.hm (blk vn k.val))
            (k0_pay83 Q.qb (blk kn k.val)) (k0_pay84 v142 M.upto Q.tot Q.qb s1.PL (blk kn k.val)) (blk s1.dk k.val)) := rfl
        rw [hd]
        delta loopInv_k0_t1.sl.r loopInv_k0_t1.sl.r_1 loopInv_k0_t1.sl.r_2 loopInv_k0_t1.sl.r_3 loopInv_k0_t1.sl.r_4 loopInv_k0_t1.sl.r_5 loopInv_k0_t1.sl.r_6 loopInv_k0_t1.sl.r_7 loopInv_k0_t1.sl.r_8 loopInv_k0_t1.sl.r_9 loopInv_k0_t1.sl.r_10 loopInv_k0_t1.sl.r_11 loopInv_k0_t1.sl.r_12 loopInv_k0_t1.sl.r_13 loopInv_k0_t1.sl.r_14 loopInv_k0_t1.sl.r_15 loopInv_k0_t1.sl.r_16 loopInv_k0_t1.sl.r_17 loopInv_k0_t1.sl.r_18 loopInv_k0_t1.sl.r_19 loopInv_k0_t1.sl.r_20 loopInv_k0_t1.sl.r_21 loopInv_k0_t1.sl.v631 loopInv_k0_t1.sl.v638 loopInv_k0_t1.sl.H17_1 loopInv_k0_t1.sl.H18_1
        beta_reduce
        rw [load_blk_store arg17 _ (k0_off6_inb k h1) (k0_off1_inb k) _ _ _ hk (k0_off6_eq k h1) (k0_off1_eq k), ht, pl3, p3, dk3]
        rfl
      · iapply (holds_store2 (F := F) c arg18 _ _ _ _ _ _ (2 * (k.val / 2)) k.val (k0_off6_eq k h1) (k0_off1_eq k) ?_)
        pick_goal 2; · iexact H18
        have hd : (diag v142 M Q kn vn a s1 k.val).dv = setBlk s1.dv k.val (k0_pay114 (k0_pay88 v142 Q.dob
            (k0_pay84 v142 M.upto Q.tot Q.qb s1.PL (blk kn k.val))) (blk s1.dv k.val)) := rfl
        rw [hd]
        delta loopInv_k0_t1.sl.r loopInv_k0_t1.sl.r_1 loopInv_k0_t1.sl.r_2 loopInv_k0_t1.sl.r_3 loopInv_k0_t1.sl.r_4 loopInv_k0_t1.sl.r_5 loopInv_k0_t1.sl.r_6 loopInv_k0_t1.sl.r_7 loopInv_k0_t1.sl.r_8 loopInv_k0_t1.sl.r_9 loopInv_k0_t1.sl.r_10 loopInv_k0_t1.sl.r_11 loopInv_k0_t1.sl.r_12 loopInv_k0_t1.sl.r_13 loopInv_k0_t1.sl.r_14 loopInv_k0_t1.sl.r_15 loopInv_k0_t1.sl.r_16 loopInv_k0_t1.sl.r_17 loopInv_k0_t1.sl.r_18 loopInv_k0_t1.sl.r_19 loopInv_k0_t1.sl.r_20 loopInv_k0_t1.sl.r_21 loopInv_k0_t1.sl.v631 loopInv_k0_t1.sl.v638 loopInv_k0_t1.sl.H17_1 loopInv_k0_t1.sl.H18_1
        beta_reduce
        rw [load_blk_store arg18 _ (k0_off6_inb k h1) (k0_off1_inb k) _ _ _ hk (k0_off6_eq k h1) (k0_off1_eq k), ht, pl3, dv3]
        rfl
    · iintro ⟨H6, H13, H7, H14, H15, H16, H17, H18⟩
      unfold Gen.k0_t1_body
      sl_exec
      sl_step
      have ht : 2 * Scf.trips (k0_t2_loop k).lb (k0_t2_loop k).ub (k0_t2_loop k).st = k.val :=
        (congrArg (2 * ·) (trips2 k)).trans (even_of_cond1 k h1).symm
      rw [ht]
      isplitl [H6]; · iexact H6
      isplitl [H13]; · iexact H13
      isplitl [H7]; · iexact H7
      isplitl [H14]; · iexact H14
      isplitl [H15]; · iexact H15
      isplitl [H16]
      · iapply (holds_store1 (F := F) c arg16 _ _ _ _ k.val (k0_off1_eq k) ?_)
        pick_goal 2; · iexact H16
        delta loopInv_k0_t1.sl.r loopInv_k0_t1.sl.r_1 loopInv_k0_t1.sl.r_2 loopInv_k0_t1.sl.r_3 loopInv_k0_t1.sl.r_4 loopInv_k0_t1.sl.r_5 loopInv_k0_t1.sl.r_6 loopInv_k0_t1.sl.r_7 loopInv_k0_t1.sl.r_8 loopInv_k0_t1.sl.r_9 loopInv_k0_t1.sl.r_10 loopInv_k0_t1.sl.r_11 loopInv_k0_t1.sl.r_12 loopInv_k0_t1.sl.r_13 loopInv_k0_t1.sl.r_14 loopInv_k0_t1.sl.r_15 loopInv_k0_t1.sl.r_16 loopInv_k0_t1.sl.r_17 loopInv_k0_t1.sl.r_18 loopInv_k0_t1.sl.r_19 loopInv_k0_t1.sl.r_20 loopInv_k0_t1.sl.r_21 loopInv_k0_t1.sl.r_22 loopInv_k0_t1.sl.r_23 loopInv_k0_t1.sl.r_24 loopInv_k0_t1.sl.r_25 loopInv_k0_t1.sl.r_26 loopInv_k0_t1.sl.r_27 loopInv_k0_t1.sl.r_28 loopInv_k0_t1.sl.r_29 loopInv_k0_t1.sl.r_30 loopInv_k0_t1.sl.r_31 loopInv_k0_t1.sl.r_32 loopInv_k0_t1.sl.r_33 loopInv_k0_t1.sl.r_34 loopInv_k0_t1.sl.v631 loopInv_k0_t1.sl.v638 loopInv_k0_t1.sl.H17_1 loopInv_k0_t1.sl.H18_1
        beta_reduce
        rw [ht]
        rfl
      isplitl [H17]
      · iapply (holds_store1 (F := F) c arg17 _ _ _ _ k.val (k0_off1_eq k) ?_)
        pick_goal 2; · iexact H17
        delta loopInv_k0_t1.sl.r loopInv_k0_t1.sl.r_1 loopInv_k0_t1.sl.r_2 loopInv_k0_t1.sl.r_3 loopInv_k0_t1.sl.r_4 loopInv_k0_t1.sl.r_5 loopInv_k0_t1.sl.r_6 loopInv_k0_t1.sl.r_7 loopInv_k0_t1.sl.r_8 loopInv_k0_t1.sl.r_9 loopInv_k0_t1.sl.r_10 loopInv_k0_t1.sl.r_11 loopInv_k0_t1.sl.r_12 loopInv_k0_t1.sl.r_13 loopInv_k0_t1.sl.r_14 loopInv_k0_t1.sl.r_15 loopInv_k0_t1.sl.r_16 loopInv_k0_t1.sl.r_17 loopInv_k0_t1.sl.r_18 loopInv_k0_t1.sl.r_19 loopInv_k0_t1.sl.r_20 loopInv_k0_t1.sl.r_21 loopInv_k0_t1.sl.r_22 loopInv_k0_t1.sl.r_23 loopInv_k0_t1.sl.r_24 loopInv_k0_t1.sl.r_25 loopInv_k0_t1.sl.r_26 loopInv_k0_t1.sl.r_27 loopInv_k0_t1.sl.r_28 loopInv_k0_t1.sl.r_29 loopInv_k0_t1.sl.r_30 loopInv_k0_t1.sl.r_31 loopInv_k0_t1.sl.r_32 loopInv_k0_t1.sl.r_33 loopInv_k0_t1.sl.r_34 loopInv_k0_t1.sl.v631 loopInv_k0_t1.sl.v638 loopInv_k0_t1.sl.H17_1 loopInv_k0_t1.sl.H18_1
        beta_reduce
        rw [ht]
        rfl
      · iapply (holds_store1 (F := F) c arg18 _ _ _ _ k.val (k0_off1_eq k) ?_)
        pick_goal 2; · iexact H18
        delta loopInv_k0_t1.sl.r loopInv_k0_t1.sl.r_1 loopInv_k0_t1.sl.r_2 loopInv_k0_t1.sl.r_3 loopInv_k0_t1.sl.r_4 loopInv_k0_t1.sl.r_5 loopInv_k0_t1.sl.r_6 loopInv_k0_t1.sl.r_7 loopInv_k0_t1.sl.r_8 loopInv_k0_t1.sl.r_9 loopInv_k0_t1.sl.r_10 loopInv_k0_t1.sl.r_11 loopInv_k0_t1.sl.r_12 loopInv_k0_t1.sl.r_13 loopInv_k0_t1.sl.r_14 loopInv_k0_t1.sl.r_15 loopInv_k0_t1.sl.r_16 loopInv_k0_t1.sl.r_17 loopInv_k0_t1.sl.r_18 loopInv_k0_t1.sl.r_19 loopInv_k0_t1.sl.r_20 loopInv_k0_t1.sl.r_21 loopInv_k0_t1.sl.r_22 loopInv_k0_t1.sl.r_23 loopInv_k0_t1.sl.r_24 loopInv_k0_t1.sl.r_25 loopInv_k0_t1.sl.r_26 loopInv_k0_t1.sl.r_27 loopInv_k0_t1.sl.r_28 loopInv_k0_t1.sl.r_29 loopInv_k0_t1.sl.r_30 loopInv_k0_t1.sl.r_31 loopInv_k0_t1.sl.r_32 loopInv_k0_t1.sl.r_33 loopInv_k0_t1.sl.r_34 loopInv_k0_t1.sl.r_35 loopInv_k0_t1.sl.v631 loopInv_k0_t1.sl.v638 loopInv_k0_t1.sl.H17_1 loopInv_k0_t1.sl.H18_1
        beta_reduce
        rw [ht]
        rfl

end Outer

end Cert.KernelIdeal.Stick

end
-- ==== Proof.Body.lean ====
/- The kernel body on whole staging buffers: what it leaves in each of its buffers, as pure values of what the inputs
   hold. The loops are taken by their invariants (Loops.lean); everything else is straight-line. -/
module

public import proofs.«01_k».proof.Proof.Loops
public import proofs.«01_k».proof.Proof.Gen.KernelIdeal.Skeleton

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The resource algebra of the frame kit. -/
local notation "𝕄" => MT nD τ sig Unit (Elt F) ℕ (UR sig nD τ) ℕ

/-! ## What the body computes -/

/-- The normalised, gained and scaled queries. -/
def qsV (q : S2048x256.Idx → F .f32) (qg : S1x256.Idx → F .f32) : S2048x256.Idx → F .bf16 :=
  k0_pay94 k0_pay90 q (k0_pay91 q) (k0_pay92 q) k0_pay93 3#32 qg
/-- The normalised and gained keys. -/
def knV (k : S2048x256.Idx → F .f32) (kg : S1x256.Idx → F .f32) : S2048x256.Idx → F .bf16 :=
  k0_pay99 (k0_pay98 k0_pay90 k (k0_pay95 k) (k0_pay96 k0_pay90 k) (k0_pay97 k0_pay90) 1#32 kg)
/-- The values. -/
def vV (v : S2048x256.Idx → F .f32) : S2048x256.Idx → F .bf16 := k0_pay100 v

/-- The masks of the kernel. -/
def masks : Masks F := ⟨k0_pay104, k0_pay105, k0_pay108 k0_pay106 k0_pay107, k0_pay113 k0_pay109 k0_pay110 k0_pay111 k0_pay112⟩
/-- The lane numbers. -/
def lane : IVec S256x256 32 := iota .tc S256x256 32 [1] iota_S256x256_d1_w32

/-- The gradients after `n` query blocks, from accumulators that start at `dq`, zero, zero. -/
def accFromN (q k v : S2048x256.Idx → F .f32) (qg kg : S1x256.Idx → F .f32) (tot : S2048x256.Idx → F .f32) (dout : S2048x256.Idx → F .bf16)
    (dq : S2048x256.Idx → F .f32) (n : ℕ) : Acc F :=
  blocks k0_pay103 masks lane tot (qsV q qg) (knV k kg) (vV v) dout ⟨dq, k0_pay101, k0_pay102⟩ n

/-- The gradients after all eight query blocks, from accumulators that start at `dq`, zero, zero. -/
def accFrom (q k v : S2048x256.Idx → F .f32) (qg kg : S1x256.Idx → F .f32) (tot : S2048x256.Idx → F .f32) (dout : S2048x256.Idx → F .bf16)
    (dq : S2048x256.Idx → F .f32) : Acc F :=
  blocks k0_pay103 masks lane tot (qsV q qg) (knV k kg) (vV v) dout ⟨dq, k0_pay101, k0_pay102⟩ 8

/-- The gradient of the queries before the normalisation, from `X`, that of the normalised ones. -/
def dqF (X q : S2048x256.Idx → F .f32) (qg : S1x256.Idx → F .f32) : S2048x256.Idx → F .bf16 :=
  k0_pay127 k0_pay116 (k0_pay120 k0_pay116 (k0_pay118 q) (k0_pay119 q) 2#32) (k0_pay121 k0_pay116 q (k0_pay118 q) (k0_pay119 q) 2#32)
    (k0_pay122 X (k0_pay117 qg)) (k0_pay123 k0_pay116 X (k0_pay117 qg) q (k0_pay118 q) (k0_pay119 q) 2#32)
    (k0_pay124 k0_pay116 X (k0_pay117 qg) q (k0_pay118 q) (k0_pay119 q) 2#32) (k0_pay125 k0_pay116)
/-- The gradient of the queries' gain over the rows of this block of heads. -/
def dqgF (X q : S2048x256.Idx → F .f32) : S1x256.Idx → F .f32 :=
  k0_pay126 X (k0_pay121 k0_pay116 q (k0_pay118 q) (k0_pay119 q) 2#32)
/-- The gradient of the keys before the normalisation. -/
def dkF (X k : S2048x256.Idx → F .f32) (kg : S1x256.Idx → F .f32) : S2048x256.Idx → F .bf16 :=
  k0_pay141 k0_pay116 (k0_pay133 k0_pay116 (k0_pay129 k) (k0_pay130 k0_pay116 k) (k0_pay131 k0_pay116) k0_pay132)
    (k0_pay134 k0_pay116 k (k0_pay129 k) (k0_pay130 k0_pay116 k) (k0_pay131 k0_pay116) k0_pay132) (k0_pay135 X (k0_pay128 kg))
    (k0_pay136 k0_pay116 X (k0_pay128 kg) k (k0_pay129 k) (k0_pay130 k0_pay116 k) (k0_pay131 k0_pay116) k0_pay132)
    (k0_pay137 k0_pay116 X (k0_pay128 kg) k (k0_pay129 k) (k0_pay130 k0_pay116 k) (k0_pay131 k0_pay116) k0_pay132)
    (k0_pay138 k0_pay116) (k0_pay139 k0_pay116) (Scalar.ofBits .f32 0x00000000#32)
/-- The gradient of the keys' gain over the rows of this block of heads. -/
def dkgF (X k : S2048x256.Idx → F .f32) : S1x256.Idx → F .f32 :=
  k0_pay140 X (k0_pay134 k0_pay116 k (k0_pay129 k) (k0_pay130 k0_pay116 k) (k0_pay131 k0_pay116) k0_pay132)
/-- The gradient of the values. -/
def dvF (X : S2048x256.Idx → F .f32) : S2048x256.Idx → F .bf16 := k0_pay142 X

/-- The gradients over the first `n` query blocks start from what the buffer of `dq` held: it matters to none of what is
    read of it. -/
theorem blocks_start (dg : IVec S256x256 1) (M : Masks F) (ln : IVec S256x256 32) (tot : S2048x256.Idx → F .f32) (qs kn vn dout : S2048x256.Idx → F .bf16)
    (dq dq' dk dv : S2048x256.Idx → F .f32) (n : ℕ) (hn : n ≤ 8) :
    (blocks dg M ln tot qs kn vn dout ⟨dq, dk, dv⟩ n).dk = (blocks dg M ln tot qs kn vn dout ⟨dq', dk, dv⟩ n).dk
      ∧ (blocks dg M ln tot qs kn vn dout ⟨dq, dk, dv⟩ n).dv = (blocks dg M ln tot qs kn vn dout ⟨dq', dk, dv⟩ n).dv
      ∧ ∀ j < n, blk (blocks dg M ln tot qs kn vn dout ⟨dq, dk, dv⟩ n).dq j = blk (blocks dg M ln tot qs kn vn dout ⟨dq', dk, dv⟩ n).dq j := by
  induction n with
  | zero => exact ⟨rfl, rfl, fun j h => absurd h (Nat.not_lt_zero _)⟩
  | succ n ih =>
    obtain ⟨hk, hv, hq⟩ := ih (by omega)
    have hs : start (blocks dg M ln tot qs kn vn dout ⟨dq, dk, dv⟩ n) = start (blocks dg M ln tot qs kn vn dout ⟨dq', dk, dv⟩ n) := by
      unfold start; rw [hk, hv]
    refine ⟨?_, ?_, fun j h => ?_⟩
    · simp only [blocks, block, diag]; rw [hs]
    · simp only [blocks, block, diag]; rw [hs]
    · simp only [blocks, block, diag]
      rw [hs]
      by_cases hj : j = n
      · subst hj; rw [blk_setBlk_same _ _ (by omega), blk_setBlk_same _ _ (by omega)]
      · rw [blk_setBlk_ne _ _ _ (by omega) (by omega), blk_setBlk_ne _ _ _ (by omega) (by omega)]
        exact hq j (by omega)

/-- The blocks of a whole array determine it. -/
theorem ext_blk {α : Type} (X Y : S2048x256.Idx → α) (h : ∀ j < 8, blk X j = blk Y j) : X = Y := by
  funext z
  have hz : (z 0).val < 2048 := (z 0).isLt
  let row : S2048x256.Idx → S256x256.Idx := fun z a => match a with
    | 0 => (⟨(z 0).val % 256, Nat.mod_lt _ (by decide)⟩ : Fin 256)
    | 1 => (⟨(z 1).val, (z 1).isLt⟩ : Fin 256)
  have e := congrFun (h ((z 0).val / 256) (by omega)) (row z)
  have hi : ∀ W : S2048x256.Idx → α, blk W ((z 0).val / 256) (row z) = W z := fun W => by
    unfold blk
    refine congrArg W (funext fun a => ?_)
    match a with
    | 0 => exact Fin.ext (by show (256 * ((z 0).val / 256) + (z 0).val % 256) % 2048 = (z 0).val; omega)
    | 1 => rfl
  rw [hi, hi] at e
  exact e

/-- The gradients after all the query blocks. -/
def acc (q k v : S2048x256.Idx → F .f32) (qg kg : S1x256.Idx → F .f32) (tot : S2048x256.Idx → F .f32) (dout : S2048x256.Idx → F .bf16) : Acc F :=
  accFrom q k v qg kg tot dout k0_pay101

theorem accFrom_eq (q k v : S2048x256.Idx → F .f32) (qg kg : S1x256.Idx → F .f32) (tot : S2048x256.Idx → F .f32) (dout : S2048x256.Idx → F .bf16)
    (dq : S2048x256.Idx → F .f32) : accFrom q k v qg kg tot dout dq = acc q k v qg kg tot dout := by
  obtain ⟨hk, hv, hq⟩ := blocks_start k0_pay103 masks lane tot (qsV q qg) (knV k kg) (vV v) dout dq k0_pay101 k0_pay101 k0_pay102 8 le_rfl
  have hq := ext_blk _ _ hq
  unfold acc accFrom
  generalize blocks k0_pay103 masks lane tot (qsV q qg) (knV k kg) (vV v) dout ⟨dq, k0_pay101, k0_pay102⟩ 8 = a at *
  generalize blocks k0_pay103 masks lane tot (qsV q qg) (knV k kg) (vV v) dout ⟨k0_pay101, k0_pay101, k0_pay102⟩ 8 = b at *
  cases a; cases b; subst hq; subst hk; subst hv; rfl

/-- A buffer owned at a value is held at it. -/
theorem holds_of_owns (c : Dev nD) {s : Shape} {e : EltTy} (m : Memref sig .tc .vmem s e) (X : s.Idx → Elt F e) :
    (owns (c : Thread nD τ) m fullShare X : sProp 𝕄) ⊢ holds c m X := by
  unfold owns
  iintro ⟨%f, %hf, H⟩
  iapply (pointsTo_rep_of_read (c : Thread nD τ) m f fullShare X hf)
  iexact H

/-- A buffer held at a value is owned at it. -/
theorem owns_of_holds (c : Dev nD) {s : Shape} {e : EltTy} (m : Memref sig .tc .vmem s e) (X : s.Idx → Elt F e) :
    holds c m X ⊢ (owns (c : Thread nD τ) m fullShare X : sProp 𝕄) := by
  unfold owns
  iintro H
  iexists _; isplitr; swap; · iexact H
  ipureintro; exact View.read_rep _ _

/-- A buffer stored whole is held at what was stored last. -/
theorem holds_full (c : Dev nD) {s : Shape} {e : EltTy} (m : Memref sig .tc .vmem s e) (f : m.view.ty.Contents (Elt F)) {off : Fin s.rank → ℕ}
    (inb : ∀ a, off a + s.size a ≤ s.size a) (w X : s.Idx → Elt F e) (h : w = X) :
    (m.view.loc (c : Thread nD τ) ↦[m.view.set]{fullShare} m.view.writes (Elt F) f [⟨Rect.unit off s.size inb, w⟩] : sProp 𝕄) ⊢ holds c m X :=
  pointsTo_rep_of_read (c : Thread nD τ) m _ fullShare X ((View.read_writes_full m.view f inb w []).trans h)

/-- A load of the whole of a buffer held at `X`. -/
theorem load_full {s : Shape} {e : EltTy} (m : Memref sig .tc .vmem s e) (X : s.Idx → Elt F e) {off : Fin s.rank → ℕ}
    (inb : ∀ a, off a + s.size a ≤ s.size a) :
    m.view.readAt (Elt F) (Rect.unit (s := s) off s.size inb).toLoadRect (m.view.rep X) = X :=
  View.readAt_rep_full m.view X inb

theorem cond3_of_cond2 : ∀ i : grid0.Coords, k0_cond2 i = 1#1 → ¬ k0_cond3 i = 1#1 := by decide +kernel
theorem cond3_of_not_cond2 : ∀ i : grid0.Coords, ¬ k0_cond2 i = 1#1 → k0_cond3 i = 1#1 := by decide +kernel

section Run

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2048x256 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S2048x256 .f32) (harg16 : arg16.IsWhole) (arg17 : Memref sig .tc .vmem S2048x256 .f32) (harg17 : arg17.IsWhole) (arg18 : Memref sig .tc .vmem S2048x256 .f32) (harg18 : arg18.IsWhole)

set_option maxHeartbeats 2000000 in
/-- The body runs from the inputs' blocks, with anything in the buffers of the results and the scratch, to the inputs' blocks
    as they were and the results' buffers at the values above; the buffers of the two gains' gradients are overwritten at the
    first point and added to at the others. -/
theorem kernelRun (q k v : S2048x256.Idx → F .f32) (qg kg : S1x256.Idx → F .f32) (tot : S2048x256.Idx → F .f32) (dout : S2048x256.Idx → F .bf16)
    (y11 y12 : S1x256.Idx → F .f32) (K : PUnit → sProp 𝕄) :
    iprop(holds c arg1 q ∗ holds c arg2 k ∗ holds c arg3 v ∗ holds c arg4 qg ∗ holds c arg5 kg ∗ holds c arg6 tot ∗ holds c arg7 dout
      ∗ (∃ d, holds c arg8 d) ∗ (∃ d, holds c arg9 d) ∗ (∃ d, holds c arg10 d) ∗ holds c arg11 y11 ∗ holds c arg12 y12
      ∗ (∃ d, holds c arg13 d) ∗ (∃ d, holds c arg14 d) ∗ (∃ d, holds c arg15 d) ∗ (∃ d, holds c arg16 d) ∗ (∃ d, holds c arg17 d) ∗ (∃ d, holds c arg18 d)
      ∗ (iprop(holds c arg1 q ∗ holds c arg2 k ∗ holds c arg3 v ∗ holds c arg4 qg ∗ holds c arg5 kg ∗ holds c arg6 tot ∗ holds c arg7 dout
          ∗ holds c arg8 (dqF (acc q k v qg kg tot dout).dq q qg) ∗ holds c arg9 (dkF (acc q k v qg kg tot dout).dk k kg)
          ∗ holds c arg10 (dvF (acc q k v qg kg tot dout).dv)
          ∗ holds c arg11 (if k0_cond2 i = 1#1 then dqgF (acc q k v qg kg tot dout).dq q else k0_pay1 (dqgF (acc q k v qg kg tot dout).dq q) y11)
          ∗ holds c arg12 (if k0_cond2 i = 1#1 then dkgF (acc q k v qg kg tot dout).dk k else k0_pay2 (dkgF (acc q k v qg kg tot dout).dk k) y12)
          ∗ (∃ d, holds c arg13 d) ∗ (∃ d, holds c arg14 d) ∗ (∃ d, holds c arg15 d) ∗ (∃ d, holds c arg16 d) ∗ (∃ d, holds c arg17 d) ∗ (∃ d, holds c arg18 d)) -∗ K ⟨⟩))
      ⊢ wp frame (wpE (defs₀ (F := F)) 𝒱₀ c none) Set.univ (cc0_sb_core_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have a1 := load_full (F := F) arg1 q inb_S2048x256_S2048x256_0_0
  have a2 := load_full (F := F) arg2 k inb_S2048x256_S2048x256_0_0
  have a3 := load_full (F := F) arg3 v inb_S2048x256_S2048x256_0_0
  have a4 := load_full (F := F) arg4 qg inb_S1x256_S1x256_0_0
  have a5 := load_full (F := F) arg5 kg inb_S1x256_S1x256_0_0
  have a11 := load_full (F := F) arg11 y11 inb_S1x256_S1x256_0_0
  have a12 := load_full (F := F) arg12 y12 inb_S1x256_S1x256_0_0
  have a16 := fun X => load_full (F := F) arg16 X inb_S2048x256_S2048x256_0_0
  have a17 := fun X => load_full (F := F) arg17 X inb_S2048x256_S2048x256_0_0
  have a18 := fun X => load_full (F := F) arg18 X inb_S2048x256_S2048x256_0_0
  iintro ⟨H1, H2, H3, H4, H5, H6, H7, ⟨%d8, H8⟩, ⟨%d9, H9⟩, ⟨%d10, H10⟩, H11, H12, ⟨%d13, H13⟩, ⟨%d14, H14⟩, ⟨%d15, H15⟩, ⟨%d16, H16⟩, ⟨%d17, H17⟩, ⟨%d18, H18⟩, Hk⟩
  sl_unfold [cc0_sb_core_bwd]
  sl_exec
  delta kernelRun.sl.r kernelRun.sl.H13_1 kernelRun.sl.H14_1 kernelRun.sl.H15_1 kernelRun.sl.H17_1 kernelRun.sl.H18_1
  beta_reduce
  ihave H13 := (holds_full (F := F) c arg13 _ _ (k0_pay94 k0_pay90 q (k0_pay91 q) (k0_pay92 q) k0_pay93 3#32 qg) (qsV q qg) rfl) $$ H13
  ihave H14 := (holds_full (F := F) c arg14 _ _ (k0_pay99 (k0_pay98 k0_pay90 k (k0_pay95 k) (k0_pay96 k0_pay90 k) (k0_pay97 k0_pay90) 1#32 kg)) (knV k kg) rfl) $$ H14
  ihave H15 := (holds_full (F := F) c arg15 _ _ (k0_pay100 v) (vV v) rfl) $$ H15
  ihave H17 := (holds_full (F := F) c arg17 _ _ k0_pay101 k0_pay101 rfl) $$ H17
  ihave H18 := (holds_full (F := F) c arg18 _ _ k0_pay102 k0_pay102 rfl) $$ H18
  have ho : blocks k0_pay103 ⟨k0_pay104, k0_pay105, k0_pay108 k0_pay106 k0_pay107, k0_pay113 k0_pay109 k0_pay110 k0_pay111 k0_pay112⟩
      (iota .tc S256x256 32 [1] iota_S256x256_d1_w32) tot (qsV q qg) (knV k kg) (vV v) dout
      ⟨d16, fun j => FloatOps.ofBits FTy.f32 0#32, fun j => FloatOps.ofBits FTy.f32 0#32⟩ (Scf.trips k0_t1_loop.lb k0_t1_loop.ub k0_t1_loop.st)
      = acc q k v qg kg tot dout := (congrArg (accFromN q k v qg kg tot dout d16) trips1).trans (accFrom_eq q k v qg kg tot dout d16)
  by_cases h2 : k0_cond2 i = 1#1
  · have h3 := cond3_of_cond2 i h2
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (holds_full (F := F) c arg8 _ _ _ _ ?_)
      pick_goal 2; · iexact H8
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.v151 kernelRun.sl.cst_157 outer
      beta_reduce
      rw [ho]; rfl
    isplitl [H9]
    · iapply (holds_full (F := F) c arg9 _ _ _ _ ?_)
      pick_goal 2; · iexact H9
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.v151 kernelRun.sl.cst_157 outer
      beta_reduce
      rw [ho]; rfl
    isplitl [H10]
    · iapply (holds_full (F := F) c arg10 _ _ _ _ ?_)
      pick_goal 2; · iexact H10
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.v151 kernelRun.sl.cst_157 outer
      beta_reduce
      rw [ho]; rfl
    isplitl [H11]
    · iapply (holds_full (F := F) c arg11 _ _ _ _ ?_)
      pick_goal 2; · iexact H11
      rw [if_pos h2]
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.v151 kernelRun.sl.cst_157 outer
      beta_reduce
      rw [ho]; rfl
    isplitl [H12]
    · iapply (holds_full (F := F) c arg12 _ _ _ _ ?_)
      pick_goal 2; · iexact H12
      rw [if_pos h2]
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.v151 kernelRun.sl.cst_157 outer
      beta_reduce
      rw [ho]; rfl
    isplitl [H13]; · iexists _; iexact H13
    isplitl [H14]; · iexists _; iexact H14
    isplitl [H15]; · iexists _; iexact H15
    isplitl [H16]; · iexists _; iexact H16
    isplitl [H17]; · iexists _; iexact H17
    iexists _; iexact H18
  · have h3 := cond3_of_not_cond2 i h2
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (holds_full (F := F) c arg8 _ _ _ _ ?_)
      pick_goal 2; · iexact H8
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.r_16 kernelRun.sl.r_17 kernelRun.sl.r_18 kernelRun.sl.r_19 kernelRun.sl.r_20 kernelRun.sl.r_21 kernelRun.sl.r_22 kernelRun.sl.r_23 kernelRun.sl.r_24 kernelRun.sl.r_25 kernelRun.sl.r_26 kernelRun.sl.r_27 kernelRun.sl.r_28 kernelRun.sl.r_29 kernelRun.sl.v151 kernelRun.sl.cst_157 outer
      beta_reduce
      rw [ho]; rfl
    isplitl [H9]
    · iapply (holds_full (F := F) c arg9 _ _ _ _ ?_)
      pick_goal 2; · iexact H9
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.r_16 kernelRun.sl.r_17 kernelRun.sl.r_18 kernelRun.sl.r_19 kernelRun.sl.r_20 kernelRun.sl.r_21 kernelRun.sl.r_22 kernelRun.sl.r_23 kernelRun.sl.r_24 kernelRun.sl.r_25 kernelRun.sl.r_26 kernelRun.sl.r_27 kernelRun.sl.r_28 kernelRun.sl.r_29 kernelRun.sl.v151 kernelRun.sl.cst_157 outer
      beta_reduce
      rw [ho]; rfl
    isplitl [H10]
    · iapply (holds_full (F := F) c arg10 _ _ _ _ ?_)
      pick_goal 2; · iexact H10
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.r_16 kernelRun.sl.r_17 kernelRun.sl.r_18 kernelRun.sl.r_19 kernelRun.sl.r_20 kernelRun.sl.r_21 kernelRun.sl.r_22 kernelRun.sl.r_23 kernelRun.sl.r_24 kernelRun.sl.r_25 kernelRun.sl.r_26 kernelRun.sl.r_27 kernelRun.sl.r_28 kernelRun.sl.r_29 kernelRun.sl.v151 kernelRun.sl.cst_157 outer
      beta_reduce
      rw [ho]; rfl
    isplitl [H11]
    · iapply (holds_full (F := F) c arg11 _ _ _ _ ?_)
      pick_goal 2; · iexact H11
      rw [if_neg h2]
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.r_16 kernelRun.sl.r_17 kernelRun.sl.r_18 kernelRun.sl.r_19 kernelRun.sl.r_20 kernelRun.sl.r_21 kernelRun.sl.r_22 kernelRun.sl.r_23 kernelRun.sl.r_24 kernelRun.sl.r_25 kernelRun.sl.r_26 kernelRun.sl.r_27 kernelRun.sl.r_28 kernelRun.sl.r_29 kernelRun.sl.v151 kernelRun.sl.cst_157 outer
      beta_reduce
      rw [ho]; rfl
    isplitl [H12]
    · iapply (holds_full (F := F) c arg12 _ _ _ _ ?_)
      pick_goal 2; · iexact H12
      rw [if_neg h2]
      delta kernelRun.sl.r_1 kernelRun.sl.r_2 kernelRun.sl.r_3 kernelRun.sl.r_4 kernelRun.sl.r_5 kernelRun.sl.r_6 kernelRun.sl.r_7 kernelRun.sl.r_8 kernelRun.sl.r_9 kernelRun.sl.r_10 kernelRun.sl.r_11 kernelRun.sl.r_12 kernelRun.sl.r_13 kernelRun.sl.r_14 kernelRun.sl.r_15 kernelRun.sl.r_16 kernelRun.sl.r_17 kernelRun.sl.r_18 kernelRun.sl.r_19 kernelRun.sl.r_20 kernelRun.sl.r_21 kernelRun.sl.r_22 kernelRun.sl.r_23 kernelRun.sl.r_24 kernelRun.sl.r_25 kernelRun.sl.r_26 kernelRun.sl.r_27 kernelRun.sl.r_28 kernelRun.sl.r_29 kernelRun.sl.v151 kernelRun.sl.cst_157 outer
      beta_reduce
      rw [ho]; rfl
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Run

end Cert.KernelIdeal.Stick

end
-- ==== Proof.Run.lean ====
/- The pipeline's proof data, the body obligation at every point of the grid, the run of @main, and the frame. -/
module

public import proofs.«01_k».proof.Proof.Body
public import proofs.«01_k».proof.Proof.Gen.KernelIdeal.Launch
public import proofs.«01_k».proof.Proof.Gen.KernelIdeal.Points

@[expose] public section

set_option maxRecDepth 16384

noncomputable section

namespace Cert.KernelIdeal.Stick

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal.Gen

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-! ## What the body leaves at each point -/

/-- The gradients of the normalised queries, the normalised keys and the values at point `t`. -/
def accAt (c : Dev nD) (t : Fin cfg0.N) : Acc F :=
  acc (iblk m c 0 t) (iblk m c 1 t) (iblk m c 2 t) (iblk m c 3 t) (iblk m c 4 t) (iblk m c 5 t) (iblk m c 6 t)

/-- The queries' gain gradient of the heads of point `t`. -/
def dqgPart (c : Dev nD) (t : Fin cfg0.N) : S1x256.Idx → F .f32 := dqgF (accAt m c t).dq (iblk m c 0 t)
/-- The keys' gain gradient of the heads of point `t`. -/
def dkgPart (c : Dev nD) (t : Fin cfg0.N) : S1x256.Idx → F .f32 := dkgF (accAt m c t).dk (iblk m c 1 t)

/-- The queries' gain gradient accumulated up to point `n`. -/
def dqgAcc (c : Dev nD) : (n : ℕ) → n < cfg0.N → S1x256.Idx → F .f32
  | 0, h => dqgPart m c ⟨0, h⟩
  | n + 1, h => k0_pay1 (dqgPart m c ⟨n + 1, h⟩) (dqgAcc c n (Nat.lt_of_succ_lt h))
/-- The keys' gain gradient accumulated up to point `n`. -/
def dkgAcc (c : Dev nD) : (n : ℕ) → n < cfg0.N → S1x256.Idx → F .f32
  | 0, h => dkgPart m c ⟨0, h⟩
  | n + 1, h => k0_pay2 (dkgPart m c ⟨n + 1, h⟩) (dkgAcc c n (Nat.lt_of_succ_lt h))

/-- The first point is the one that overwrites. -/
theorem hcond2 : ∀ t : Fin cfg0.N, k0_cond2 (grid0.coords t) = 1#1 ↔ t.val = 0 :=
  (by decide +kernel : ∀ t : Fin grid0.N, k0_cond2 (grid0.coords t) = 1#1 ↔ t.val = 0)

/-! ## The pipeline's proof data -/

/-- The arrays as the region finds them; after the body each input's buffer at its block and each result's at the value
    above; the invariant the kit's own; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqF (accAt m c t).dq (iblk m c 0 t) (iblk m c 3 t)
    | ⟨8, _⟩ => dkF (accAt m c t).dk (iblk m c 1 t) (iblk m c 4 t)
    | ⟨9, _⟩ => dvF (accAt m c t).dv
    | ⟨10, _⟩ => dqgAcc m c t.val t.isLt
    | ⟨11, _⟩ => dkgAcc m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqF (accAt m c t).dq (iblk m c 0 t) (iblk m c 3 t) := by dsimp only [dats]
theorem after0_8 (c : Dev nD) (t : Fin cfg0.N) : (dats m 0 c).after 8 t = dkF (accAt m c t).dk (iblk m c 1 t) (iblk m c 4 t) := by dsimp only [dats]
theorem after0_9 (c : Dev nD) (t : Fin cfg0.N) : (dats m 0 c).after 9 t = dvF (accAt m c t).dv := by dsimp only [dats]
theorem after0_10 (c : Dev nD) (t : Fin cfg0.N) : (dats m 0 c).after 10 t = dqgAcc m c t.val t.isLt := by dsimp only [dats]
theorem after0_11 (c : Dev nD) (t : Fin cfg0.N) : (dats m 0 c).after 11 t = dkgAcc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The buffers of the gains' gradients are stored at every point. -/
theorem idle_10 : ∀ i : grid0.Coords, idle0 10 i = false := by decide +kernel
theorem idle_11 : ∀ i : grid0.Coords, idle0 11 i = false := by decide +kernel
/-- After the first point the buffer holds what the point before left. -/
theorem before0_10 (c : Dev nD) (t : Fin cfg0.N) (h : t.val ≠ 0) (d) :
    (dats m 0 c).before 10 t d = dqgAcc m c (t.val - 1) (Nat.lt_of_le_of_lt (Nat.sub_le _ _) t.isLt) := by
  rw [(dats m 0 c).before_out_kept 10 rfl t h (by
    have ht : t.val < 4 := lt_of_lt_of_eq t.isLt N_0
    rw [Bool.eq_false_iff]; intro hf
    have := (flush0_10 _).mp hf
    simp only at this; omega) idle_10 (fun _ _ => rfl) d, after0_10]
/-- After the first point the buffer holds what the point before left. -/
theorem before0_11 (c : Dev nD) (t : Fin cfg0.N) (h : t.val ≠ 0) (d) :
    (dats m 0 c).before 11 t d = dkgAcc m c (t.val - 1) (Nat.lt_of_le_of_lt (Nat.sub_le _ _) t.isLt) := by
  rw [(dats m 0 c).before_out_kept 11 rfl t h (by
    have ht : t.val < 4 := lt_of_lt_of_eq t.isLt N_0
    rw [Bool.eq_false_iff]; intro hf
    have := (flush0_11 _).mp hf
    simp only at this; omega) idle_11 (fun _ _ => rfl) d, after0_11]

/-- The accumulated gain gradient of the queries, one point from the one before. -/
theorem dqgAcc_step (c : Dev nD) (t : Fin cfg0.N) (h : t.val ≠ 0) :
    dqgAcc m c t.val t.isLt = k0_pay1 (dqgPart m c t) (dqgAcc m c (t.val - 1) (Nat.lt_of_le_of_lt (Nat.sub_le _ _) t.isLt)) := by
  obtain ⟨n, hn⟩ := t
  cases n with
  | zero => exact absurd rfl h
  | succ n => rfl
theorem dkgAcc_step (c : Dev nD) (t : Fin cfg0.N) (h : t.val ≠ 0) :
    dkgAcc m c t.val t.isLt = k0_pay2 (dkgPart m c t) (dkgAcc m c (t.val - 1) (Nat.lt_of_le_of_lt (Nat.sub_le _ _) t.isLt)) := by
  obtain ⟨n, hn⟩ := t
  cases n with
  | zero => exact absurd rfl h
  | succ n => rfl
theorem dqgAcc_zero (c : Dev nD) (t : Fin cfg0.N) (h : t.val = 0) : dqgAcc m c t.val t.isLt = dqgPart m c t := by
  obtain ⟨n, hn⟩ := t
  cases n with
  | zero => rfl
  | succ n => exact absurd h (Nat.succ_ne_zero n)
theorem dkgAcc_zero (c : Dev nD) (t : Fin cfg0.N) (h : t.val = 0) : dkgAcc m c t.val t.isLt = dkgPart m c t := by
  obtain ⟨n, hn⟩ := t
  cases n with
  | zero => rfl
  | succ n => exact absurd h (Nat.succ_ne_zero n)

/-! ## The body obligation -/

theorem entails_of_eq {P Q : sProp 𝕄} (h : P = Q) : P ⊢ Q := by subst h; exact .rfl

/-- A whole buffer held at a value is at it. -/
theorem scratch_out (c : Dev nD) (b : Ref sig .tc) (f : b.ty.Contents (Elt F)) :
    ((Memref.whole b).view.loc (c : Thread nD τ) ↦[(Memref.whole b).view.set]{fullShare} (Memref.whole b).view.rep f : sProp 𝕄)
      ⊢ ((c : Thread nD τ).loc b) ↦{fullShare} f := by
  have h : ((Memref.whole b).view.loc (c : Thread nD τ) ↦[(Memref.whole b).view.set]{fullShare} (Memref.whole b).view.rep f : sProp 𝕄)
      ⊢ owns (c : Thread nD τ) (Memref.whole b) fullShare f := by
    unfold owns
    iintro H
    iexists _; isplitr; swap; · iexact H
    ipureintro; exact View.read_rep _ _
  rw [owns_whole] at h
  exact h

set_option maxHeartbeats 2000000 in
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl, after0_0, after0_1, after0_2, after0_3, after0_4,
    after0_5, after0_6, after0_7, after0_8, after0_9, after0_10, after0_11]
  rw [show (dats m 0 c).Φ t.castSucc = Pipeline.ΦA spec0 c from rfl]
  unfold Pipeline.ΦA
  rw [scopedRest0_eq]
  rw [show idle0 10 (grid0.coords t) = false from idle_10 _]
  dsimp only
  iintro ⟨⟨⟨⟨%f0, S0⟩, ⟨%f1, S1⟩, ⟨%f2, S2⟩, ⟨%f3, S3⟩, ⟨%f4, S4⟩, ⟨%f5, S5⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave S0 := (entails_of_eq (owns_whole (c : Thread nD τ) cc0_scratch0 fullShare f0).symm) $$ S0
  ihave S0 := (holds_of_owns (F := F) c (Memref.whole cc0_scratch0) f0) $$ S0
  ihave S1 := (entails_of_eq (owns_whole (c : Thread nD τ) cc0_scratch1 fullShare f1).symm) $$ S1
  ihave S1 := (holds_of_owns (F := F) c (Memref.whole cc0_scratch1) f1) $$ S1
  ihave S2 := (entails_of_eq (owns_whole (c : Thread nD τ) cc0_scratch2 fullShare f2).symm) $$ S2
  ihave S2 := (holds_of_owns (F := F) c (Memref.whole cc0_scratch2) f2) $$ S2
  ihave S3 := (entails_of_eq (owns_whole (c : Thread nD τ) cc0_scratch3 fullShare f3).symm) $$ S3
  ihave S3 := (holds_of_owns (F := F) c (Memref.whole cc0_scratch3) f3) $$ S3
  ihave S4 := (entails_of_eq (owns_whole (c : Thread nD τ) cc0_scratch4 fullShare f4).symm) $$ S4
  ihave S4 := (holds_of_owns (F := F) c (Memref.whole cc0_scratch4) f4) $$ S4
  ihave S5 := (entails_of_eq (owns_whole (c : Thread nD τ) cc0_scratch5 fullShare f5).symm) $$ S5
  ihave S5 := (holds_of_owns (F := F) c (Memref.whole cc0_scratch5) f5) $$ S5
  ihave H0 := (holds_of_owns (F := F) c _ _) $$ H0
  ihave H1 := (holds_of_owns (F := F) c _ _) $$ H1
  ihave H2 := (holds_of_owns (F := F) c _ _) $$ H2
  ihave H3 := (holds_of_owns (F := F) c _ _) $$ H3
  ihave H4 := (holds_of_owns (F := F) c _ _) $$ H4
  ihave H5 := (holds_of_owns (F := F) c _ _) $$ H5
  ihave H6 := (holds_of_owns (F := F) c _ _) $$ H6
  ihave H7 := (holds_of_owns (F := F) c _ _) $$ H7
  ihave H8 := (holds_of_owns (F := F) c _ _) $$ H8
  ihave H9 := (holds_of_owns (F := F) c _ _) $$ H9
  ihave H10 := (holds_of_owns (F := F) c _ _) $$ H10
  ihave H11 := (holds_of_owns (F := F) c _ _) $$ H11
  iapply (kernelRun (F := F) c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 10 t d10) ((dats m 0 c).before 11 t d11) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  iintro ⟨H0, H1, H2, H3, H4, H5, H6, H7, H8, H9, H10, H11, ⟨%e0, S0⟩, ⟨%e1, S1⟩, ⟨%e2, S2⟩, ⟨%e3, S3⟩, ⟨%e4, S4⟩, ⟨%e5, S5⟩⟩
  isplitl [S0 S1 S2 S3 S4 S5 Hp]
  · isplitr [Hp]
    · isplitl [S0]
      · iexists e0; iapply (scratch_out (F := F) c cc0_scratch0 e0); iexact S0
      isplitl [S1]
      · iexists e1; iapply (scratch_out (F := F) c cc0_scratch1 e1); iexact S1
      isplitl [S2]
      · iexists e2; iapply (scratch_out (F := F) c cc0_scratch2 e2); iexact S2
      isplitl [S3]
      · iexists e3; iapply (scratch_out (F := F) c cc0_scratch3 e3); iexact S3
      isplitl [S4]
      · iexists e4; iapply (scratch_out (F := F) c cc0_scratch4 e4); iexact S4
      iexists e5; iapply (scratch_out (F := F) c cc0_scratch5 e5); iexact S5
    · iexact Hp
  isplitl [Ho]; · iexact Ho
  isplitl [H0]; · iapply (owns_of_holds (F := F) c _ _); iexact H0
  isplitl [H1]; · iapply (owns_of_holds (F := F) c _ _); iexact H1
  isplitl [H2]; · iapply (owns_of_holds (F := F) c _ _); iexact H2
  isplitl [H3]; · iapply (owns_of_holds (F := F) c _ _); iexact H3
  isplitl [H4]; · iapply (owns_of_holds (F := F) c _ _); iexact H4
  isplitl [H5]; · iapply (owns_of_holds (F := F) c _ _); iexact H5
  isplitl [H6]; · iapply (owns_of_holds (F := F) c _ _); iexact H6
  isplitl [H7]; · iapply (owns_of_holds (F := F) c _ _); iexact H7
  isplitl [H8]; · iapply (owns_of_holds (F := F) c _ _); iexact H8
  isplitl [H9]; · iapply (owns_of_holds (F := F) c _ _); iexact H9
  by_cases h0 : t.val = 0
  · rw [if_pos ((hcond2 t).mpr h0), if_pos ((hcond2 t).mpr h0), dqgAcc_zero m c t h0, dkgAcc_zero m c t h0]
    isplitl [H10]; · iapply (owns_of_holds (F := F) c _ _); iexact H10
    iapply (owns_of_holds (F := F) c _ _); iexact H11
  · rw [if_neg (fun h => h0 ((hcond2 t).mp h)), if_neg (fun h => h0 ((hcond2 t).mp h)), before0_10 m c t h0, before0_11 m c t h0,
      dqgAcc_step m c t h0, dkgAcc_step m c t h0]
    isplitl [H10]; · iapply (owns_of_holds (F := F) c _ _); iexact H10
    iapply (owns_of_holds (F := F) c _ _); iexact H11

/-! ## The run and the frame -/

-- the run theorem's implicit arguments are found by unifying its conclusion with this one, which takes unfolding plain
-- definitions in a metavariable's type
set_option backward.isDefEq.respectTransparency.types false in
/-- Every weakly fair execution of @main terminates, every array of the pipeline at what the library computes from the proof
    data, every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

/-- The frame, at any carrier: the arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Stick

end
-- ==== Proof.Same.lean ====
/- The kernel as written and the idealized kernel are one program: no rewrite applies, so the two printed modules differ in
   their names alone. The body tables are compared label by label, the rest by unfolding. -/
module

public import proofs.«01_k».proof.Defs
public import proofs.«01_k».proof.Proof.Gen.Kernel
public import proofs.«01_k».proof.Proof.Gen.KernelIdeal

@[expose] public section

set_option maxHeartbeats 4000000

noncomputable section

namespace Cert.Proof

open Idealize.ShloMosaic Idealize.SL.Sem

/-- The kernels' body tables agree at their one label. -/
theorem defs₀_eq : Cert.Kernel.defs₀ (F := Bits) = Cert.KernelIdeal.defs₀ (F := Bits) := by
  unfold Cert.Kernel.defs₀ Cert.KernelIdeal.defs₀
  refine congrArg Defs.onTc ?_
  funext l a
  obtain ⟨n, h⟩ := l
  cases n with
  | zero => cases a; rfl
  | succ n => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

theorem main_eq : Cert.Kernel.main (F := Bits) = Cert.KernelIdeal.main (F := Bits) := rfl

/-- What the idealized program does at words, the program as written does. -/
theorem run_of_ideal {s : MemSt Cert.KernelIdeal.nD Cert.KernelIdeal.τ Cert.KernelIdeal.sig (Elt Bits)}
    {Q : (PUnit × MemSt Cert.KernelIdeal.nD Cert.KernelIdeal.τ Cert.KernelIdeal.sig (Elt Bits)) → Prop}
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  have key : ∀ d p, d = Cert.KernelIdeal.defs (F := Bits) → p = Cert.KernelIdeal.main (F := Bits) →
      θ_run d (onTc (τ := Cert.KernelIdeal.τ) p) s Q := by
    rintro _ _ rfl rfl; exact h
  exact key _ _ defs_eq main_eq

end Cert.Proof

end
-- ==== Proof.Lift.lean ====
/- Real numbers inside the extended reals: an array all of whose elements are real numbers is described by a function of
   natural numbers, and the operations of the two programs on such arrays are those of the real numbers. -/
module

public import Idealize.ShloMosaic.Lib.Pointwise
public import Idealize.ShloMosaic.Lib.Pipeline.ValueKit

@[expose] public section

set_option maxRecDepth 16384

noncomputable section

namespace Cert.Stick

open Idealize.ShloMosaic
open Finset

/-- The elements of a one-dimensional array are the real numbers `f`. -/
def Is1 {n : ℕ} (X : (⟨1, ![n]⟩ : Shape).Idx → EReal) (f : ℕ → ℝ) : Prop := ∀ i : Fin n, X (ix1 i) = ((f i : ℝ) : EReal)
/-- The elements of a two-dimensional array are the real numbers `f`. -/
def Is2 {n m : ℕ} (X : (⟨2, ![n, m]⟩ : Shape).Idx → EReal) (f : ℕ → ℕ → ℝ) : Prop :=
  ∀ (i : Fin n) (j : Fin m), X (ix2 i j) = ((f i j : ℝ) : EReal)
/-- The elements of a three-dimensional array are the real numbers `f`. -/
def Is3 {n m l : ℕ} (X : (⟨3, ![n, m, l]⟩ : Shape).Idx → EReal) (f : ℕ → ℕ → ℕ → ℝ) : Prop :=
  ∀ (i : Fin n) (j : Fin m) (k : Fin l), X (ix3 i j k) = ((f i j k : ℝ) : EReal)

theorem add_up (a b : ℝ) : (a : EReal) + (b : EReal) = ((a + b : ℝ) : EReal) := (EReal.coe_add a b).symm
theorem mul_up (a b : ℝ) : (a : EReal) * (b : EReal) = ((a * b : ℝ) : EReal) := (EReal.coe_mul a b).symm
theorem sub_up (a b : ℝ) : (a : EReal) - (b : EReal) = ((a - b : ℝ) : EReal) := (EReal.coe_sub a b).symm
theorem neg_up (a : ℝ) : -(a : EReal) = ((-a : ℝ) : EReal) := (EReal.coe_neg a).symm
theorem zero_up : (0 : EReal) = ((0 : ℝ) : EReal) := rfl
theorem one_up : (1 : EReal) = ((1 : ℝ) : EReal) := rfl
theorem max_up (a b : ℝ) : max (a : EReal) (b : EReal) = ((max a b : ℝ) : EReal) :=
  (Monotone.map_max (fun _ _ h => EReal.coe_le_coe_iff.2 h : Monotone ((↑) : ℝ → EReal))).symm
theorem abs_up {φ : FTy} (a : ℝ) : (FloatOps.absf (F := Ideal) (φ := φ) (a : EReal) : EReal) = ((max a (-a) : ℝ) : EReal) := by
  rw [← max_up, ← neg_up]; rfl
theorem ite_up (p : Prop) [Decidable p] (a b : ℝ) : (if p then (a : EReal) else (b : EReal)) = ((if p then a else b : ℝ) : EReal) := by
  split <;> rfl
theorem exp_up (a : ℝ) : Ideal.exp (a : EReal) = ((Real.exp a : ℝ) : EReal) := rfl
theorem log_up (a : ℝ) (h : 0 < a) : Ideal.log (a : EReal) = ((Real.log a : ℝ) : EReal) := by
  rw [Ideal.log_coe, if_neg (not_le.2 h)]
theorem rsqrt_up (a : ℝ) (h : 0 < a) : Ideal.rsqrt (a : EReal) = (((Real.sqrt a)⁻¹ : ℝ) : EReal) := by
  rw [Ideal.rsqrt_coe, if_neg (not_lt.2 h.le), if_neg h.ne']
theorem div_up (a b : ℝ) (h : b ≠ 0) : Ideal.div (a : EReal) (b : EReal) = ((a / b : ℝ) : EReal) := by
  rw [Ideal.div_coe h, mul_up, mul_one_div]
theorem sum_up {ι : Type*} (s : Finset ι) (f : ι → ℝ) : ∑ k ∈ s, ((f k : ℝ) : EReal) = ((∑ k ∈ s, f k : ℝ) : EReal) := by
  classical
  induction s using Finset.induction_on with
  | empty => rfl
  | insert a s h ih => rw [Finset.sum_insert h, Finset.sum_insert h, ih, add_up]

/-- The logarithm of one plus the exponential of minus the distance from zero, as both programs write it. -/
theorem log1p_exp_up (a : ℝ) : Ideal.log ((1 : EReal) + Ideal.exp (a : EReal)) = ((Real.log (1 + Real.exp a) : ℝ) : EReal) := by
  rw [exp_up, one_up, add_up, log_up _ (by positivity)]

/-! ## Constants -/

theorem c_one : Ideal.ofBits .f32 0x3F800000#32 = ((1 : ℝ) : EReal) := by
  simp [Ideal.ofBits, Ideal.ieee, -EReal.coe_mul]; norm_num
theorem c_eighth : Ideal.ofBits .f32 0x3E000000#32 = ((0.125 : ℝ) : EReal) := by
  simp [Ideal.ofBits, Ideal.ieee, -EReal.coe_mul]; norm_num
theorem c_64th : Ideal.ofBits .f32 0x3C800000#32 = ((1 / 64 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
/-- The number added under the square root of the head norms. -/
def eps : ℝ := 8796093 / 2 ^ 43
theorem eps_pos : 0 < eps := by unfold eps; positivity
theorem c_eps : Ideal.ofBits .f32 0x358637BD#32 = ((eps : ℝ) : EReal) := by
  unfold eps
  simp [Ideal.ofBits, Ideal.ieee, -EReal.coe_mul]; norm_num

end Cert.Stick

end
-- ==== Proof.TileIs.lean ====
/- The operations of one tile on arrays of real numbers, each read at an index. -/
module

public import proofs.«01_k».proof.Proof.Lift
public import proofs.«01_k».proof.Proof.Tile

@[expose] public section

set_option maxRecDepth 16384

noncomputable section

namespace Cert.Stick

open Idealize.ShloMosaic Idealize.ShloMosaic.TcCoe Idealize.SL.Sem
open Cert.KernelIdeal Cert.KernelIdeal.Gen
open Finset

/-- The logarithm of one plus the exponential. -/
def sp (x : ℝ) : ℝ := max x 0 + Real.log (1 + Real.exp (-max x (-x)))

section Off

variable {Q D V : FVec Ideal S4x256x256 .bf16} {K U B : FVec Ideal S256x256 .bf16} {S W : FVec Ideal S4x256x256 .f32}
  {T P L : FVec Ideal S4x256x1 .f32} {X : FVec Ideal S256x256 .f32}
  {hm : FVec Ideal S4x1x256 .bf16} {hf : FVec Ideal S4x1x256 .f32}
  {q d v z s w t p l m a : ℕ → ℕ → ℕ → ℝ} {k u b x : ℕ → ℕ → ℝ}

theorem is_masked (hm' : Is3 hm m) (hK : Is2 K k) : Is3 (k0_pay3 hm K) (fun h i j => k i j * m h 0 j) := by
  intro h i j
  pointwise [k0_pay3]
  simp only [hm' _ _ _, hK _ _, mul_up, Fin.val_zero]

theorem is_scores (hQ : Is3 Q q) (hK : Is2 K k) : Is3 (k0_pay4 Q K) (fun h i j => ∑ l ∈ range 256, q h i l * k j l) := by
  intro h i j
  pointwise [k0_pay4]
  simp only [hQ _ _ _, hK _ _, mul_up, sum_up, Finset.sum_range]

theorem is_softplus (hz : Is3 (k0_pay4 Q K) z) : Is3 (k0_pay5 Q K) (fun h i j => sp (z h i j)) := by
  intro h i j
  pointwise [k0_pay5]
  simp only [hz _ _ _, abs_up, neg_up, max_up, zero_up, sub_up, zero_sub, log1p_exp_up, add_up, sp]

theorem is_logsig (hz : Is3 (k0_pay4 Q K) z) : Is3 (k0_pay6 Q K) (fun h i j => z h i j - sp (z h i j)) := by
  intro h i j
  pointwise [k0_pay6]
  simp only [hz _ _ _, is_softplus hz _ _ _, sub_up]

theorem is_logneg (hz : Is3 (k0_pay4 Q K) z) : Is3 (k0_pay7 Q K) (fun h i j => -sp (z h i j)) := by
  intro h i j
  pointwise [k0_pay7]
  simp only [is_softplus hz _ _ _, sub_up, zero_up, zero_sub]

theorem is_weight (hz : Is3 (k0_pay4 Q K) z) (hT : Is3 T t) (hL : Is3 L l) (hU : Is2 U u) :
    Is3 (k0_pay8 U T Q L K) (fun h i j => t h i 0 - l h i 0 - ∑ c ∈ range 256, -sp (z h i c) * u c j) := by
  intro h i j
  pointwise [k0_pay8]
  simp only [is_logneg hz _ _ _, hT _ _ _, hL _ _ _, hU _ _, sub_up, mul_up, sum_up, add_up, Finset.sum_range, sub_self, zero_mul,
    Finset.sum_const_zero, add_zero, Fin.val_zero]

theorem is_attn (hS : Is3 S s) (hW : Is3 W w) : Is3 (k0_pay9 S W) (fun h i j => Real.exp (s h i j + w h i j)) := by
  intro h i j
  pointwise [k0_pay9]
  simp only [hS _ _ _, hW _ _ _, add_up, exp_up]

theorem is_e (hD : Is3 D d) (hV : Is3 V v) (hS : Is3 S s) (hW : Is3 W w) :
    Is3 (k0_pay10 D V S W) (fun h i j => (∑ c ∈ range 256, d h i c * v h j c) * Real.exp (s h i j + w h i j)) := by
  intro h i j
  pointwise [k0_pay10]
  simp only [hD _ _ _, hV _ _ _, is_attn hS hW _ _ _, mul_up, sum_up, Finset.sum_range]

theorem is_dz (hE : Is3 (k0_pay10 D V S W) a) (hB : Is2 B b) (hP : Is3 P p) (hS : Is3 S s) :
    Is3 (k0_pay11 B D P V S W) (fun h i j => a h i j * (1 - Real.exp (s h i j))
      - (∑ c ∈ range 256, a h i c * b c j + p h i 0) * Real.exp (s h i j)) := by
  intro h i j
  pointwise [k0_pay11]
  simp only [hE _ _ _, hB _ _, hP _ _ _, hS _ _ _, one_up, exp_up, sub_up, mul_up, sum_up, add_up, Finset.sum_range, Fin.val_zero]

theorem is_dq (hZ : Is3 (k0_pay11 B D P V S W) z) (hK : Is2 K k) (hf' : Is3 hf m) (hX : Is2 X x) :
    Is2 (k0_pay12 B hf D P X K V S W) (fun i j => x i j + ∑ h ∈ range 4, (∑ c ∈ range 256, z h i c * k c j) * m h 0 j) := by
  intro i j
  pointwise [k0_pay12]
  simp only [hZ _ _ _, hK _ _, hf' _ _ _, hX _ _, mul_up, sum_up, add_up, Finset.sum_range, Fin.val_zero]

theorem is_PL (hL : Is3 L l) (hS : Is3 S s) : Is3 (k0_pay13 L S) (fun h i j => l h i j + ∑ c ∈ range 256, s h i c) := by
  intro h i j
  pointwise [k0_pay13]
  simp only [hL _ _ _, hS _ _ _, sum_up, add_up, Finset.sum_range, Fin.val_eq_zero]

theorem is_P (hE : Is3 (k0_pay10 D V S W) a) (hP : Is3 P p) : Is3 (k0_pay14 D P V S W) (fun h i j => p h i j + ∑ c ∈ range 256, a h i c) := by
  intro h i j
  pointwise [k0_pay14]
  simp only [hP _ _ _, hE _ _ _, sum_up, add_up, Finset.sum_range, Fin.val_eq_zero]

theorem is_dv (hA : Is3 (k0_pay9 S W) a) (hD : Is3 D d) (hX : Is2 X x) :
    Is2 (k0_pay17 (k0_pay15 D S W) X) (fun i j => x i j + ∑ h ∈ range 4, ∑ c ∈ range 256, a h c i * d h c j) := by
  intro i j
  pointwise [k0_pay17, k0_pay15]
  simp only [hA _ _ _, hD _ _ _, hX _ _, mul_up, sum_up, add_up, Finset.sum_range]

theorem is_dk (hZ : Is3 (k0_pay11 B D P V S W) z) (hQ : Is3 Q q) (hX : Is2 X x) :
    Is2 (k0_pay16 B Q D P V S W X) (fun i j => x i j + ∑ h ∈ range 4, ∑ c ∈ range 256, z h c i * q h c j) := by
  intro i j
  pointwise [k0_pay16]
  simp only [hZ _ _ _, hQ _ _ _, hX _ _, mul_up, sum_up, add_up, Finset.sum_range]

end Off

section Diag

variable {Q D V : FVec Ideal S4x256x256 .bf16} {K U B : FVec Ideal S256x256 .bf16} {S A : FVec Ideal S4x256x256 .f32}
  {T P L : FVec Ideal S4x256x1 .f32} {X Y : FVec Ideal S256x256 .f32} {dg : IVec S256x256 1}
  {hm : FVec Ideal S4x1x256 .bf16} {hf : FVec Ideal S4x1x256 .f32}
  {q d v z s t p l m a : ℕ → ℕ → ℕ → ℝ} {k u b x y : ℕ → ℕ → ℝ}

/-- A mask whose elements say whether the column is below the row. -/
def IsCausal (dg : IVec S256x256 1) : Prop := ∀ i j : Fin 256, dg (ix2 i j) = if j.val < i.val then 1#1 else 0#1

theorem diag_masked : k0_pay80 hm K = k0_pay3 hm K := rfl
theorem diag_scores : k0_pay81 Q K = k0_pay4 Q K := rfl
theorem diag_softplus : k0_pay82 Q K = k0_pay5 Q K := rfl
theorem diag_logsig : k0_pay83 Q K = k0_pay6 Q K := rfl

/-- A choice by a causal mask. -/
theorem sel_up (hd : IsCausal dg) (i j : Fin 256) (a b : ℝ) :
    Scalar.select (dg (ix2 i j)) (a : EReal) (b : EReal) = ((if j.val < i.val then a else b : ℝ) : EReal) := by
  rw [hd]; split <;> rfl

theorem is_attn_diag (hd : IsCausal dg) (hz : Is3 (k0_pay4 Q K) z) (hT : Is3 T t) (hL : Is3 L l) (hU : Is2 U u) :
    Is3 (k0_pay84 dg U T Q L K) (fun h i j => Real.exp (z h i j - sp (z h i j)
      + (t h i 0 - l h i 0 - ∑ c ∈ range 256, (if c < i then -sp (z h i c) else 0) * u c j))) := by
  intro h i j
  pointwise [k0_pay84]
  simp only [diag_softplus, diag_logsig, is_softplus hz _ _ _, is_logsig hz _ _ _, hT _ _ _, hL _ _ _, hU _ _, zero_up, sub_up, sel_up hd, mul_up, sum_up, add_up, exp_up,
    Finset.sum_range, sub_self, zero_mul, ite_mul, zero_sub, Finset.sum_const_zero, add_zero, Fin.val_zero]

theorem is_attn_sel (hd : IsCausal dg) (hA : Is3 A a) : Is3 (k0_pay85 dg A) (fun h i j => if j < i then a h i j else 0) := by
  intro h i j
  pointwise [k0_pay85]
  simp only [hA _ _ _, zero_up, sel_up hd]

theorem is_dz_diag (hd : IsCausal dg) (hD : Is3 D d) (hV : Is3 V v) (hA : Is3 (k0_pay85 dg A) a) (hB : Is2 B b) (hP : Is3 P p) (hS : Is3 S s) :
    Is3 (k0_pay86 dg B D P V S A) (fun h i j => if j < i then (∑ c ∈ range 256, d h i c * v h j c) * a h i j * (1 - Real.exp (s h i j))
      - (∑ c ∈ range 256, (∑ c' ∈ range 256, d h i c' * v h c c') * a h i c * b c j + p h i 0) * Real.exp (s h i j) else 0) := by
  intro h i j
  pointwise [k0_pay86]
  simp only [hD _ _ _, hV _ _ _, hA _ _ _, hB _ _, hP _ _ _, hS _ _ _, zero_up, one_up, exp_up, sub_up, mul_up, sum_up, add_up, sel_up hd,
    Finset.sum_range, Fin.val_zero]

theorem is_dq_diag (hZ : Is3 (k0_pay86 dg B D P V S A) z) (hK : Is2 K k) (hf' : Is3 hf m) (hX : Is2 X x) :
    Is2 (k0_pay115 (k0_pay87 dg B hf D P X K V S A))
      (fun i j => (x i j + ∑ h ∈ range 4, (∑ c ∈ range 256, z h i c * k c j) * m h 0 j) * 0.125) := by
  intro i j
  pointwise [k0_pay115, k0_pay87]
  simp only [hZ _ _ _, hK _ _, hf' _ _ _, hX _ _, c_eighth, mul_up, sum_up, add_up, Finset.sum_range, Fin.val_zero]

theorem is_dk_diag (hZ : Is3 (k0_pay86 dg B D P V S A) z) (hQ : Is3 Q q) (hX : Is2 X x) :
    Is2 (k0_pay89 dg B Q D P V S A X) (fun i j => x i j + ∑ h ∈ range 4, ∑ c ∈ range 256, z h c i * q h c j) := by
  intro i j
  pointwise [k0_pay89]
  simp only [hZ _ _ _, hQ _ _ _, hX _ _, mul_up, sum_up, add_up, Finset.sum_range]

theorem is_dv_diag (hA : Is3 (k0_pay85 dg A) a) (hD : Is3 D d) (hX : Is2 X x) :
    Is2 (k0_pay114 (k0_pay88 dg D A) X) (fun i j => x i j + ∑ h ∈ range 4, ∑ c ∈ range 256, a h c i * d h c j) := by
  intro i j
  pointwise [k0_pay114, k0_pay88]
  simp only [hA _ _ _, hD _ _ _, hX _ _, mul_up, sum_up, add_up, Finset.sum_range]

end Diag

end Cert.Stick

end
-- ==== Proof.Core.lean ====
/- The backward pass of stick-breaking attention over real numbers, for a few heads of 64 lanes each, and that the tiles of
   the kernel body compute it: an induction over the key blocks of a query block and over the query blocks. -/
module

public import proofs.«01_k».proof.Proof.TileIs

@[expose] public section

set_option maxRecDepth 16384

noncomputable section

namespace Cert.Stick

open Idealize.ShloMosaic
open Finset

/-! ## The real functions -/

/-- The operands by row and lane: queries, keys, values, output gradients. -/
structure Ops where
  q : ℕ → ℕ → ℝ
  k : ℕ → ℕ → ℝ
  v : ℕ → ℕ → ℝ
  d : ℕ → ℕ → ℝ

namespace Ops
variable (O : Ops) (T : ℕ → ℕ → ℝ)

/-- The score of query `i` and key `j` in head `h`. -/
def z (h i j : ℕ) : ℝ := ∑ l ∈ range 64, O.q i (64 * h + l) * O.k j (64 * h + l)
/-- The logarithm of the part of the stick left by key `j`. -/
def L (h i j : ℕ) : ℝ := if j < i then -sp (O.z h i j) else 0
/-- The logarithm of the part of the stick key `j` finds, from the totals `T`. -/
def W (h i j : ℕ) : ℝ := T h i - ∑ c ∈ range (j + 1), O.L h i c
/-- The attention weight. -/
def A (h i j : ℕ) : ℝ := if j < i then Real.exp (O.z h i j - sp (O.z h i j) + O.W T h i j) else 0
/-- The gradient of the attention weight. -/
def G (h i j : ℕ) : ℝ := ∑ l ∈ range 64, O.d i (64 * h + l) * O.v j (64 * h + l)
/-- The gradient of the logarithm of the attention weight. -/
def e (h i j : ℕ) : ℝ := O.G h i j * O.A T h i j
/-- The gradient of the score. -/
def Z (h i j : ℕ) : ℝ :=
  if j < i then O.e T h i j * (1 - Real.exp (O.z h i j - sp (O.z h i j))) - (∑ c ∈ range j, O.e T h i c) * Real.exp (O.z h i j - sp (O.z h i j)) else 0

end Ops

/-- Whether lane `l` belongs to head `h`. -/
def hd (h l : ℕ) : ℝ := if l / 64 = h then 1 else 0

/-! ## Sums -/

theorem sum_head (f : ℕ → ℝ) (h : ℕ) (hh : h < 4) : ∑ l ∈ range 256, f l * hd h l = ∑ l ∈ range 64, f (64 * h + l) := by
  unfold hd
  simp only [mul_ite, mul_one, mul_zero]
  rw [← Finset.sum_filter]
  symm
  refine Finset.sum_bij (fun l _ => 64 * h + l) (fun l hl => ?_) (fun a _ b _ he => by omega) (fun b hb => ?_) (fun _ _ => rfl)
  · simp only [mem_filter, mem_range] at hl ⊢; omega
  · simp only [mem_filter, mem_range] at hb ⊢
    exact ⟨b - 64 * h, by omega, by omega⟩

theorem sum_pick (f : ℕ → ℝ) (l : ℕ) (hl : l < 256) : ∑ h ∈ range 4, f h * hd h l = f (l / 64) := by
  unfold hd
  simp only [mul_ite, mul_one, mul_zero]
  rw [Finset.sum_ite_eq, if_pos (by simp only [mem_range]; omega)]

theorem hd_sq (h l : ℕ) : hd h l * hd h l = hd h l := by unfold hd; split <;> simp

theorem sum_upto (f : ℕ → ℝ) (j : ℕ) (hj : j < 256) : ∑ c ∈ range 256, f c * (if c ≤ j then 1 else 0) = ∑ c ∈ range (j + 1), f c := by
  simp only [mul_ite, mul_one, mul_zero]
  rw [← Finset.sum_filter]
  refine Finset.sum_congr (Finset.ext fun c => ?_) fun _ _ => rfl
  simp only [mem_filter, mem_range]; omega

theorem sum_before (f : ℕ → ℝ) (j : ℕ) (hj : j < 256) : ∑ c ∈ range 256, f c * (if c < j then 1 else 0) = ∑ c ∈ range j, f c := by
  simp only [mul_ite, mul_one, mul_zero]
  rw [← Finset.sum_filter]
  refine Finset.sum_congr (Finset.ext fun c => ?_) fun _ _ => rfl
  simp only [mem_filter, mem_range]; omega

/-- A sum whose terms vanish from `n` on. -/
theorem sum_cut (f : ℕ → ℝ) (n m : ℕ) (hnm : n ≤ m) (h : ∀ j, n ≤ j → f j = 0) : ∑ j ∈ range n, f j = ∑ j ∈ range m, f j := by
  refine Finset.sum_subset (fun x hx => by simp only [mem_range] at hx ⊢; omega) fun x _ hx => h x ?_
  simp only [mem_range] at hx; omega

/-! ## Arrays -/

theorem Is2.of {n m : ℕ} {X : (⟨2, ![n, m]⟩ : Shape).Idx → EReal} {f g : ℕ → ℕ → ℝ} (hX : Is2 X f)
    (h : ∀ i < n, ∀ j < m, f i j = g i j) : Is2 X g := fun i j => (hX i j).trans (by rw [h _ i.isLt _ j.isLt])
theorem Is3.of {n m l : ℕ} {X : (⟨3, ![n, m, l]⟩ : Shape).Idx → EReal} {f g : ℕ → ℕ → ℕ → ℝ} (hX : Is3 X f)
    (h : ∀ i < n, ∀ j < m, ∀ k < l, f i j k = g i j k) : Is3 X g := fun i j k => (hX i j k).trans (by rw [h _ i.isLt _ j.isLt _ k.isLt])

open Cert.KernelIdeal Cert.KernelIdeal.Gen Cert.KernelIdeal.Stick

/-- An element of a block of rows is one of the whole array. -/
theorem blk_ix (X : S2048x256.Idx → EReal) (j : ℕ) (r : Fin 256) (l : Fin 256) (hj : j < 8) :
    blk X j (ix2 r l) = X (ix2 ⟨256 * j + r.val, by omega⟩ l) := by
  unfold blk
  refine congrArg X (funext fun a => ?_)
  match a with
  | 0 => exact Fin.ext (Nat.mod_eq_of_lt (by show 256 * j + r.val < 2048; omega))
  | 1 => rfl

theorem is_blk {X : S2048x256.Idx → EReal} {f : ℕ → ℕ → ℝ} (hX : Is2 X f) (j : ℕ) (hj : j < 8) :
    Is2 (n := 256) (m := 256) (blk X j) (fun r l => f (256 * j + r) l) := fun r l => by rw [blk_ix X j r l hj, hX]

theorem is_setBlk {X : S2048x256.Idx → EReal} {B : S256x256.Idx → EReal} {f F : ℕ → ℕ → ℝ} {g : ℕ → ℕ → ℝ} (hX : Is2 X f) (hB : Is2 B g)
    (j : ℕ) (hj : j < 8) (hin : ∀ r < 256, ∀ l < 256, g r l = F (256 * j + r) l)
    (hout : ∀ i < 2048, i / 256 ≠ j → ∀ l < 256, f i l = F i l) : Is2 (n := 2048) (m := 256) (setBlk X j B) F := by
  intro i l
  have hi := i.isLt
  have e : ∀ Y : S2048x256.Idx → EReal, Y (ix2 i l) = blk Y (i.val / 256) (ix2 ⟨i.val % 256, Nat.mod_lt _ (by decide)⟩ l) := fun Y => by
    rw [blk_ix Y _ _ _ (by omega)]
    congr 2
    exact Fin.ext (by show i.val = 256 * (i.val / 256) + i.val % 256; omega)
  rw [e (setBlk X j B)]
  by_cases h : j = i.val / 256
  · rw [← h, blk_setBlk_same X j hj, hB, hin _ (Nat.mod_lt _ (by decide)) _ l.isLt]
    congr 2
    show 256 * j + i.val % 256 = i.val; omega
  · rw [blk_setBlk_ne X j _ (by omega) h, ← e X, hX, hout _ hi (fun h' => h h'.symm) _ l.isLt]

/-! ## The tiles -/

section Tiles

variable (O : Ops) (T : ℕ → ℕ → ℝ)

/-- What is asked of the masks. -/
structure MasksOk (M : Masks Ideal) : Prop where
  upto : Is2 (n := 256) (m := 256) M.upto (fun c j => if c ≤ j then 1 else 0)
  before : Is2 (n := 256) (m := 256) M.before (fun c j => if c < j then 1 else 0)
  hm : Is3 (n := 4) (m := 1) (l := 256) M.hm (fun h _ l => hd h l)
  hf : Is3 (n := 4) (m := 1) (l := 256) M.hf (fun h _ l => hd h l)

/-- What query block `n` brings. -/
structure QueryOk (Q : Query Ideal) (n : ℕ) : Prop where
  tot : Is3 (n := 4) (m := 256) (l := 1) Q.tot (fun h r _ => T h (256 * n + r))
  qb : Is3 (n := 4) (m := 256) (l := 256) Q.qb (fun h r l => O.q (256 * n + r) l * hd h l)
  dob : Is3 (n := 4) (m := 256) (l := 256) Q.dob (fun h r l => O.d (256 * n + r) l * hd h l)

/-- The keys' gradient from the first `n` query blocks. -/
def Kd (n j l : ℕ) : ℝ := ∑ h ∈ range 4, ∑ i ∈ range (256 * n), O.Z T h i j * (O.q i l * hd h l)
/-- The values' gradient from the first `n` query blocks. -/
def Vd (n j l : ℕ) : ℝ := ∑ h ∈ range 4, ∑ i ∈ range (256 * n), O.A T h i j * (O.d i l * hd h l)
/-- The queries' gradient from the first `n` keys, before its scale. -/
def Qd (n i l : ℕ) : ℝ := ∑ h ∈ range 4, (∑ j ∈ range n, O.Z T h i j * O.k j l) * hd h l

/-- The state after `t` key blocks of query block `n`. -/
structure StOk (n t : ℕ) (s : St Ideal) : Prop where
  PL : Is3 (n := 4) (m := 256) (l := 1) s.PL (fun h r _ => ∑ j ∈ range (256 * t), O.L h (256 * n + r) j)
  P : Is3 (n := 4) (m := 256) (l := 1) s.P (fun h r _ => ∑ j ∈ range (256 * t), O.e T h (256 * n + r) j)
  dq : Is2 (n := 256) (m := 256) s.dq (fun r l => Qd O T (256 * t) (256 * n + r) l)
  dk : Is2 (n := 2048) (m := 256) s.dk (fun j l => if j < 256 * t then Kd O T (n + 1) j l else Kd O T n j l)
  dv : Is2 (n := 2048) (m := 256) s.dv (fun j l => if j < 256 * t then Vd O T (n + 1) j l else Vd O T n j l)

/-- The accumulators after `n` query blocks. -/
structure AccOk (n : ℕ) (a : Acc Ideal) : Prop where
  dq : Is2 (n := 2048) (m := 256) a.dq (fun i l => if i < 256 * n then Qd O T 2048 i l * 0.125 else 0)
  dk : Is2 (n := 2048) (m := 256) a.dk (fun j l => Kd O T n j l)
  dv : Is2 (n := 2048) (m := 256) a.dv (fun j l => Vd O T n j l)

theorem Kd_succ (n j l : ℕ) : Kd O T (n + 1) j l
    = Kd O T n j l + ∑ h ∈ range 4, ∑ c ∈ range 256, O.Z T h (256 * n + c) j * (O.q (256 * n + c) l * hd h l) := by
  unfold Kd
  rw [← Finset.sum_add_distrib]
  exact Finset.sum_congr rfl fun h _ => by rw [show 256 * (n + 1) = 256 * n + 256 by ring, Finset.sum_range_add]

theorem Vd_succ (n j l : ℕ) : Vd O T (n + 1) j l
    = Vd O T n j l + ∑ h ∈ range 4, ∑ c ∈ range 256, O.A T h (256 * n + c) j * (O.d (256 * n + c) l * hd h l) := by
  unfold Vd
  rw [← Finset.sum_add_distrib]
  exact Finset.sum_congr rfl fun h _ => by rw [show 256 * (n + 1) = 256 * n + 256 by ring, Finset.sum_range_add]

theorem Qd_add (n i l : ℕ) : Qd O T (n + 256) i l
    = Qd O T n i l + ∑ h ∈ range 4, (∑ c ∈ range 256, O.Z T h i (n + c) * O.k (n + c) l) * hd h l := by
  unfold Qd
  rw [← Finset.sum_add_distrib]
  exact Finset.sum_congr rfl fun h _ => by rw [Finset.sum_range_add, add_mul]

/-- Keys not below any query of the block take nothing from it. -/
theorem Kd_above (n j l : ℕ) (h : 256 * (n + 1) ≤ j) : Kd O T n j l = Kd O T (n + 1) j l := by
  rw [Kd_succ, Finset.sum_eq_zero (fun h' _ => Finset.sum_eq_zero fun c hc => ?_), add_zero]
  rw [Ops.Z, if_neg (by simp only [mem_range] at hc; omega), zero_mul]
theorem Vd_above (n j l : ℕ) (h : 256 * (n + 1) ≤ j) : Vd O T n j l = Vd O T (n + 1) j l := by
  rw [Vd_succ, Finset.sum_eq_zero (fun h' _ => Finset.sum_eq_zero fun c hc => ?_), add_zero]
  rw [Ops.A, if_neg (by simp only [mem_range] at hc; omega), zero_mul]

/-- The keys from the query on do not count. -/
theorem Qd_all (n i l : ℕ) (h : i ≤ n) (hn : n ≤ 2048) : Qd O T n i l = Qd O T 2048 i l := by
  unfold Qd
  refine Finset.sum_congr rfl fun h' _ => ?_
  rw [sum_cut (fun j => O.Z T h' i j * O.k j l) n 2048 hn fun j hj => by rw [Ops.Z, if_neg (by omega), zero_mul]]

variable {M : Masks Ideal} {Q : Query Ideal} {kn vn : S2048x256.Idx → EReal} {n t : ℕ} {s : St Ideal}

theorem z_ok (hQ : QueryOk O T Q n) (hk : Is2 (n := 2048) (m := 256) kn O.k) (ht : t < 8) :
    Is3 (k0_pay4 (F := Ideal) Q.qb (blk kn t)) (fun h r c => O.z h (256 * n + r) (256 * t + c)) := by
  refine (is_scores hQ.qb (is_blk hk t ht)).of fun h hh r hr c hc => ?_
  unfold Ops.z
  rw [← sum_head (fun l => O.q (256 * n + r) l * O.k (256 * t + c) l) h hh]
  exact Finset.sum_congr rfl fun l _ => by ring

theorem G_sum (h r c : ℕ) (hh : h < 4) : ∑ l ∈ range 256, O.d r l * hd h l * (O.v c l * hd h l) = O.G h r c := by
  unfold Ops.G
  rw [← sum_head (fun l => O.d r l * O.v c l) h hh]
  exact Finset.sum_congr rfl fun l _ => by
    rw [show O.d r l * hd h l * (O.v c l * hd h l) = O.d r l * O.v c l * (hd h l * hd h l) by ring, hd_sq]

theorem tile_ok (hM : MasksOk M) (hQ : QueryOk O T Q n) (hk : Is2 (n := 2048) (m := 256) kn O.k) (hv : Is2 (n := 2048) (m := 256) vn O.v)
    (ht : t < n) (hn : n < 8) (hs : StOk O T n t s) : StOk O T n (t + 1) (tile (F := Ideal) M Q kn vn s t) := by
  have hz := z_ok O T hQ hk (by omega : t < 8)
  have hS := is_logsig hz
  have hvb := (is_masked hM.hm (is_blk hv t (by omega)))
  have hlm : ∀ h r c, r < 256 → c < 256 → -sp (O.z h (256 * n + r) (256 * t + c)) = O.L h (256 * n + r) (256 * t + c) := fun h r c hr hc => by
    rw [Ops.L, if_pos (by omega)]
  have hN := (is_logneg hz).of (g := fun h r c => O.L h (256 * n + r) (256 * t + c)) fun h _ r hr c hc => hlm h r c hr hc
  have hW := (is_weight hz hQ.tot hs.PL hM.upto).of (g := fun h r c => O.W T h (256 * n + r) (256 * t + c)) fun h hh r hr c hc => by
    rw [sum_upto _ c hc, Ops.W, show 256 * t + c + 1 = 256 * t + (c + 1) by ring, Finset.sum_range_add _ (256 * t) (c + 1), sub_sub,
      Finset.sum_congr rfl (fun c' hc' => hlm h r c' hr (by have := mem_range.1 hc'; omega) : ∀ c' ∈ range (c + 1), _ = _)]
  have hA := (is_attn hS hW).of (g := fun h r c => O.A T h (256 * n + r) (256 * t + c)) fun h hh r hr c hc => by
    rw [Ops.A, if_pos (by omega)]
  have hE := (is_e hQ.dob hvb hS hW).of (g := fun h r c => O.e T h (256 * n + r) (256 * t + c)) fun h hh r hr c hc => by
    rw [G_sum O h _ _ hh, Ops.e, Ops.A, if_pos (by omega)]
  have hZ := (is_dz hE hM.before hs.P hS).of (g := fun h r c => O.Z T h (256 * n + r) (256 * t + c)) fun h hh r hr c hc => by
    rw [sum_before _ c hc, Ops.Z, if_pos (by omega), Finset.sum_range_add, add_comm (∑ _ ∈ range c, _)]
  refine ⟨?_, ?_, ?_, ?_, ?_⟩
  · exact (is_PL hs.PL hN).of fun h hh r hr c hc => by
      rw [show 256 * (t + 1) = 256 * t + 256 by ring, Finset.sum_range_add]
  · exact (is_P hE hs.P).of fun h hh r hr c hc => by
      rw [show 256 * (t + 1) = 256 * t + 256 by ring, Finset.sum_range_add]
  · exact (is_dq hZ (is_blk hk t (by omega)) hM.hf hs.dq).of fun r hr l hl => by
      rw [show 256 * (t + 1) = 256 * t + 256 by ring, Qd_add]
  · refine is_setBlk hs.dk (is_dk hZ hQ.qb (is_blk hs.dk t (by omega))) t (by omega) (fun r hr l hl => ?_) (fun i hi hne l hl => ?_)
    · rw [if_neg (by omega), if_pos (by omega), Kd_succ]
    · by_cases h : i < 256 * t
      · rw [if_pos h, if_pos (by omega)]
      · rw [if_neg h, if_neg (by omega)]
  · refine is_setBlk hs.dv (is_dv hA hQ.dob (is_blk hs.dv t (by omega))) t (by omega) (fun r hr l hl => ?_) (fun i hi hne l hl => ?_)
    · rw [if_neg (by omega), if_pos (by omega), Vd_succ]
    · by_cases h : i < 256 * t
      · rw [if_pos h, if_pos (by omega)]
      · rw [if_neg h, if_neg (by omega)]

theorem tiles_ok (hM : MasksOk M) (hQ : QueryOk O T Q n) (hk : Is2 (n := 2048) (m := 256) kn O.k) (hv : Is2 (n := 2048) (m := 256) vn O.v)
    (hn : n < 8) (hs : StOk O T n 0 s) : ∀ t ≤ n, StOk O T n t (tiles (F := Ideal) M Q kn vn s t) := by
  intro t
  induction t with
  | zero => exact fun _ => hs
  | succ t ih => exact fun ht => tile_ok O T hM hQ hk hv (by omega) hn (ih (by omega))

theorem start_ok {a : Acc Ideal} (ha : AccOk O T n a) : StOk O T n 0 (start (F := Ideal) a) := by
  have e : ∀ f : ℕ → ℝ, ∑ j ∈ range (256 * 0), f j = 0 := fun f => by simp
  refine ⟨?_, ?_, ?_, ?_, ?_⟩
  · intro h r c; simp only [e]; show k0_pay77 (F := Ideal) (ix3 h r c) = _; pointwise [k0_pay77]; rfl
  · intro h r c; simp only [e]; show k0_pay78 (F := Ideal) (ix3 h r c) = _; pointwise [k0_pay78]; rfl
  · intro r l; simp only [Qd, e, zero_mul, Finset.sum_const_zero]; show k0_pay79 (F := Ideal) (ix2 r l) = _; pointwise [k0_pay79]; rfl
  · exact ha.dk.of fun _ _ _ _ => by rw [if_neg (by omega)]
  · exact ha.dv.of fun _ _ _ _ => by rw [if_neg (by omega)]

theorem diag_ok {dg : IVec S256x256 1} {a : Acc Ideal} (hdg : IsCausal dg) (hM : MasksOk M) (hQ : QueryOk O T Q n)
    (hk : Is2 (n := 2048) (m := 256) kn O.k) (hv : Is2 (n := 2048) (m := 256) vn O.v)
    (hn : n < 8) (ha : AccOk O T n a) (hs : StOk O T n n s) : AccOk O T (n + 1) (diag (F := Ideal) dg M Q kn vn a s n) := by
  have hz := z_ok O T hQ hk hn
  have hS := is_logsig hz
  have hvb := (is_masked hM.hm (is_blk hv n hn))
  have hA0 := (is_attn_diag hdg hz hQ.tot hs.PL hM.upto)
  have hA := (is_attn_sel hdg hA0).of (g := fun h r c => O.A T h (256 * n + r) (256 * n + c)) fun h hh r hr c hc => by
    by_cases hcr : c < r
    · rw [if_pos hcr, Ops.A, if_pos (by omega), sum_upto _ c hc, Ops.W, show 256 * n + c + 1 = 256 * n + (c + 1) by ring, Finset.sum_range_add _ (256 * n) (c + 1), sub_sub,
        Finset.sum_congr rfl (fun c' hc' => by
          have := mem_range.1 hc'
          rw [if_pos (by omega), Ops.L, if_pos (by omega)] :
          ∀ c' ∈ range (c + 1), (if c' < r then -sp (O.z h (256 * n + r) (256 * n + c')) else 0) = O.L h (256 * n + r) (256 * n + c'))]
    · rw [if_neg hcr, Ops.A, if_neg (by omega)]
  have hZ := (is_dz_diag hdg hQ.dob hvb hA hM.before hs.P hS).of (g := fun h r c => O.Z T h (256 * n + r) (256 * n + c)) fun h hh r hr c hc => by
    by_cases hcr : c < r
    · rw [if_pos hcr, sum_before _ c hc, Ops.Z, if_pos (by omega), Finset.sum_range_add, add_comm (∑ _ ∈ range c, _), G_sum O h _ _ hh]
      rw [Finset.sum_congr rfl (fun c' _ => by rw [G_sum O h _ _ hh, Ops.e] :
        ∀ c' ∈ range c, (∑ l ∈ range 256, O.d (256 * n + r) l * hd h l * (O.v (256 * n + c') l * hd h l)) * O.A T h (256 * n + r) (256 * n + c')
          = O.e T h (256 * n + r) (256 * n + c')), Ops.e]
    · rw [if_neg hcr, Ops.Z, if_neg (by omega)]
  refine ⟨?_, ?_, ?_⟩
  · refine is_setBlk ha.dq (is_dq_diag hZ (is_blk hk n hn) hM.hf hs.dq) n hn (fun r hr l hl => ?_) (fun i hi hne l hl => ?_)
    · rw [if_pos (by omega), ← Qd_add, Qd_all O T _ _ _ (by omega) (by omega)]
    · by_cases h : i < 256 * n
      · rw [if_pos h, if_pos (by omega)]
      · rw [if_neg h, if_neg (by omega)]
  · refine is_setBlk hs.dk (is_dk_diag hZ hQ.qb (is_blk hs.dk n hn)) n hn (fun r hr l hl => ?_) (fun i hi hne l hl => ?_)
    · rw [if_neg (by omega), Kd_succ]
    · by_cases h : i < 256 * n
      · rw [if_pos h]
      · rw [if_neg h, Kd_above O T _ _ _ (by omega)]
  · refine is_setBlk hs.dv (is_dv_diag hA hQ.dob (is_blk hs.dv n hn)) n hn (fun r hr l hl => ?_) (fun i hi hne l hl => ?_)
    · rw [if_neg (by omega), Vd_succ]
    · by_cases h : i < 256 * n
      · rw [if_pos h]
      · rw [if_neg h, Vd_above O T _ _ _ (by omega)]

theorem blocks_ok {dg : IVec S256x256 1} {lane : IVec S256x256 32} {tot qs dout : S2048x256.Idx → EReal} {a : Acc Ideal}
    (hdg : IsCausal dg) (hM : MasksOk M) (hQ : ∀ n < 8, QueryOk O T (query (F := Ideal) M lane tot qs dout n) n)
    (hk : Is2 (n := 2048) (m := 256) kn O.k) (hv : Is2 (n := 2048) (m := 256) vn O.v) (ha : AccOk O T 0 a) :
    ∀ n ≤ 8, AccOk O T n (blocks (F := Ideal) dg M lane tot qs kn vn dout a n) := by
  intro n
  induction n with
  | zero => exact fun _ => ha
  | succ n ih =>
    intro hn
    have h := ih (by omega)
    exact diag_ok O T hdg hM (hQ n (by omega)) hk hv (by omega) h
      (tiles_ok O T hM (hQ n (by omega)) hk hv (by omega) (start_ok O T h) n le_rfl)

end Tiles

end Cert.Stick

end
-- ==== Proof.Lanes.lean ====
/- The masks of the kernel, the row totals picked per head, and the sums over the lanes of a head. -/
module

public import proofs.«01_k».proof.Proof.Core
public import proofs.«01_k».proof.Proof.Body

@[expose] public section

set_option maxRecDepth 16384

noncomputable section

namespace Cert.Stick

open Idealize.ShloMosaic Idealize.ShloMosaic.TcCoe Idealize.SL.Sem
open Cert.KernelIdeal Cert.KernelIdeal.Gen Cert.KernelIdeal.Stick
open Finset

/-! ## Comparisons -/

theorem slt_up (i j : Fin 256) : IntOp.cmpi CmpIPredicate.slt (BitVec.ofNat 32 j.val) (BitVec.ofNat 32 i.val) = if j.val < i.val then 1#1 else 0#1 := by
  word_cmp
  by_cases h : j.val < i.val <;> simp [h]
theorem sle_up (i j : Fin 256) : IntOp.cmpi CmpIPredicate.sle (BitVec.ofNat 32 i.val) (BitVec.ofNat 32 j.val) = if i.val ≤ j.val then 1#1 else 0#1 := by
  word_cmp
  by_cases h : i.val ≤ j.val <;> simp [h]
theorem head_all : ∀ (l : Fin 256) (n : Fin 4), IntOp.cmpi CmpIPredicate.eq (IntOp.shrsi ArithUnit.vector (BitVec.ofNat 32 l.val) 6#32) (BitVec.ofNat 32 n.val)
    = if l.val / 64 = n.val then 1#1 else 0#1 := by decide +kernel
theorem head0 (l : Fin 256) : IntOp.cmpi CmpIPredicate.eq (IntOp.shrsi ArithUnit.vector (BitVec.ofNat 32 l.val) 6#32) 0#32 = if l.val / 64 = 0 then 1#1 else 0#1 := head_all l 0
theorem head1 (l : Fin 256) : IntOp.cmpi CmpIPredicate.eq (IntOp.shrsi ArithUnit.vector (BitVec.ofNat 32 l.val) 6#32) 1#32 = if l.val / 64 = 1 then 1#1 else 0#1 := head_all l 1
theorem head2 (l : Fin 256) : IntOp.cmpi CmpIPredicate.eq (IntOp.shrsi ArithUnit.vector (BitVec.ofNat 32 l.val) 6#32) 2#32 = if l.val / 64 = 2 then 1#1 else 0#1 := head_all l 2
theorem head3 (l : Fin 256) : IntOp.cmpi CmpIPredicate.eq (IntOp.shrsi ArithUnit.vector (BitVec.ofNat 32 l.val) 6#32) 3#32 = if l.val / 64 = 3 then 1#1 else 0#1 := head_all l 3
theorem lane_all : ∀ (l : Fin 256) (n : Fin 4), IntOp.cmpi CmpIPredicate.eq (BitVec.ofNat 32 l.val) (BitVec.ofNat 32 (64 * n.val))
    = if l.val = 64 * n.val then 1#1 else 0#1 := by decide +kernel

theorem bit_up {φ : FTy} (p : Prop) [Decidable p] :
    (FloatOps.sitofp (F := Ideal) φ (BitVec.setWidth 32 (if p then 1#1 else 0#1)) : EReal) = ((if p then 1 else 0 : ℝ) : EReal) := by
  by_cases h : p
  · rw [if_pos h, if_pos h]; show (((1#32 : BitVec 32).toInt : ℝ) : EReal) = _; norm_num
  · rw [if_neg h, if_neg h]; show (((0#32 : BitVec 32).toInt : ℝ) : EReal) = _; norm_num

/-- A choice between real numbers by a comparison. -/
theorem choose_up (p : Prop) [Decidable p] (a b : ℝ) :
    Scalar.select (if p then 1#1 else 0#1) (a : EReal) (b : EReal) = ((if p then a else b : ℝ) : EReal) := by
  by_cases h : p
  · rw [if_pos h, if_pos h]; rfl
  · rw [if_neg h, if_neg h]; rfl

/-! ## The masks -/

theorem causal_ok : IsCausal k0_pay103 := by
  intro i j
  pointwise [k0_pay103]
  exact slt_up i j

theorem hd_cases (i : Fin 4) (k : ℕ) : (if i.val < 1 then (if k / 64 = 0 then 1 else 0) else if i.val - 1 < 1 then (if k / 64 = 1 then 1 else 0)
    else if i.val - 1 - 1 < 1 then (if k / 64 = 2 then 1 else 0) else (if k / 64 = 3 then 1 else 0) : ℝ) = hd i k := by
  fin_cases i <;> simp [hd]

theorem masks_ok : MasksOk (masks (F := Ideal)) := by
  refine ⟨?_, ?_, ?_, ?_⟩
  · show Is2 (k0_pay104 (F := Ideal)) _
    intro i j
    pointwise [k0_pay104]
    rw [sle_up, bit_up]
  · show Is2 (k0_pay105 (F := Ideal)) _
    intro i j
    pointwise [k0_pay105]
    rw [slt_up, bit_up]
  · show Is3 (k0_pay108 (F := Ideal) k0_pay106 k0_pay107) _
    intro i j k
    pointwise [k0_pay108, k0_pay106, k0_pay107]
    simp only [head0, head1, head2, head3, bit_up, dite_eq_ite, ite_up, hd_cases]
  · show Is3 (k0_pay113 (F := Ideal) k0_pay109 k0_pay110 k0_pay111 k0_pay112) _
    intro i j k
    pointwise [k0_pay113, k0_pay109, k0_pay110, k0_pay111, k0_pay112]
    simp only [head0, head1, head2, head3, bit_up, dite_eq_ite, ite_up, hd_cases]

/-! ## What a query block brings -/

theorem pick_lane (x : ℕ → ℝ) (n : Fin 4) (c : BitVec 32) (hc : c = BitVec.ofNat 32 (64 * n.val)) :
    ∑ l : Fin 256, Scalar.select (IntOp.cmpi CmpIPredicate.eq (BitVec.ofNat 32 l.val) c) ((x l.val : ℝ) : EReal) ((0 : ℝ) : EReal)
      = ((x (64 * n.val) : ℝ) : EReal) := by
  subst hc
  simp only [lane_all, choose_up, sum_up]
  rw [Finset.sum_eq_single (⟨64 * n.val, by omega⟩ : Fin 256)]
  · rw [if_pos rfl]
  · exact fun b _ hb => if_neg fun h => hb (Fin.ext h)
  · exact fun h => absurd (Finset.mem_univ _) h

theorem tot_ok {X : S256x256.Idx → EReal} {x : ℕ → ℕ → ℝ} (hX : Is2 X x) :
    Is3 (k0_pay73 (F := Ideal) lane X) (fun h r _ => x r (64 * h)) := by
  intro i j k
  pointwise [k0_pay73, lane]
  simp only [hX _ _, zero_up, pick_lane _ 0 0#32 rfl, pick_lane _ 1 64#32 rfl, pick_lane _ 2 128#32 rfl, pick_lane _ 3 192#32 rfl]
  fin_cases i <;> rfl

theorem query_ok (O : Ops) (T : ℕ → ℕ → ℝ) {tot qs dout : S2048x256.Idx → EReal} {t : ℕ → ℕ → ℝ} (ht : Is2 tot t) (hT : ∀ h < 4, ∀ i < 2048, t i (64 * h) = T h i)
    (hq : Is2 qs O.q) (hd' : Is2 dout O.d) (n : ℕ) (hn : n < 8) : QueryOk O T (query (F := Ideal) masks lane tot qs dout n) n := by
  refine ⟨?_, ?_, ?_⟩
  · exact (tot_ok (is_blk ht n hn)).of fun h hh r hr _ _ => hT h hh _ (by omega)
  · exact (is_masked masks_ok.hm (is_blk hq n hn))
  · exact (is_masked masks_ok.hm (is_blk hd' n hn))

/-! ## Sums over a head's lanes -/

/-- The kernel's sum over the lanes of the head of lane `j`: four masked sums, of which one is chosen. -/
def hsum {n : ℕ} (Y : (⟨2, ![n, 256]⟩ : Shape).Idx → EReal) (i : Fin n) (j : Fin 256) : EReal :=
  Scalar.select (IntOp.cmpi CmpIPredicate.eq (IntOp.shrsi ArithUnit.vector (BitVec.ofNat 32 j.val) 6#32) 3#32)
    (∑ x : Fin 256, Scalar.select (IntOp.cmpi CmpIPredicate.eq (IntOp.shrsi ArithUnit.vector (BitVec.ofNat 32 x.val) 6#32) 3#32) (Y (ix2 i x)) 0)
  (Scalar.select (IntOp.cmpi CmpIPredicate.eq (IntOp.shrsi ArithUnit.vector (BitVec.ofNat 32 j.val) 6#32) 2#32)
    (∑ x : Fin 256, Scalar.select (IntOp.cmpi CmpIPredicate.eq (IntOp.shrsi ArithUnit.vector (BitVec.ofNat 32 x.val) 6#32) 2#32) (Y (ix2 i x)) 0)
  (Scalar.select (IntOp.cmpi CmpIPredicate.eq (IntOp.shrsi ArithUnit.vector (BitVec.ofNat 32 j.val) 6#32) 1#32)
    (∑ x : Fin 256, Scalar.select (IntOp.cmpi CmpIPredicate.eq (IntOp.shrsi ArithUnit.vector (BitVec.ofNat 32 x.val) 6#32) 1#32) (Y (ix2 i x)) 0)
  (Scalar.select (IntOp.cmpi CmpIPredicate.eq (IntOp.shrsi ArithUnit.vector (BitVec.ofNat 32 j.val) 6#32) 0#32)
    (∑ x : Fin 256, Scalar.select (IntOp.cmpi CmpIPredicate.eq (IntOp.shrsi ArithUnit.vector (BitVec.ofNat 32 x.val) 6#32) 0#32) (Y (ix2 i x)) 0) 0)))

theorem hsum_ok {n : ℕ} {Y : (⟨2, ![n, 256]⟩ : Shape).Idx → EReal} {y : ℕ → ℕ → ℝ} (hY : Is2 Y y) (i : Fin n) (j : Fin 256) :
    hsum Y i j = ((∑ l ∈ range 64, y i.val (64 * (j.val / 64) + l) : ℝ) : EReal) := by
  have key : ∀ n < 4, (∑ x : Fin 256, if x.val / 64 = n then y i.val x.val else 0) = ∑ l ∈ range 64, y i.val (64 * n + l) := fun n hn => by
    rw [← sum_head _ n hn, Finset.sum_range]
    exact Finset.sum_congr rfl fun x _ => by unfold hd; simp only [mul_ite, mul_one, mul_zero]
  unfold hsum
  simp only [head0, head1, head2, head3, hY _ _, zero_up, choose_up, sum_up]
  rw [key 0 (by omega), key 1 (by omega), key 2 (by omega), key 3 (by omega)]
  congr 1
  have hj : j.val / 64 = 0 ∨ j.val / 64 = 1 ∨ j.val / 64 = 2 ∨ j.val / 64 = 3 := by omega
  rcases hj with h | h | h | h <;> simp [h]

end Cert.Stick

end
-- ==== Proof.Norms.lean ====
/- The head norms of queries and keys, forward and backward, on arrays of real numbers. -/
module

public import proofs.«01_k».proof.Proof.Lanes

@[expose] public section

set_option maxRecDepth 16384

noncomputable section

namespace Cert.Stick

open Idealize.ShloMosaic Idealize.ShloMosaic.TcCoe Idealize.SL.Sem
open Cert.KernelIdeal Cert.KernelIdeal.Gen Cert.KernelIdeal.Stick
open Finset

/-! ## The real functions -/

/-- One over the root of the mean square of head `h` of row `i`. -/
def rr (x : ℕ → ℕ → ℝ) (i h : ℕ) : ℝ := (Real.sqrt ((∑ l ∈ range 64, x i (64 * h + l) * x i (64 * h + l)) * (1 / 64) + eps))⁻¹
/-- The normalised row. -/
def xh (x : ℕ → ℕ → ℝ) (i l : ℕ) : ℝ := x i l * rr x i (l / 64)
/-- The gradient of the row from the gradient `t` of the normalised one. -/
def nb (t x : ℕ → ℕ → ℝ) (i l : ℕ) : ℝ :=
  rr x i (l / 64) * (t i l - xh x i l * ((∑ d ∈ range 64, t i (64 * (l / 64) + d) * xh x i (64 * (l / 64) + d)) * (1 / 64)))

theorem ms_pos (x : ℕ → ℕ → ℝ) (i h : ℕ) : 0 < (∑ l ∈ range 64, x i (64 * h + l) * x i (64 * h + l)) * (1 / 64) + eps :=
  add_pos_of_nonneg_of_pos (mul_nonneg (Finset.sum_nonneg fun _ _ => mul_self_nonneg _) (by norm_num)) eps_pos

variable {X Q : S2048x256.Idx → EReal} {G : S1x256.Idx → EReal} {x q : ℕ → ℕ → ℝ} {g : ℕ → ℕ → ℝ}

theorem is_sq (hQ : Is2 Q q) : Is2 (k0_pay91 (F := Ideal) Q) (fun i l => q i l * q i l) := by
  intro i l
  pointwise [k0_pay91]
  rw [hQ, mul_up]

theorem pay95_eq : k0_pay95 (F := Ideal) Q = k0_pay91 (F := Ideal) Q := rfl
theorem pay118_eq : k0_pay118 (F := Ideal) Q = k0_pay91 (F := Ideal) Q := rfl
theorem pay129_eq : k0_pay129 (F := Ideal) Q = k0_pay91 (F := Ideal) Q := rfl

theorem is_qs (hQ : Is2 Q q) (hG : Is2 G g) : Is2 (n := 2048) (m := 256) (qsV (F := Ideal) Q G) (fun i l => xh q i l * g 0 l * 0.125) := by
  intro i l
  have e : qsV (F := Ideal) Q G (ix2 i l) = Q (ix2 i l) * Ideal.rsqrt (hsum (k0_pay91 (F := Ideal) Q) i l * Ideal.ofBits .f32 0x3C800000#32
      + Ideal.ofBits .f32 0x358637BD#32) * G (ix2 0 l) * Ideal.ofBits .f32 0x3E000000#32 := by
    pointwise [qsV, k0_pay94, k0_pay90, k0_pay92, k0_pay93]
    rfl
  rw [e, hsum_ok (is_sq hQ), hQ, hG, c_64th, c_eps, c_eighth, mul_up, add_up, rsqrt_up _ (ms_pos q i _)]
  simp only [mul_up]
  rfl

theorem is_kn (hQ : Is2 Q q) (hG : Is2 G g) : Is2 (n := 2048) (m := 256) (knV (F := Ideal) Q G) (fun i l => xh q i l * g 0 l) := by
  intro i l
  have e : knV (F := Ideal) Q G (ix2 i l) = Q (ix2 i l) * Ideal.rsqrt (hsum (k0_pay91 (F := Ideal) Q) i l * Ideal.ofBits .f32 0x3C800000#32
      + Ideal.ofBits .f32 0x358637BD#32) * G (ix2 0 l) := by
    pointwise [knV, k0_pay99, k0_pay98, k0_pay97, k0_pay96, k0_pay90]
    rfl
  rw [e, hsum_ok (is_sq hQ), hQ, hG, c_64th, c_eps, mul_up, add_up, rsqrt_up _ (ms_pos q i _)]
  simp only [mul_up]
  rfl

theorem is_v (hQ : Is2 Q q) : Is2 (n := 2048) (m := 256) (vV (F := Ideal) Q) q := by
  intro i l
  pointwise [vV, k0_pay100]
  exact hQ i l

theorem is_rr (hQ : Is2 Q q) : Is2 (k0_pay120 (F := Ideal) k0_pay116 (k0_pay118 Q) (k0_pay119 Q) 2#32) (fun i l => rr q i (l / 64)) := by
  intro i l
  have e : k0_pay120 (F := Ideal) k0_pay116 (k0_pay118 Q) (k0_pay119 Q) 2#32 (ix2 i l) = Ideal.rsqrt (hsum (k0_pay118 (F := Ideal) Q) i l * Ideal.ofBits .f32 0x3C800000#32
      + Ideal.ofBits .f32 0x358637BD#32) := by
    pointwise [k0_pay120, k0_pay119, k0_pay116]
    rfl
  rw [e, pay118_eq, hsum_ok (is_sq hQ), c_64th, c_eps, mul_up, add_up, rsqrt_up _ (ms_pos q i _)]
  rfl

theorem is_xh (hQ : Is2 Q q) : Is2 (k0_pay121 (F := Ideal) k0_pay116 Q (k0_pay118 Q) (k0_pay119 Q) 2#32) (xh q) := by
  intro i l
  pointwise [k0_pay121]
  rw [hQ, is_rr hQ, mul_up]
  rfl

theorem is_t (hX : Is2 X x) (hG : Is2 G g) : Is2 (k0_pay122 (F := Ideal) X (k0_pay117 G)) (fun i l => x i l * g 0 l) := by
  intro i l
  pointwise [k0_pay122, k0_pay117]
  rw [hX, hG, mul_up]
  rfl

theorem is_txh (hX : Is2 X x) (hQ : Is2 Q q) (hG : Is2 G g) :
    Is2 (k0_pay123 (F := Ideal) k0_pay116 X (k0_pay117 G) Q (k0_pay118 Q) (k0_pay119 Q) 2#32) (fun i l => x i l * g 0 l * xh q i l) := by
  intro i l
  pointwise [k0_pay123]
  rw [is_t hX hG, is_xh hQ, mul_up]

theorem is_dqF (hX : Is2 X x) (hQ : Is2 Q q) (hG : Is2 G g) :
    Is2 (n := 2048) (m := 256) (dqF (F := Ideal) X Q G) (nb (fun i l => x i l * g 0 l) q) := by
  intro i l
  have e : dqF (F := Ideal) X Q G (ix2 i l) = k0_pay120 (F := Ideal) k0_pay116 (k0_pay118 Q) (k0_pay119 Q) 2#32 (ix2 i l)
      * (k0_pay122 (F := Ideal) X (k0_pay117 G) (ix2 i l) - k0_pay121 (F := Ideal) k0_pay116 Q (k0_pay118 Q) (k0_pay119 Q) 2#32 (ix2 i l)
        * (hsum (k0_pay123 (F := Ideal) k0_pay116 X (k0_pay117 G) Q (k0_pay118 Q) (k0_pay119 Q) 2#32) i l * Ideal.ofBits .f32 0x3C800000#32)) := by
    pointwise [dqF, k0_pay127, k0_pay125, k0_pay124, k0_pay116]
    rfl
  rw [e, is_rr hQ, is_t hX hG, is_xh hQ, hsum_ok (is_txh hX hQ hG), c_64th]
  simp only [mul_up, sub_up]
  rfl

theorem is_dqgF (hX : Is2 X x) (hQ : Is2 Q q) :
    Is2 (n := 1) (m := 256) (dqgF (F := Ideal) X Q) (fun _ l => ∑ i ∈ range 2048, x i l * xh q i l) := by
  intro i l
  pointwise [dqgF, k0_pay126]
  simp only [hX _ _, is_xh hQ _ _, mul_up, sum_up, Finset.sum_range]

theorem is_krr (hQ : Is2 Q q) : Is2 (k0_pay133 (F := Ideal) k0_pay116 (k0_pay129 Q) (k0_pay130 k0_pay116 Q) (k0_pay131 k0_pay116) k0_pay132) (fun i l => rr q i (l / 64)) := by
  intro i l
  have e : k0_pay133 (F := Ideal) k0_pay116 (k0_pay129 Q) (k0_pay130 k0_pay116 Q) (k0_pay131 k0_pay116) k0_pay132 (ix2 i l)
      = Ideal.rsqrt (hsum (k0_pay129 (F := Ideal) Q) i l * Ideal.ofBits .f32 0x3C800000#32 + Ideal.ofBits .f32 0x358637BD#32) := by
    pointwise [k0_pay133, k0_pay132, k0_pay131, k0_pay130, k0_pay116]
    rfl
  rw [e, pay129_eq, hsum_ok (is_sq hQ), c_64th, c_eps, mul_up, add_up, rsqrt_up _ (ms_pos q i _)]
  rfl

theorem is_kxh (hQ : Is2 Q q) : Is2 (k0_pay134 (F := Ideal) k0_pay116 Q (k0_pay129 Q) (k0_pay130 k0_pay116 Q) (k0_pay131 k0_pay116) k0_pay132) (xh q) := by
  intro i l
  pointwise [k0_pay134]
  rw [hQ, is_krr hQ, mul_up]
  rfl

theorem is_kt (hX : Is2 X x) (hG : Is2 G g) : Is2 (k0_pay135 (F := Ideal) X (k0_pay128 G)) (fun i l => x i l * g 0 l) := by
  intro i l
  pointwise [k0_pay135, k0_pay128]
  rw [hX, hG, mul_up]
  rfl

theorem is_ktxh (hX : Is2 X x) (hQ : Is2 Q q) (hG : Is2 G g) :
    Is2 (k0_pay136 (F := Ideal) k0_pay116 X (k0_pay128 G) Q (k0_pay129 Q) (k0_pay130 k0_pay116 Q) (k0_pay131 k0_pay116) k0_pay132)
      (fun i l => x i l * g 0 l * xh q i l) := by
  intro i l
  pointwise [k0_pay136]
  rw [is_kt hX hG, is_kxh hQ, mul_up]

theorem is_dkF (hX : Is2 X x) (hQ : Is2 Q q) (hG : Is2 G g) :
    Is2 (n := 2048) (m := 256) (dkF (F := Ideal) X Q G) (nb (fun i l => x i l * g 0 l) q) := by
  intro i l
  have e : dkF (F := Ideal) X Q G (ix2 i l)
      = k0_pay133 (F := Ideal) k0_pay116 (k0_pay129 Q) (k0_pay130 k0_pay116 Q) (k0_pay131 k0_pay116) k0_pay132 (ix2 i l)
      * (k0_pay135 (F := Ideal) X (k0_pay128 G) (ix2 i l)
        - k0_pay134 (F := Ideal) k0_pay116 Q (k0_pay129 Q) (k0_pay130 k0_pay116 Q) (k0_pay131 k0_pay116) k0_pay132 (ix2 i l)
        * (hsum (k0_pay136 (F := Ideal) k0_pay116 X (k0_pay128 G) Q (k0_pay129 Q) (k0_pay130 k0_pay116 Q) (k0_pay131 k0_pay116) k0_pay132) i l
          * Ideal.ofBits .f32 0x3C800000#32)) := by
    pointwise [dkF, k0_pay141, k0_pay139, k0_pay138, k0_pay137, k0_pay116]
    rfl
  rw [e, is_krr hQ, is_kt hX hG, is_kxh hQ, hsum_ok (is_ktxh hX hQ hG), c_64th]
  simp only [mul_up, sub_up]
  rfl

theorem is_dkgF (hX : Is2 X x) (hQ : Is2 Q q) :
    Is2 (n := 1) (m := 256) (dkgF (F := Ideal) X Q) (fun _ l => ∑ i ∈ range 2048, x i l * xh q i l) := by
  intro i l
  pointwise [dkgF, k0_pay140]
  simp only [hX _ _, is_kxh hQ _ _, mul_up, sum_up, Finset.sum_range]

theorem is_dvF (hX : Is2 X x) : Is2 (n := 2048) (m := 256) (dvF (F := Ideal) X) x := by
  intro i l
  pointwise [dvF, k0_pay142]
  exact hX i l

end Cert.Stick

end
-- ==== Proof.Scan.lean ====
/- The running sums of the reference: a window as long as a row, laid over a row extended by zeros. -/
module

public import proofs.«01_k».proof.Proof.Lift

@[expose] public section

set_option maxRecDepth 16384

noncomputable section

namespace Cert.Stick

open Idealize.ShloMosaic
open Finset

/-- Adding up a list from the left. -/
theorem foldl_sum {α : Type*} (g : α → EReal) (l : List α) (v : EReal) : l.foldl (fun r n => r + g n) v = v + (l.map g).sum := by
  induction l generalizing v with
  | nil => simp
  | cons a l ih => rw [List.foldl_cons, ih, List.map_cons, List.sum_cons, add_assoc]

variable {n m k lo hi : ℕ} {X : (⟨3, ![n, m, k]⟩ : Shape).Idx → EReal} {x : ℕ → ℕ → ℕ → ℝ}

/-- The window at element `c` of a row adds up the elements of the extended row from `c` to `c + k - 1`. -/
theorem is_window (hX : Is3 X x)
    (h : (⟨3, ![n, m, k]⟩ : Shape).ReduceWindows (![1, 1, k] : Fin 3 → ℕ) ![1, 1, 1] ![0, 0, lo] ![0, 0, hi] ⟨3, ![n, m, k]⟩) :
    Is3 (Ideal.hostReduceWindowAdd ![1, 1, k] ![1, 1, 1] ![0, 0, lo] ![0, 0, hi] h X 0)
      (fun a b c => ∑ w ∈ range k, if lo ≤ c + w ∧ c + w - lo < k then x a b (c + w - lo) else 0) := by
  intro a b c
  unfold Ideal.hostReduceWindowAdd Host.reduceWindow
  rw [foldl_sum, zero_add, ← Fin.sum_univ_def]
  refine (Equiv.sum_comp (Shape.rowMajor (⟨3, ![1, 1, k]⟩ : Shape)).symm (fun i : (⟨3, ![1, 1, k]⟩ : Shape).Idx =>
    @dite EReal (∀ ax : Fin 3, (![0, 0, lo] : Fin 3 → ℕ) ax ≤ ((ix3 a b c : (⟨3, ![n, m, k]⟩ : Shape).Idx) ax).val * (![1, 1, 1] : Fin 3 → ℕ) ax + (i ax).val
      ∧ ((ix3 a b c : (⟨3, ![n, m, k]⟩ : Shape).Idx) ax).val * (![1, 1, 1] : Fin 3 → ℕ) ax + (i ax).val - (![0, 0, lo] : Fin 3 → ℕ) ax < (⟨3, ![n, m, k]⟩ : Shape).size ax)
    (Nat.decidableForallFin _) (fun hin => X (fun ax => ⟨((ix3 a b c : (⟨3, ![n, m, k]⟩ : Shape).Idx) ax).val * (![1, 1, 1] : Fin 3 → ℕ) ax + (i ax).val - (![0, 0, lo] : Fin 3 → ℕ) ax, (hin ax).2⟩))
    (fun _ => 0))).trans ?_
  rw [sum_idx3]
  rw [Fin.sum_univ_one, Fin.sum_univ_one, ← sum_up, Finset.sum_range]
  refine Finset.sum_congr rfl fun w _ => ?_
  by_cases hw : lo ≤ c.val + w.val ∧ c.val + w.val - lo < k
  · rw [dif_pos, if_pos hw]
    · refine (congrArg X (funext fun ax => ?_)).trans (hX a b ⟨c.val + w.val - lo, hw.2⟩)
      match ax with
      | ⟨0, _⟩ => exact Fin.ext (show a.val * 1 + 0 - 0 = a.val by omega)
      | ⟨1, _⟩ => exact Fin.ext (show b.val * 1 + 0 - 0 = b.val by omega)
      | ⟨2, _⟩ => exact Fin.ext (show c.val * 1 + w.val - lo = c.val + w.val - lo by omega)
    · intro ax
      have := a.isLt
      have := b.isLt
      match ax with
      | ⟨0, _⟩ => exact (show 0 ≤ a.val * 1 + 0 ∧ a.val * 1 + 0 - 0 < n by omega)
      | ⟨1, _⟩ => exact (show 0 ≤ b.val * 1 + 0 ∧ b.val * 1 + 0 - 0 < m by omega)
      | ⟨2, _⟩ => exact (show lo ≤ c.val * 1 + w.val ∧ c.val * 1 + w.val - lo < k by omega)
  · rw [dif_neg, if_neg hw]
    · rfl
    · intro hin
      have h2 : lo ≤ c.val * 1 + w.val ∧ c.val * 1 + w.val - lo < k := hin 2
      exact hw (by omega)

/-- The sum of a row from an element on. -/
theorem is_suffix (hX : Is3 X x)
    (h : (⟨3, ![n, m, k]⟩ : Shape).ReduceWindows (![1, 1, k] : Fin 3 → ℕ) ![1, 1, 1] ![0, 0, 0] ![0, 0, hi] ⟨3, ![n, m, k]⟩) :
    Is3 (Ideal.hostReduceWindowAdd ![1, 1, k] ![1, 1, 1] ![0, 0, 0] ![0, 0, hi] h X 0)
      (fun a b c => ∑ j ∈ range k, x a b j - ∑ j ∈ range c, x a b j) := by
  intro a b c
  rw [is_window hX h a b c]
  congr 1
  simp only [Nat.zero_le, true_and, Nat.sub_zero]
  have hc : c.val ≤ k := c.isLt.le
  rw [eq_sub_iff_add_eq, ← Finset.sum_filter]
  rw [show range k = range (c.val + (k - c.val)) by rw [Nat.add_sub_cancel' hc]]
  rw [Finset.sum_range_add (fun j => x a b j) c.val (k - c.val), add_comm]
  congr 1
  refine Finset.sum_congr (Finset.ext fun w => ?_) fun _ _ => rfl
  simp only [mem_filter, mem_range]
  omega

/-- The sum of a row up to an element. -/
theorem is_prefix (hk : lo + 1 = k) (hX : Is3 X x)
    (h : (⟨3, ![n, m, k]⟩ : Shape).ReduceWindows (![1, 1, k] : Fin 3 → ℕ) ![1, 1, 1] ![0, 0, lo] ![0, 0, hi] ⟨3, ![n, m, k]⟩) :
    Is3 (Ideal.hostReduceWindowAdd ![1, 1, k] ![1, 1, 1] ![0, 0, lo] ![0, 0, hi] h X 0)
      (fun a b c => ∑ j ∈ range (c + 1), x a b j) := by
  intro a b c
  rw [is_window hX h a b c]
  congr 1
  beta_reduce
  rw [← Finset.sum_filter]
  have hc := c.isLt
  refine Finset.sum_bij (fun w _ => c.val + w - lo) (fun w hw => ?_) (fun u hu w hw e => ?_) (fun w hw => ?_) (fun _ _ => rfl)
  · simp only [mem_filter, mem_range] at hw ⊢; omega
  · simp only [mem_filter, mem_range] at hu hw; omega
  · simp only [mem_filter, mem_range] at hw ⊢
    exact ⟨w + lo - c.val, by omega, by omega⟩

end Cert.Stick

end
-- ==== Proof.RefIs.lean ====
/- The stages of the reference on arrays of real numbers, each read at an index. -/
module

public import proofs.«01_k».proof.Proof.Norms
public import proofs.«01_k».proof.Proof.Scan
public import proofs.«01_k».proof.Proof.Gen.ReferenceIdeal.Read

@[expose] public section

set_option maxRecDepth 16384

noncomputable section

namespace Cert.Stick

open Idealize.ShloMosaic Idealize.ShloMosaic.TcCoe Idealize.SL.Sem
open Cert.ReferenceIdeal Cert.ReferenceIdeal.Gen Cert.ReferenceIdeal.Read
open Finset

variable {X : S2048x3072.Idx → EReal} {G H : S64.Idx → EReal} {D : S2048x1024.Idx → EReal}
  {x d : ℕ → ℕ → ℝ} {g h : ℕ → ℝ}

/-- The columns of the joined array that hold the keys. -/
def keyCols (x : ℕ → ℕ → ℝ) (i l : ℕ) : ℝ := x i (1024 + l)
/-- The columns of the joined array that hold the values. -/
def valCols (x : ℕ → ℕ → ℝ) (i l : ℕ) : ℝ := x i (2048 + l)

/-- The operands of all sixteen heads. -/
def whole (x : ℕ → ℕ → ℝ) (g h : ℕ → ℝ) (d : ℕ → ℕ → ℝ) : Ops where
  q := fun i l => xh x i l * g (l % 64) * 0.125
  k := fun i l => xh (keyCols x) i l * h (l % 64)
  v := valCols x
  d := d

/-- The sum of the logarithms of a row. -/
def rowTotal (O : Ops) (h i : ℕ) : ℝ := ∑ j ∈ range 2048, O.L h i j

theorem up_congr {a b : ℝ} (e : a = b) : (a : EReal) = (b : EReal) := congrArg _ e

/-! ## Head norms -/

theorem ref_q (hX : Is2 X x) : Is3 (val_main_v11 (F := Ideal) X) (fun i H l => x i (64 * H + l)) := by
  intro i H l
  pointwise [val_main_v11, val_main_v0]
  rw [hX]
  exact up_congr (congrArg (x i) (show H.val * 64 + l.val = 64 * H.val + l.val by omega))

theorem ref_k (hX : Is2 X x) : Is3 (val_main_v32 (F := Ideal) X) (fun i H l => keyCols x i (64 * H + l)) := by
  intro i H l
  pointwise [val_main_v32, val_main_v1]
  rw [hX]
  exact up_congr (congrArg (x i) (show 1024 + (H.val * 64 + l.val) = 1024 + (64 * H.val + l.val) by omega))

theorem ref_v (hX : Is2 X x) : Is3 (val_main_v54 (F := Ideal) X) (fun H i l => valCols x i (64 * H + l)) := by
  intro H i l
  pointwise [val_main_v54, val_main_v53, val_main_v2]
  rw [hX]
  exact up_congr (congrArg (x i) (show 2048 + (H.val * 64 + l.val) = 2048 + (64 * H.val + l.val) by omega))

theorem ref_d (hD : Is2 D d) : Is3 (val_main_v78 (F := Ideal) D) (fun H i l => d i (64 * H + l)) := by
  intro H i l
  pointwise [val_main_v78, val_main_v77, val_main_v76]
  rw [hD]
  exact up_congr (congrArg (d i) (show H.val * 64 + l.val = 64 * H.val + l.val by omega))

theorem ref_g (hG : Is1 G g) : Is3 (n := 1) (m := 16) (l := 64) (val_main_v28 (F := Ideal) G) (fun i H l => g l) := by
  intro i H l
  pointwise [val_main_v28, val_main_v14, val_main_v13, val_main_v12, val_main_v6, val_main_v5, val_main_v4, val_main_v3]
  rw [hG]

theorem ref_h (hG : Is1 G g) : Is3 (n := 1) (m := 16) (l := 64) (val_main_v49 (F := Ideal) G) (fun i H l => g l) := by
  intro i H l
  pointwise [val_main_v49, val_main_v35, val_main_v34, val_main_v33, val_main_v10, val_main_v9, val_main_v8, val_main_v7]
  rw [hG]

/-- The mean square of a head, and the small number. -/
def msq (x : ℕ → ℕ → ℝ) (i h : ℕ) : ℝ := (∑ l ∈ range 64, x i (64 * h + l) * x i (64 * h + l)) * (1 / 64) + eps

theorem msq_pos (x : ℕ → ℕ → ℝ) (i h : ℕ) : 0 < msq x i h := ms_pos x i h
theorem rr_eq (x : ℕ → ℕ → ℝ) (i h : ℕ) : rr x i h = (Real.sqrt (msq x i h))⁻¹ := rfl

theorem ref_mq (hX : Is2 X x) : Is3 (val_main_v21 (F := Ideal) X) (fun i H l => msq x i H) := by
  intro i H l
  pointwise [val_main_v21, val_main_v20, val_main_cst_1, val_main_v19, val_main_v18, val_main_cst_0, val_main_v17, val_main_v16, val_main_cst, val_main_v15]
  simp only [ref_q hX _ _ _, mul_up, sum_up, c_64, c_eps, div_up _ (64 : ℝ) (by norm_num), add_up]
  refine up_congr ?_
  rw [msq, Finset.sum_range]; ring

theorem ref_mk (hX : Is2 X x) : Is3 (val_main_v42 (F := Ideal) X) (fun i H l => msq (keyCols x) i H) := by
  intro i H l
  pointwise [val_main_v42, val_main_v41, val_main_cst_5, val_main_v40, val_main_v39, val_main_cst_4, val_main_v38, val_main_v37, val_main_cst_3, val_main_v36]
  simp only [ref_k hX _ _ _, mul_up, sum_up, c_64, c_eps, div_up _ (64 : ℝ) (by norm_num), add_up]
  refine up_congr ?_
  rw [msq, Finset.sum_range]; ring

theorem ref_rq (hX : Is2 X x) : Is3 (val_main_v22 (F := Ideal) X) (fun i H l => rr x i H) := by
  intro i H l
  pointwise [val_main_v22]
  rw [ref_mq hX, rsqrt_up _ (msq_pos x i H)]; rfl

theorem ref_rk (hX : Is2 X x) : Is3 (val_main_v43 (F := Ideal) X) (fun i H l => rr (keyCols x) i H) := by
  intro i H l
  pointwise [val_main_v43]
  rw [ref_mk hX, rsqrt_up _ (msq_pos (keyCols x) i H)]; rfl

theorem ref_sq (hX : Is2 X x) : Is3 (val_main_v25 (F := Ideal) X) (fun i H l => -(1 / 2) * (rr x i H / msq x i H)) := by
  intro i H l
  pointwise [val_main_v25, val_main_v24, val_main_cst_2, val_main_v23]
  rw [ref_mq hX, ref_rq hX, div_up _ _ (msq_pos x i H).ne', c_neg_half, mul_up]

theorem ref_sk (hX : Is2 X x) : Is3 (val_main_v46 (F := Ideal) X) (fun i H l => -(1 / 2) * (rr (keyCols x) i H / msq (keyCols x) i H)) := by
  intro i H l
  pointwise [val_main_v46, val_main_v45, val_main_cst_6, val_main_v44]
  rw [ref_mk hX, ref_rk hX, div_up _ _ (msq_pos (keyCols x) i H).ne', c_neg_half, mul_up]

/-- The reciprocal root over the mean square is the cube of the reciprocal root. -/
theorem rr_div (x : ℕ → ℕ → ℝ) (i h : ℕ) : rr x i h / msq x i h = rr x i h * (rr x i h * rr x i h) := by
  rw [rr_eq, ← mul_inv, Real.mul_self_sqrt (msq_pos x i h).le, div_eq_mul_inv]

theorem head_div (H : ℕ) {l : ℕ} (hl : l < 64) : (64 * H + l) / 64 = H := by omega
theorem head_mod (H : ℕ) {l : ℕ} (hl : l < 64) : (64 * H + l) % 64 = l := by omega

theorem ref_xq (hX : Is2 X x) : Is3 (val_main_v27 (F := Ideal) X) (fun i H l => xh x i (64 * H + l)) := by
  intro i H l
  pointwise [val_main_v27, val_main_v26]
  rw [ref_q hX, ref_rq hX, mul_up, xh, head_div H.val l.isLt]

theorem ref_xk (hX : Is2 X x) : Is3 (val_main_v48 (F := Ideal) X) (fun i H l => xh (keyCols x) i (64 * H + l)) := by
  intro i H l
  pointwise [val_main_v48, val_main_v47]
  rw [ref_k hX, ref_rk hX, mul_up, xh, head_div H.val l.isLt]

theorem ref_qn (hX : Is2 X x) (hG : Is1 G g) : Is3 (val_main_v31 (F := Ideal) X G) (fun H i l => xh x i (64 * H + l) * g l) := by
  intro H i l
  pointwise [val_main_v31, val_main_v30, val_main_v29]
  rw [ref_xq hX, ref_g hG, mul_up]

theorem ref_kn (hX : Is2 X x) (hH : Is1 H h) : Is3 (val_main_v52 (F := Ideal) X H) (fun H i l => xh (keyCols x) i (64 * H + l) * h l) := by
  intro H i l
  pointwise [val_main_v52, val_main_v51, val_main_v50]
  rw [ref_xk hX, ref_h hH, mul_up]

/-! ## Scores -/

theorem ref_z (d : ℕ → ℕ → ℝ) (hX : Is2 X x) (hG : Is1 G g) (hH : Is1 H h) :
    Is3 (val_main_v57 (F := Ideal) X G H) (fun n i j => (whole x g h d).z n i j) := by
  intro n i j
  pointwise [val_main_v57, val_main_v56, val_main_cst_7, val_main_v55]
  simp only [ref_qn hX hG _ _ _, ref_kn hX hH _ _ _, mul_up, sum_up, c_eighth]
  refine up_congr ?_
  rw [Ops.z, Finset.sum_range, Finset.sum_mul]
  refine Finset.sum_congr rfl fun l _ => ?_
  simp only [whole, head_mod n.val l.isLt]
  ring

theorem une_up (a b c : ℝ) : (if (a : EReal) ≠ (a : EReal) then (b : EReal) else (c : EReal)) = (c : EReal) := if_neg fun h => h rfl

theorem c_inf : Ideal.ofBits .f32 0x7F800000#32 = (⊤ : EReal) := by
  simp [Ideal.ofBits, Ideal.ieee]

theorem inf_up (a b c : ℝ) : (if (a : EReal) = Ideal.ofBits .f32 0x7F800000#32 then (b : EReal) else (c : EReal)) = (c : EReal) :=
  if_neg (by rw [c_inf]; exact EReal.coe_ne_top a)

theorem sp_eq (a : ℝ) : sp a = Real.log (1 + Real.exp a) := by
  unfold sp
  rcases le_total 0 a with ha | ha
  · rw [max_eq_left ha, max_eq_left (by linarith : -a ≤ a)]
    have e : 1 + Real.exp a = Real.exp a * (1 + Real.exp (-a)) := by
      rw [mul_add, mul_one, ← Real.exp_add, add_neg_cancel, Real.exp_zero, add_comm]
    rw [e, Real.log_mul (Real.exp_pos a).ne' (by positivity), Real.log_exp]
  · rw [max_eq_right ha, max_eq_right (by linarith : a ≤ -a), neg_neg, zero_add]

theorem sp_neg (a : ℝ) : sp (-a) = sp a - a := by
  unfold sp
  rw [neg_neg, max_comm (-a) a, eq_sub_iff_add_eq]
  have e : max (-a) 0 + a = max a 0 := by
    rcases le_total 0 a with ha | ha
    · rw [max_eq_right (by linarith), max_eq_left ha, zero_add]
    · rw [max_eq_left (by linarith), max_eq_right ha, neg_add_cancel]
  rw [← e]; ring

/-- The two derivatives of the logarithm of the logistic function add up to one. -/
theorem sig_compl (a : ℝ) : Real.exp (-a - sp (-a)) = 1 - Real.exp (a - sp a) := by
  have e : Real.exp (sp a) = 1 + Real.exp a := by rw [sp_eq, Real.exp_log (by positivity)]
  rw [sp_neg, eq_sub_iff_add_eq, show -a - (sp a - a) = -sp a by ring, sub_eq_add_neg, Real.exp_add, Real.exp_neg, e]
  field_simp

section Scores

variable (d : ℕ → ℕ → ℝ)

theorem ref_sp (hX : Is2 X x) (hG : Is1 G g) (hH : Is1 H h) :
    Is3 (val_main_call0_v1_0 (F := Ideal) X G H) (fun n i j => sp ((whole x g h d).z n i j)) := by
  intro n i j
  pointwise [val_main_call0_v1_0, val_main_call0_call0_v11, val_main_call0_call0_v10, val_main_call0_call0_v9, val_main_call0_call0_v8,
    val_main_call0_call0_v7, val_main_call0_call0_v6, val_main_call0_call0_v5, val_main_call0_call0_v4, val_main_call0_call0_v3,
    val_main_call0_call0_v2, val_main_call0_call0_v1, val_main_call0_call0_v0, val_main_call0_call0_cst, val_main_call0_v0, val_main_v64]
  simp only [ref_z d hX hG hH _ _ _, neg_up, neg_neg, zero_up, max_up, abs_up, Ideal.log1p, log1p_exp_up, add_up, une_up]
  rfl

theorem ref_sg (hX : Is2 X x) (hG : Is1 G g) (hH : Is1 H h) :
    Is3 (val_main_v65_1 (F := Ideal) X G H) (fun n i j => Real.exp ((whole x g h d).z n i j - sp ((whole x g h d).z n i j))) := by
  intro n i j
  pointwise [val_main_v65_1, val_main_call0_call0_v21, val_main_call0_call0_v20, val_main_call0_call0_v19, val_main_call0_call0_cst_3,
    val_main_call0_call0_v18, val_main_call0_call0_v17, val_main_call0_call0_cst_2, val_main_call0_call0_v16, val_main_call0_call0_v15,
    val_main_call0_call0_cst_1, val_main_call0_call0_v14, val_main_call0_call0_v13, val_main_call0_call0_cst_0, val_main_call0_v0, val_main_v64]
  simp only [ref_z d hX hG hH _ _ _, ref_sp d hX hG hH _ _ _, neg_up, neg_neg, zero_up, inf_up, sub_up, exp_up]

/-- The mask of the pairs whose key comes before their query. -/
theorem before_up (i j : Fin 2048) (a b : ℝ) :
    Scalar.select (IntOp.cmpi CmpIPredicate.slt (BitVec.ofNat 32 j.val) (BitVec.ofNat 32 i.val)) (a : EReal) (b : EReal) = ((if j.val < i.val then a else b : ℝ) : EReal) := by
  word_cmp
  by_cases e : j.val < i.val <;> simp [e, Scalar.select]

theorem ref_L (hX : Is2 X x) (hG : Is1 G g) (hH : Is1 H h) :
    Is3 (val_main_v66_0 (F := Ideal) X G H) (fun n i j => (whole x g h d).L n i j) := by
  intro n i j
  have e0 : id (constant (F := Ideal) S_ FTy.f32 0#32) ix0 = ((0 : ℝ) : EReal) := by
    show Ideal.ofBits .f32 0#32 = _
    simp [Ideal.ofBits, Ideal.ieee]
  pointwise [val_main_v66_0, val_main_v66_1, val_main_v65_0, val_main_call1_v2, val_main_call1_v0, val_main_cst_8, val_main_v63, val_main_v62, val_main_v61,
    val_main_v60, val_main_v59, val_main_v58]
  rw [ref_sp d hX hG hH, neg_up, e0, before_up]
  rfl

theorem ref_W (hX : Is2 X x) (hG : Is1 G g) (hH : Is1 H h) :
    Is3 (val_main_v68 (F := Ideal) X G H) (fun n i j => (whole x g h d).W (rowTotal (whole x g h d)) n i j) := by
  intro n i j
  have e := is_suffix (hi := 2047) (ref_L d hX hG hH) reduceWindows_S16x2048x2048_S16x2048x2048_w1s1p0_0_w1s1p0_0_w2048s1p0_2047 n i j
  have e' : val_main_v67 (F := Ideal) X G H = Ideal.hostReduceWindowAdd ![1, 1, 2048] ![1, 1, 1] ![0, 0, 0] ![0, 0, 2047]
      reduceWindows_S16x2048x2048_S16x2048x2048_w1s1p0_0_w1s1p0_0_w2048s1p0_2047 (val_main_v66_0 (F := Ideal) X G H) 0 := by
    unfold val_main_v67 Host.reduceWindowAdd
    have e0 : val_main_call2_v0 (F := Ideal) (Shape.Idx.first h_S_) = 0 := by
      rw [← ix0_eta (Shape.Idx.first h_S_)]
      pointwise [val_main_call2_v0, val_main_call2_cst]
    rw [Ideal.hostReduceWindowAdd_def, e0]
  rw [← e'] at e
  pointwise [val_main_v68]
  rw [e, ref_L d hX hG hH, sub_up]
  refine up_congr ?_
  rw [Ops.W, Finset.sum_range_succ]
  simp only [rowTotal]
  ring

theorem ref_lsp (hX : Is2 X x) (hG : Is1 G g) (hH : Is1 H h) :
    Is3 (val_main_call3_v1_0 (F := Ideal) X G H) (fun n i j => sp (-(whole x g h d).z n i j)) := by
  intro n i j
  pointwise [val_main_call3_v1_0, val_main_call3_call0_v11, val_main_call3_call0_v10, val_main_call3_call0_v9, val_main_call3_call0_v8,
    val_main_call3_call0_v7, val_main_call3_call0_v6, val_main_call3_call0_v5, val_main_call3_call0_v4, val_main_call3_call0_v3,
    val_main_call3_call0_v2, val_main_call3_call0_v1, val_main_call3_call0_v0, val_main_call3_call0_cst, val_main_call3_v0]
  simp only [ref_z d hX hG hH _ _ _, neg_up, zero_up, max_up, abs_up, Ideal.log1p, log1p_exp_up, add_up, une_up]
  rfl

theorem ref_lsg (hX : Is2 X x) (hG : Is1 G g) (hH : Is1 H h) :
    Is3 (val_main_v69_1 (F := Ideal) X G H) (fun n i j => 1 - Real.exp ((whole x g h d).z n i j - sp ((whole x g h d).z n i j))) := by
  intro n i j
  pointwise [val_main_v69_1, val_main_call3_call0_v21, val_main_call3_call0_v20, val_main_call3_call0_v19, val_main_call3_call0_cst_3,
    val_main_call3_call0_v18, val_main_call3_call0_v17, val_main_call3_call0_cst_2, val_main_call3_call0_v16, val_main_call3_call0_v15,
    val_main_call3_call0_cst_1, val_main_call3_call0_v14, val_main_call3_call0_v13, val_main_call3_call0_cst_0, val_main_call3_v0]
  simp only [ref_z d hX hG hH _ _ _, ref_lsp d hX hG hH _ _ _, neg_up, zero_up, inf_up, sub_up, exp_up, sig_compl]

theorem ref_ex (hX : Is2 X x) (hG : Is1 G g) (hH : Is1 H h) :
    Is3 (val_main_v71 (F := Ideal) X G H) (fun n i j => Real.exp ((whole x g h d).z n i j - sp ((whole x g h d).z n i j)
      + (whole x g h d).W (rowTotal (whole x g h d)) n i j)) := by
  intro n i j
  pointwise [val_main_v71, val_main_v70, val_main_v69_0]
  rw [ref_lsp d hX hG hH, ref_W d hX hG hH, neg_up, add_up, exp_up]
  beta_reduce
  rw [sp_neg, neg_sub]

theorem ref_A (hX : Is2 X x) (hG : Is1 G g) (hH : Is1 H h) :
    Is3 (val_main_v72_0 (F := Ideal) X G H) (fun n i j => (whole x g h d).A (rowTotal (whole x g h d)) n i j) := by
  intro n i j
  have e0 : id (constant (F := Ideal) S_ FTy.f32 0#32) ix0 = ((0 : ℝ) : EReal) := by
    show Ideal.ofBits .f32 0#32 = _
    simp [Ideal.ofBits, Ideal.ieee]
  pointwise [val_main_v72_0, val_main_v72_1, val_main_call4_v2, val_main_call4_v0, val_main_cst_9, val_main_v63, val_main_v62, val_main_v61,
    val_main_v60, val_main_v59, val_main_v58]
  rw [ref_ex d hX hG hH, e0, before_up]
  rfl

theorem ref_G (hX : Is2 X x) (hD : Is2 D d) : Is3 (val_main_v82 (F := Ideal) X D) (fun n i j => if j < i then (whole x g h d).G n i j else 0) := by
  intro n i j
  pointwise [val_main_v82, val_main_v81, val_main_call5_v0, val_main_call5_cst, val_main_v72_1, val_main_v63, val_main_v62, val_main_v61,
    val_main_v60, val_main_v59, val_main_v58]
  simp only [ref_d hD _ _ _, ref_v hX _ _ _, mul_up, sum_up, zero_up]
  rw [before_up, Ops.G, Finset.sum_range]
  rfl

theorem ref_e (hX : Is2 X x) (hG : Is1 G g) (hH : Is1 H h) (hD : Is2 D d) :
    Is3 (val_main_v83 (F := Ideal) X G H D) (fun n i j => (whole x g h d).e (rowTotal (whole x g h d)) n i j) := by
  intro n i j
  pointwise [val_main_v83]
  rw [ref_G (g := g) (h := h) d hX hD, ref_ex d hX hG hH, mul_up]
  refine up_congr ?_
  beta_reduce
  rw [Ops.e, Ops.A]
  split
  · rfl
  · rw [zero_mul, mul_zero]

theorem ref_Z (hX : Is2 X x) (hG : Is1 G g) (hH : Is1 H h) (hD : Is2 D d) :
    Is3 (val_main_v91 (F := Ideal) X G H D) (fun n i j => (whole x g h d).Z (rowTotal (whole x g h d)) n i j) := by
  intro n i j
  have e := is_prefix (lo := 2047) (hi := 0) rfl (ref_e d hX hG hH hD) reduceWindows_S16x2048x2048_S16x2048x2048_w1s1p0_0_w1s1p0_0_w2048s1p2047_0 n i j
  have e' : val_main_v86 (F := Ideal) X G H D = Ideal.hostReduceWindowAdd ![1, 1, 2048] ![1, 1, 1] ![0, 0, 2047] ![0, 0, 0]
      reduceWindows_S16x2048x2048_S16x2048x2048_w1s1p0_0_w1s1p0_0_w2048s1p2047_0 (val_main_v83 (F := Ideal) X G H D) 0 := by
    unfold val_main_v86 Host.reduceWindowAdd
    have e0 : val_main_call7_v0 (F := Ideal) (Shape.Idx.first h_S_) = 0 := by
      rw [← ix0_eta (Shape.Idx.first h_S_)]
      pointwise [val_main_call7_v0, val_main_call7_cst]
    rw [Ideal.hostReduceWindowAdd_def, e0]
  rw [← e'] at e
  pointwise [val_main_v91, val_main_v90, val_main_v89, val_main_call9_v1, val_main_call9_v0, val_main_v88, val_main_v87, val_main_v85,
    val_main_v84, val_main_call6_v1, val_main_call6_v0, val_main_v66_1, val_main_call8_v0, val_main_call8_cst, val_main_v63, val_main_v62, val_main_v61,
    val_main_v60, val_main_v59, val_main_v58]
  rw [e, ref_e d hX hG hH hD, ref_sg d hX hG hH, ref_lsg d hX hG hH]
  simp only [zero_up, neg_up, mul_up, add_up, before_up]
  refine up_congr ?_
  rw [Ops.Z, Finset.sum_range_succ]
  split
  · ring
  · next hj => rw [Ops.e, Ops.A, if_neg hj]; simp

/-! ## The gradients of the normalised operands -/

/-- The gradient of the values, of one head. -/
theorem ref_dv (hX : Is2 X x) (hG : Is1 G g) (hH : Is1 H h) (hD : Is2 D d) :
    Is2 (n := 2048) (m := 1024) (val_main_v148 (F := Ideal) X G H D)
      (fun j l => ∑ i ∈ range 2048, (whole x g h d).A (rowTotal (whole x g h d)) (l / 64) i j * d i l) := by
  intro j l
  pointwise [val_main_v148, val_main_v97, val_main_v96, val_main_v80, val_main_v79]
  simp only [ref_d hD _ _ _, ref_A d hX hG hH _ _ _, mul_up, sum_up]
  refine up_congr ?_
  rw [Finset.sum_range]
  refine Finset.sum_congr rfl fun i _ => ?_
  rw [Nat.div_add_mod, mul_comm]

/-- The gradient of the normalised keys, of one head. -/
theorem ref_dkn (hX : Is2 X x) (hG : Is1 G g) (hH : Is1 H h) (hD : Is2 D d) :
    Is3 (val_main_v98 (F := Ideal) X G H D)
      (fun j n l => ∑ i ∈ range 2048, (whole x g h d).Z (rowTotal (whole x g h d)) n i j * (whole x g h d).q i (64 * n + l)) := by
  intro j n l
  pointwise [val_main_v98, val_main_v94, val_main_v93, val_main_v92, val_main_cst_10]
  simp only [ref_Z d hX hG hH hD _ _ _, ref_qn hX hG _ _ _, c_eighth, mul_up, sum_up]
  refine up_congr ?_
  rw [Finset.sum_range]
  refine Finset.sum_congr rfl fun i _ => ?_
  simp only [whole, head_mod n.val l.isLt]
  ring

/-- The gradient of the normalised queries, of one head. -/
theorem ref_dqn (hX : Is2 X x) (hG : Is1 G g) (hH : Is1 H h) (hD : Is2 D d) :
    Is3 (val_main_v122 (F := Ideal) X G H D)
      (fun i n l => (∑ j ∈ range 2048, (whole x g h d).Z (rowTotal (whole x g h d)) n i j * (whole x g h d).k j (64 * n + l)) * 0.125) := by
  intro i n l
  pointwise [val_main_v122, val_main_v95, val_main_v93, val_main_v92, val_main_cst_10]
  simp only [ref_Z d hX hG hH hD _ _ _, ref_kn hX hH _ _ _, c_eighth, mul_up, sum_up]
  refine up_congr ?_
  rw [Finset.sum_range, Finset.sum_mul]
  refine Finset.sum_congr rfl fun j _ => ?_
  simp only [whole, head_mod n.val l.isLt]
  ring

end Scores

end Cert.Stick

end
-- ==== Proof.RefOut.lean ====
/- The five results of the reference on arrays of real numbers, each read at an index. -/
module

public import proofs.«01_k».proof.Proof.RefIs

@[expose] public section

set_option maxRecDepth 16384

noncomputable section

namespace Cert.Stick

open Idealize.ShloMosaic Idealize.ShloMosaic.TcCoe Idealize.SL.Sem
open Cert.ReferenceIdeal Cert.ReferenceIdeal.Gen Cert.ReferenceIdeal.Read
open Finset

namespace Ops
variable (O : Ops)

/-- The gradient of the normalised queries. -/
def gq (i l : ℕ) : ℝ := (∑ j ∈ range 2048, O.Z (rowTotal O) (l / 64) i j * O.k j l) * 0.125
/-- The gradient of the normalised keys. -/
def gk (j l : ℕ) : ℝ := ∑ i ∈ range 2048, O.Z (rowTotal O) (l / 64) i j * O.q i l
/-- The gradient of the values. -/
def gv (j l : ℕ) : ℝ := ∑ i ∈ range 2048, O.A (rowTotal O) (l / 64) i j * O.d i l

end Ops

variable {X : S2048x3072.Idx → EReal} {G H : S64.Idx → EReal} {D : S2048x1024.Idx → EReal}
  {x d : ℕ → ℕ → ℝ} {g h : ℕ → ℝ}

theorem ref_gq (hX : Is2 X x) (hG : Is1 G g) (hH : Is1 H h) (hD : Is2 D d) :
    Is3 (val_main_v122 (F := Ideal) X G H D) (fun i n l => (whole x g h d).gq i (64 * n + l)) := by
  intro i n l
  rw [ref_dqn d hX hG hH hD]
  beta_reduce
  rw [Ops.gq, head_div n.val l.isLt]

theorem ref_gk (hX : Is2 X x) (hG : Is1 G g) (hH : Is1 H h) (hD : Is2 D d) :
    Is3 (val_main_v98 (F := Ideal) X G H D) (fun i n l => (whole x g h d).gk i (64 * n + l)) := by
  intro i n l
  rw [ref_dkn d hX hG hH hD]
  beta_reduce
  rw [Ops.gk, head_div n.val l.isLt]

/-- The backward of a head norm, as the reference writes it. -/
theorem nb_eq (t x : ℕ → ℕ → ℝ) (i n : ℕ) {l : ℕ} (hl : l < 64) :
    t i (64 * n + l) * rr x i n
      + x i (64 * n + l) * ((∑ c ∈ range 64, x i (64 * n + c) * t i (64 * n + c)) * (-(1 / 2) * (rr x i n / msq x i n)) / 64)
      + (∑ c ∈ range 64, x i (64 * n + c) * t i (64 * n + c)) * (-(1 / 2) * (rr x i n / msq x i n)) / 64 * x i (64 * n + l)
      = nb t x i (64 * n + l) := by
  have e : ∑ c ∈ range 64, t i (64 * n + c) * xh x i (64 * n + c) = (∑ c ∈ range 64, x i (64 * n + c) * t i (64 * n + c)) * rr x i n := by
    rw [Finset.sum_mul]
    refine Finset.sum_congr rfl fun c hc => ?_
    rw [xh, head_div n (mem_range.1 hc)]; ring
  rw [nb, rr_div, head_div n hl, e, xh, head_div n hl]
  ring

theorem ref_cq (hX : Is2 X x) (hG : Is1 G g) (hH : Is1 H h) (hD : Is2 D d) :
    Is3 (n := 2048) (m := 16) (l := 64) (val_main_v142 (F := Ideal) X G H D) (fun i n l => nb (fun i l => (whole x g h d).gq i l * g (l % 64)) x i (64 * n + l)) := by
  intro i n l
  pointwise [val_main_v142, val_main_v141, val_main_v140, val_main_v139, val_main_v138, val_main_v137, val_main_cst_21, val_main_v136, val_main_v135,
    val_main_cst_20, val_main_v134, val_main_v133, val_main_v132, val_main_v131, val_main_v130, val_main_cst_19, val_main_v129, val_main_v127, val_main_v126]
  simp only [ref_q hX _ _ _, ref_g hG _ _ _, ref_rq hX _ _ _, ref_sq hX _ _ _, ref_gq hX hG hH hD _ _ _, mul_up, sum_up, c_64,
    div_up _ (64 : ℝ) (by norm_num), add_up]
  refine up_congr ?_
  rw [← nb_eq _ x i n l.isLt]
  simp only [Finset.sum_range, head_mod n.val l.isLt, head_mod n.val (Fin.isLt _), Finset.univ_unique, Finset.sum_singleton]

theorem ref_dq (hX : Is2 X x) (hG : Is1 G g) (hH : Is1 H h) (hD : Is2 D d) :
    Is2 (n := 2048) (m := 1024) (val_main_v146 (F := Ideal) X G H D) (nb (fun i l => (whole x g h d).gq i l * g (l % 64)) x) := by
  intro i l
  pointwise [val_main_v146, val_main_v145]
  rw [ref_cq hX hG hH hD]
  exact up_congr (congrArg (nb _ x i) (Nat.div_add_mod _ _))

theorem ref_ck (hX : Is2 X x) (hG : Is1 G g) (hH : Is1 H h) (hD : Is2 D d) :
    Is3 (n := 2048) (m := 16) (l := 64) (val_main_v118 (F := Ideal) X G H D)
      (fun i n l => nb (fun i l => (whole x g h d).gk i l * h (l % 64)) (keyCols x) i (64 * n + l)) := by
  intro i n l
  pointwise [val_main_v118, val_main_v117, val_main_v116, val_main_v115, val_main_v114, val_main_v113, val_main_cst_15, val_main_v112, val_main_v111,
    val_main_cst_14, val_main_v110, val_main_v109, val_main_v108, val_main_v107, val_main_v106, val_main_cst_13, val_main_v105, val_main_v103, val_main_v102]
  simp only [ref_k hX _ _ _, ref_h hH _ _ _, ref_rk hX _ _ _, ref_sk hX _ _ _, ref_gk hX hG hH hD _ _ _, mul_up, sum_up, c_64,
    div_up _ (64 : ℝ) (by norm_num), add_up]
  refine up_congr ?_
  rw [← nb_eq _ (keyCols x) i n l.isLt]
  simp only [Finset.sum_range, head_mod n.val l.isLt, head_mod n.val (Fin.isLt _), Finset.univ_unique, Finset.sum_singleton]

theorem ref_dk (hX : Is2 X x) (hG : Is1 G g) (hH : Is1 H h) (hD : Is2 D d) :
    Is2 (n := 2048) (m := 1024) (val_main_v147 (F := Ideal) X G H D) (nb (fun i l => (whole x g h d).gk i l * h (l % 64)) (keyCols x)) := by
  intro i l
  pointwise [val_main_v147, val_main_v121]
  rw [ref_ck hX hG hH hD]
  exact up_congr (congrArg (nb _ (keyCols x) i) (Nat.div_add_mod _ _))

/-- The sum over the four packs, of a head's place and a lane. -/
theorem sum_packs (h : S4x4x1x64.ReducesTo [0, 2] S4x64) (Y : S4x4x1x64.Idx → EReal) (a : Fin 4) (b : Fin 64) :
    Ideal.hostReduceAdd h Y 0 (ix2 a b) = ∑ p : Fin 4, Y (ix4 p a (0 : Fin 1) b) := by
  have e : ∀ (p q : Fin 4) (r : Fin 1) (s : Fin 64), h.drop (ix4 p q r s) = ix2 q s := by
    intro p q r s
    funext ax
    match ax with
    | ⟨0, _⟩ => rfl
    | ⟨1, _⟩ => rfl
  unfold Ideal.hostReduceAdd
  rw [zero_add, Finset.sum_filter, sum_idx4]
  refine Finset.sum_congr rfl fun p _ => ?_
  simp only [e, ix2_inj, Fin.sum_univ_one]
  rw [Finset.sum_eq_single a (fun q _ hq => by simp [hq]) (by simp), Finset.sum_eq_single b (fun q _ hq => by simp [hq]) (by simp)]
  simp

theorem ref_hq (hX : Is2 X x) (hG : Is1 G g) (hH : Is1 H h) (hD : Is2 D d) :
    ∀ (p a : Fin 4) (b : Fin 64), val_main_v143 (F := Ideal) X G H D (ix4 p a (0 : Fin 1) b)
      = ((∑ i ∈ range 2048, (whole x g h d).gq i (256 * p + (64 * a + b)) * xh x i (256 * p + (64 * a + b)) : ℝ) : EReal) := by
  intro p a b
  pointwise [val_main_v143, val_main_v128, val_main_cst_18, val_main_v125, val_main_v124, val_main_cst_17, val_main_v123]
  simp only [ref_xq hX _ _ _, ref_gq hX hG hH hD _ _ _, mul_up, sum_up]
  refine up_congr ?_
  rw [Finset.sum_range]
  simp only [Finset.univ_unique, Finset.sum_singleton]
  refine Finset.sum_congr rfl fun i _ => ?_
  rw [show 64 * (p.val * 4 + a.val) + b.val = 256 * p.val + (64 * a.val + b.val) by ring, mul_comm]

theorem ref_dqg (hX : Is2 X x) (hG : Is1 G g) (hH : Is1 H h) (hD : Is2 D d) :
    Is2 (n := 1) (m := 256) (val_main_v149 (F := Ideal) X G H D)
      (fun _ l => ∑ p ∈ range 4, ∑ i ∈ range 2048, (whole x g h d).gq i (256 * p + l) * xh x i (256 * p + l)) := by
  intro u l
  have e := sum_packs reducesTo_S4x4x1x64_S4x64_d0_2 (val_main_v143 (F := Ideal) X G H D) ⟨l / 64, by omega⟩ ⟨l % 64, by omega⟩
  pointwise [val_main_v149, val_main_v144, val_main_cst_22]
  rw [e]
  simp only [ref_hq hX hG hH hD _ _ _, sum_up, Nat.div_add_mod]
  rw [Finset.sum_range]

theorem ref_hk (hX : Is2 X x) (hG : Is1 G g) (hH : Is1 H h) (hD : Is2 D d) :
    ∀ (p a : Fin 4) (b : Fin 64), val_main_v119 (F := Ideal) X G H D (ix4 p a (0 : Fin 1) b)
      = ((∑ i ∈ range 2048, (whole x g h d).gk i (256 * p + (64 * a + b)) * xh (keyCols x) i (256 * p + (64 * a + b)) : ℝ) : EReal) := by
  intro p a b
  pointwise [val_main_v119, val_main_v104, val_main_cst_12, val_main_v101, val_main_v100, val_main_cst_11, val_main_v99]
  simp only [ref_xk hX _ _ _, ref_gk hX hG hH hD _ _ _, mul_up, sum_up]
  refine up_congr ?_
  rw [Finset.sum_range]
  simp only [Finset.univ_unique, Finset.sum_singleton]
  refine Finset.sum_congr rfl fun i _ => ?_
  rw [show 64 * (p.val * 4 + a.val) + b.val = 256 * p.val + (64 * a.val + b.val) by ring, mul_comm]

theorem ref_dkg (hX : Is2 X x) (hG : Is1 G g) (hH : Is1 H h) (hD : Is2 D d) :
    Is2 (n := 1) (m := 256) (val_main_v150 (F := Ideal) X G H D)
      (fun _ l => ∑ p ∈ range 4, ∑ i ∈ range 2048, (whole x g h d).gk i (256 * p + l) * xh (keyCols x) i (256 * p + l)) := by
  intro u l
  have e := sum_packs reducesTo_S4x4x1x64_S4x64_d0_2 (val_main_v119 (F := Ideal) X G H D) ⟨l / 64, by omega⟩ ⟨l % 64, by omega⟩
  pointwise [val_main_v150, val_main_v120, val_main_cst_16]
  rw [e]
  simp only [ref_hk hX hG hH hD _ _ _, sum_up, Nat.div_add_mod]
  rw [Finset.sum_range]

theorem ref_dvo (hX : Is2 X x) (hG : Is1 G g) (hH : Is1 H h) (hD : Is2 D d) :
    Is2 (n := 2048) (m := 1024) (val_main_v148 (F := Ideal) X G H D) (fun i l => (whole x g h d).gv i l) := ref_dv d hX hG hH hD

end Cert.Stick

end
-- ==== Proof.HostIs.lean ====
/- What the host operations before the kernel leave in its operands. -/
module

public import proofs.«01_k».proof.Proof.RefOut
public import proofs.«01_k».proof.Proof.Run

@[expose] public section

set_option maxRecDepth 16384

noncomputable section

namespace Cert.Stick

open Idealize.ShloMosaic Idealize.ShloMosaic.TcCoe Idealize.SL.Sem
open Cert.KernelIdeal Cert.KernelIdeal.Gen Cert.KernelIdeal.Stick
open Cert.ReferenceIdeal.Read
open Finset

/-- The gain of the queries spread over rows and heads is the reference's. -/
theorem gain_q (G : S64.Idx → EReal) : broadcastInDim S2048x16x64 ![0, 1, 2] bcast_S1x1x64_S2048x16x64_0_1_2 (broadcastInDim S1x1x64 ![2] bcast_S64_S1x1x64_2 G)
    = val_main_v29 (F := Ideal) G := by
  funext i
  idx_vars i
  pointwise [val_main_v29, val_main_v28, val_main_v14, val_main_v13, val_main_v12, val_main_v6, val_main_v5, val_main_v4, val_main_v3]

/-- The gain of the keys spread over rows and heads is the reference's. -/
theorem gain_k (G : S64.Idx → EReal) : broadcastInDim S2048x16x64 ![0, 1, 2] bcast_S1x1x64_S2048x16x64_0_1_2 (broadcastInDim S1x1x64 ![2] bcast_S64_S1x1x64_2 G)
    = val_main_v50 (F := Ideal) G := by
  funext i
  idx_vars i
  pointwise [val_main_v50, val_main_v49, val_main_v35, val_main_v34, val_main_v33, val_main_v10, val_main_v9, val_main_v8, val_main_v7]

/-- The row sums of `L`, each repeated over the lanes of its head. -/
def spread (L : S16x2048x2048.Idx → EReal) : S2048x1024.Idx → EReal :=
  shapeCast S2048x1024 (broadcastInDim S2048x16x64 ![0, 1, 2] bcast_S2048x16x1_S2048x16x64_0_1_2 (broadcastInDim S2048x16x1 ![0, 1] bcast_S2048x16_S2048x16x1_0_1
    (transpose S2048x16 [1, 0] (Host.reduceAdd (F := Ideal) (φ := .f32) L (constant S_ .f32 0x00000000#32) reducesTo_S16x2048x2048_S16x2048_d2 h_S_) transposes_S16x2048_S2048x16_1_0)))
    shapeCasts_S2048x16x64_S2048x1024

theorem is_spread {L : S16x2048x2048.Idx → EReal} {l : ℕ → ℕ → ℕ → ℝ} (hL : Is3 L l) : Is2 (spread L) (fun i k => ∑ j ∈ range 2048, l (k / 64) i j) := by
  intro i k
  pointwise [spread]
  simp only [hL _ _ _, sum_up]
  rw [Finset.sum_range]

variable (m : (ℓ : Loc nD τ sig) → ℓ.ty.Contents (Elt Ideal)) (c : Dev nD)

theorem host_qg {g : ℕ → ℝ} (hG : Is1 (n := 64) (m ((c.tc : Thread nD τ).loc main_arg1)) g) :
    Is2 (n := 1) (m := 256) (V m c main_v3) (fun _ l => g (l % 64)) := by
  have e : V m c main_v3 = shapeCast S1x256 (broadcastInDim S1x1x4x64 ![0, 1, 2, 3] bcast_S1x1x1x64_S1x1x4x64_0_1_2_3
      (shapeCast S1x1x1x64 (shapeCast S1x64 (show FVec Ideal S64 .f32 from m ((c.tc : Thread nD τ).loc main_arg1)) shapeCasts_S64_S1x64) shapeCasts_S1x64_S1x1x1x64)) shapeCasts_S1x1x4x64_S1x256 := by
    unfold V
    simp only [List.flatten_cons, List.flatten_nil, List.append_nil, List.cons_append, List.nil_append, hostOps0, hostOps0_1, hostOps0_2, hostOps0_3, hostOps0_4]
    after_results_simp
    rfl
  intro i l
  rw [e]
  pointwise
  exact hG _

theorem host_tot_eq : V m c main_v57 = spread (val_main_v66_0 (F := Ideal) (m ((c.tc : Thread nD τ).loc main_arg0)) (m ((c.tc : Thread nD τ).loc main_arg1)) (m ((c.tc : Thread nD τ).loc main_arg2))) := by
  unfold V
  simp only [List.flatten_cons, List.flatten_nil, List.append_nil, List.cons_append, List.nil_append, hostOps0, hostOps0_1, hostOps0_2, hostOps0_3, hostOps0_4]
  after_results_simp
  rw [gain_q (m (c, Proc.tc.devRef main_arg1)), gain_k (m (c, Proc.tc.devRef main_arg2))]
  rfl

theorem host_kg {g : ℕ → ℝ} (hG : Is1 (n := 64) (m ((c.tc : Thread nD τ).loc main_arg2)) g) :
    Is2 (n := 1) (m := 256) (V m c main_v7) (fun _ l => g (l % 64)) := by
  have e : V m c main_v7 = shapeCast S1x256 (broadcastInDim S1x1x4x64 ![0, 1, 2, 3] bcast_S1x1x1x64_S1x1x4x64_0_1_2_3
      (shapeCast S1x1x1x64 (shapeCast S1x64 (show FVec Ideal S64 .f32 from m ((c.tc : Thread nD τ).loc main_arg2)) shapeCasts_S64_S1x64) shapeCasts_S1x64_S1x1x1x64)) shapeCasts_S1x1x4x64_S1x256 := by
    unfold V
    simp only [List.flatten_cons, List.flatten_nil, List.append_nil, List.cons_append, List.nil_append, hostOps0, hostOps0_1, hostOps0_2, hostOps0_3, hostOps0_4]
    after_results_simp
    rfl
  intro i l
  rw [e]
  pointwise
  exact hG _

/-- The totals the kernel is handed are the reference's row sums. -/
theorem host_tot {x d : ℕ → ℕ → ℝ} {g h : ℕ → ℝ} (hX : Is2 (n := 2048) (m := 3072) (m ((c.tc : Thread nD τ).loc main_arg0)) x)
    (hG : Is1 (n := 64) (m ((c.tc : Thread nD τ).loc main_arg1)) g) (hH : Is1 (n := 64) (m ((c.tc : Thread nD τ).loc main_arg2)) h) :
    Is2 (n := 2048) (m := 1024) (V m c main_v57) (fun i k => rowTotal (whole x g h d) (k / 64) i) := by
  rw [host_tot_eq]
  exact is_spread (ref_L d hX hG hH)

end Cert.Stick

end
-- ==== Proof.AccIs.lean ====
/- The gradients the kernel accumulates for the four heads of one block of columns. -/
module

public import proofs.«01_k».proof.Proof.RefOut
public import proofs.«01_k».proof.Proof.Body

@[expose] public section

set_option maxRecDepth 16384

noncomputable section

namespace Cert.Stick

open Idealize.ShloMosaic Idealize.ShloMosaic.TcCoe Idealize.SL.Sem
open Cert.KernelIdeal Cert.KernelIdeal.Gen Cert.KernelIdeal.Stick
open Finset

/-- The columns from `256 * p` on. -/
def cols (p : ℕ) (x : ℕ → ℕ → ℝ) (i l : ℕ) : ℝ := x i (256 * p + l)

namespace Ops
variable (O : Ops) (p : ℕ)

/-- The operands of the four heads from head `4 * p` on. -/
def pack : Ops := ⟨cols p O.q, cols p O.k, cols p O.v, cols p O.d⟩
/-- Their totals. -/
def packT (h i : ℕ) : ℝ := rowTotal O (4 * p + h) i

theorem lane_pack (h l : ℕ) : 256 * p + (64 * h + l) = 64 * (4 * p + h) + l := by ring

theorem pack_z (h i j : ℕ) : (O.pack p).z h i j = O.z (4 * p + h) i j := by
  simp only [z, pack, cols, lane_pack]
theorem pack_L (h i j : ℕ) : (O.pack p).L h i j = O.L (4 * p + h) i j := by
  simp only [L, pack_z]
theorem pack_A (h i j : ℕ) : (O.pack p).A (O.packT p) h i j = O.A (rowTotal O) (4 * p + h) i j := by
  simp only [A, W, pack_z, pack_L, packT]
theorem pack_e (h i j : ℕ) : (O.pack p).e (O.packT p) h i j = O.e (rowTotal O) (4 * p + h) i j := by
  simp only [e, G, pack_A]
  simp only [pack, cols, lane_pack]
theorem pack_Z (h i j : ℕ) : (O.pack p).Z (O.packT p) h i j = O.Z (rowTotal O) (4 * p + h) i j := by
  simp only [Z, pack_z, pack_e]

theorem head_lane (l : ℕ) : (256 * p + l) / 64 = 4 * p + l / 64 := by omega

theorem pack_Qd (i : ℕ) {l : ℕ} (hl : l < 256) : Qd (O.pack p) (O.packT p) 2048 i l * 0.125 = cols p O.gq i l := by
  rw [Qd, sum_pick _ l hl, cols, gq, head_lane]
  simp only [pack_Z]
  rfl
theorem pack_Kd (j : ℕ) {l : ℕ} (hl : l < 256) : Kd (O.pack p) (O.packT p) 8 j l = cols p O.gk j l := by
  simp only [Kd, pack_Z]
  rw [cols, gk, head_lane]
  simp only [← mul_assoc, ← Finset.sum_mul]
  rw [sum_pick _ l hl]
  rfl
theorem pack_Vd (j : ℕ) {l : ℕ} (hl : l < 256) : Vd (O.pack p) (O.packT p) 8 j l = cols p O.gv j l := by
  simp only [Vd, pack_A]
  rw [cols, gv, head_lane]
  simp only [← mul_assoc, ← Finset.sum_mul]
  rw [sum_pick _ l hl]
  rfl

end Ops

theorem start_zero (O : Ops) (T : ℕ → ℕ → ℝ) : AccOk O T 0 (⟨k0_pay101, k0_pay101, k0_pay102⟩ : Acc Ideal) := by
  constructor
  · intro i l
    pointwise [k0_pay101]
    simp
  · intro i l
    pointwise [k0_pay101]
    simp [Kd]
  · intro i l
    pointwise [k0_pay102]
    simp [Vd]

variable {q k v tot dout : S2048x256.Idx → EReal} {qg kg : S1x256.Idx → EReal} {x d : ℕ → ℕ → ℝ} {g h : ℕ → ℝ} {p : ℕ}

/-- What one point of the grid accumulates, from its blocks of the operands. -/
theorem acc_ok (hq : Is2 q (cols p x)) (hk : Is2 k (cols p (keyCols x))) (hv : Is2 v (cols p (valCols x)))
    (hqg : Is2 qg (fun _ l => g (l % 64))) (hkg : Is2 kg (fun _ l => h (l % 64)))
    (ht : Is2 tot (cols p fun i k => rowTotal (whole x g h d) (k / 64) i)) (hd' : Is2 dout (cols p d)) :
    Is2 (n := 2048) (m := 256) (acc (F := Ideal) q k v qg kg tot dout).dq (cols p (whole x g h d).gq)
    ∧ Is2 (n := 2048) (m := 256) (acc (F := Ideal) q k v qg kg tot dout).dk (cols p (whole x g h d).gk)
    ∧ Is2 (n := 2048) (m := 256) (acc (F := Ideal) q k v qg kg tot dout).dv (cols p (whole x g h d).gv) := by
  have hx : ∀ (y : ℕ → ℕ → ℝ) (i l : ℕ), xh (cols p y) i l = xh y i (256 * p + l) := by
    intro y i l
    simp only [xh, rr, cols, Ops.head_lane, Ops.lane_pack]
  have hm : ∀ l, (256 * p + l) % 64 = l % 64 := fun l => by omega
  have eq : Is2 (n := 2048) (m := 256) (qsV (F := Ideal) q qg) ((whole x g h d).pack p).q := by
    intro i l
    rw [is_qs hq hqg]
    simp only [hx, Ops.pack, whole, cols, hm]
  have ek : Is2 (n := 2048) (m := 256) (knV (F := Ideal) k kg) ((whole x g h d).pack p).k := by
    intro i l
    rw [is_kn hk hkg]
    simp only [hx, Ops.pack, whole, cols, hm]
  have ev : Is2 (n := 2048) (m := 256) (vV (F := Ideal) v) ((whole x g h d).pack p).v := is_v hv
  have h8 := blocks_ok ((whole x g h d).pack p) ((whole x g h d).packT p) causal_ok masks_ok
    (fun n hn => query_ok ((whole x g h d).pack p) ((whole x g h d).packT p) ht (fun n hn i hi => by
      simp only [cols, Ops.packT, show (256 * p + 64 * n) / 64 = 4 * p + n by omega]) eq hd' n hn) ek ev (start_zero _ _) 8 le_rfl
  refine ⟨fun i l => ?_, fun i l => ?_, fun i l => ?_⟩
  · refine (h8.dq i l).trans (up_congr ?_)
    have hi := i.isLt
    beta_reduce
    rw [if_pos (by omega), Ops.pack_Qd _ p i l.isLt]
  · exact (h8.dk i l).trans (up_congr (Ops.pack_Kd _ p i l.isLt))
  · exact (h8.dv i l).trans (up_congr (Ops.pack_Vd _ p i l.isLt))

end Cert.Stick

end
-- ==== Proof.Blocks.lean ====
/- The blocks of the operands at each point of the grid. -/
module

public import proofs.«01_k».proof.Proof.HostIs
public import proofs.«01_k».proof.Proof.AccIs

@[expose] public section

set_option maxRecDepth 16384

noncomputable section

namespace Cert.Stick

open Idealize.ShloMosaic Idealize.ShloMosaic.TcCoe Idealize.SL.Sem
open Cert.KernelIdeal Cert.KernelIdeal.Gen Cert.KernelIdeal.Stick
open Finset

/-- The index maps of the operands. -/
theorem idx_in : ∀ t : Fin cfg0.N, win0_0.index t = ![0, t.val] ∧ win0_1.index t = ![0, 4 + t.val] ∧ win0_2.index t = ![0, 8 + t.val]
    ∧ win0_3.index t = ![0, 0] ∧ win0_4.index t = ![0, 0] ∧ win0_5.index t = ![0, t.val] ∧ win0_6.index t = ![0, t.val] :=
  (by decide +kernel : ∀ t : Fin grid0.N, _)
/-- The index maps of the results. -/
theorem idx_out : ∀ t : Fin cfg0.N, win0_7.index t = ![0, t.val] ∧ win0_8.index t = ![0, t.val] ∧ win0_9.index t = ![0, t.val]
    ∧ win0_10.index t = ![0, 0] ∧ win0_11.index t = ![0, 0] :=
  (by decide +kernel : ∀ t : Fin grid0.N, _)

variable (m : (ℓ : Loc nD τ sig) → ℓ.ty.Contents (Elt Ideal)) (c : Dev nD)

/-- The arguments are the real numbers `x`, `g`, `h`, `d`. -/
structure Args (x : ℕ → ℕ → ℝ) (g h : ℕ → ℝ) (d : ℕ → ℕ → ℝ) : Prop where
  hx : Is2 (n := 2048) (m := 3072) (m ((c.tc : Thread nD τ).loc main_arg0)) x
  hg : Is1 (n := 64) (m ((c.tc : Thread nD τ).loc main_arg1)) g
  hh : Is1 (n := 64) (m ((c.tc : Thread nD τ).loc main_arg2)) h
  hd : Is2 (n := 2048) (m := 1024) (m ((c.tc : Thread nD τ).loc main_arg3)) d

variable {m c} {x d : ℕ → ℕ → ℝ} {g h : ℕ → ℝ}

theorem blk_q (A : Args m c x g h d) (t : Fin cfg0.N) : Is2 (n := 2048) (m := 256) (iblk m c 0 t) (cols t.val x) := by
  intro i l
  have ht : t.val < 4 := lt_of_lt_of_eq t.isLt N_0
  have e : iblk m c 0 t (ix2 i l) = m ((c.tc : Thread nD τ).loc main_arg0) (ix2 i ⟨256 * t.val + l.val, by have := l.isLt; omega⟩) := by
    blk_ext [iblk, V, idx_in t]
  rw [e, A.hx]
  rfl
theorem blk_k (A : Args m c x g h d) (t : Fin cfg0.N) : Is2 (n := 2048) (m := 256) (iblk m c 1 t) (cols t.val (keyCols x)) := by
  intro i l
  have ht : t.val < 4 := lt_of_lt_of_eq t.isLt N_0
  have e : iblk m c 1 t (ix2 i l) = m ((c.tc : Thread nD τ).loc main_arg0) (ix2 i ⟨1024 + (256 * t.val + l.val), by have := l.isLt; omega⟩) := by
    blk_ext [iblk, V, idx_in t]
  rw [e, A.hx]
  rfl
theorem blk_v (A : Args m c x g h d) (t : Fin cfg0.N) : Is2 (n := 2048) (m := 256) (iblk m c 2 t) (cols t.val (valCols x)) := by
  intro i l
  have ht : t.val < 4 := lt_of_lt_of_eq t.isLt N_0
  have e : iblk m c 2 t (ix2 i l) = m ((c.tc : Thread nD τ).loc main_arg0) (ix2 i ⟨2048 + (256 * t.val + l.val), by have := l.isLt; omega⟩) := by
    blk_ext [iblk, V, idx_in t]
  rw [e, A.hx]
  rfl
theorem blk_qg (A : Args m c x g h d) (t : Fin cfg0.N) : Is2 (n := 1) (m := 256) (iblk m c 3 t) (fun _ l => g (l % 64)) := by
  intro i l
  have e : iblk m c 3 t (ix2 i l) = V m c main_v3 (ix2 i l) := by
    blk_ext [iblk, idx_in t]
  rw [e, host_qg m c A.hg]
theorem blk_kg (A : Args m c x g h d) (t : Fin cfg0.N) : Is2 (n := 1) (m := 256) (iblk m c 4 t) (fun _ l => h (l % 64)) := by
  intro i l
  have e : iblk m c 4 t (ix2 i l) = V m c main_v7 (ix2 i l) := by
    blk_ext [iblk, idx_in t]
  rw [e, host_kg m c A.hh]
theorem blk_tot (A : Args m c x g h d) (t : Fin cfg0.N) :
    Is2 (n := 2048) (m := 256) (iblk m c 5 t) (cols t.val fun i k => rowTotal (whole x g h d) (k / 64) i) := by
  intro i l
  have ht : t.val < 4 := lt_of_lt_of_eq t.isLt N_0
  have e : iblk m c 5 t (ix2 i l) = V m c main_v57 (ix2 i ⟨256 * t.val + l.val, by have := l.isLt; omega⟩) := by
    blk_ext [iblk, idx_in t]
  rw [e, host_tot m c A.hx A.hg A.hh (d := d)]
  rfl
theorem blk_d (A : Args m c x g h d) (t : Fin cfg0.N) : Is2 (n := 2048) (m := 256) (iblk m c 6 t) (cols t.val d) := by
  intro i l
  have ht : t.val < 4 := lt_of_lt_of_eq t.isLt N_0
  have e : iblk m c 6 t (ix2 i l) = m ((c.tc : Thread nD τ).loc main_arg3) (ix2 i ⟨256 * t.val + l.val, by have := l.isLt; omega⟩) := by
    blk_ext [iblk, V, idx_in t]
  rw [e, A.hd]
  rfl

/-- What each point accumulates. -/
theorem acc_at (A : Args m c x g h d) (t : Fin cfg0.N) :
    Is2 (n := 2048) (m := 256) (accAt m c t).dq (cols t.val (whole x g h d).gq)
    ∧ Is2 (n := 2048) (m := 256) (accAt m c t).dk (cols t.val (whole x g h d).gk)
    ∧ Is2 (n := 2048) (m := 256) (accAt m c t).dv (cols t.val (whole x g h d).gv) :=
  acc_ok (blk_q A t) (blk_k A t) (blk_v A t) (blk_qg A t) (blk_kg A t) (blk_tot A t) (blk_d A t)

end Cert.Stick

end
-- ==== Proof.Out.lean ====
/- The arrays the kernel leaves are the reference's results. -/
module

public import proofs.«01_k».proof.Proof.Blocks

@[expose] public section

set_option maxRecDepth 16384

noncomputable section

namespace Cert.Stick

open Idealize.ShloMosaic Idealize.ShloMosaic.TcCoe Idealize.SL.Sem
open Cert.KernelIdeal Cert.KernelIdeal.Gen Cert.KernelIdeal.Stick
open Cert.ReferenceIdeal.Read
open Finset

theorem xh_cols (p : ℕ) (y : ℕ → ℕ → ℝ) (i l : ℕ) : xh (cols p y) i l = xh y i (256 * p + l) := by
  simp only [xh, rr, cols, Ops.head_lane, Ops.lane_pack]

/-- The gradient through the norm of some heads is the same columns of the gradient through the norm of all. -/
theorem nb_cols (p : ℕ) (a y : ℕ → ℕ → ℝ) (i l : ℕ) : nb (cols p a) (cols p y) i l = cols p (nb a y) i l := by
  simp only [nb, xh_cols, rr, cols, Ops.head_lane, Ops.lane_pack]

/-- A gain repeated over the heads, at some columns. -/
theorem gain_cols (p : ℕ) (a : ℕ → ℕ → ℝ) (g : ℕ → ℝ) :
    (fun i l => cols p a i l * g (l % 64)) = cols p fun i l => a i l * g (l % 64) := by
  funext i l
  simp only [cols, show (256 * p + l) % 64 = l % 64 by omega]

variable {m : (ℓ : Loc nD τ sig) → ℓ.ty.Contents (Elt Ideal)} {c : Dev nD} {x d : ℕ → ℕ → ℝ} {g h : ℕ → ℝ}

theorem part_dq (A : Args m c x g h d) (t : Fin cfg0.N) : Is2 (n := 2048) (m := 256) (dqF (accAt m c t).dq (iblk m c 0 t) (iblk m c 3 t))
    (cols t.val (nb (fun i l => (whole x g h d).gq i l * g (l % 64)) x)) := by
  intro i l
  rw [is_dqF (acc_at A t).1 (blk_q A t) (blk_qg A t), gain_cols, nb_cols]
theorem part_dk (A : Args m c x g h d) (t : Fin cfg0.N) : Is2 (n := 2048) (m := 256) (dkF (accAt m c t).dk (iblk m c 1 t) (iblk m c 4 t))
    (cols t.val (nb (fun i l => (whole x g h d).gk i l * h (l % 64)) (keyCols x))) := by
  intro i l
  rw [is_dkF (acc_at A t).2.1 (blk_k A t) (blk_kg A t), gain_cols, nb_cols]
theorem part_dv (A : Args m c x g h d) (t : Fin cfg0.N) : Is2 (n := 2048) (m := 256) (dvF (accAt m c t).dv)
    (cols t.val (whole x g h d).gv) := is_dvF (acc_at A t).2.2

theorem part_dqg (A : Args m c x g h d) (t : Fin cfg0.N) : Is2 (n := 1) (m := 256) (dqgPart m c t)
    (fun _ l => ∑ i ∈ range 2048, (whole x g h d).gq i (256 * t.val + l) * xh x i (256 * t.val + l)) := by
  intro i l
  rw [dqgPart, is_dqgF (acc_at A t).1 (blk_q A t)]
  simp only [xh_cols, cols]
theorem part_dkg (A : Args m c x g h d) (t : Fin cfg0.N) : Is2 (n := 1) (m := 256) (dkgPart m c t)
    (fun _ l => ∑ i ∈ range 2048, (whole x g h d).gk i (256 * t.val + l) * xh (keyCols x) i (256 * t.val + l)) := by
  intro i l
  rw [dkgPart, is_dkgF (acc_at A t).2.1 (blk_k A t)]
  simp only [xh_cols, cols]

theorem sum_dqg (A : Args m c x g h d) : ∀ (n : ℕ) (hn : n < cfg0.N), Is2 (n := 1) (m := 256) (dqgAcc m c n hn)
    (fun _ l => ∑ p ∈ range (n + 1), ∑ i ∈ range 2048, (whole x g h d).gq i (256 * p + l) * xh x i (256 * p + l))
  | 0, hn => fun i l => by
    rw [dqgAcc, part_dqg A ⟨0, hn⟩ i l]
    beta_reduce
    rw [zero_add, Finset.sum_range_one]
  | n + 1, hn => fun i l => by
    have e : dqgAcc m c (n + 1) hn (ix2 i l) = dqgAcc m c n (Nat.lt_of_succ_lt hn) (ix2 i l) + dqgPart m c ⟨n + 1, hn⟩ (ix2 i l) := by
      rw [dqgAcc]
      pointwise [k0_pay1]
    rw [e, sum_dqg A n _ i l, part_dqg A ⟨n + 1, hn⟩ i l, add_up]
    beta_reduce
    rw [Finset.sum_range_succ _ (n + 1)]
theorem sum_dkg (A : Args m c x g h d) : ∀ (n : ℕ) (hn : n < cfg0.N), Is2 (n := 1) (m := 256) (dkgAcc m c n hn)
    (fun _ l => ∑ p ∈ range (n + 1), ∑ i ∈ range 2048, (whole x g h d).gk i (256 * p + l) * xh (keyCols x) i (256 * p + l))
  | 0, hn => fun i l => by
    rw [dkgAcc, part_dkg A ⟨0, hn⟩ i l]
    beta_reduce
    rw [zero_add, Finset.sum_range_one]
  | n + 1, hn => fun i l => by
    have e : dkgAcc m c (n + 1) hn (ix2 i l) = dkgAcc m c n (Nat.lt_of_succ_lt hn) (ix2 i l) + dkgPart m c ⟨n + 1, hn⟩ (ix2 i l) := by
      rw [dkgAcc]
      pointwise [k0_pay2]
    rw [e, sum_dkg A n _ i l, part_dkg A ⟨n + 1, hn⟩ i l, add_up]
    beta_reduce
    rw [Finset.sum_range_succ _ (n + 1)]

/-- The reference's results over the kernel's arguments. -/
abbrev refQ (m : (ℓ : Loc nD τ sig) → ℓ.ty.Contents (Elt Ideal)) (c : Dev nD) := val_main_v146 (F := Ideal) (m ((c.tc : Thread nD τ).loc main_arg0))
  (m ((c.tc : Thread nD τ).loc main_arg1)) (m ((c.tc : Thread nD τ).loc main_arg2)) (m ((c.tc : Thread nD τ).loc main_arg3))
abbrev refK (m : (ℓ : Loc nD τ sig) → ℓ.ty.Contents (Elt Ideal)) (c : Dev nD) := val_main_v147 (F := Ideal) (m ((c.tc : Thread nD τ).loc main_arg0))
  (m ((c.tc : Thread nD τ).loc main_arg1)) (m ((c.tc : Thread nD τ).loc main_arg2)) (m ((c.tc : Thread nD τ).loc main_arg3))
abbrev refV (m : (ℓ : Loc nD τ sig) → ℓ.ty.Contents (Elt Ideal)) (c : Dev nD) := val_main_v148 (F := Ideal) (m ((c.tc : Thread nD τ).loc main_arg0))
  (m ((c.tc : Thread nD τ).loc main_arg1)) (m ((c.tc : Thread nD τ).loc main_arg2)) (m ((c.tc : Thread nD τ).loc main_arg3))
abbrev refQg (m : (ℓ : Loc nD τ sig) → ℓ.ty.Contents (Elt Ideal)) (c : Dev nD) := val_main_v149 (F := Ideal) (m ((c.tc : Thread nD τ).loc main_arg0))
  (m ((c.tc : Thread nD τ).loc main_arg1)) (m ((c.tc : Thread nD τ).loc main_arg2)) (m ((c.tc : Thread nD τ).loc main_arg3))
abbrev refKg (m : (ℓ : Loc nD τ sig) → ℓ.ty.Contents (Elt Ideal)) (c : Dev nD) := val_main_v150 (F := Ideal) (m ((c.tc : Thread nD τ).loc main_arg0))
  (m ((c.tc : Thread nD τ).loc main_arg1)) (m ((c.tc : Thread nD τ).loc main_arg2)) (m ((c.tc : Thread nD τ).loc main_arg3))

theorem out_dq (A : Args m c x g h d) : (dats m 0 c).arrAt 7 (cfgs 0).N = refQ m c := by
  refine (dats m 0 c).arrAt_eq_of_covers 7 _ (by decide +kernel) fun t _ y => ?_
  blk_simp
  rw [after0_7]
  have ht : t.val < 4 := lt_of_lt_of_eq t.isLt N_0
  have hy : (y 1).val < 256 := (y 1).isLt
  refine Eq.trans ?_ ((part_dq A t (y 0) (y 1)).trans ((ref_dq A.hx A.hg A.hh A.hd (y 0) ⟨256 * t.val + (y 1).val, by omega⟩).symm.trans ?_))
  · blk_ext [idx_out t]
  · blk_ext [idx_out t]

theorem out_dk (A : Args m c x g h d) : (dats m 0 c).arrAt 8 (cfgs 0).N = refK m c := by
  refine (dats m 0 c).arrAt_eq_of_covers 8 _ (by decide +kernel) fun t _ y => ?_
  blk_simp
  rw [after0_8]
  have ht : t.val < 4 := lt_of_lt_of_eq t.isLt N_0
  have hy : (y 1).val < 256 := (y 1).isLt
  refine Eq.trans ?_ ((part_dk A t (y 0) (y 1)).trans ((ref_dk A.hx A.hg A.hh A.hd (y 0) ⟨256 * t.val + (y 1).val, by omega⟩).symm.trans ?_))
  · blk_ext [idx_out t]
  · blk_ext [idx_out t]

theorem out_dv (A : Args m c x g h d) : (dats m 0 c).arrAt 9 (cfgs 0).N = refV m c := by
  refine (dats m 0 c).arrAt_eq_of_covers 9 _ (by decide +kernel) fun t _ y => ?_
  blk_simp
  rw [after0_9]
  have ht : t.val < 4 := lt_of_lt_of_eq t.isLt N_0
  have hy : (y 1).val < 256 := (y 1).isLt
  refine Eq.trans ?_ ((part_dv A t (y 0) (y 1)).trans ((ref_dvo A.hx A.hg A.hh A.hd (y 0) ⟨256 * t.val + (y 1).val, by omega⟩).symm.trans ?_))
  · blk_ext [idx_out t]
  · blk_ext [idx_out t]

theorem out_dqg (A : Args m c x g h d) : (dats m 0 c).arrAt 10 (cfgs 0).N = refQg m c := by
  refine (dats m 0 c).arrAt_eq_of_after_last 10 t0_3 (by decide +kernel) _ fun j => ?_
  blk_simp
  rw [after0_10]
  refine Eq.trans ?_ ((sum_dqg A t0_3.val t0_3.isLt (j 0) (j 1)).trans ((ref_dqg A.hx A.hg A.hh A.hd (j 0) (j 1)).symm.trans ?_))
  · blk_ext [idx_out t0_3]
  · blk_ext [idx_out t0_3]

theorem out_dkg (A : Args m c x g h d) : (dats m 0 c).arrAt 11 (cfgs 0).N = refKg m c := by
  refine (dats m 0 c).arrAt_eq_of_after_last 11 t0_3 (by decide +kernel) _ fun j => ?_
  blk_simp
  rw [after0_11]
  refine Eq.trans ?_ ((sum_dkg A t0_3.val t0_3.isLt (j 0) (j 1)).trans ((ref_dkg A.hx A.hg A.hh A.hd (j 0) (j 1)).symm.trans ?_))
  · blk_ext [idx_out t0_3]
  · blk_ext [idx_out t0_3]

/-! ## The results in the memory a run ends with -/

section Post
variable (D : (p : Fin 1) → (c : Dev nD) → Pipeline.Dat τ (Elt Ideal) Unit ℕ (UR sig nD τ) ℕ (cfgs p) c)
  (B : (c : Dev nD) → (b : Ref sig .tc) → Buf (Elt Ideal) ((c.tc : Thread nD τ).loc b)) (r : PUnit × MemSt nD τ sig (Elt Ideal))

theorem post_results (hr : Pipeline.FramePost cfgs D 0 B r) (c : Dev nD) :
    r.2.mem ((c.tc : Thread nD τ).loc main_v58_0) = (D 0 c).arrAt 7 (cfgs 0).N
    ∧ r.2.mem ((c.tc : Thread nD τ).loc main_v58_1) = (D 0 c).arrAt 8 (cfgs 0).N
    ∧ r.2.mem ((c.tc : Thread nD τ).loc main_v58_2) = (D 0 c).arrAt 9 (cfgs 0).N
    ∧ r.2.mem ((c.tc : Thread nD τ).loc main_v58_3) = (D 0 c).arrAt 10 (cfgs 0).N
    ∧ r.2.mem ((c.tc : Thread nD τ).loc main_v58_4) = (D 0 c).arrAt 11 (cfgs 0).N :=
  ⟨(hr c).1 7, (hr c).1 8, (hr c).1 9, (hr c).1 10, (hr c).1 11⟩

end Post

/-- The kernel's results are the reference's terms over its arguments. -/
theorem results {r : PUnit × MemSt nD τ sig (Elt Ideal)} (hr : Pipeline.FramePost cfgs (dats m) 0 (V m) r) (A : Args m c x g h d) :
    r.2.mem ((c.tc : Thread nD τ).loc main_v58_0) = refQ m c
    ∧ r.2.mem ((c.tc : Thread nD τ).loc main_v58_1) = refK m c
    ∧ r.2.mem ((c.tc : Thread nD τ).loc main_v58_2) = refV m c
    ∧ r.2.mem ((c.tc : Thread nD τ).loc main_v58_3) = refQg m c
    ∧ r.2.mem ((c.tc : Thread nD τ).loc main_v58_4) = refKg m c := by
  obtain ⟨h0, h1, h2, h3, h4⟩ := post_results (dats m) (V m) r hr c
  rw [out_dq A] at h0
  rw [out_dk A] at h1
  rw [out_dv A] at h2
  rw [out_dqg A] at h3
  rw [out_dkg A] at h4
  exact ⟨h0, h1, h2, h3, h4⟩

end Cert.Stick

end
-- ==== Proof.Finite.lean ====
/- Arguments of finite elements are real numbers. -/
module

public import proofs.«01_k».proof.Defs
public import proofs.«01_k».proof.Proof.Blocks
public import Idealize.ShloMosaic.Lib.ReduceAll

@[expose] public section

set_option maxRecDepth 16384

noncomputable section

namespace Cert.Stick

open Idealize.ShloMosaic Idealize.ShloMosaic.TcCoe Idealize.SL.Sem
open Cert.KernelIdeal Cert.KernelIdeal.Gen Cert.KernelIdeal.Stick
open Finset

theorem facts_finite : Cert.Pre_finite.Facts where
  bcast_S_S2048x3072 := by decide
  reducesTo_S2048x3072_S_d0_1 := by decide
  h_S_ := by decide
  bcast_S_S64 := by decide
  reducesTo_S64_S_d0 := by decide
  bitsLt_bf16_f32 := by decide
  bcast_S_S2048x1024 := by decide
  reducesTo_S2048x1024_S_d0_1 := by decide

/-- A value whose distance from zero is less than infinity is a real number. -/
theorem real_of_lt {v : EReal} (hv : max v (-v) < ⊤) : ((v.toReal : ℝ) : EReal) = v :=
  EReal.coe_toReal (fun e => by simp [e] at hv) (fun e => by simp [e] at hv)

/-- The test of every element against infinity says that each is a real number. -/
theorem elem_real {S u t : Shape} {φ : FTy} {axes : List (Fin S.rank)} [Subsingleton t.Idx] (X T : FVec Ideal S φ) (hT : ∀ i, T i = ⊤)
    (init : u.Idx → BitVec 1) (hr : S.ReducesTo axes t) (hu : 0 < u.numel) (j : t.Idx)
    (e : Host.reduce IntOp.andi (cmpf .olt (Host.absf X) T) init hr hu j = 1#1) (i : S.Idx) : (((X i).toReal : ℝ) : EReal) = X i := by
  have h1 : (cmpf .olt (Host.absf X) T) i = 1#1 := Host.reduce_andi_all _ init hr hu j e i
  refine real_of_lt ?_
  have h2 : Ideal.cmp .olt (max (X i) (-(X i))) (T i) = 1#1 := h1
  rw [hT] at h2
  by_contra hn
  exact absurd h2 (by simp [Ideal.cmp, hn])

instance one_index : Subsingleton (⟨0, ![]⟩ : Shape).Idx := ⟨fun a b => funext fun k => k.elim0⟩

/-- Arguments that pass the test are real numbers. -/
theorem args_of_finite [Cert.Pre_finite.Facts] {m : (ℓ : Loc nD τ sig) → ℓ.ty.Contents (Elt Ideal)} (hm : Cert.Pre_KernelIdeal_finite m) (c : Dev nD) :
    ∃ x g h d, Args m c x g h d := by
  have e := congrFun (hm c) ix0
  simp only [Cert.Pre_finite.fn, Cert.Pre_finite.fn_part1] at e
  obtain ⟨e, e3⟩ := IntOp.andi_eq_one.1 e
  obtain ⟨e, e2⟩ := IntOp.andi_eq_one.1 e
  obtain ⟨e0, e1⟩ := IntOp.andi_eq_one.1 e
  have r0 := elem_real _ _ (fun _ => c_inf) _ _ _ _ e0
  have r1 := elem_real _ _ (fun _ => c_inf) _ _ _ _ e1
  have r2 := elem_real _ _ (fun _ => c_inf) _ _ _ _ e2
  have r3 := elem_real _ _ (fun _ => c_inf) _ _ _ _ e3
  refine ⟨fun i j => if hij : i < 2048 ∧ j < 3072 then EReal.toReal (m ((c.tc : Thread nD τ).loc main_arg0) (ix2 ⟨i, hij.1⟩ ⟨j, hij.2⟩)) else 0,
    fun j => if hj : j < 64 then EReal.toReal (m ((c.tc : Thread nD τ).loc main_arg1) (ix1 ⟨j, hj⟩)) else 0,
    fun j => if hj : j < 64 then EReal.toReal (m ((c.tc : Thread nD τ).loc main_arg2) (ix1 ⟨j, hj⟩)) else 0,
    fun i j => if hij : i < 2048 ∧ j < 1024 then EReal.toReal (m ((c.tc : Thread nD τ).loc main_arg3) (ix2 ⟨i, hij.1⟩ ⟨j, hij.2⟩)) else 0,
    fun i j => ?_, fun j => ?_, fun j => ?_, fun i j => ?_⟩
  · rw [dif_pos ⟨i.isLt, j.isLt⟩]; exact (r0 (ix2 i j)).symm
  · rw [dif_pos j.isLt]; exact (r1 (ix1 j)).symm
  · rw [dif_pos j.isLt]; exact (r2 (ix1 j)).symm
  · rw [dif_pos ⟨i.isLt, j.isLt⟩]; exact (r3 (ix2 i j)).symm

end Cert.Stick

end
-- ==== Proof.FfnAct.lean ====
/- The gradient through the feed-forward block's gate: the idealized kernel's array is the reference's. -/
module

public import proofs.«01_k».proof.Defs
public import proofs.«01_k».proof.Proof.Finite
public import proofs.«01_k».proof.Proof.Gen.ActBwdIdeal.Value
public import proofs.«01_k».proof.Proof.Gen.ActBwdReferenceIdeal.Read
public import Idealize.ShloMosaic.Lib.Pipeline.ValueKit
public import Idealize.ShloMosaic.Lib.Pointwise

@[expose] public section

set_option maxRecDepth 16384

noncomputable section

namespace Cert.ActBwdIdeal.Gate

open Idealize.ShloMosaic Idealize.ShloMosaic.TcCoe Idealize.SL.Sem
open Cert.Stick Cert.ActBwdIdeal Cert.ActBwdIdeal.Gen Cert.ActBwdReferenceIdeal.Read

theorem facts_act_finite : Cert.Pre_act_finite.Facts where
  bitsLt_bf16_f32 := by decide
  bcast_S_S2048x2816 := by decide
  reducesTo_S2048x2816_S_d0_1 := by decide
  h_S_ := by decide
  bcast_S_S2048x5632 := by decide
  reducesTo_S2048x5632_S_d0_1 := by decide

/-- The gate's gradient as the kernel writes it and as the reference sums it. -/
theorem gate (d p x : ℝ) :
    (d : EReal) * (p : EReal) * (Ideal.div 1 (1 + Ideal.exp (0 - (x : EReal))) * (1 + (x : EReal) * (1 - Ideal.div 1 (1 + Ideal.exp (0 - (x : EReal))))))
      = (d : EReal) * (p : EReal) * Ideal.div 1 (1 + Ideal.exp (-(x : EReal)))
        + (x : EReal) * ((d : EReal) * (p : EReal)) * (Ideal.div 1 (1 + Ideal.exp (-(x : EReal))) * (1 - Ideal.div 1 (1 + Ideal.exp (-(x : EReal))))) := by
  have h : (1 + Real.exp (-x) : ℝ) ≠ 0 := by positivity
  rw [zero_sub, neg_up, exp_up, one_up, add_up, div_up _ _ h]
  simp only [mul_up, sub_up, add_up]
  congr 1
  ring

/-- One block, in its first half of columns: the gate's gradient. -/
theorem block_gate (d : Vec Ideal S256x2816 .bf16) (u : Vec Ideal S256x5632 .bf16) (i : Fin 256) (j : Fin 2816) :
    k0_pay1 (F := Ideal) d u (ix2 i ⟨j.val, by omega⟩)
      = d (ix2 i j) * u (ix2 i ⟨2816 + j.val, by omega⟩) * (Ideal.div 1 (1 + Ideal.exp (0 - u (ix2 i ⟨j.val, by omega⟩)))
        * (1 + u (ix2 i ⟨j.val, by omega⟩) * (1 - Ideal.div 1 (1 + Ideal.exp (0 - u (ix2 i ⟨j.val, by omega⟩)))))) := by
  pointwise [k0_pay1]

/-- One block, in its second half of columns: the gradient of what the gate multiplies. -/
theorem block_up (d : Vec Ideal S256x2816 .bf16) (u : Vec Ideal S256x5632 .bf16) (i : Fin 256) (j : Fin 2816) :
    k0_pay1 (F := Ideal) d u (ix2 i ⟨2816 + j.val, by omega⟩)
      = d (ix2 i j) * (u (ix2 i ⟨j.val, by omega⟩) * Ideal.div 1 (1 + Ideal.exp (0 - u (ix2 i ⟨j.val, by omega⟩)))) := by
  pointwise [k0_pay1]

/-- The reference in its first half of columns. -/
theorem whole_gate (d : (⟨S2048x2816, .bf16⟩ : BufTy).Contents (Elt Ideal)) (u : (⟨S2048x5632, .bf16⟩ : BufTy).Contents (Elt Ideal)) (i : Fin 2048) (j : Fin 2816) :
    val_main_v10 (F := Ideal) d u (ix2 i ⟨j.val, by omega⟩)
      = d (ix2 i j) * u (ix2 i ⟨2816 + j.val, by omega⟩) * Ideal.div 1 (1 + Ideal.exp (-u (ix2 i ⟨j.val, by omega⟩)))
        + u (ix2 i ⟨j.val, by omega⟩) * (d (ix2 i j) * u (ix2 i ⟨2816 + j.val, by omega⟩))
          * (Ideal.div 1 (1 + Ideal.exp (-u (ix2 i ⟨j.val, by omega⟩))) * (1 - Ideal.div 1 (1 + Ideal.exp (-u (ix2 i ⟨j.val, by omega⟩))))) := by
  pointwise [val_main_v10, val_main_v9, val_main_v8, val_main_call1_v0, val_main_call1_v1, val_main_call1_v2, val_main_v7, val_main_v5, val_main_v3_1,
    val_main_v3_2, val_main_call0_v7, val_main_call0_v6, val_main_call0_cst_1, val_main_call0_v4, val_main_call0_v3, val_main_call0_v2, val_main_call0_v1,
    val_main_call0_v0, val_main_call0_cst, val_main_call0_cst_0, val_main_v2, val_main_v1, val_main_v0]

/-- The reference in its second half of columns. -/
theorem whole_up (d : (⟨S2048x2816, .bf16⟩ : BufTy).Contents (Elt Ideal)) (u : (⟨S2048x5632, .bf16⟩ : BufTy).Contents (Elt Ideal)) (i : Fin 2048) (j : Fin 2816) :
    val_main_v10 (F := Ideal) d u (ix2 i ⟨2816 + j.val, by omega⟩)
      = d (ix2 i j) * (u (ix2 i ⟨j.val, by omega⟩) * Ideal.div 1 (1 + Ideal.exp (-u (ix2 i ⟨j.val, by omega⟩)))) := by
  pointwise [val_main_v10, val_main_v9, val_main_v6, val_main_v5, val_main_v3_0, val_main_v3_2, val_main_call0_v4, val_main_call0_v3, val_main_call0_v2,
    val_main_call0_v1, val_main_call0_v0, val_main_call0_cst, val_main_call0_cst_0, val_main_v1, val_main_v0]
  exact mul_comm _ _

/-- A block's row is the reference's row, where the arguments are real numbers. -/
theorem row (d : (⟨S2048x2816, .bf16⟩ : BufTy).Contents (Elt Ideal)) (u : (⟨S2048x5632, .bf16⟩ : BufTy).Contents (Elt Ideal))
    (D : Vec Ideal S256x2816 .bf16) (U : Vec Ideal S256x5632 .bf16) (i : Fin 256) (I : Fin 2048)
    (hD : ∀ j : Fin 2816, D (ix2 i j) = d (ix2 I j)) (hU : ∀ j : Fin 5632, U (ix2 i j) = u (ix2 I j))
    (hd : ∀ j : Fin 2816, ((EReal.toReal (d (ix2 I j)) : ℝ) : EReal) = d (ix2 I j)) (hu : ∀ j : Fin 5632, ((EReal.toReal (u (ix2 I j)) : ℝ) : EReal) = u (ix2 I j))
    (j : Fin 5632) : k0_pay1 (F := Ideal) D U (ix2 i j) = val_main_v10 (F := Ideal) d u (ix2 I j) := by
  by_cases h : j.val < 2816
  · refine (block_gate D U i ⟨j.val, h⟩).trans (Eq.trans ?_ (whole_gate d u I ⟨j.val, h⟩).symm)
    rw [hD, hU, hU, ← hd, ← hu, ← hu ⟨j.val, _⟩]
    exact gate _ _ _
  · obtain ⟨k, hk⟩ : ∃ k : Fin 2816, j = ⟨2816 + k.val, Nat.add_lt_add_left k.isLt 2816⟩ := ⟨⟨j.val - 2816, by omega⟩, Fin.ext (by show j.val = 2816 + (j.val - 2816); omega)⟩
    rw [hk, block_up, whole_up, hD, hU, zero_sub]

/-- The blocks each point reads and writes. -/
theorem idx : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Ideal) ℓ)

/-- The array the run ends with is the reference's, for finite arguments. -/
theorem final [Cert.Pre_act_finite.Facts] (hm : Cert.Pre_ActBwdIdeal_act_finite m) (c : Dev nD) :
    (dats m 0 c).arrAt 2 cfg0.N
      = val_main_v10 (F := Ideal) (m ((c.tc : Thread nD τ).loc main_arg0)) (m ((c.tc : Thread nD τ).loc main_arg1)) := by
  have e := congrFun (hm c) ix0
  simp only [Cert.Pre_act_finite.fn] at e
  obtain ⟨e0, e1⟩ := IntOp.andi_eq_one.1 e
  refine (dats m 0 c).arrAt_eq_of_covers 2 _ (by decide +kernel) fun t hf y => ?_
  have ht : t.val < 8 := lt_of_lt_of_eq t.isLt N_0
  have hy0 : (y 0).val < 256 := (y 0).isLt
  have hy1 : (y 1).val < 5632 := (y 1).isLt
  blk_simp
  rw [after0_2]
  frame_out
  refine Eq.trans ?_ ((row (m ((c.tc : Thread nD τ).loc main_arg0)) (m ((c.tc : Thread nD τ).loc main_arg1)) (iblk m c 0 t) (iblk m c 1 t)
    ⟨(y 0).val, hy0⟩ ⟨256 * t.val + (y 0).val, by omega⟩ (fun j => ?_) (fun j => ?_)
    (fun j => elem_real _ _ (fun _ => c_inf) _ _ _ _ e0 (ix2 _ j)) (fun j => elem_real _ _ (fun _ => c_inf) _ _ _ _ e1 (ix2 _ j)) ⟨(y 1).val, hy1⟩).trans ?_)
  · blk_ext [idx t]
  · blk_ext [iblk, V, idx t]
  · blk_ext [iblk, V, idx t]
  · blk_ext [idx t]

end Cert.ActBwdIdeal.Gate

end
-- ==== Proof.FfnSum.lean ====
/- A sum that a kernel carries from point to point of its grid. -/
module

public import Idealize.ShloMosaic.Lib.Pipeline.ValueKit
public import Idealize.ShloMosaic.Lib.Pipeline.ReadBack

@[expose] public section

noncomputable section

namespace Cert.Ffn

open Idealize.ShloMosaic

/-- A sum begun anew at every `J`-th point and added to at the others holds, at the last point of a run, the terms of the run's points. -/
theorem carried {N A B : ℕ} (J : ℕ) [NeZero J] (f : (n : ℕ) → n < N → Fin A → Fin B → EReal) (p : Fin N → Fin A → Fin B → EReal)
    (h0 : ∀ t : Fin N, t.val % J = 0 → ∀ i j, f t.val t.isLt i j = p t i j)
    (hs : ∀ t : Fin N, ¬ t.val % J = 0 → ∀ i j, f t.val t.isLt i j = f (t.val - 1) (Nat.lt_of_le_of_lt (Nat.sub_le _ _) t.isLt) i j + p t i j)
    (t : Fin N) (h : t.val % J = J - 1) (i : Fin A) (j : Fin B) :
    f t.val t.isLt i j = ∑ s : Fin J, p ⟨J * (t.val / J) + s.val, Pipeline.run_point_lt_of_flush t h s⟩ i j :=
  (Pipeline.eq_sum_fin_of_reset_step_apply_of_flush (fun n h (q : Fin A × Fin B) => f n h q.1 q.2) J (fun _ => 0) (fun t q => p t q.1 q.2)
    (fun t h q => (h0 t h q.1 q.2).trans (zero_add _).symm) (fun t h q => hs t h q.1 q.2) t h (i, j)).trans (zero_add _)

end Cert.Ffn

end
-- ==== Proof.FfnOutBwd.lean ====
/- The gradient of the FFN's activation. -/
module

public import proofs.«01_k».proof.Proof.Gen.OutBwdIdeal.Value
public import proofs.«01_k».proof.Proof.Gen.OutBwdReferenceIdeal.Read
public import proofs.«01_k».proof.Proof.FfnSum

@[expose] public section

set_option maxRecDepth 16384

noncomputable section

namespace Cert.OutBwdIdeal.Product

open Idealize.ShloMosaic Idealize.ShloMosaic.TcCoe Idealize.SL.Sem
open Cert.OutBwdIdeal Cert.OutBwdIdeal.Gen Cert.OutBwdReferenceIdeal.Read

/-- One block's product. -/
theorem part (x : Vec Ideal S1024x1024 .bf16) (w : Vec Ideal S1408x1024 .bf16) (i : Fin 1024) (j : Fin 1408) :
    k0_pay1 (F := Ideal) x w (ix2 i j) = ∑ k : Fin 1024, x (ix2 i k) * w (ix2 j k) := by
  pointwise [k0_pay1]
/-- The reference's product. -/
theorem whole (x : (⟨S2048x1024, .bf16⟩ : BufTy).Contents (Elt Ideal)) (w : (⟨S2816x1024, .bf16⟩ : BufTy).Contents (Elt Ideal)) (i : Fin 2048) (j : Fin 2816) :
    val_main_v5 (F := Ideal) x w (ix2 i j) = ∑ k : Fin 1024, x (ix2 i k) * w (ix2 j k) := by
  pointwise [val_main_v5, val_main_v4, val_main_v3, val_main_v2, val_main_v1, val_main_v0]

/-- The blocks each point reads and writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v5 (F := Ideal) (m ((c.tc : Thread nD τ).loc main_arg0)) (m ((c.tc : Thread nD τ).loc main_arg1)) := by
  refine (dats m 0 c).arrAt_eq_of_covers 2 _ (by decide +kernel) fun t hf y => ?_
  have ht : t.val < 4 := lt_of_lt_of_eq t.isLt N_0
  have hy0 : (y 0).val < 1024 := (y 0).isLt
  have hy1 : (y 1).val < 1408 := (y 1).isLt
  blk_simp
  rw [after0_2]
  frame_out
  refine Eq.trans (b := k0_pay1 (F := Ideal) (iblk m c 0 t) (iblk m c 1 t) (ix2 ⟨(y 0).val, hy0⟩ ⟨(y 1).val, hy1⟩)) (by blk_ext) ((part _ _ _ _).trans ?_)
  refine Eq.trans ?_ ((whole (m ((c.tc : Thread nD τ).loc main_arg0)) (m ((c.tc : Thread nD τ).loc main_arg1)) ⟨1024 * (t.val / 2) + (y 0).val, by omega⟩ ⟨1408 * (t.val % 2) + (y 1).val, by omega⟩).symm.trans ?_)
  · refine Finset.sum_congr rfl fun k _ => congrArg₂ (· * ·) ?_ ?_ <;> blk_ext [iblk, V, idx t]
  · blk_ext [idx t]

end Cert.OutBwdIdeal.Product

end
-- ==== Proof.FfnOutWg.lean ====
/- The gradient of the FFN's second weight. -/
module

public import proofs.«01_k».proof.Proof.Gen.OutWgIdeal.Value
public import proofs.«01_k».proof.Proof.Gen.OutWgReferenceIdeal.Read
public import proofs.«01_k».proof.Proof.FfnSum

@[expose] public section

set_option maxRecDepth 16384

noncomputable section

namespace Cert.OutWgIdeal.Product

open Idealize.ShloMosaic Idealize.ShloMosaic.TcCoe Idealize.SL.Sem
open Cert.OutWgIdeal Cert.OutWgIdeal.Gen Cert.OutWgReferenceIdeal.Read

/-- One block's product. -/
theorem part (x : Vec Ideal S1024x1408 .bf16) (w : Vec Ideal S1024x1024 .bf16) (i : Fin 1408) (j : Fin 1024) :
    k0_pay2 (F := Ideal) x w (ix2 i j) = ∑ k : Fin 1024, x (ix2 k i) * w (ix2 k j) := by
  pointwise [k0_pay2, k0_pay1]
/-- The sum so far and one block's product more. -/
theorem more (x : Vec Ideal S1024x1408 .bf16) (w : Vec Ideal S1024x1024 .bf16) (s : Vec Ideal S1408x1024 .f32) (i : Fin 1408) (j : Fin 1024) :
    k0_pay3 (F := Ideal) x w s (ix2 i j) = s (ix2 i j) + ∑ k : Fin 1024, x (ix2 k i) * w (ix2 k j) := by
  pointwise [k0_pay3, k0_pay1]
/-- The reference's product. -/
theorem whole (x : (⟨S2048x2816, .bf16⟩ : BufTy).Contents (Elt Ideal)) (w : (⟨S2048x1024, .bf16⟩ : BufTy).Contents (Elt Ideal)) (i : Fin 2816) (j : Fin 1024) :
    val_main_v6 (F := Ideal) x w (ix2 i j) = ∑ k : Fin 2048, x (ix2 k i) * w (ix2 k j) := by
  pointwise [val_main_v6, val_main_v5, val_main_v4, val_main_v1, val_main_v0]
  exact Finset.sum_congr rfl fun k _ => mul_comm _ _

/-- The blocks each point reads and writes. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1408) (j : Fin 1024) : EReal :=
  ∑ k : Fin 1024, (show Vec Ideal S1024x1408 .bf16 from iblk m c 0 t) (ix2 k i) * (show Vec Ideal S1024x1024 .bf16 from iblk m c 1 t) (ix2 k j)

/-- The sum after the first point of a run. -/
theorem first (t : Fin cfg0.N) (h : t.val % 2 = 0) (i : Fin 1408) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 2 = 0) (i : Fin 1408) (j : Fin 1024) : (outsAt0 m c t.val t.isLt).2 (ix2 i j)
    = (outsAt0 m c (t.val - 1) (Nat.lt_of_le_of_lt (Nat.sub_le _ _) t.isLt)).2 (ix2 i j) + prod m c t i j := by
  rw [outsAt0_B m c t h (by omega) (by omega)]
  frame_out
  refine (more _ _ _ i j).trans ?_
  rw [read_unread_whole]
  rfl
/-- The last point of a run writes the sum out. -/
theorem out (t : Fin cfg0.N) (h : t.val % 2 = 1) (i : Fin 1408) (j : Fin 1024) :
    (outsAt0 m c t.val t.isLt).1 (ix2 i j) = (outsAt0 m c t.val t.isLt).2 (ix2 i j) := by
  rw [outsAt0_B m c t (by omega) (by omega) h]
  frame_out
  pointwise [k0_pay4]

/-- The array the run ends with is the reference's. -/
theorem final : (dats m 0 c).arrAt 2 cfg0.N
    = val_main_v6 (F := Ideal) (m ((c.tc : Thread nD τ).loc main_arg0)) (m ((c.tc : Thread nD τ).loc main_arg1)) := by
  refine (dats m 0 c).arrAt_eq_of_covers 2 _ (by decide +kernel) fun t hf y => ?_
  have hm : t.val % 2 = 1 := (flush0_2 t).mp hf
  have ht : t.val < 4 := lt_of_lt_of_eq t.isLt N_0
  have hy0 : (y 0).val < 1408 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 2 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1408 * (t.val / 2) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.OutWgIdeal.Product

end
-- ==== Proof.FfnInBwd.lean ====
/- The gradient of the FFN's input. -/
module

public import proofs.«01_k».proof.Proof.Gen.InBwdIdeal.Value
public import proofs.«01_k».proof.Proof.Gen.InBwdReferenceIdeal.Read
public import proofs.«01_k».proof.Proof.FfnSum

@[expose] public section

set_option maxRecDepth 16384

noncomputable section

namespace Cert.InBwdIdeal.Product

open Idealize.ShloMosaic Idealize.ShloMosaic.TcCoe Idealize.SL.Sem
open Cert.InBwdIdeal Cert.InBwdIdeal.Gen Cert.InBwdReferenceIdeal.Read

/-- One block's product. -/
theorem part (x : Vec Ideal S1024x1408 .bf16) (w : Vec Ideal S1408x1024 .bf16) (i : Fin 1024) (j : Fin 1024) :
    k0_pay2 (F := Ideal) x w (ix2 i j) = ∑ k : Fin 1408, x (ix2 i k) * w (ix2 k j) := by
  pointwise [k0_pay2, k0_pay1]
/-- The sum so far and one block's product more. -/
theorem more (x : Vec Ideal S1024x1408 .bf16) (w : Vec Ideal S1408x1024 .bf16) (s : Vec Ideal S1024x1024 .f32) (i : Fin 1024) (j : Fin 1024) :
    k0_pay3 (F := Ideal) x w s (ix2 i j) = s (ix2 i j) + ∑ k : Fin 1408, x (ix2 i k) * w (ix2 k j) := by
  pointwise [k0_pay3, k0_pay1]
/-- The reference's product. -/
theorem whole (x : (⟨S2048x5632, .bf16⟩ : BufTy).Contents (Elt Ideal)) (w : (⟨S5632x1024, .bf16⟩ : BufTy).Contents (Elt Ideal)) (i : Fin 2048) (j : Fin 1024) :
    val_main_v5 (F := Ideal) x w (ix2 i j) = ∑ k : Fin 5632, x (ix2 i k) * w (ix2 k j) := by
  pointwise [val_main_v5, val_main_v4, val_main_v3, val_main_v2, val_main_v1, val_main_v0]

/-- The blocks each point reads and writes. -/
theorem idx : ∀ t : Fin cfg0.N, win0_0.index t = ![t.val / 4, t.val % 4] ∧ win0_1.index t = ![t.val % 4, 0] ∧ win0_2.index t = ![t.val / 4, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1024) (j : Fin 1024) : EReal :=
  ∑ k : Fin 1408, (show Vec Ideal S1024x1408 .bf16 from iblk m c 0 t) (ix2 i k) * (show Vec Ideal S1408x1024 .bf16 from iblk m c 1 t) (ix2 k j)

/-- The sum after the first point of a run. -/
theorem first (t : Fin cfg0.N) (h : t.val % 4 = 0) (i : Fin 1024) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 4 = 0) (i : Fin 1024) (j : Fin 1024) : (outsAt0 m c t.val t.isLt).2 (ix2 i j)
    = (outsAt0 m c (t.val - 1) (Nat.lt_of_le_of_lt (Nat.sub_le _ _) t.isLt)).2 (ix2 i j) + prod m c t i j := by
  by_cases h3 : t.val % 4 = 3
  · rw [outsAt0_C m c t h (by omega) h3]
    frame_out
    refine (more _ _ _ i j).trans ?_
    rw [read_unread_whole]
    rfl
  · rw [outsAt0_B m c t h (by omega) h3]
    frame_out
    refine (more _ _ _ i j).trans ?_
    rw [read_unread_whole]
    rfl
/-- The last point of a run writes the sum out. -/
theorem out (t : Fin cfg0.N) (h : t.val % 4 = 3) (i : Fin 1024) (j : Fin 1024) :
    (outsAt0 m c t.val t.isLt).1 (ix2 i j) = (outsAt0 m c t.val t.isLt).2 (ix2 i j) := by
  rw [outsAt0_C m c t (by omega) (by omega) h]
  frame_out

/-- The array the run ends with is the reference's. -/
theorem final : (dats m 0 c).arrAt 2 cfg0.N
    = val_main_v5 (F := Ideal) (m ((c.tc : Thread nD τ).loc main_arg0)) (m ((c.tc : Thread nD τ).loc main_arg1)) := by
  refine (dats m 0 c).arrAt_eq_of_covers 2 _ (by decide +kernel) fun t hf y => ?_
  have hm : t.val % 4 = 3 := (flush0_2 t).mp hf
  have ht : t.val < 8 := lt_of_lt_of_eq t.isLt N_0
  have hy0 : (y 0).val < 1024 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 4 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1024 * (t.val / 4) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.InBwdIdeal.Product

end
-- ==== Proof.FfnInWg.lean ====
/- The gradient of the FFN's first weight. -/
module

public import proofs.«01_k».proof.Proof.Gen.InWgIdeal.Value
public import proofs.«01_k».proof.Proof.Gen.InWgReferenceIdeal.Read
public import proofs.«01_k».proof.Proof.FfnSum

@[expose] public section

set_option maxRecDepth 16384

noncomputable section

namespace Cert.InWgIdeal.Product

open Idealize.ShloMosaic Idealize.ShloMosaic.TcCoe Idealize.SL.Sem
open Cert.InWgIdeal Cert.InWgIdeal.Gen Cert.InWgReferenceIdeal.Read

/-- One block's product. -/
theorem part (x : Vec Ideal S1024x1408 .bf16) (w : Vec Ideal S1024x1024 .bf16) (i : Fin 1408) (j : Fin 1024) :
    k0_pay2 (F := Ideal) x w (ix2 i j) = ∑ k : Fin 1024, x (ix2 k i) * w (ix2 k j) := by
  pointwise [k0_pay2, k0_pay1]
/-- The sum so far and one block's product more. -/
theorem more (x : Vec Ideal S1024x1408 .bf16) (w : Vec Ideal S1024x1024 .bf16) (s : Vec Ideal S1408x1024 .f32) (i : Fin 1408) (j : Fin 1024) :
    k0_pay3 (F := Ideal) x w s (ix2 i j) = s (ix2 i j) + ∑ k : Fin 1024, x (ix2 k i) * w (ix2 k j) := by
  pointwise [k0_pay3, k0_pay1]
/-- The reference's product. -/
theorem whole (x : (⟨S2048x5632, .bf16⟩ : BufTy).Contents (Elt Ideal)) (w : (⟨S2048x1024, .bf16⟩ : BufTy).Contents (Elt Ideal)) (i : Fin 5632) (j : Fin 1024) :
    val_main_v8 (F := Ideal) x w (ix2 i j) = ∑ k : Fin 2048, x (ix2 k i) * w (ix2 k j) := by
  pointwise [val_main_v8, val_main_v7, val_main_v6, val_main_v5, val_main_v4, val_main_v3, val_main_v2, val_main_v1, val_main_v0]

/-- The blocks each point reads and writes. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1408) (j : Fin 1024) : EReal :=
  ∑ k : Fin 1024, (show Vec Ideal S1024x1408 .bf16 from iblk m c 0 t) (ix2 k i) * (show Vec Ideal S1024x1024 .bf16 from iblk m c 1 t) (ix2 k j)

/-- The sum after the first point of a run. -/
theorem first (t : Fin cfg0.N) (h : t.val % 2 = 0) (i : Fin 1408) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 2 = 0) (i : Fin 1408) (j : Fin 1024) : (outsAt0 m c t.val t.isLt).2 (ix2 i j)
    = (outsAt0 m c (t.val - 1) (Nat.lt_of_le_of_lt (Nat.sub_le _ _) t.isLt)).2 (ix2 i j) + prod m c t i j := by
  rw [outsAt0_B m c t h (by omega) (by omega)]
  frame_out
  refine (more _ _ _ i j).trans ?_
  rw [read_unread_whole]
  rfl
/-- The last point of a run writes the sum out. -/
theorem out (t : Fin cfg0.N) (h : t.val % 2 = 1) (i : Fin 1408) (j : Fin 1024) :
    (outsAt0 m c t.val t.isLt).1 (ix2 i j) = (outsAt0 m c t.val t.isLt).2 (ix2 i j) := by
  rw [outsAt0_B m c t (by omega) (by omega) h]
  frame_out
  pointwise [k0_pay4]

/-- The array the run ends with is the reference's. -/
theorem final : (dats m 0 c).arrAt 2 cfg0.N
    = val_main_v8 (F := Ideal) (m ((c.tc : Thread nD τ).loc main_arg0)) (m ((c.tc : Thread nD τ).loc main_arg1)) := by
  refine (dats m 0 c).arrAt_eq_of_covers 2 _ (by decide +kernel) fun t hf y => ?_
  have hm : t.val % 2 = 1 := (flush0_2 t).mp hf
  have ht : t.val < 8 := lt_of_lt_of_eq t.isLt N_0
  have hy0 : (y 0).val < 1408 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 2 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1408 * (t.val / 2) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.InWgIdeal.Product

end
-- ==== Proof.FfnIn.lean ====
/- The product with the FFN's first weight. -/
module

public import proofs.«01_k».proof.Proof.Gen.InIdeal.Value
public import proofs.«01_k».proof.Proof.Gen.InReferenceIdeal.Read
public import proofs.«01_k».proof.Proof.FfnSum

@[expose] public section

set_option maxRecDepth 16384

noncomputable section

namespace Cert.InIdeal.Product

open Idealize.ShloMosaic Idealize.ShloMosaic.TcCoe Idealize.SL.Sem
open Cert.InIdeal Cert.InIdeal.Gen Cert.InReferenceIdeal.Read

/-- One block's product. -/
theorem part (x : Vec Ideal S1024x1024 .bf16) (w : Vec Ideal S1408x1024 .bf16) (i : Fin 1024) (j : Fin 1408) :
    k0_pay1 (F := Ideal) x w (ix2 i j) = ∑ k : Fin 1024, x (ix2 i k) * w (ix2 j k) := by
  pointwise [k0_pay1]
/-- The reference's product. -/
theorem whole (x : (⟨S2048x1024, .bf16⟩ : BufTy).Contents (Elt Ideal)) (w : (⟨S5632x1024, .bf16⟩ : BufTy).Contents (Elt Ideal)) (i : Fin 2048) (j : Fin 5632) :
    val_main_v4 (F := Ideal) x w (ix2 i j) = ∑ k : Fin 1024, x (ix2 i k) * w (ix2 j k) := by
  pointwise [val_main_v4, val_main_v3, val_main_v2, val_main_v1, val_main_v0]

/-- The blocks each point reads and writes. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have ht : t.val < 8 := lt_of_lt_of_eq t.isLt N_0
  have hy0 : (y 0).val < 1024 := (y 0).isLt
  have hy1 : (y 1).val < 1408 := (y 1).isLt
  blk_simp
  rw [after0_2]
  frame_out
  refine Eq.trans (b := k0_pay1 (F := Ideal) (iblk m c 0 t) (iblk m c 1 t) (ix2 ⟨(y 0).val, hy0⟩ ⟨(y 1).val, hy1⟩)) (by blk_ext) ((part _ _ _ _).trans ?_)
  refine Eq.trans ?_ ((whole (m ((c.tc : Thread nD τ).loc main_arg0)) (m ((c.tc : Thread nD τ).loc main_arg1)) ⟨1024 * (t.val / 4) + (y 0).val, by omega⟩ ⟨1408 * (t.val % 4) + (y 1).val, by omega⟩).symm.trans ?_)
  · refine Finset.sum_congr rfl fun k _ => congrArg₂ (· * ·) ?_ ?_ <;> blk_ext [iblk, V, idx t]
  · blk_ext [idx t]

end Cert.InIdeal.Product

end
-- ==== Proof.FfnOut.lean ====
/- The product of the activation with the second weight of the FFN. -/
module

public import proofs.«01_k».proof.Proof.Gen.OutIdeal.Value
public import proofs.«01_k».proof.Proof.Gen.OutReferenceIdeal.Read
public import proofs.«01_k».proof.Proof.FfnSum

@[expose] public section

set_option maxRecDepth 16384

noncomputable section

namespace Cert.OutIdeal.Product

open Idealize.ShloMosaic Idealize.ShloMosaic.TcCoe Idealize.SL.Sem
open Cert.OutIdeal Cert.OutIdeal.Gen Cert.OutReferenceIdeal.Read

/-- One block's product. -/
theorem part (x : Vec Ideal S1024x1408 .bf16) (w : Vec Ideal S1408x1024 .bf16) (i : Fin 1024) (j : Fin 1024) :
    k0_pay2 (F := Ideal) x w (ix2 i j) = ∑ k : Fin 1408, x (ix2 i k) * w (ix2 k j) := by
  pointwise [k0_pay2, k0_pay1]
/-- The sum so far and one block's product more. -/
theorem more (x : Vec Ideal S1024x1408 .bf16) (w : Vec Ideal S1408x1024 .bf16) (s : Vec Ideal S1024x1024 .f32) (i : Fin 1024) (j : Fin 1024) :
    k0_pay3 (F := Ideal) x w s (ix2 i j) = s (ix2 i j) + ∑ k : Fin 1408, x (ix2 i k) * w (ix2 k j) := by
  pointwise [k0_pay3, k0_pay1]
/-- The reference's product. -/
theorem whole (x : (⟨S2048x2816, .bf16⟩ : BufTy).Contents (Elt Ideal)) (w : (⟨S2816x1024, .bf16⟩ : BufTy).Contents (Elt Ideal)) (i : Fin 2048) (j : Fin 1024) :
    val_main_v2 (F := Ideal) x w (ix2 i j) = ∑ k : Fin 2816, x (ix2 i k) * w (ix2 k j) := by
  pointwise [val_main_v2, val_main_v1, val_main_v0]

/-- The blocks each point reads and writes. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1024) (j : Fin 1024) : EReal :=
  ∑ k : Fin 1408, (show Vec Ideal S1024x1408 .bf16 from iblk m c 0 t) (ix2 i k) * (show Vec Ideal S1408x1024 .bf16 from iblk m c 1 t) (ix2 k j)

/-- The sum after the first point of a run. -/
theorem first (t : Fin cfg0.N) (h : t.val % 2 = 0) (i : Fin 1024) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 2 = 0) (i : Fin 1024) (j : Fin 1024) : (outsAt0 m c t.val t.isLt).2 (ix2 i j)
    = (outsAt0 m c (t.val - 1) (Nat.lt_of_le_of_lt (Nat.sub_le _ _) t.isLt)).2 (ix2 i j) + prod m c t i j := by
  rw [outsAt0_B m c t h (by omega) (by omega)]
  frame_out
  refine (more _ _ _ i j).trans ?_
  rw [read_unread_whole]
  rfl
/-- The last point of a run writes the sum out. -/
theorem out (t : Fin cfg0.N) (h : t.val % 2 = 1) (i : Fin 1024) (j : Fin 1024) :
    (outsAt0 m c t.val t.isLt).1 (ix2 i j) = (outsAt0 m c t.val t.isLt).2 (ix2 i j) := by
  rw [outsAt0_B m c t (by omega) (by omega) h]
  frame_out

/-- The array the run ends with is the reference's. -/
theorem final : (dats m 0 c).arrAt 2 cfg0.N
    = val_main_v2 (F := Ideal) (m ((c.tc : Thread nD τ).loc main_arg0)) (m ((c.tc : Thread nD τ).loc main_arg1)) := by
  refine (dats m 0 c).arrAt_eq_of_covers 2 _ (by decide +kernel) fun t hf y => ?_
  have hm : t.val % 2 = 1 := (flush0_2 t).mp hf
  have ht : t.val < 4 := lt_of_lt_of_eq t.isLt N_0
  have hy0 : (y 0).val < 1024 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 2 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1024 * (t.val / 2) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.OutIdeal.Product

end
-- ==== Proof.NormBwd.lean ====
/- The gradient through the modulated norm: the idealized kernel's arrays are the reference's. -/
module

public import proofs.«01_k».proof.Proof.Lift
public import proofs.«01_k».proof.Proof.Gen.NormBwdIdeal.Value
public import proofs.«01_k».proof.Proof.Gen.NormBwdReferenceIdeal.Read
public import proofs.«01_k».proof.Proof.FfnSum
public import Idealize.ShloMosaic.Lib.Pipeline.ReadBack

@[expose] public section

set_option maxRecDepth 16384

noncomputable section

namespace Cert.NormBwdIdeal.Norm

open Idealize.ShloMosaic Idealize.ShloMosaic.TcCoe Idealize.SL.Sem
open Cert.Stick Cert.NormBwdIdeal Cert.NormBwdIdeal.Gen Cert.NormBwdReferenceIdeal.Read

/-- The mean of a row's squares and the small number under the root. -/
def power (x : Fin 1024 → EReal) : EReal :=
  Ideal.div (∑ k, x k * x k) (Ideal.ofBits .f32 0x44800000#32) + Ideal.ofBits .f32 0x358637BD#32
/-- The factor by which a row is normed. -/
def scale (x : Fin 1024 → EReal) : EReal := Ideal.rsqrt (power x)

/-! ## The sums over rows -/

/-- The gain's gradient so far and one block's part more. -/
theorem more_gain (d x : Vec Ideal S256x1024 .f32) (s : Vec Ideal S1x1024 .f32) (i : Fin 1) (j : Fin 1024) :
    k0_pay3 (F := Ideal) (k0_pay8 d x) s (ix2 i j) = s (ix2 i j) + ∑ k : Fin 256, d (ix2 k j) * (x (ix2 k j) * scale fun l => x (ix2 k l)) := by
  pointwise [k0_pay3, k0_pay8, k0_pay6, k0_pay5, scale, power]
/-- The shift's gradient so far and one block's part more. -/
theorem more_shift (d : Vec Ideal S256x1024 .f32) (s : Vec Ideal S1x1024 .f32) (i : Fin 1) (j : Fin 1024) :
    k0_pay4 (F := Ideal) (k0_pay9 d) s (ix2 i j) = s (ix2 i j) + ∑ k : Fin 256, d (ix2 k j) := by
  pointwise [k0_pay4, k0_pay9]
theorem none_gain (i : Fin 1) (j : Fin 1024) : k0_pay1 (F := Ideal) (ix2 i j) = 0 := by
  pointwise [k0_pay1]
theorem none_shift (i : Fin 1) (j : Fin 1024) : k0_pay2 (F := Ideal) (ix2 i j) = 0 := by
  pointwise [k0_pay2]
/-- The reference's gradient of the gain. -/
theorem total_gain (d x : (⟨S2048x1024, .f32⟩ : BufTy).Contents (Elt Ideal)) (i : Fin 1) (j : Fin 1024) :
    val_main_v26 (F := Ideal) d x (ix2 i j) = ∑ k : Fin 2048, d (ix2 k j) * (x (ix2 k j) * scale fun l => x (ix2 k l)) := by
  pointwise [val_main_v26, val_main_v25, val_main_v24, val_main_v21, val_main_v16, val_main_v15, val_main_v11, val_main_v10, val_main_v9, val_main_v8,
    val_main_v7, val_main_v6, val_main_v5, val_main_v4, val_main_cst_1, val_main_cst_2, val_main_cst_3, val_main_cst_6, scale, power]
  exact Finset.sum_congr rfl fun k _ => mul_comm _ _
/-- The reference's gradient of the shift. -/
theorem total_shift (d : (⟨S2048x1024, .f32⟩ : BufTy).Contents (Elt Ideal)) (i : Fin 1) (j : Fin 1024) :
    val_main_v23 (F := Ideal) d (ix2 i j) = ∑ k : Fin 2048, d (ix2 k j) := by
  pointwise [val_main_v23, val_main_v22, val_main_cst_5]

/-! ## The gradient of a row -/

theorem c_1024 : Ideal.ofBits .f32 0x44800000#32 = ((1024 : ℝ) : EReal) := by
  simp [Ideal.ofBits, Ideal.ieee, -EReal.coe_mul]; norm_num

/-- What the kernel writes in a row `x`, of the gradient `d` of its normed elements and the gradient `y` that goes around the norm. -/
def grad (d x : Fin 1024 → EReal) (y : EReal) (j : Fin 1024) : EReal :=
  scale x * (d j - x j * scale x * Ideal.div (∑ k, d k * (x k * scale x)) (Ideal.ofBits .f32 0x44800000#32)) + y
/-- What reaches each of the two factors of a row's square, in the reference. -/
def through (d x : Fin 1024 → EReal) : EReal :=
  Ideal.div ((∑ k, x k * d k) * (Ideal.ofBits .f32 0xBF000000#32 * Ideal.div (scale x) (power x))) (Ideal.ofBits .f32 0x44800000#32)

/-! A real number of at least zero may be multiplied into a sum, and real factors of one value may be added, infinite values or not. -/

theorem mul_sum_up {ι : Type*} (s : ℝ) (h : 0 ≤ s) (u : Finset ι) (f : ι → EReal) : (s : EReal) * ∑ k ∈ u, f k = ∑ k ∈ u, (s : EReal) * f k := by
  classical
  induction u using Finset.induction_on with
  | empty => simp
  | insert a u ha ih =>
    rw [Finset.sum_insert ha, Finset.sum_insert ha, EReal.left_distrib_of_nonneg_of_ne_top (EReal.coe_nonneg.2 h) (EReal.coe_ne_top s), ih]
theorem twice (c : ℝ) (S : EReal) : (c : EReal) * S + (c : EReal) * S = ((c + c : ℝ) : EReal) * S := by
  induction S with
  | coe S => rw [mul_up, mul_up, add_up]; congr 1; ring
  | bot =>
    rcases lt_trichotomy c 0 with h | h | h
    · rw [EReal.coe_mul_bot_of_neg h, EReal.coe_mul_bot_of_neg (by linarith)]; rfl
    · simp [h]
    · rw [EReal.coe_mul_bot_of_pos h, EReal.coe_mul_bot_of_pos (by linarith)]; rfl
  | top =>
    rcases lt_trichotomy c 0 with h | h | h
    · rw [EReal.coe_mul_top_of_neg h, EReal.coe_mul_top_of_neg (by linarith)]; rfl
    · simp [h]
    · rw [EReal.coe_mul_top_of_pos h, EReal.coe_mul_top_of_pos (by linarith)]; rfl
theorem gather (a b e : ℝ) (S : EReal) : (a : EReal) * (S * (b : EReal) * (e : EReal)) = ((a * b * e : ℝ) : EReal) * S := by
  rw [← mul_up, ← mul_up]
  ac_rfl
theorem square_nonneg (v : EReal) : 0 ≤ v * v := by
  induction v with
  | coe v => rw [mul_up]; exact EReal.coe_nonneg.2 (mul_self_nonneg v)
  | bot => simp
  | top => simp

/-- A row that is not real is normed by zero. -/
theorem power_top (x : Fin 1024 → EReal) (h : ¬ ∀ k, ((EReal.toReal (x k) : ℝ) : EReal) = x k) : power x = ⊤ := by
  obtain ⟨k, hk⟩ := not_forall.1 h
  have hx : x k * x k = ⊤ := by
    generalize x k = v at hk
    induction v with
    | coe v => exact absurd rfl hk
    | bot => rfl
    | top => rfl
  have hs : ∑ l, x l * x l = ⊤ := top_le_iff.1 (hx.symm.le.trans (Finset.single_le_sum (f := fun l => x l * x l) (fun l _ => square_nonneg _) (Finset.mem_univ k)))
  rw [power, hs, c_1024, c_eps, Ideal.div_coe (by norm_num), EReal.top_mul_coe_of_pos (by norm_num), EReal.top_add_coe]

/-- The two agree: on a real row, the cube of the factor is the factor over the number under the root; on a row that is not real, the
    factor is zero. -/
theorem grad_eq (d x : Fin 1024 → EReal) (y : EReal) (j : Fin 1024) :
    grad d x y j = y + d j * scale x + x j * through d x + through d x * x j := by
  have hc : (1024 : ℝ) ≠ 0 := by norm_num
  by_cases hx : ∀ k, ((EReal.toReal (x k) : ℝ) : EReal) = x k
  · obtain ⟨x, rfl⟩ : ∃ f : Fin 1024 → ℝ, x = fun k => (f k : EReal) := ⟨fun k => EReal.toReal (x k), funext fun k => (hx k).symm⟩
    have ha : 0 < (∑ k, x k * x k) / 1024 + eps :=
      add_pos_of_nonneg_of_pos (div_nonneg (Finset.sum_nonneg fun k _ => mul_self_nonneg _) (by norm_num)) eps_pos
    have hp : power (fun k => (x k : EReal)) = (((∑ k, x k * x k) / 1024 + eps : ℝ) : EReal) := by
      unfold power
      simp only [mul_up, sum_up]
      rw [c_1024, c_eps, div_up _ _ hc, add_up]
    have hs : scale (fun k => (x k : EReal)) = (((Real.sqrt ((∑ k, x k * x k) / 1024 + eps))⁻¹ : ℝ) : EReal) := by
      rw [scale, hp, rsqrt_up _ ha]
    unfold grad through
    rw [hs, hp, c_1024, c_neg_half, Ideal.div_coe hc, Ideal.div_coe hc]
    generalize (∑ k, x k * x k) / 1024 + eps = a at ha
    have hr : (Real.sqrt a)⁻¹ / a = (Real.sqrt a)⁻¹ * ((Real.sqrt a)⁻¹ * (Real.sqrt a)⁻¹) := by
      rw [← mul_inv, Real.mul_self_sqrt ha.le, div_eq_mul_inv]
    have hn : 0 ≤ (Real.sqrt a)⁻¹ := inv_nonneg.2 (Real.sqrt_nonneg a)
    rw [div_up _ _ ha.ne', hr]
    generalize (Real.sqrt a)⁻¹ = s at hn
    have e : ∑ k, d k * ((x k : EReal) * (s : EReal)) = (s : EReal) * ∑ k, (x k : EReal) * d k := by
      rw [mul_sum_up s hn]
      exact Finset.sum_congr rfl fun k _ => by ac_rfl
    rw [e, mul_up, mul_up]
    generalize ∑ k, (x k : EReal) * d k = S
    rw [mul_comm (s : EReal) S, gather, EReal.mul_sub_of_nonneg_of_ne_top (EReal.coe_nonneg.2 hn) (EReal.coe_ne_top s), mul_comm (S * _ * _) (x j : EReal), gather, add_assoc,
      twice, ← mul_assoc, mul_up, sub_eq_add_neg, ← neg_mul, neg_up, mul_comm (s : EReal) (d j), add_comm, add_assoc y]
    congr 4
    ring
  · have hp : power x = ⊤ := power_top x hx
    have hs : scale x = 0 := by rw [scale, hp, Ideal.rsqrt_top]
    have ht : through d x = 0 := by
      have h0 : Ideal.div 0 ⊤ = 0 := by simp [Ideal.div]
      rw [through, hs, hp, h0, mul_zero, mul_zero, c_1024, Ideal.div_coe hc, zero_mul]
    rw [grad, hs, ht, zero_mul, mul_zero, mul_zero, zero_mul, zero_add, add_zero, add_zero, add_zero]

/-- One block. -/
theorem block (d x y : Vec Ideal S256x1024 .f32) (g s : Vec Ideal S1x1024 .f32) (i : Fin 256) (j : Fin 1024) :
    k0_pay7 (F := Ideal) d x y g s (ix2 i j)
      = grad (fun k => d (ix2 i k) * (g (ix2 0 k) * (1 + s (ix2 0 k)))) (fun k => x (ix2 i k)) (y (ix2 i j)) j := by
  pointwise [k0_pay7, k0_pay6, k0_pay5, grad, scale, power]
/-- The reference. -/
theorem whole (d x y : (⟨S2048x1024, .f32⟩ : BufTy).Contents (Elt Ideal)) (g s : (⟨S1x1024, .f32⟩ : BufTy).Contents (Elt Ideal)) (i : Fin 2048) (j : Fin 1024) :
    val_main_v43 (F := Ideal) d x y g s (ix2 i j)
      = y (ix2 i j) + d (ix2 i j) * (g (ix2 0 j) * (1 + s (ix2 0 j))) * scale (fun k => x (ix2 i k))
        + x (ix2 i j) * through (fun k => d (ix2 i k) * (g (ix2 0 k) * (1 + s (ix2 0 k)))) (fun k => x (ix2 i k))
        + through (fun k => d (ix2 i k) * (g (ix2 0 k) * (1 + s (ix2 0 k)))) (fun k => x (ix2 i k)) * x (ix2 i j) := by
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v21, val_main_v14, val_main_v13, val_main_v12, val_main_v11, val_main_v10, val_main_v9, val_main_v8,
    val_main_v7, val_main_v6, val_main_v5, val_main_v4, val_main_v2, val_main_v1, val_main_v0, val_main_cst, val_main_cst_1, val_main_cst_2, val_main_cst_3, val_main_cst_4, val_main_cst_7, val_main_cst_8, val_main_cst_9,
    through, scale, power]
  simp only [Finset.univ_unique, Finset.sum_singleton]

/-- A block's row is the reference's row. -/
theorem row (d x y : (⟨S2048x1024, .f32⟩ : BufTy).Contents (Elt Ideal)) (g s : (⟨S1x1024, .f32⟩ : BufTy).Contents (Elt Ideal))
    (D X Y : Vec Ideal S256x1024 .f32) (G S : Vec Ideal S1x1024 .f32) (i : Fin 256) (I : Fin 2048)
    (hD : ∀ k : Fin 1024, D (ix2 i k) = d (ix2 I k)) (hX : ∀ k : Fin 1024, X (ix2 i k) = x (ix2 I k)) (hY : ∀ k : Fin 1024, Y (ix2 i k) = y (ix2 I k))
    (hG : ∀ k : Fin 1024, G (ix2 0 k) = g (ix2 0 k)) (hS : ∀ k : Fin 1024, S (ix2 0 k) = s (ix2 0 k))
    (j : Fin 1024) : k0_pay7 (F := Ideal) D X Y G S (ix2 i j) = val_main_v43 (F := Ideal) d x y g s (ix2 I j) := by
  rw [block, whole]
  simp only [hD, hX, hY, hG, hS]
  exact grad_eq _ _ _ j

/-! ## The arrays -/

/-- The blocks each point reads and writes. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] ∧ win0_7.index t = ![0, 0] :=
  (by decide +kernel : ∀ t : Fin grid0.N, _)

variable (m : (ℓ : Loc nD τ sig) → Buf (Elt Ideal) ℓ) (c : Dev nD)

/-- What a point adds to the gain's gradient. -/
def part_gain (t : Fin cfg0.N) (i : Fin 1) (j : Fin 1024) : EReal :=
  ∑ k : Fin 256, (show Vec Ideal S256x1024 .f32 from iblk m c 0 t) (ix2 k j)
    * ((show Vec Ideal S256x1024 .f32 from iblk m c 1 t) (ix2 k j) * scale fun l => (show Vec Ideal S256x1024 .f32 from iblk m c 1 t) (ix2 k l))
/-- What a point adds to the shift's gradient. -/
def part_shift (t : Fin cfg0.N) (i : Fin 1) (j : Fin 1024) : EReal :=
  ∑ k : Fin 256, (show Vec Ideal S256x1024 .f32 from iblk m c 0 t) (ix2 k j)

/-- The gain's gradient after the first point. -/
theorem first_gain (t : Fin cfg0.N) (h : t.val % 8 = 0) (i : Fin 1) (j : Fin 1024) : (outsAt0 m c t.val t.isLt).2.1 (ix2 i j) = part_gain m c t i j := by
  rw [outsAt0_A m c t h]
  frame_out
  refine (more_gain _ _ _ i j).trans ?_
  rw [none_gain, zero_add]
  rfl
/-- The gain's gradient after a later point. -/
theorem next_gain (t : Fin cfg0.N) (h : ¬ t.val % 8 = 0) (i : Fin 1) (j : Fin 1024) : (outsAt0 m c t.val t.isLt).2.1 (ix2 i j)
    = (outsAt0 m c (t.val - 1) (Nat.lt_of_le_of_lt (Nat.sub_le _ _) t.isLt)).2.1 (ix2 i j) + part_gain m c t i j := by
  rw [outsAt0_B m c t h]
  frame_out
  exact more_gain _ _ _ i j
/-- The shift's gradient after the first point. -/
theorem first_shift (t : Fin cfg0.N) (h : t.val % 8 = 0) (i : Fin 1) (j : Fin 1024) : (outsAt0 m c t.val t.isLt).2.2 (ix2 i j) = part_shift m c t i j := by
  rw [outsAt0_A m c t h]
  frame_out
  refine (more_shift _ _ i j).trans ?_
  rw [none_shift, zero_add]
  rfl
/-- The shift's gradient after a later point. -/
theorem next_shift (t : Fin cfg0.N) (h : ¬ t.val % 8 = 0) (i : Fin 1) (j : Fin 1024) : (outsAt0 m c t.val t.isLt).2.2 (ix2 i j)
    = (outsAt0 m c (t.val - 1) (Nat.lt_of_le_of_lt (Nat.sub_le _ _) t.isLt)).2.2 (ix2 i j) + part_shift m c t i j := by
  rw [outsAt0_B m c t h]
  frame_out
  exact more_shift _ _ i j
/-- Every point writes its block of the row's gradient. -/
theorem out (t : Fin cfg0.N) (q : S256x1024.Idx) : (outsAt0 m c t.val t.isLt).1 q
    = k0_pay7 (F := Ideal) (iblk m c 0 t) (iblk m c 1 t) (iblk m c 2 t) (iblk m c 3 t) (iblk m c 4 t) q := by
  by_cases h : t.val % 8 = 0
  · rw [outsAt0_A m c t h]
    frame_out
  · rw [outsAt0_B m c t h]
    frame_out

/-- The gradient of the norm's argument. -/
theorem final_x : (dats m 0 c).arrAt 5 cfg0.N
    = val_main_v43 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t hf y => ?_
  have ht : t.val < 8 := lt_of_lt_of_eq t.isLt N_0
  have hy0 : (y 0).val < 256 := (y 0).isLt
  have hy1 : (y 1).val < 1024 := (y 1).isLt
  blk_simp
  rw [after0_5]
  refine Eq.trans (b := (outsAt0 m c t.val t.isLt).1 (ix2 ⟨(y 0).val, hy0⟩ ⟨(y 1).val, hy1⟩)) (by blk_ext) ?_
  rw [out m c t]
  refine Eq.trans (row (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) _ _ _ _ _
    ⟨(y 0).val, hy0⟩ ⟨256 * t.val + (y 0).val, by omega⟩ (fun k => ?_) (fun k => ?_) (fun k => ?_) (fun k => ?_) (fun k => ?_) ⟨(y 1).val, hy1⟩) ?_
  · blk_ext [iblk, V, idx t]
  · blk_ext [iblk, V, idx t]
  · blk_ext [iblk, V, idx t]
  · blk_ext [iblk, V, idx t]
  · blk_ext [iblk, V, idx t]
  · blk_ext [idx t]

/-- The gain's gradient. -/
theorem final_gain : (dats m 0 c).arrAt 6 cfg0.N
    = val_main_v26 (F := Ideal) (m ((c.tc : Thread nD τ).loc main_arg0)) (m ((c.tc : Thread nD τ).loc main_arg1)) := by
  refine (dats m 0 c).arrAt_eq_of_covers 6 _ (by decide +kernel) fun t hf y => ?_
  have hm : t.val % 8 = 7 := (flush0_6 t).mp hf
  have ht : t.val < 8 := lt_of_lt_of_eq t.isLt N_0
  have hy0 : (y 0).val < 1 := (y 0).isLt
  have hy1 : (y 1).val < 1024 := (y 1).isLt
  blk_simp
  rw [after0_6]
  refine Eq.trans (b := (outsAt0 m c t.val t.isLt).2.1 (ix2 ⟨(y 0).val, hy0⟩ ⟨(y 1).val, hy1⟩)) (by blk_ext) ?_
  rw [Ffn.carried 8 (fun n h i j => (outsAt0 m c n h).2.1 (ix2 i j)) (part_gain m c) (first_gain m c) (next_gain m c) t hm]
  refine Eq.trans ?_ ((total_gain (m ((c.tc : Thread nD τ).loc main_arg0)) (m ((c.tc : Thread nD τ).loc main_arg1)) ⟨(y 0).val, hy0⟩ ⟨(y 1).val, hy1⟩).symm.trans ?_)
  · refine Fin.sum_mul_add_congr fun s k hl => congrArg₂ (· * ·) ?_ (congrArg₂ (· * ·) ?_ (congrArg scale (funext fun l => ?_))) <;>
      blk_ext [iblk, V, idx ⟨_, Pipeline.run_point_lt_of_flush t hm s⟩]
  · blk_ext [idx t]

/-- The shift's gradient. -/
theorem final_shift : (dats m 0 c).arrAt 7 cfg0.N = val_main_v23 (F := Ideal) (m ((c.tc : Thread nD τ).loc main_arg0)) := by
  refine (dats m 0 c).arrAt_eq_of_covers 7 _ (by decide +kernel) fun t hf y => ?_
  have hm : t.val % 8 = 7 := (flush0_7 t).mp hf
  have ht : t.val < 8 := lt_of_lt_of_eq t.isLt N_0
  have hy0 : (y 0).val < 1 := (y 0).isLt
  have hy1 : (y 1).val < 1024 := (y 1).isLt
  blk_simp
  rw [after0_7]
  refine Eq.trans (b := (outsAt0 m c t.val t.isLt).2.2 (ix2 ⟨(y 0).val, hy0⟩ ⟨(y 1).val, hy1⟩)) (by blk_ext) ?_
  rw [Ffn.carried 8 (fun n h i j => (outsAt0 m c n h).2.2 (ix2 i j)) (part_shift m c) (first_shift m c) (next_shift m c) t hm]
  refine Eq.trans ?_ ((total_shift (m ((c.tc : Thread nD τ).loc main_arg0)) ⟨(y 0).val, hy0⟩ ⟨(y 1).val, hy1⟩).symm.trans ?_)
  · refine Fin.sum_mul_add_congr fun s k hl => ?_
    blk_ext [iblk, V, idx ⟨_, Pipeline.run_point_lt_of_flush t hm s⟩]
  · blk_ext [idx t]

end Cert.NormBwdIdeal.Norm

end
-- ==== Proof.GateBwd.lean ====
/- The gradient through the gated residual: the idealized kernel's arrays are the reference's. -/
module

public import proofs.«01_k».proof.Proof.Gen.GateBwdIdeal.Value
public import proofs.«01_k».proof.Proof.Gen.GateBwdReferenceIdeal.Read
public import proofs.«01_k».proof.Proof.FfnSum
public import Idealize.ShloMosaic.Lib.Pipeline.ReadBack

@[expose] public section

set_option maxRecDepth 16384

noncomputable section

namespace Cert.GateBwdIdeal.Residual

open Idealize.ShloMosaic Idealize.ShloMosaic.TcCoe Idealize.SL.Sem
open Cert.GateBwdIdeal Cert.GateBwdIdeal.Gen Cert.GateBwdReferenceIdeal.Read

/-- One block of the product's gradient. -/
theorem block (x : Vec Ideal S256x1024 .f32) (g : Vec Ideal S1x1024 .f32) (i : Fin 256) (j : Fin 1024) :
    k0_pay1 (F := Ideal) x g (ix2 i j) = x (ix2 i j) * g (ix2 0 j) := by
  pointwise [k0_pay1]
/-- The gate's gradient so far and one block's part more. -/
theorem more (x y : Vec Ideal S256x1024 .f32) (s : Vec Ideal S1x1024 .f32) (i : Fin 1) (j : Fin 1024) :
    k0_pay3 (F := Ideal) x y s (ix2 i j) = s (ix2 i j) + ∑ k : Fin 256, x (ix2 k j) * y (ix2 k j) := by
  pointwise [k0_pay3]
theorem none (i : Fin 1) (j : Fin 1024) : k0_pay2 (F := Ideal) (ix2 i j) = 0 := by
  pointwise [k0_pay2]
/-- The reference's gradient of the product. -/
theorem whole (x : (⟨S2048x1024, .f32⟩ : BufTy).Contents (Elt Ideal)) (g : (⟨S1x1024, .f32⟩ : BufTy).Contents (Elt Ideal)) (i : Fin 2048) (j : Fin 1024) :
    val_main_v7 (F := Ideal) x g (ix2 i j) = x (ix2 i j) * g (ix2 0 j) := by
  pointwise [val_main_v7, val_main_v3, val_main_v2]
  exact mul_comm _ _
/-- The reference's gradient of the gate. -/
theorem total (x y : (⟨S2048x1024, .f32⟩ : BufTy).Contents (Elt Ideal)) (i : Fin 1) (j : Fin 1024) :
    val_main_v6 (F := Ideal) x y (ix2 i j) = ∑ k : Fin 2048, x (ix2 k j) * y (ix2 k j) := by
  pointwise [val_main_v6, val_main_v5, val_main_v4, val_main_cst]

/-- The blocks each point reads and writes. -/
theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

variable (m : (ℓ : Loc nD τ sig) → Buf (Elt Ideal) ℓ) (c : Dev nD)

/-- What a point adds to the gate's gradient. -/
def part (t : Fin cfg0.N) (i : Fin 1) (j : Fin 1024) : EReal :=
  ∑ k : Fin 256, (show Vec Ideal S256x1024 .f32 from iblk m c 0 t) (ix2 k j) * (show Vec Ideal S256x1024 .f32 from iblk m c 1 t) (ix2 k j)

/-- The gate's gradient after the first point. -/
theorem first (t : Fin cfg0.N) (h : t.val % 8 = 0) (i : Fin 1) (j : Fin 1024) : (outsAt0 m c t.val t.isLt).2 (ix2 i j) = part m c t i j := by
  rw [outsAt0_A m c t h]
  frame_out
  refine (more _ _ _ i j).trans ?_
  rw [none, zero_add]
  rfl
/-- The gate's gradient after a later point. -/
theorem next (t : Fin cfg0.N) (h : ¬ t.val % 8 = 0) (i : Fin 1) (j : Fin 1024) : (outsAt0 m c t.val t.isLt).2 (ix2 i j)
    = (outsAt0 m c (t.val - 1) (Nat.lt_of_le_of_lt (Nat.sub_le _ _) t.isLt)).2 (ix2 i j) + part m c t i j := by
  rw [outsAt0_B m c t h]
  frame_out
  exact more _ _ _ i j
/-- Every point writes its block of the product's gradient. -/
theorem out (t : Fin cfg0.N) (i : Fin 256) (j : Fin 1024) : (outsAt0 m c t.val t.isLt).1 (ix2 i j)
    = (show Vec Ideal S256x1024 .f32 from iblk m c 0 t) (ix2 i j) * (show Vec Ideal S1x1024 .f32 from iblk m c 2 t) (ix2 0 j) := by
  by_cases h : t.val % 8 = 0
  · rw [outsAt0_A m c t h]
    frame_out
    exact block _ _ i j
  · rw [outsAt0_B m c t h]
    frame_out
    exact block _ _ i j

/-- The product's gradient. -/
theorem final_y : (dats m 0 c).arrAt 3 cfg0.N
    = val_main_v7 (F := Ideal) (m ((c.tc : Thread nD τ).loc main_arg0)) (m ((c.tc : Thread nD τ).loc main_arg2)) := by
  refine (dats m 0 c).arrAt_eq_of_covers 3 _ (by decide +kernel) fun t hf y => ?_
  have ht : t.val < 8 := lt_of_lt_of_eq t.isLt N_0
  have hy0 : (y 0).val < 256 := (y 0).isLt
  have hy1 : (y 1).val < 1024 := (y 1).isLt
  blk_simp
  rw [after0_3]
  refine Eq.trans (b := (outsAt0 m c t.val t.isLt).1 (ix2 ⟨(y 0).val, hy0⟩ ⟨(y 1).val, hy1⟩)) (by blk_ext) ?_
  rw [out m c t]
  refine Eq.trans ?_ ((whole (m ((c.tc : Thread nD τ).loc main_arg0)) (m ((c.tc : Thread nD τ).loc main_arg2)) ⟨256 * t.val + (y 0).val, by omega⟩ ⟨(y 1).val, hy1⟩).symm.trans ?_)
  · refine congrArg₂ (· * ·) ?_ ?_ <;> blk_ext [iblk, V, idx t]
  · blk_ext [idx t]

/-- The gate's gradient. -/
theorem final_g : (dats m 0 c).arrAt 4 cfg0.N
    = val_main_v6 (F := Ideal) (m ((c.tc : Thread nD τ).loc main_arg0)) (m ((c.tc : Thread nD τ).loc main_arg1)) := by
  refine (dats m 0 c).arrAt_eq_of_covers 4 _ (by decide +kernel) fun t hf y => ?_
  have hm : t.val % 8 = 7 := (flush0_4 t).mp hf
  have ht : t.val < 8 := lt_of_lt_of_eq t.isLt N_0
  have hy0 : (y 0).val < 1 := (y 0).isLt
  have hy1 : (y 1).val < 1024 := (y 1).isLt
  blk_simp
  rw [after0_4]
  refine Eq.trans (b := (outsAt0 m c t.val t.isLt).2 (ix2 ⟨(y 0).val, hy0⟩ ⟨(y 1).val, hy1⟩)) (by blk_ext) ?_
  rw [Ffn.carried 8 (fun n h i j => (outsAt0 m c n h).2 (ix2 i j)) (part m c) (first m c) (next m c) t hm]
  refine Eq.trans ?_ ((total (m ((c.tc : Thread nD τ).loc main_arg0)) (m ((c.tc : Thread nD τ).loc main_arg1)) ⟨(y 0).val, hy0⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.GateBwdIdeal.Residual

end
-- ==== Proof.Act.lean ====
/- The gated activation: the idealized kernel's array is the reference's. -/
module

public import proofs.«01_k».proof.Proof.Gen.ActIdeal.Value
public import proofs.«01_k».proof.Proof.Gen.ActReferenceIdeal.Read
public import Idealize.ShloMosaic.Lib.Pipeline.ValueKit
public import Idealize.ShloMosaic.Lib.Pipeline.ReadBack

@[expose] public section

set_option maxRecDepth 16384

noncomputable section

namespace Cert.ActIdeal.Gated

open Idealize.ShloMosaic Idealize.ShloMosaic.TcCoe Idealize.SL.Sem
open Cert.ActIdeal Cert.ActIdeal.Gen Cert.ActReferenceIdeal.Read

/-- One block. -/
theorem block (u : Vec Ideal S256x5632 .bf16) (i : Fin 256) (j : Fin 2816) :
    k0_pay1 (F := Ideal) u (ix2 i j)
      = u (ix2 i ⟨j.val, by omega⟩) * Ideal.div 1 (1 + Ideal.exp (0 - u (ix2 i ⟨j.val, by omega⟩))) * u (ix2 i ⟨2816 + j.val, by omega⟩) := by
  pointwise [k0_pay1]

/-- The reference. -/
theorem whole (u : (⟨S2048x5632, .bf16⟩ : BufTy).Contents (Elt Ideal)) (i : Fin 2048) (j : Fin 2816) :
    val_main_v5 (F := Ideal) u (ix2 i j)
      = u (ix2 i ⟨j.val, by omega⟩) * Ideal.div 1 (1 + Ideal.exp (-u (ix2 i ⟨j.val, by omega⟩))) * u (ix2 i ⟨2816 + j.val, by omega⟩) := by
  pointwise [val_main_v5, val_main_v4, val_main_v3, val_main_call0_v5, val_main_call0_v4, val_main_call0_v3, val_main_call0_v2, val_main_call0_v1,
    val_main_call0_v0, val_main_call0_cst, val_main_call0_cst_0, val_main_v2, val_main_v1, val_main_v0]

/-- The blocks each point reads and writes. -/
theorem idx : ∀ t : Fin cfg0.N, win0_0.index t = ![t.val, 0] ∧ win0_1.index t = ![t.val, 0] :=
  (by decide +kernel : ∀ t : Fin grid0.N, _)

variable (m : (ℓ : Loc nD τ sig) → Buf (Elt Ideal) ℓ)

/-- The array the run ends with is the reference's. -/
theorem final (c : Dev nD) :
    (dats m 0 c).arrAt 1 cfg0.N = val_main_v5 (F := Ideal) (m ((c.tc : Thread nD τ).loc main_arg0)) := by
  refine (dats m 0 c).arrAt_eq_of_covers 1 _ (by decide +kernel) fun t hf y => ?_
  have ht : t.val < 8 := lt_of_lt_of_eq t.isLt N_0
  have hy0 : (y 0).val < 256 := (y 0).isLt
  have hy1 : (y 1).val < 2816 := (y 1).isLt
  blk_simp
  rw [after0_1]
  frame_out
  refine Eq.trans (b := k0_pay1 (F := Ideal) (iblk m c 0 t) (ix2 ⟨(y 0).val, hy0⟩ ⟨(y 1).val, hy1⟩)) (by blk_ext) ?_
  rw [block, zero_sub]
  refine Eq.trans ?_ ((whole (m ((c.tc : Thread nD τ).loc main_arg0)) ⟨256 * t.val + (y 0).val, by omega⟩ ⟨(y 1).val, hy1⟩).symm.trans ?_)
  · refine congrArg₂ (fun a b : EReal => a * Ideal.div 1 (1 + Ideal.exp (-a)) * b) ?_ ?_ <;> blk_ext [iblk, V, idx t]
  · blk_ext [idx t]

end Cert.ActIdeal.Gated

end
-- ==== Proof.MixSbIn.lean ====
/- The product with the softmax mixer's first weight. -/
module

public import proofs.«01_k».proof.Proof.Gen.SbInIdeal.Value
public import proofs.«01_k».proof.Proof.Gen.SbInReferenceIdeal.Read
public import proofs.«01_k».proof.Proof.FfnSum

@[expose] public section

set_option maxRecDepth 16384

noncomputable section

namespace Cert.SbInIdeal.Product

open Idealize.ShloMosaic Idealize.ShloMosaic.TcCoe Idealize.SL.Sem
open Cert.SbInIdeal Cert.SbInIdeal.Gen Cert.SbInReferenceIdeal.Read

/-- One block's product. -/
theorem part (x : Vec Ideal S1024x1024 .bf16) (w : Vec Ideal S1024x1024 .bf16) (i : Fin 1024) (j : Fin 1024) :
    k0_pay1 (F := Ideal) x w (ix2 i j) = ∑ k : Fin 1024, x (ix2 i k) * w (ix2 j k) := by
  pointwise [k0_pay1]
/-- The reference's product. -/
theorem whole (x : (⟨S2048x1024, .bf16⟩ : BufTy).Contents (Elt Ideal)) (w : (⟨S3072x1024, .bf16⟩ : BufTy).Contents (Elt Ideal)) (i : Fin 2048) (j : Fin 3072) :
    val_main_v3 (F := Ideal) x w (ix2 i j) = ∑ k : Fin 1024, x (ix2 i k) * w (ix2 j k) := by
  pointwise [val_main_v3, val_main_v2, val_main_v1, val_main_v0]

/-- The blocks each point reads and writes. -/
theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v3 (F := Ideal) (m ((c.tc : Thread nD τ).loc main_arg0)) (m ((c.tc : Thread nD τ).loc main_arg1)) := by
  refine (dats m 0 c).arrAt_eq_of_covers 2 _ (by decide +kernel) fun t hf y => ?_
  have ht : t.val < 6 := lt_of_lt_of_eq t.isLt N_0
  have hy0 : (y 0).val < 1024 := (y 0).isLt
  have hy1 : (y 1).val < 1024 := (y 1).isLt
  blk_simp
  rw [after0_2]
  frame_out
  refine Eq.trans (b := k0_pay1 (F := Ideal) (iblk m c 0 t) (iblk m c 1 t) (ix2 ⟨(y 0).val, hy0⟩ ⟨(y 1).val, hy1⟩)) (by blk_ext) ((part _ _ _ _).trans ?_)
  refine Eq.trans ?_ ((whole (m ((c.tc : Thread nD τ).loc main_arg0)) (m ((c.tc : Thread nD τ).loc main_arg1)) ⟨1024 * (t.val / 3) + (y 0).val, by omega⟩ ⟨1024 * (t.val % 3) + (y 1).val, by omega⟩).symm.trans ?_)
  · refine Finset.sum_congr rfl fun k _ => congrArg₂ (· * ·) ?_ ?_ <;> blk_ext [iblk, V, idx t]
  · blk_ext [idx t]

end Cert.SbInIdeal.Product

end
-- ==== Proof.MixSbInBwd.lean ====
/- The gradient of the softmax mixer's input. -/
module

public import proofs.«01_k».proof.Proof.Gen.SbInBwdIdeal.Value
public import proofs.«01_k».proof.Proof.Gen.SbInBwdReferenceIdeal.Read
public import proofs.«01_k».proof.Proof.FfnSum

@[expose] public section

set_option maxRecDepth 16384

noncomputable section

namespace Cert.SbInBwdIdeal.Product

open Idealize.ShloMosaic Idealize.ShloMosaic.TcCoe Idealize.SL.Sem
open Cert.SbInBwdIdeal Cert.SbInBwdIdeal.Gen Cert.SbInBwdReferenceIdeal.Read

/-- One block's product. -/
theorem part (x : Vec Ideal S1024x1024 .bf16) (w : Vec Ideal S1024x1024 .bf16) (i : Fin 1024) (j : Fin 1024) :
    k0_pay2 (F := Ideal) x w (ix2 i j) = ∑ k : Fin 1024, x (ix2 i k) * w (ix2 k j) := by
  pointwise [k0_pay2, k0_pay1]
/-- The sum so far and one block's product more. -/
theorem more (x : Vec Ideal S1024x1024 .bf16) (w : Vec Ideal S1024x1024 .bf16) (s : Vec Ideal S1024x1024 .f32) (i : Fin 1024) (j : Fin 1024) :
    k0_pay3 (F := Ideal) x w s (ix2 i j) = s (ix2 i j) + ∑ k : Fin 1024, x (ix2 i k) * w (ix2 k j) := by
  pointwise [k0_pay3, k0_pay1]
/-- The reference's product. -/
theorem whole (x : (⟨S2048x3072, .bf16⟩ : BufTy).Contents (Elt Ideal)) (w : (⟨S3072x1024, .bf16⟩ : BufTy).Contents (Elt Ideal)) (i : Fin 2048) (j : Fin 1024) :
    val_main_v5 (F := Ideal) x w (ix2 i j) = ∑ k : Fin 3072, x (ix2 i k) * w (ix2 k j) := by
  pointwise [val_main_v5, val_main_v4, val_main_v3, val_main_v2, val_main_v1, val_main_v0]

/-- The blocks each point reads and writes. -/
theorem idx : ∀ t : Fin cfg0.N, win0_0.index t = ![t.val / 3, t.val % 3] ∧ win0_1.index t = ![t.val % 3, 0] ∧ win0_2.index t = ![t.val / 3, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1024) (j : Fin 1024) : EReal :=
  ∑ k : Fin 1024, (show Vec Ideal S1024x1024 .bf16 from iblk m c 0 t) (ix2 i k) * (show Vec Ideal S1024x1024 .bf16 from iblk m c 1 t) (ix2 k j)

/-- The sum after the first point of a run. -/
theorem first (t : Fin cfg0.N) (h : t.val % 3 = 0) (i : Fin 1024) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 3 = 0) (i : Fin 1024) (j : Fin 1024) : (outsAt0 m c t.val t.isLt).2 (ix2 i j)
    = (outsAt0 m c (t.val - 1) (Nat.lt_of_le_of_lt (Nat.sub_le _ _) t.isLt)).2 (ix2 i j) + prod m c t i j := by
  by_cases h3 : t.val % 3 = 2
  · rw [outsAt0_C m c t h (by omega) h3]
    frame_out
    refine (more _ _ _ i j).trans ?_
    rw [read_unread_whole]
    rfl
  · rw [outsAt0_B m c t h (by omega) h3]
    frame_out
    refine (more _ _ _ i j).trans ?_
    rw [read_unread_whole]
    rfl
/-- The last point of a run writes the sum out. -/
theorem out (t : Fin cfg0.N) (h : t.val % 3 = 2) (i : Fin 1024) (j : Fin 1024) :
    (outsAt0 m c t.val t.isLt).1 (ix2 i j) = (outsAt0 m c t.val t.isLt).2 (ix2 i j) := by
  rw [outsAt0_C m c t (by omega) (by omega) h]
  frame_out

/-- The array the run ends with is the reference's. -/
theorem final : (dats m 0 c).arrAt 2 cfg0.N
    = val_main_v5 (F := Ideal) (m ((c.tc : Thread nD τ).loc main_arg0)) (m ((c.tc : Thread nD τ).loc main_arg1)) := by
  refine (dats m 0 c).arrAt_eq_of_covers 2 _ (by decide +kernel) fun t hf y => ?_
  have hm : t.val % 3 = 2 := (flush0_2 t).mp hf
  have ht : t.val < 6 := lt_of_lt_of_eq t.isLt N_0
  have hy0 : (y 0).val < 1024 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 3 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1024 * (t.val / 3) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.SbInBwdIdeal.Product

end
-- ==== Proof.MixSbInWg.lean ====
/- The gradient of the softmax mixer's first weight. -/
module

public import proofs.«01_k».proof.Proof.Gen.SbInWgIdeal.Value
public import proofs.«01_k».proof.Proof.Gen.SbInWgReferenceIdeal.Read
public import proofs.«01_k».proof.Proof.FfnSum

@[expose] public section

set_option maxRecDepth 16384

noncomputable section

namespace Cert.SbInWgIdeal.Product

open Idealize.ShloMosaic Idealize.ShloMosaic.TcCoe Idealize.SL.Sem
open Cert.SbInWgIdeal Cert.SbInWgIdeal.Gen Cert.SbInWgReferenceIdeal.Read

/-- One block's product. -/
theorem part (x : Vec Ideal S1024x1024 .bf16) (w : Vec Ideal S1024x1024 .bf16) (i : Fin 1024) (j : Fin 1024) :
    k0_pay2 (F := Ideal) x w (ix2 i j) = ∑ k : Fin 1024, x (ix2 k i) * w (ix2 k j) := by
  pointwise [k0_pay2, k0_pay1]
/-- The sum so far and one block's product more. -/
theorem more (x : Vec Ideal S1024x1024 .bf16) (w : Vec Ideal S1024x1024 .bf16) (s : Vec Ideal S1024x1024 .f32) (i : Fin 1024) (j : Fin 1024) :
    k0_pay3 (F := Ideal) x w s (ix2 i j) = s (ix2 i j) + ∑ k : Fin 1024, x (ix2 k i) * w (ix2 k j) := by
  pointwise [k0_pay3, k0_pay1]
/-- The reference's product. -/
theorem whole (x : (⟨S2048x3072, .bf16⟩ : BufTy).Contents (Elt Ideal)) (w : (⟨S2048x1024, .bf16⟩ : BufTy).Contents (Elt Ideal)) (i : Fin 3072) (j : Fin 1024) :
    val_main_v8 (F := Ideal) x w (ix2 i j) = ∑ k : Fin 2048, x (ix2 k i) * w (ix2 k j) := by
  pointwise [val_main_v8, val_main_v7, val_main_v6, val_main_v5, val_main_v4, val_main_v3, val_main_v2, val_main_v1, val_main_v0]

/-- The blocks each point reads and writes. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1024) (j : Fin 1024) : EReal :=
  ∑ k : Fin 1024, (show Vec Ideal S1024x1024 .bf16 from iblk m c 0 t) (ix2 k i) * (show Vec Ideal S1024x1024 .bf16 from iblk m c 1 t) (ix2 k j)

/-- The sum after the first point of a run. -/
theorem first (t : Fin cfg0.N) (h : t.val % 2 = 0) (i : Fin 1024) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 2 = 0) (i : Fin 1024) (j : Fin 1024) : (outsAt0 m c t.val t.isLt).2 (ix2 i j)
    = (outsAt0 m c (t.val - 1) (Nat.lt_of_le_of_lt (Nat.sub_le _ _) t.isLt)).2 (ix2 i j) + prod m c t i j := by
  rw [outsAt0_B m c t h (by omega) (by omega)]
  frame_out
  refine (more _ _ _ i j).trans ?_
  rw [read_unread_whole]
  rfl
/-- The last point of a run writes the sum out. -/
theorem out (t : Fin cfg0.N) (h : t.val % 2 = 1) (i : Fin 1024) (j : Fin 1024) :
    (outsAt0 m c t.val t.isLt).1 (ix2 i j) = (outsAt0 m c t.val t.isLt).2 (ix2 i j) := by
  rw [outsAt0_B m c t (by omega) (by omega) h]
  frame_out
  pointwise [k0_pay4]

/-- The array the run ends with is the reference's. -/
theorem final : (dats m 0 c).arrAt 2 cfg0.N
    = val_main_v8 (F := Ideal) (m ((c.tc : Thread nD τ).loc main_arg0)) (m ((c.tc : Thread nD τ).loc main_arg1)) := by
  refine (dats m 0 c).arrAt_eq_of_covers 2 _ (by decide +kernel) fun t hf y => ?_
  have hm : t.val % 2 = 1 := (flush0_2 t).mp hf
  have ht : t.val < 6 := lt_of_lt_of_eq t.isLt N_0
  have hy0 : (y 0).val < 1024 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 2 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1024 * (t.val / 2) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.SbInWgIdeal.Product

end
-- ==== Proof.MixDnIn.lean ====
/- The product with the deltanet's first weight. -/
module

public import proofs.«01_k».proof.Proof.Gen.DnInIdeal.Value
public import proofs.«01_k».proof.Proof.Gen.DnInReferenceIdeal.Read
public import proofs.«01_k».proof.Proof.FfnSum

@[expose] public section

set_option maxRecDepth 16384

noncomputable section

namespace Cert.DnInIdeal.Product

open Idealize.ShloMosaic Idealize.ShloMosaic.TcCoe Idealize.SL.Sem
open Cert.DnInIdeal Cert.DnInIdeal.Gen Cert.DnInReferenceIdeal.Read

/-- One block's product. -/
theorem part (x : Vec Ideal S1024x1024 .bf16) (w : Vec Ideal S1408x1024 .bf16) (i : Fin 1024) (j : Fin 1408) :
    k0_pay1 (F := Ideal) x w (ix2 i j) = ∑ k : Fin 1024, x (ix2 i k) * w (ix2 j k) := by
  pointwise [k0_pay1]
/-- The reference's product. -/
theorem whole (x : (⟨S2048x1024, .bf16⟩ : BufTy).Contents (Elt Ideal)) (w : (⟨S4224x1024, .bf16⟩ : BufTy).Contents (Elt Ideal)) (i : Fin 2048) (j : Fin 4224) :
    val_main_v3 (F := Ideal) x w (ix2 i j) = ∑ k : Fin 1024, x (ix2 i k) * w (ix2 j k) := by
  pointwise [val_main_v3, val_main_v2, val_main_v1, val_main_v0]

/-- The blocks each point reads and writes. -/
theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v3 (F := Ideal) (m ((c.tc : Thread nD τ).loc main_arg0)) (m ((c.tc : Thread nD τ).loc main_arg1)) := by
  refine (dats m 0 c).arrAt_eq_of_covers 2 _ (by decide +kernel) fun t hf y => ?_
  have ht : t.val < 6 := lt_of_lt_of_eq t.isLt N_0
  have hy0 : (y 0).val < 1024 := (y 0).isLt
  have hy1 : (y 1).val < 1408 := (y 1).isLt
  blk_simp
  rw [after0_2]
  frame_out
  refine Eq.trans (b := k0_pay1 (F := Ideal) (iblk m c 0 t) (iblk m c 1 t) (ix2 ⟨(y 0).val, hy0⟩ ⟨(y 1).val, hy1⟩)) (by blk_ext) ((part _ _ _ _).trans ?_)
  refine Eq.trans ?_ ((whole (m ((c.tc : Thread nD τ).loc main_arg0)) (m ((c.tc : Thread nD τ).loc main_arg1)) ⟨1024 * (t.val / 3) + (y 0).val, by omega⟩ ⟨1408 * (t.val % 3) + (y 1).val, by omega⟩).symm.trans ?_)
  · refine Finset.sum_congr rfl fun k _ => congrArg₂ (· * ·) ?_ ?_ <;> blk_ext [iblk, V, idx t]
  · blk_ext [idx t]

end Cert.DnInIdeal.Product

end
-- ==== Proof.MixDnInBwd.lean ====
/- The gradient of the deltanet's input. -/
module

public import proofs.«01_k».proof.Proof.Gen.DnInBwdIdeal.Value
public import proofs.«01_k».proof.Proof.Gen.DnInBwdReferenceIdeal.Read
public import proofs.«01_k».proof.Proof.FfnSum

@[expose] public section

set_option maxRecDepth 16384

noncomputable section

namespace Cert.DnInBwdIdeal.Product

open Idealize.ShloMosaic Idealize.ShloMosaic.TcCoe Idealize.SL.Sem
open Cert.DnInBwdIdeal Cert.DnInBwdIdeal.Gen Cert.DnInBwdReferenceIdeal.Read

/-- One block's product. -/
theorem part (x : Vec Ideal S1024x1408 .bf16) (w : Vec Ideal S1408x1024 .bf16) (i : Fin 1024) (j : Fin 1024) :
    k0_pay2 (F := Ideal) x w (ix2 i j) = ∑ k : Fin 1408, x (ix2 i k) * w (ix2 k j) := by
  pointwise [k0_pay2, k0_pay1]
/-- The sum so far and one block's product more. -/
theorem more (x : Vec Ideal S1024x1408 .bf16) (w : Vec Ideal S1408x1024 .bf16) (s : Vec Ideal S1024x1024 .f32) (i : Fin 1024) (j : Fin 1024) :
    k0_pay3 (F := Ideal) x w s (ix2 i j) = s (ix2 i j) + ∑ k : Fin 1408, x (ix2 i k) * w (ix2 k j) := by
  pointwise [k0_pay3, k0_pay1]
/-- The reference's product. -/
theorem whole (x : (⟨S2048x4224, .bf16⟩ : BufTy).Contents (Elt Ideal)) (w : (⟨S4224x1024, .bf16⟩ : BufTy).Contents (Elt Ideal)) (i : Fin 2048) (j : Fin 1024) :
    val_main_v5 (F := Ideal) x w (ix2 i j) = ∑ k : Fin 4224, x (ix2 i k) * w (ix2 k j) := by
  pointwise [val_main_v5, val_main_v4, val_main_v3, val_main_v2, val_main_v1, val_main_v0]

/-- The blocks each point reads and writes. -/
theorem idx : ∀ t : Fin cfg0.N, win0_0.index t = ![t.val / 3, t.val % 3] ∧ win0_1.index t = ![t.val % 3, 0] ∧ win0_2.index t = ![t.val / 3, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1024) (j : Fin 1024) : EReal :=
  ∑ k : Fin 1408, (show Vec Ideal S1024x1408 .bf16 from iblk m c 0 t) (ix2 i k) * (show Vec Ideal S1408x1024 .bf16 from iblk m c 1 t) (ix2 k j)

/-- The sum after the first point of a run. -/
theorem first (t : Fin cfg0.N) (h : t.val % 3 = 0) (i : Fin 1024) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 3 = 0) (i : Fin 1024) (j : Fin 1024) : (outsAt0 m c t.val t.isLt).2 (ix2 i j)
    = (outsAt0 m c (t.val - 1) (Nat.lt_of_le_of_lt (Nat.sub_le _ _) t.isLt)).2 (ix2 i j) + prod m c t i j := by
  by_cases h3 : t.val % 3 = 2
  · rw [outsAt0_C m c t h (by omega) h3]
    frame_out
    refine (more _ _ _ i j).trans ?_
    rw [read_unread_whole]
    rfl
  · rw [outsAt0_B m c t h (by omega) h3]
    frame_out
    refine (more _ _ _ i j).trans ?_
    rw [read_unread_whole]
    rfl
/-- The last point of a run writes the sum out. -/
theorem out (t : Fin cfg0.N) (h : t.val % 3 = 2) (i : Fin 1024) (j : Fin 1024) :
    (outsAt0 m c t.val t.isLt).1 (ix2 i j) = (outsAt0 m c t.val t.isLt).2 (ix2 i j) := by
  rw [outsAt0_C m c t (by omega) (by omega) h]
  frame_out

/-- The array the run ends with is the reference's. -/
theorem final : (dats m 0 c).arrAt 2 cfg0.N
    = val_main_v5 (F := Ideal) (m ((c.tc : Thread nD τ).loc main_arg0)) (m ((c.tc : Thread nD τ).loc main_arg1)) := by
  refine (dats m 0 c).arrAt_eq_of_covers 2 _ (by decide +kernel) fun t hf y => ?_
  have hm : t.val % 3 = 2 := (flush0_2 t).mp hf
  have ht : t.val < 6 := lt_of_lt_of_eq t.isLt N_0
  have hy0 : (y 0).val < 1024 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 3 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1024 * (t.val / 3) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.DnInBwdIdeal.Product

end
-- ==== Proof.MixDnInWg.lean ====
/- The gradient of the deltanet's first weight. -/
module

public import proofs.«01_k».proof.Proof.Gen.DnInWgIdeal.Value
public import proofs.«01_k».proof.Proof.Gen.DnInWgReferenceIdeal.Read
public import proofs.«01_k».proof.Proof.FfnSum

@[expose] public section

set_option maxRecDepth 16384

noncomputable section

namespace Cert.DnInWgIdeal.Product

open Idealize.ShloMosaic Idealize.ShloMosaic.TcCoe Idealize.SL.Sem
open Cert.DnInWgIdeal Cert.DnInWgIdeal.Gen Cert.DnInWgReferenceIdeal.Read

/-- One block's product. -/
theorem part (x : Vec Ideal S1024x1408 .bf16) (w : Vec Ideal S1024x1024 .bf16) (i : Fin 1408) (j : Fin 1024) :
    k0_pay2 (F := Ideal) x w (ix2 i j) = ∑ k : Fin 1024, x (ix2 k i) * w (ix2 k j) := by
  pointwise [k0_pay2, k0_pay1]
/-- The sum so far and one block's product more. -/
theorem more (x : Vec Ideal S1024x1408 .bf16) (w : Vec Ideal S1024x1024 .bf16) (s : Vec Ideal S1408x1024 .f32) (i : Fin 1408) (j : Fin 1024) :
    k0_pay3 (F := Ideal) x w s (ix2 i j) = s (ix2 i j) + ∑ k : Fin 1024, x (ix2 k i) * w (ix2 k j) := by
  pointwise [k0_pay3, k0_pay1]
/-- The reference's product. -/
theorem whole (x : (⟨S2048x4224, .bf16⟩ : BufTy).Contents (Elt Ideal)) (w : (⟨S2048x1024, .bf16⟩ : BufTy).Contents (Elt Ideal)) (i : Fin 4224) (j : Fin 1024) :
    val_main_v8 (F := Ideal) x w (ix2 i j) = ∑ k : Fin 2048, x (ix2 k i) * w (ix2 k j) := by
  pointwise [val_main_v8, val_main_v7, val_main_v6, val_main_v5, val_main_v4, val_main_v3, val_main_v2, val_main_v1, val_main_v0]

/-- The blocks each point reads and writes. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1408) (j : Fin 1024) : EReal :=
  ∑ k : Fin 1024, (show Vec Ideal S1024x1408 .bf16 from iblk m c 0 t) (ix2 k i) * (show Vec Ideal S1024x1024 .bf16 from iblk m c 1 t) (ix2 k j)

/-- The sum after the first point of a run. -/
theorem first (t : Fin cfg0.N) (h : t.val % 2 = 0) (i : Fin 1408) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 2 = 0) (i : Fin 1408) (j : Fin 1024) : (outsAt0 m c t.val t.isLt).2 (ix2 i j)
    = (outsAt0 m c (t.val - 1) (Nat.lt_of_le_of_lt (Nat.sub_le _ _) t.isLt)).2 (ix2 i j) + prod m c t i j := by
  rw [outsAt0_B m c t h (by omega) (by omega)]
  frame_out
  refine (more _ _ _ i j).trans ?_
  rw [read_unread_whole]
  rfl
/-- The last point of a run writes the sum out. -/
theorem out (t : Fin cfg0.N) (h : t.val % 2 = 1) (i : Fin 1408) (j : Fin 1024) :
    (outsAt0 m c t.val t.isLt).1 (ix2 i j) = (outsAt0 m c t.val t.isLt).2 (ix2 i j) := by
  rw [outsAt0_B m c t (by omega) (by omega) h]
  frame_out
  pointwise [k0_pay4]

/-- The array the run ends with is the reference's. -/
theorem final : (dats m 0 c).arrAt 2 cfg0.N
    = val_main_v8 (F := Ideal) (m ((c.tc : Thread nD τ).loc main_arg0)) (m ((c.tc : Thread nD τ).loc main_arg1)) := by
  refine (dats m 0 c).arrAt_eq_of_covers 2 _ (by decide +kernel) fun t hf y => ?_
  have hm : t.val % 2 = 1 := (flush0_2 t).mp hf
  have ht : t.val < 6 := lt_of_lt_of_eq t.isLt N_0
  have hy0 : (y 0).val < 1408 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 2 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨1408 * (t.val / 2) + (y 0).val, by omega⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.DnInWgIdeal.Product

end
-- ==== Proof.MixOut.lean ====
/- The product with a mixer's second weight. -/
module

public import proofs.«01_k».proof.Proof.Gen.MixOutIdeal.Value
public import proofs.«01_k».proof.Proof.Gen.MixOutReferenceIdeal.Read
public import proofs.«01_k».proof.Proof.FfnSum

@[expose] public section

set_option maxRecDepth 16384

noncomputable section

namespace Cert.MixOutIdeal.Product

open Idealize.ShloMosaic Idealize.ShloMosaic.TcCoe Idealize.SL.Sem
open Cert.MixOutIdeal Cert.MixOutIdeal.Gen Cert.MixOutReferenceIdeal.Read

/-- One block's product. -/
theorem part (x : Vec Ideal S1024x1024 .bf16) (w : Vec Ideal S1024x1024 .bf16) (i : Fin 1024) (j : Fin 1024) :
    k0_pay1 (F := Ideal) x w (ix2 i j) = ∑ k : Fin 1024, x (ix2 i k) * w (ix2 k j) := by
  pointwise [k0_pay1]
/-- The reference's product. -/
theorem whole (x : (⟨S2048x1024, .bf16⟩ : BufTy).Contents (Elt Ideal)) (w : (⟨S1024x1024, .bf16⟩ : BufTy).Contents (Elt Ideal)) (i : Fin 2048) (j : Fin 1024) :
    val_main_v2 (F := Ideal) x w (ix2 i j) = ∑ k : Fin 1024, x (ix2 i k) * w (ix2 k j) := by
  pointwise [val_main_v2, val_main_v1, val_main_v0]

/-- The blocks each point reads and writes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v2 (F := Ideal) (m ((c.tc : Thread nD τ).loc main_arg0)) (m ((c.tc : Thread nD τ).loc main_arg1)) := by
  refine (dats m 0 c).arrAt_eq_of_covers 2 _ (by decide +kernel) fun t hf y => ?_
  have ht : t.val < 2 := lt_of_lt_of_eq t.isLt N_0
  have hy0 : (y 0).val < 1024 := (y 0).isLt
  have hy1 : (y 1).val < 1024 := (y 1).isLt
  blk_simp
  rw [after0_2]
  frame_out
  refine Eq.trans (b := k0_pay1 (F := Ideal) (iblk m c 0 t) (iblk m c 1 t) (ix2 ⟨(y 0).val, hy0⟩ ⟨(y 1).val, hy1⟩)) (by blk_ext) ((part _ _ _ _).trans ?_)
  refine Eq.trans ?_ ((whole (m ((c.tc : Thread nD τ).loc main_arg0)) (m ((c.tc : Thread nD τ).loc main_arg1)) ⟨1024 * t.val + (y 0).val, by omega⟩ ⟨(y 1).val, hy1⟩).symm.trans ?_)
  · refine Finset.sum_congr rfl fun k _ => congrArg₂ (· * ·) ?_ ?_ <;> blk_ext [iblk, V, idx t]
  · blk_ext [idx t]

end Cert.MixOutIdeal.Product

end
-- ==== Proof.MixSbOutBwd.lean ====
/- The gradient of the softmax mixer's gated output. -/
module

public import proofs.«01_k».proof.Proof.Gen.SbOutBwdIdeal.Value
public import proofs.«01_k».proof.Proof.Gen.SbOutBwdReferenceIdeal.Read
public import proofs.«01_k».proof.Proof.FfnSum

@[expose] public section

set_option maxRecDepth 16384

noncomputable section

namespace Cert.SbOutBwdIdeal.Product

open Idealize.ShloMosaic Idealize.ShloMosaic.TcCoe Idealize.SL.Sem
open Cert.SbOutBwdIdeal Cert.SbOutBwdIdeal.Gen Cert.SbOutBwdReferenceIdeal.Read

/-- One block's product. -/
theorem part (x : Vec Ideal S1024x1024 .bf16) (w : Vec Ideal S1024x1024 .bf16) (i : Fin 1024) (j : Fin 1024) :
    k0_pay1 (F := Ideal) x w (ix2 i j) = ∑ k : Fin 1024, x (ix2 i k) * w (ix2 j k) := by
  pointwise [k0_pay1]
/-- The reference's product. -/
theorem whole (x : (⟨S2048x1024, .bf16⟩ : BufTy).Contents (Elt Ideal)) (w : (⟨S1024x1024, .bf16⟩ : BufTy).Contents (Elt Ideal)) (i : Fin 2048) (j : Fin 1024) :
    val_main_v5 (F := Ideal) x w (ix2 i j) = ∑ k : Fin 1024, x (ix2 i k) * w (ix2 j k) := by
  pointwise [val_main_v5, val_main_v4, val_main_v3, val_main_v2, val_main_v1, val_main_v0]

/-- The blocks each point reads and writes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v5 (F := Ideal) (m ((c.tc : Thread nD τ).loc main_arg0)) (m ((c.tc : Thread nD τ).loc main_arg1)) := by
  refine (dats m 0 c).arrAt_eq_of_covers 2 _ (by decide +kernel) fun t hf y => ?_
  have ht : t.val < 2 := lt_of_lt_of_eq t.isLt N_0
  have hy0 : (y 0).val < 1024 := (y 0).isLt
  have hy1 : (y 1).val < 1024 := (y 1).isLt
  blk_simp
  rw [after0_2]
  frame_out
  refine Eq.trans (b := k0_pay1 (F := Ideal) (iblk m c 0 t) (iblk m c 1 t) (ix2 ⟨(y 0).val, hy0⟩ ⟨(y 1).val, hy1⟩)) (by blk_ext) ((part _ _ _ _).trans ?_)
  refine Eq.trans ?_ ((whole (m ((c.tc : Thread nD τ).loc main_arg0)) (m ((c.tc : Thread nD τ).loc main_arg1)) ⟨1024 * t.val + (y 0).val, by omega⟩ ⟨(y 1).val, hy1⟩).symm.trans ?_)
  · refine Finset.sum_congr rfl fun k _ => congrArg₂ (· * ·) ?_ ?_ <;> blk_ext [iblk, V, idx t]
  · blk_ext [idx t]

end Cert.SbOutBwdIdeal.Product

end
-- ==== Proof.MixDnOutBwd.lean ====
/- The gradient of the deltanet's gated output. -/
module

public import proofs.«01_k».proof.Proof.Gen.DnOutBwdIdeal.Value
public import proofs.«01_k».proof.Proof.Gen.DnOutBwdReferenceIdeal.Read
public import proofs.«01_k».proof.Proof.FfnSum

@[expose] public section

set_option maxRecDepth 16384

noncomputable section

namespace Cert.DnOutBwdIdeal.Product

open Idealize.ShloMosaic Idealize.ShloMosaic.TcCoe Idealize.SL.Sem
open Cert.DnOutBwdIdeal Cert.DnOutBwdIdeal.Gen Cert.DnOutBwdReferenceIdeal.Read

/-- One block's product. -/
theorem part (x : Vec Ideal S1024x1024 .bf16) (w : Vec Ideal S1024x1024 .bf16) (i : Fin 1024) (j : Fin 1024) :
    k0_pay1 (F := Ideal) x w (ix2 i j) = ∑ k : Fin 1024, x (ix2 i k) * w (ix2 j k) := by
  pointwise [k0_pay1]
/-- The reference's product. -/
theorem whole (x : (⟨S2048x1024, .bf16⟩ : BufTy).Contents (Elt Ideal)) (w : (⟨S1024x1024, .bf16⟩ : BufTy).Contents (Elt Ideal)) (i : Fin 2048) (j : Fin 1024) :
    val_main_v4 (F := Ideal) x w (ix2 i j) = ∑ k : Fin 1024, x (ix2 i k) * w (ix2 j k) := by
  pointwise [val_main_v4, val_main_v3, val_main_v2, val_main_v1, val_main_v0]

/-- The blocks each point reads and writes. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have ht : t.val < 2 := lt_of_lt_of_eq t.isLt N_0
  have hy0 : (y 0).val < 1024 := (y 0).isLt
  have hy1 : (y 1).val < 1024 := (y 1).isLt
  blk_simp
  rw [after0_2]
  frame_out
  refine Eq.trans (b := k0_pay1 (F := Ideal) (iblk m c 0 t) (iblk m c 1 t) (ix2 ⟨(y 0).val, hy0⟩ ⟨(y 1).val, hy1⟩)) (by blk_ext) ((part _ _ _ _).trans ?_)
  refine Eq.trans ?_ ((whole (m ((c.tc : Thread nD τ).loc main_arg0)) (m ((c.tc : Thread nD τ).loc main_arg1)) ⟨1024 * t.val + (y 0).val, by omega⟩ ⟨(y 1).val, hy1⟩).symm.trans ?_)
  · refine Finset.sum_congr rfl fun k _ => congrArg₂ (· * ·) ?_ ?_ <;> blk_ext [iblk, V, idx t]
  · blk_ext [idx t]

end Cert.DnOutBwdIdeal.Product

end
-- ==== Proof.MixOutWg.lean ====
/- The gradient of a mixer's second weight. -/
module

public import proofs.«01_k».proof.Proof.Gen.MixOutWgIdeal.Value
public import proofs.«01_k».proof.Proof.Gen.MixOutWgReferenceIdeal.Read
public import proofs.«01_k».proof.Proof.FfnSum

@[expose] public section

set_option maxRecDepth 16384

noncomputable section

namespace Cert.MixOutWgIdeal.Product

open Idealize.ShloMosaic Idealize.ShloMosaic.TcCoe Idealize.SL.Sem
open Cert.MixOutWgIdeal Cert.MixOutWgIdeal.Gen Cert.MixOutWgReferenceIdeal.Read

/-- One block's product. -/
theorem part (x : Vec Ideal S1024x1024 .bf16) (w : Vec Ideal S1024x1024 .bf16) (i : Fin 1024) (j : Fin 1024) :
    k0_pay2 (F := Ideal) x w (ix2 i j) = ∑ k : Fin 1024, x (ix2 k i) * w (ix2 k j) := by
  pointwise [k0_pay2, k0_pay1]
/-- The sum so far and one block's product more. -/
theorem more (x : Vec Ideal S1024x1024 .bf16) (w : Vec Ideal S1024x1024 .bf16) (s : Vec Ideal S1024x1024 .f32) (i : Fin 1024) (j : Fin 1024) :
    k0_pay3 (F := Ideal) x w s (ix2 i j) = s (ix2 i j) + ∑ k : Fin 1024, x (ix2 k i) * w (ix2 k j) := by
  pointwise [k0_pay3, k0_pay1]
/-- The reference's product. -/
theorem whole (x : (⟨S2048x1024, .bf16⟩ : BufTy).Contents (Elt Ideal)) (w : (⟨S2048x1024, .bf16⟩ : BufTy).Contents (Elt Ideal)) (i : Fin 1024) (j : Fin 1024) :
    val_main_v6 (F := Ideal) x w (ix2 i j) = ∑ k : Fin 2048, x (ix2 k i) * w (ix2 k j) := by
  pointwise [val_main_v6, val_main_v5, val_main_v4, val_main_v3, val_main_v2, val_main_v1, val_main_v0]
  exact Finset.sum_congr rfl fun k _ => mul_comm _ _

/-- The blocks each point reads and writes. -/
theorem idx : ∀ t : Fin cfg0.N, win0_0.index t = ![t.val % 2, 0] ∧ win0_1.index t = ![t.val % 2, 0] ∧ win0_2.index t = ![0, 0] :=
  (by decide +kernel : ∀ t : Fin grid0.N, _)

variable (m : (ℓ : Loc nD τ sig) → Buf (Elt Ideal) ℓ) (c : Dev nD)

/-- The product of the blocks read at a point. -/
def prod (t : Fin cfg0.N) (i : Fin 1024) (j : Fin 1024) : EReal :=
  ∑ k : Fin 1024, (show Vec Ideal S1024x1024 .bf16 from iblk m c 0 t) (ix2 k i) * (show Vec Ideal S1024x1024 .bf16 from iblk m c 1 t) (ix2 k j)

/-- The sum after the first point of a run. -/
theorem first (t : Fin cfg0.N) (h : t.val % 2 = 0) (i : Fin 1024) (j : Fin 1024) : (outsAt0 m c t.val t.isLt).2 (ix2 i j) = prod m c t i j := by
  rw [outsAt0_A m c t h (by omega) (by omega)]
  frame_out
  exact part _ _ i j
/-- The sum after a later point. -/
theorem next (t : Fin cfg0.N) (h : ¬ t.val % 2 = 0) (i : Fin 1024) (j : Fin 1024) : (outsAt0 m c t.val t.isLt).2 (ix2 i j)
    = (outsAt0 m c (t.val - 1) (Nat.lt_of_le_of_lt (Nat.sub_le _ _) t.isLt)).2 (ix2 i j) + prod m c t i j := by
  rw [outsAt0_B m c t h (by omega) (by omega)]
  frame_out
  refine (more _ _ _ i j).trans ?_
  rw [read_unread_whole]
  rfl
/-- The last point of a run writes the sum out. -/
theorem out (t : Fin cfg0.N) (h : t.val % 2 = 1) (i : Fin 1024) (j : Fin 1024) :
    (outsAt0 m c t.val t.isLt).1 (ix2 i j) = (outsAt0 m c t.val t.isLt).2 (ix2 i j) := by
  rw [outsAt0_B m c t (by omega) (by omega) h]
  frame_out
  pointwise [k0_pay4]

/-- The array the run ends with is the reference's. -/
theorem final : (dats m 0 c).arrAt 2 cfg0.N
    = val_main_v6 (F := Ideal) (m ((c.tc : Thread nD τ).loc main_arg0)) (m ((c.tc : Thread nD τ).loc main_arg1)) := by
  refine (dats m 0 c).arrAt_eq_of_covers 2 _ (by decide +kernel) fun t hf y => ?_
  have hm : t.val % 2 = 1 := (flush0_2 t).mp hf
  have ht : t.val < 2 := lt_of_lt_of_eq t.isLt N_0
  have hy0 : (y 0).val < 1024 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t hm, Ffn.carried 2 (fun n h i j => (outsAt0 m c n h).2 (ix2 i j)) (prod m c) (first m c) (next m c) t hm]
  refine Eq.trans ?_ ((whole (m ((c.tc : Thread nD τ).loc main_arg0)) (m ((c.tc : Thread nD τ).loc main_arg1)) ⟨(y 0).val, hy0⟩ ⟨(y 1).val, hy1⟩).symm.trans ?_)
  · refine Fin.sum_mul_add_congr fun s k hl => congrArg₂ (· * ·) ?_ ?_ <;>
      blk_ext [iblk, V, idx ⟨_, Pipeline.run_point_lt_of_flush t hm s⟩]
  · blk_ext [idx t]

end Cert.MixOutWgIdeal.Product

end
-- ==== Proof.AdaBwd.lean ====
/- The gradient of the adaLN weights: the idealized kernel's array is the reference's. -/
module

public import proofs.«01_k».proof.Proof.Gen.AdaBwdIdeal.Value
public import proofs.«01_k».proof.Proof.Gen.AdaBwdReferenceIdeal.Read
public import proofs.«01_k».proof.Proof.FfnSum
public import Idealize.ShloMosaic.Lib.Pipeline.ReadBack

@[expose] public section

set_option maxRecDepth 16384

noncomputable section

namespace Cert.AdaBwdIdeal.Product

open Idealize.ShloMosaic Idealize.ShloMosaic.TcCoe Idealize.SL.Sem
open Cert.AdaBwdIdeal Cert.AdaBwdIdeal.Gen Cert.AdaBwdReferenceIdeal.Read

/-- The silu. -/
def silu (x : EReal) : EReal := x * Ideal.div 1 (1 + Ideal.exp (-x))

/-- One layer. -/
theorem block (x : Vec Ideal S16x1024 .f32) (d : Vec Ideal S1x16x768 .f32) (l : Fin 1) (i : Fin 1024) (j : Fin 768) :
    k0_pay1 (F := Ideal) x d (ix3 l i j) = ∑ k : Fin 16, silu (x (ix2 k i)) * d (ix3 0 k j) := by
  pointwise [k0_pay1, silu]
  simp only [zero_sub]
/-- The reference. -/
theorem whole (x : (⟨S16x1024, .f32⟩ : BufTy).Contents (Elt Ideal)) (d : (⟨S4x16x768, .f32⟩ : BufTy).Contents (Elt Ideal)) (l : Fin 4) (i : Fin 1024) (j : Fin 768) :
    val_main_v6 (F := Ideal) x d (ix3 l i j) = ∑ k : Fin 16, silu (x (ix2 k i)) * d (ix3 l k j) := by
  pointwise [val_main_v6, val_main_v5, val_main_v4, val_main_v0, val_main_call0_v5, val_main_call0_v4, val_main_call0_v3, val_main_call0_v2, val_main_call0_v1,
    val_main_call0_v0, val_main_call0_cst, val_main_call0_cst_0, silu]
  exact Finset.sum_congr rfl fun k _ => mul_comm _ _

/-- The blocks each point reads and writes. -/
theorem idx : ∀ t : Fin cfg0.N, win0_0.index t = ![0, 0] ∧ win0_1.index t = ![t.val, 0, 0] ∧ win0_2.index t = ![t.val, 0, 0] :=
  (by decide +kernel : ∀ t : Fin grid0.N, _)

variable (m : (ℓ : Loc nD τ sig) → Buf (Elt Ideal) ℓ) (c : Dev nD)

/-- The array the run ends with is the reference's. -/
theorem final : (dats m 0 c).arrAt 2 cfg0.N
    = val_main_v6 (F := Ideal) (m ((c.tc : Thread nD τ).loc main_arg0)) (m ((c.tc : Thread nD τ).loc main_arg1)) := by
  refine (dats m 0 c).arrAt_eq_of_covers 2 _ (by decide +kernel) fun t hf y => ?_
  have ht : t.val < 4 := lt_of_lt_of_eq t.isLt N_0
  have hy0 : (y 0).val < 1 := (y 0).isLt
  have hy1 : (y 1).val < 1024 := (y 1).isLt
  have hy2 : (y 2).val < 768 := (y 2).isLt
  blk_simp
  rw [after0_2]
  frame_out
  refine Eq.trans (b := k0_pay1 (F := Ideal) (iblk m c 0 t) (iblk m c 1 t) (ix3 ⟨(y 0).val, hy0⟩ ⟨(y 1).val, hy1⟩ ⟨(y 2).val, hy2⟩)) (by blk_ext) ((block _ _ _ _ _).trans ?_)
  refine Eq.trans ?_ ((whole (m ((c.tc : Thread nD τ).loc main_arg0)) (m ((c.tc : Thread nD τ).loc main_arg1)) ⟨t.val, ht⟩ ⟨(y 1).val, hy1⟩ ⟨(y 2).val, hy2⟩).symm.trans ?_)
  · refine Finset.sum_congr rfl fun k _ => congrArg₂ (fun a b : EReal => silu a * b) ?_ ?_ <;> blk_ext [iblk, V, idx t]
  · blk_ext [idx t]

end Cert.AdaBwdIdeal.Product

end
-- ==== Proof.Ada.lean ====
/- The adaLN projection: the idealized kernel's array is the reference's. -/
module

public import proofs.«01_k».proof.Proof.AdaBwd
public import proofs.«01_k».proof.Proof.Gen.AdaIdeal.Value
public import proofs.«01_k».proof.Proof.Gen.AdaReferenceIdeal.Read
public import proofs.«01_k».proof.Proof.FfnSum
public import Idealize.ShloMosaic.Lib.Pipeline.ReadBack

@[expose] public section

set_option maxRecDepth 16384

noncomputable section

namespace Cert.AdaIdeal.Product

open Idealize.ShloMosaic Idealize.ShloMosaic.TcCoe Idealize.SL.Sem
open Cert.AdaBwdIdeal.Product (silu)
open Cert.AdaIdeal Cert.AdaIdeal.Gen Cert.AdaReferenceIdeal.Read

/-- One layer. -/
theorem block (x : Vec Ideal S16x1024 .f32) (w : Vec Ideal S1x1024x768 .f32) (b : Vec Ideal S1x1x768 .f32) (l : Fin 1) (i : Fin 16) (j : Fin 768) :
    k0_pay1 (F := Ideal) x w b (ix3 l i j) = (∑ k : Fin 1024, silu (x (ix2 i k)) * w (ix3 0 k j)) + b (ix3 0 0 j) := by
  pointwise [k0_pay1, silu]
  simp only [zero_sub]
/-- The reference. -/
theorem whole (x : (⟨S16x1024, .f32⟩ : BufTy).Contents (Elt Ideal)) (w : (⟨S4x1024x768, .f32⟩ : BufTy).Contents (Elt Ideal))
    (b : (⟨S4x1x768, .f32⟩ : BufTy).Contents (Elt Ideal)) (l : Fin 4) (i : Fin 16) (j : Fin 768) :
    val_main_v4 (F := Ideal) x w b (ix3 l i j) = (∑ k : Fin 1024, silu (x (ix2 i k)) * w (ix3 l k j)) + b (ix3 l 0 j) := by
  pointwise [val_main_v4, val_main_v3, val_main_v2, val_main_v1, val_main_v0, val_main_call0_v5, val_main_call0_v4, val_main_call0_v3, val_main_call0_v2,
    val_main_call0_v1, val_main_call0_v0, val_main_call0_cst, val_main_call0_cst_0, silu]

/-- The blocks each point reads and writes. -/
theorem idx : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

variable (m : (ℓ : Loc nD τ sig) → Buf (Elt Ideal) ℓ) (c : Dev nD)

/-- The array the run ends with is the reference's. -/
theorem final : (dats m 0 c).arrAt 3 cfg0.N
    = val_main_v4 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 4 := lt_of_lt_of_eq t.isLt N_0
  have hy0 : (y 0).val < 1 := (y 0).isLt
  have hy1 : (y 1).val < 16 := (y 1).isLt
  have hy2 : (y 2).val < 768 := (y 2).isLt
  blk_simp
  rw [after0_3]
  frame_out
  refine Eq.trans (b := k0_pay1 (F := Ideal) (iblk m c 0 t) (iblk m c 1 t) (iblk m c 2 t) (ix3 ⟨(y 0).val, hy0⟩ ⟨(y 1).val, hy1⟩ ⟨(y 2).val, hy2⟩)) (by blk_ext) ((block _ _ _ _ _ _).trans ?_)
  refine Eq.trans ?_ ((whole (m ((c.tc : Thread nD τ).loc main_arg0)) (m ((c.tc : Thread nD τ).loc main_arg1)) (m ((c.tc : Thread nD τ).loc main_arg2))
    ⟨t.val, ht⟩ ⟨(y 1).val, hy1⟩ ⟨(y 2).val, hy2⟩).symm.trans ?_)
  · refine congrArg₂ (· + ·) (Finset.sum_congr rfl fun k _ => congrArg₂ (fun a b : EReal => silu a * b) ?_ ?_) ?_ <;> blk_ext [iblk, V, idx t]
  · blk_ext [idx t]

end Cert.AdaIdeal.Product

end
-- ==== Proof.Norm.lean ====
/- The modulated norm: the idealized kernel's array is the reference's. -/
module

public import proofs.«01_k».proof.Proof.NormBwd
public import proofs.«01_k».proof.Proof.Gen.NormIdeal.Value
public import proofs.«01_k».proof.Proof.Gen.NormReferenceIdeal.Read
public import proofs.«01_k».proof.Proof.FfnSum
public import Idealize.ShloMosaic.Lib.Pipeline.ReadBack

@[expose] public section

set_option maxRecDepth 16384

noncomputable section

namespace Cert.NormIdeal.Norm

open Idealize.ShloMosaic Idealize.ShloMosaic.TcCoe Idealize.SL.Sem
open Cert.NormBwdIdeal.Norm (scale power)
open Cert.NormIdeal Cert.NormIdeal.Gen Cert.NormReferenceIdeal.Read

/-- A normed element of a row, with gain and shift. -/
def normed (x g s h : Fin 1024 → EReal) (j : Fin 1024) : EReal := x j * scale x * g j * (1 + s j) + h j

/-- One block. -/
theorem block (x : Vec Ideal S256x1024 .f32) (g s h : Vec Ideal S1x1024 .f32) (i : Fin 256) (j : Fin 1024) :
    k0_pay1 (F := Ideal) x g s h (ix2 i j)
      = normed (fun k => x (ix2 i k)) (fun k => g (ix2 0 k)) (fun k => s (ix2 0 k)) (fun k => h (ix2 0 k)) j := by
  pointwise [k0_pay1, normed, scale, power]
/-- The reference. -/
theorem whole (x : (⟨S2048x1024, .f32⟩ : BufTy).Contents (Elt Ideal)) (g s h : (⟨S1x1024, .f32⟩ : BufTy).Contents (Elt Ideal)) (i : Fin 2048) (j : Fin 1024) :
    val_main_v18 (F := Ideal) x g s h (ix2 i j)
      = normed (fun k => x (ix2 i k)) (fun k => g (ix2 0 k)) (fun k => s (ix2 0 k)) (fun k => h (ix2 0 k)) j := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2, normed, scale, power]

/-- The blocks each point reads and writes. -/
theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

variable (m : (ℓ : Loc nD τ sig) → Buf (Elt Ideal) ℓ)

/-- The array the run ends with is the reference's. -/
theorem final (c : Dev nD) : (dats m 0 c).arrAt 4 cfg0.N
    = val_main_v18 (F := Ideal) (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  have ht : t.val < 8 := lt_of_lt_of_eq t.isLt N_0
  have hy0 : (y 0).val < 256 := (y 0).isLt
  have hy1 : (y 1).val < 1024 := (y 1).isLt
  blk_simp
  rw [after0_4]
  frame_out
  refine Eq.trans (b := k0_pay1 (F := Ideal) (iblk m c 0 t) (iblk m c 1 t) (iblk m c 2 t) (iblk m c 3 t) (ix2 ⟨(y 0).val, hy0⟩ ⟨(y 1).val, hy1⟩)) (by blk_ext) ((block _ _ _ _ _ _).trans ?_)
  refine Eq.trans ?_ ((whole (m ((c.tc : Thread nD τ).loc main_arg0)) (m ((c.tc : Thread nD τ).loc main_arg1)) (m ((c.tc : Thread nD τ).loc main_arg2))
    (m ((c.tc : Thread nD τ).loc main_arg3)) ⟨256 * t.val + (y 0).val, by omega⟩ ⟨(y 1).val, hy1⟩).symm.trans ?_)
  · congr 1 <;> funext k <;> blk_ext [iblk, V, idx t]
  · blk_ext [idx t]

end Cert.NormIdeal.Norm

end
-- ==== Proof.Gate.lean ====
/- The gated residual: the idealized kernel's array is the reference's. -/
module

public import proofs.«01_k».proof.Proof.Gen.GateIdeal.Value
public import proofs.«01_k».proof.Proof.Gen.GateReferenceIdeal.Read
public import proofs.«01_k».proof.Proof.FfnSum
public import Idealize.ShloMosaic.Lib.Pipeline.ReadBack

@[expose] public section

set_option maxRecDepth 16384

noncomputable section

namespace Cert.GateIdeal.Residual

open Idealize.ShloMosaic Idealize.ShloMosaic.TcCoe Idealize.SL.Sem
open Cert.GateIdeal Cert.GateIdeal.Gen Cert.GateReferenceIdeal.Read

/-- One block. -/
theorem block (x y : Vec Ideal S256x1024 .f32) (g : Vec Ideal S1x1024 .f32) (i : Fin 256) (j : Fin 1024) :
    k0_pay1 (F := Ideal) x y g (ix2 i j) = x (ix2 i j) + g (ix2 0 j) * y (ix2 i j) := by
  pointwise [k0_pay1]
/-- The reference. -/
theorem whole (x y : (⟨S2048x1024, .f32⟩ : BufTy).Contents (Elt Ideal)) (g : (⟨S1x1024, .f32⟩ : BufTy).Contents (Elt Ideal)) (i : Fin 2048) (j : Fin 1024) :
    val_main_v2 (F := Ideal) x y g (ix2 i j) = x (ix2 i j) + g (ix2 0 j) * y (ix2 i j) := by
  pointwise [val_main_v2, val_main_v1, val_main_v0]

/-- The blocks each point reads and writes. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ)

/-- The array the run ends with is the reference's. -/
theorem final (c : Dev nD) : (dats m 0 c).arrAt 3 cfg0.N
    = val_main_v2 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 8 := lt_of_lt_of_eq t.isLt N_0
  have hy0 : (y 0).val < 256 := (y 0).isLt
  have hy1 : (y 1).val < 1024 := (y 1).isLt
  blk_simp
  rw [after0_3]
  frame_out
  refine Eq.trans (b := k0_pay1 (F := Ideal) (iblk m c 0 t) (iblk m c 1 t) (iblk m c 2 t) (ix2 ⟨(y 0).val, hy0⟩ ⟨(y 1).val, hy1⟩)) (by blk_ext) ((block _ _ _ _ _).trans ?_)
  refine Eq.trans ?_ ((whole (m ((c.tc : Thread nD τ).loc main_arg0)) (m ((c.tc : Thread nD τ).loc main_arg1)) (m ((c.tc : Thread nD τ).loc main_arg2))
    ⟨256 * t.val + (y 0).val, by omega⟩ ⟨(y 1).val, hy1⟩).symm.trans ?_)
  · refine congrArg₂ (· + ·) ?_ (congrArg₂ (· * ·) ?_ ?_) <;> blk_ext [iblk, V, idx t]
  · blk_ext [idx t]

end Cert.GateIdeal.Residual

end
-- ==== Proof.GateNorm.lean ====
/- The gated residual and the modulated norm after it: the idealized kernel's arrays are the reference's. -/
module

public import proofs.«01_k».proof.Proof.Norm
public import proofs.«01_k».proof.Proof.Gen.GateNormIdeal.Value
public import proofs.«01_k».proof.Proof.Gen.GateNormReferenceIdeal.Read
public import proofs.«01_k».proof.Proof.FfnSum
public import Idealize.ShloMosaic.Lib.Pipeline.ReadBack

@[expose] public section

set_option maxRecDepth 16384

noncomputable section

namespace Cert.GateNormIdeal.Norm

open Idealize.ShloMosaic Idealize.ShloMosaic.TcCoe Idealize.SL.Sem
open Cert.NormBwdIdeal.Norm (scale power)
open Cert.NormIdeal.Norm (normed)
open Cert.GateNormIdeal Cert.GateNormIdeal.Gen Cert.GateNormReferenceIdeal.Read

/-- One block of the residual. -/
theorem block (x y : Vec Ideal S256x1024 .f32) (g : Vec Ideal S1x1024 .f32) (i : Fin 256) (j : Fin 1024) :
    k0_pay1 (F := Ideal) x y g (ix2 i j) = x (ix2 i j) + g (ix2 0 j) * y (ix2 i j) := by
  pointwise [k0_pay1]
/-- One block of the norm. -/
theorem block_norm (x y : Vec Ideal S256x1024 .f32) (t g s h : Vec Ideal S1x1024 .f32) (i : Fin 256) (j : Fin 1024) :
    k0_pay2 (F := Ideal) x y t g s h (ix2 i j)
      = normed (fun k => x (ix2 i k) + t (ix2 0 k) * y (ix2 i k)) (fun k => g (ix2 0 k)) (fun k => s (ix2 0 k)) (fun k => h (ix2 0 k)) j := by
  pointwise [k0_pay2, k0_pay1, normed, scale, power]
/-- The reference's residual. -/
theorem whole (x y : (⟨S2048x1024, .f32⟩ : BufTy).Contents (Elt Ideal)) (g : (⟨S1x1024, .f32⟩ : BufTy).Contents (Elt Ideal)) (i : Fin 2048) (j : Fin 1024) :
    val_main_v2 (F := Ideal) x y g (ix2 i j) = x (ix2 i j) + g (ix2 0 j) * y (ix2 i j) := by
  pointwise [val_main_v2, val_main_v1, val_main_v0]
/-- The reference's norm. -/
theorem whole_norm (x y : (⟨S2048x1024, .f32⟩ : BufTy).Contents (Elt Ideal)) (t g s h : (⟨S1x1024, .f32⟩ : BufTy).Contents (Elt Ideal)) (i : Fin 2048) (j : Fin 1024) :
    val_main_v21 (F := Ideal) x y t g s h (ix2 i j)
      = normed (fun k => x (ix2 i k) + t (ix2 0 k) * y (ix2 i k)) (fun k => g (ix2 0 k)) (fun k => s (ix2 0 k)) (fun k => h (ix2 0 k)) j := by
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1,
    val_main_v0, val_main_cst, val_main_cst_0, val_main_cst_1, val_main_cst_2, normed, scale, power]

/-- The blocks each point reads and writes. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- The residual. -/
theorem final_x : (dats m 0 c).arrAt 6 cfg0.N
    = val_main_v2 (F := Ideal) (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  have ht : t.val < 8 := lt_of_lt_of_eq t.isLt N_0
  have hy0 : (y 0).val < 256 := (y 0).isLt
  have hy1 : (y 1).val < 1024 := (y 1).isLt
  blk_simp
  rw [after0_6]
  frame_out
  refine Eq.trans (b := k0_pay1 (F := Ideal) (iblk m c 0 t) (iblk m c 1 t) (iblk m c 2 t) (ix2 ⟨(y 0).val, hy0⟩ ⟨(y 1).val, hy1⟩)) (by blk_ext) ((block _ _ _ _ _).trans ?_)
  refine Eq.trans ?_ ((whole (m ((c.tc : Thread nD τ).loc main_arg0)) (m ((c.tc : Thread nD τ).loc main_arg1)) (m ((c.tc : Thread nD τ).loc main_arg2))
    ⟨256 * t.val + (y 0).val, by omega⟩ ⟨(y 1).val, hy1⟩).symm.trans ?_)
  · refine congrArg₂ (· + ·) ?_ (congrArg₂ (· * ·) ?_ ?_) <;> blk_ext [iblk, V, idx t]
  · blk_ext [idx t]

/-- The norm. -/
theorem final_h : (dats m 0 c).arrAt 7 cfg0.N
    = val_main_v21 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  have ht : t.val < 8 := lt_of_lt_of_eq t.isLt N_0
  have hy0 : (y 0).val < 256 := (y 0).isLt
  have hy1 : (y 1).val < 1024 := (y 1).isLt
  blk_simp
  rw [after0_7]
  frame_out
  refine Eq.trans (b := k0_pay2 (F := Ideal) (iblk m c 0 t) (iblk m c 1 t) (iblk m c 2 t) (iblk m c 3 t) (iblk m c 4 t) (iblk m c 5 t)
    (ix2 ⟨(y 0).val, hy0⟩ ⟨(y 1).val, hy1⟩)) (by blk_ext) ((block_norm _ _ _ _ _ _ _ _).trans ?_)
  refine Eq.trans ?_ ((whole_norm (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    ⟨256 * t.val + (y 0).val, by omega⟩ ⟨(y 1).val, hy1⟩).symm.trans ?_)
  · refine congr (congr (congr (congrArg₂ normed (funext fun k => congrArg₂ (· + ·) ?_ (congrArg₂ (· * ·) ?_ ?_)) (funext fun k => ?_)) (funext fun k => ?_)) (funext fun k => ?_)) rfl <;>
      blk_ext [iblk, V, idx t]
  · blk_ext [idx t]

end Cert.GateNormIdeal.Norm

end
-- ==== Proof.Adam.lean ====
/- AdamW on one entry: the two running means, the step, and the two bias corrections as a division and as a multiplication by the inverse. -/
module

public import Idealize.ShloMosaic.Lib.Pipeline.ValueKit
public import Idealize.ShloMosaic.Lib.Pipeline.ReadBack

@[expose] public section

noncomputable section

namespace Cert.Adam

open Idealize.ShloMosaic

/-- The mean of the gradients. -/
def mean (g m : EReal) : EReal := Ideal.ofBits .f32 0x3F666666#32 * m + Ideal.ofBits .f32 0x3DCCCCCD#32 * g
/-- The mean of their squares. -/
def square (g v : EReal) : EReal := Ideal.ofBits .f32 0x3F7FBE77#32 * v + Ideal.ofBits .f32 0x3A83126F#32 * (g * g)
/-- The step, of the means corrected for their bias. -/
def step (a b w : EReal) : EReal :=
  Ideal.ofBits .f32 0xBA83126F#32 * (Ideal.div a (Ideal.sqrt b + Ideal.ofBits .f32 0x322BCC77#32) + Ideal.ofBits .f32 0x3C23D70A#32 * w)

/-- The first correction: the divisor's word is 5463681 / 2^23. -/
theorem fix_mean (x : EReal) : Ideal.div x (Ideal.ofBits .f32 0x3F26BD02#32) = x * ((8388608 / 5463681 : ℝ) : EReal) := by
  have h : Ideal.ofBits .f32 0x3F26BD02#32 = ((5463681 / 8388608 : ℝ) : EReal) := by simp [Ideal.ofBits, Ideal.ieee, -EReal.coe_mul]; norm_num
  rw [h, Ideal.div_coe (by norm_num)]
  norm_num
/-- The second: 2672307 / 2^28. -/
theorem fix_square (x : EReal) : Ideal.div x (Ideal.ofBits .f32 0x3C231ACC#32) = x * ((268435456 / 2672307 : ℝ) : EReal) := by
  have h : Ideal.ofBits .f32 0x3C231ACC#32 = ((2672307 / 268435456 : ℝ) : EReal) := by simp [Ideal.ofBits, Ideal.ieee, -EReal.coe_mul]; norm_num
  rw [h, Ideal.div_coe (by norm_num)]
  norm_num

/-- The step with the corrections multiplied in is the step with them divided out. -/
theorem step_fixed {w g m v w' g' m' v' : EReal} (hw : w = w') (hg : g = g') (hm : m = m') (hv : v = v') :
    step (mean g m * ((8388608 / 5463681 : ℝ) : EReal)) (square g v * ((268435456 / 2672307 : ℝ) : EReal)) w
      = step (Ideal.div (mean g' m') (Ideal.ofBits .f32 0x3F26BD02#32)) (Ideal.div (square g' v') (Ideal.ofBits .f32 0x3C231ACC#32)) w' := by
  rw [fix_mean, fix_square, hw, hg, hm, hv]

end Cert.Adam

end
-- ==== Proof.AdamOut.lean ====
/- AdamW on the output projections of the two mixers: the idealized kernel's arrays are the reference's. -/
module

public import proofs.«01_k».proof.Proof.Adam
public import proofs.«01_k».proof.Proof.Gen.AdamOutIdeal.Value
public import proofs.«01_k».proof.Proof.Gen.AdamOutReferenceIdeal.Read

@[expose] public section

set_option maxRecDepth 16384

noncomputable section

namespace Cert.AdamOutIdeal.Adam

open Idealize.ShloMosaic Idealize.ShloMosaic.TcCoe Idealize.SL.Sem
open Cert.Adam
open Cert.AdamOutIdeal Cert.AdamOutIdeal.Gen Cert.AdamOutReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamOutIdeal.Adam

end
-- ==== Proof.AdamAda.lean ====
/- AdamW on the modulation's weights: the idealized kernel's arrays are the reference's. -/
module

public import proofs.«01_k».proof.Proof.Adam
public import proofs.«01_k».proof.Proof.Gen.AdamAdaIdeal.Value
public import proofs.«01_k».proof.Proof.Gen.AdamAdaReferenceIdeal.Read

@[expose] public section

set_option maxRecDepth 16384

noncomputable section

namespace Cert.AdamAdaIdeal.Adam

open Idealize.ShloMosaic Idealize.ShloMosaic.TcCoe Idealize.SL.Sem
open Cert.Adam
open Cert.AdamAdaIdeal Cert.AdamAdaIdeal.Gen Cert.AdamAdaReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamAdaIdeal.Adam

end
-- ==== Proof.AdamAdaB.lean ====
/- AdamW on the modulation's biases: the idealized kernel's arrays are the reference's. -/
module

public import proofs.«01_k».proof.Proof.Adam
public import proofs.«01_k».proof.Proof.Gen.AdamAdaBIdeal.Value
public import proofs.«01_k».proof.Proof.Gen.AdamAdaBReferenceIdeal.Read

@[expose] public section

set_option maxRecDepth 16384

noncomputable section

namespace Cert.AdamAdaBIdeal.Adam

open Idealize.ShloMosaic Idealize.ShloMosaic.TcCoe Idealize.SL.Sem
open Cert.Adam
open Cert.AdamAdaBIdeal Cert.AdamAdaBIdeal.Gen Cert.AdamAdaBReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamAdaBIdeal.Adam

end
-- ==== Proof.AdamNorm.lean ====
/- AdamW on the gains of the two block norms: the idealized kernel's arrays are the reference's. -/
module

public import proofs.«01_k».proof.Proof.Adam
public import proofs.«01_k».proof.Proof.Gen.AdamNormIdeal.Value
public import proofs.«01_k».proof.Proof.Gen.AdamNormReferenceIdeal.Read

@[expose] public section

set_option maxRecDepth 16384

noncomputable section

namespace Cert.AdamNormIdeal.Adam

open Idealize.ShloMosaic Idealize.ShloMosaic.TcCoe Idealize.SL.Sem
open Cert.Adam
open Cert.AdamNormIdeal Cert.AdamNormIdeal.Gen Cert.AdamNormReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamNormIdeal.Adam

end
-- ==== Proof.AdamDnIn.lean ====
/- AdamW on the delta rule's input projection: the idealized kernel's arrays are the reference's. -/
module

public import proofs.«01_k».proof.Proof.Adam
public import proofs.«01_k».proof.Proof.Gen.AdamDnInIdeal.Value
public import proofs.«01_k».proof.Proof.Gen.AdamDnInReferenceIdeal.Read

@[expose] public section

set_option maxRecDepth 16384

noncomputable section

namespace Cert.AdamDnInIdeal.Adam

open Idealize.ShloMosaic Idealize.ShloMosaic.TcCoe Idealize.SL.Sem
open Cert.Adam
open Cert.AdamDnInIdeal Cert.AdamDnInIdeal.Gen Cert.AdamDnInReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamDnInIdeal.Adam

end
-- ==== Proof.AdamConv.lean ====
/- AdamW on the delta rule's convolution: the idealized kernel's arrays are the reference's. -/
module

public import proofs.«01_k».proof.Proof.Adam
public import proofs.«01_k».proof.Proof.Gen.AdamConvIdeal.Value
public import proofs.«01_k».proof.Proof.Gen.AdamConvReferenceIdeal.Read

@[expose] public section

set_option maxRecDepth 16384

noncomputable section

namespace Cert.AdamConvIdeal.Adam

open Idealize.ShloMosaic Idealize.ShloMosaic.TcCoe Idealize.SL.Sem
open Cert.Adam
open Cert.AdamConvIdeal Cert.AdamConvIdeal.Gen Cert.AdamConvReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamConvIdeal.Adam

end
-- ==== Proof.AdamDecay.lean ====
/- AdamW on the delta rule's decay rates and step biases: the idealized kernel's arrays are the reference's. -/
module

public import proofs.«01_k».proof.Proof.Adam
public import proofs.«01_k».proof.Proof.Gen.AdamDecayIdeal.Value
public import proofs.«01_k».proof.Proof.Gen.AdamDecayReferenceIdeal.Read

@[expose] public section

set_option maxRecDepth 16384

noncomputable section

namespace Cert.AdamDecayIdeal.Adam

open Idealize.ShloMosaic Idealize.ShloMosaic.TcCoe Idealize.SL.Sem
open Cert.Adam
open Cert.AdamDecayIdeal Cert.AdamDecayIdeal.Gen Cert.AdamDecayReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamDecayIdeal.Adam

end
-- ==== Proof.AdamDnNorm.lean ====
/- AdamW on the gain of the delta rule's output norm: the idealized kernel's arrays are the reference's. -/
module

public import proofs.«01_k».proof.Proof.Adam
public import proofs.«01_k».proof.Proof.Gen.AdamDnNormIdeal.Value
public import proofs.«01_k».proof.Proof.Gen.AdamDnNormReferenceIdeal.Read

@[expose] public section

set_option maxRecDepth 16384

noncomputable section

namespace Cert.AdamDnNormIdeal.Adam

open Idealize.ShloMosaic Idealize.ShloMosaic.TcCoe Idealize.SL.Sem
open Cert.Adam
open Cert.AdamDnNormIdeal Cert.AdamDnNormIdeal.Gen Cert.AdamDnNormReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamDnNormIdeal.Adam

end
-- ==== Proof.AdamSbIn.lean ====
/- AdamW on the attention's input projection: the idealized kernel's arrays are the reference's. -/
module

public import proofs.«01_k».proof.Proof.Adam
public import proofs.«01_k».proof.Proof.Gen.AdamSbInIdeal.Value
public import proofs.«01_k».proof.Proof.Gen.AdamSbInReferenceIdeal.Read

@[expose] public section

set_option maxRecDepth 16384

noncomputable section

namespace Cert.AdamSbInIdeal.Adam

open Idealize.ShloMosaic Idealize.ShloMosaic.TcCoe Idealize.SL.Sem
open Cert.Adam
open Cert.AdamSbInIdeal Cert.AdamSbInIdeal.Gen Cert.AdamSbInReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamSbInIdeal.Adam

end
-- ==== Proof.AdamHead.lean ====
/- AdamW on the gains of the attention's query and key norms: the idealized kernel's arrays are the reference's. -/
module

public import proofs.«01_k».proof.Proof.Adam
public import proofs.«01_k».proof.Proof.Gen.AdamHeadIdeal.Value
public import proofs.«01_k».proof.Proof.Gen.AdamHeadReferenceIdeal.Read

@[expose] public section

set_option maxRecDepth 16384

noncomputable section

namespace Cert.AdamHeadIdeal.Adam

open Idealize.ShloMosaic Idealize.ShloMosaic.TcCoe Idealize.SL.Sem
open Cert.Adam
open Cert.AdamHeadIdeal Cert.AdamHeadIdeal.Gen Cert.AdamHeadReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamHeadIdeal.Adam

end
-- ==== Proof.AdamFfnIn.lean ====
/- AdamW on the feed-forward network's input projection: the idealized kernel's arrays are the reference's. -/
module

public import proofs.«01_k».proof.Proof.Adam
public import proofs.«01_k».proof.Proof.Gen.AdamFfnInIdeal.Value
public import proofs.«01_k».proof.Proof.Gen.AdamFfnInReferenceIdeal.Read

@[expose] public section

set_option maxRecDepth 16384

noncomputable section

namespace Cert.AdamFfnInIdeal.Adam

open Idealize.ShloMosaic Idealize.ShloMosaic.TcCoe Idealize.SL.Sem
open Cert.Adam
open Cert.AdamFfnInIdeal Cert.AdamFfnInIdeal.Gen Cert.AdamFfnInReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamFfnInIdeal.Adam

end
-- ==== Proof.AdamFfnOut.lean ====
/- AdamW on the feed-forward network's output projection: the idealized kernel's arrays are the reference's. -/
module

public import proofs.«01_k».proof.Proof.Adam
public import proofs.«01_k».proof.Proof.Gen.AdamFfnOutIdeal.Value
public import proofs.«01_k».proof.Proof.Gen.AdamFfnOutReferenceIdeal.Read

@[expose] public section

set_option maxRecDepth 16384

noncomputable section

namespace Cert.AdamFfnOutIdeal.Adam

open Idealize.ShloMosaic Idealize.ShloMosaic.TcCoe Idealize.SL.Sem
open Cert.Adam
open Cert.AdamFfnOutIdeal Cert.AdamFfnOutIdeal.Gen Cert.AdamFfnOutReferenceIdeal.Read

/-- Each point reads and writes one block of rows. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The step and the two means. -/
theorem final :
    (dats m 0 c).arrAt 4 cfg0.N = val_main_v23 (F := Ideal) (m ((c.tc : Thread nD τ).loc main_arg0)) (m ((c.tc : Thread nD τ).loc main_arg1))
        (m ((c.tc : Thread nD τ).loc main_arg2)) (m ((c.tc : Thread nD τ).loc main_arg3))
    ∧ (dats m 0 c).arrAt 5 cfg0.N = val_main_v4 (F := Ideal) (m ((c.tc : Thread nD τ).loc main_arg1)) (m ((c.tc : Thread nD τ).loc main_arg2))
    ∧ (dats m 0 c).arrAt 6 cfg0.N = val_main_v10 (F := Ideal) (m ((c.tc : Thread nD τ).loc main_arg1)) (m ((c.tc : Thread nD τ).loc main_arg3)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩ <;> blk_simp
  · rw [after0_4]
    frame_out
    refine step_fixed ?_ ?_ ?_ ?_ <;> blk_ext [iblk, V, idx t]
  · rw [after0_5]
    frame_out
    refine congrArg₂ mean ?_ ?_ <;> blk_ext [iblk, V, idx t]
  · rw [after0_6]
    frame_out
    refine congrArg₂ square ?_ ?_ <;> blk_ext [iblk, V, idx t]

end Cert.AdamFfnOutIdeal.Adam

end
-- ==== Proof.Loss.lean ====
/- The loss head: the idealized kernel's arrays are the reference's. -/
module

public import proofs.«01_k».proof.Proof.Lift
public import proofs.«01_k».proof.Proof.Gen.LossIdeal.Value
public import proofs.«01_k».proof.Proof.Gen.LossReferenceIdeal.Read
public import proofs.«01_k».proof.Proof.FfnSum
public import Idealize.ShloMosaic.Lib.Pipeline.ReadBack

@[expose] public section

set_option maxRecDepth 16384

noncomputable section

namespace Cert.LossIdeal.Loss

open Idealize.ShloMosaic Idealize.ShloMosaic.TcCoe Idealize.SL.Sem
open Cert.LossIdeal Cert.LossIdeal.Gen Cert.LossReferenceIdeal.Read

theorem c_inv_1024 : Ideal.ofBits .f32 0x3A800000#32 = ((1 / 1024 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- One block of the gradient. -/
theorem block (y t : Vec Ideal S256x1024 .f32) (i : Fin 256) (j : Fin 1024) :
    k0_pay2 (F := Ideal) y t (ix2 i j) = (y (ix2 i j) - t (ix2 i j)) * Ideal.ofBits .f32 0x3A800000#32 := by
  pointwise [k0_pay2, k0_pay1]
/-- The sum so far and one block's squares more. -/
theorem more (y t : Vec Ideal S256x1024 .f32) (s : Vec Ideal S1x1 .f32) (i j : Fin 1) :
    k0_pay4 (F := Ideal) y t s (ix2 i j) = s (ix2 i j) + ∑ k : Fin 256, ∑ l : Fin 1024, (y (ix2 k l) - t (ix2 k l)) * (y (ix2 k l) - t (ix2 k l)) := by
  pointwise [k0_pay4, k0_pay1]
theorem none (i j : Fin 1) : k0_pay3 (F := Ideal) (ix2 i j) = 0 := by
  pointwise [k0_pay3]
/-- The reference's gradient. -/
theorem whole (y t : (⟨S2048x1024, .f32⟩ : BufTy).Contents (Elt Ideal)) (i : Fin 2048) (j : Fin 1024) :
    val_main_v14 (F := Ideal) y t (ix2 i j) = (y (ix2 i j) - t (ix2 i j)) * Ideal.ofBits .f32 0x3A800000#32 := by
  have h : val_main_v14 (F := Ideal) y t (ix2 i j) = Ideal.div (Ideal.ofBits .f32 0x3F000000#32 * 1) (Ideal.ofBits .f32 0x44800000#32)
      * (Ideal.ofBits .f32 0x40000000#32 * (y (ix2 i j) - t (ix2 i j))) := by
    pointwise [val_main_v14, val_main_v13, val_main_v12, val_main_v11, val_main_v10, val_main_v9, val_main_v3, val_main_v2, val_main_v0, val_main_cst,
      val_main_cst_4, val_main_cst_5, val_main_cst_6]
  rw [h, c_inv_1024, c_1024, c_half, c_two, mul_one, Ideal.div_coe (by norm_num), ← mul_assoc, ← EReal.coe_mul, ← EReal.coe_mul, mul_comm]
  norm_num
/-- The reference's sum of squares. -/
theorem total (y t : (⟨S2048x1024, .f32⟩ : BufTy).Contents (Elt Ideal)) (i j : Fin 1) :
    val_main_v18 (F := Ideal) y t (ix2 i j) = ∑ k : Fin 2048, ∑ l : Fin 1024, (y (ix2 k l) - t (ix2 k l)) * (y (ix2 k l) - t (ix2 k l)) := by
  pointwise [val_main_v18, val_main_v17, val_main_v16, val_main_v15, val_main_cst_7]

/-- The blocks each point reads and writes. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

variable (m : (ℓ : Loc nD τ sig) → Buf (Elt Ideal) ℓ) (c : Dev nD)

/-- What a point adds to the sum. -/
def part (t : Fin cfg0.N) (i j : Fin 1) : EReal :=
  ∑ k : Fin 256, ∑ l : Fin 1024, ((show Vec Ideal S256x1024 .f32 from iblk m c 0 t) (ix2 k l) - (show Vec Ideal S256x1024 .f32 from iblk m c 1 t) (ix2 k l))
    * ((show Vec Ideal S256x1024 .f32 from iblk m c 0 t) (ix2 k l) - (show Vec Ideal S256x1024 .f32 from iblk m c 1 t) (ix2 k l))

/-- The sum after the first point. -/
theorem first (t : Fin cfg0.N) (h : t.val % 8 = 0) (i j : Fin 1) : (outsAt0 m c t.val t.isLt).2 (ix2 i j) = part m c t i j := by
  rw [outsAt0_A m c t h]
  frame_out
  refine (more _ _ _ i j).trans ?_
  rw [none, zero_add]
  rfl
/-- The sum after a later point. -/
theorem next (t : Fin cfg0.N) (h : ¬ t.val % 8 = 0) (i j : Fin 1) : (outsAt0 m c t.val t.isLt).2 (ix2 i j)
    = (outsAt0 m c (t.val - 1) (Nat.lt_of_le_of_lt (Nat.sub_le _ _) t.isLt)).2 (ix2 i j) + part m c t i j := by
  rw [outsAt0_B m c t h]
  frame_out
  exact more _ _ _ i j
/-- Every point writes its block of the gradient. -/
theorem out (t : Fin cfg0.N) (i : Fin 256) (j : Fin 1024) : (outsAt0 m c t.val t.isLt).1 (ix2 i j)
    = ((show Vec Ideal S256x1024 .f32 from iblk m c 0 t) (ix2 i j) - (show Vec Ideal S256x1024 .f32 from iblk m c 1 t) (ix2 i j)) * Ideal.ofBits .f32 0x3A800000#32 := by
  by_cases h : t.val % 8 = 0
  · rw [outsAt0_A m c t h]
    frame_out
    exact block _ _ i j
  · rw [outsAt0_B m c t h]
    frame_out
    exact block _ _ i j

/-- The gradient. -/
theorem final_y : (dats m 0 c).arrAt 2 cfg0.N
    = val_main_v14 (F := Ideal) (m ((c.tc : Thread nD τ).loc main_arg0)) (m ((c.tc : Thread nD τ).loc main_arg1)) := by
  refine (dats m 0 c).arrAt_eq_of_covers 2 _ (by decide +kernel) fun t hf y => ?_
  have ht : t.val < 8 := lt_of_lt_of_eq t.isLt N_0
  have hy0 : (y 0).val < 256 := (y 0).isLt
  have hy1 : (y 1).val < 1024 := (y 1).isLt
  blk_simp
  rw [after0_2]
  refine Eq.trans (b := (outsAt0 m c t.val t.isLt).1 (ix2 ⟨(y 0).val, hy0⟩ ⟨(y 1).val, hy1⟩)) (by blk_ext) ?_
  rw [out m c t]
  refine Eq.trans ?_ ((whole (m ((c.tc : Thread nD τ).loc main_arg0)) (m ((c.tc : Thread nD τ).loc main_arg1)) ⟨256 * t.val + (y 0).val, by omega⟩ ⟨(y 1).val, hy1⟩).symm.trans ?_)
  · refine congrArg (· * Ideal.ofBits .f32 0x3A800000#32) (congrArg₂ (· - ·) ?_ ?_) <;> blk_ext [iblk, V, idx t]
  · blk_ext [idx t]

/-- The sum of squares. -/
theorem final_s : (dats m 0 c).arrAt 3 cfg0.N
    = val_main_v18 (F := Ideal) (m ((c.tc : Thread nD τ).loc main_arg0)) (m ((c.tc : Thread nD τ).loc main_arg1)) := by
  refine (dats m 0 c).arrAt_eq_of_covers 3 _ (by decide +kernel) fun t hf y => ?_
  have hm : t.val % 8 = 7 := (flush0_3 t).mp hf
  have ht : t.val < 8 := lt_of_lt_of_eq t.isLt N_0
  have hy0 : (y 0).val < 1 := (y 0).isLt
  have hy1 : (y 1).val < 1 := (y 1).isLt
  blk_simp
  rw [after0_3]
  refine Eq.trans (b := (outsAt0 m c t.val t.isLt).2 (ix2 ⟨(y 0).val, hy0⟩ ⟨(y 1).val, hy1⟩)) (by blk_ext) ?_
  rw [Ffn.carried 8 (fun n h i j => (outsAt0 m c n h).2 (ix2 i j)) (part m c) (first m c) (next m c) t hm]
  refine Eq.trans ?_ ((total (m ((c.tc : Thread nD τ).loc main_arg0)) (m ((c.tc : Thread nD τ).loc main_arg1)) ⟨(y 0).val, hy0⟩ ⟨(y 1).val, hy1⟩).symm.trans ?_)
  · refine Fin.sum_mul_add_congr fun s k hl => Finset.sum_congr rfl fun l _ => congrArg (fun e : EReal => e * e) (congrArg₂ (· - ·) ?_ ?_) <;>
      blk_ext [iblk, V, idx ⟨_, Pipeline.run_point_lt_of_flush t hm s⟩]
  · blk_ext [idx t]

end Cert.LossIdeal.Loss

end
-- ==== Proof.lean ====
module

public import proofs.«01_k».proof.Defs
public import proofs.«01_k».proof.Proof.Gen.ActBwd
public import proofs.«01_k».proof.Proof.Gen.ActBwd.Frame
public import proofs.«01_k».proof.Proof.Gen.ActBwdIdeal
public import proofs.«01_k».proof.Proof.Gen.ActBwdIdeal.Frame
public import proofs.«01_k».proof.Proof.Gen.ActBwdIdeal.Value
public import proofs.«01_k».proof.Proof.Gen.ActBwdReferenceIdeal
public import proofs.«01_k».proof.Proof.Gen.ActBwdReferenceIdeal.Run
public import proofs.«01_k».proof.Proof.Gen.ActBwdReferenceIdeal.Read
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdReferenceIdeal
public import proofs.«01_k».proof.Proof.Gen.OutBwdReferenceIdeal.Run
public import proofs.«01_k».proof.Proof.Gen.OutBwdReferenceIdeal.Read
public import proofs.«01_k».proof.Proof.Gen.OutWg
public import proofs.«01_k».proof.Proof.Gen.OutWg.Frame
public import proofs.«01_k».proof.Proof.Gen.OutWgIdeal
public import proofs.«01_k».proof.Proof.Gen.OutWgIdeal.Frame
public import proofs.«01_k».proof.Proof.Gen.OutWgIdeal.Value
public import proofs.«01_k».proof.Proof.Gen.OutWgReferenceIdeal
public import proofs.«01_k».proof.Proof.Gen.OutWgReferenceIdeal.Run
public import proofs.«01_k».proof.Proof.Gen.OutWgReferenceIdeal.Read
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdReferenceIdeal
public import proofs.«01_k».proof.Proof.Gen.InBwdReferenceIdeal.Run
public import proofs.«01_k».proof.Proof.Gen.InBwdReferenceIdeal.Read
public import proofs.«01_k».proof.Proof.Gen.InWg
public import proofs.«01_k».proof.Proof.Gen.InWg.Frame
public import proofs.«01_k».proof.Proof.Gen.InWgIdeal
public import proofs.«01_k».proof.Proof.Gen.InWgIdeal.Frame
public import proofs.«01_k».proof.Proof.Gen.InWgIdeal.Value
public import proofs.«01_k».proof.Proof.Gen.InWgReferenceIdeal
public import proofs.«01_k».proof.Proof.Gen.InWgReferenceIdeal.Run
public import proofs.«01_k».proof.Proof.Gen.InWgReferenceIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdReferenceIdeal
public import proofs.«01_k».proof.Proof.Gen.NormBwdReferenceIdeal.Run
public import proofs.«01_k».proof.Proof.Gen.NormBwdReferenceIdeal.Read
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateBwdIdeal.Value
public import proofs.«01_k».proof.Proof.Gen.GateBwdReferenceIdeal
public import proofs.«01_k».proof.Proof.Gen.GateBwdReferenceIdeal.Run
public import proofs.«01_k».proof.Proof.Gen.GateBwdReferenceIdeal.Read
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActReferenceIdeal
public import proofs.«01_k».proof.Proof.Gen.ActReferenceIdeal.Run
public import proofs.«01_k».proof.Proof.Gen.ActReferenceIdeal.Read
public import proofs.«01_k».proof.Proof.Gen.SbIn
public import proofs.«01_k».proof.Proof.Gen.SbIn.Frame
public import proofs.«01_k».proof.Proof.Gen.SbInIdeal
public import proofs.«01_k».proof.Proof.Gen.SbInIdeal.Frame
public import proofs.«01_k».proof.Proof.Gen.SbInIdeal.Value
public import proofs.«01_k».proof.Proof.Gen.SbInReferenceIdeal
public import proofs.«01_k».proof.Proof.Gen.SbInReferenceIdeal.Run
public import proofs.«01_k».proof.Proof.Gen.SbInReferenceIdeal.Read
public import proofs.«01_k».proof.Proof.Gen.SbInBwd
public import proofs.«01_k».proof.Proof.Gen.SbInBwd.Frame
public import proofs.«01_k».proof.Proof.Gen.SbInBwdIdeal
public import proofs.«01_k».proof.Proof.Gen.SbInBwdIdeal.Frame
public import proofs.«01_k».proof.Proof.Gen.SbInBwdIdeal.Value
public import proofs.«01_k».proof.Proof.Gen.SbInBwdReferenceIdeal
public import proofs.«01_k».proof.Proof.Gen.SbInBwdReferenceIdeal.Run
public import proofs.«01_k».proof.Proof.Gen.SbInBwdReferenceIdeal.Read
public import proofs.«01_k».proof.Proof.Gen.SbInWg
public import proofs.«01_k».proof.Proof.Gen.SbInWg.Frame
public import proofs.«01_k».proof.Proof.Gen.SbInWgIdeal
public import proofs.«01_k».proof.Proof.Gen.SbInWgIdeal.Frame
public import proofs.«01_k».proof.Proof.Gen.SbInWgIdeal.Value
public import proofs.«01_k».proof.Proof.Gen.SbInWgReferenceIdeal
public import proofs.«01_k».proof.Proof.Gen.SbInWgReferenceIdeal.Run
public import proofs.«01_k».proof.Proof.Gen.SbInWgReferenceIdeal.Read
public import proofs.«01_k».proof.Proof.Gen.DnIn
public import proofs.«01_k».proof.Proof.Gen.DnIn.Frame
public import proofs.«01_k».proof.Proof.Gen.DnInIdeal
public import proofs.«01_k».proof.Proof.Gen.DnInIdeal.Frame
public import proofs.«01_k».proof.Proof.Gen.DnInIdeal.Value
public import proofs.«01_k».proof.Proof.Gen.DnInReferenceIdeal
public import proofs.«01_k».proof.Proof.Gen.DnInReferenceIdeal.Run
public import proofs.«01_k».proof.Proof.Gen.DnInReferenceIdeal.Read
public import proofs.«01_k».proof.Proof.Gen.DnInBwd
public import proofs.«01_k».proof.Proof.Gen.DnInBwd.Frame
public import proofs.«01_k».proof.Proof.Gen.DnInBwdIdeal
public import proofs.«01_k».proof.Proof.Gen.DnInBwdIdeal.Frame
public import proofs.«01_k».proof.Proof.Gen.DnInBwdIdeal.Value
public import proofs.«01_k».proof.Proof.Gen.DnInBwdReferenceIdeal
public import proofs.«01_k».proof.Proof.Gen.DnInBwdReferenceIdeal.Run
public import proofs.«01_k».proof.Proof.Gen.DnInBwdReferenceIdeal.Read
public import proofs.«01_k».proof.Proof.Gen.DnInWg
public import proofs.«01_k».proof.Proof.Gen.DnInWg.Frame
public import proofs.«01_k».proof.Proof.Gen.DnInWgIdeal
public import proofs.«01_k».proof.Proof.Gen.DnInWgIdeal.Frame
public import proofs.«01_k».proof.Proof.Gen.DnInWgIdeal.Value
public import proofs.«01_k».proof.Proof.Gen.DnInWgReferenceIdeal
public import proofs.«01_k».proof.Proof.Gen.DnInWgReferenceIdeal.Run
public import proofs.«01_k».proof.Proof.Gen.DnInWgReferenceIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.SbOutBwd
public import proofs.«01_k».proof.Proof.Gen.SbOutBwd.Frame
public import proofs.«01_k».proof.Proof.Gen.SbOutBwdIdeal
public import proofs.«01_k».proof.Proof.Gen.SbOutBwdIdeal.Frame
public import proofs.«01_k».proof.Proof.Gen.SbOutBwdIdeal.Value
public import proofs.«01_k».proof.Proof.Gen.SbOutBwdReferenceIdeal
public import proofs.«01_k».proof.Proof.Gen.SbOutBwdReferenceIdeal.Run
public import proofs.«01_k».proof.Proof.Gen.SbOutBwdReferenceIdeal.Read
public import proofs.«01_k».proof.Proof.Gen.DnOutBwd
public import proofs.«01_k».proof.Proof.Gen.DnOutBwd.Frame
public import proofs.«01_k».proof.Proof.Gen.DnOutBwdIdeal
public import proofs.«01_k».proof.Proof.Gen.DnOutBwdIdeal.Frame
public import proofs.«01_k».proof.Proof.Gen.DnOutBwdIdeal.Value
public import proofs.«01_k».proof.Proof.Gen.DnOutBwdReferenceIdeal
public import proofs.«01_k».proof.Proof.Gen.DnOutBwdReferenceIdeal.Run
public import proofs.«01_k».proof.Proof.Gen.DnOutBwdReferenceIdeal.Read
public import proofs.«01_k».proof.Proof.Gen.MixOutWg
public import proofs.«01_k».proof.Proof.Gen.MixOutWg.Frame
public import proofs.«01_k».proof.Proof.Gen.MixOutWgIdeal
public import proofs.«01_k».proof.Proof.Gen.MixOutWgIdeal.Frame
public import proofs.«01_k».proof.Proof.Gen.MixOutWgIdeal.Value
public import proofs.«01_k».proof.Proof.Gen.MixOutWgReferenceIdeal
public import proofs.«01_k».proof.Proof.Gen.MixOutWgReferenceIdeal.Run
public import proofs.«01_k».proof.Proof.Gen.MixOutWgReferenceIdeal.Read
public import proofs.«01_k».proof.Proof.Gen.AdaBwd
public import proofs.«01_k».proof.Proof.Gen.AdaBwd.Frame
public import proofs.«01_k».proof.Proof.Gen.AdaBwdIdeal
public import proofs.«01_k».proof.Proof.Gen.AdaBwdIdeal.Frame
public import proofs.«01_k».proof.Proof.Gen.AdaBwdIdeal.Value
public import proofs.«01_k».proof.Proof.Gen.AdaBwdReferenceIdeal
public import proofs.«01_k».proof.Proof.Gen.AdaBwdReferenceIdeal.Run
public import proofs.«01_k».proof.Proof.Gen.AdaBwdReferenceIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.GateNorm
public import proofs.«01_k».proof.Proof.Gen.GateNorm.Frame
public import proofs.«01_k».proof.Proof.Gen.GateNormIdeal
public import proofs.«01_k».proof.Proof.Gen.GateNormIdeal.Frame
public import proofs.«01_k».proof.Proof.Gen.GateNormIdeal.Value
public import proofs.«01_k».proof.Proof.Gen.GateNormReferenceIdeal
public import proofs.«01_k».proof.Proof.Gen.GateNormReferenceIdeal.Run
public import proofs.«01_k».proof.Proof.Gen.GateNormReferenceIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamAda
public import proofs.«01_k».proof.Proof.Gen.AdamAda.Frame
public import proofs.«01_k».proof.Proof.Gen.AdamAdaIdeal
public import proofs.«01_k».proof.Proof.Gen.AdamAdaIdeal.Frame
public import proofs.«01_k».proof.Proof.Gen.AdamAdaIdeal.Value
public import proofs.«01_k».proof.Proof.Gen.AdamAdaReferenceIdeal
public import proofs.«01_k».proof.Proof.Gen.AdamAdaReferenceIdeal.Run
public import proofs.«01_k».proof.Proof.Gen.AdamAdaReferenceIdeal.Read
public import proofs.«01_k».proof.Proof.Gen.AdamAdaB
public import proofs.«01_k».proof.Proof.Gen.AdamAdaB.Frame
public import proofs.«01_k».proof.Proof.Gen.AdamAdaBIdeal
public import proofs.«01_k».proof.Proof.Gen.AdamAdaBIdeal.Frame
public import proofs.«01_k».proof.Proof.Gen.AdamAdaBIdeal.Value
public import proofs.«01_k».proof.Proof.Gen.AdamAdaBReferenceIdeal
public import proofs.«01_k».proof.Proof.Gen.AdamAdaBReferenceIdeal.Run
public import proofs.«01_k».proof.Proof.Gen.AdamAdaBReferenceIdeal.Read
public import proofs.«01_k».proof.Proof.Gen.AdamNorm
public import proofs.«01_k».proof.Proof.Gen.AdamNorm.Frame
public import proofs.«01_k».proof.Proof.Gen.AdamNormIdeal
public import proofs.«01_k».proof.Proof.Gen.AdamNormIdeal.Frame
public import proofs.«01_k».proof.Proof.Gen.AdamNormIdeal.Value
public import proofs.«01_k».proof.Proof.Gen.AdamNormReferenceIdeal
public import proofs.«01_k».proof.Proof.Gen.AdamNormReferenceIdeal.Run
public import proofs.«01_k».proof.Proof.Gen.AdamNormReferenceIdeal.Read
public import proofs.«01_k».proof.Proof.Gen.AdamDnIn
public import proofs.«01_k».proof.Proof.Gen.AdamDnIn.Frame
public import proofs.«01_k».proof.Proof.Gen.AdamDnInIdeal
public import proofs.«01_k».proof.Proof.Gen.AdamDnInIdeal.Frame
public import proofs.«01_k».proof.Proof.Gen.AdamDnInIdeal.Value
public import proofs.«01_k».proof.Proof.Gen.AdamDnInReferenceIdeal
public import proofs.«01_k».proof.Proof.Gen.AdamDnInReferenceIdeal.Run
public import proofs.«01_k».proof.Proof.Gen.AdamDnInReferenceIdeal.Read
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.Gen.AdamConvReferenceIdeal.Read
public import proofs.«01_k».proof.Proof.Gen.AdamDecay
public import proofs.«01_k».proof.Proof.Gen.AdamDecay.Frame
public import proofs.«01_k».proof.Proof.Gen.AdamDecayIdeal
public import proofs.«01_k».proof.Proof.Gen.AdamDecayIdeal.Frame
public import proofs.«01_k».proof.Proof.Gen.AdamDecayIdeal.Value
public import proofs.«01_k».proof.Proof.Gen.AdamDecayReferenceIdeal
public import proofs.«01_k».proof.Proof.Gen.AdamDecayReferenceIdeal.Run
public import proofs.«01_k».proof.Proof.Gen.AdamDecayReferenceIdeal.Read
public import proofs.«01_k».proof.Proof.Gen.AdamDnNorm
public import proofs.«01_k».proof.Proof.Gen.AdamDnNorm.Frame
public import proofs.«01_k».proof.Proof.Gen.AdamDnNormIdeal
public import proofs.«01_k».proof.Proof.Gen.AdamDnNormIdeal.Frame
public import proofs.«01_k».proof.Proof.Gen.AdamDnNormIdeal.Value
public import proofs.«01_k».proof.Proof.Gen.AdamDnNormReferenceIdeal
public import proofs.«01_k».proof.Proof.Gen.AdamDnNormReferenceIdeal.Run
public import proofs.«01_k».proof.Proof.Gen.AdamDnNormReferenceIdeal.Read
public import proofs.«01_k».proof.Proof.Gen.AdamSbIn
public import proofs.«01_k».proof.Proof.Gen.AdamSbIn.Frame
public import proofs.«01_k».proof.Proof.Gen.AdamSbInIdeal
public import proofs.«01_k».proof.Proof.Gen.AdamSbInIdeal.Frame
public import proofs.«01_k».proof.Proof.Gen.AdamSbInIdeal.Value
public import proofs.«01_k».proof.Proof.Gen.AdamSbInReferenceIdeal
public import proofs.«01_k».proof.Proof.Gen.AdamSbInReferenceIdeal.Run
public import proofs.«01_k».proof.Proof.Gen.AdamSbInReferenceIdeal.Read
public import proofs.«01_k».proof.Proof.Gen.AdamHead
public import proofs.«01_k».proof.Proof.Gen.AdamHead.Frame
public import proofs.«01_k».proof.Proof.Gen.AdamHeadIdeal
public import proofs.«01_k».proof.Proof.Gen.AdamHeadIdeal.Frame
public import proofs.«01_k».proof.Proof.Gen.AdamHeadIdeal.Value
public import proofs.«01_k».proof.Proof.Gen.AdamHeadReferenceIdeal
public import proofs.«01_k».proof.Proof.Gen.AdamHeadReferenceIdeal.Run
public import proofs.«01_k».proof.Proof.Gen.AdamHeadReferenceIdeal.Read
public import proofs.«01_k».proof.Proof.Gen.AdamFfnIn
public import proofs.«01_k».proof.Proof.Gen.AdamFfnIn.Frame
public import proofs.«01_k».proof.Proof.Gen.AdamFfnInIdeal
public import proofs.«01_k».proof.Proof.Gen.AdamFfnInIdeal.Frame
public import proofs.«01_k».proof.Proof.Gen.AdamFfnInIdeal.Value
public import proofs.«01_k».proof.Proof.Gen.AdamFfnInReferenceIdeal
public import proofs.«01_k».proof.Proof.Gen.AdamFfnInReferenceIdeal.Run
public import proofs.«01_k».proof.Proof.Gen.AdamFfnInReferenceIdeal.Read
public import proofs.«01_k».proof.Proof.Gen.AdamFfnOut
public import proofs.«01_k».proof.Proof.Gen.AdamFfnOut.Frame
public import proofs.«01_k».proof.Proof.Gen.AdamFfnOutIdeal
public import proofs.«01_k».proof.Proof.Gen.AdamFfnOutIdeal.Frame
public import proofs.«01_k».proof.Proof.Gen.AdamFfnOutIdeal.Value
public import proofs.«01_k».proof.Proof.Gen.AdamFfnOutReferenceIdeal
public import proofs.«01_k».proof.Proof.Gen.AdamFfnOutReferenceIdeal.Run
public import proofs.«01_k».proof.Proof.Gen.AdamFfnOutReferenceIdeal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Out
public import proofs.«01_k».proof.Proof.Finite
public import proofs.«01_k».proof.Proof.FfnAct
public import proofs.«01_k».proof.Proof.FfnOutBwd
public import proofs.«01_k».proof.Proof.FfnOutWg
public import proofs.«01_k».proof.Proof.FfnInBwd
public import proofs.«01_k».proof.Proof.FfnInWg
public import proofs.«01_k».proof.Proof.FfnIn
public import proofs.«01_k».proof.Proof.FfnOut
public import proofs.«01_k».proof.Proof.NormBwd
public import proofs.«01_k».proof.Proof.GateBwd
public import proofs.«01_k».proof.Proof.Act
public import proofs.«01_k».proof.Proof.MixSbIn
public import proofs.«01_k».proof.Proof.MixSbInBwd
public import proofs.«01_k».proof.Proof.MixSbInWg
public import proofs.«01_k».proof.Proof.MixDnIn
public import proofs.«01_k».proof.Proof.MixDnInBwd
public import proofs.«01_k».proof.Proof.MixDnInWg
public import proofs.«01_k».proof.Proof.MixOut
public import proofs.«01_k».proof.Proof.MixSbOutBwd
public import proofs.«01_k».proof.Proof.MixDnOutBwd
public import proofs.«01_k».proof.Proof.MixOutWg
public import proofs.«01_k».proof.Proof.AdaBwd
public import proofs.«01_k».proof.Proof.Ada
public import proofs.«01_k».proof.Proof.Norm
public import proofs.«01_k».proof.Proof.Gate
public import proofs.«01_k».proof.Proof.GateNorm
public import proofs.«01_k».proof.Proof.AdamOut
public import proofs.«01_k».proof.Proof.AdamAda
public import proofs.«01_k».proof.Proof.AdamAdaB
public import proofs.«01_k».proof.Proof.AdamNorm
public import proofs.«01_k».proof.Proof.AdamDnIn
public import proofs.«01_k».proof.Proof.AdamConv
public import proofs.«01_k».proof.Proof.AdamDecay
public import proofs.«01_k».proof.Proof.AdamDnNorm
public import proofs.«01_k».proof.Proof.AdamSbIn
public import proofs.«01_k».proof.Proof.AdamHead
public import proofs.«01_k».proof.Proof.AdamFfnIn
public import proofs.«01_k».proof.Proof.AdamFfnOut
public import proofs.«01_k».proof.Proof.Loss
public import Idealize.ShloMosaic.Adequacy
public import Idealize.ShloMosaic.Init

@[expose] public section

noncomputable section

namespace Cert.Proof

open Idealize.ShloMosaic Idealize.SL.Sem Cert.Kernel

/-- The frame of the kernel as written. Its program is the idealized one's, operation by operation, so its run at words is
    that program's run at words. -/
theorem frame_k : Cert.quiescent_Kernel := fun m ρ _ =>
  run_of_ideal (Cert.KernelIdeal.Stick.frame_main (F := Bits) m ρ)

/-- The frame of the idealized kernel, at exact values. -/
theorem frame_ki : Cert.quiescent_KernelIdeal := fun m ρ _ => Cert.KernelIdeal.Stick.frame_main (F := Ideal) m ρ

/-- The frame of the reference, a straight line of host operations that declares no semaphore. -/
theorem frame_ri : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The idealized kernel's run: its results are the reference's terms over its arguments. -/
theorem value_ki [Cert.Pre_finite.Facts] (m : (ℓ : Loc Cert.KernelIdeal.nD Cert.KernelIdeal.τ Cert.KernelIdeal.sig) → Buf (Elt Ideal) ℓ)
    (ρ : Dev Cert.KernelIdeal.nD → PrngReg) (hm : Cert.Pre_KernelIdeal_finite m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v58_0) = Cert.Stick.refQ m c
      ∧ r.2.mem ((c.tc : Thread Cert.KernelIdeal.nD Cert.KernelIdeal.τ).loc Cert.KernelIdeal.main_v58_1) = Cert.Stick.refK m c
      ∧ r.2.mem ((c.tc : Thread Cert.KernelIdeal.nD Cert.KernelIdeal.τ).loc Cert.KernelIdeal.main_v58_2) = Cert.Stick.refV m c
      ∧ r.2.mem ((c.tc : Thread Cert.KernelIdeal.nD Cert.KernelIdeal.τ).loc Cert.KernelIdeal.main_v58_3) = Cert.Stick.refQg m c
      ∧ r.2.mem ((c.tc : Thread Cert.KernelIdeal.nD Cert.KernelIdeal.τ).loc Cert.KernelIdeal.main_v58_4) = Cert.Stick.refKg m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine θ_run_mono (θ_run_and (Cert.KernelIdeal.Stick.run_main (F := Ideal) m ρ) (Cert.KernelIdeal.Stick.frame_main (F := Ideal) m ρ)) ?_
  intro r hr c
  obtain ⟨⟨hrun, _⟩, hargs, _⟩ := hr
  obtain ⟨x, g, h, d, A⟩ := Cert.Stick.args_of_finite hm c
  obtain ⟨h0, h1, h2, h3, h4⟩ := Cert.Stick.results hrun A
  exact ⟨h0, h1, h2, h3, h4, hargs c⟩

/-- The idealized kernel and the reference end with the same results. -/
theorem same_results : Cert.algebraic_KernelIdeal_ReferenceIdeal_pre_finite (hKernelIdeal := Cert.KernelIdeal.Gen.facts)
    (hReferenceIdeal := Cert.ReferenceIdeal.Gen.facts) (hPre_finite := Cert.Stick.facts_finite) := by
  intro m g m' g' hm hagree
  haveI := Cert.Stick.facts_finite
  refine ⟨fun c => Cert.Stick.refQ m c, fun c => Cert.Stick.refK m c, fun c => Cert.Stick.refV m c, fun c => Cert.Stick.refQg m c,
    fun c => Cert.Stick.refKg m c, value_ki m g hm, ?_⟩
  refine θ_run_mono (Cert.ReferenceIdeal.Value.run (F := Ideal) m' g') ?_
  intro r hr c
  obtain ⟨h0, h1, h2, h3, h4, h5⟩ := hr c
  obtain ⟨a0, a1, a2, a3⟩ := hagree c
  have b0 : StableHlo.launchContents m' c (Proc.devRef .tc Cert.ReferenceIdeal.main_arg0) = m ((c.tc : Thread Cert.KernelIdeal.nD Cert.KernelIdeal.τ).loc Cert.KernelIdeal.main_arg0) := a0
  have b1 : StableHlo.launchContents m' c (Proc.devRef .tc Cert.ReferenceIdeal.main_arg1) = m ((c.tc : Thread Cert.KernelIdeal.nD Cert.KernelIdeal.τ).loc Cert.KernelIdeal.main_arg1) := a1
  have b2 : StableHlo.launchContents m' c (Proc.devRef .tc Cert.ReferenceIdeal.main_arg2) = m ((c.tc : Thread Cert.KernelIdeal.nD Cert.KernelIdeal.τ).loc Cert.KernelIdeal.main_arg2) := a2
  have b3 : StableHlo.launchContents m' c (Proc.devRef .tc Cert.ReferenceIdeal.main_arg3) = m ((c.tc : Thread Cert.KernelIdeal.nD Cert.KernelIdeal.τ).loc Cert.KernelIdeal.main_arg3) := a3
  refine ⟨h0.trans ((Cert.ReferenceIdeal.Read.val_main_v146_eq (StableHlo.launchContents m' c)).trans ?_),
    h1.trans ((Cert.ReferenceIdeal.Read.val_main_v147_eq (StableHlo.launchContents m' c)).trans ?_),
    h2.trans ((Cert.ReferenceIdeal.Read.val_main_v148_eq (StableHlo.launchContents m' c)).trans ?_),
    h3.trans ((Cert.ReferenceIdeal.Read.val_main_v149_eq (StableHlo.launchContents m' c)).trans ?_),
    h4.trans ((Cert.ReferenceIdeal.Read.val_main_v150_eq (StableHlo.launchContents m' c)).trans ?_), h5⟩
  all_goals
    rw [b0, b1, b2, b3]

/-- The gradient through the gate: the reference's frame. -/
theorem frame_ActBwd : Cert.quiescent_ActBwdReferenceIdeal := fun m ρ _ =>
  θ_run_mono (Cert.ActBwdReferenceIdeal.Value.run (F := Ideal) m ρ) fun r h => ⟨fun c => (h c).2, sem_eq_zero_of_no_sems (by decide) r.2⟩

/-- The gradient through the gate: the same array from the idealized kernel and from the reference. -/
theorem same_ActBwd : Cert.algebraic_ActBwdIdeal_ActBwdReferenceIdeal_pre_act_finite (hActBwdIdeal := Cert.ActBwdIdeal.Gen.facts) (hActBwdReferenceIdeal := Cert.ActBwdReferenceIdeal.Gen.facts) (hPre_act_finite := Cert.ActBwdIdeal.Gate.facts_act_finite) := by
  intro m g m' g' hm hagree
  haveI := Cert.ActBwdIdeal.Gate.facts_act_finite
  refine ⟨fun c => Cert.ActBwdReferenceIdeal.Read.val_main_v10 (F := Ideal) (m ((c.tc : Thread Cert.ActBwdIdeal.nD Cert.ActBwdIdeal.τ).loc Cert.ActBwdIdeal.main_arg0)) (m ((c.tc : Thread Cert.ActBwdIdeal.nD Cert.ActBwdIdeal.τ).loc Cert.ActBwdIdeal.main_arg1)),
    θ_run_mono (Cert.ActBwdIdeal.Value.run_blocks (F := Ideal) m g) fun r h c => ⟨(h c).1.trans (Cert.ActBwdIdeal.Gate.final m hm c), (h c).2⟩,
    θ_run_mono (Cert.ActBwdReferenceIdeal.Value.run (F := Ideal) m' g') fun r h c => ⟨(h c).1.trans ((Cert.ActBwdReferenceIdeal.Read.val_main_v10_eq _ _).trans
      (congrArg₂ (Cert.ActBwdReferenceIdeal.Read.val_main_v10 (F := Ideal)) (hagree c).1 (hagree c).2)), (h c).2⟩⟩

/-- The gradient of the second product's argument: the reference's frame. -/
theorem frame_OutBwd : Cert.quiescent_OutBwdReferenceIdeal := fun m ρ _ =>
  θ_run_mono (Cert.OutBwdReferenceIdeal.Value.run (F := Ideal) m ρ) fun r h => ⟨fun c => (h c).2, sem_eq_zero_of_no_sems (by decide) r.2⟩

/-- The gradient of the second product's argument: the same array from the idealized kernel and from the reference. -/
theorem same_OutBwd : Cert.algebraic_OutBwdIdeal_OutBwdReferenceIdeal (hOutBwdIdeal := Cert.OutBwdIdeal.Gen.facts) (hOutBwdReferenceIdeal := Cert.OutBwdReferenceIdeal.Gen.facts) := by
  intro m g m' g' hm hagree
  refine ⟨fun c => Cert.OutBwdReferenceIdeal.Read.val_main_v5 (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)),
    θ_run_mono (Cert.OutBwdIdeal.Value.run_blocks (F := Ideal) m g) fun r h c => ⟨(h c).1.trans (Cert.OutBwdIdeal.Product.final m c), (h c).2⟩,
    θ_run_mono (Cert.OutBwdReferenceIdeal.Value.run (F := Ideal) m' g') fun r h c => ⟨(h c).1.trans ((Cert.OutBwdReferenceIdeal.Read.val_main_v5_eq _ _).trans
      (congrArg₂ (Cert.OutBwdReferenceIdeal.Read.val_main_v5 (F := Ideal)) (hagree c).1 (hagree c).2)), (h c).2⟩⟩

/-- The gradient of the second product's weight: the reference's frame. -/
theorem frame_OutWg : Cert.quiescent_OutWgReferenceIdeal := fun m ρ _ =>
  θ_run_mono (Cert.OutWgReferenceIdeal.Value.run (F := Ideal) m ρ) fun r h => ⟨fun c => (h c).2, sem_eq_zero_of_no_sems (by decide) r.2⟩

/-- The gradient of the second product's weight: the same array from the idealized kernel and from the reference. -/
theorem same_OutWg : Cert.algebraic_OutWgIdeal_OutWgReferenceIdeal (hOutWgIdeal := Cert.OutWgIdeal.Gen.facts) (hOutWgReferenceIdeal := Cert.OutWgReferenceIdeal.Gen.facts) := by
  intro m g m' g' hm hagree
  refine ⟨fun c => Cert.OutWgReferenceIdeal.Read.val_main_v6 (F := Ideal) (m ((c.tc : Thread Cert.OutWgIdeal.nD Cert.OutWgIdeal.τ).loc Cert.OutWgIdeal.main_arg0)) (m ((c.tc : Thread Cert.OutWgIdeal.nD Cert.OutWgIdeal.τ).loc Cert.OutWgIdeal.main_arg1)),
    θ_run_mono (Cert.OutWgIdeal.Value.run_blocks (F := Ideal) m g) fun r h c => ⟨(h c).1.trans (Cert.OutWgIdeal.Product.final m c), (h c).2⟩,
    θ_run_mono (Cert.OutWgReferenceIdeal.Value.run (F := Ideal) m' g') fun r h c => ⟨(h c).1.trans ((Cert.OutWgReferenceIdeal.Read.val_main_v6_eq _ _).trans
      (congrArg₂ (Cert.OutWgReferenceIdeal.Read.val_main_v6 (F := Ideal)) (hagree c).1 (hagree c).2)), (h c).2⟩⟩

/-- The gradient of the first product's argument: the reference's frame. -/
theorem frame_InBwd : Cert.quiescent_InBwdReferenceIdeal := fun m ρ _ =>
  θ_run_mono (Cert.InBwdReferenceIdeal.Value.run (F := Ideal) m ρ) fun r h => ⟨fun c => (h c).2, sem_eq_zero_of_no_sems (by decide) r.2⟩

/-- The gradient of the first product's argument: the same array from the idealized kernel and from the reference. -/
theorem same_InBwd : Cert.algebraic_InBwdIdeal_InBwdReferenceIdeal (hInBwdIdeal := Cert.InBwdIdeal.Gen.facts) (hInBwdReferenceIdeal := Cert.InBwdReferenceIdeal.Gen.facts) := by
  intro m g m' g' hm hagree
  refine ⟨fun c => Cert.InBwdReferenceIdeal.Read.val_main_v5 (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)),
    θ_run_mono (Cert.InBwdIdeal.Value.run_blocks (F := Ideal) m g) fun r h c => ⟨(h c).1.trans (Cert.InBwdIdeal.Product.final m c), (h c).2⟩,
    θ_run_mono (Cert.InBwdReferenceIdeal.Value.run (F := Ideal) m' g') fun r h c => ⟨(h c).1.trans ((Cert.InBwdReferenceIdeal.Read.val_main_v5_eq _ _).trans
      (congrArg₂ (Cert.InBwdReferenceIdeal.Read.val_main_v5 (F := Ideal)) (hagree c).1 (hagree c).2)), (h c).2⟩⟩

/-- The gradient of the first product's weight: the reference's frame. -/
theorem frame_InWg : Cert.quiescent_InWgReferenceIdeal := fun m ρ _ =>
  θ_run_mono (Cert.InWgReferenceIdeal.Value.run (F := Ideal) m ρ) fun r h => ⟨fun c => (h c).2, sem_eq_zero_of_no_sems (by decide) r.2⟩

/-- The gradient of the first product's weight: the same array from the idealized kernel and from the reference. -/
theorem same_InWg : Cert.algebraic_InWgIdeal_InWgReferenceIdeal (hInWgIdeal := Cert.InWgIdeal.Gen.facts) (hInWgReferenceIdeal := Cert.InWgReferenceIdeal.Gen.facts) := by
  intro m g m' g' hm hagree
  refine ⟨fun c => Cert.InWgReferenceIdeal.Read.val_main_v8 (F := Ideal) (m ((c.tc : Thread Cert.InWgIdeal.nD Cert.InWgIdeal.τ).loc Cert.InWgIdeal.main_arg0)) (m ((c.tc : Thread Cert.InWgIdeal.nD Cert.InWgIdeal.τ).loc Cert.InWgIdeal.main_arg1)),
    θ_run_mono (Cert.InWgIdeal.Value.run_blocks (F := Ideal) m g) fun r h c => ⟨(h c).1.trans (Cert.InWgIdeal.Product.final m c), (h c).2⟩,
    θ_run_mono (Cert.InWgReferenceIdeal.Value.run (F := Ideal) m' g') fun r h c => ⟨(h c).1.trans ((Cert.InWgReferenceIdeal.Read.val_main_v8_eq _ _).trans
      (congrArg₂ (Cert.InWgReferenceIdeal.Read.val_main_v8 (F := Ideal)) (hagree c).1 (hagree c).2)), (h c).2⟩⟩

/-- The first product: the reference's frame. -/
theorem frame_In : Cert.quiescent_InReferenceIdeal := fun m ρ _ =>
  θ_run_mono (Cert.InReferenceIdeal.Value.run (F := Ideal) m ρ) fun r h => ⟨fun c => (h c).2, sem_eq_zero_of_no_sems (by decide) r.2⟩

/-- The first product: the same array from the idealized kernel and from the reference. -/
theorem same_In : Cert.algebraic_InIdeal_InReferenceIdeal (hInIdeal := Cert.InIdeal.Gen.facts) (hInReferenceIdeal := Cert.InReferenceIdeal.Gen.facts) := by
  intro m g m' g' hm hagree
  refine ⟨fun c => Cert.InReferenceIdeal.Read.val_main_v4 (F := Ideal) (m ((c.tc : Thread Cert.InIdeal.nD Cert.InIdeal.τ).loc Cert.InIdeal.main_arg0)) (m ((c.tc : Thread Cert.InIdeal.nD Cert.InIdeal.τ).loc Cert.InIdeal.main_arg1)),
    θ_run_mono (Cert.InIdeal.Value.run_blocks (F := Ideal) m g) fun r h c => ⟨(h c).1.trans (Cert.InIdeal.Product.final m c), (h c).2⟩,
    θ_run_mono (Cert.InReferenceIdeal.Value.run (F := Ideal) m' g') fun r h c => ⟨(h c).1.trans ((Cert.InReferenceIdeal.Read.val_main_v4_eq _ _).trans
      (congrArg₂ (Cert.InReferenceIdeal.Read.val_main_v4 (F := Ideal)) (hagree c).1 (hagree c).2)), (h c).2⟩⟩

/-- The second product: the reference's frame. -/
theorem frame_Out : Cert.quiescent_OutReferenceIdeal := fun m ρ _ =>
  θ_run_mono (Cert.OutReferenceIdeal.Value.run (F := Ideal) m ρ) fun r h => ⟨fun c => (h c).2, sem_eq_zero_of_no_sems (by decide) r.2⟩

/-- The second product: the same array from the idealized kernel and from the reference. -/
theorem same_Out : Cert.algebraic_OutIdeal_OutReferenceIdeal (hOutIdeal := Cert.OutIdeal.Gen.facts) (hOutReferenceIdeal := Cert.OutReferenceIdeal.Gen.facts) := by
  intro m g m' g' hm hagree
  refine ⟨fun c => Cert.OutReferenceIdeal.Read.val_main_v2 (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)),
    θ_run_mono (Cert.OutIdeal.Value.run_blocks (F := Ideal) m g) fun r h c => ⟨(h c).1.trans (Cert.OutIdeal.Product.final m c), (h c).2⟩,
    θ_run_mono (Cert.OutReferenceIdeal.Value.run (F := Ideal) m' g') fun r h c => ⟨(h c).1.trans ((Cert.OutReferenceIdeal.Read.val_main_v2_eq _ _).trans
      (congrArg₂ (Cert.OutReferenceIdeal.Read.val_main_v2 (F := Ideal)) (hagree c).1 (hagree c).2)), (h c).2⟩⟩

/-- The gradient through the modulated norm: the reference's frame. -/
theorem frame_NormBwd : Cert.quiescent_NormBwdReferenceIdeal := fun m ρ _ =>
  θ_run_mono (Cert.NormBwdReferenceIdeal.Value.run (F := Ideal) m ρ) fun r h => ⟨fun c => (h c).2.2.2, sem_eq_zero_of_no_sems (by decide) r.2⟩

/-- The gradient through the modulated norm: the same arrays from the idealized kernel and from the reference. -/
theorem same_NormBwd : Cert.algebraic_NormBwdIdeal_NormBwdReferenceIdeal (hNormBwdIdeal := Cert.NormBwdIdeal.Gen.facts)
    (hNormBwdReferenceIdeal := Cert.NormBwdReferenceIdeal.Gen.facts) := by
  intro m g m' g' hm hagree
  refine ⟨fun c => Cert.NormBwdReferenceIdeal.Read.val_main_v43 (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)),
    fun c => Cert.NormBwdReferenceIdeal.Read.val_main_v26 (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)),
    fun c => Cert.NormBwdReferenceIdeal.Read.val_main_v23 (F := Ideal) (m ((c.tc : Thread Cert.NormBwdIdeal.nD Cert.NormBwdIdeal.τ).loc Cert.NormBwdIdeal.main_arg0)),
    θ_run_mono (Cert.NormBwdIdeal.Value.run_blocks (F := Ideal) m g) fun r h c => ⟨(h c).1.trans (Cert.NormBwdIdeal.Norm.final_x m c),
      (h c).2.1.trans (Cert.NormBwdIdeal.Norm.final_gain m c), (h c).2.2.1.trans (Cert.NormBwdIdeal.Norm.final_shift m c), (h c).2.2.2⟩,
    θ_run_mono (Cert.NormBwdReferenceIdeal.Value.run (F := Ideal) m' g') fun r h c => ?_⟩
  obtain ⟨a0, a1, a2, a3, a4⟩ := hagree c
  exact ⟨(h c).1.trans ((Cert.NormBwdReferenceIdeal.Read.val_main_v43_eq m' c).trans
      (congr (congr (congr (congrArg₂ (Cert.NormBwdReferenceIdeal.Read.val_main_v43 (F := Ideal)) a0 a1) a2) a3) a4)),
    (h c).2.1.trans ((Cert.NormBwdReferenceIdeal.Read.val_main_v26_eq _ _).trans (congrArg₂ (Cert.NormBwdReferenceIdeal.Read.val_main_v26 (F := Ideal)) a0 a1)),
    (h c).2.2.1.trans ((Cert.NormBwdReferenceIdeal.Read.val_main_v23_eq _).trans (congrArg (Cert.NormBwdReferenceIdeal.Read.val_main_v23 (F := Ideal)) a0)), (h c).2.2.2⟩

/-- The gradient through the gated residual: the reference's frame. -/
theorem frame_GateBwd : Cert.quiescent_GateBwdReferenceIdeal := fun m ρ _ =>
  θ_run_mono (Cert.GateBwdReferenceIdeal.Value.run (F := Ideal) m ρ) fun r h => ⟨fun c => (h c).2.2, sem_eq_zero_of_no_sems (by decide) r.2⟩

/-- The gradient through the gated residual: the same arrays from the idealized kernel and from the reference. -/
theorem same_GateBwd : Cert.algebraic_GateBwdIdeal_GateBwdReferenceIdeal (hGateBwdIdeal := Cert.GateBwdIdeal.Gen.facts)
    (hGateBwdReferenceIdeal := Cert.GateBwdReferenceIdeal.Gen.facts) := by
  intro m g m' g' hm hagree
  refine ⟨fun c => Cert.GateBwdReferenceIdeal.Read.val_main_v7 (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg2)),
    fun c => Cert.GateBwdReferenceIdeal.Read.val_main_v6 (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)),
    θ_run_mono (Cert.GateBwdIdeal.Value.run_blocks (F := Ideal) m g) fun r h c => ⟨(h c).1.trans (Cert.GateBwdIdeal.Residual.final_y m c),
      (h c).2.1.trans (Cert.GateBwdIdeal.Residual.final_g m c), (h c).2.2⟩,
    θ_run_mono (Cert.GateBwdReferenceIdeal.Value.run (F := Ideal) m' g') fun r h c => ?_⟩
  obtain ⟨a0, a1, a2⟩ := hagree c
  exact ⟨(h c).1.trans ((Cert.GateBwdReferenceIdeal.Read.val_main_v7_eq _ _).trans (congrArg₂ (Cert.GateBwdReferenceIdeal.Read.val_main_v7 (F := Ideal)) a0 a2)),
    (h c).2.1.trans ((Cert.GateBwdReferenceIdeal.Read.val_main_v6_eq _ _).trans (congrArg₂ (Cert.GateBwdReferenceIdeal.Read.val_main_v6 (F := Ideal)) a0 a1)), (h c).2.2⟩

/-- The gated activation: the reference's frame. -/
theorem frame_Act : Cert.quiescent_ActReferenceIdeal := fun m ρ _ =>
  θ_run_mono (Cert.ActReferenceIdeal.Value.run (F := Ideal) m ρ) fun r h => ⟨fun c => (h c).2, sem_eq_zero_of_no_sems (by decide) r.2⟩

/-- The gated activation: the same array from the idealized kernel and from the reference. -/
theorem same_Act : Cert.algebraic_ActIdeal_ActReferenceIdeal (hActIdeal := Cert.ActIdeal.Gen.facts) (hActReferenceIdeal := Cert.ActReferenceIdeal.Gen.facts) := by
  intro m g m' g' hm hagree
  exact ⟨fun c => Cert.ActReferenceIdeal.Read.val_main_v5 (F := Ideal) (m ((c.tc : Thread Cert.ActIdeal.nD Cert.ActIdeal.τ).loc Cert.ActIdeal.main_arg0)),
    θ_run_mono (Cert.ActIdeal.Value.run_blocks (F := Ideal) m g) fun r h c => ⟨(h c).1.trans (Cert.ActIdeal.Gated.final m c), (h c).2⟩,
    θ_run_mono (Cert.ActReferenceIdeal.Value.run (F := Ideal) m' g') fun r h c => ⟨(h c).1.trans ((Cert.ActReferenceIdeal.Read.val_main_v5_eq _).trans
      (congrArg (Cert.ActReferenceIdeal.Read.val_main_v5 (F := Ideal)) (hagree c))), (h c).2⟩⟩

/-- The product with the softmax mixer's first weight: the reference's frame. -/
theorem frame_SbIn : Cert.quiescent_SbInReferenceIdeal := fun m ρ _ =>
  θ_run_mono (Cert.SbInReferenceIdeal.Value.run (F := Ideal) m ρ) fun r h => ⟨fun c => (h c).2, sem_eq_zero_of_no_sems (by decide) r.2⟩

/-- The product with the softmax mixer's first weight: the same array from the idealized kernel and from the reference. -/
theorem same_SbIn : Cert.algebraic_SbInIdeal_SbInReferenceIdeal (hSbInIdeal := Cert.SbInIdeal.Gen.facts) (hSbInReferenceIdeal := Cert.SbInReferenceIdeal.Gen.facts) := by
  intro m g m' g' hm hagree
  refine ⟨fun c => Cert.SbInReferenceIdeal.Read.val_main_v3 (F := Ideal) (m ((c.tc : Thread Cert.SbInIdeal.nD Cert.SbInIdeal.τ).loc Cert.SbInIdeal.main_arg0)) (m ((c.tc : Thread Cert.SbInIdeal.nD Cert.SbInIdeal.τ).loc Cert.SbInIdeal.main_arg1)),
    θ_run_mono (Cert.SbInIdeal.Value.run_blocks (F := Ideal) m g) fun r h c => ⟨(h c).1.trans (Cert.SbInIdeal.Product.final m c), (h c).2⟩,
    θ_run_mono (Cert.SbInReferenceIdeal.Value.run (F := Ideal) m' g') fun r h c => ⟨(h c).1.trans ((Cert.SbInReferenceIdeal.Read.val_main_v3_eq _ _).trans
      (congrArg₂ (Cert.SbInReferenceIdeal.Read.val_main_v3 (F := Ideal)) (hagree c).1 (hagree c).2)), (h c).2⟩⟩

/-- The gradient of the softmax mixer's input: the reference's frame. -/
theorem frame_SbInBwd : Cert.quiescent_SbInBwdReferenceIdeal := fun m ρ _ =>
  θ_run_mono (Cert.SbInBwdReferenceIdeal.Value.run (F := Ideal) m ρ) fun r h => ⟨fun c => (h c).2, sem_eq_zero_of_no_sems (by decide) r.2⟩

/-- The gradient of the softmax mixer's input: the same array from the idealized kernel and from the reference. -/
theorem same_SbInBwd : Cert.algebraic_SbInBwdIdeal_SbInBwdReferenceIdeal (hSbInBwdIdeal := Cert.SbInBwdIdeal.Gen.facts) (hSbInBwdReferenceIdeal := Cert.SbInBwdReferenceIdeal.Gen.facts) := by
  intro m g m' g' hm hagree
  refine ⟨fun c => Cert.SbInBwdReferenceIdeal.Read.val_main_v5 (F := Ideal) (m ((c.tc : Thread Cert.SbInBwdIdeal.nD Cert.SbInBwdIdeal.τ).loc Cert.SbInBwdIdeal.main_arg0)) (m ((c.tc : Thread Cert.SbInBwdIdeal.nD Cert.SbInBwdIdeal.τ).loc Cert.SbInBwdIdeal.main_arg1)),
    θ_run_mono (Cert.SbInBwdIdeal.Value.run_blocks (F := Ideal) m g) fun r h c => ⟨(h c).1.trans (Cert.SbInBwdIdeal.Product.final m c), (h c).2⟩,
    θ_run_mono (Cert.SbInBwdReferenceIdeal.Value.run (F := Ideal) m' g') fun r h c => ⟨(h c).1.trans ((Cert.SbInBwdReferenceIdeal.Read.val_main_v5_eq _ _).trans
      (congrArg₂ (Cert.SbInBwdReferenceIdeal.Read.val_main_v5 (F := Ideal)) (hagree c).1 (hagree c).2)), (h c).2⟩⟩

/-- The gradient of the softmax mixer's first weight: the reference's frame. -/
theorem frame_SbInWg : Cert.quiescent_SbInWgReferenceIdeal := fun m ρ _ =>
  θ_run_mono (Cert.SbInWgReferenceIdeal.Value.run (F := Ideal) m ρ) fun r h => ⟨fun c => (h c).2, sem_eq_zero_of_no_sems (by decide) r.2⟩

/-- The gradient of the softmax mixer's first weight: the same array from the idealized kernel and from the reference. -/
theorem same_SbInWg : Cert.algebraic_SbInWgIdeal_SbInWgReferenceIdeal (hSbInWgIdeal := Cert.SbInWgIdeal.Gen.facts) (hSbInWgReferenceIdeal := Cert.SbInWgReferenceIdeal.Gen.facts) := by
  intro m g m' g' hm hagree
  refine ⟨fun c => Cert.SbInWgReferenceIdeal.Read.val_main_v8 (F := Ideal) (m ((c.tc : Thread Cert.SbInWgIdeal.nD Cert.SbInWgIdeal.τ).loc Cert.SbInWgIdeal.main_arg0)) (m ((c.tc : Thread Cert.SbInWgIdeal.nD Cert.SbInWgIdeal.τ).loc Cert.SbInWgIdeal.main_arg1)),
    θ_run_mono (Cert.SbInWgIdeal.Value.run_blocks (F := Ideal) m g) fun r h c => ⟨(h c).1.trans (Cert.SbInWgIdeal.Product.final m c), (h c).2⟩,
    θ_run_mono (Cert.SbInWgReferenceIdeal.Value.run (F := Ideal) m' g') fun r h c => ⟨(h c).1.trans ((Cert.SbInWgReferenceIdeal.Read.val_main_v8_eq _ _).trans
      (congrArg₂ (Cert.SbInWgReferenceIdeal.Read.val_main_v8 (F := Ideal)) (hagree c).1 (hagree c).2)), (h c).2⟩⟩

/-- The product with the deltanet's first weight: the reference's frame. -/
theorem frame_DnIn : Cert.quiescent_DnInReferenceIdeal := fun m ρ _ =>
  θ_run_mono (Cert.DnInReferenceIdeal.Value.run (F := Ideal) m ρ) fun r h => ⟨fun c => (h c).2, sem_eq_zero_of_no_sems (by decide) r.2⟩

/-- The product with the deltanet's first weight: the same array from the idealized kernel and from the reference. -/
theorem same_DnIn : Cert.algebraic_DnInIdeal_DnInReferenceIdeal (hDnInIdeal := Cert.DnInIdeal.Gen.facts) (hDnInReferenceIdeal := Cert.DnInReferenceIdeal.Gen.facts) := by
  intro m g m' g' hm hagree
  refine ⟨fun c => Cert.DnInReferenceIdeal.Read.val_main_v3 (F := Ideal) (m ((c.tc : Thread Cert.DnInIdeal.nD Cert.DnInIdeal.τ).loc Cert.DnInIdeal.main_arg0)) (m ((c.tc : Thread Cert.DnInIdeal.nD Cert.DnInIdeal.τ).loc Cert.DnInIdeal.main_arg1)),
    θ_run_mono (Cert.DnInIdeal.Value.run_blocks (F := Ideal) m g) fun r h c => ⟨(h c).1.trans (Cert.DnInIdeal.Product.final m c), (h c).2⟩,
    θ_run_mono (Cert.DnInReferenceIdeal.Value.run (F := Ideal) m' g') fun r h c => ⟨(h c).1.trans ((Cert.DnInReferenceIdeal.Read.val_main_v3_eq _ _).trans
      (congrArg₂ (Cert.DnInReferenceIdeal.Read.val_main_v3 (F := Ideal)) (hagree c).1 (hagree c).2)), (h c).2⟩⟩

/-- The gradient of the deltanet's input: the reference's frame. -/
theorem frame_DnInBwd : Cert.quiescent_DnInBwdReferenceIdeal := fun m ρ _ =>
  θ_run_mono (Cert.DnInBwdReferenceIdeal.Value.run (F := Ideal) m ρ) fun r h => ⟨fun c => (h c).2, sem_eq_zero_of_no_sems (by decide) r.2⟩

/-- The gradient of the deltanet's input: the same array from the idealized kernel and from the reference. -/
theorem same_DnInBwd : Cert.algebraic_DnInBwdIdeal_DnInBwdReferenceIdeal (hDnInBwdIdeal := Cert.DnInBwdIdeal.Gen.facts) (hDnInBwdReferenceIdeal := Cert.DnInBwdReferenceIdeal.Gen.facts) := by
  intro m g m' g' hm hagree
  refine ⟨fun c => Cert.DnInBwdReferenceIdeal.Read.val_main_v5 (F := Ideal) (m ((c.tc : Thread Cert.DnInBwdIdeal.nD Cert.DnInBwdIdeal.τ).loc Cert.DnInBwdIdeal.main_arg0)) (m ((c.tc : Thread Cert.DnInBwdIdeal.nD Cert.DnInBwdIdeal.τ).loc Cert.DnInBwdIdeal.main_arg1)),
    θ_run_mono (Cert.DnInBwdIdeal.Value.run_blocks (F := Ideal) m g) fun r h c => ⟨(h c).1.trans (Cert.DnInBwdIdeal.Product.final m c), (h c).2⟩,
    θ_run_mono (Cert.DnInBwdReferenceIdeal.Value.run (F := Ideal) m' g') fun r h c => ⟨(h c).1.trans ((Cert.DnInBwdReferenceIdeal.Read.val_main_v5_eq _ _).trans
      (congrArg₂ (Cert.DnInBwdReferenceIdeal.Read.val_main_v5 (F := Ideal)) (hagree c).1 (hagree c).2)), (h c).2⟩⟩

/-- The gradient of the deltanet's first weight: the reference's frame. -/
theorem frame_DnInWg : Cert.quiescent_DnInWgReferenceIdeal := fun m ρ _ =>
  θ_run_mono (Cert.DnInWgReferenceIdeal.Value.run (F := Ideal) m ρ) fun r h => ⟨fun c => (h c).2, sem_eq_zero_of_no_sems (by decide) r.2⟩

/-- The gradient of the deltanet's first weight: the same array from the idealized kernel and from the reference. -/
theorem same_DnInWg : Cert.algebraic_DnInWgIdeal_DnInWgReferenceIdeal (hDnInWgIdeal := Cert.DnInWgIdeal.Gen.facts) (hDnInWgReferenceIdeal := Cert.DnInWgReferenceIdeal.Gen.facts) := by
  intro m g m' g' hm hagree
  refine ⟨fun c => Cert.DnInWgReferenceIdeal.Read.val_main_v8 (F := Ideal) (m ((c.tc : Thread Cert.DnInWgIdeal.nD Cert.DnInWgIdeal.τ).loc Cert.DnInWgIdeal.main_arg0)) (m ((c.tc : Thread Cert.DnInWgIdeal.nD Cert.DnInWgIdeal.τ).loc Cert.DnInWgIdeal.main_arg1)),
    θ_run_mono (Cert.DnInWgIdeal.Value.run_blocks (F := Ideal) m g) fun r h c => ⟨(h c).1.trans (Cert.DnInWgIdeal.Product.final m c), (h c).2⟩,
    θ_run_mono (Cert.DnInWgReferenceIdeal.Value.run (F := Ideal) m' g') fun r h c => ⟨(h c).1.trans ((Cert.DnInWgReferenceIdeal.Read.val_main_v8_eq _ _).trans
      (congrArg₂ (Cert.DnInWgReferenceIdeal.Read.val_main_v8 (F := Ideal)) (hagree c).1 (hagree c).2)), (h c).2⟩⟩

/-- The product with a mixer's second weight: the reference's frame. -/
theorem frame_MixOut : Cert.quiescent_MixOutReferenceIdeal := fun m ρ _ =>
  θ_run_mono (Cert.MixOutReferenceIdeal.Value.run (F := Ideal) m ρ) fun r h => ⟨fun c => (h c).2, sem_eq_zero_of_no_sems (by decide) r.2⟩

/-- The product with a mixer's second weight: the same array from the idealized kernel and from the reference. -/
theorem same_MixOut : Cert.algebraic_MixOutIdeal_MixOutReferenceIdeal (hMixOutIdeal := Cert.MixOutIdeal.Gen.facts) (hMixOutReferenceIdeal := Cert.MixOutReferenceIdeal.Gen.facts) := by
  intro m g m' g' hm hagree
  refine ⟨fun c => Cert.MixOutReferenceIdeal.Read.val_main_v2 (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)),
    θ_run_mono (Cert.MixOutIdeal.Value.run_blocks (F := Ideal) m g) fun r h c => ⟨(h c).1.trans (Cert.MixOutIdeal.Product.final m c), (h c).2⟩,
    θ_run_mono (Cert.MixOutReferenceIdeal.Value.run (F := Ideal) m' g') fun r h c => ⟨(h c).1.trans ((Cert.MixOutReferenceIdeal.Read.val_main_v2_eq _ _).trans
      (congrArg₂ (Cert.MixOutReferenceIdeal.Read.val_main_v2 (F := Ideal)) (hagree c).1 (hagree c).2)), (h c).2⟩⟩

/-- The gradient of the softmax mixer's gated output: the reference's frame. -/
theorem frame_SbOutBwd : Cert.quiescent_SbOutBwdReferenceIdeal := fun m ρ _ =>
  θ_run_mono (Cert.SbOutBwdReferenceIdeal.Value.run (F := Ideal) m ρ) fun r h => ⟨fun c => (h c).2, sem_eq_zero_of_no_sems (by decide) r.2⟩

/-- The gradient of the softmax mixer's gated output: the same array from the idealized kernel and from the reference. -/
theorem same_SbOutBwd : Cert.algebraic_SbOutBwdIdeal_SbOutBwdReferenceIdeal (hSbOutBwdIdeal := Cert.SbOutBwdIdeal.Gen.facts) (hSbOutBwdReferenceIdeal := Cert.SbOutBwdReferenceIdeal.Gen.facts) := by
  intro m g m' g' hm hagree
  refine ⟨fun c => Cert.SbOutBwdReferenceIdeal.Read.val_main_v5 (F := Ideal) (m ((c.tc : Thread Cert.SbOutBwdIdeal.nD Cert.SbOutBwdIdeal.τ).loc Cert.SbOutBwdIdeal.main_arg0)) (m ((c.tc : Thread Cert.SbOutBwdIdeal.nD Cert.SbOutBwdIdeal.τ).loc Cert.SbOutBwdIdeal.main_arg1)),
    θ_run_mono (Cert.SbOutBwdIdeal.Value.run_blocks (F := Ideal) m g) fun r h c => ⟨(h c).1.trans (Cert.SbOutBwdIdeal.Product.final m c), (h c).2⟩,
    θ_run_mono (Cert.SbOutBwdReferenceIdeal.Value.run (F := Ideal) m' g') fun r h c => ⟨(h c).1.trans ((Cert.SbOutBwdReferenceIdeal.Read.val_main_v5_eq _ _).trans
      (congrArg₂ (Cert.SbOutBwdReferenceIdeal.Read.val_main_v5 (F := Ideal)) (hagree c).1 (hagree c).2)), (h c).2⟩⟩

/-- The gradient of the deltanet's gated output: the reference's frame. -/
theorem frame_DnOutBwd : Cert.quiescent_DnOutBwdReferenceIdeal := fun m ρ _ =>
  θ_run_mono (Cert.DnOutBwdReferenceIdeal.Value.run (F := Ideal) m ρ) fun r h => ⟨fun c => (h c).2, sem_eq_zero_of_no_sems (by decide) r.2⟩

/-- The gradient of the deltanet's gated output: the same array from the idealized kernel and from the reference. -/
theorem same_DnOutBwd : Cert.algebraic_DnOutBwdIdeal_DnOutBwdReferenceIdeal (hDnOutBwdIdeal := Cert.DnOutBwdIdeal.Gen.facts) (hDnOutBwdReferenceIdeal := Cert.DnOutBwdReferenceIdeal.Gen.facts) := by
  intro m g m' g' hm hagree
  refine ⟨fun c => Cert.DnOutBwdReferenceIdeal.Read.val_main_v4 (F := Ideal) (m ((c.tc : Thread Cert.DnOutBwdIdeal.nD Cert.DnOutBwdIdeal.τ).loc Cert.DnOutBwdIdeal.main_arg0)) (m ((c.tc : Thread Cert.DnOutBwdIdeal.nD Cert.DnOutBwdIdeal.τ).loc Cert.DnOutBwdIdeal.main_arg1)),
    θ_run_mono (Cert.DnOutBwdIdeal.Value.run_blocks (F := Ideal) m g) fun r h c => ⟨(h c).1.trans (Cert.DnOutBwdIdeal.Product.final m c), (h c).2⟩,
    θ_run_mono (Cert.DnOutBwdReferenceIdeal.Value.run (F := Ideal) m' g') fun r h c => ⟨(h c).1.trans ((Cert.DnOutBwdReferenceIdeal.Read.val_main_v4_eq _ _).trans
      (congrArg₂ (Cert.DnOutBwdReferenceIdeal.Read.val_main_v4 (F := Ideal)) (hagree c).1 (hagree c).2)), (h c).2⟩⟩

/-- The gradient of a mixer's second weight: the reference's frame. -/
theorem frame_MixOutWg : Cert.quiescent_MixOutWgReferenceIdeal := fun m ρ _ =>
  θ_run_mono (Cert.MixOutWgReferenceIdeal.Value.run (F := Ideal) m ρ) fun r h => ⟨fun c => (h c).2, sem_eq_zero_of_no_sems (by decide) r.2⟩

/-- The gradient of a mixer's second weight: the same array from the idealized kernel and from the reference. -/
theorem same_MixOutWg : Cert.algebraic_MixOutWgIdeal_MixOutWgReferenceIdeal (hMixOutWgIdeal := Cert.MixOutWgIdeal.Gen.facts) (hMixOutWgReferenceIdeal := Cert.MixOutWgReferenceIdeal.Gen.facts) := by
  intro m g m' g' hm hagree
  refine ⟨fun c => Cert.MixOutWgReferenceIdeal.Read.val_main_v6 (F := Ideal) (m ((c.tc : Thread Cert.MixOutWgIdeal.nD Cert.MixOutWgIdeal.τ).loc Cert.MixOutWgIdeal.main_arg0)) (m ((c.tc : Thread Cert.MixOutWgIdeal.nD Cert.MixOutWgIdeal.τ).loc Cert.MixOutWgIdeal.main_arg1)),
    θ_run_mono (Cert.MixOutWgIdeal.Value.run_blocks (F := Ideal) m g) fun r h c => ⟨(h c).1.trans (Cert.MixOutWgIdeal.Product.final m c), (h c).2⟩,
    θ_run_mono (Cert.MixOutWgReferenceIdeal.Value.run (F := Ideal) m' g') fun r h c => ⟨(h c).1.trans ((Cert.MixOutWgReferenceIdeal.Read.val_main_v6_eq _ _).trans
      (congrArg₂ (Cert.MixOutWgReferenceIdeal.Read.val_main_v6 (F := Ideal)) (hagree c).1 (hagree c).2)), (h c).2⟩⟩

/-- The gradient of the adaLN weights: the reference's frame. -/
theorem frame_AdaBwd : Cert.quiescent_AdaBwdReferenceIdeal := fun m ρ _ =>
  θ_run_mono (Cert.AdaBwdReferenceIdeal.Value.run (F := Ideal) m ρ) fun r h => ⟨fun c => (h c).2, sem_eq_zero_of_no_sems (by decide) r.2⟩

/-- The gradient of the adaLN weights: the same results from the idealized kernel and from the reference. -/
theorem same_AdaBwd : Cert.algebraic_AdaBwdIdeal_AdaBwdReferenceIdeal (hAdaBwdIdeal := Cert.AdaBwdIdeal.Gen.facts) (hAdaBwdReferenceIdeal := Cert.AdaBwdReferenceIdeal.Gen.facts) := by
  intro m g m' g' hm hagree
  exact ⟨fun c => Cert.AdaBwdReferenceIdeal.Read.val_main_v6 (F := Ideal) (m ((c.tc : Thread Cert.AdaBwdIdeal.nD Cert.AdaBwdIdeal.τ).loc Cert.AdaBwdIdeal.main_arg0)) (m ((c.tc : Thread Cert.AdaBwdIdeal.nD Cert.AdaBwdIdeal.τ).loc Cert.AdaBwdIdeal.main_arg1)),
    θ_run_mono (Cert.AdaBwdIdeal.Value.run_blocks (F := Ideal) m g) fun r h c => ⟨(h c).1.trans (Cert.AdaBwdIdeal.Product.final m c), (h c).2⟩,
    θ_run_mono (Cert.AdaBwdReferenceIdeal.Value.run (F := Ideal) m' g') fun r h c => ⟨(h c).1.trans ((Cert.AdaBwdReferenceIdeal.Read.val_main_v6_eq _ _).trans (congrArg₂ (Cert.AdaBwdReferenceIdeal.Read.val_main_v6 (F := Ideal)) (hagree c).1 (hagree c).2)), (h c).2⟩⟩

/-- The adaLN projection: the reference's frame. -/
theorem frame_Ada : Cert.quiescent_AdaReferenceIdeal := fun m ρ _ =>
  θ_run_mono (Cert.AdaReferenceIdeal.Value.run (F := Ideal) m ρ) fun r h => ⟨fun c => (h c).2, sem_eq_zero_of_no_sems (by decide) r.2⟩

/-- The adaLN projection: the same results from the idealized kernel and from the reference. -/
theorem same_Ada : Cert.algebraic_AdaIdeal_AdaReferenceIdeal (hAdaIdeal := Cert.AdaIdeal.Gen.facts) (hAdaReferenceIdeal := Cert.AdaReferenceIdeal.Gen.facts) := by
  intro m g m' g' hm hagree
  exact ⟨fun c => Cert.AdaReferenceIdeal.Read.val_main_v4 (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)),
    θ_run_mono (Cert.AdaIdeal.Value.run_blocks (F := Ideal) m g) fun r h c => ⟨(h c).1.trans (Cert.AdaIdeal.Product.final m c), (h c).2⟩,
    θ_run_mono (Cert.AdaReferenceIdeal.Value.run (F := Ideal) m' g') fun r h c => ⟨(h c).1.trans ((Cert.AdaReferenceIdeal.Read.val_main_v4_eq _ _ _).trans (congr (congrArg₂ (Cert.AdaReferenceIdeal.Read.val_main_v4 (F := Ideal)) (hagree c).1 (hagree c).2.1) (hagree c).2.2)), (h c).2⟩⟩

/-- The modulated norm: the reference's frame. -/
theorem frame_Norm : Cert.quiescent_NormReferenceIdeal := fun m ρ _ =>
  θ_run_mono (Cert.NormReferenceIdeal.Value.run (F := Ideal) m ρ) fun r h => ⟨fun c => (h c).2, sem_eq_zero_of_no_sems (by decide) r.2⟩

/-- The modulated norm: the same results from the idealized kernel and from the reference. -/
theorem same_Norm : Cert.algebraic_NormIdeal_NormReferenceIdeal (hNormIdeal := Cert.NormIdeal.Gen.facts) (hNormReferenceIdeal := Cert.NormReferenceIdeal.Gen.facts) := by
  intro m g m' g' hm hagree
  exact ⟨fun c => Cert.NormReferenceIdeal.Read.val_main_v18 (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)),
    θ_run_mono (Cert.NormIdeal.Value.run_blocks (F := Ideal) m g) fun r h c => ⟨(h c).1.trans (Cert.NormIdeal.Norm.final m c), (h c).2⟩,
    θ_run_mono (Cert.NormReferenceIdeal.Value.run (F := Ideal) m' g') fun r h c => ⟨(h c).1.trans ((Cert.NormReferenceIdeal.Read.val_main_v18_eq _ _ _ _).trans (congr (congr (congrArg₂ (Cert.NormReferenceIdeal.Read.val_main_v18 (F := Ideal)) (hagree c).1 (hagree c).2.1) (hagree c).2.2.1) (hagree c).2.2.2)), (h c).2⟩⟩

/-- The gated residual: the reference's frame. -/
theorem frame_Gate : Cert.quiescent_GateReferenceIdeal := fun m ρ _ =>
  θ_run_mono (Cert.GateReferenceIdeal.Value.run (F := Ideal) m ρ) fun r h => ⟨fun c => (h c).2, sem_eq_zero_of_no_sems (by decide) r.2⟩

/-- The gated residual: the same results from the idealized kernel and from the reference. -/
theorem same_Gate : Cert.algebraic_GateIdeal_GateReferenceIdeal (hGateIdeal := Cert.GateIdeal.Gen.facts) (hGateReferenceIdeal := Cert.GateReferenceIdeal.Gen.facts) := by
  intro m g m' g' hm hagree
  exact ⟨fun c => Cert.GateReferenceIdeal.Read.val_main_v2 (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)),
    θ_run_mono (Cert.GateIdeal.Value.run_blocks (F := Ideal) m g) fun r h c => ⟨(h c).1.trans (Cert.GateIdeal.Residual.final m c), (h c).2⟩,
    θ_run_mono (Cert.GateReferenceIdeal.Value.run (F := Ideal) m' g') fun r h c => ⟨(h c).1.trans ((Cert.GateReferenceIdeal.Read.val_main_v2_eq _ _ _).trans (congr (congrArg₂ (Cert.GateReferenceIdeal.Read.val_main_v2 (F := Ideal)) (hagree c).1 (hagree c).2.1) (hagree c).2.2)), (h c).2⟩⟩

/-- The gated residual and the norm after it: the reference's frame. -/
theorem frame_GateNorm : Cert.quiescent_GateNormReferenceIdeal := fun m ρ _ =>
  θ_run_mono (Cert.GateNormReferenceIdeal.Value.run (F := Ideal) m ρ) fun r h => ⟨fun c => (h c).2.2, sem_eq_zero_of_no_sems (by decide) r.2⟩

/-- The gated residual and the norm after it: the same results from the idealized kernel and from the reference. -/
theorem same_GateNorm : Cert.algebraic_GateNormIdeal_GateNormReferenceIdeal (hGateNormIdeal := Cert.GateNormIdeal.Gen.facts) (hGateNormReferenceIdeal := Cert.GateNormReferenceIdeal.Gen.facts) := by
  intro m g m' g' hm hagree
  exact ⟨fun c => Cert.GateNormReferenceIdeal.Read.val_main_v2 (F := Ideal) (m ((c.tc : Thread Cert.GateNormIdeal.nD Cert.GateNormIdeal.τ).loc Cert.GateNormIdeal.main_arg0)) (m ((c.tc : Thread Cert.GateNormIdeal.nD Cert.GateNormIdeal.τ).loc Cert.GateNormIdeal.main_arg1)) (m ((c.tc : Thread Cert.GateNormIdeal.nD Cert.GateNormIdeal.τ).loc Cert.GateNormIdeal.main_arg2)),
    fun c => Cert.GateNormReferenceIdeal.Read.val_main_v21 (F := Ideal) (m ((c.tc : Thread Cert.GateNormIdeal.nD Cert.GateNormIdeal.τ).loc Cert.GateNormIdeal.main_arg0)) (m ((c.tc : Thread Cert.GateNormIdeal.nD Cert.GateNormIdeal.τ).loc Cert.GateNormIdeal.main_arg1)) (m ((c.tc : Thread Cert.GateNormIdeal.nD Cert.GateNormIdeal.τ).loc Cert.GateNormIdeal.main_arg2)) (m ((c.tc : Thread Cert.GateNormIdeal.nD Cert.GateNormIdeal.τ).loc Cert.GateNormIdeal.main_arg3)) (m ((c.tc : Thread Cert.GateNormIdeal.nD Cert.GateNormIdeal.τ).loc Cert.GateNormIdeal.main_arg4)) (m ((c.tc : Thread Cert.GateNormIdeal.nD Cert.GateNormIdeal.τ).loc Cert.GateNormIdeal.main_arg5)),
    θ_run_mono (Cert.GateNormIdeal.Value.run_blocks (F := Ideal) m g) fun r h c => ⟨(h c).1.trans (Cert.GateNormIdeal.Norm.final_x m c), (h c).2.1.trans (Cert.GateNormIdeal.Norm.final_h m c), (h c).2.2⟩,
    θ_run_mono (Cert.GateNormReferenceIdeal.Value.run (F := Ideal) m' g') fun r h c => ⟨(h c).1.trans ((Cert.GateNormReferenceIdeal.Read.val_main_v2_eq _ _ _).trans (congr (congrArg₂ (Cert.GateNormReferenceIdeal.Read.val_main_v2 (F := Ideal)) (hagree c).1 (hagree c).2.1) (hagree c).2.2.1)),
      (h c).2.1.trans ((Cert.GateNormReferenceIdeal.Read.val_main_v21_eq _ _ _ _ _ _).trans (congr (congr (congr (congr (congrArg₂ (Cert.GateNormReferenceIdeal.Read.val_main_v21 (F := Ideal)) (hagree c).1 (hagree c).2.1) (hagree c).2.2.1) (hagree c).2.2.2.1) (hagree c).2.2.2.2.1) (hagree c).2.2.2.2.2)), (h c).2.2⟩⟩

/-- The loss head: the reference's frame. -/
theorem frame_Loss : Cert.quiescent_LossReferenceIdeal := fun m ρ _ =>
  θ_run_mono (Cert.LossReferenceIdeal.Value.run (F := Ideal) m ρ) fun r h => ⟨fun c => (h c).2.2, sem_eq_zero_of_no_sems (by decide) r.2⟩

/-- The loss head: the same results from the idealized kernel and from the reference. -/
theorem same_Loss : Cert.algebraic_LossIdeal_LossReferenceIdeal (hLossIdeal := Cert.LossIdeal.Gen.facts) (hLossReferenceIdeal := Cert.LossReferenceIdeal.Gen.facts) := by
  intro m g m' g' hm hagree
  exact ⟨fun c => Cert.LossReferenceIdeal.Read.val_main_v14 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)),
    fun c => Cert.LossReferenceIdeal.Read.val_main_v18 (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)),
    θ_run_mono (Cert.LossIdeal.Value.run_blocks (F := Ideal) m g) fun r h c => ⟨(h c).1.trans (Cert.LossIdeal.Loss.final_y m c), (h c).2.1.trans (Cert.LossIdeal.Loss.final_s m c), (h c).2.2⟩,
    θ_run_mono (Cert.LossReferenceIdeal.Value.run (F := Ideal) m' g') fun r h c => ⟨(h c).1.trans ((Cert.LossReferenceIdeal.Read.val_main_v14_eq _ _).trans (congrArg₂ (Cert.LossReferenceIdeal.Read.val_main_v14 (F := Ideal)) (hagree c).1 (hagree c).2)),
      (h c).2.1.trans ((Cert.LossReferenceIdeal.Read.val_main_v18_eq _ _).trans (congrArg₂ (Cert.LossReferenceIdeal.Read.val_main_v18 (F := Ideal)) (hagree c).1 (hagree c).2)), (h c).2.2⟩⟩

/-- `AdamOut`: the reference runs and keeps its arguments. -/
theorem frame_AdamOut : Cert.quiescent_AdamOutReferenceIdeal := fun m ρ _ =>
  θ_run_mono (Cert.AdamOutReferenceIdeal.Value.run (F := Ideal) m ρ) fun r h => ⟨fun c => (h c).2.2.2, sem_eq_zero_of_no_sems (by decide) r.2⟩

/-- `AdamOut`: its two constants are the named ones. -/
theorem named_AdamOut : Cert.preserves_AdamOut_AdamOutIdeal :=
  ⟨IdealRules.named_const.statement Cert.AdamOutIdeal.κ "inv_c1" .f32 0x3FC48605#32 _ rfl, IdealRules.named_const.statement Cert.AdamOutIdeal.κ "inv_c2" .f32 0x42C8E6D3#32 _ rfl⟩

open Cert.AdamOutReferenceIdeal.Read in
/-- `AdamOut`: the same results from the idealized kernel and from the reference. -/
theorem same_AdamOut : Cert.algebraic_AdamOutIdeal_AdamOutReferenceIdeal (hAdamOutIdeal := Cert.AdamOutIdeal.Gen.facts) (hAdamOutReferenceIdeal := Cert.AdamOutReferenceIdeal.Gen.facts) := by
  intro m g m' g' hm hagree
  exact ⟨_, _, _, θ_run_mono (Cert.AdamOutIdeal.Value.run_blocks (F := Ideal) m g) fun r h c =>
      ⟨(h c).1.trans (Cert.AdamOutIdeal.Adam.final m c).1, (h c).2.1.trans (Cert.AdamOutIdeal.Adam.final m c).2.1, (h c).2.2.1.trans (Cert.AdamOutIdeal.Adam.final m c).2.2, (h c).2.2.2⟩,
    θ_run_mono (Cert.AdamOutReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamAda`: the reference runs and keeps its arguments. -/
theorem frame_AdamAda : Cert.quiescent_AdamAdaReferenceIdeal := fun m ρ _ =>
  θ_run_mono (Cert.AdamAdaReferenceIdeal.Value.run (F := Ideal) m ρ) fun r h => ⟨fun c => (h c).2.2.2, sem_eq_zero_of_no_sems (by decide) r.2⟩

/-- `AdamAda`: its two constants are the named ones. -/
theorem named_AdamAda : Cert.preserves_AdamAda_AdamAdaIdeal :=
  ⟨IdealRules.named_const.statement Cert.AdamAdaIdeal.κ "inv_c1" .f32 0x3FC48605#32 _ rfl, IdealRules.named_const.statement Cert.AdamAdaIdeal.κ "inv_c2" .f32 0x42C8E6D3#32 _ rfl⟩

open Cert.AdamAdaReferenceIdeal.Read in
/-- `AdamAda`: the same results from the idealized kernel and from the reference. -/
theorem same_AdamAda : Cert.algebraic_AdamAdaIdeal_AdamAdaReferenceIdeal (hAdamAdaIdeal := Cert.AdamAdaIdeal.Gen.facts) (hAdamAdaReferenceIdeal := Cert.AdamAdaReferenceIdeal.Gen.facts) := by
  intro m g m' g' hm hagree
  exact ⟨_, _, _, θ_run_mono (Cert.AdamAdaIdeal.Value.run_blocks (F := Ideal) m g) fun r h c =>
      ⟨(h c).1.trans (Cert.AdamAdaIdeal.Adam.final m c).1, (h c).2.1.trans (Cert.AdamAdaIdeal.Adam.final m c).2.1, (h c).2.2.1.trans (Cert.AdamAdaIdeal.Adam.final m c).2.2, (h c).2.2.2⟩,
    θ_run_mono (Cert.AdamAdaReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamAdaB`: the reference runs and keeps its arguments. -/
theorem frame_AdamAdaB : Cert.quiescent_AdamAdaBReferenceIdeal := fun m ρ _ =>
  θ_run_mono (Cert.AdamAdaBReferenceIdeal.Value.run (F := Ideal) m ρ) fun r h => ⟨fun c => (h c).2.2.2, sem_eq_zero_of_no_sems (by decide) r.2⟩

/-- `AdamAdaB`: its two constants are the named ones. -/
theorem named_AdamAdaB : Cert.preserves_AdamAdaB_AdamAdaBIdeal :=
  ⟨IdealRules.named_const.statement Cert.AdamAdaBIdeal.κ "inv_c1" .f32 0x3FC48605#32 _ rfl, IdealRules.named_const.statement Cert.AdamAdaBIdeal.κ "inv_c2" .f32 0x42C8E6D3#32 _ rfl⟩

open Cert.AdamAdaBReferenceIdeal.Read in
/-- `AdamAdaB`: the same results from the idealized kernel and from the reference. -/
theorem same_AdamAdaB : Cert.algebraic_AdamAdaBIdeal_AdamAdaBReferenceIdeal (hAdamAdaBIdeal := Cert.AdamAdaBIdeal.Gen.facts) (hAdamAdaBReferenceIdeal := Cert.AdamAdaBReferenceIdeal.Gen.facts) := by
  intro m g m' g' hm hagree
  exact ⟨_, _, _, θ_run_mono (Cert.AdamAdaBIdeal.Value.run_blocks (F := Ideal) m g) fun r h c =>
      ⟨(h c).1.trans (Cert.AdamAdaBIdeal.Adam.final m c).1, (h c).2.1.trans (Cert.AdamAdaBIdeal.Adam.final m c).2.1, (h c).2.2.1.trans (Cert.AdamAdaBIdeal.Adam.final m c).2.2, (h c).2.2.2⟩,
    θ_run_mono (Cert.AdamAdaBReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamNorm`: the reference runs and keeps its arguments. -/
theorem frame_AdamNorm : Cert.quiescent_AdamNormReferenceIdeal := fun m ρ _ =>
  θ_run_mono (Cert.AdamNormReferenceIdeal.Value.run (F := Ideal) m ρ) fun r h => ⟨fun c => (h c).2.2.2, sem_eq_zero_of_no_sems (by decide) r.2⟩

/-- `AdamNorm`: its two constants are the named ones. -/
theorem named_AdamNorm : Cert.preserves_AdamNorm_AdamNormIdeal :=
  ⟨IdealRules.named_const.statement Cert.AdamNormIdeal.κ "inv_c1" .f32 0x3FC48605#32 _ rfl, IdealRules.named_const.statement Cert.AdamNormIdeal.κ "inv_c2" .f32 0x42C8E6D3#32 _ rfl⟩

open Cert.AdamNormReferenceIdeal.Read in
/-- `AdamNorm`: the same results from the idealized kernel and from the reference. -/
theorem same_AdamNorm : Cert.algebraic_AdamNormIdeal_AdamNormReferenceIdeal (hAdamNormIdeal := Cert.AdamNormIdeal.Gen.facts) (hAdamNormReferenceIdeal := Cert.AdamNormReferenceIdeal.Gen.facts) := by
  intro m g m' g' hm hagree
  exact ⟨_, _, _, θ_run_mono (Cert.AdamNormIdeal.Value.run_blocks (F := Ideal) m g) fun r h c =>
      ⟨(h c).1.trans (Cert.AdamNormIdeal.Adam.final m c).1, (h c).2.1.trans (Cert.AdamNormIdeal.Adam.final m c).2.1, (h c).2.2.1.trans (Cert.AdamNormIdeal.Adam.final m c).2.2, (h c).2.2.2⟩,
    θ_run_mono (Cert.AdamNormReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamDnIn`: the reference runs and keeps its arguments. -/
theorem frame_AdamDnIn : Cert.quiescent_AdamDnInReferenceIdeal := fun m ρ _ =>
  θ_run_mono (Cert.AdamDnInReferenceIdeal.Value.run (F := Ideal) m ρ) fun r h => ⟨fun c => (h c).2.2.2, sem_eq_zero_of_no_sems (by decide) r.2⟩

/-- `AdamDnIn`: its two constants are the named ones. -/
theorem named_AdamDnIn : Cert.preserves_AdamDnIn_AdamDnInIdeal :=
  ⟨IdealRules.named_const.statement Cert.AdamDnInIdeal.κ "inv_c1" .f32 0x3FC48605#32 _ rfl, IdealRules.named_const.statement Cert.AdamDnInIdeal.κ "inv_c2" .f32 0x42C8E6D3#32 _ rfl⟩

open Cert.AdamDnInReferenceIdeal.Read in
/-- `AdamDnIn`: the same results from the idealized kernel and from the reference. -/
theorem same_AdamDnIn : Cert.algebraic_AdamDnInIdeal_AdamDnInReferenceIdeal (hAdamDnInIdeal := Cert.AdamDnInIdeal.Gen.facts) (hAdamDnInReferenceIdeal := Cert.AdamDnInReferenceIdeal.Gen.facts) := by
  intro m g m' g' hm hagree
  exact ⟨_, _, _, θ_run_mono (Cert.AdamDnInIdeal.Value.run_blocks (F := Ideal) m g) fun r h c =>
      ⟨(h c).1.trans (Cert.AdamDnInIdeal.Adam.final m c).1, (h c).2.1.trans (Cert.AdamDnInIdeal.Adam.final m c).2.1, (h c).2.2.1.trans (Cert.AdamDnInIdeal.Adam.final m c).2.2, (h c).2.2.2⟩,
    θ_run_mono (Cert.AdamDnInReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamConv`: the reference runs and keeps its arguments. -/
theorem frame_AdamConv : Cert.quiescent_AdamConvReferenceIdeal := fun m ρ _ =>
  θ_run_mono (Cert.AdamConvReferenceIdeal.Value.run (F := Ideal) m ρ) fun r h => ⟨fun c => (h c).2.2.2, sem_eq_zero_of_no_sems (by decide) r.2⟩

/-- `AdamConv`: its two constants are the named ones. -/
theorem named_AdamConv : Cert.preserves_AdamConv_AdamConvIdeal :=
  ⟨IdealRules.named_const.statement Cert.AdamConvIdeal.κ "inv_c1" .f32 0x3FC48605#32 _ rfl, IdealRules.named_const.statement Cert.AdamConvIdeal.κ "inv_c2" .f32 0x42C8E6D3#32 _ rfl⟩

open Cert.AdamConvReferenceIdeal.Read in
/-- `AdamConv`: the same results from the idealized kernel and from the reference. -/
theorem same_AdamConv : Cert.algebraic_AdamConvIdeal_AdamConvReferenceIdeal (hAdamConvIdeal := Cert.AdamConvIdeal.Gen.facts) (hAdamConvReferenceIdeal := Cert.AdamConvReferenceIdeal.Gen.facts) := by
  intro m g m' g' hm hagree
  exact ⟨_, _, _, θ_run_mono (Cert.AdamConvIdeal.Value.run_blocks (F := Ideal) m g) fun r h c =>
      ⟨(h c).1.trans (Cert.AdamConvIdeal.Adam.final m c).1, (h c).2.1.trans (Cert.AdamConvIdeal.Adam.final m c).2.1, (h c).2.2.1.trans (Cert.AdamConvIdeal.Adam.final m c).2.2, (h c).2.2.2⟩,
    θ_run_mono (Cert.AdamConvReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamDecay`: the reference runs and keeps its arguments. -/
theorem frame_AdamDecay : Cert.quiescent_AdamDecayReferenceIdeal := fun m ρ _ =>
  θ_run_mono (Cert.AdamDecayReferenceIdeal.Value.run (F := Ideal) m ρ) fun r h => ⟨fun c => (h c).2.2.2, sem_eq_zero_of_no_sems (by decide) r.2⟩

/-- `AdamDecay`: its two constants are the named ones. -/
theorem named_AdamDecay : Cert.preserves_AdamDecay_AdamDecayIdeal :=
  ⟨IdealRules.named_const.statement Cert.AdamDecayIdeal.κ "inv_c1" .f32 0x3FC48605#32 _ rfl, IdealRules.named_const.statement Cert.AdamDecayIdeal.κ "inv_c2" .f32 0x42C8E6D3#32 _ rfl⟩

open Cert.AdamDecayReferenceIdeal.Read in
/-- `AdamDecay`: the same results from the idealized kernel and from the reference. -/
theorem same_AdamDecay : Cert.algebraic_AdamDecayIdeal_AdamDecayReferenceIdeal (hAdamDecayIdeal := Cert.AdamDecayIdeal.Gen.facts) (hAdamDecayReferenceIdeal := Cert.AdamDecayReferenceIdeal.Gen.facts) := by
  intro m g m' g' hm hagree
  exact ⟨_, _, _, θ_run_mono (Cert.AdamDecayIdeal.Value.run_blocks (F := Ideal) m g) fun r h c =>
      ⟨(h c).1.trans (Cert.AdamDecayIdeal.Adam.final m c).1, (h c).2.1.trans (Cert.AdamDecayIdeal.Adam.final m c).2.1, (h c).2.2.1.trans (Cert.AdamDecayIdeal.Adam.final m c).2.2, (h c).2.2.2⟩,
    θ_run_mono (Cert.AdamDecayReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamDnNorm`: the reference runs and keeps its arguments. -/
theorem frame_AdamDnNorm : Cert.quiescent_AdamDnNormReferenceIdeal := fun m ρ _ =>
  θ_run_mono (Cert.AdamDnNormReferenceIdeal.Value.run (F := Ideal) m ρ) fun r h => ⟨fun c => (h c).2.2.2, sem_eq_zero_of_no_sems (by decide) r.2⟩

/-- `AdamDnNorm`: its two constants are the named ones. -/
theorem named_AdamDnNorm : Cert.preserves_AdamDnNorm_AdamDnNormIdeal :=
  ⟨IdealRules.named_const.statement Cert.AdamDnNormIdeal.κ "inv_c1" .f32 0x3FC48605#32 _ rfl, IdealRules.named_const.statement Cert.AdamDnNormIdeal.κ "inv_c2" .f32 0x42C8E6D3#32 _ rfl⟩

open Cert.AdamDnNormReferenceIdeal.Read in
/-- `AdamDnNorm`: the same results from the idealized kernel and from the reference. -/
theorem same_AdamDnNorm : Cert.algebraic_AdamDnNormIdeal_AdamDnNormReferenceIdeal (hAdamDnNormIdeal := Cert.AdamDnNormIdeal.Gen.facts) (hAdamDnNormReferenceIdeal := Cert.AdamDnNormReferenceIdeal.Gen.facts) := by
  intro m g m' g' hm hagree
  exact ⟨_, _, _, θ_run_mono (Cert.AdamDnNormIdeal.Value.run_blocks (F := Ideal) m g) fun r h c =>
      ⟨(h c).1.trans (Cert.AdamDnNormIdeal.Adam.final m c).1, (h c).2.1.trans (Cert.AdamDnNormIdeal.Adam.final m c).2.1, (h c).2.2.1.trans (Cert.AdamDnNormIdeal.Adam.final m c).2.2, (h c).2.2.2⟩,
    θ_run_mono (Cert.AdamDnNormReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamSbIn`: the reference runs and keeps its arguments. -/
theorem frame_AdamSbIn : Cert.quiescent_AdamSbInReferenceIdeal := fun m ρ _ =>
  θ_run_mono (Cert.AdamSbInReferenceIdeal.Value.run (F := Ideal) m ρ) fun r h => ⟨fun c => (h c).2.2.2, sem_eq_zero_of_no_sems (by decide) r.2⟩

/-- `AdamSbIn`: its two constants are the named ones. -/
theorem named_AdamSbIn : Cert.preserves_AdamSbIn_AdamSbInIdeal :=
  ⟨IdealRules.named_const.statement Cert.AdamSbInIdeal.κ "inv_c1" .f32 0x3FC48605#32 _ rfl, IdealRules.named_const.statement Cert.AdamSbInIdeal.κ "inv_c2" .f32 0x42C8E6D3#32 _ rfl⟩

open Cert.AdamSbInReferenceIdeal.Read in
/-- `AdamSbIn`: the same results from the idealized kernel and from the reference. -/
theorem same_AdamSbIn : Cert.algebraic_AdamSbInIdeal_AdamSbInReferenceIdeal (hAdamSbInIdeal := Cert.AdamSbInIdeal.Gen.facts) (hAdamSbInReferenceIdeal := Cert.AdamSbInReferenceIdeal.Gen.facts) := by
  intro m g m' g' hm hagree
  exact ⟨_, _, _, θ_run_mono (Cert.AdamSbInIdeal.Value.run_blocks (F := Ideal) m g) fun r h c =>
      ⟨(h c).1.trans (Cert.AdamSbInIdeal.Adam.final m c).1, (h c).2.1.trans (Cert.AdamSbInIdeal.Adam.final m c).2.1, (h c).2.2.1.trans (Cert.AdamSbInIdeal.Adam.final m c).2.2, (h c).2.2.2⟩,
    θ_run_mono (Cert.AdamSbInReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamHead`: the reference runs and keeps its arguments. -/
theorem frame_AdamHead : Cert.quiescent_AdamHeadReferenceIdeal := fun m ρ _ =>
  θ_run_mono (Cert.AdamHeadReferenceIdeal.Value.run (F := Ideal) m ρ) fun r h => ⟨fun c => (h c).2.2.2, sem_eq_zero_of_no_sems (by decide) r.2⟩

/-- `AdamHead`: its two constants are the named ones. -/
theorem named_AdamHead : Cert.preserves_AdamHead_AdamHeadIdeal :=
  ⟨IdealRules.named_const.statement Cert.AdamHeadIdeal.κ "inv_c1" .f32 0x3FC48605#32 _ rfl, IdealRules.named_const.statement Cert.AdamHeadIdeal.κ "inv_c2" .f32 0x42C8E6D3#32 _ rfl⟩

open Cert.AdamHeadReferenceIdeal.Read in
/-- `AdamHead`: the same results from the idealized kernel and from the reference. -/
theorem same_AdamHead : Cert.algebraic_AdamHeadIdeal_AdamHeadReferenceIdeal (hAdamHeadIdeal := Cert.AdamHeadIdeal.Gen.facts) (hAdamHeadReferenceIdeal := Cert.AdamHeadReferenceIdeal.Gen.facts) := by
  intro m g m' g' hm hagree
  exact ⟨_, _, _, θ_run_mono (Cert.AdamHeadIdeal.Value.run_blocks (F := Ideal) m g) fun r h c =>
      ⟨(h c).1.trans (Cert.AdamHeadIdeal.Adam.final m c).1, (h c).2.1.trans (Cert.AdamHeadIdeal.Adam.final m c).2.1, (h c).2.2.1.trans (Cert.AdamHeadIdeal.Adam.final m c).2.2, (h c).2.2.2⟩,
    θ_run_mono (Cert.AdamHeadReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamFfnIn`: the reference runs and keeps its arguments. -/
theorem frame_AdamFfnIn : Cert.quiescent_AdamFfnInReferenceIdeal := fun m ρ _ =>
  θ_run_mono (Cert.AdamFfnInReferenceIdeal.Value.run (F := Ideal) m ρ) fun r h => ⟨fun c => (h c).2.2.2, sem_eq_zero_of_no_sems (by decide) r.2⟩

/-- `AdamFfnIn`: its two constants are the named ones. -/
theorem named_AdamFfnIn : Cert.preserves_AdamFfnIn_AdamFfnInIdeal :=
  ⟨IdealRules.named_const.statement Cert.AdamFfnInIdeal.κ "inv_c1" .f32 0x3FC48605#32 _ rfl, IdealRules.named_const.statement Cert.AdamFfnInIdeal.κ "inv_c2" .f32 0x42C8E6D3#32 _ rfl⟩

open Cert.AdamFfnInReferenceIdeal.Read in
/-- `AdamFfnIn`: the same results from the idealized kernel and from the reference. -/
theorem same_AdamFfnIn : Cert.algebraic_AdamFfnInIdeal_AdamFfnInReferenceIdeal (hAdamFfnInIdeal := Cert.AdamFfnInIdeal.Gen.facts) (hAdamFfnInReferenceIdeal := Cert.AdamFfnInReferenceIdeal.Gen.facts) := by
  intro m g m' g' hm hagree
  exact ⟨_, _, _, θ_run_mono (Cert.AdamFfnInIdeal.Value.run_blocks (F := Ideal) m g) fun r h c =>
      ⟨(h c).1.trans (Cert.AdamFfnInIdeal.Adam.final m c).1, (h c).2.1.trans (Cert.AdamFfnInIdeal.Adam.final m c).2.1, (h c).2.2.1.trans (Cert.AdamFfnInIdeal.Adam.final m c).2.2, (h c).2.2.2⟩,
    θ_run_mono (Cert.AdamFfnInReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

/-- `AdamFfnOut`: the reference runs and keeps its arguments. -/
theorem frame_AdamFfnOut : Cert.quiescent_AdamFfnOutReferenceIdeal := fun m ρ _ =>
  θ_run_mono (Cert.AdamFfnOutReferenceIdeal.Value.run (F := Ideal) m ρ) fun r h => ⟨fun c => (h c).2.2.2, sem_eq_zero_of_no_sems (by decide) r.2⟩

/-- `AdamFfnOut`: its two constants are the named ones. -/
theorem named_AdamFfnOut : Cert.preserves_AdamFfnOut_AdamFfnOutIdeal :=
  ⟨IdealRules.named_const.statement Cert.AdamFfnOutIdeal.κ "inv_c1" .f32 0x3FC48605#32 _ rfl, IdealRules.named_const.statement Cert.AdamFfnOutIdeal.κ "inv_c2" .f32 0x42C8E6D3#32 _ rfl⟩

open Cert.AdamFfnOutReferenceIdeal.Read in
/-- `AdamFfnOut`: the same results from the idealized kernel and from the reference. -/
theorem same_AdamFfnOut : Cert.algebraic_AdamFfnOutIdeal_AdamFfnOutReferenceIdeal (hAdamFfnOutIdeal := Cert.AdamFfnOutIdeal.Gen.facts) (hAdamFfnOutReferenceIdeal := Cert.AdamFfnOutReferenceIdeal.Gen.facts) := by
  intro m g m' g' hm hagree
  exact ⟨_, _, _, θ_run_mono (Cert.AdamFfnOutIdeal.Value.run_blocks (F := Ideal) m g) fun r h c =>
      ⟨(h c).1.trans (Cert.AdamFfnOutIdeal.Adam.final m c).1, (h c).2.1.trans (Cert.AdamFfnOutIdeal.Adam.final m c).2.1, (h c).2.2.1.trans (Cert.AdamFfnOutIdeal.Adam.final m c).2.2, (h c).2.2.2⟩,
    θ_run_mono (Cert.AdamFfnOutReferenceIdeal.Value.run (F := Ideal) m' g') fun r h c =>
      have ⟨h0, h1, h2, h3⟩ := hagree c
      ⟨(h c).1.trans ((val_main_v23_eq _ _ _ _).trans (congr (congr (congrArg₂ (val_main_v23 (F := Ideal)) h0 h1) h2) h3)),
        (h c).2.1.trans ((val_main_v4_eq _ _).trans (congrArg₂ (val_main_v4 (F := Ideal)) h1 h2)),
        (h c).2.2.1.trans ((val_main_v10_eq _ _).trans (congrArg₂ (val_main_v10 (F := Ideal)) h1 h3)), (h c).2.2.2⟩⟩

theorem claim : Cert.Claim := ⟨Cert.Kernel.Gen.facts, Cert.KernelIdeal.Gen.facts, Cert.ReferenceIdeal.Gen.facts,
  Cert.ActBwd.Gen.facts, Cert.ActBwdIdeal.Gen.facts, Cert.ActBwdReferenceIdeal.Gen.facts,
  Cert.OutBwd.Gen.facts, Cert.OutBwdIdeal.Gen.facts, Cert.OutBwdReferenceIdeal.Gen.facts,
  Cert.OutWg.Gen.facts, Cert.OutWgIdeal.Gen.facts, Cert.OutWgReferenceIdeal.Gen.facts,
  Cert.InBwd.Gen.facts, Cert.InBwdIdeal.Gen.facts, Cert.InBwdReferenceIdeal.Gen.facts,
  Cert.InWg.Gen.facts, Cert.InWgIdeal.Gen.facts, Cert.InWgReferenceIdeal.Gen.facts,
  Cert.In.Gen.facts, Cert.InIdeal.Gen.facts, Cert.InReferenceIdeal.Gen.facts,
  Cert.Out.Gen.facts, Cert.OutIdeal.Gen.facts, Cert.OutReferenceIdeal.Gen.facts,
  Cert.NormBwd.Gen.facts, Cert.NormBwdIdeal.Gen.facts, Cert.NormBwdReferenceIdeal.Gen.facts,
  Cert.GateBwd.Gen.facts, Cert.GateBwdIdeal.Gen.facts, Cert.GateBwdReferenceIdeal.Gen.facts,
  Cert.Act.Gen.facts, Cert.ActIdeal.Gen.facts, Cert.ActReferenceIdeal.Gen.facts,
  Cert.SbIn.Gen.facts, Cert.SbInIdeal.Gen.facts, Cert.SbInReferenceIdeal.Gen.facts,
  Cert.SbInBwd.Gen.facts, Cert.SbInBwdIdeal.Gen.facts, Cert.SbInBwdReferenceIdeal.Gen.facts,
  Cert.SbInWg.Gen.facts, Cert.SbInWgIdeal.Gen.facts, Cert.SbInWgReferenceIdeal.Gen.facts,
  Cert.DnIn.Gen.facts, Cert.DnInIdeal.Gen.facts, Cert.DnInReferenceIdeal.Gen.facts,
  Cert.DnInBwd.Gen.facts, Cert.DnInBwdIdeal.Gen.facts, Cert.DnInBwdReferenceIdeal.Gen.facts,
  Cert.DnInWg.Gen.facts, Cert.DnInWgIdeal.Gen.facts, Cert.DnInWgReferenceIdeal.Gen.facts,
  Cert.MixOut.Gen.facts, Cert.MixOutIdeal.Gen.facts, Cert.MixOutReferenceIdeal.Gen.facts,
  Cert.SbOutBwd.Gen.facts, Cert.SbOutBwdIdeal.Gen.facts, Cert.SbOutBwdReferenceIdeal.Gen.facts,
  Cert.DnOutBwd.Gen.facts, Cert.DnOutBwdIdeal.Gen.facts, Cert.DnOutBwdReferenceIdeal.Gen.facts,
  Cert.MixOutWg.Gen.facts, Cert.MixOutWgIdeal.Gen.facts, Cert.MixOutWgReferenceIdeal.Gen.facts,
  Cert.AdaBwd.Gen.facts, Cert.AdaBwdIdeal.Gen.facts, Cert.AdaBwdReferenceIdeal.Gen.facts,
  Cert.Ada.Gen.facts, Cert.AdaIdeal.Gen.facts, Cert.AdaReferenceIdeal.Gen.facts,
  Cert.Norm.Gen.facts, Cert.NormIdeal.Gen.facts, Cert.NormReferenceIdeal.Gen.facts,
  Cert.Gate.Gen.facts, Cert.GateIdeal.Gen.facts, Cert.GateReferenceIdeal.Gen.facts,
  Cert.GateNorm.Gen.facts, Cert.GateNormIdeal.Gen.facts, Cert.GateNormReferenceIdeal.Gen.facts,
  Cert.Loss.Gen.facts, Cert.LossIdeal.Gen.facts, Cert.LossReferenceIdeal.Gen.facts,
  Cert.AdamOut.Gen.facts, Cert.AdamOutIdeal.Gen.facts, Cert.AdamOutReferenceIdeal.Gen.facts,
  Cert.AdamAda.Gen.facts, Cert.AdamAdaIdeal.Gen.facts, Cert.AdamAdaReferenceIdeal.Gen.facts,
  Cert.AdamAdaB.Gen.facts, Cert.AdamAdaBIdeal.Gen.facts, Cert.AdamAdaBReferenceIdeal.Gen.facts,
  Cert.AdamNorm.Gen.facts, Cert.AdamNormIdeal.Gen.facts, Cert.AdamNormReferenceIdeal.Gen.facts,
  Cert.AdamDnIn.Gen.facts, Cert.AdamDnInIdeal.Gen.facts, Cert.AdamDnInReferenceIdeal.Gen.facts,
  Cert.AdamConv.Gen.facts, Cert.AdamConvIdeal.Gen.facts, Cert.AdamConvReferenceIdeal.Gen.facts,
  Cert.AdamDecay.Gen.facts, Cert.AdamDecayIdeal.Gen.facts, Cert.AdamDecayReferenceIdeal.Gen.facts,
  Cert.AdamDnNorm.Gen.facts, Cert.AdamDnNormIdeal.Gen.facts, Cert.AdamDnNormReferenceIdeal.Gen.facts,
  Cert.AdamSbIn.Gen.facts, Cert.AdamSbInIdeal.Gen.facts, Cert.AdamSbInReferenceIdeal.Gen.facts,
  Cert.AdamHead.Gen.facts, Cert.AdamHeadIdeal.Gen.facts, Cert.AdamHeadReferenceIdeal.Gen.facts,
  Cert.AdamFfnIn.Gen.facts, Cert.AdamFfnInIdeal.Gen.facts, Cert.AdamFfnInReferenceIdeal.Gen.facts,
  Cert.AdamFfnOut.Gen.facts, Cert.AdamFfnOutIdeal.Gen.facts, Cert.AdamFfnOutReferenceIdeal.Gen.facts,
  Cert.Stick.facts_finite, Cert.ActBwdIdeal.Gate.facts_act_finite,
  frame_k, frame_ki, fun m ρ _ => frame_ki m ρ trivial,
  frame_ri, fun m ρ _ => frame_ri m ρ trivial, fun m ρ _ => Cert.ActBwd.Gen.frame m ρ,
  fun m ρ _ => Cert.ActBwdIdeal.Gen.frame m ρ, fun m ρ _ => Cert.ActBwdIdeal.Gen.frame m ρ, frame_ActBwd,
  fun m ρ _ => frame_ActBwd m ρ trivial, fun m ρ _ => Cert.OutBwd.Gen.frame m ρ, fun m ρ _ => Cert.OutBwdIdeal.Gen.frame m ρ,
  frame_OutBwd, fun m ρ _ => Cert.OutWg.Gen.frame m ρ, fun m ρ _ => Cert.OutWgIdeal.Gen.frame m ρ,
  frame_OutWg, fun m ρ _ => Cert.InBwd.Gen.frame m ρ, fun m ρ _ => Cert.InBwdIdeal.Gen.frame m ρ,
  frame_InBwd, fun m ρ _ => Cert.InWg.Gen.frame m ρ, fun m ρ _ => Cert.InWgIdeal.Gen.frame m ρ,
  frame_InWg, fun m ρ _ => Cert.In.Gen.frame m ρ, fun m ρ _ => Cert.InIdeal.Gen.frame m ρ,
  frame_In, fun m ρ _ => Cert.Out.Gen.frame m ρ, fun m ρ _ => Cert.OutIdeal.Gen.frame m ρ,
  frame_Out,
  fun m ρ _ => Cert.NormBwd.Gen.frame m ρ, fun m ρ _ => Cert.NormBwdIdeal.Gen.frame m ρ, frame_NormBwd,
  fun m ρ _ => Cert.GateBwd.Gen.frame m ρ, fun m ρ _ => Cert.GateBwdIdeal.Gen.frame m ρ, frame_GateBwd,
  fun m ρ _ => Cert.Act.Gen.frame m ρ, fun m ρ _ => Cert.ActIdeal.Gen.frame m ρ, frame_Act,
  fun m ρ _ => Cert.SbIn.Gen.frame m ρ, fun m ρ _ => Cert.SbInIdeal.Gen.frame m ρ, frame_SbIn,
  fun m ρ _ => Cert.SbInBwd.Gen.frame m ρ, fun m ρ _ => Cert.SbInBwdIdeal.Gen.frame m ρ, frame_SbInBwd,
  fun m ρ _ => Cert.SbInWg.Gen.frame m ρ, fun m ρ _ => Cert.SbInWgIdeal.Gen.frame m ρ, frame_SbInWg,
  fun m ρ _ => Cert.DnIn.Gen.frame m ρ, fun m ρ _ => Cert.DnInIdeal.Gen.frame m ρ, frame_DnIn,
  fun m ρ _ => Cert.DnInBwd.Gen.frame m ρ, fun m ρ _ => Cert.DnInBwdIdeal.Gen.frame m ρ, frame_DnInBwd,
  fun m ρ _ => Cert.DnInWg.Gen.frame m ρ, fun m ρ _ => Cert.DnInWgIdeal.Gen.frame m ρ, frame_DnInWg,
  fun m ρ _ => Cert.MixOut.Gen.frame m ρ, fun m ρ _ => Cert.MixOutIdeal.Gen.frame m ρ, frame_MixOut,
  fun m ρ _ => Cert.SbOutBwd.Gen.frame m ρ, fun m ρ _ => Cert.SbOutBwdIdeal.Gen.frame m ρ, frame_SbOutBwd,
  fun m ρ _ => Cert.DnOutBwd.Gen.frame m ρ, fun m ρ _ => Cert.DnOutBwdIdeal.Gen.frame m ρ, frame_DnOutBwd,
  fun m ρ _ => Cert.MixOutWg.Gen.frame m ρ, fun m ρ _ => Cert.MixOutWgIdeal.Gen.frame m ρ, frame_MixOutWg,
  fun m ρ _ => Cert.AdaBwd.Gen.frame m ρ, fun m ρ _ => Cert.AdaBwdIdeal.Gen.frame m ρ, frame_AdaBwd,
  fun m ρ _ => Cert.Ada.Gen.frame m ρ, fun m ρ _ => Cert.AdaIdeal.Gen.frame m ρ, frame_Ada,
  fun m ρ _ => Cert.Norm.Gen.frame m ρ, fun m ρ _ => Cert.NormIdeal.Gen.frame m ρ, frame_Norm,
  fun m ρ _ => Cert.Gate.Gen.frame m ρ, fun m ρ _ => Cert.GateIdeal.Gen.frame m ρ, frame_Gate,
  fun m ρ _ => Cert.GateNorm.Gen.frame m ρ, fun m ρ _ => Cert.GateNormIdeal.Gen.frame m ρ, frame_GateNorm,
  fun m ρ _ => Cert.Loss.Gen.frame m ρ, fun m ρ _ => Cert.LossIdeal.Gen.frame m ρ, frame_Loss,
  fun m ρ _ => Cert.AdamOut.Gen.frame m ρ, fun m ρ _ => Cert.AdamOutIdeal.Gen.frame m ρ, frame_AdamOut,
  fun m ρ _ => Cert.AdamAda.Gen.frame m ρ, fun m ρ _ => Cert.AdamAdaIdeal.Gen.frame m ρ, frame_AdamAda,
  fun m ρ _ => Cert.AdamAdaB.Gen.frame m ρ, fun m ρ _ => Cert.AdamAdaBIdeal.Gen.frame m ρ, frame_AdamAdaB,
  fun m ρ _ => Cert.AdamNorm.Gen.frame m ρ, fun m ρ _ => Cert.AdamNormIdeal.Gen.frame m ρ, frame_AdamNorm,
  fun m ρ _ => Cert.AdamDnIn.Gen.frame m ρ, fun m ρ _ => Cert.AdamDnInIdeal.Gen.frame m ρ, frame_AdamDnIn,
  fun m ρ _ => Cert.AdamConv.Gen.frame m ρ, fun m ρ _ => Cert.AdamConvIdeal.Gen.frame m ρ, frame_AdamConv,
  fun m ρ _ => Cert.AdamDecay.Gen.frame m ρ, fun m ρ _ => Cert.AdamDecayIdeal.Gen.frame m ρ, frame_AdamDecay,
  fun m ρ _ => Cert.AdamDnNorm.Gen.frame m ρ, fun m ρ _ => Cert.AdamDnNormIdeal.Gen.frame m ρ, frame_AdamDnNorm,
  fun m ρ _ => Cert.AdamSbIn.Gen.frame m ρ, fun m ρ _ => Cert.AdamSbInIdeal.Gen.frame m ρ, frame_AdamSbIn,
  fun m ρ _ => Cert.AdamHead.Gen.frame m ρ, fun m ρ _ => Cert.AdamHeadIdeal.Gen.frame m ρ, frame_AdamHead,
  fun m ρ _ => Cert.AdamFfnIn.Gen.frame m ρ, fun m ρ _ => Cert.AdamFfnInIdeal.Gen.frame m ρ, frame_AdamFfnIn,
  fun m ρ _ => Cert.AdamFfnOut.Gen.frame m ρ, fun m ρ _ => Cert.AdamFfnOutIdeal.Gen.frame m ρ, frame_AdamFfnOut,
  trivial, same_results,
  trivial, same_ActBwd, trivial,
  same_OutBwd, trivial, same_OutWg,
  trivial, same_InBwd, trivial,
  same_InWg, trivial, same_In,
  trivial, same_Out, trivial,
  same_NormBwd, trivial, same_GateBwd,
  trivial, same_Act,
  trivial, same_SbIn,
  trivial, same_SbInBwd,
  trivial, same_SbInWg,
  trivial, same_DnIn,
  trivial, same_DnInBwd,
  trivial, same_DnInWg,
  trivial, same_MixOut,
  trivial, same_SbOutBwd,
  trivial, same_DnOutBwd,
  trivial, same_MixOutWg,
  trivial, same_AdaBwd,
  trivial, same_Ada,
  trivial, same_Norm,
  trivial, same_Gate,
  trivial, same_GateNorm,
  trivial, same_Loss,
  named_AdamOut, same_AdamOut,
  named_AdamAda, same_AdamAda,
  named_AdamAdaB, same_AdamAdaB,
  named_AdamNorm, same_AdamNorm,
  named_AdamDnIn, same_AdamDnIn,
  named_AdamConv, same_AdamConv,
  named_AdamDecay, same_AdamDecay,
  named_AdamDnNorm, same_AdamDnNorm,
  named_AdamSbIn, same_AdamSbIn,
  named_AdamHead, same_AdamHead,
  named_AdamFfnIn, same_AdamFfnIn,
  named_AdamFfnOut, same_AdamFfnOut⟩

end Cert.Proof

end
